-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionRefIdeal (m : (ℓ : Loc Cert.AttentionRefIdeal.nD Cert.AttentionRefIdeal.τ Cert.AttentionRefIdeal.sig) → Buf (Elt Ideal) ℓ) : Prop :=
  True

def Pre_QkvDx0 (m : (ℓ : Loc Cert.QkvDx0.nD Cert.QkvDx0.τ Cert.QkvDx0.sig) → Buf (Elt Bits) ℓ) : Prop :=
  True

def Pre_QkvDx0Ideal (m : (ℓ : Loc Cert.QkvDx0Ideal.nD Cert.QkvDx0Ideal.τ Cert.QkvDx0Ideal.sig) → Buf (Elt Ideal) ℓ) : Prop :=
  True

def Pre_QkvDx0RefIdeal (m : (ℓ : Loc Cert.QkvDx0RefIdeal.nD Cert.QkvDx0RefIdeal.τ Cert.QkvDx0RefIdeal.sig) → Buf (Elt Ideal) ℓ) : Prop :=
  True

def Pre_QkvDx1 (m : (ℓ : Loc Cert.QkvDx1.nD Cert.QkvDx1.τ Cert.QkvDx1.sig) → Buf (Elt Bits) ℓ) : Prop :=
  True

def Pre_QkvDx1Ideal (m : (ℓ : Loc Cert.QkvDx1Ideal.nD Cert.QkvDx1Ideal.τ Cert.QkvDx1Ideal.sig) → Buf (Elt Ideal) ℓ) : Prop :=
  True

def Pre_QkvDx1RefIdeal (m : (ℓ : Loc Cert.QkvDx1RefIdeal.nD Cert.QkvDx1RefIdeal.τ Cert.QkvDx1RefIdeal.sig) → Buf (Elt Ideal) ℓ) : Prop :=
  True

def Pre_QkvDx2 (m : (ℓ : Loc Cert.QkvDx2.nD Cert.QkvDx2.τ Cert.QkvDx2.sig) → Buf (Elt Bits) ℓ) : Prop :=
  True

def Pre_QkvDx2Ideal (m : (ℓ : Loc Cert.QkvDx2Ideal.nD Cert.QkvDx2Ideal.τ Cert.QkvDx2Ideal.sig) → Buf (Elt Ideal) ℓ) : Prop :=
  True

def Pre_QkvDx2RefIdeal (m : (ℓ : Loc Cert.QkvDx2RefIdeal.nD Cert.QkvDx2RefIdeal.τ Cert.QkvDx2RefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_ConvFwd1 (m : (ℓ : Loc Cert.ConvFwd1.nD Cert.ConvFwd1.τ Cert.ConvFwd1.sig) → Buf (Elt Bits) ℓ) : Prop :=
  True

def Pre_ConvFwd1Ideal (m : (ℓ : Loc Cert.ConvFwd1Ideal.nD Cert.ConvFwd1Ideal.τ Cert.ConvFwd1Ideal.sig) → Buf (Elt Ideal) ℓ) : Prop :=
  True

def Pre_ConvFwd1RefIdeal (m : (ℓ : Loc Cert.ConvFwd1RefIdeal.nD Cert.ConvFwd1RefIdeal.τ Cert.ConvFwd1RefIdeal.sig) → Buf (Elt Ideal) ℓ) : Prop :=
  True

def Pre_ParamsFwd (m : (ℓ : Loc Cert.ParamsFwd.nD Cert.ParamsFwd.τ Cert.ParamsFwd.sig) → Buf (Elt Bits) ℓ) : Prop :=
  True

def Pre_ParamsFwdIdeal (m : (ℓ : Loc Cert.ParamsFwdIdeal.nD Cert.ParamsFwdIdeal.τ Cert.ParamsFwdIdeal.sig) → Buf (Elt Ideal) ℓ) : Prop :=
  True

def Pre_ParamsFwdRefIdeal (m : (ℓ : Loc Cert.ParamsFwdRefIdeal.nD Cert.ParamsFwdRefIdeal.τ Cert.ParamsFwdRefIdeal.sig) → Buf (Elt Ideal) ℓ) : Prop :=
  True

def Pre_ParamsBwd (m : (ℓ : Loc Cert.ParamsBwd.nD Cert.ParamsBwd.τ Cert.ParamsBwd.sig) → Buf (Elt Bits) ℓ) : Prop :=
  True

def Pre_ParamsBwdIdeal (m : (ℓ : Loc Cert.ParamsBwdIdeal.nD Cert.ParamsBwdIdeal.τ Cert.ParamsBwdIdeal.sig) → Buf (Elt Ideal) ℓ) : Prop :=
  True

def Pre_ParamsBwdRefIdeal (m : (ℓ : Loc Cert.ParamsBwdRefIdeal.nD Cert.ParamsBwdRefIdeal.τ Cert.ParamsBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6)
      ∧ r.2.mem ((c.tc : Thread Cert.Attention.nD Cert.Attention.τ).loc Cert.Attention.main_arg7) = m ((c.tc : Thread Cert.Attention.nD Cert.Attention.τ).loc Cert.Attention.main_arg7)
      ∧ r.2.mem ((c.tc : Thread Cert.Attention.nD Cert.Attention.τ).loc Cert.Attention.main_arg8) = m ((c.tc : Thread Cert.Attention.nD Cert.Attention.τ).loc Cert.Attention.main_arg8)
      ∧ r.2.mem ((c.tc : Thread Cert.Attention.nD Cert.Attention.τ).loc Cert.Attention.main_arg9) = m ((c.tc : Thread Cert.Attention.nD Cert.Attention.τ).loc Cert.Attention.main_arg9)
      ∧ r.2.mem ((c.tc : Thread Cert.Attention.nD Cert.Attention.τ).loc Cert.Attention.main_arg10) = m ((c.tc : Thread Cert.Attention.nD Cert.Attention.τ).loc Cert.Attention.main_arg10))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
      ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
      ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5)
      ∧ r.2.mem ((c.tc : Thread Cert.AttentionRefIdeal.nD Cert.AttentionRefIdeal.τ).loc Cert.AttentionRefIdeal.main_arg6) = m ((c.tc : Thread Cert.AttentionRefIdeal.nD Cert.AttentionRefIdeal.τ).loc Cert.AttentionRefIdeal.main_arg6)
      ∧ r.2.mem ((c.tc : Thread Cert.AttentionRefIdeal.nD Cert.AttentionRefIdeal.τ).loc Cert.AttentionRefIdeal.main_arg7) = m ((c.tc : Thread Cert.AttentionRefIdeal.nD Cert.AttentionRefIdeal.τ).loc Cert.AttentionRefIdeal.main_arg7)
      ∧ r.2.mem ((c.tc : Thread Cert.AttentionRefIdeal.nD Cert.AttentionRefIdeal.τ).loc Cert.AttentionRefIdeal.main_arg8) = m ((c.tc : Thread Cert.AttentionRefIdeal.nD Cert.AttentionRefIdeal.τ).loc Cert.AttentionRefIdeal.main_arg8)
      ∧ r.2.mem ((c.tc : Thread Cert.AttentionRefIdeal.nD Cert.AttentionRefIdeal.τ).loc Cert.AttentionRefIdeal.main_arg9) = m ((c.tc : Thread Cert.AttentionRefIdeal.nD Cert.AttentionRefIdeal.τ).loc Cert.AttentionRefIdeal.main_arg9)
      ∧ r.2.mem ((c.tc : Thread Cert.AttentionRefIdeal.nD Cert.AttentionRefIdeal.τ).loc Cert.AttentionRefIdeal.main_arg10) = m ((c.tc : Thread Cert.AttentionRefIdeal.nD Cert.AttentionRefIdeal.τ).loc Cert.AttentionRefIdeal.main_arg10))
      ∧ r.2.sem = fun _ => 0)

def quiescent_QkvDx0 [hQkvDx0 : Cert.QkvDx0.Facts] : Prop :=
  ∀ (m : (ℓ : Loc Cert.QkvDx0.nD Cert.QkvDx0.τ Cert.QkvDx0.sig) → Buf (Elt Bits) ℓ) (g : Dev Cert.QkvDx0.nD → PrngReg), Pre_QkvDx0 m →
    θ_run (Cert.QkvDx0.defs (F := Bits)) (onTc (τ := Cert.QkvDx0.τ) (Cert.QkvDx0.main (F := Bits))) ⟨m, fun _ => 0, g⟩ (fun r => (∀ c : Dev Cert.QkvDx0.nD,
      r.2.mem ((c.tc : Thread Cert.QkvDx0.nD Cert.QkvDx0.τ).loc Cert.QkvDx0.main_arg0) = m ((c.tc : Thread Cert.QkvDx0.nD Cert.QkvDx0.τ).loc Cert.QkvDx0.main_arg0)
      ∧ r.2.mem ((c.tc : Thread Cert.QkvDx0.nD Cert.QkvDx0.τ).loc Cert.QkvDx0.main_arg1) = m ((c.tc : Thread Cert.QkvDx0.nD Cert.QkvDx0.τ).loc Cert.QkvDx0.main_arg1))
      ∧ r.2.sem = fun _ => 0)

def quiescent_QkvDx0Ideal [hQkvDx0Ideal : Cert.QkvDx0Ideal.Facts] : Prop :=
  ∀ (m : (ℓ : Loc Cert.QkvDx0Ideal.nD Cert.QkvDx0Ideal.τ Cert.QkvDx0Ideal.sig) → Buf (Elt Ideal) ℓ) (g : Dev Cert.QkvDx0Ideal.nD → PrngReg), Pre_QkvDx0Ideal m →
    θ_run (Cert.QkvDx0Ideal.defs (F := Ideal)) (onTc (τ := Cert.QkvDx0Ideal.τ) (Cert.QkvDx0Ideal.main (F := Ideal))) ⟨m, fun _ => 0, g⟩ (fun r => (∀ c : Dev Cert.QkvDx0Ideal.nD,
      r.2.mem ((c.tc : Thread Cert.QkvDx0Ideal.nD Cert.QkvDx0Ideal.τ).loc Cert.QkvDx0Ideal.main_arg0) = m ((c.tc : Thread Cert.QkvDx0Ideal.nD Cert.QkvDx0Ideal.τ).loc Cert.QkvDx0Ideal.main_arg0)
      ∧ r.2.mem ((c.tc : Thread Cert.QkvDx0Ideal.nD Cert.QkvDx0Ideal.τ).loc Cert.QkvDx0Ideal.main_arg1) = m ((c.tc : Thread Cert.QkvDx0Ideal.nD Cert.QkvDx0Ideal.τ).loc Cert.QkvDx0Ideal.main_arg1))
      ∧ r.2.sem = fun _ => 0)

def quiescent_QkvDx0RefIdeal [hQkvDx0RefIdeal : Cert.QkvDx0RefIdeal.Facts] : Prop :=
  ∀ (m : (ℓ : Loc Cert.QkvDx0RefIdeal.nD Cert.QkvDx0RefIdeal.τ Cert.QkvDx0RefIdeal.sig) → Buf (Elt Ideal) ℓ) (g : Dev Cert.QkvDx0RefIdeal.nD → PrngReg), Pre_QkvDx0RefIdeal m →
    θ_run (Cert.QkvDx0RefIdeal.defs (F := Ideal)) (onTc (τ := Cert.QkvDx0RefIdeal.τ) (Cert.QkvDx0RefIdeal.main (F := Ideal))) ⟨m, fun _ => 0, g⟩ (fun r => (∀ c : Dev Cert.QkvDx0RefIdeal.nD,
      r.2.mem ((c.tc : Thread Cert.QkvDx0RefIdeal.nD Cert.QkvDx0RefIdeal.τ).loc Cert.QkvDx0RefIdeal.main_arg0) = m ((c.tc : Thread Cert.QkvDx0RefIdeal.nD Cert.QkvDx0RefIdeal.τ).loc Cert.QkvDx0RefIdeal.main_arg0)
      ∧ r.2.mem ((c.tc : Thread Cert.QkvDx0RefIdeal.nD Cert.QkvDx0RefIdeal.τ).loc Cert.QkvDx0RefIdeal.main_arg1) = m ((c.tc : Thread Cert.QkvDx0RefIdeal.nD Cert.QkvDx0RefIdeal.τ).loc Cert.QkvDx0RefIdeal.main_arg1))
      ∧ r.2.sem = fun _ => 0)

def quiescent_QkvDx1 [hQkvDx1 : Cert.QkvDx1.Facts] : Prop :=
  ∀ (m : (ℓ : Loc Cert.QkvDx1.nD Cert.QkvDx1.τ Cert.QkvDx1.sig) → Buf (Elt Bits) ℓ) (g : Dev Cert.QkvDx1.nD → PrngReg), Pre_QkvDx1 m →
    θ_run (Cert.QkvDx1.defs (F := Bits)) (onTc (τ := Cert.QkvDx1.τ) (Cert.QkvDx1.main (F := Bits))) ⟨m, fun _ => 0, g⟩ (fun r => (∀ c : Dev Cert.QkvDx1.nD,
      r.2.mem ((c.tc : Thread Cert.QkvDx1.nD Cert.QkvDx1.τ).loc Cert.QkvDx1.main_arg0) = m ((c.tc : Thread Cert.QkvDx1.nD Cert.QkvDx1.τ).loc Cert.QkvDx1.main_arg0)
      ∧ r.2.mem ((c.tc : Thread Cert.QkvDx1.nD Cert.QkvDx1.τ).loc Cert.QkvDx1.main_arg1) = m ((c.tc : Thread Cert.QkvDx1.nD Cert.QkvDx1.τ).loc Cert.QkvDx1.main_arg1))
      ∧ r.2.sem = fun _ => 0)

def quiescent_QkvDx1Ideal [hQkvDx1Ideal : Cert.QkvDx1Ideal.Facts] : Prop :=
  ∀ (m : (ℓ : Loc Cert.QkvDx1Ideal.nD Cert.QkvDx1Ideal.τ Cert.QkvDx1Ideal.sig) → Buf (Elt Ideal) ℓ) (g : Dev Cert.QkvDx1Ideal.nD → PrngReg), Pre_QkvDx1Ideal m →
    θ_run (Cert.QkvDx1Ideal.defs (F := Ideal)) (onTc (τ := Cert.QkvDx1Ideal.τ) (Cert.QkvDx1Ideal.main (F := Ideal))) ⟨m, fun _ => 0, g⟩ (fun r => (∀ c : Dev Cert.QkvDx1Ideal.nD,
      r.2.mem ((c.tc : Thread Cert.QkvDx1Ideal.nD Cert.QkvDx1Ideal.τ).loc Cert.QkvDx1Ideal.main_arg0) = m ((c.tc : Thread Cert.QkvDx1Ideal.nD Cert.QkvDx1Ideal.τ).loc Cert.QkvDx1Ideal.main_arg0)
      ∧ r.2.mem ((c.tc : Thread Cert.QkvDx1Ideal.nD Cert.QkvDx1Ideal.τ).loc Cert.QkvDx1Ideal.main_arg1) = m ((c.tc : Thread Cert.QkvDx1Ideal.nD Cert.QkvDx1Ideal.τ).loc Cert.QkvDx1Ideal.main_arg1))
      ∧ r.2.sem = fun _ => 0)

def quiescent_QkvDx1RefIdeal [hQkvDx1RefIdeal : Cert.QkvDx1RefIdeal.Facts] : Prop :=
  ∀ (m : (ℓ : Loc Cert.QkvDx1RefIdeal.nD Cert.QkvDx1RefIdeal.τ Cert.QkvDx1RefIdeal.sig) → Buf (Elt Ideal) ℓ) (g : Dev Cert.QkvDx1RefIdeal.nD → PrngReg), Pre_QkvDx1RefIdeal m →
    θ_run (Cert.QkvDx1RefIdeal.defs (F := Ideal)) (onTc (τ := Cert.QkvDx1RefIdeal.τ) (Cert.QkvDx1RefIdeal.main (F := Ideal))) ⟨m, fun _ => 0, g⟩ (fun r => (∀ c : Dev Cert.QkvDx1RefIdeal.nD,
      r.2.mem ((c.tc : Thread Cert.QkvDx1RefIdeal.nD Cert.QkvDx1RefIdeal.τ).loc Cert.QkvDx1RefIdeal.main_arg0) = m ((c.tc : Thread Cert.QkvDx1RefIdeal.nD Cert.QkvDx1RefIdeal.τ).loc Cert.QkvDx1RefIdeal.main_arg0)
      ∧ r.2.mem ((c.tc : Thread Cert.QkvDx1RefIdeal.nD Cert.QkvDx1RefIdeal.τ).loc Cert.QkvDx1RefIdeal.main_arg1) = m ((c.tc : Thread Cert.QkvDx1RefIdeal.nD Cert.QkvDx1RefIdeal.τ).loc Cert.QkvDx1RefIdeal.main_arg1))
      ∧ r.2.sem = fun _ => 0)

def quiescent_QkvDx2 [hQkvDx2 : Cert.QkvDx2.Facts] : Prop :=
  ∀ (m : (ℓ : Loc Cert.QkvDx2.nD Cert.QkvDx2.τ Cert.QkvDx2.sig) → Buf (Elt Bits) ℓ) (g : Dev Cert.QkvDx2.nD → PrngReg), Pre_QkvDx2 m →
    θ_run (Cert.QkvDx2.defs (F := Bits)) (onTc (τ := Cert.QkvDx2.τ) (Cert.QkvDx2.main (F := Bits))) ⟨m, fun _ => 0, g⟩ (fun r => (∀ c : Dev Cert.QkvDx2.nD,
      r.2.mem ((c.tc : Thread Cert.QkvDx2.nD Cert.QkvDx2.τ).loc Cert.QkvDx2.main_arg0) = m ((c.tc : Thread Cert.QkvDx2.nD Cert.QkvDx2.τ).loc Cert.QkvDx2.main_arg0)
      ∧ r.2.mem ((c.tc : Thread Cert.QkvDx2.nD Cert.QkvDx2.τ).loc Cert.QkvDx2.main_arg1) = m ((c.tc : Thread Cert.QkvDx2.nD Cert.QkvDx2.τ).loc Cert.QkvDx2.main_arg1))
      ∧ r.2.sem = fun _ => 0)

def quiescent_QkvDx2Ideal [hQkvDx2Ideal : Cert.QkvDx2Ideal.Facts] : Prop :=
  ∀ (m : (ℓ : Loc Cert.QkvDx2Ideal.nD Cert.QkvDx2Ideal.τ Cert.QkvDx2Ideal.sig) → Buf (Elt Ideal) ℓ) (g : Dev Cert.QkvDx2Ideal.nD → PrngReg), Pre_QkvDx2Ideal m →
    θ_run (Cert.QkvDx2Ideal.defs (F := Ideal)) (onTc (τ := Cert.QkvDx2Ideal.τ) (Cert.QkvDx2Ideal.main (F := Ideal))) ⟨m, fun _ => 0, g⟩ (fun r => (∀ c : Dev Cert.QkvDx2Ideal.nD,
      r.2.mem ((c.tc : Thread Cert.QkvDx2Ideal.nD Cert.QkvDx2Ideal.τ).loc Cert.QkvDx2Ideal.main_arg0) = m ((c.tc : Thread Cert.QkvDx2Ideal.nD Cert.QkvDx2Ideal.τ).loc Cert.QkvDx2Ideal.main_arg0)
      ∧ r.2.mem ((c.tc : Thread Cert.QkvDx2Ideal.nD Cert.QkvDx2Ideal.τ).loc Cert.QkvDx2Ideal.main_arg1) = m ((c.tc : Thread Cert.QkvDx2Ideal.nD Cert.QkvDx2Ideal.τ).loc Cert.QkvDx2Ideal.main_arg1))
      ∧ r.2.sem = fun _ => 0)

def quiescent_QkvDx2RefIdeal [hQkvDx2RefIdeal : Cert.QkvDx2RefIdeal.Facts] : Prop :=
  ∀ (m : (ℓ : Loc Cert.QkvDx2RefIdeal.nD Cert.QkvDx2RefIdeal.τ Cert.QkvDx2RefIdeal.sig) → Buf (Elt Ideal) ℓ) (g : Dev Cert.QkvDx2RefIdeal.nD → PrngReg), Pre_QkvDx2RefIdeal m →
    θ_run (Cert.QkvDx2RefIdeal.defs (F := Ideal)) (onTc (τ := Cert.QkvDx2RefIdeal.τ) (Cert.QkvDx2RefIdeal.main (F := Ideal))) ⟨m, fun _ => 0, g⟩ (fun r => (∀ c : Dev Cert.QkvDx2RefIdeal.nD,
      r.2.mem ((c.tc : Thread Cert.QkvDx2RefIdeal.nD Cert.QkvDx2RefIdeal.τ).loc Cert.QkvDx2RefIdeal.main_arg0) = m ((c.tc : Thread Cert.QkvDx2RefIdeal.nD Cert.QkvDx2RefIdeal.τ).loc Cert.QkvDx2RefIdeal.main_arg0)
      ∧ r.2.mem ((c.tc : Thread Cert.QkvDx2RefIdeal.nD Cert.QkvDx2RefIdeal.τ).loc Cert.QkvDx2RefIdeal.main_arg1) = m ((c.tc : Thread Cert.QkvDx2RefIdeal.nD Cert.QkvDx2RefIdeal.τ).loc Cert.QkvDx2RefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_ConvFwd1 [hConvFwd1 : Cert.ConvFwd1.Facts] : Prop :=
  ∀ (m : (ℓ : Loc Cert.ConvFwd1.nD Cert.ConvFwd1.τ Cert.ConvFwd1.sig) → Buf (Elt Bits) ℓ) (g : Dev Cert.ConvFwd1.nD → PrngReg), Pre_ConvFwd1 m →
    θ_run (Cert.ConvFwd1.defs (F := Bits)) (onTc (τ := Cert.ConvFwd1.τ) (Cert.ConvFwd1.main (F := Bits))) ⟨m, fun _ => 0, g⟩ (fun r => (∀ c : Dev Cert.ConvFwd1.nD,
      r.2.mem ((c.tc : Thread Cert.ConvFwd1.nD Cert.ConvFwd1.τ).loc Cert.ConvFwd1.main_arg0) = m ((c.tc : Thread Cert.ConvFwd1.nD Cert.ConvFwd1.τ).loc Cert.ConvFwd1.main_arg0)
      ∧ r.2.mem ((c.tc : Thread Cert.ConvFwd1.nD Cert.ConvFwd1.τ).loc Cert.ConvFwd1.main_arg1) = m ((c.tc : Thread Cert.ConvFwd1.nD Cert.ConvFwd1.τ).loc Cert.ConvFwd1.main_arg1)
      ∧ r.2.mem ((c.tc : Thread Cert.ConvFwd1.nD Cert.ConvFwd1.τ).loc Cert.ConvFwd1.main_arg2) = m ((c.tc : Thread Cert.ConvFwd1.nD Cert.ConvFwd1.τ).loc Cert.ConvFwd1.main_arg2))
      ∧ r.2.sem = fun _ => 0)

def quiescent_ConvFwd1Ideal [hConvFwd1Ideal : Cert.ConvFwd1Ideal.Facts] : Prop :=
  ∀ (m : (ℓ : Loc Cert.ConvFwd1Ideal.nD Cert.ConvFwd1Ideal.τ Cert.ConvFwd1Ideal.sig) → Buf (Elt Ideal) ℓ) (g : Dev Cert.ConvFwd1Ideal.nD → PrngReg), Pre_ConvFwd1Ideal m →
    θ_run (Cert.ConvFwd1Ideal.defs (F := Ideal)) (onTc (τ := Cert.ConvFwd1Ideal.τ) (Cert.ConvFwd1Ideal.main (F := Ideal))) ⟨m, fun _ => 0, g⟩ (fun r => (∀ c : Dev Cert.ConvFwd1Ideal.nD,
      r.2.mem ((c.tc : Thread Cert.ConvFwd1Ideal.nD Cert.ConvFwd1Ideal.τ).loc Cert.ConvFwd1Ideal.main_arg0) = m ((c.tc : Thread Cert.ConvFwd1Ideal.nD Cert.ConvFwd1Ideal.τ).loc Cert.ConvFwd1Ideal.main_arg0)
      ∧ r.2.mem ((c.tc : Thread Cert.ConvFwd1Ideal.nD Cert.ConvFwd1Ideal.τ).loc Cert.ConvFwd1Ideal.main_arg1) = m ((c.tc : Thread Cert.ConvFwd1Ideal.nD Cert.ConvFwd1Ideal.τ).loc Cert.ConvFwd1Ideal.main_arg1)
      ∧ r.2.mem ((c.tc : Thread Cert.ConvFwd1Ideal.nD Cert.ConvFwd1Ideal.τ).loc Cert.ConvFwd1Ideal.main_arg2) = m ((c.tc : Thread Cert.ConvFwd1Ideal.nD Cert.ConvFwd1Ideal.τ).loc Cert.ConvFwd1Ideal.main_arg2))
      ∧ r.2.sem = fun _ => 0)

def quiescent_ConvFwd1RefIdeal [hConvFwd1RefIdeal : Cert.ConvFwd1RefIdeal.Facts] : Prop :=
  ∀ (m : (ℓ : Loc Cert.ConvFwd1RefIdeal.nD Cert.ConvFwd1RefIdeal.τ Cert.ConvFwd1RefIdeal.sig) → Buf (Elt Ideal) ℓ) (g : Dev Cert.ConvFwd1RefIdeal.nD → PrngReg), Pre_ConvFwd1RefIdeal m →
    θ_run (Cert.ConvFwd1RefIdeal.defs (F := Ideal)) (onTc (τ := Cert.ConvFwd1RefIdeal.τ) (Cert.ConvFwd1RefIdeal.main (F := Ideal))) ⟨m, fun _ => 0, g⟩ (fun r => (∀ c : Dev Cert.ConvFwd1RefIdeal.nD,
      r.2.mem ((c.tc : Thread Cert.ConvFwd1RefIdeal.nD Cert.ConvFwd1RefIdeal.τ).loc Cert.ConvFwd1RefIdeal.main_arg0) = m ((c.tc : Thread Cert.ConvFwd1RefIdeal.nD Cert.ConvFwd1RefIdeal.τ).loc Cert.ConvFwd1RefIdeal.main_arg0)
      ∧ r.2.mem ((c.tc : Thread Cert.ConvFwd1RefIdeal.nD Cert.ConvFwd1RefIdeal.τ).loc Cert.ConvFwd1RefIdeal.main_arg1) = m ((c.tc : Thread Cert.ConvFwd1RefIdeal.nD Cert.ConvFwd1RefIdeal.τ).loc Cert.ConvFwd1RefIdeal.main_arg1)
      ∧ r.2.mem ((c.tc : Thread Cert.ConvFwd1RefIdeal.nD Cert.ConvFwd1RefIdeal.τ).loc Cert.ConvFwd1RefIdeal.main_arg2) = m ((c.tc : Thread Cert.ConvFwd1RefIdeal.nD Cert.ConvFwd1RefIdeal.τ).loc Cert.ConvFwd1RefIdeal.main_arg2))
      ∧ r.2.sem = fun _ => 0)

def quiescent_ParamsFwd [hParamsFwd : Cert.ParamsFwd.Facts] : Prop :=
  ∀ (m : (ℓ : Loc Cert.ParamsFwd.nD Cert.ParamsFwd.τ Cert.ParamsFwd.sig) → Buf (Elt Bits) ℓ) (g : Dev Cert.ParamsFwd.nD → PrngReg), Pre_ParamsFwd m →
    θ_run (Cert.ParamsFwd.defs (F := Bits)) (onTc (τ := Cert.ParamsFwd.τ) (Cert.ParamsFwd.main (F := Bits))) ⟨m, fun _ => 0, g⟩ (fun r => (∀ c : Dev Cert.ParamsFwd.nD,
      r.2.mem ((c.tc : Thread Cert.ParamsFwd.nD Cert.ParamsFwd.τ).loc Cert.ParamsFwd.main_arg0) = m ((c.tc : Thread Cert.ParamsFwd.nD Cert.ParamsFwd.τ).loc Cert.ParamsFwd.main_arg0)
      ∧ r.2.mem ((c.tc : Thread Cert.ParamsFwd.nD Cert.ParamsFwd.τ).loc Cert.ParamsFwd.main_arg1) = m ((c.tc : Thread Cert.ParamsFwd.nD Cert.ParamsFwd.τ).loc Cert.ParamsFwd.main_arg1)
      ∧ r.2.mem ((c.tc : Thread Cert.ParamsFwd.nD Cert.ParamsFwd.τ).loc Cert.ParamsFwd.main_arg2) = m ((c.tc : Thread Cert.ParamsFwd.nD Cert.ParamsFwd.τ).loc Cert.ParamsFwd.main_arg2)
      ∧ r.2.mem ((c.tc : Thread Cert.ParamsFwd.nD Cert.ParamsFwd.τ).loc Cert.ParamsFwd.main_arg3) = m ((c.tc : Thread Cert.ParamsFwd.nD Cert.ParamsFwd.τ).loc Cert.ParamsFwd.main_arg3)
      ∧ r.2.mem ((c.tc : Thread Cert.ParamsFwd.nD Cert.ParamsFwd.τ).loc Cert.ParamsFwd.main_arg4) = m ((c.tc : Thread Cert.ParamsFwd.nD Cert.ParamsFwd.τ).loc Cert.ParamsFwd.main_arg4)
      ∧ r.2.mem ((c.tc : Thread Cert.ParamsFwd.nD Cert.ParamsFwd.τ).loc Cert.ParamsFwd.main_arg5) = m ((c.tc : Thread Cert.ParamsFwd.nD Cert.ParamsFwd.τ).loc Cert.ParamsFwd.main_arg5)
      ∧ r.2.mem ((c.tc : Thread Cert.ParamsFwd.nD Cert.ParamsFwd.τ).loc Cert.ParamsFwd.main_arg6) = m ((c.tc : Thread Cert.ParamsFwd.nD Cert.ParamsFwd.τ).loc Cert.ParamsFwd.main_arg6))
      ∧ r.2.sem = fun _ => 0)

def quiescent_ParamsFwdIdeal [hParamsFwdIdeal : Cert.ParamsFwdIdeal.Facts] : Prop :=
  ∀ (m : (ℓ : Loc Cert.ParamsFwdIdeal.nD Cert.ParamsFwdIdeal.τ Cert.ParamsFwdIdeal.sig) → Buf (Elt Ideal) ℓ) (g : Dev Cert.ParamsFwdIdeal.nD → PrngReg), Pre_ParamsFwdIdeal m →
    θ_run (Cert.ParamsFwdIdeal.defs (F := Ideal)) (onTc (τ := Cert.ParamsFwdIdeal.τ) (Cert.ParamsFwdIdeal.main (F := Ideal))) ⟨m, fun _ => 0, g⟩ (fun r => (∀ c : Dev Cert.ParamsFwdIdeal.nD,
      r.2.mem ((c.tc : Thread Cert.ParamsFwdIdeal.nD Cert.ParamsFwdIdeal.τ).loc Cert.ParamsFwdIdeal.main_arg0) = m ((c.tc : Thread Cert.ParamsFwdIdeal.nD Cert.ParamsFwdIdeal.τ).loc Cert.ParamsFwdIdeal.main_arg0)
      ∧ r.2.mem ((c.tc : Thread Cert.ParamsFwdIdeal.nD Cert.ParamsFwdIdeal.τ).loc Cert.ParamsFwdIdeal.main_arg1) = m ((c.tc : Thread Cert.ParamsFwdIdeal.nD Cert.ParamsFwdIdeal.τ).loc Cert.ParamsFwdIdeal.main_arg1)
      ∧ r.2.mem ((c.tc : Thread Cert.ParamsFwdIdeal.nD Cert.ParamsFwdIdeal.τ).loc Cert.ParamsFwdIdeal.main_arg2) = m ((c.tc : Thread Cert.ParamsFwdIdeal.nD Cert.ParamsFwdIdeal.τ).loc Cert.ParamsFwdIdeal.main_arg2)
      ∧ r.2.mem ((c.tc : Thread Cert.ParamsFwdIdeal.nD Cert.ParamsFwdIdeal.τ).loc Cert.ParamsFwdIdeal.main_arg3) = m ((c.tc : Thread Cert.ParamsFwdIdeal.nD Cert.ParamsFwdIdeal.τ).loc Cert.ParamsFwdIdeal.main_arg3)
      ∧ r.2.mem ((c.tc : Thread Cert.ParamsFwdIdeal.nD Cert.ParamsFwdIdeal.τ).loc Cert.ParamsFwdIdeal.main_arg4) = m ((c.tc : Thread Cert.ParamsFwdIdeal.nD Cert.ParamsFwdIdeal.τ).loc Cert.ParamsFwdIdeal.main_arg4)
      ∧ r.2.mem ((c.tc : Thread Cert.ParamsFwdIdeal.nD Cert.ParamsFwdIdeal.τ).loc Cert.ParamsFwdIdeal.main_arg5) = m ((c.tc : Thread Cert.ParamsFwdIdeal.nD Cert.ParamsFwdIdeal.τ).loc Cert.ParamsFwdIdeal.main_arg5)
      ∧ r.2.mem ((c.tc : Thread Cert.ParamsFwdIdeal.nD Cert.ParamsFwdIdeal.τ).loc Cert.ParamsFwdIdeal.main_arg6) = m ((c.tc : Thread Cert.ParamsFwdIdeal.nD Cert.ParamsFwdIdeal.τ).loc Cert.ParamsFwdIdeal.main_arg6))
      ∧ r.2.sem = fun _ => 0)

def quiescent_ParamsFwdRefIdeal [hParamsFwdRefIdeal : Cert.ParamsFwdRefIdeal.Facts] : Prop :=
  ∀ (m : (ℓ : Loc Cert.ParamsFwdRefIdeal.nD Cert.ParamsFwdRefIdeal.τ Cert.ParamsFwdRefIdeal.sig) → Buf (Elt Ideal) ℓ) (g : Dev Cert.ParamsFwdRefIdeal.nD → PrngReg), Pre_ParamsFwdRefIdeal m →
    θ_run (Cert.ParamsFwdRefIdeal.defs (F := Ideal)) (onTc (τ := Cert.ParamsFwdRefIdeal.τ) (Cert.ParamsFwdRefIdeal.main (F := Ideal))) ⟨m, fun _ => 0, g⟩ (fun r => (∀ c : Dev Cert.ParamsFwdRefIdeal.nD,
      r.2.mem ((c.tc : Thread Cert.ParamsFwdRefIdeal.nD Cert.ParamsFwdRefIdeal.τ).loc Cert.ParamsFwdRefIdeal.main_arg0) = m ((c.tc : Thread Cert.ParamsFwdRefIdeal.nD Cert.ParamsFwdRefIdeal.τ).loc Cert.ParamsFwdRefIdeal.main_arg0)
      ∧ r.2.mem ((c.tc : Thread Cert.ParamsFwdRefIdeal.nD Cert.ParamsFwdRefIdeal.τ).loc Cert.ParamsFwdRefIdeal.main_arg1) = m ((c.tc : Thread Cert.ParamsFwdRefIdeal.nD Cert.ParamsFwdRefIdeal.τ).loc Cert.ParamsFwdRefIdeal.main_arg1)
      ∧ r.2.mem ((c.tc : Thread Cert.ParamsFwdRefIdeal.nD Cert.ParamsFwdRefIdeal.τ).loc Cert.ParamsFwdRefIdeal.main_arg2) = m ((c.tc : Thread Cert.ParamsFwdRefIdeal.nD Cert.ParamsFwdRefIdeal.τ).loc Cert.ParamsFwdRefIdeal.main_arg2)
      ∧ r.2.mem ((c.tc : Thread Cert.ParamsFwdRefIdeal.nD Cert.ParamsFwdRefIdeal.τ).loc Cert.ParamsFwdRefIdeal.main_arg3) = m ((c.tc : Thread Cert.ParamsFwdRefIdeal.nD Cert.ParamsFwdRefIdeal.τ).loc Cert.ParamsFwdRefIdeal.main_arg3)
      ∧ r.2.mem ((c.tc : Thread Cert.ParamsFwdRefIdeal.nD Cert.ParamsFwdRefIdeal.τ).loc Cert.ParamsFwdRefIdeal.main_arg4) = m ((c.tc : Thread Cert.ParamsFwdRefIdeal.nD Cert.ParamsFwdRefIdeal.τ).loc Cert.ParamsFwdRefIdeal.main_arg4)
      ∧ r.2.mem ((c.tc : Thread Cert.ParamsFwdRefIdeal.nD Cert.ParamsFwdRefIdeal.τ).loc Cert.ParamsFwdRefIdeal.main_arg5) = m ((c.tc : Thread Cert.ParamsFwdRefIdeal.nD Cert.ParamsFwdRefIdeal.τ).loc Cert.ParamsFwdRefIdeal.main_arg5)
      ∧ r.2.mem ((c.tc : Thread Cert.ParamsFwdRefIdeal.nD Cert.ParamsFwdRefIdeal.τ).loc Cert.ParamsFwdRefIdeal.main_arg6) = m ((c.tc : Thread Cert.ParamsFwdRefIdeal.nD Cert.ParamsFwdRefIdeal.τ).loc Cert.ParamsFwdRefIdeal.main_arg6))
      ∧ r.2.sem = fun _ => 0)

def quiescent_ParamsBwd [hParamsBwd : Cert.ParamsBwd.Facts] : Prop :=
  ∀ (m : (ℓ : Loc Cert.ParamsBwd.nD Cert.ParamsBwd.τ Cert.ParamsBwd.sig) → Buf (Elt Bits) ℓ) (g : Dev Cert.ParamsBwd.nD → PrngReg), Pre_ParamsBwd m →
    θ_run (Cert.ParamsBwd.defs (F := Bits)) (onTc (τ := Cert.ParamsBwd.τ) (Cert.ParamsBwd.main (F := Bits))) ⟨m, fun _ => 0, g⟩ (fun r => (∀ c : Dev Cert.ParamsBwd.nD,
      r.2.mem ((c.tc : Thread Cert.ParamsBwd.nD Cert.ParamsBwd.τ).loc Cert.ParamsBwd.main_arg0) = m ((c.tc : Thread Cert.ParamsBwd.nD Cert.ParamsBwd.τ).loc Cert.ParamsBwd.main_arg0)
      ∧ r.2.mem ((c.tc : Thread Cert.ParamsBwd.nD Cert.ParamsBwd.τ).loc Cert.ParamsBwd.main_arg1) = m ((c.tc : Thread Cert.ParamsBwd.nD Cert.ParamsBwd.τ).loc Cert.ParamsBwd.main_arg1)
      ∧ r.2.mem ((c.tc : Thread Cert.ParamsBwd.nD Cert.ParamsBwd.τ).loc Cert.ParamsBwd.main_arg2) = m ((c.tc : Thread Cert.ParamsBwd.nD Cert.ParamsBwd.τ).loc Cert.ParamsBwd.main_arg2)
      ∧ r.2.mem ((c.tc : Thread Cert.ParamsBwd.nD Cert.ParamsBwd.τ).loc Cert.ParamsBwd.main_arg3) = m ((c.tc : Thread Cert.ParamsBwd.nD Cert.ParamsBwd.τ).loc Cert.ParamsBwd.main_arg3)
      ∧ r.2.mem ((c.tc : Thread Cert.ParamsBwd.nD Cert.ParamsBwd.τ).loc Cert.ParamsBwd.main_arg4) = m ((c.tc : Thread Cert.ParamsBwd.nD Cert.ParamsBwd.τ).loc Cert.ParamsBwd.main_arg4)
      ∧ r.2.mem ((c.tc : Thread Cert.ParamsBwd.nD Cert.ParamsBwd.τ).loc Cert.ParamsBwd.main_arg5) = m ((c.tc : Thread Cert.ParamsBwd.nD Cert.ParamsBwd.τ).loc Cert.ParamsBwd.main_arg5)
      ∧ r.2.mem ((c.tc : Thread Cert.ParamsBwd.nD Cert.ParamsBwd.τ).loc Cert.ParamsBwd.main_arg6) = m ((c.tc : Thread Cert.ParamsBwd.nD Cert.ParamsBwd.τ).loc Cert.ParamsBwd.main_arg6)
      ∧ r.2.mem ((c.tc : Thread Cert.ParamsBwd.nD Cert.ParamsBwd.τ).loc Cert.ParamsBwd.main_arg7) = m ((c.tc : Thread Cert.ParamsBwd.nD Cert.ParamsBwd.τ).loc Cert.ParamsBwd.main_arg7)
      ∧ r.2.mem ((c.tc : Thread Cert.ParamsBwd.nD Cert.ParamsBwd.τ).loc Cert.ParamsBwd.main_arg8) = m ((c.tc : Thread Cert.ParamsBwd.nD Cert.ParamsBwd.τ).loc Cert.ParamsBwd.main_arg8)
      ∧ r.2.mem ((c.tc : Thread Cert.ParamsBwd.nD Cert.ParamsBwd.τ).loc Cert.ParamsBwd.main_arg9) = m ((c.tc : Thread Cert.ParamsBwd.nD Cert.ParamsBwd.τ).loc Cert.ParamsBwd.main_arg9)
      ∧ r.2.mem ((c.tc : Thread Cert.ParamsBwd.nD Cert.ParamsBwd.τ).loc Cert.ParamsBwd.main_arg10) = m ((c.tc : Thread Cert.ParamsBwd.nD Cert.ParamsBwd.τ).loc Cert.ParamsBwd.main_arg10)
      ∧ r.2.mem ((c.tc : Thread Cert.ParamsBwd.nD Cert.ParamsBwd.τ).loc Cert.ParamsBwd.main_arg11) = m ((c.tc : Thread Cert.ParamsBwd.nD Cert.ParamsBwd.τ).loc Cert.ParamsBwd.main_arg11)
      ∧ r.2.mem ((c.tc : Thread Cert.ParamsBwd.nD Cert.ParamsBwd.τ).loc Cert.ParamsBwd.main_arg12) = m ((c.tc : Thread Cert.ParamsBwd.nD Cert.ParamsBwd.τ).loc Cert.ParamsBwd.main_arg12))
      ∧ r.2.sem = fun _ => 0)

def quiescent_ParamsBwdIdeal [hParamsBwdIdeal : Cert.ParamsBwdIdeal.Facts] : Prop :=
  ∀ (m : (ℓ : Loc Cert.ParamsBwdIdeal.nD Cert.ParamsBwdIdeal.τ Cert.ParamsBwdIdeal.sig) → Buf (Elt Ideal) ℓ) (g : Dev Cert.ParamsBwdIdeal.nD → PrngReg), Pre_ParamsBwdIdeal m →
    θ_run (Cert.ParamsBwdIdeal.defs (F := Ideal)) (onTc (τ := Cert.ParamsBwdIdeal.τ) (Cert.ParamsBwdIdeal.main (F := Ideal))) ⟨m, fun _ => 0, g⟩ (fun r => (∀ c : Dev Cert.ParamsBwdIdeal.nD,
      r.2.mem ((c.tc : Thread Cert.ParamsBwdIdeal.nD Cert.ParamsBwdIdeal.τ).loc Cert.ParamsBwdIdeal.main_arg0) = m ((c.tc : Thread Cert.ParamsBwdIdeal.nD Cert.ParamsBwdIdeal.τ).loc Cert.ParamsBwdIdeal.main_arg0)
      ∧ r.2.mem ((c.tc : Thread Cert.ParamsBwdIdeal.nD Cert.ParamsBwdIdeal.τ).loc Cert.ParamsBwdIdeal.main_arg1) = m ((c.tc : Thread Cert.ParamsBwdIdeal.nD Cert.ParamsBwdIdeal.τ).loc Cert.ParamsBwdIdeal.main_arg1)
      ∧ r.2.mem ((c.tc : Thread Cert.ParamsBwdIdeal.nD Cert.ParamsBwdIdeal.τ).loc Cert.ParamsBwdIdeal.main_arg2) = m ((c.tc : Thread Cert.ParamsBwdIdeal.nD Cert.ParamsBwdIdeal.τ).loc Cert.ParamsBwdIdeal.main_arg2)
      ∧ r.2.mem ((c.tc : Thread Cert.ParamsBwdIdeal.nD Cert.ParamsBwdIdeal.τ).loc Cert.ParamsBwdIdeal.main_arg3) = m ((c.tc : Thread Cert.ParamsBwdIdeal.nD Cert.ParamsBwdIdeal.τ).loc Cert.ParamsBwdIdeal.main_arg3)
      ∧ r.2.mem ((c.tc : Thread Cert.ParamsBwdIdeal.nD Cert.ParamsBwdIdeal.τ).loc Cert.ParamsBwdIdeal.main_arg4) = m ((c.tc : Thread Cert.ParamsBwdIdeal.nD Cert.ParamsBwdIdeal.τ).loc Cert.ParamsBwdIdeal.main_arg4)
      ∧ r.2.mem ((c.tc : Thread Cert.ParamsBwdIdeal.nD Cert.ParamsBwdIdeal.τ).loc Cert.ParamsBwdIdeal.main_arg5) = m ((c.tc : Thread Cert.ParamsBwdIdeal.nD Cert.ParamsBwdIdeal.τ).loc Cert.ParamsBwdIdeal.main_arg5)
      ∧ r.2.mem ((c.tc : Thread Cert.ParamsBwdIdeal.nD Cert.ParamsBwdIdeal.τ).loc Cert.ParamsBwdIdeal.main_arg6) = m ((c.tc : Thread Cert.ParamsBwdIdeal.nD Cert.ParamsBwdIdeal.τ).loc Cert.ParamsBwdIdeal.main_arg6)
      ∧ r.2.mem ((c.tc : Thread Cert.ParamsBwdIdeal.nD Cert.ParamsBwdIdeal.τ).loc Cert.ParamsBwdIdeal.main_arg7) = m ((c.tc : Thread Cert.ParamsBwdIdeal.nD Cert.ParamsBwdIdeal.τ).loc Cert.ParamsBwdIdeal.main_arg7)
      ∧ r.2.mem ((c.tc : Thread Cert.ParamsBwdIdeal.nD Cert.ParamsBwdIdeal.τ).loc Cert.ParamsBwdIdeal.main_arg8) = m ((c.tc : Thread Cert.ParamsBwdIdeal.nD Cert.ParamsBwdIdeal.τ).loc Cert.ParamsBwdIdeal.main_arg8)
      ∧ r.2.mem ((c.tc : Thread Cert.ParamsBwdIdeal.nD Cert.ParamsBwdIdeal.τ).loc Cert.ParamsBwdIdeal.main_arg9) = m ((c.tc : Thread Cert.ParamsBwdIdeal.nD Cert.ParamsBwdIdeal.τ).loc Cert.ParamsBwdIdeal.main_arg9)
      ∧ r.2.mem ((c.tc : Thread Cert.ParamsBwdIdeal.nD Cert.ParamsBwdIdeal.τ).loc Cert.ParamsBwdIdeal.main_arg10) = m ((c.tc : Thread Cert.ParamsBwdIdeal.nD Cert.ParamsBwdIdeal.τ).loc Cert.ParamsBwdIdeal.main_arg10)
      ∧ r.2.mem ((c.tc : Thread Cert.ParamsBwdIdeal.nD Cert.ParamsBwdIdeal.τ).loc Cert.ParamsBwdIdeal.main_arg11) = m ((c.tc : Thread Cert.ParamsBwdIdeal.nD Cert.ParamsBwdIdeal.τ).loc Cert.ParamsBwdIdeal.main_arg11)
      ∧ r.2.mem ((c.tc : Thread Cert.ParamsBwdIdeal.nD Cert.ParamsBwdIdeal.τ).loc Cert.ParamsBwdIdeal.main_arg12) = m ((c.tc : Thread Cert.ParamsBwdIdeal.nD Cert.ParamsBwdIdeal.τ).loc Cert.ParamsBwdIdeal.main_arg12))
      ∧ r.2.sem = fun _ => 0)

def quiescent_ParamsBwdRefIdeal [hParamsBwdRefIdeal : Cert.ParamsBwdRefIdeal.Facts] : Prop :=
  ∀ (m : (ℓ : Loc Cert.ParamsBwdRefIdeal.nD Cert.ParamsBwdRefIdeal.τ Cert.ParamsBwdRefIdeal.sig) → Buf (Elt Ideal) ℓ) (g : Dev Cert.ParamsBwdRefIdeal.nD → PrngReg), Pre_ParamsBwdRefIdeal m →
    θ_run (Cert.ParamsBwdRefIdeal.defs (F := Ideal)) (onTc (τ := Cert.ParamsBwdRefIdeal.τ) (Cert.ParamsBwdRefIdeal.main (F := Ideal))) ⟨m, fun _ => 0, g⟩ (fun r => (∀ c : Dev Cert.ParamsBwdRefIdeal.nD,
      r.2.mem ((c.tc : Thread Cert.ParamsBwdRefIdeal.nD Cert.ParamsBwdRefIdeal.τ).loc Cert.ParamsBwdRefIdeal.main_arg0) = m ((c.tc : Thread Cert.ParamsBwdRefIdeal.nD Cert.ParamsBwdRefIdeal.τ).loc Cert.ParamsBwdRefIdeal.main_arg0)
      ∧ r.2.mem ((c.tc : Thread Cert.ParamsBwdRefIdeal.nD Cert.ParamsBwdRefIdeal.τ).loc Cert.ParamsBwdRefIdeal.main_arg1) = m ((c.tc : Thread Cert.ParamsBwdRefIdeal.nD Cert.ParamsBwdRefIdeal.τ).loc Cert.ParamsBwdRefIdeal.main_arg1)
      ∧ r.2.mem ((c.tc : Thread Cert.ParamsBwdRefIdeal.nD Cert.ParamsBwdRefIdeal.τ).loc Cert.ParamsBwdRefIdeal.main_arg2) = m ((c.tc : Thread Cert.ParamsBwdRefIdeal.nD Cert.ParamsBwdRefIdeal.τ).loc Cert.ParamsBwdRefIdeal.main_arg2)
      ∧ r.2.mem ((c.tc : Thread Cert.ParamsBwdRefIdeal.nD Cert.ParamsBwdRefIdeal.τ).loc Cert.ParamsBwdRefIdeal.main_arg3) = m ((c.tc : Thread Cert.ParamsBwdRefIdeal.nD Cert.ParamsBwdRefIdeal.τ).loc Cert.ParamsBwdRefIdeal.main_arg3)
      ∧ r.2.mem ((c.tc : Thread Cert.ParamsBwdRefIdeal.nD Cert.ParamsBwdRefIdeal.τ).loc Cert.ParamsBwdRefIdeal.main_arg4) = m ((c.tc : Thread Cert.ParamsBwdRefIdeal.nD Cert.ParamsBwdRefIdeal.τ).loc Cert.ParamsBwdRefIdeal.main_arg4)
      ∧ r.2.mem ((c.tc : Thread Cert.ParamsBwdRefIdeal.nD Cert.ParamsBwdRefIdeal.τ).loc Cert.ParamsBwdRefIdeal.main_arg5) = m ((c.tc : Thread Cert.ParamsBwdRefIdeal.nD Cert.ParamsBwdRefIdeal.τ).loc Cert.ParamsBwdRefIdeal.main_arg5)
      ∧ r.2.mem ((c.tc : Thread Cert.ParamsBwdRefIdeal.nD Cert.ParamsBwdRefIdeal.τ).loc Cert.ParamsBwdRefIdeal.main_arg6) = m ((c.tc : Thread Cert.ParamsBwdRefIdeal.nD Cert.ParamsBwdRefIdeal.τ).loc Cert.ParamsBwdRefIdeal.main_arg6)
      ∧ r.2.mem ((c.tc : Thread Cert.ParamsBwdRefIdeal.nD Cert.ParamsBwdRefIdeal.τ).loc Cert.ParamsBwdRefIdeal.main_arg7) = m ((c.tc : Thread Cert.ParamsBwdRefIdeal.nD Cert.ParamsBwdRefIdeal.τ).loc Cert.ParamsBwdRefIdeal.main_arg7)
      ∧ r.2.mem ((c.tc : Thread Cert.ParamsBwdRefIdeal.nD Cert.ParamsBwdRefIdeal.τ).loc Cert.ParamsBwdRefIdeal.main_arg8) = m ((c.tc : Thread Cert.ParamsBwdRefIdeal.nD Cert.ParamsBwdRefIdeal.τ).loc Cert.ParamsBwdRefIdeal.main_arg8)
      ∧ r.2.mem ((c.tc : Thread Cert.ParamsBwdRefIdeal.nD Cert.ParamsBwdRefIdeal.τ).loc Cert.ParamsBwdRefIdeal.main_arg9) = m ((c.tc : Thread Cert.ParamsBwdRefIdeal.nD Cert.ParamsBwdRefIdeal.τ).loc Cert.ParamsBwdRefIdeal.main_arg9)
      ∧ r.2.mem ((c.tc : Thread Cert.ParamsBwdRefIdeal.nD Cert.ParamsBwdRefIdeal.τ).loc Cert.ParamsBwdRefIdeal.main_arg10) = m ((c.tc : Thread Cert.ParamsBwdRefIdeal.nD Cert.ParamsBwdRefIdeal.τ).loc Cert.ParamsBwdRefIdeal.main_arg10)
      ∧ r.2.mem ((c.tc : Thread Cert.ParamsBwdRefIdeal.nD Cert.ParamsBwdRefIdeal.τ).loc Cert.ParamsBwdRefIdeal.main_arg11) = m ((c.tc : Thread Cert.ParamsBwdRefIdeal.nD Cert.ParamsBwdRefIdeal.τ).loc Cert.ParamsBwdRefIdeal.main_arg11)
      ∧ r.2.mem ((c.tc : Thread Cert.ParamsBwdRefIdeal.nD Cert.ParamsBwdRefIdeal.τ).loc Cert.ParamsBwdRefIdeal.main_arg12) = m ((c.tc : Thread Cert.ParamsBwdRefIdeal.nD Cert.ParamsBwdRefIdeal.τ).loc Cert.ParamsBwdRefIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_2)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v1_5)) (v7 : (c : Dev Cert.KernelIdeal.nD) → Buf (Elt Ideal) ((c.tc : Thread Cert.KernelIdeal.nD Cert.KernelIdeal.τ).loc Cert.KernelIdeal.main_v1_6)) (v8 : (c : Dev Cert.KernelIdeal.nD) → Buf (Elt Ideal) ((c.tc : Thread Cert.KernelIdeal.nD Cert.KernelIdeal.τ).loc Cert.KernelIdeal.main_v1_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v1_5) = v6 c
          ∧ r.2.mem ((c.tc : Thread Cert.KernelIdeal.nD Cert.KernelIdeal.τ).loc Cert.KernelIdeal.main_v1_6) = v7 c
          ∧ r.2.mem ((c.tc : Thread Cert.KernelIdeal.nD Cert.KernelIdeal.τ).loc Cert.KernelIdeal.main_v1_7) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_v70) = v4 c
          ∧ r.2.mem ((c.tc : Thread Cert.ReferenceIdeal.nD Cert.ReferenceIdeal.τ).loc Cert.ReferenceIdeal.main_v69) = v5 c
          ∧ r.2.mem ((c.tc : Thread Cert.ReferenceIdeal.nD Cert.ReferenceIdeal.τ).loc Cert.ReferenceIdeal.main_v68) = v6 c
          ∧ r.2.mem ((c.tc : Thread Cert.ReferenceIdeal.nD Cert.ReferenceIdeal.τ).loc Cert.ReferenceIdeal.main_v67) = v7 c
          ∧ r.2.mem ((c.tc : Thread Cert.ReferenceIdeal.nD Cert.ReferenceIdeal.τ).loc Cert.ReferenceIdeal.main_v38) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v0)) (v1 : (c : Dev Cert.FfnInIdeal.nD) → Buf (Elt Ideal) ((c.tc : Thread Cert.FfnInIdeal.nD Cert.FfnInIdeal.τ).loc Cert.FfnInIdeal.main_v1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_v1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v2) = v0 c
          ∧ r.2.mem ((c.tc : Thread Cert.FfnInRefIdeal.nD Cert.FfnInRefIdeal.τ).loc Cert.FfnInRefIdeal.main_v7) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v6) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v0)) (v1 : (c : Dev Cert.FfnOutIdeal.nD) → Buf (Elt Ideal) ((c.tc : Thread Cert.FfnOutIdeal.nD Cert.FfnOutIdeal.τ).loc Cert.FfnOutIdeal.main_v1)) (v2 : (c : Dev Cert.FfnOutIdeal.nD) → Buf (Elt Ideal) ((c.tc : Thread Cert.FfnOutIdeal.nD Cert.FfnOutIdeal.τ).loc Cert.FfnOutIdeal.main_v2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_v1) = v1 c
          ∧ r.2.mem ((c.tc : Thread Cert.FfnOutIdeal.nD Cert.FfnOutIdeal.τ).loc Cert.FfnOutIdeal.main_v2) = v2 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_v8) = v1 c
          ∧ r.2.mem ((c.tc : Thread Cert.FfnOutRefIdeal.nD Cert.FfnOutRefIdeal.τ).loc Cert.FfnOutRefIdeal.main_v9) = v2 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v0)) (v1 : (c : Dev Cert.MixerIdeal.nD) → Buf (Elt Ideal) ((c.tc : Thread Cert.MixerIdeal.nD Cert.MixerIdeal.τ).loc Cert.MixerIdeal.main_v1)) (v2 : (c : Dev Cert.MixerIdeal.nD) → Buf (Elt Ideal) ((c.tc : Thread Cert.MixerIdeal.nD Cert.MixerIdeal.τ).loc Cert.MixerIdeal.main_v2)) (v3 : (c : Dev Cert.MixerIdeal.nD) → Buf (Elt Ideal) ((c.tc : Thread Cert.MixerIdeal.nD Cert.MixerIdeal.τ).loc Cert.MixerIdeal.main_v3)) (v4 : (c : Dev Cert.MixerIdeal.nD) → Buf (Elt Ideal) ((c.tc : Thread Cert.MixerIdeal.nD Cert.MixerIdeal.τ).loc Cert.MixerIdeal.main_v4)) (v5 : (c : Dev Cert.MixerIdeal.nD) → Buf (Elt Ideal) ((c.tc : Thread Cert.MixerIdeal.nD Cert.MixerIdeal.τ).loc Cert.MixerIdeal.main_v5)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v0) = v0 c
          ∧ r.2.mem ((c.tc : Thread Cert.MixerIdeal.nD Cert.MixerIdeal.τ).loc Cert.MixerIdeal.main_v1) = v1 c
          ∧ r.2.mem ((c.tc : Thread Cert.MixerIdeal.nD Cert.MixerIdeal.τ).loc Cert.MixerIdeal.main_v2) = v2 c
          ∧ r.2.mem ((c.tc : Thread Cert.MixerIdeal.nD Cert.MixerIdeal.τ).loc Cert.MixerIdeal.main_v3) = v3 c
          ∧ r.2.mem ((c.tc : Thread Cert.MixerIdeal.nD Cert.MixerIdeal.τ).loc Cert.MixerIdeal.main_v4) = v4 c
          ∧ r.2.mem ((c.tc : Thread Cert.MixerIdeal.nD Cert.MixerIdeal.τ).loc Cert.MixerIdeal.main_v5) = v5 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v2) = v0 c
          ∧ r.2.mem ((c.tc : Thread Cert.MixerRefIdeal.nD Cert.MixerRefIdeal.τ).loc Cert.MixerRefIdeal.main_v6) = v1 c
          ∧ r.2.mem ((c.tc : Thread Cert.MixerRefIdeal.nD Cert.MixerRefIdeal.τ).loc Cert.MixerRefIdeal.main_v15) = v2 c
          ∧ r.2.mem ((c.tc : Thread Cert.MixerRefIdeal.nD Cert.MixerRefIdeal.τ).loc Cert.MixerRefIdeal.main_v10) = v3 c
          ∧ r.2.mem ((c.tc : Thread Cert.MixerRefIdeal.nD Cert.MixerRefIdeal.τ).loc Cert.MixerRefIdeal.main_v14) = v4 c
          ∧ r.2.mem ((c.tc : Thread Cert.MixerRefIdeal.nD Cert.MixerRefIdeal.τ).loc Cert.MixerRefIdeal.main_v16) = v5 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6))

def preserves_Attention_AttentionIdeal : Prop :=
  True

def algebraic_AttentionIdeal_AttentionRefIdeal [hAttentionIdeal : Cert.AttentionIdeal.Facts] [hAttentionRefIdeal : Cert.AttentionRefIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)
      ∧ m' ((c.tc : Thread Cert.AttentionRefIdeal.nD Cert.AttentionRefIdeal.τ).loc Cert.AttentionRefIdeal.main_arg4) = m ((c.tc : Thread Cert.AttentionIdeal.nD Cert.AttentionIdeal.τ).loc Cert.AttentionIdeal.main_arg4)
      ∧ m' ((c.tc : Thread Cert.AttentionRefIdeal.nD Cert.AttentionRefIdeal.τ).loc Cert.AttentionRefIdeal.main_arg5) = m ((c.tc : Thread Cert.AttentionIdeal.nD Cert.AttentionIdeal.τ).loc Cert.AttentionIdeal.main_arg5)
      ∧ m' ((c.tc : Thread Cert.AttentionRefIdeal.nD Cert.AttentionRefIdeal.τ).loc Cert.AttentionRefIdeal.main_arg6) = m ((c.tc : Thread Cert.AttentionIdeal.nD Cert.AttentionIdeal.τ).loc Cert.AttentionIdeal.main_arg6)
      ∧ m' ((c.tc : Thread Cert.AttentionRefIdeal.nD Cert.AttentionRefIdeal.τ).loc Cert.AttentionRefIdeal.main_arg7) = m ((c.tc : Thread Cert.AttentionIdeal.nD Cert.AttentionIdeal.τ).loc Cert.AttentionIdeal.main_arg7)
      ∧ m' ((c.tc : Thread Cert.AttentionRefIdeal.nD Cert.AttentionRefIdeal.τ).loc Cert.AttentionRefIdeal.main_arg8) = m ((c.tc : Thread Cert.AttentionIdeal.nD Cert.AttentionIdeal.τ).loc Cert.AttentionIdeal.main_arg8)
      ∧ m' ((c.tc : Thread Cert.AttentionRefIdeal.nD Cert.AttentionRefIdeal.τ).loc Cert.AttentionRefIdeal.main_arg9) = m ((c.tc : Thread Cert.AttentionIdeal.nD Cert.AttentionIdeal.τ).loc Cert.AttentionIdeal.main_arg9)
      ∧ m' ((c.tc : Thread Cert.AttentionRefIdeal.nD Cert.AttentionRefIdeal.τ).loc Cert.AttentionRefIdeal.main_arg10) = m ((c.tc : Thread Cert.AttentionIdeal.nD Cert.AttentionIdeal.τ).loc Cert.AttentionIdeal.main_arg10)) →
    ∃ (v0 : (c : Dev Cert.AttentionIdeal.nD) → Buf (Elt Ideal) ((c.tc : Thread Cert.AttentionIdeal.nD Cert.AttentionIdeal.τ).loc Cert.AttentionIdeal.main_v0)) (v1 : (c : Dev Cert.AttentionIdeal.nD) → Buf (Elt Ideal) ((c.tc : Thread Cert.AttentionIdeal.nD Cert.AttentionIdeal.τ).loc Cert.AttentionIdeal.main_v2)) (v2 : (c : Dev Cert.AttentionIdeal.nD) → Buf (Elt Ideal) ((c.tc : Thread Cert.AttentionIdeal.nD Cert.AttentionIdeal.τ).loc Cert.AttentionIdeal.main_v4)) (v3 : (c : Dev Cert.AttentionIdeal.nD) → Buf (Elt Ideal) ((c.tc : Thread Cert.AttentionIdeal.nD Cert.AttentionIdeal.τ).loc Cert.AttentionIdeal.main_v1)) (v4 : (c : Dev Cert.AttentionIdeal.nD) → Buf (Elt Ideal) ((c.tc : Thread Cert.AttentionIdeal.nD Cert.AttentionIdeal.τ).loc Cert.AttentionIdeal.main_v3)) (v5 : (c : Dev Cert.AttentionIdeal.nD) → Buf (Elt Ideal) ((c.tc : Thread Cert.AttentionIdeal.nD Cert.AttentionIdeal.τ).loc Cert.AttentionIdeal.main_v5)) (v6 : (c : Dev Cert.AttentionIdeal.nD) → Buf (Elt Ideal) ((c.tc : Thread Cert.AttentionIdeal.nD Cert.AttentionIdeal.τ).loc Cert.AttentionIdeal.main_v6)) (v7 : (c : Dev Cert.AttentionIdeal.nD) → Buf (Elt Ideal) ((c.tc : Thread Cert.AttentionIdeal.nD Cert.AttentionIdeal.τ).loc Cert.AttentionIdeal.main_v7)) (v8 : (c : Dev Cert.AttentionIdeal.nD) → Buf (Elt Ideal) ((c.tc : Thread Cert.AttentionIdeal.nD Cert.AttentionIdeal.τ).loc Cert.AttentionIdeal.main_v8)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_v2) = v1 c
          ∧ r.2.mem ((c.tc : Thread Cert.AttentionIdeal.nD Cert.AttentionIdeal.τ).loc Cert.AttentionIdeal.main_v4) = v2 c
          ∧ r.2.mem ((c.tc : Thread Cert.AttentionIdeal.nD Cert.AttentionIdeal.τ).loc Cert.AttentionIdeal.main_v1) = v3 c
          ∧ r.2.mem ((c.tc : Thread Cert.AttentionIdeal.nD Cert.AttentionIdeal.τ).loc Cert.AttentionIdeal.main_v3) = v4 c
          ∧ r.2.mem ((c.tc : Thread Cert.AttentionIdeal.nD Cert.AttentionIdeal.τ).loc Cert.AttentionIdeal.main_v5) = v5 c
          ∧ r.2.mem ((c.tc : Thread Cert.AttentionIdeal.nD Cert.AttentionIdeal.τ).loc Cert.AttentionIdeal.main_v6) = v6 c
          ∧ r.2.mem ((c.tc : Thread Cert.AttentionIdeal.nD Cert.AttentionIdeal.τ).loc Cert.AttentionIdeal.main_v7) = v7 c
          ∧ r.2.mem ((c.tc : Thread Cert.AttentionIdeal.nD Cert.AttentionIdeal.τ).loc Cert.AttentionIdeal.main_v8) = v8 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
          ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
          ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
          ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v8) = v0 c
          ∧ r.2.mem ((c.tc : Thread Cert.AttentionRefIdeal.nD Cert.AttentionRefIdeal.τ).loc Cert.AttentionRefIdeal.main_v21) = v1 c
          ∧ r.2.mem ((c.tc : Thread Cert.AttentionRefIdeal.nD Cert.AttentionRefIdeal.τ).loc Cert.AttentionRefIdeal.main_v34) = v2 c
          ∧ r.2.mem ((c.tc : Thread Cert.AttentionRefIdeal.nD Cert.AttentionRefIdeal.τ).loc Cert.AttentionRefIdeal.main_v47) = v3 c
          ∧ r.2.mem ((c.tc : Thread Cert.AttentionRefIdeal.nD Cert.AttentionRefIdeal.τ).loc Cert.AttentionRefIdeal.main_v48) = v4 c
          ∧ r.2.mem ((c.tc : Thread Cert.AttentionRefIdeal.nD Cert.AttentionRefIdeal.τ).loc Cert.AttentionRefIdeal.main_v49) = v5 c
          ∧ r.2.mem ((c.tc : Thread Cert.AttentionRefIdeal.nD Cert.AttentionRefIdeal.τ).loc Cert.AttentionRefIdeal.main_v42) = v6 c
          ∧ r.2.mem ((c.tc : Thread Cert.AttentionRefIdeal.nD Cert.AttentionRefIdeal.τ).loc Cert.AttentionRefIdeal.main_v46) = v7 c
          ∧ r.2.mem ((c.tc : Thread Cert.AttentionRefIdeal.nD Cert.AttentionRefIdeal.τ).loc Cert.AttentionRefIdeal.main_v50) = v8 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3)
          ∧ r.2.mem ((c.tc : Thread Cert.AttentionRefIdeal.nD Cert.AttentionRefIdeal.τ).loc Cert.AttentionRefIdeal.main_arg4) = m' ((c.tc : Thread Cert.AttentionRefIdeal.nD Cert.AttentionRefIdeal.τ).loc Cert.AttentionRefIdeal.main_arg4)
          ∧ r.2.mem ((c.tc : Thread Cert.AttentionRefIdeal.nD Cert.AttentionRefIdeal.τ).loc Cert.AttentionRefIdeal.main_arg5) = m' ((c.tc : Thread Cert.AttentionRefIdeal.nD Cert.AttentionRefIdeal.τ).loc Cert.AttentionRefIdeal.main_arg5)
          ∧ r.2.mem ((c.tc : Thread Cert.AttentionRefIdeal.nD Cert.AttentionRefIdeal.τ).loc Cert.AttentionRefIdeal.main_arg6) = m' ((c.tc : Thread Cert.AttentionRefIdeal.nD Cert.AttentionRefIdeal.τ).loc Cert.AttentionRefIdeal.main_arg6)
          ∧ r.2.mem ((c.tc : Thread Cert.AttentionRefIdeal.nD Cert.AttentionRefIdeal.τ).loc Cert.AttentionRefIdeal.main_arg7) = m' ((c.tc : Thread Cert.AttentionRefIdeal.nD Cert.AttentionRefIdeal.τ).loc Cert.AttentionRefIdeal.main_arg7)
          ∧ r.2.mem ((c.tc : Thread Cert.AttentionRefIdeal.nD Cert.AttentionRefIdeal.τ).loc Cert.AttentionRefIdeal.main_arg8) = m' ((c.tc : Thread Cert.AttentionRefIdeal.nD Cert.AttentionRefIdeal.τ).loc Cert.AttentionRefIdeal.main_arg8)
          ∧ r.2.mem ((c.tc : Thread Cert.AttentionRefIdeal.nD Cert.AttentionRefIdeal.τ).loc Cert.AttentionRefIdeal.main_arg9) = m' ((c.tc : Thread Cert.AttentionRefIdeal.nD Cert.AttentionRefIdeal.τ).loc Cert.AttentionRefIdeal.main_arg9)
          ∧ r.2.mem ((c.tc : Thread Cert.AttentionRefIdeal.nD Cert.AttentionRefIdeal.τ).loc Cert.AttentionRefIdeal.main_arg10) = m' ((c.tc : Thread Cert.AttentionRefIdeal.nD Cert.AttentionRefIdeal.τ).loc Cert.AttentionRefIdeal.main_arg10))

def preserves_QkvDx0_QkvDx0Ideal : Prop :=
  True

def algebraic_QkvDx0Ideal_QkvDx0RefIdeal [hQkvDx0Ideal : Cert.QkvDx0Ideal.Facts] [hQkvDx0RefIdeal : Cert.QkvDx0RefIdeal.Facts] : Prop :=
  ∀ (m : (ℓ : Loc Cert.QkvDx0Ideal.nD Cert.QkvDx0Ideal.τ Cert.QkvDx0Ideal.sig) → Buf (Elt Ideal) ℓ) (g : Dev Cert.QkvDx0Ideal.nD → PrngReg)
    (m' : (ℓ : Loc Cert.QkvDx0RefIdeal.nD Cert.QkvDx0RefIdeal.τ Cert.QkvDx0RefIdeal.sig) → Buf (Elt Ideal) ℓ) (g' : Dev Cert.QkvDx0RefIdeal.nD → PrngReg), Pre_QkvDx0Ideal m →
    (∀ c : Dev Cert.QkvDx0Ideal.nD,
      m' ((c.tc : Thread Cert.QkvDx0RefIdeal.nD Cert.QkvDx0RefIdeal.τ).loc Cert.QkvDx0RefIdeal.main_arg0) = m ((c.tc : Thread Cert.QkvDx0Ideal.nD Cert.QkvDx0Ideal.τ).loc Cert.QkvDx0Ideal.main_arg0)
      ∧ m' ((c.tc : Thread Cert.QkvDx0RefIdeal.nD Cert.QkvDx0RefIdeal.τ).loc Cert.QkvDx0RefIdeal.main_arg1) = m ((c.tc : Thread Cert.QkvDx0Ideal.nD Cert.QkvDx0Ideal.τ).loc Cert.QkvDx0Ideal.main_arg1)) →
    ∃ (v0 : (c : Dev Cert.QkvDx0Ideal.nD) → Buf (Elt Ideal) ((c.tc : Thread Cert.QkvDx0Ideal.nD Cert.QkvDx0Ideal.τ).loc Cert.QkvDx0Ideal.main_v0)),
      θ_run (Cert.QkvDx0Ideal.defs (F := Ideal)) (onTc (τ := Cert.QkvDx0Ideal.τ) (Cert.QkvDx0Ideal.main (F := Ideal))) ⟨m, fun _ => 0, g⟩ (fun r => ∀ c : Dev Cert.QkvDx0Ideal.nD,
          r.2.mem ((c.tc : Thread Cert.QkvDx0Ideal.nD Cert.QkvDx0Ideal.τ).loc Cert.QkvDx0Ideal.main_v0) = v0 c
          ∧ r.2.mem ((c.tc : Thread Cert.QkvDx0Ideal.nD Cert.QkvDx0Ideal.τ).loc Cert.QkvDx0Ideal.main_arg0) = m ((c.tc : Thread Cert.QkvDx0Ideal.nD Cert.QkvDx0Ideal.τ).loc Cert.QkvDx0Ideal.main_arg0)
          ∧ r.2.mem ((c.tc : Thread Cert.QkvDx0Ideal.nD Cert.QkvDx0Ideal.τ).loc Cert.QkvDx0Ideal.main_arg1) = m ((c.tc : Thread Cert.QkvDx0Ideal.nD Cert.QkvDx0Ideal.τ).loc Cert.QkvDx0Ideal.main_arg1))
      ∧ θ_run (Cert.QkvDx0RefIdeal.defs (F := Ideal)) (onTc (τ := Cert.QkvDx0RefIdeal.τ) (Cert.QkvDx0RefIdeal.main (F := Ideal))) ⟨m', fun _ => 0, g'⟩ (fun r => ∀ c : Dev Cert.QkvDx0RefIdeal.nD,
          r.2.mem ((c.tc : Thread Cert.QkvDx0RefIdeal.nD Cert.QkvDx0RefIdeal.τ).loc Cert.QkvDx0RefIdeal.main_v12) = v0 c
          ∧ r.2.mem ((c.tc : Thread Cert.QkvDx0RefIdeal.nD Cert.QkvDx0RefIdeal.τ).loc Cert.QkvDx0RefIdeal.main_arg0) = m' ((c.tc : Thread Cert.QkvDx0RefIdeal.nD Cert.QkvDx0RefIdeal.τ).loc Cert.QkvDx0RefIdeal.main_arg0)
          ∧ r.2.mem ((c.tc : Thread Cert.QkvDx0RefIdeal.nD Cert.QkvDx0RefIdeal.τ).loc Cert.QkvDx0RefIdeal.main_arg1) = m' ((c.tc : Thread Cert.QkvDx0RefIdeal.nD Cert.QkvDx0RefIdeal.τ).loc Cert.QkvDx0RefIdeal.main_arg1))

def preserves_QkvDx1_QkvDx1Ideal : Prop :=
  True

def algebraic_QkvDx1Ideal_QkvDx1RefIdeal [hQkvDx1Ideal : Cert.QkvDx1Ideal.Facts] [hQkvDx1RefIdeal : Cert.QkvDx1RefIdeal.Facts] : Prop :=
  ∀ (m : (ℓ : Loc Cert.QkvDx1Ideal.nD Cert.QkvDx1Ideal.τ Cert.QkvDx1Ideal.sig) → Buf (Elt Ideal) ℓ) (g : Dev Cert.QkvDx1Ideal.nD → PrngReg)
    (m' : (ℓ : Loc Cert.QkvDx1RefIdeal.nD Cert.QkvDx1RefIdeal.τ Cert.QkvDx1RefIdeal.sig) → Buf (Elt Ideal) ℓ) (g' : Dev Cert.QkvDx1RefIdeal.nD → PrngReg), Pre_QkvDx1Ideal m →
    (∀ c : Dev Cert.QkvDx1Ideal.nD,
      m' ((c.tc : Thread Cert.QkvDx1RefIdeal.nD Cert.QkvDx1RefIdeal.τ).loc Cert.QkvDx1RefIdeal.main_arg0) = m ((c.tc : Thread Cert.QkvDx1Ideal.nD Cert.QkvDx1Ideal.τ).loc Cert.QkvDx1Ideal.main_arg0)
      ∧ m' ((c.tc : Thread Cert.QkvDx1RefIdeal.nD Cert.QkvDx1RefIdeal.τ).loc Cert.QkvDx1RefIdeal.main_arg1) = m ((c.tc : Thread Cert.QkvDx1Ideal.nD Cert.QkvDx1Ideal.τ).loc Cert.QkvDx1Ideal.main_arg1)) →
    ∃ (v0 : (c : Dev Cert.QkvDx1Ideal.nD) → Buf (Elt Ideal) ((c.tc : Thread Cert.QkvDx1Ideal.nD Cert.QkvDx1Ideal.τ).loc Cert.QkvDx1Ideal.main_v0)),
      θ_run (Cert.QkvDx1Ideal.defs (F := Ideal)) (onTc (τ := Cert.QkvDx1Ideal.τ) (Cert.QkvDx1Ideal.main (F := Ideal))) ⟨m, fun _ => 0, g⟩ (fun r => ∀ c : Dev Cert.QkvDx1Ideal.nD,
          r.2.mem ((c.tc : Thread Cert.QkvDx1Ideal.nD Cert.QkvDx1Ideal.τ).loc Cert.QkvDx1Ideal.main_v0) = v0 c
          ∧ r.2.mem ((c.tc : Thread Cert.QkvDx1Ideal.nD Cert.QkvDx1Ideal.τ).loc Cert.QkvDx1Ideal.main_arg0) = m ((c.tc : Thread Cert.QkvDx1Ideal.nD Cert.QkvDx1Ideal.τ).loc Cert.QkvDx1Ideal.main_arg0)
          ∧ r.2.mem ((c.tc : Thread Cert.QkvDx1Ideal.nD Cert.QkvDx1Ideal.τ).loc Cert.QkvDx1Ideal.main_arg1) = m ((c.tc : Thread Cert.QkvDx1Ideal.nD Cert.QkvDx1Ideal.τ).loc Cert.QkvDx1Ideal.main_arg1))
      ∧ θ_run (Cert.QkvDx1RefIdeal.defs (F := Ideal)) (onTc (τ := Cert.QkvDx1RefIdeal.τ) (Cert.QkvDx1RefIdeal.main (F := Ideal))) ⟨m', fun _ => 0, g'⟩ (fun r => ∀ c : Dev Cert.QkvDx1RefIdeal.nD,
          r.2.mem ((c.tc : Thread Cert.QkvDx1RefIdeal.nD Cert.QkvDx1RefIdeal.τ).loc Cert.QkvDx1RefIdeal.main_v12) = v0 c
          ∧ r.2.mem ((c.tc : Thread Cert.QkvDx1RefIdeal.nD Cert.QkvDx1RefIdeal.τ).loc Cert.QkvDx1RefIdeal.main_arg0) = m' ((c.tc : Thread Cert.QkvDx1RefIdeal.nD Cert.QkvDx1RefIdeal.τ).loc Cert.QkvDx1RefIdeal.main_arg0)
          ∧ r.2.mem ((c.tc : Thread Cert.QkvDx1RefIdeal.nD Cert.QkvDx1RefIdeal.τ).loc Cert.QkvDx1RefIdeal.main_arg1) = m' ((c.tc : Thread Cert.QkvDx1RefIdeal.nD Cert.QkvDx1RefIdeal.τ).loc Cert.QkvDx1RefIdeal.main_arg1))

def preserves_QkvDx2_QkvDx2Ideal : Prop :=
  True

def algebraic_QkvDx2Ideal_QkvDx2RefIdeal [hQkvDx2Ideal : Cert.QkvDx2Ideal.Facts] [hQkvDx2RefIdeal : Cert.QkvDx2RefIdeal.Facts] : Prop :=
  ∀ (m : (ℓ : Loc Cert.QkvDx2Ideal.nD Cert.QkvDx2Ideal.τ Cert.QkvDx2Ideal.sig) → Buf (Elt Ideal) ℓ) (g : Dev Cert.QkvDx2Ideal.nD → PrngReg)
    (m' : (ℓ : Loc Cert.QkvDx2RefIdeal.nD Cert.QkvDx2RefIdeal.τ Cert.QkvDx2RefIdeal.sig) → Buf (Elt Ideal) ℓ) (g' : Dev Cert.QkvDx2RefIdeal.nD → PrngReg), Pre_QkvDx2Ideal m →
    (∀ c : Dev Cert.QkvDx2Ideal.nD,
      m' ((c.tc : Thread Cert.QkvDx2RefIdeal.nD Cert.QkvDx2RefIdeal.τ).loc Cert.QkvDx2RefIdeal.main_arg0) = m ((c.tc : Thread Cert.QkvDx2Ideal.nD Cert.QkvDx2Ideal.τ).loc Cert.QkvDx2Ideal.main_arg0)
      ∧ m' ((c.tc : Thread Cert.QkvDx2RefIdeal.nD Cert.QkvDx2RefIdeal.τ).loc Cert.QkvDx2RefIdeal.main_arg1) = m ((c.tc : Thread Cert.QkvDx2Ideal.nD Cert.QkvDx2Ideal.τ).loc Cert.QkvDx2Ideal.main_arg1)) →
    ∃ (v0 : (c : Dev Cert.QkvDx2Ideal.nD) → Buf (Elt Ideal) ((c.tc : Thread Cert.QkvDx2Ideal.nD Cert.QkvDx2Ideal.τ).loc Cert.QkvDx2Ideal.main_v0)),
      θ_run (Cert.QkvDx2Ideal.defs (F := Ideal)) (onTc (τ := Cert.QkvDx2Ideal.τ) (Cert.QkvDx2Ideal.main (F := Ideal))) ⟨m, fun _ => 0, g⟩ (fun r => ∀ c : Dev Cert.QkvDx2Ideal.nD,
          r.2.mem ((c.tc : Thread Cert.QkvDx2Ideal.nD Cert.QkvDx2Ideal.τ).loc Cert.QkvDx2Ideal.main_v0) = v0 c
          ∧ r.2.mem ((c.tc : Thread Cert.QkvDx2Ideal.nD Cert.QkvDx2Ideal.τ).loc Cert.QkvDx2Ideal.main_arg0) = m ((c.tc : Thread Cert.QkvDx2Ideal.nD Cert.QkvDx2Ideal.τ).loc Cert.QkvDx2Ideal.main_arg0)
          ∧ r.2.mem ((c.tc : Thread Cert.QkvDx2Ideal.nD Cert.QkvDx2Ideal.τ).loc Cert.QkvDx2Ideal.main_arg1) = m ((c.tc : Thread Cert.QkvDx2Ideal.nD Cert.QkvDx2Ideal.τ).loc Cert.QkvDx2Ideal.main_arg1))
      ∧ θ_run (Cert.QkvDx2RefIdeal.defs (F := Ideal)) (onTc (τ := Cert.QkvDx2RefIdeal.τ) (Cert.QkvDx2RefIdeal.main (F := Ideal))) ⟨m', fun _ => 0, g'⟩ (fun r => ∀ c : Dev Cert.QkvDx2RefIdeal.nD,
          r.2.mem ((c.tc : Thread Cert.QkvDx2RefIdeal.nD Cert.QkvDx2RefIdeal.τ).loc Cert.QkvDx2RefIdeal.main_v12) = v0 c
          ∧ r.2.mem ((c.tc : Thread Cert.QkvDx2RefIdeal.nD Cert.QkvDx2RefIdeal.τ).loc Cert.QkvDx2RefIdeal.main_arg0) = m' ((c.tc : Thread Cert.QkvDx2RefIdeal.nD Cert.QkvDx2RefIdeal.τ).loc Cert.QkvDx2RefIdeal.main_arg0)
          ∧ r.2.mem ((c.tc : Thread Cert.QkvDx2RefIdeal.nD Cert.QkvDx2RefIdeal.τ).loc Cert.QkvDx2RefIdeal.main_arg1) = m' ((c.tc : Thread Cert.QkvDx2RefIdeal.nD Cert.QkvDx2RefIdeal.τ).loc Cert.QkvDx2RefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v17) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v56) = v0 c
          ∧ r.2.mem ((c.tc : Thread Cert.GateBwdRefIdeal.nD Cert.GateBwdRefIdeal.τ).loc Cert.GateBwdRefIdeal.main_v42) = v1 c
          ∧ r.2.mem ((c.tc : Thread Cert.GateBwdRefIdeal.nD Cert.GateBwdRefIdeal.τ).loc Cert.GateBwdRefIdeal.main_v40) = v2 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v24) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v49) = v0 c
          ∧ r.2.mem ((c.tc : Thread Cert.LossRefIdeal.nD Cert.LossRefIdeal.τ).loc Cert.LossRefIdeal.main_v48) = v1 c
          ∧ r.2.mem ((c.tc : Thread Cert.LossRefIdeal.nD Cert.LossRefIdeal.τ).loc Cert.LossRefIdeal.main_v32) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v27) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_ConvFwd1_ConvFwd1Ideal : Prop :=
  True

def algebraic_ConvFwd1Ideal_ConvFwd1RefIdeal [hConvFwd1Ideal : Cert.ConvFwd1Ideal.Facts] [hConvFwd1RefIdeal : Cert.ConvFwd1RefIdeal.Facts] : Prop :=
  ∀ (m : (ℓ : Loc Cert.ConvFwd1Ideal.nD Cert.ConvFwd1Ideal.τ Cert.ConvFwd1Ideal.sig) → Buf (Elt Ideal) ℓ) (g : Dev Cert.ConvFwd1Ideal.nD → PrngReg)
    (m' : (ℓ : Loc Cert.ConvFwd1RefIdeal.nD Cert.ConvFwd1RefIdeal.τ Cert.ConvFwd1RefIdeal.sig) → Buf (Elt Ideal) ℓ) (g' : Dev Cert.ConvFwd1RefIdeal.nD → PrngReg), Pre_ConvFwd1Ideal m →
    (∀ c : Dev Cert.ConvFwd1Ideal.nD,
      m' ((c.tc : Thread Cert.ConvFwd1RefIdeal.nD Cert.ConvFwd1RefIdeal.τ).loc Cert.ConvFwd1RefIdeal.main_arg0) = m ((c.tc : Thread Cert.ConvFwd1Ideal.nD Cert.ConvFwd1Ideal.τ).loc Cert.ConvFwd1Ideal.main_arg0)
      ∧ m' ((c.tc : Thread Cert.ConvFwd1RefIdeal.nD Cert.ConvFwd1RefIdeal.τ).loc Cert.ConvFwd1RefIdeal.main_arg1) = m ((c.tc : Thread Cert.ConvFwd1Ideal.nD Cert.ConvFwd1Ideal.τ).loc Cert.ConvFwd1Ideal.main_arg1)
      ∧ m' ((c.tc : Thread Cert.ConvFwd1RefIdeal.nD Cert.ConvFwd1RefIdeal.τ).loc Cert.ConvFwd1RefIdeal.main_arg2) = m ((c.tc : Thread Cert.ConvFwd1Ideal.nD Cert.ConvFwd1Ideal.τ).loc Cert.ConvFwd1Ideal.main_arg2)) →
    ∃ (v0 : (c : Dev Cert.ConvFwd1Ideal.nD) → Buf (Elt Ideal) ((c.tc : Thread Cert.ConvFwd1Ideal.nD Cert.ConvFwd1Ideal.τ).loc Cert.ConvFwd1Ideal.main_v0)),
      θ_run (Cert.ConvFwd1Ideal.defs (F := Ideal)) (onTc (τ := Cert.ConvFwd1Ideal.τ) (Cert.ConvFwd1Ideal.main (F := Ideal))) ⟨m, fun _ => 0, g⟩ (fun r => ∀ c : Dev Cert.ConvFwd1Ideal.nD,
          r.2.mem ((c.tc : Thread Cert.ConvFwd1Ideal.nD Cert.ConvFwd1Ideal.τ).loc Cert.ConvFwd1Ideal.main_v0) = v0 c
          ∧ r.2.mem ((c.tc : Thread Cert.ConvFwd1Ideal.nD Cert.ConvFwd1Ideal.τ).loc Cert.ConvFwd1Ideal.main_arg0) = m ((c.tc : Thread Cert.ConvFwd1Ideal.nD Cert.ConvFwd1Ideal.τ).loc Cert.ConvFwd1Ideal.main_arg0)
          ∧ r.2.mem ((c.tc : Thread Cert.ConvFwd1Ideal.nD Cert.ConvFwd1Ideal.τ).loc Cert.ConvFwd1Ideal.main_arg1) = m ((c.tc : Thread Cert.ConvFwd1Ideal.nD Cert.ConvFwd1Ideal.τ).loc Cert.ConvFwd1Ideal.main_arg1)
          ∧ r.2.mem ((c.tc : Thread Cert.ConvFwd1Ideal.nD Cert.ConvFwd1Ideal.τ).loc Cert.ConvFwd1Ideal.main_arg2) = m ((c.tc : Thread Cert.ConvFwd1Ideal.nD Cert.ConvFwd1Ideal.τ).loc Cert.ConvFwd1Ideal.main_arg2))
      ∧ θ_run (Cert.ConvFwd1RefIdeal.defs (F := Ideal)) (onTc (τ := Cert.ConvFwd1RefIdeal.τ) (Cert.ConvFwd1RefIdeal.main (F := Ideal))) ⟨m', fun _ => 0, g'⟩ (fun r => ∀ c : Dev Cert.ConvFwd1RefIdeal.nD,
          r.2.mem ((c.tc : Thread Cert.ConvFwd1RefIdeal.nD Cert.ConvFwd1RefIdeal.τ).loc Cert.ConvFwd1RefIdeal.main_v27) = v0 c
          ∧ r.2.mem ((c.tc : Thread Cert.ConvFwd1RefIdeal.nD Cert.ConvFwd1RefIdeal.τ).loc Cert.ConvFwd1RefIdeal.main_arg0) = m' ((c.tc : Thread Cert.ConvFwd1RefIdeal.nD Cert.ConvFwd1RefIdeal.τ).loc Cert.ConvFwd1RefIdeal.main_arg0)
          ∧ r.2.mem ((c.tc : Thread Cert.ConvFwd1RefIdeal.nD Cert.ConvFwd1RefIdeal.τ).loc Cert.ConvFwd1RefIdeal.main_arg1) = m' ((c.tc : Thread Cert.ConvFwd1RefIdeal.nD Cert.ConvFwd1RefIdeal.τ).loc Cert.ConvFwd1RefIdeal.main_arg1)
          ∧ r.2.mem ((c.tc : Thread Cert.ConvFwd1RefIdeal.nD Cert.ConvFwd1RefIdeal.τ).loc Cert.ConvFwd1RefIdeal.main_arg2) = m' ((c.tc : Thread Cert.ConvFwd1RefIdeal.nD Cert.ConvFwd1RefIdeal.τ).loc Cert.ConvFwd1RefIdeal.main_arg2))

def preserves_ParamsFwd_ParamsFwdIdeal : Prop :=
  True

def algebraic_ParamsFwdIdeal_ParamsFwdRefIdeal [hParamsFwdIdeal : Cert.ParamsFwdIdeal.Facts] [hParamsFwdRefIdeal : Cert.ParamsFwdRefIdeal.Facts] : Prop :=
  ∀ (m : (ℓ : Loc Cert.ParamsFwdIdeal.nD Cert.ParamsFwdIdeal.τ Cert.ParamsFwdIdeal.sig) → Buf (Elt Ideal) ℓ) (g : Dev Cert.ParamsFwdIdeal.nD → PrngReg)
    (m' : (ℓ : Loc Cert.ParamsFwdRefIdeal.nD Cert.ParamsFwdRefIdeal.τ Cert.ParamsFwdRefIdeal.sig) → Buf (Elt Ideal) ℓ) (g' : Dev Cert.ParamsFwdRefIdeal.nD → PrngReg), Pre_ParamsFwdIdeal m →
    (∀ c : Dev Cert.ParamsFwdIdeal.nD,
      m' ((c.tc : Thread Cert.ParamsFwdRefIdeal.nD Cert.ParamsFwdRefIdeal.τ).loc Cert.ParamsFwdRefIdeal.main_arg0) = m ((c.tc : Thread Cert.ParamsFwdIdeal.nD Cert.ParamsFwdIdeal.τ).loc Cert.ParamsFwdIdeal.main_arg0)
      ∧ m' ((c.tc : Thread Cert.ParamsFwdRefIdeal.nD Cert.ParamsFwdRefIdeal.τ).loc Cert.ParamsFwdRefIdeal.main_arg1) = m ((c.tc : Thread Cert.ParamsFwdIdeal.nD Cert.ParamsFwdIdeal.τ).loc Cert.ParamsFwdIdeal.main_arg1)
      ∧ m' ((c.tc : Thread Cert.ParamsFwdRefIdeal.nD Cert.ParamsFwdRefIdeal.τ).loc Cert.ParamsFwdRefIdeal.main_arg2) = m ((c.tc : Thread Cert.ParamsFwdIdeal.nD Cert.ParamsFwdIdeal.τ).loc Cert.ParamsFwdIdeal.main_arg2)
      ∧ m' ((c.tc : Thread Cert.ParamsFwdRefIdeal.nD Cert.ParamsFwdRefIdeal.τ).loc Cert.ParamsFwdRefIdeal.main_arg3) = m ((c.tc : Thread Cert.ParamsFwdIdeal.nD Cert.ParamsFwdIdeal.τ).loc Cert.ParamsFwdIdeal.main_arg3)
      ∧ m' ((c.tc : Thread Cert.ParamsFwdRefIdeal.nD Cert.ParamsFwdRefIdeal.τ).loc Cert.ParamsFwdRefIdeal.main_arg4) = m ((c.tc : Thread Cert.ParamsFwdIdeal.nD Cert.ParamsFwdIdeal.τ).loc Cert.ParamsFwdIdeal.main_arg4)
      ∧ m' ((c.tc : Thread Cert.ParamsFwdRefIdeal.nD Cert.ParamsFwdRefIdeal.τ).loc Cert.ParamsFwdRefIdeal.main_arg5) = m ((c.tc : Thread Cert.ParamsFwdIdeal.nD Cert.ParamsFwdIdeal.τ).loc Cert.ParamsFwdIdeal.main_arg5)
      ∧ m' ((c.tc : Thread Cert.ParamsFwdRefIdeal.nD Cert.ParamsFwdRefIdeal.τ).loc Cert.ParamsFwdRefIdeal.main_arg6) = m ((c.tc : Thread Cert.ParamsFwdIdeal.nD Cert.ParamsFwdIdeal.τ).loc Cert.ParamsFwdIdeal.main_arg6)) →
    ∃ (v0 : (c : Dev Cert.ParamsFwdIdeal.nD) → Buf (Elt Ideal) ((c.tc : Thread Cert.ParamsFwdIdeal.nD Cert.ParamsFwdIdeal.τ).loc Cert.ParamsFwdIdeal.main_v0_0)) (v1 : (c : Dev Cert.ParamsFwdIdeal.nD) → Buf (Elt Ideal) ((c.tc : Thread Cert.ParamsFwdIdeal.nD Cert.ParamsFwdIdeal.τ).loc Cert.ParamsFwdIdeal.main_v0_1)) (v2 : (c : Dev Cert.ParamsFwdIdeal.nD) → Buf (Elt Ideal) ((c.tc : Thread Cert.ParamsFwdIdeal.nD Cert.ParamsFwdIdeal.τ).loc Cert.ParamsFwdIdeal.main_v0_2)) (v3 : (c : Dev Cert.ParamsFwdIdeal.nD) → Buf (Elt Ideal) ((c.tc : Thread Cert.ParamsFwdIdeal.nD Cert.ParamsFwdIdeal.τ).loc Cert.ParamsFwdIdeal.main_v0_3)) (v4 : (c : Dev Cert.ParamsFwdIdeal.nD) → Buf (Elt Ideal) ((c.tc : Thread Cert.ParamsFwdIdeal.nD Cert.ParamsFwdIdeal.τ).loc Cert.ParamsFwdIdeal.main_v0_4)) (v5 : (c : Dev Cert.ParamsFwdIdeal.nD) → Buf (Elt Ideal) ((c.tc : Thread Cert.ParamsFwdIdeal.nD Cert.ParamsFwdIdeal.τ).loc Cert.ParamsFwdIdeal.main_v0_5)),
      θ_run (Cert.ParamsFwdIdeal.defs (F := Ideal)) (onTc (τ := Cert.ParamsFwdIdeal.τ) (Cert.ParamsFwdIdeal.main (F := Ideal))) ⟨m, fun _ => 0, g⟩ (fun r => ∀ c : Dev Cert.ParamsFwdIdeal.nD,
          r.2.mem ((c.tc : Thread Cert.ParamsFwdIdeal.nD Cert.ParamsFwdIdeal.τ).loc Cert.ParamsFwdIdeal.main_v0_0) = v0 c
          ∧ r.2.mem ((c.tc : Thread Cert.ParamsFwdIdeal.nD Cert.ParamsFwdIdeal.τ).loc Cert.ParamsFwdIdeal.main_v0_1) = v1 c
          ∧ r.2.mem ((c.tc : Thread Cert.ParamsFwdIdeal.nD Cert.ParamsFwdIdeal.τ).loc Cert.ParamsFwdIdeal.main_v0_2) = v2 c
          ∧ r.2.mem ((c.tc : Thread Cert.ParamsFwdIdeal.nD Cert.ParamsFwdIdeal.τ).loc Cert.ParamsFwdIdeal.main_v0_3) = v3 c
          ∧ r.2.mem ((c.tc : Thread Cert.ParamsFwdIdeal.nD Cert.ParamsFwdIdeal.τ).loc Cert.ParamsFwdIdeal.main_v0_4) = v4 c
          ∧ r.2.mem ((c.tc : Thread Cert.ParamsFwdIdeal.nD Cert.ParamsFwdIdeal.τ).loc Cert.ParamsFwdIdeal.main_v0_5) = v5 c
          ∧ r.2.mem ((c.tc : Thread Cert.ParamsFwdIdeal.nD Cert.ParamsFwdIdeal.τ).loc Cert.ParamsFwdIdeal.main_arg0) = m ((c.tc : Thread Cert.ParamsFwdIdeal.nD Cert.ParamsFwdIdeal.τ).loc Cert.ParamsFwdIdeal.main_arg0)
          ∧ r.2.mem ((c.tc : Thread Cert.ParamsFwdIdeal.nD Cert.ParamsFwdIdeal.τ).loc Cert.ParamsFwdIdeal.main_arg1) = m ((c.tc : Thread Cert.ParamsFwdIdeal.nD Cert.ParamsFwdIdeal.τ).loc Cert.ParamsFwdIdeal.main_arg1)
          ∧ r.2.mem ((c.tc : Thread Cert.ParamsFwdIdeal.nD Cert.ParamsFwdIdeal.τ).loc Cert.ParamsFwdIdeal.main_arg2) = m ((c.tc : Thread Cert.ParamsFwdIdeal.nD Cert.ParamsFwdIdeal.τ).loc Cert.ParamsFwdIdeal.main_arg2)
          ∧ r.2.mem ((c.tc : Thread Cert.ParamsFwdIdeal.nD Cert.ParamsFwdIdeal.τ).loc Cert.ParamsFwdIdeal.main_arg3) = m ((c.tc : Thread Cert.ParamsFwdIdeal.nD Cert.ParamsFwdIdeal.τ).loc Cert.ParamsFwdIdeal.main_arg3)
          ∧ r.2.mem ((c.tc : Thread Cert.ParamsFwdIdeal.nD Cert.ParamsFwdIdeal.τ).loc Cert.ParamsFwdIdeal.main_arg4) = m ((c.tc : Thread Cert.ParamsFwdIdeal.nD Cert.ParamsFwdIdeal.τ).loc Cert.ParamsFwdIdeal.main_arg4)
          ∧ r.2.mem ((c.tc : Thread Cert.ParamsFwdIdeal.nD Cert.ParamsFwdIdeal.τ).loc Cert.ParamsFwdIdeal.main_arg5) = m ((c.tc : Thread Cert.ParamsFwdIdeal.nD Cert.ParamsFwdIdeal.τ).loc Cert.ParamsFwdIdeal.main_arg5)
          ∧ r.2.mem ((c.tc : Thread Cert.ParamsFwdIdeal.nD Cert.ParamsFwdIdeal.τ).loc Cert.ParamsFwdIdeal.main_arg6) = m ((c.tc : Thread Cert.ParamsFwdIdeal.nD Cert.ParamsFwdIdeal.τ).loc Cert.ParamsFwdIdeal.main_arg6))
      ∧ θ_run (Cert.ParamsFwdRefIdeal.defs (F := Ideal)) (onTc (τ := Cert.ParamsFwdRefIdeal.τ) (Cert.ParamsFwdRefIdeal.main (F := Ideal))) ⟨m', fun _ => 0, g'⟩ (fun r => ∀ c : Dev Cert.ParamsFwdRefIdeal.nD,
          r.2.mem ((c.tc : Thread Cert.ParamsFwdRefIdeal.nD Cert.ParamsFwdRefIdeal.τ).loc Cert.ParamsFwdRefIdeal.main_v47) = v0 c
          ∧ r.2.mem ((c.tc : Thread Cert.ParamsFwdRefIdeal.nD Cert.ParamsFwdRefIdeal.τ).loc Cert.ParamsFwdRefIdeal.main_v60) = v1 c
          ∧ r.2.mem ((c.tc : Thread Cert.ParamsFwdRefIdeal.nD Cert.ParamsFwdRefIdeal.τ).loc Cert.ParamsFwdRefIdeal.main_v73) = v2 c
          ∧ r.2.mem ((c.tc : Thread Cert.ParamsFwdRefIdeal.nD Cert.ParamsFwdRefIdeal.τ).loc Cert.ParamsFwdRefIdeal.main_v86) = v3 c
          ∧ r.2.mem ((c.tc : Thread Cert.ParamsFwdRefIdeal.nD Cert.ParamsFwdRefIdeal.τ).loc Cert.ParamsFwdRefIdeal.main_v87) = v4 c
          ∧ r.2.mem ((c.tc : Thread Cert.ParamsFwdRefIdeal.nD Cert.ParamsFwdRefIdeal.τ).loc Cert.ParamsFwdRefIdeal.main_v88) = v5 c
          ∧ r.2.mem ((c.tc : Thread Cert.ParamsFwdRefIdeal.nD Cert.ParamsFwdRefIdeal.τ).loc Cert.ParamsFwdRefIdeal.main_arg0) = m' ((c.tc : Thread Cert.ParamsFwdRefIdeal.nD Cert.ParamsFwdRefIdeal.τ).loc Cert.ParamsFwdRefIdeal.main_arg0)
          ∧ r.2.mem ((c.tc : Thread Cert.ParamsFwdRefIdeal.nD Cert.ParamsFwdRefIdeal.τ).loc Cert.ParamsFwdRefIdeal.main_arg1) = m' ((c.tc : Thread Cert.ParamsFwdRefIdeal.nD Cert.ParamsFwdRefIdeal.τ).loc Cert.ParamsFwdRefIdeal.main_arg1)
          ∧ r.2.mem ((c.tc : Thread Cert.ParamsFwdRefIdeal.nD Cert.ParamsFwdRefIdeal.τ).loc Cert.ParamsFwdRefIdeal.main_arg2) = m' ((c.tc : Thread Cert.ParamsFwdRefIdeal.nD Cert.ParamsFwdRefIdeal.τ).loc Cert.ParamsFwdRefIdeal.main_arg2)
          ∧ r.2.mem ((c.tc : Thread Cert.ParamsFwdRefIdeal.nD Cert.ParamsFwdRefIdeal.τ).loc Cert.ParamsFwdRefIdeal.main_arg3) = m' ((c.tc : Thread Cert.ParamsFwdRefIdeal.nD Cert.ParamsFwdRefIdeal.τ).loc Cert.ParamsFwdRefIdeal.main_arg3)
          ∧ r.2.mem ((c.tc : Thread Cert.ParamsFwdRefIdeal.nD Cert.ParamsFwdRefIdeal.τ).loc Cert.ParamsFwdRefIdeal.main_arg4) = m' ((c.tc : Thread Cert.ParamsFwdRefIdeal.nD Cert.ParamsFwdRefIdeal.τ).loc Cert.ParamsFwdRefIdeal.main_arg4)
          ∧ r.2.mem ((c.tc : Thread Cert.ParamsFwdRefIdeal.nD Cert.ParamsFwdRefIdeal.τ).loc Cert.ParamsFwdRefIdeal.main_arg5) = m' ((c.tc : Thread Cert.ParamsFwdRefIdeal.nD Cert.ParamsFwdRefIdeal.τ).loc Cert.ParamsFwdRefIdeal.main_arg5)
          ∧ r.2.mem ((c.tc : Thread Cert.ParamsFwdRefIdeal.nD Cert.ParamsFwdRefIdeal.τ).loc Cert.ParamsFwdRefIdeal.main_arg6) = m' ((c.tc : Thread Cert.ParamsFwdRefIdeal.nD Cert.ParamsFwdRefIdeal.τ).loc Cert.ParamsFwdRefIdeal.main_arg6))

def preserves_ParamsBwd_ParamsBwdIdeal : Prop :=
  True

def algebraic_ParamsBwdIdeal_ParamsBwdRefIdeal [hParamsBwdIdeal : Cert.ParamsBwdIdeal.Facts] [hParamsBwdRefIdeal : Cert.ParamsBwdRefIdeal.Facts] : Prop :=
  ∀ (m : (ℓ : Loc Cert.ParamsBwdIdeal.nD Cert.ParamsBwdIdeal.τ Cert.ParamsBwdIdeal.sig) → Buf (Elt Ideal) ℓ) (g : Dev Cert.ParamsBwdIdeal.nD → PrngReg)
    (m' : (ℓ : Loc Cert.ParamsBwdRefIdeal.nD Cert.ParamsBwdRefIdeal.τ Cert.ParamsBwdRefIdeal.sig) → Buf (Elt Ideal) ℓ) (g' : Dev Cert.ParamsBwdRefIdeal.nD → PrngReg), Pre_ParamsBwdIdeal m →
    (∀ c : Dev Cert.ParamsBwdIdeal.nD,
      m' ((c.tc : Thread Cert.ParamsBwdRefIdeal.nD Cert.ParamsBwdRefIdeal.τ).loc Cert.ParamsBwdRefIdeal.main_arg0) = m ((c.tc : Thread Cert.ParamsBwdIdeal.nD Cert.ParamsBwdIdeal.τ).loc Cert.ParamsBwdIdeal.main_arg0)
      ∧ m' ((c.tc : Thread Cert.ParamsBwdRefIdeal.nD Cert.ParamsBwdRefIdeal.τ).loc Cert.ParamsBwdRefIdeal.main_arg1) = m ((c.tc : Thread Cert.ParamsBwdIdeal.nD Cert.ParamsBwdIdeal.τ).loc Cert.ParamsBwdIdeal.main_arg1)
      ∧ m' ((c.tc : Thread Cert.ParamsBwdRefIdeal.nD Cert.ParamsBwdRefIdeal.τ).loc Cert.ParamsBwdRefIdeal.main_arg2) = m ((c.tc : Thread Cert.ParamsBwdIdeal.nD Cert.ParamsBwdIdeal.τ).loc Cert.ParamsBwdIdeal.main_arg2)
      ∧ m' ((c.tc : Thread Cert.ParamsBwdRefIdeal.nD Cert.ParamsBwdRefIdeal.τ).loc Cert.ParamsBwdRefIdeal.main_arg3) = m ((c.tc : Thread Cert.ParamsBwdIdeal.nD Cert.ParamsBwdIdeal.τ).loc Cert.ParamsBwdIdeal.main_arg3)
      ∧ m' ((c.tc : Thread Cert.ParamsBwdRefIdeal.nD Cert.ParamsBwdRefIdeal.τ).loc Cert.ParamsBwdRefIdeal.main_arg4) = m ((c.tc : Thread Cert.ParamsBwdIdeal.nD Cert.ParamsBwdIdeal.τ).loc Cert.ParamsBwdIdeal.main_arg4)
      ∧ m' ((c.tc : Thread Cert.ParamsBwdRefIdeal.nD Cert.ParamsBwdRefIdeal.τ).loc Cert.ParamsBwdRefIdeal.main_arg5) = m ((c.tc : Thread Cert.ParamsBwdIdeal.nD Cert.ParamsBwdIdeal.τ).loc Cert.ParamsBwdIdeal.main_arg5)
      ∧ m' ((c.tc : Thread Cert.ParamsBwdRefIdeal.nD Cert.ParamsBwdRefIdeal.τ).loc Cert.ParamsBwdRefIdeal.main_arg6) = m ((c.tc : Thread Cert.ParamsBwdIdeal.nD Cert.ParamsBwdIdeal.τ).loc Cert.ParamsBwdIdeal.main_arg6)
      ∧ m' ((c.tc : Thread Cert.ParamsBwdRefIdeal.nD Cert.ParamsBwdRefIdeal.τ).loc Cert.ParamsBwdRefIdeal.main_arg7) = m ((c.tc : Thread Cert.ParamsBwdIdeal.nD Cert.ParamsBwdIdeal.τ).loc Cert.ParamsBwdIdeal.main_arg7)
      ∧ m' ((c.tc : Thread Cert.ParamsBwdRefIdeal.nD Cert.ParamsBwdRefIdeal.τ).loc Cert.ParamsBwdRefIdeal.main_arg8) = m ((c.tc : Thread Cert.ParamsBwdIdeal.nD Cert.ParamsBwdIdeal.τ).loc Cert.ParamsBwdIdeal.main_arg8)
      ∧ m' ((c.tc : Thread Cert.ParamsBwdRefIdeal.nD Cert.ParamsBwdRefIdeal.τ).loc Cert.ParamsBwdRefIdeal.main_arg9) = m ((c.tc : Thread Cert.ParamsBwdIdeal.nD Cert.ParamsBwdIdeal.τ).loc Cert.ParamsBwdIdeal.main_arg9)
      ∧ m' ((c.tc : Thread Cert.ParamsBwdRefIdeal.nD Cert.ParamsBwdRefIdeal.τ).loc Cert.ParamsBwdRefIdeal.main_arg10) = m ((c.tc : Thread Cert.ParamsBwdIdeal.nD Cert.ParamsBwdIdeal.τ).loc Cert.ParamsBwdIdeal.main_arg10)
      ∧ m' ((c.tc : Thread Cert.ParamsBwdRefIdeal.nD Cert.ParamsBwdRefIdeal.τ).loc Cert.ParamsBwdRefIdeal.main_arg11) = m ((c.tc : Thread Cert.ParamsBwdIdeal.nD Cert.ParamsBwdIdeal.τ).loc Cert.ParamsBwdIdeal.main_arg11)
      ∧ m' ((c.tc : Thread Cert.ParamsBwdRefIdeal.nD Cert.ParamsBwdRefIdeal.τ).loc Cert.ParamsBwdRefIdeal.main_arg12) = m ((c.tc : Thread Cert.ParamsBwdIdeal.nD Cert.ParamsBwdIdeal.τ).loc Cert.ParamsBwdIdeal.main_arg12)) →
    ∃ (v0 : (c : Dev Cert.ParamsBwdIdeal.nD) → Buf (Elt Ideal) ((c.tc : Thread Cert.ParamsBwdIdeal.nD Cert.ParamsBwdIdeal.τ).loc Cert.ParamsBwdIdeal.main_v0_0)) (v1 : (c : Dev Cert.ParamsBwdIdeal.nD) → Buf (Elt Ideal) ((c.tc : Thread Cert.ParamsBwdIdeal.nD Cert.ParamsBwdIdeal.τ).loc Cert.ParamsBwdIdeal.main_v0_1)) (v2 : (c : Dev Cert.ParamsBwdIdeal.nD) → Buf (Elt Ideal) ((c.tc : Thread Cert.ParamsBwdIdeal.nD Cert.ParamsBwdIdeal.τ).loc Cert.ParamsBwdIdeal.main_v0_2)) (v3 : (c : Dev Cert.ParamsBwdIdeal.nD) → Buf (Elt Ideal) ((c.tc : Thread Cert.ParamsBwdIdeal.nD Cert.ParamsBwdIdeal.τ).loc Cert.ParamsBwdIdeal.main_v0_3)) (v4 : (c : Dev Cert.ParamsBwdIdeal.nD) → Buf (Elt Ideal) ((c.tc : Thread Cert.ParamsBwdIdeal.nD Cert.ParamsBwdIdeal.τ).loc Cert.ParamsBwdIdeal.main_v0_4)) (v5 : (c : Dev Cert.ParamsBwdIdeal.nD) → Buf (Elt Ideal) ((c.tc : Thread Cert.ParamsBwdIdeal.nD Cert.ParamsBwdIdeal.τ).loc Cert.ParamsBwdIdeal.main_v0_5)) (v6 : (c : Dev Cert.ParamsBwdIdeal.nD) → Buf (Elt Ideal) ((c.tc : Thread Cert.ParamsBwdIdeal.nD Cert.ParamsBwdIdeal.τ).loc Cert.ParamsBwdIdeal.main_v0_6)),
      θ_run (Cert.ParamsBwdIdeal.defs (F := Ideal)) (onTc (τ := Cert.ParamsBwdIdeal.τ) (Cert.ParamsBwdIdeal.main (F := Ideal))) ⟨m, fun _ => 0, g⟩ (fun r => ∀ c : Dev Cert.ParamsBwdIdeal.nD,
          r.2.mem ((c.tc : Thread Cert.ParamsBwdIdeal.nD Cert.ParamsBwdIdeal.τ).loc Cert.ParamsBwdIdeal.main_v0_0) = v0 c
          ∧ r.2.mem ((c.tc : Thread Cert.ParamsBwdIdeal.nD Cert.ParamsBwdIdeal.τ).loc Cert.ParamsBwdIdeal.main_v0_1) = v1 c
          ∧ r.2.mem ((c.tc : Thread Cert.ParamsBwdIdeal.nD Cert.ParamsBwdIdeal.τ).loc Cert.ParamsBwdIdeal.main_v0_2) = v2 c
          ∧ r.2.mem ((c.tc : Thread Cert.ParamsBwdIdeal.nD Cert.ParamsBwdIdeal.τ).loc Cert.ParamsBwdIdeal.main_v0_3) = v3 c
          ∧ r.2.mem ((c.tc : Thread Cert.ParamsBwdIdeal.nD Cert.ParamsBwdIdeal.τ).loc Cert.ParamsBwdIdeal.main_v0_4) = v4 c
          ∧ r.2.mem ((c.tc : Thread Cert.ParamsBwdIdeal.nD Cert.ParamsBwdIdeal.τ).loc Cert.ParamsBwdIdeal.main_v0_5) = v5 c
          ∧ r.2.mem ((c.tc : Thread Cert.ParamsBwdIdeal.nD Cert.ParamsBwdIdeal.τ).loc Cert.ParamsBwdIdeal.main_v0_6) = v6 c
          ∧ r.2.mem ((c.tc : Thread Cert.ParamsBwdIdeal.nD Cert.ParamsBwdIdeal.τ).loc Cert.ParamsBwdIdeal.main_arg0) = m ((c.tc : Thread Cert.ParamsBwdIdeal.nD Cert.ParamsBwdIdeal.τ).loc Cert.ParamsBwdIdeal.main_arg0)
          ∧ r.2.mem ((c.tc : Thread Cert.ParamsBwdIdeal.nD Cert.ParamsBwdIdeal.τ).loc Cert.ParamsBwdIdeal.main_arg1) = m ((c.tc : Thread Cert.ParamsBwdIdeal.nD Cert.ParamsBwdIdeal.τ).loc Cert.ParamsBwdIdeal.main_arg1)
          ∧ r.2.mem ((c.tc : Thread Cert.ParamsBwdIdeal.nD Cert.ParamsBwdIdeal.τ).loc Cert.ParamsBwdIdeal.main_arg2) = m ((c.tc : Thread Cert.ParamsBwdIdeal.nD Cert.ParamsBwdIdeal.τ).loc Cert.ParamsBwdIdeal.main_arg2)
          ∧ r.2.mem ((c.tc : Thread Cert.ParamsBwdIdeal.nD Cert.ParamsBwdIdeal.τ).loc Cert.ParamsBwdIdeal.main_arg3) = m ((c.tc : Thread Cert.ParamsBwdIdeal.nD Cert.ParamsBwdIdeal.τ).loc Cert.ParamsBwdIdeal.main_arg3)
          ∧ r.2.mem ((c.tc : Thread Cert.ParamsBwdIdeal.nD Cert.ParamsBwdIdeal.τ).loc Cert.ParamsBwdIdeal.main_arg4) = m ((c.tc : Thread Cert.ParamsBwdIdeal.nD Cert.ParamsBwdIdeal.τ).loc Cert.ParamsBwdIdeal.main_arg4)
          ∧ r.2.mem ((c.tc : Thread Cert.ParamsBwdIdeal.nD Cert.ParamsBwdIdeal.τ).loc Cert.ParamsBwdIdeal.main_arg5) = m ((c.tc : Thread Cert.ParamsBwdIdeal.nD Cert.ParamsBwdIdeal.τ).loc Cert.ParamsBwdIdeal.main_arg5)
          ∧ r.2.mem ((c.tc : Thread Cert.ParamsBwdIdeal.nD Cert.ParamsBwdIdeal.τ).loc Cert.ParamsBwdIdeal.main_arg6) = m ((c.tc : Thread Cert.ParamsBwdIdeal.nD Cert.ParamsBwdIdeal.τ).loc Cert.ParamsBwdIdeal.main_arg6)
          ∧ r.2.mem ((c.tc : Thread Cert.ParamsBwdIdeal.nD Cert.ParamsBwdIdeal.τ).loc Cert.ParamsBwdIdeal.main_arg7) = m ((c.tc : Thread Cert.ParamsBwdIdeal.nD Cert.ParamsBwdIdeal.τ).loc Cert.ParamsBwdIdeal.main_arg7)
          ∧ r.2.mem ((c.tc : Thread Cert.ParamsBwdIdeal.nD Cert.ParamsBwdIdeal.τ).loc Cert.ParamsBwdIdeal.main_arg8) = m ((c.tc : Thread Cert.ParamsBwdIdeal.nD Cert.ParamsBwdIdeal.τ).loc Cert.ParamsBwdIdeal.main_arg8)
          ∧ r.2.mem ((c.tc : Thread Cert.ParamsBwdIdeal.nD Cert.ParamsBwdIdeal.τ).loc Cert.ParamsBwdIdeal.main_arg9) = m ((c.tc : Thread Cert.ParamsBwdIdeal.nD Cert.ParamsBwdIdeal.τ).loc Cert.ParamsBwdIdeal.main_arg9)
          ∧ r.2.mem ((c.tc : Thread Cert.ParamsBwdIdeal.nD Cert.ParamsBwdIdeal.τ).loc Cert.ParamsBwdIdeal.main_arg10) = m ((c.tc : Thread Cert.ParamsBwdIdeal.nD Cert.ParamsBwdIdeal.τ).loc Cert.ParamsBwdIdeal.main_arg10)
          ∧ r.2.mem ((c.tc : Thread Cert.ParamsBwdIdeal.nD Cert.ParamsBwdIdeal.τ).loc Cert.ParamsBwdIdeal.main_arg11) = m ((c.tc : Thread Cert.ParamsBwdIdeal.nD Cert.ParamsBwdIdeal.τ).loc Cert.ParamsBwdIdeal.main_arg11)
          ∧ r.2.mem ((c.tc : Thread Cert.ParamsBwdIdeal.nD Cert.ParamsBwdIdeal.τ).loc Cert.ParamsBwdIdeal.main_arg12) = m ((c.tc : Thread Cert.ParamsBwdIdeal.nD Cert.ParamsBwdIdeal.τ).loc Cert.ParamsBwdIdeal.main_arg12))
      ∧ θ_run (Cert.ParamsBwdRefIdeal.defs (F := Ideal)) (onTc (τ := Cert.ParamsBwdRefIdeal.τ) (Cert.ParamsBwdRefIdeal.main (F := Ideal))) ⟨m', fun _ => 0, g'⟩ (fun r => ∀ c : Dev Cert.ParamsBwdRefIdeal.nD,
          r.2.mem ((c.tc : Thread Cert.ParamsBwdRefIdeal.nD Cert.ParamsBwdRefIdeal.τ).loc Cert.ParamsBwdRefIdeal.main_v187) = v0 c
          ∧ r.2.mem ((c.tc : Thread Cert.ParamsBwdRefIdeal.nD Cert.ParamsBwdRefIdeal.τ).loc Cert.ParamsBwdRefIdeal.main_v182) = v1 c
          ∧ r.2.mem ((c.tc : Thread Cert.ParamsBwdRefIdeal.nD Cert.ParamsBwdRefIdeal.τ).loc Cert.ParamsBwdRefIdeal.main_v192) = v2 c
          ∧ r.2.mem ((c.tc : Thread Cert.ParamsBwdRefIdeal.nD Cert.ParamsBwdRefIdeal.τ).loc Cert.ParamsBwdRefIdeal.main_v131) = v3 c
          ∧ r.2.mem ((c.tc : Thread Cert.ParamsBwdRefIdeal.nD Cert.ParamsBwdRefIdeal.τ).loc Cert.ParamsBwdRefIdeal.main_v124) = v4 c
          ∧ r.2.mem ((c.tc : Thread Cert.ParamsBwdRefIdeal.nD Cert.ParamsBwdRefIdeal.τ).loc Cert.ParamsBwdRefIdeal.main_v104) = v5 c
          ∧ r.2.mem ((c.tc : Thread Cert.ParamsBwdRefIdeal.nD Cert.ParamsBwdRefIdeal.τ).loc Cert.ParamsBwdRefIdeal.main_v101) = v6 c
          ∧ r.2.mem ((c.tc : Thread Cert.ParamsBwdRefIdeal.nD Cert.ParamsBwdRefIdeal.τ).loc Cert.ParamsBwdRefIdeal.main_arg0) = m' ((c.tc : Thread Cert.ParamsBwdRefIdeal.nD Cert.ParamsBwdRefIdeal.τ).loc Cert.ParamsBwdRefIdeal.main_arg0)
          ∧ r.2.mem ((c.tc : Thread Cert.ParamsBwdRefIdeal.nD Cert.ParamsBwdRefIdeal.τ).loc Cert.ParamsBwdRefIdeal.main_arg1) = m' ((c.tc : Thread Cert.ParamsBwdRefIdeal.nD Cert.ParamsBwdRefIdeal.τ).loc Cert.ParamsBwdRefIdeal.main_arg1)
          ∧ r.2.mem ((c.tc : Thread Cert.ParamsBwdRefIdeal.nD Cert.ParamsBwdRefIdeal.τ).loc Cert.ParamsBwdRefIdeal.main_arg2) = m' ((c.tc : Thread Cert.ParamsBwdRefIdeal.nD Cert.ParamsBwdRefIdeal.τ).loc Cert.ParamsBwdRefIdeal.main_arg2)
          ∧ r.2.mem ((c.tc : Thread Cert.ParamsBwdRefIdeal.nD Cert.ParamsBwdRefIdeal.τ).loc Cert.ParamsBwdRefIdeal.main_arg3) = m' ((c.tc : Thread Cert.ParamsBwdRefIdeal.nD Cert.ParamsBwdRefIdeal.τ).loc Cert.ParamsBwdRefIdeal.main_arg3)
          ∧ r.2.mem ((c.tc : Thread Cert.ParamsBwdRefIdeal.nD Cert.ParamsBwdRefIdeal.τ).loc Cert.ParamsBwdRefIdeal.main_arg4) = m' ((c.tc : Thread Cert.ParamsBwdRefIdeal.nD Cert.ParamsBwdRefIdeal.τ).loc Cert.ParamsBwdRefIdeal.main_arg4)
          ∧ r.2.mem ((c.tc : Thread Cert.ParamsBwdRefIdeal.nD Cert.ParamsBwdRefIdeal.τ).loc Cert.ParamsBwdRefIdeal.main_arg5) = m' ((c.tc : Thread Cert.ParamsBwdRefIdeal.nD Cert.ParamsBwdRefIdeal.τ).loc Cert.ParamsBwdRefIdeal.main_arg5)
          ∧ r.2.mem ((c.tc : Thread Cert.ParamsBwdRefIdeal.nD Cert.ParamsBwdRefIdeal.τ).loc Cert.ParamsBwdRefIdeal.main_arg6) = m' ((c.tc : Thread Cert.ParamsBwdRefIdeal.nD Cert.ParamsBwdRefIdeal.τ).loc Cert.ParamsBwdRefIdeal.main_arg6)
          ∧ r.2.mem ((c.tc : Thread Cert.ParamsBwdRefIdeal.nD Cert.ParamsBwdRefIdeal.τ).loc Cert.ParamsBwdRefIdeal.main_arg7) = m' ((c.tc : Thread Cert.ParamsBwdRefIdeal.nD Cert.ParamsBwdRefIdeal.τ).loc Cert.ParamsBwdRefIdeal.main_arg7)
          ∧ r.2.mem ((c.tc : Thread Cert.ParamsBwdRefIdeal.nD Cert.ParamsBwdRefIdeal.τ).loc Cert.ParamsBwdRefIdeal.main_arg8) = m' ((c.tc : Thread Cert.ParamsBwdRefIdeal.nD Cert.ParamsBwdRefIdeal.τ).loc Cert.ParamsBwdRefIdeal.main_arg8)
          ∧ r.2.mem ((c.tc : Thread Cert.ParamsBwdRefIdeal.nD Cert.ParamsBwdRefIdeal.τ).loc Cert.ParamsBwdRefIdeal.main_arg9) = m' ((c.tc : Thread Cert.ParamsBwdRefIdeal.nD Cert.ParamsBwdRefIdeal.τ).loc Cert.ParamsBwdRefIdeal.main_arg9)
          ∧ r.2.mem ((c.tc : Thread Cert.ParamsBwdRefIdeal.nD Cert.ParamsBwdRefIdeal.τ).loc Cert.ParamsBwdRefIdeal.main_arg10) = m' ((c.tc : Thread Cert.ParamsBwdRefIdeal.nD Cert.ParamsBwdRefIdeal.τ).loc Cert.ParamsBwdRefIdeal.main_arg10)
          ∧ r.2.mem ((c.tc : Thread Cert.ParamsBwdRefIdeal.nD Cert.ParamsBwdRefIdeal.τ).loc Cert.ParamsBwdRefIdeal.main_arg11) = m' ((c.tc : Thread Cert.ParamsBwdRefIdeal.nD Cert.ParamsBwdRefIdeal.τ).loc Cert.ParamsBwdRefIdeal.main_arg11)
          ∧ r.2.mem ((c.tc : Thread Cert.ParamsBwdRefIdeal.nD Cert.ParamsBwdRefIdeal.τ).loc Cert.ParamsBwdRefIdeal.main_arg12) = m' ((c.tc : Thread Cert.ParamsBwdRefIdeal.nD Cert.ParamsBwdRefIdeal.τ).loc Cert.ParamsBwdRefIdeal.main_arg12))

def Claim : Prop :=
  ∃ (hKernel : Cert.Kernel.Facts) (hKernelIdeal : Cert.KernelIdeal.Facts) (hReferenceIdeal : Cert.ReferenceIdeal.Facts) (hFfnIn : Cert.FfnIn.Facts) (hFfnInIdeal : Cert.FfnInIdeal.Facts) (hFfnInRefIdeal : Cert.FfnInRefIdeal.Facts) (hFfnInDx : Cert.FfnInDx.Facts) (hFfnInDxIdeal : Cert.FfnInDxIdeal.Facts) (hFfnInDxRefIdeal : Cert.FfnInDxRefIdeal.Facts) (hFfnOut : Cert.FfnOut.Facts) (hFfnOutIdeal : Cert.FfnOutIdeal.Facts) (hFfnOutRefIdeal : Cert.FfnOutRefIdeal.Facts) (hMixer : Cert.Mixer.Facts) (hMixerIdeal : Cert.MixerIdeal.Facts) (hMixerRefIdeal : Cert.MixerRefIdeal.Facts) (hAttention : Cert.Attention.Facts) (hAttentionIdeal : Cert.AttentionIdeal.Facts) (hAttentionRefIdeal : Cert.AttentionRefIdeal.Facts) (hQkvDx0 : Cert.QkvDx0.Facts) (hQkvDx0Ideal : Cert.QkvDx0Ideal.Facts) (hQkvDx0RefIdeal : Cert.QkvDx0RefIdeal.Facts) (hQkvDx1 : Cert.QkvDx1.Facts) (hQkvDx1Ideal : Cert.QkvDx1Ideal.Facts) (hQkvDx1RefIdeal : Cert.QkvDx1RefIdeal.Facts) (hQkvDx2 : Cert.QkvDx2.Facts) (hQkvDx2Ideal : Cert.QkvDx2Ideal.Facts) (hQkvDx2RefIdeal : Cert.QkvDx2RefIdeal.Facts) (hNormBwd : Cert.NormBwd.Facts) (hNormBwdIdeal : Cert.NormBwdIdeal.Facts) (hNormBwdRefIdeal : Cert.NormBwdRefIdeal.Facts) (hGateBwd : Cert.GateBwd.Facts) (hGateBwdIdeal : Cert.GateBwdIdeal.Facts) (hGateBwdRefIdeal : Cert.GateBwdRefIdeal.Facts) (hNormFwd : Cert.NormFwd.Facts) (hNormFwdIdeal : Cert.NormFwdIdeal.Facts) (hNormFwdRefIdeal : Cert.NormFwdRefIdeal.Facts) (hGateFwd : Cert.GateFwd.Facts) (hGateFwdIdeal : Cert.GateFwdIdeal.Facts) (hGateFwdRefIdeal : Cert.GateFwdRefIdeal.Facts) (hLoss : Cert.Loss.Facts) (hLossIdeal : Cert.LossIdeal.Facts) (hLossRefIdeal : Cert.LossRefIdeal.Facts) (hConvFwd : Cert.ConvFwd.Facts) (hConvFwdIdeal : Cert.ConvFwdIdeal.Facts) (hConvFwdRefIdeal : Cert.ConvFwdRefIdeal.Facts) (hConvFwd1 : Cert.ConvFwd1.Facts) (hConvFwd1Ideal : Cert.ConvFwd1Ideal.Facts) (hConvFwd1RefIdeal : Cert.ConvFwd1RefIdeal.Facts) (hParamsFwd : Cert.ParamsFwd.Facts) (hParamsFwdIdeal : Cert.ParamsFwdIdeal.Facts) (hParamsFwdRefIdeal : Cert.ParamsFwdRefIdeal.Facts) (hParamsBwd : Cert.ParamsBwd.Facts) (hParamsBwdIdeal : Cert.ParamsBwdIdeal.Facts) (hParamsBwdRefIdeal : Cert.ParamsBwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Mixer (hMixer := hMixer)
    ∧ quiescent_MixerIdeal (hMixerIdeal := hMixerIdeal)
    ∧ quiescent_MixerRefIdeal (hMixerRefIdeal := hMixerRefIdeal)
    ∧ quiescent_Attention (hAttention := hAttention)
    ∧ quiescent_AttentionIdeal (hAttentionIdeal := hAttentionIdeal)
    ∧ quiescent_AttentionRefIdeal (hAttentionRefIdeal := hAttentionRefIdeal)
    ∧ quiescent_QkvDx0 (hQkvDx0 := hQkvDx0)
    ∧ quiescent_QkvDx0Ideal (hQkvDx0Ideal := hQkvDx0Ideal)
    ∧ quiescent_QkvDx0RefIdeal (hQkvDx0RefIdeal := hQkvDx0RefIdeal)
    ∧ quiescent_QkvDx1 (hQkvDx1 := hQkvDx1)
    ∧ quiescent_QkvDx1Ideal (hQkvDx1Ideal := hQkvDx1Ideal)
    ∧ quiescent_QkvDx1RefIdeal (hQkvDx1RefIdeal := hQkvDx1RefIdeal)
    ∧ quiescent_QkvDx2 (hQkvDx2 := hQkvDx2)
    ∧ quiescent_QkvDx2Ideal (hQkvDx2Ideal := hQkvDx2Ideal)
    ∧ quiescent_QkvDx2RefIdeal (hQkvDx2RefIdeal := hQkvDx2RefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_Loss (hLoss := hLoss)
    ∧ quiescent_LossIdeal (hLossIdeal := hLossIdeal)
    ∧ quiescent_LossRefIdeal (hLossRefIdeal := hLossRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_ConvFwd1 (hConvFwd1 := hConvFwd1)
    ∧ quiescent_ConvFwd1Ideal (hConvFwd1Ideal := hConvFwd1Ideal)
    ∧ quiescent_ConvFwd1RefIdeal (hConvFwd1RefIdeal := hConvFwd1RefIdeal)
    ∧ quiescent_ParamsFwd (hParamsFwd := hParamsFwd)
    ∧ quiescent_ParamsFwdIdeal (hParamsFwdIdeal := hParamsFwdIdeal)
    ∧ quiescent_ParamsFwdRefIdeal (hParamsFwdRefIdeal := hParamsFwdRefIdeal)
    ∧ quiescent_ParamsBwd (hParamsBwd := hParamsBwd)
    ∧ quiescent_ParamsBwdIdeal (hParamsBwdIdeal := hParamsBwdIdeal)
    ∧ quiescent_ParamsBwdRefIdeal (hParamsBwdRefIdeal := hParamsBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnIn_FfnInIdeal
    ∧ algebraic_FfnInIdeal_FfnInRefIdeal (hFfnInIdeal := hFfnInIdeal) (hFfnInRefIdeal := hFfnInRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Mixer_MixerIdeal
    ∧ algebraic_MixerIdeal_MixerRefIdeal (hMixerIdeal := hMixerIdeal) (hMixerRefIdeal := hMixerRefIdeal)
    ∧ preserves_Attention_AttentionIdeal
    ∧ algebraic_AttentionIdeal_AttentionRefIdeal (hAttentionIdeal := hAttentionIdeal) (hAttentionRefIdeal := hAttentionRefIdeal)
    ∧ preserves_QkvDx0_QkvDx0Ideal
    ∧ algebraic_QkvDx0Ideal_QkvDx0RefIdeal (hQkvDx0Ideal := hQkvDx0Ideal) (hQkvDx0RefIdeal := hQkvDx0RefIdeal)
    ∧ preserves_QkvDx1_QkvDx1Ideal
    ∧ algebraic_QkvDx1Ideal_QkvDx1RefIdeal (hQkvDx1Ideal := hQkvDx1Ideal) (hQkvDx1RefIdeal := hQkvDx1RefIdeal)
    ∧ preserves_QkvDx2_QkvDx2Ideal
    ∧ algebraic_QkvDx2Ideal_QkvDx2RefIdeal (hQkvDx2Ideal := hQkvDx2Ideal) (hQkvDx2RefIdeal := hQkvDx2RefIdeal)
    ∧ preserves_NormBwd_NormBwdIdeal
    ∧ algebraic_NormBwdIdeal_NormBwdRefIdeal (hNormBwdIdeal := hNormBwdIdeal) (hNormBwdRefIdeal := hNormBwdRefIdeal)
    ∧ preserves_GateBwd_GateBwdIdeal
    ∧ algebraic_GateBwdIdeal_GateBwdRefIdeal (hGateBwdIdeal := hGateBwdIdeal) (hGateBwdRefIdeal := hGateBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_GateFwd_GateFwdIdeal
    ∧ algebraic_GateFwdIdeal_GateFwdRefIdeal (hGateFwdIdeal := hGateFwdIdeal) (hGateFwdRefIdeal := hGateFwdRefIdeal)
    ∧ preserves_Loss_LossIdeal
    ∧ algebraic_LossIdeal_LossRefIdeal (hLossIdeal := hLossIdeal) (hLossRefIdeal := hLossRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_ConvFwd1_ConvFwd1Ideal
    ∧ algebraic_ConvFwd1Ideal_ConvFwd1RefIdeal (hConvFwd1Ideal := hConvFwd1Ideal) (hConvFwd1RefIdeal := hConvFwd1RefIdeal)
    ∧ preserves_ParamsFwd_ParamsFwdIdeal
    ∧ algebraic_ParamsFwdIdeal_ParamsFwdRefIdeal (hParamsFwdIdeal := hParamsFwdIdeal) (hParamsFwdRefIdeal := hParamsFwdRefIdeal)
    ∧ preserves_ParamsBwd_ParamsBwdIdeal
    ∧ algebraic_ParamsBwdIdeal_ParamsBwdRefIdeal (hParamsBwdIdeal := hParamsBwdIdeal) (hParamsBwdRefIdeal := hParamsBwdRefIdeal)
-- ==== Pre_finite.lean ====
abbrev S2048x2560 : Shape := ⟨2, ![2048, 2560]⟩
abbrev S2048x128 : Shape := ⟨2, ![2048, 128]⟩
abbrev S1x2048 : Shape := ⟨2, ![1, 2048]⟩
abbrev S1x512 : Shape := ⟨2, ![1, 512]⟩
abbrev S2048x512 : Shape := ⟨2, ![2048, 512]⟩
abbrev S_ : Shape := ⟨0, ![]⟩

class Facts : Prop where
  slices_S2048x2560_S2048x512_0_0 : S2048x2560.Slices ![0, 0] S2048x512
  bcast_S_S2048x512 : S_.BroadcastsInDim S2048x512 (![] : Fin 0 → Fin S2048x512.rank)
  bcast_S_S2048x128 : S_.BroadcastsInDim S2048x128 (![] : Fin 0 → Fin S2048x128.rank)
  bcast_S_S1x2048 : S_.BroadcastsInDim S1x2048 (![] : Fin 0 → Fin S1x2048.rank)

variable [Facts]

def fn_part1 {F : FTy → Type} [FloatOps F] (main_arg6 : FVec F S1x2048 .f32) (main_arg8 : FVec F S2048x512 .f32) (main_v3 : IVec S2048x512 1) (main_v6 : IVec S2048x128 1) (main_v9 : IVec S2048x128 1) (main_v12 : IVec S2048x128 1) (main_v15 : IVec S2048x128 1) (main_v16 : FVec F S1x2048 .f32) (main_v17 : FVec F S1x2048 .f32) : IVec S2048x512 1 × IVec S2048x128 1 × IVec S2048x128 1 × IVec S2048x128 1 × IVec S2048x128 1 × IVec S1x2048 1 × IVec S1x2048 1 × IVec S2048x512 1 :=
  let main_v18 : IVec S1x2048 1 := cmpf .olt main_v16 main_v17
  let main_v19 : FVec F S1x2048 .f32 := Host.absf main_arg6
  let main_cst_5 : FVec F S_ .f32 := constant S_ .f32 0x7F800000#32
  let main_v20 : FVec F S1x2048 .f32 := broadcastInDim S1x2048 ![] bcast_S_S1x2048 main_cst_5
  let main_v21 : IVec S1x2048 1 := cmpf .olt main_v19 main_v20
  let main_v22 : FVec F S2048x512 .f32 := Host.absf main_arg8
  let main_cst_6 : FVec F S_ .f32 := constant S_ .f32 0x7F800000#32
  let main_v23 : FVec F S2048x512 .f32 := broadcastInDim S2048x512 ![] bcast_S_S2048x512 main_cst_6
  let main_v24 : IVec S2048x512 1 := cmpf .olt main_v22 main_v23
  (main_v3, main_v6, main_v9, main_v12, main_v15, main_v18, main_v21, main_v24)

def fn {F : FTy → Type} [FloatOps F] (main_arg0 : FVec F S2048x2560 .f32) (main_arg1 : FVec F S2048x128 .f32) (main_arg2 : FVec F S2048x128 .f32) (main_arg3 : FVec F S2048x128 .f32) (main_arg4 : FVec F S2048x128 .f32) (main_arg5 : FVec F S1x2048 .f32) (main_arg6 : FVec F S1x2048 .f32) (main_arg7 : FVec F S1x512 .f32) (main_arg8 : FVec F S2048x512 .f32) : IVec S2048x512 1 × IVec S2048x128 1 × IVec S2048x128 1 × IVec S2048x128 1 × IVec S2048x128 1 × IVec S1x2048 1 × IVec S1x2048 1 × IVec S2048x512 1 :=
  let main_v0 : FVec F S2048x512 .f32 := (extractStridedSlice S2048x512 ![0, 0] · slices_S2048x2560_S2048x512_0_0) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_v7 : FVec F S2048x128 .f32 := Host.absf main_arg2
  let main_cst_1 : FVec F S_ .f32 := constant S_ .f32 0x7F800000#32
  let main_v8 : FVec F S2048x128 .f32 := broadcastInDim S2048x128 ![] bcast_S_S2048x128 main_cst_1
  let main_v9 : IVec S2048x128 1 := cmpf .olt main_v7 main_v8
  let main_v10 : FVec F S2048x128 .f32 := Host.absf main_arg3
  let main_cst_2 : FVec F S_ .f32 := constant S_ .f32 0x7F800000#32
  let main_v11 : FVec F S2048x128 .f32 := broadcastInDim S2048x128 ![] bcast_S_S2048x128 main_cst_2
  let main_v12 : IVec S2048x128 1 := cmpf .olt main_v10 main_v11
  let main_v13 : FVec F S2048x128 .f32 := Host.absf main_arg4
  let main_cst_3 : FVec F S_ .f32 := constant S_ .f32 0x7F800000#32
  let main_v14 : FVec F S2048x128 .f32 := broadcastInDim S2048x128 ![] bcast_S_S2048x128 main_cst_3
  let main_v15 : IVec S2048x128 1 := cmpf .olt main_v13 main_v14
  let main_v16 : FVec F S1x2048 .f32 := Host.absf main_arg5
  let main_cst_4 : FVec F S_ .f32 := constant S_ .f32 0x7F800000#32
  let main_v17 : FVec F S1x2048 .f32 := broadcastInDim S1x2048 ![] bcast_S_S1x2048 main_cst_4
  fn_part1 (F := F) main_arg6 main_arg8 main_v3 main_v6 main_v9 main_v12 main_v15 main_v16 main_v17
-- ==== Kernel.lean ====
abbrev S2048x2560 : Shape := ⟨2, ![2048, 2560]⟩
abbrev S2048x128 : Shape := ⟨2, ![2048, 128]⟩
abbrev S1x2048 : Shape := ⟨2, ![1, 2048]⟩
abbrev S1x512 : Shape := ⟨2, ![1, 512]⟩
abbrev S2048x512 : Shape := ⟨2, ![2048, 512]⟩
abbrev S2048x2048 : Shape := ⟨2, ![2048, 2048]⟩
abbrev S512x128 : Shape := ⟨2, ![512, 128]⟩
abbrev S1x128 : Shape := ⟨2, ![1, 128]⟩
abbrev S256x128 : Shape := ⟨2, ![256, 128]⟩
abbrev S256x512 : Shape := ⟨2, ![256, 512]⟩
abbrev S8x512 : Shape := ⟨2, ![8, 512]⟩
abbrev S128 : Shape := ⟨1, ![128]⟩
abbrev S512 : Shape := ⟨1, ![512]⟩

abbrev nBuf : Space → Nat
  | .hbm => 20
  | .vmem => 62
  | .smem => 0
  | _ => 0

abbrev bufTy : (tb : Table) → Fin (tcTables nBuf tb) → BufTy
  | .hbm, ⟨0, _⟩ => ⟨S2048x2560, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S1x2048, .f32⟩
  | .hbm, ⟨6, _⟩ => ⟨S1x2048, .f32⟩
  | .hbm, ⟨7, _⟩ => ⟨S1x512, .f32⟩
  | .hbm, ⟨8, _⟩ => ⟨S2048x512, .f32⟩
  | .hbm, ⟨9, _⟩ => ⟨S2048x2048, .f32⟩
  | .hbm, ⟨10, _⟩ => ⟨S2048x2048, .f32⟩
  | .hbm, ⟨11, _⟩ => ⟨S2048x512, .f32⟩
  | .hbm, ⟨12, _⟩ => ⟨S2048x512, .bf16⟩
  | .hbm, ⟨13, _⟩ => ⟨S2048x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S1x2048, .f32⟩
  | .hbm, ⟨18, _⟩ => ⟨S1x2048, .f32⟩
  | .hbm, ⟨19, _⟩ => ⟨S1x512, .f32⟩
  | .local _ .vmem, ⟨0, _⟩ => ⟨S2048x128, .f32⟩
  | .local _ .vmem, ⟨1, _⟩ => ⟨S2048x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x128, .f32⟩
  | .local _ .vmem, ⟨15, _⟩ => ⟨S1x128, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x512, .f32⟩
  | .local _ .vmem, ⟨27, _⟩ => ⟨S2048x512, .f32⟩
  | .local _ .vmem, ⟨28, _⟩ => ⟨S2048x512, .f32⟩
  | .local _ .vmem, ⟨29, _⟩ => ⟨S2048x512, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S1x128, .f32⟩
  | .local _ .vmem, ⟨43, _⟩ => ⟨S1x128, .f32⟩
  | .local _ .vmem, ⟨44, _⟩ => ⟨S2048x128, .bf16⟩
  | .local _ .vmem, ⟨45, _⟩ => ⟨S2048x128, .bf16⟩
  | .local _ .vmem, ⟨46, _⟩ => ⟨S512x128, .f32⟩
  | .local _ .vmem, ⟨47, _⟩ => ⟨S512x128, .f32⟩
  | .local _ .vmem, ⟨48, _⟩ => ⟨S512x128, .f32⟩
  | .local _ .vmem, ⟨49, _⟩ => ⟨S512x128, .f32⟩
  | .local _ .vmem, ⟨50, _⟩ => ⟨S512x128, .f32⟩
  | .local _ .vmem, ⟨51, _⟩ => ⟨S512x128, .f32⟩
  | .local _ .vmem, ⟨52, _⟩ => ⟨S512x128, .f32⟩
  | .local _ .vmem, ⟨53, _⟩ => ⟨S512x128, .f32⟩
  | .local _ .vmem, ⟨54, _⟩ => ⟨S1x512, .f32⟩
  | .local _ .vmem, ⟨55, _⟩ => ⟨S1x512, .f32⟩
  | .local _ .vmem, ⟨56, _⟩ => ⟨S1x512, .f32⟩
  | .local _ .vmem, ⟨57, _⟩ => ⟨S1x512, .f32⟩
  | .local _ .vmem, ⟨58, _⟩ => ⟨S1x128, .f32⟩
  | .local _ .vmem, ⟨59, _⟩ => ⟨S1x128, .f32⟩
  | .local _ .vmem, ⟨60, _⟩ => ⟨S2048x512, .f32⟩
  | .local _ .vmem, ⟨61, _⟩ => ⟨S2048x512, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev main_v1_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc1_stg11_0 : Ref sig .tc := ⟨.vmem, 44, rfl⟩
abbrev cc1_stg11_1 : Ref sig .tc := ⟨.vmem, 45, rfl⟩
abbrev cc1_stg12_0 : Ref sig .tc := ⟨.vmem, 46, rfl⟩
abbrev cc1_stg12_1 : Ref sig .tc := ⟨.vmem, 47, rfl⟩
abbrev cc1_stg13_0 : Ref sig .tc := ⟨.vmem, 48, rfl⟩
abbrev cc1_stg13_1 : Ref sig .tc := ⟨.vmem, 49, rfl⟩
abbrev cc1_stg14_0 : Ref sig .tc := ⟨.vmem, 50, rfl⟩
abbrev cc1_stg14_1 : Ref sig .tc := ⟨.vmem, 51, rfl⟩
abbrev cc1_stg15_0 : Ref sig .tc := ⟨.vmem, 52, rfl⟩
abbrev cc1_stg15_1 : Ref sig .tc := ⟨.vmem, 53, rfl⟩
abbrev cc1_stg16_0 : Ref sig .tc := ⟨.vmem, 54, rfl⟩
abbrev cc1_stg16_1 : Ref sig .tc := ⟨.vmem, 55, rfl⟩
abbrev cc1_stg17_0 : Ref sig .tc := ⟨.vmem, 56, rfl⟩
abbrev cc1_stg17_1 : Ref sig .tc := ⟨.vmem, 57, rfl⟩
abbrev cc1_stg18_0 : Ref sig .tc := ⟨.vmem, 58, rfl⟩
abbrev cc1_stg18_1 : Ref sig .tc := ⟨.vmem, 59, rfl⟩
abbrev cc1_scratch0 : Ref sig .tc := ⟨.vmem, 60, rfl⟩
abbrev cc1_scratch1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51
abbrev cc1_sem15_0 : DmaSem sig := 52
abbrev cc1_sem15_1 : DmaSem sig := 53
abbrev cc1_sem16_0 : DmaSem sig := 54
abbrev cc1_sem16_1 : DmaSem sig := 55
abbrev cc1_sem17_0 : DmaSem sig := 56
abbrev cc1_sem17_1 : DmaSem sig := 57
abbrev cc1_sem18_0 : DmaSem sig := 58
abbrev cc1_sem18_1 : DmaSem sig := 59

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_74 : BitVec 32 := 0#32
  let c256_i32 : BitVec 32 := 256#32
  let v202 : BitVec 32 := Scalar.addi c0_i32_74 c256_i32
  let c1_i32_75 : BitVec 32 := 1#32
  ⟨c0_i32_74, v202, c1_i32_75⟩
def k0_mult1 (k0_t1 : Fin k0_t1_loop.trips) : BitVec 32 :=
  let c0_i32_74 : BitVec 32 := 0#32
  let c1_i32_75 : BitVec 32 := 1#32
  let arg12 : BitVec 32 := Scf.iv c0_i32_74 c1_i32_75 k0_t1
  let c8_i32 : BitVec 32 := 8#32
  let v335 : BitVec 32 := Scalar.muli arg12 c8_i32
  v335
def k0_off1 (k0_t1 : Fin k0_t1_loop.trips) : Fin 2 → Nat :=
  let c0_i32_74 : BitVec 32 := 0#32
  let c1_i32_75 : BitVec 32 := 1#32
  let arg12 : BitVec 32 := Scf.iv c0_i32_74 c1_i32_75 k0_t1
  let c8_i32 : BitVec 32 := 8#32
  let v335 : BitVec 32 := Scalar.muli arg12 c8_i32
  let v336 : BitVec 32 := v335
  let v337 : Index := Scalar.indexCast v336
  let c0_163 : Index := 0#32
  ![v337.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![4], ![false]⟩

@[reducible] def k1_t1_loop : Scf.Loop 32 :=
  let c0_i32_165 : BitVec 32 := 0#32
  let c256_i32 : BitVec 32 := 256#32
  let v395 : BitVec 32 := Scalar.addi c0_i32_165 c256_i32
  let c1_i32_166 : BitVec 32 := 1#32
  ⟨c0_i32_165, v395, c1_i32_166⟩
def k1_mult1 (k1_t1 : Fin k1_t1_loop.trips) : BitVec 32 :=
  let c255_i32 : BitVec 32 := 255#32
  let c0_i32_165 : BitVec 32 := 0#32
  let c1_i32_166 : BitVec 32 := 1#32
  let arg22 : BitVec 32 := Scf.iv c0_i32_165 c1_i32_166 k1_t1
  let v602 : BitVec 32 := Scalar.subi c255_i32 arg22
  let c8_i32 : BitVec 32 := 8#32
  let v603 : BitVec 32 := Scalar.muli v602 c8_i32
  v603
def k1_off1 (k1_t1 : Fin k1_t1_loop.trips) : Fin 2 → Nat :=
  let c255_i32 : BitVec 32 := 255#32
  let c0_i32_165 : BitVec 32 := 0#32
  let c1_i32_166 : BitVec 32 := 1#32
  let arg22 : BitVec 32 := Scf.iv c0_i32_165 c1_i32_166 k1_t1
  let v602 : BitVec 32 := Scalar.subi c255_i32 arg22
  let c8_i32 : BitVec 32 := 8#32
  let v603 : BitVec 32 := Scalar.muli v602 c8_i32
  let v604 : BitVec 32 := v603
  let v605 : Index := Scalar.indexCast v604
  let c0_298 : Index := 0#32
  ![v605.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2048x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1x512 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S1x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]
-- ==== ReferenceIdeal.lean ====
abbrev S2048x2560 : Shape := ⟨2, ![2048, 2560]⟩
abbrev S2048x128 : Shape := ⟨2, ![2048, 128]⟩
abbrev S1x2048 : Shape := ⟨2, ![1, 2048]⟩
abbrev S1x512 : Shape := ⟨2, ![1, 512]⟩
abbrev S2048x512 : Shape := ⟨2, ![2048, 512]⟩
abbrev S2048x4x128 : Shape := ⟨3, ![2048, 4, 128]⟩
abbrev S4x512x128 : Shape := ⟨3, ![4, 512, 128]⟩
abbrev S4x512 : Shape := ⟨2, ![4, 512]⟩
abbrev S4x2048x512 : Shape := ⟨3, ![4, 2048, 512]⟩
abbrev S2048x4x512 : Shape := ⟨3, ![2048, 4, 512]⟩
abbrev S_ : Shape := ⟨0, ![]⟩
abbrev S1x4x512 : Shape := ⟨3, ![1, 4, 512]⟩
abbrev S4x2048x128 : Shape := ⟨3, ![4, 2048, 128]⟩
abbrev S4x128 : Shape := ⟨2, ![4, 128]⟩
abbrev S1x4x128 : Shape := ⟨3, ![1, 4, 128]⟩
abbrev S4x128x512 : Shape := ⟨3, ![4, 128, 512]⟩

abbrev nBuf : Space → Nat
  | .hbm => 211
  | .vmem => 0
  | .smem => 0
  | _ => 0

abbrev hbmTy0_0 (i : Nat) : BufTy := match i % 128 with
  | 0 => ⟨S2048x2560, .f32⟩
  | 1 => ⟨S2048x128, .f32⟩
  | 2 => ⟨S2048x128, .f32⟩
  | 3 => ⟨S2048x128, .f32⟩
  | 4 => ⟨S2048x128, .f32⟩
  | 5 => ⟨S1x2048, .f32⟩
  | 6 => ⟨S1x2048, .f32⟩
  | 7 => ⟨S1x512, .f32⟩
  | 8 => ⟨S2048x512, .f32⟩
  | 9 => ⟨S2048x512, .f32⟩
  | 10 => ⟨S2048x4x128, .f32⟩
  | 11 => ⟨S4x512x128, .f32⟩
  | 12 => ⟨S4x512x128, .f32⟩
  | 13 => ⟨S4x512x128, .f32⟩
  | 14 => ⟨S4x512x128, .f32⟩
  | 15 => ⟨S4x512, .f32⟩
  | 16 => ⟨S4x512, .f32⟩
  | 17 => ⟨S4x2048x512, .f32⟩
  | 18 => ⟨S2048x4x512, .f32⟩
  | 19 => ⟨S4x2048x512, .f32⟩
  | 20 => ⟨S2048x4x512, .f32⟩
  | 21 => ⟨S_, .f32⟩
  | 22 => ⟨S4x512, .f32⟩
  | 23 => ⟨S_, .f32⟩
  | 24 => ⟨S2048x4x512, .f32⟩
  | 25 => ⟨S_, .f32⟩
  | 26 => ⟨S2048x4x512, .f32⟩
  | 27 => ⟨S_, .f32⟩
  | 28 => ⟨S2048x4x512, .f32⟩
  | 29 => ⟨S_, .f32⟩
  | 30 => ⟨S2048x4x512, .f32⟩
  | 31 => ⟨S_, .i32⟩
  | 32 => ⟨S2048x4x512, .f32⟩
  | 33 => ⟨S2048x4x512, .f32⟩
  | 34 => ⟨S4x512, .f32⟩
  | 35 => ⟨S4x512, .f32⟩
  | 36 => ⟨S_, .i32⟩
  | 37 => ⟨S4x512, .f32⟩
  | 38 => ⟨S4x512, .f32⟩
  | 39 => ⟨S2048x4x512, .f32⟩
  | 40 => ⟨S2048x4x512, .f32⟩
  | 41 => ⟨S2048x4x512, .f32⟩
  | 42 => ⟨S2048x4x512, .f32⟩
  | 43 => ⟨S_, .i32⟩
  | 44 => ⟨S_, .i1⟩
  | 45 => ⟨S_, .i32⟩
  | 46 => ⟨S_, .i32⟩
  | 47 => ⟨S1x4x512, .f32⟩
  | 48 => ⟨S4x512, .f32⟩
  | 49 => ⟨S_, .i32⟩
  | 50 => ⟨S_, .i32⟩
  | 51 => ⟨S1x4x512, .f32⟩
  | 52 => ⟨S4x512, .f32⟩
  | 53 => ⟨S4x512, .f32⟩
  | 54 => ⟨S4x512, .f32⟩
  | 55 => ⟨S4x512, .f32⟩
  | 56 => ⟨S4x512, .f32⟩
  | 57 => ⟨S4x512, .f32⟩
  | 58 => ⟨S4x512, .f32⟩
  | 59 => ⟨S4x512, .f32⟩
  | 60 => ⟨S4x512, .f32⟩
  | 61 => ⟨S1x4x512, .f32⟩
  | 62 => ⟨S_, .i32⟩
  | 63 => ⟨S_, .i32⟩
  | 64 => ⟨S2048x4x512, .f32⟩
  | 65 => ⟨S1x4x512, .f32⟩
  | 66 => ⟨S_, .i32⟩
  | 67 => ⟨S_, .i32⟩
  | 68 => ⟨S2048x4x512, .f32⟩
  | 69 => ⟨S1x4x512, .f32⟩
  | 70 => ⟨S_, .i32⟩
  | 71 => ⟨S_, .i32⟩
  | 72 => ⟨S2048x4x512, .f32⟩
  | 73 => ⟨S1x4x512, .f32⟩
  | 74 => ⟨S_, .i32⟩
  | 75 => ⟨S_, .i32⟩
  | 76 => ⟨S2048x4x512, .f32⟩
  | 77 => ⟨S_, .i32⟩
  | 78 => ⟨S_, .i32⟩
  | 79 => ⟨S4x2048x128, .f32⟩
  | 80 => ⟨S2048x4x128, .f32⟩
  | 81 => ⟨S4x2048x128, .f32⟩
  | 82 => ⟨S2048x4x128, .f32⟩
  | 83 => ⟨S2048x4x128, .f32⟩
  | 84 => ⟨S4x128, .f32⟩
  | 85 => ⟨S1x4x128, .f32⟩
  | 86 => ⟨S2048x4x128, .f32⟩
  | 87 => ⟨S2048x4x128, .f32⟩
  | 88 => ⟨S2048x4x128, .f32⟩
  | 89 => ⟨S2048x512, .f32⟩
  | 90 => ⟨S_, .f32⟩
  | 91 => ⟨S4x512, .f32⟩
  | 92 => ⟨S_, .f32⟩
  | 93 => ⟨S4x512, .f32⟩
  | 94 => ⟨S2048x4x128, .f32⟩
  | 95 => ⟨S2048x4x128, .f32⟩
  | 96 => ⟨S2048x4x128, .f32⟩
  | 97 => ⟨S2048x4x128, .f32⟩
  | 98 => ⟨S_, .f32⟩
  | 99 => ⟨S4x128, .f32⟩
  | 100 => ⟨S1x4x128, .f32⟩
  | 101 => ⟨S_, .f32⟩
  | 102 => ⟨S4x128, .f32⟩
  | 103 => ⟨S1x512, .f32⟩
  | 104 => ⟨S2048x4x128, .f32⟩
  | 105 => ⟨S4x2048x128, .f32⟩
  | 106 => ⟨S4x128x512, .f32⟩
  | 107 => ⟨S4x512x128, .f32⟩
  | 108 => ⟨S4x2048x512, .f32⟩
  | 109 => ⟨S2048x4x512, .f32⟩
  | 110 => ⟨S4x2048x128, .f32⟩
  | 111 => ⟨S4x128x512, .f32⟩
  | 112 => ⟨S4x512x128, .f32⟩
  | 113 => ⟨S4x2048x512, .f32⟩
  | 114 => ⟨S2048x4x512, .f32⟩
  | 115 => ⟨S_, .f32⟩
  | 116 => ⟨S4x512, .f32⟩
  | 117 => ⟨S_, .f32⟩
  | 118 => ⟨S4x512, .f32⟩
  | 119 => ⟨S_, .f32⟩
  | 120 => ⟨S4x512, .f32⟩
  | 121 => ⟨S_, .f32⟩
  | 122 => ⟨S4x512, .f32⟩
  | 123 => ⟨S_, .f32⟩
  | 124 => ⟨S2048x4x512, .f32⟩
  | 125 => ⟨S_, .f32⟩
  | 126 => ⟨S2048x4x512, .f32⟩
  | 127 => ⟨S_, .i32⟩
  | _ => ⟨S2048x2560, .f32⟩

abbrev hbmTy0_1 (i : Nat) : BufTy := match i % 128 with
  | 0 => ⟨S2048x4x512, .f32⟩
  | 1 => ⟨S2048x4x512, .f32⟩
  | 2 => ⟨S2048x4x512, .f32⟩
  | 3 => ⟨S2048x4x512, .f32⟩
  | 4 => ⟨S4x512, .f32⟩
  | 5 => ⟨S4x512, .f32⟩
  | 6 => ⟨S_, .i32⟩
  | 7 => ⟨S4x512, .f32⟩
  | 8 => ⟨S4x512, .f32⟩
  | 9 => ⟨S4x512, .f32⟩
  | 10 => ⟨S4x512, .f32⟩
  | 11 => ⟨S2048x4x512, .f32⟩
  | 12 => ⟨S2048x4x512, .f32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S1x4x512, .f32⟩
  | 22 => ⟨S4x512, .f32⟩
  | 23 => ⟨S_, .i32⟩
  | 24 => ⟨S_, .i32⟩
  | 25 => ⟨S1x4x512, .f32⟩
  | 26 => ⟨S4x512, .f32⟩
  | 27 => ⟨S_, .i32⟩
  | 28 => ⟨S_, .i32⟩
  | 29 => ⟨S1x4x512, .f32⟩
  | 30 => ⟨S4x512, .f32⟩
  | 31 => ⟨S_, .i32⟩
  | 32 => ⟨S_, .i32⟩
  | 33 => ⟨S1x4x512, .f32⟩
  | 34 => ⟨S4x512, .f32⟩
  | 35 => ⟨S4x512, .f32⟩
  | 36 => ⟨S4x512, .f32⟩
  | 37 => ⟨S4x512, .f32⟩
  | 38 => ⟨S4x512, .f32⟩
  | 39 => ⟨S4x512, .f32⟩
  | 40 => ⟨S4x512, .f32⟩
  | 41 => ⟨S4x512, .f32⟩
  | 42 => ⟨S4x512, .f32⟩
  | 43 => ⟨S4x512, .f32⟩
  | 44 => ⟨S4x512, .f32⟩
  | 45 => ⟨S4x512, .f32⟩
  | 46 => ⟨S4x512, .f32⟩
  | 47 => ⟨S4x512, .f32⟩
  | 48 => ⟨S4x512, .f32⟩
  | 49 => ⟨S4x512, .f32⟩
  | 50 => ⟨S4x512, .f32⟩
  | 51 => ⟨S4x512, .f32⟩
  | 52 => ⟨S1x4x512, .f32⟩
  | 53 => ⟨S_, .i32⟩
  | 54 => ⟨S_, .i32⟩
  | 55 => ⟨S2048x4x512, .f32⟩
  | 56 => ⟨S1x4x512, .f32⟩
  | 57 => ⟨S_, .i32⟩
  | 58 => ⟨S_, .i32⟩
  | 59 => ⟨S2048x4x512, .f32⟩
  | 60 => ⟨S_, .i32⟩
  | 61 => ⟨S_, .i32⟩
  | 62 => ⟨S4x2048x512, .f32⟩
  | 63 => ⟨S4x512x128, .f32⟩
  | 64 => ⟨S4x2048x128, .f32⟩
  | 65 => ⟨S2048x4x128, .f32⟩
  | 66 => ⟨S2048x4x128, .f32⟩
  | 67 => ⟨S4x2048x512, .f32⟩
  | 68 => ⟨S4x512x128, .f32⟩
  | 69 => ⟨S4x2048x128, .f32⟩
  | 70 => ⟨S2048x4x128, .f32⟩
  | 71 => ⟨S2048x4x128, .f32⟩
  | 72 => ⟨S1x2048, .f32⟩
  | 73 => ⟨S1x2048, .f32⟩
  | 74 => ⟨S2048x128, .f32⟩
  | 75 => ⟨S2048x128, .f32⟩
  | 76 => ⟨S2048x128, .f32⟩
  | 77 => ⟨S2048x128, .f32⟩
  | 78 => ⟨S2048x512, .f32⟩
  | 79 => ⟨S_, .f32⟩
  | 80 => ⟨S2048x2560, .f32⟩
  | 81 => ⟨S2048x512, .f32⟩
  | 82 => ⟨S2048x512, .bf16⟩
  | _ => ⟨S2048x2560, .f32⟩

abbrev hbmTy (i : Nat) : BufTy := match i / 128 with
  | 0 => hbmTy0_0 i
  | 1 => hbmTy0_1 i
  | _ => ⟨S2048x2560, .f32⟩

abbrev bufTy : (tb : Table) → Fin (tcTables nBuf tb) → BufTy
  | .hbm, ⟨i, _⟩ => hbmTy i
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_c : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v17_3 : Ref sig .tc := ⟨.hbm, 35, rfl⟩
abbrev main_v17_4 : Ref sig .tc := ⟨.hbm, 36, rfl⟩
abbrev main_v17_5 : Ref sig .tc := ⟨.hbm, 37, rfl⟩
abbrev main_v17_6 : Ref sig .tc := ⟨.hbm, 38, rfl⟩
abbrev main_v17_7 : Ref sig .tc := ⟨.hbm, 39, rfl⟩
abbrev main_v17_8 : Ref sig .tc := ⟨.hbm, 40, rfl⟩
abbrev main_v17_9 : Ref sig .tc := ⟨.hbm, 41, rfl⟩
abbrev main_v17_10 : Ref sig .tc := ⟨.hbm, 42, rfl⟩
abbrev main_while0c_c_26 : Ref sig .tc := ⟨.hbm, 43, rfl⟩
abbrev main_while0c_v77 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_v0 : Ref sig .tc := ⟨.hbm, 47, rfl⟩
abbrev main_while0b_v77 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_v0 : Ref sig .tc := ⟨.hbm, 51, rfl⟩
abbrev main_while0b_v78 : Ref sig .tc := ⟨.hbm, 52, rfl⟩
abbrev main_while0b_v79 : Ref sig .tc := ⟨.hbm, 53, rfl⟩
abbrev main_while0b_v80 : Ref sig .tc := ⟨.hbm, 54, rfl⟩
abbrev main_while0b_v81 : Ref sig .tc := ⟨.hbm, 55, rfl⟩
abbrev main_while0b_v82 : Ref sig .tc := ⟨.hbm, 56, rfl⟩
abbrev main_while0b_v83 : Ref sig .tc := ⟨.hbm, 57, rfl⟩
abbrev main_while0b_v84 : Ref sig .tc := ⟨.hbm, 58, rfl⟩
abbrev main_while0b_v85 : Ref sig .tc := ⟨.hbm, 59, rfl⟩
abbrev main_while0b_v86 : Ref sig .tc := ⟨.hbm, 60, rfl⟩
abbrev main_while0b_call2_v0 : Ref sig .tc := ⟨.hbm, 61, rfl⟩
abbrev main_while0b_call2_c : Ref sig .tc := ⟨.hbm, 62, rfl⟩
abbrev main_while0b_call2_c_0 : Ref sig .tc := ⟨.hbm, 63, rfl⟩
abbrev main_while0b_v87 : Ref sig .tc := ⟨.hbm, 64, rfl⟩
abbrev main_while0b_call3_v0 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_v88 : Ref sig .tc := ⟨.hbm, 68, rfl⟩
abbrev main_while0b_call4_v0 : Ref sig .tc := ⟨.hbm, 69, rfl⟩
abbrev main_while0b_call4_c : Ref sig .tc := ⟨.hbm, 70, rfl⟩
abbrev main_while0b_call4_c_0 : Ref sig .tc := ⟨.hbm, 71, rfl⟩
abbrev main_while0b_v89 : Ref sig .tc := ⟨.hbm, 72, rfl⟩
abbrev main_while0b_call5_v0 : Ref sig .tc := ⟨.hbm, 73, rfl⟩
abbrev main_while0b_call5_c : Ref sig .tc := ⟨.hbm, 74, rfl⟩
abbrev main_while0b_call5_c_0 : Ref sig .tc := ⟨.hbm, 75, rfl⟩
abbrev main_while0b_v90 : Ref sig .tc := ⟨.hbm, 76, rfl⟩
abbrev main_while0b_c_26 : Ref sig .tc := ⟨.hbm, 77, rfl⟩
abbrev main_while0b_v91 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_cst_4 : Ref sig .tc := ⟨.hbm, 90, rfl⟩
abbrev main_v29 : Ref sig .tc := ⟨.hbm, 91, rfl⟩
abbrev main_cst_5 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_cst_6 : Ref sig .tc := ⟨.hbm, 98, rfl⟩
abbrev main_v35 : Ref sig .tc := ⟨.hbm, 99, rfl⟩
abbrev main_v36 : Ref sig .tc := ⟨.hbm, 100, rfl⟩
abbrev main_cst_7 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_cst_8 : Ref sig .tc := ⟨.hbm, 115, rfl⟩
abbrev main_v50 : Ref sig .tc := ⟨.hbm, 116, rfl⟩
abbrev main_cst_9 : Ref sig .tc := ⟨.hbm, 117, rfl⟩
abbrev main_v51 : Ref sig .tc := ⟨.hbm, 118, rfl⟩
abbrev main_cst_10 : Ref sig .tc := ⟨.hbm, 119, rfl⟩
abbrev main_v52 : Ref sig .tc := ⟨.hbm, 120, rfl⟩
abbrev main_cst_11 : Ref sig .tc := ⟨.hbm, 121, rfl⟩
abbrev main_v53 : Ref sig .tc := ⟨.hbm, 122, rfl⟩
abbrev main_cst_12 : Ref sig .tc := ⟨.hbm, 123, rfl⟩
abbrev main_v54 : Ref sig .tc := ⟨.hbm, 124, rfl⟩
abbrev main_cst_13 : Ref sig .tc := ⟨.hbm, 125, rfl⟩
abbrev main_v55 : Ref sig .tc := ⟨.hbm, 126, rfl⟩
abbrev main_c_14 : Ref sig .tc := ⟨.hbm, 127, rfl⟩
abbrev main_v56_0 : Ref sig .tc := ⟨.hbm, 128, rfl⟩
abbrev main_v56_1 : Ref sig .tc := ⟨.hbm, 129, rfl⟩
abbrev main_v56_2 : Ref sig .tc := ⟨.hbm, 130, rfl⟩
abbrev main_v56_3 : Ref sig .tc := ⟨.hbm, 131, rfl⟩
abbrev main_v56_4 : Ref sig .tc := ⟨.hbm, 132, rfl⟩
abbrev main_v56_5 : Ref sig .tc := ⟨.hbm, 133, rfl⟩
abbrev main_v56_6 : Ref sig .tc := ⟨.hbm, 134, rfl⟩
abbrev main_v56_7 : Ref sig .tc := ⟨.hbm, 135, rfl⟩
abbrev main_v56_8 : Ref sig .tc := ⟨.hbm, 136, rfl⟩
abbrev main_v56_9 : Ref sig .tc := ⟨.hbm, 137, rfl⟩
abbrev main_v56_10 : Ref sig .tc := ⟨.hbm, 138, rfl⟩
abbrev main_v56_11 : Ref sig .tc := ⟨.hbm, 139, rfl⟩
abbrev main_v56_12 : Ref sig .tc := ⟨.hbm, 140, rfl⟩
abbrev main_while1c_c_28 : Ref sig .tc := ⟨.hbm, 141, rfl⟩
abbrev main_while1c_v77 : Ref sig .tc := ⟨.hbm, 142, rfl⟩
abbrev main_while1b_c_28 : Ref sig .tc := ⟨.hbm, 143, rfl⟩
abbrev main_while1b_v77 : Ref sig .tc := ⟨.hbm, 144, rfl⟩
abbrev main_while1b_c_29 : Ref sig .tc := ⟨.hbm, 145, rfl⟩
abbrev main_while1b_v78 : Ref sig .tc := ⟨.hbm, 146, rfl⟩
abbrev main_while1b_call6_c : Ref sig .tc := ⟨.hbm, 147, rfl⟩
abbrev main_while1b_call6_c_0 : Ref sig .tc := ⟨.hbm, 148, rfl⟩
abbrev main_while1b_call6_v0 : Ref sig .tc := ⟨.hbm, 149, rfl⟩
abbrev main_while1b_v79 : Ref sig .tc := ⟨.hbm, 150, rfl⟩
abbrev main_while1b_call7_c : Ref sig .tc := ⟨.hbm, 151, rfl⟩
abbrev main_while1b_call7_c_0 : Ref sig .tc := ⟨.hbm, 152, rfl⟩
abbrev main_while1b_call7_v0 : Ref sig .tc := ⟨.hbm, 153, rfl⟩
abbrev main_while1b_v80 : Ref sig .tc := ⟨.hbm, 154, rfl⟩
abbrev main_while1b_call8_c : Ref sig .tc := ⟨.hbm, 155, rfl⟩
abbrev main_while1b_call8_c_0 : Ref sig .tc := ⟨.hbm, 156, rfl⟩
abbrev main_while1b_call8_v0 : Ref sig .tc := ⟨.hbm, 157, rfl⟩
abbrev main_while1b_v81 : Ref sig .tc := ⟨.hbm, 158, rfl⟩
abbrev main_while1b_call9_c : Ref sig .tc := ⟨.hbm, 159, rfl⟩
abbrev main_while1b_call9_c_0 : Ref sig .tc := ⟨.hbm, 160, rfl⟩
abbrev main_while1b_call9_v0 : Ref sig .tc := ⟨.hbm, 161, rfl⟩
abbrev main_while1b_v82 : Ref sig .tc := ⟨.hbm, 162, rfl⟩
abbrev main_while1b_v83 : Ref sig .tc := ⟨.hbm, 163, rfl⟩
abbrev main_while1b_v84 : Ref sig .tc := ⟨.hbm, 164, rfl⟩
abbrev main_while1b_v85 : Ref sig .tc := ⟨.hbm, 165, rfl⟩
abbrev main_while1b_v86 : Ref sig .tc := ⟨.hbm, 166, rfl⟩
abbrev main_while1b_v87 : Ref sig .tc := ⟨.hbm, 167, rfl⟩
abbrev main_while1b_v88 : Ref sig .tc := ⟨.hbm, 168, rfl⟩
abbrev main_while1b_v89 : Ref sig .tc := ⟨.hbm, 169, rfl⟩
abbrev main_while1b_v90 : Ref sig .tc := ⟨.hbm, 170, rfl⟩
abbrev main_while1b_v91 : Ref sig .tc := ⟨.hbm, 171, rfl⟩
abbrev main_while1b_v92 : Ref sig .tc := ⟨.hbm, 172, rfl⟩
abbrev main_while1b_v93 : Ref sig .tc := ⟨.hbm, 173, rfl⟩
abbrev main_while1b_v94 : Ref sig .tc := ⟨.hbm, 174, rfl⟩
abbrev main_while1b_v95 : Ref sig .tc := ⟨.hbm, 175, rfl⟩
abbrev main_while1b_v96 : Ref sig .tc := ⟨.hbm, 176, rfl⟩
abbrev main_while1b_v97 : Ref sig .tc := ⟨.hbm, 177, rfl⟩
abbrev main_while1b_v98 : Ref sig .tc := ⟨.hbm, 178, rfl⟩
abbrev main_while1b_v99 : Ref sig .tc := ⟨.hbm, 179, rfl⟩
abbrev main_while1b_call10_v0 : Ref sig .tc := ⟨.hbm, 180, rfl⟩
abbrev main_while1b_call10_c : Ref sig .tc := ⟨.hbm, 181, rfl⟩
abbrev main_while1b_call10_c_0 : Ref sig .tc := ⟨.hbm, 182, rfl⟩
abbrev main_while1b_v100 : Ref sig .tc := ⟨.hbm, 183, rfl⟩
abbrev main_while1b_call11_v0 : Ref sig .tc := ⟨.hbm, 184, rfl⟩
abbrev main_while1b_call11_c : Ref sig .tc := ⟨.hbm, 185, rfl⟩
abbrev main_while1b_call11_c_0 : Ref sig .tc := ⟨.hbm, 186, rfl⟩
abbrev main_while1b_v101 : Ref sig .tc := ⟨.hbm, 187, rfl⟩
abbrev main_while1b_c_30 : Ref sig .tc := ⟨.hbm, 188, rfl⟩
abbrev main_while1b_v102 : Ref sig .tc := ⟨.hbm, 189, rfl⟩
abbrev main_v57 : Ref sig .tc := ⟨.hbm, 190, rfl⟩
abbrev main_v58 : Ref sig .tc := ⟨.hbm, 191, rfl⟩
abbrev main_v59 : Ref sig .tc := ⟨.hbm, 192, rfl⟩
abbrev main_v60 : Ref sig .tc := ⟨.hbm, 193, rfl⟩
abbrev main_v61 : Ref sig .tc := ⟨.hbm, 194, rfl⟩
abbrev main_v62 : Ref sig .tc := ⟨.hbm, 195, rfl⟩
abbrev main_v63 : Ref sig .tc := ⟨.hbm, 196, rfl⟩
abbrev main_v64 : Ref sig .tc := ⟨.hbm, 197, rfl⟩
abbrev main_v65 : Ref sig .tc := ⟨.hbm, 198, rfl⟩
abbrev main_v66 : Ref sig .tc := ⟨.hbm, 199, rfl⟩
abbrev main_v67 : Ref sig .tc := ⟨.hbm, 200, rfl⟩
abbrev main_v68 : Ref sig .tc := ⟨.hbm, 201, rfl⟩
abbrev main_v69 : Ref sig .tc := ⟨.hbm, 202, rfl⟩
abbrev main_v70 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_cst_15 : Ref sig .tc := ⟨.hbm, 207, rfl⟩
abbrev main_v74 : Ref sig .tc := ⟨.hbm, 208, rfl⟩
abbrev main_v75 : Ref sig .tc := ⟨.hbm, 209, rfl⟩
abbrev main_v76 : Ref sig .tc := ⟨.hbm, 210, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== FfnIn.lean ====
abbrev S2048x1024 : Shape := ⟨2, ![2048, 1024]⟩
abbrev S1024x5632 : Shape := ⟨2, ![1024, 5632]⟩
abbrev S2048x5632 : Shape := ⟨2, ![2048, 5632]⟩
abbrev S1024x1024 : Shape := ⟨2, ![1024, 1024]⟩
abbrev S1024x1408 : Shape := ⟨2, ![1024, 1408]⟩
abbrev S2048x1408 : Shape := ⟨2, ![2048, 1408]⟩

abbrev nBuf : Space → Nat
  | .hbm => 5
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .bf16⟩
  | .hbm, ⟨3, _⟩ => ⟨S2048x5632, .f32⟩
  | .hbm, ⟨4, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S2048x1024, .bf16⟩
  | .local _ .vmem, ⟨7, _⟩ => ⟨S2048x1408, .bf16⟩
  | .local _ .vmem, ⟨8, _⟩ => ⟨S2048x1408, .bf16⟩
  | .local _ .vmem, ⟨9, _⟩ => ⟨S1024x1408, .bf16⟩
  | .local _ .vmem, ⟨10, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== FfnInRefIdeal.lean ====
abbrev S2048x1024 : Shape := ⟨2, ![2048, 1024]⟩
abbrev S1024x5632 : Shape := ⟨2, ![1024, 5632]⟩
abbrev S2048x5632 : Shape := ⟨2, ![2048, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .bf16⟩
  | .hbm, ⟨3, _⟩ => ⟨S2048x1024, .f32⟩
  | .hbm, ⟨4, _⟩ => ⟨S1024x5632, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S2048x1024, .f32⟩
  | .hbm, ⟨10, _⟩ => ⟨S1024x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnInDx.lean ====
abbrev S2048x5632 : Shape := ⟨2, ![2048, 5632]⟩
abbrev S1024x5632 : Shape := ⟨2, ![1024, 5632]⟩
abbrev S2048x1024 : Shape := ⟨2, ![2048, 1024]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S2048x5632 : Shape := ⟨2, ![2048, 5632]⟩
abbrev S1024x5632 : Shape := ⟨2, ![1024, 5632]⟩
abbrev S_ : Shape := ⟨0, ![]⟩
abbrev S2048x1024 : Shape := ⟨2, ![2048, 1024]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S_, .f32⟩
  | .hbm, ⟨3, _⟩ => ⟨S2048x1024, .f32⟩
  | .hbm, ⟨4, _⟩ => ⟨S1024x5632, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S2048x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnOut.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S1024x1024 : Shape := ⟨2, ![1024, 1024]⟩
abbrev S1408x1024 : Shape := ⟨2, ![1408, 1024]⟩
abbrev S1024x1408 : Shape := ⟨2, ![1024, 1408]⟩
abbrev S2048x1408 : Shape := ⟨2, ![2048, 1408]⟩

abbrev nBuf : Space → Nat
  | .hbm => 7
  | .vmem => 18
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x2816, .bf16⟩
  | .hbm, ⟨6, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1408x1024, .bf16⟩
  | .local _ .vmem, ⟨10, _⟩ => ⟨S1408x1024, .bf16⟩
  | .local _ .vmem, ⟨11, _⟩ => ⟨S1024x1408, .bf16⟩
  | .local _ .vmem, ⟨12, _⟩ => ⟨S1024x1408, .bf16⟩
  | .local _ .vmem, ⟨13, _⟩ => ⟨S2048x1408, .bf16⟩
  | .local _ .vmem, ⟨14, _⟩ => ⟨S2048x1408, .bf16⟩
  | .local _ .vmem, ⟨15, _⟩ => ⟨S2048x1024, .f32⟩
  | .local _ .vmem, ⟨16, _⟩ => ⟨S1408x1024, .bf16⟩
  | .local _ .vmem, ⟨17, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1408x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== FfnOutRefIdeal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .hbm, ⟨4, _⟩ => ⟨S2048x2816, .f32⟩
  | .hbm, ⟨5, _⟩ => ⟨S2816x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024x2816, .f32⟩
  | .hbm, ⟨10, _⟩ => ⟨S2816x1024, .f32⟩
  | .hbm, ⟨11, _⟩ => ⟨S2048x2816, .f32⟩
  | .hbm, ⟨12, _⟩ => ⟨S2048x2816, .bf16⟩
  | .hbm, ⟨13, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Mixer.lean ====
abbrev S2048x1024 : Shape := ⟨2, ![2048, 1024]⟩
abbrev S1024x2560 : Shape := ⟨2, ![1024, 2560]⟩
abbrev S2048x2560 : Shape := ⟨2, ![2048, 2560]⟩
abbrev S1024x1024 : Shape := ⟨2, ![1024, 1024]⟩
abbrev S1024x1280 : Shape := ⟨2, ![1024, 1280]⟩
abbrev S2048x1280 : Shape := ⟨2, ![2048, 1280]⟩

abbrev nBuf : Space → Nat
  | .hbm => 13
  | .vmem => 31
  | .smem => 0
  | _ => 0

abbrev bufTy : (tb : Table) → Fin (tcTables nBuf tb) → BufTy
  | .hbm, ⟨0, _⟩ => ⟨S2048x1024, .bf16⟩
  | .hbm, ⟨1, _⟩ => ⟨S1024x2560, .bf16⟩
  | .hbm, ⟨2, _⟩ => ⟨S2048x2560, .bf16⟩
  | .hbm, ⟨3, _⟩ => ⟨S2048x1024, .bf16⟩
  | .hbm, ⟨4, _⟩ => ⟨S1024x1024, .bf16⟩
  | .hbm, ⟨5, _⟩ => ⟨S2048x1024, .f32⟩
  | .hbm, ⟨6, _⟩ => ⟨S2048x1024, .f32⟩
  | .hbm, ⟨7, _⟩ => ⟨S2048x2560, .f32⟩
  | .hbm, ⟨8, _⟩ => ⟨S2048x1024, .f32⟩
  | .hbm, ⟨9, _⟩ => ⟨S1024x2560, .bf16⟩
  | .hbm, ⟨10, _⟩ => ⟨S2048x1024, .f32⟩
  | .hbm, ⟨11, _⟩ => ⟨S2048x1024, .f32⟩
  | .hbm, ⟨12, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x2560, .bf16⟩
  | .local _ .vmem, ⟨7, _⟩ => ⟨S1024x2560, .bf16⟩
  | .local _ .vmem, ⟨8, _⟩ => ⟨S1024x2560, .bf16⟩
  | .local _ .vmem, ⟨9, _⟩ => ⟨S1024x1024, .f32⟩
  | .local _ .vmem, ⟨10, _⟩ => ⟨S1024x1024, .f32⟩
  | .local _ .vmem, ⟨11, _⟩ => ⟨S2048x1024, .bf16⟩
  | .local _ .vmem, ⟨12, _⟩ => ⟨S2048x1280, .bf16⟩
  | .local _ .vmem, ⟨13, _⟩ => ⟨S2048x1280, .bf16⟩
  | .local _ .vmem, ⟨14, _⟩ => ⟨S1024x1280, .bf16⟩
  | .local _ .vmem, ⟨15, _⟩ => ⟨S1024x1280, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .bf16⟩
  | .local _ .vmem, ⟨26, _⟩ => ⟨S1024x1024, .f32⟩
  | .local _ .vmem, ⟨27, _⟩ => ⟨S1024x1024, .f32⟩
  | .local _ .vmem, ⟨28, _⟩ => ⟨S2048x1024, .bf16⟩
  | .local _ .vmem, ⟨29, _⟩ => ⟨S2048x1024, .f32⟩
  | .local _ .vmem, ⟨30, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg2_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem2_0 : DmaSem sig := 30

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x2560 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2048x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1280 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 1 → Memref sig .tc .vmem S2048x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S1024x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]
-- ==== MixerRefIdeal.lean ====
abbrev S2048x1024 : Shape := ⟨2, ![2048, 1024]⟩
abbrev S1024x2560 : Shape := ⟨2, ![1024, 2560]⟩
abbrev S2048x2560 : Shape := ⟨2, ![2048, 2560]⟩
abbrev S1024x1024 : Shape := ⟨2, ![1024, 1024]⟩
abbrev S2560x1024 : Shape := ⟨2, ![2560, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2560, .bf16⟩
  | .hbm, ⟨2, _⟩ => ⟨S2048x2560, .bf16⟩
  | .hbm, ⟨3, _⟩ => ⟨S2048x1024, .bf16⟩
  | .hbm, ⟨4, _⟩ => ⟨S1024x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x2560, .f32⟩
  | .hbm, ⟨9, _⟩ => ⟨S2048x2560, .f32⟩
  | .hbm, ⟨10, _⟩ => ⟨S2048x2560, .f32⟩
  | .hbm, ⟨11, _⟩ => ⟨S2560x1024, .f32⟩
  | .hbm, ⟨12, _⟩ => ⟨S1024x2560, .f32⟩
  | .hbm, ⟨13, _⟩ => ⟨S2048x1024, .f32⟩
  | .hbm, ⟨14, _⟩ => ⟨S2048x1024, .f32⟩
  | .hbm, ⟨15, _⟩ => ⟨S1024x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S1024x1024, .f32⟩
  | .hbm, ⟨20, _⟩ => ⟨S1024x1024, .f32⟩
  | .hbm, ⟨21, _⟩ => ⟨S2048x1024, .f32⟩
  | .hbm, ⟨22, _⟩ => ⟨S1024x2560, .bf16⟩
  | .hbm, ⟨23, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Attention.lean ====
abbrev S2048x1024 : Shape := ⟨2, ![2048, 1024]⟩
abbrev S1024x4608 : Shape := ⟨2, ![1024, 4608]⟩
abbrev S3x2048x512 : Shape := ⟨3, ![3, 2048, 512]⟩
abbrev S2048x512 : Shape := ⟨2, ![2048, 512]⟩
abbrev S512x1024 : Shape := ⟨2, ![512, 1024]⟩
abbrev S2048x1536 : Shape := ⟨2, ![2048, 1536]⟩
abbrev S1024x1024 : Shape := ⟨2, ![1024, 1024]⟩
abbrev S1024x512 : Shape := ⟨2, ![1024, 512]⟩
abbrev S1024x1536 : Shape := ⟨2, ![1024, 1536]⟩
abbrev S1x2048x512 : Shape := ⟨3, ![1, 2048, 512]⟩

abbrev nBuf : Space → Nat
  | .hbm => 20
  | .vmem => 48
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S1024x4608, .bf16⟩
  | .hbm, ⟨4, _⟩ => ⟨S3x2048x512, .bf16⟩
  | .hbm, ⟨5, _⟩ => ⟨S3x2048x512, .bf16⟩
  | .hbm, ⟨6, _⟩ => ⟨S3x2048x512, .bf16⟩
  | .hbm, ⟨7, _⟩ => ⟨S2048x512, .bf16⟩
  | .hbm, ⟨8, _⟩ => ⟨S512x1024, .bf16⟩
  | .hbm, ⟨9, _⟩ => ⟨S2048x1024, .f32⟩
  | .hbm, ⟨10, _⟩ => ⟨S2048x1024, .f32⟩
  | .hbm, ⟨11, _⟩ => ⟨S2048x1536, .f32⟩
  | .hbm, ⟨12, _⟩ => ⟨S1024x1536, .bf16⟩
  | .hbm, ⟨13, _⟩ => ⟨S2048x1536, .f32⟩
  | .hbm, ⟨14, _⟩ => ⟨S1024x1536, .bf16⟩
  | .hbm, ⟨15, _⟩ => ⟨S2048x1536, .f32⟩
  | .hbm, ⟨16, _⟩ => ⟨S1024x1536, .bf16⟩
  | .hbm, ⟨17, _⟩ => ⟨S2048x1024, .f32⟩
  | .hbm, ⟨18, _⟩ => ⟨S2048x512, .f32⟩
  | .hbm, ⟨19, _⟩ => ⟨S512x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S2048x1024, .bf16⟩
  | .local _ .vmem, ⟨7, _⟩ => ⟨S1x2048x512, .bf16⟩
  | .local _ .vmem, ⟨8, _⟩ => ⟨S1x2048x512, .bf16⟩
  | .local _ .vmem, ⟨9, _⟩ => ⟨S1024x512, .bf16⟩
  | .local _ .vmem, ⟨10, _⟩ => ⟨S1024x512, .bf16⟩
  | .local _ .vmem, ⟨11, _⟩ => ⟨S1024x1024, .bf16⟩
  | .local _ .vmem, ⟨12, _⟩ => ⟨S1024x1024, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .f32⟩
  | .local _ .vmem, ⟨16, _⟩ => ⟨S1024x512, .f32⟩
  | .local _ .vmem, ⟨17, _⟩ => ⟨S2048x1024, .bf16⟩
  | .local _ .vmem, ⟨18, _⟩ => ⟨S1x2048x512, .bf16⟩
  | .local _ .vmem, ⟨19, _⟩ => ⟨S1x2048x512, .bf16⟩
  | .local _ .vmem, ⟨20, _⟩ => ⟨S1024x512, .bf16⟩
  | .local _ .vmem, ⟨21, _⟩ => ⟨S1024x512, .bf16⟩
  | .local _ .vmem, ⟨22, _⟩ => ⟨S1024x1024, .bf16⟩
  | .local _ .vmem, ⟨23, _⟩ => ⟨S1024x1024, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .f32⟩
  | .local _ .vmem, ⟨27, _⟩ => ⟨S1024x512, .f32⟩
  | .local _ .vmem, ⟨28, _⟩ => ⟨S2048x1024, .bf16⟩
  | .local _ .vmem, ⟨29, _⟩ => ⟨S1x2048x512, .bf16⟩
  | .local _ .vmem, ⟨30, _⟩ => ⟨S1x2048x512, .bf16⟩
  | .local _ .vmem, ⟨31, _⟩ => ⟨S1024x512, .bf16⟩
  | .local _ .vmem, ⟨32, _⟩ => ⟨S1024x512, .bf16⟩
  | .local _ .vmem, ⟨33, _⟩ => ⟨S1024x512, .bf16⟩
  | .local _ .vmem, ⟨34, _⟩ => ⟨S1024x512, .bf16⟩
  | .local _ .vmem, ⟨35, _⟩ => ⟨S512x1024, .bf16⟩
  | .local _ .vmem, ⟨36, _⟩ => ⟨S1024x1024, .f32⟩
  | .local _ .vmem, ⟨37, _⟩ => ⟨S1024x1024, .f32⟩
  | .local _ .vmem, ⟨38, _⟩ => ⟨S1024x1024, .f32⟩
  | .local _ .vmem, ⟨39, _⟩ => ⟨S1024x1024, .f32⟩
  | .local _ .vmem, ⟨40, _⟩ => ⟨S1024x1024, .f32⟩
  | .local _ .vmem, ⟨41, _⟩ => ⟨S1024x1024, .f32⟩
  | .local _ .vmem, ⟨42, _⟩ => ⟨S512x1024, .bf16⟩
  | .local _ .vmem, ⟨43, _⟩ => ⟨S1024x512, .f32⟩
  | .local _ .vmem, ⟨44, _⟩ => ⟨S1024x512, .f32⟩
  | .local _ .vmem, ⟨45, _⟩ => ⟨S2048x512, .bf16⟩
  | .local _ .vmem, ⟨46, _⟩ => ⟨S2048x1024, .f32⟩
  | .local _ .vmem, ⟨47, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc6_stg3_0 : Ref sig .tc := ⟨.vmem, 38, rfl⟩
abbrev cc6_stg3_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg2_0 : Ref sig .tc := ⟨.vmem, 43, rfl⟩
abbrev cc7_stg2_1 : Ref sig .tc := ⟨.vmem, 44, rfl⟩
abbrev cc8_stg0_0 : Ref sig .tc := ⟨.vmem, 45, rfl⟩
abbrev cc8_stg1_0 : Ref sig .tc := ⟨.vmem, 46, rfl⟩
abbrev cc8_stg2_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem1_1 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc6_sem3_0 : DmaSem sig := 38
abbrev cc6_sem3_1 : DmaSem sig := 39
abbrev cc7_sem0_0 : DmaSem sig := 40
abbrev cc7_sem0_1 : DmaSem sig := 41
abbrev cc7_sem1_0 : DmaSem sig := 42
abbrev cc7_sem2_0 : DmaSem sig := 43
abbrev cc7_sem2_1 : DmaSem sig := 44
abbrev cc8_sem0_0 : DmaSem sig := 45
abbrev cc8_sem1_0 : DmaSem sig := 46
abbrev cc8_sem2_0 : DmaSem sig := 47

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 3, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 3, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c1_i32 : BitVec 32 := 1#32
  let v1 : BitVec 32 := Scalar.addi v0 c1_i32
  let c0_i32 : BitVec 32 := 0#32
  let c0_i32_0 : BitVec 32 := 0#32
  ![c0_i32.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 3, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S1x2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 3, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c2_i32 : BitVec 32 := 2#32
  let v1 : BitVec 32 := Scalar.addi v0 c2_i32
  let c0_i32 : BitVec 32 := 0#32
  let c0_i32_0 : BitVec 32 := 0#32
  ![c0_i32.toNat, v1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, false]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 3, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S1x2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S512x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S1024x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨3, ![2, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S512x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S2048x512 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 1 → Memref sig .tc .vmem S2048x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 1 → Memref sig .tc .vmem S512x1024 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true, false]
-- ==== AttentionRefIdeal.lean ====
abbrev S2048x1024 : Shape := ⟨2, ![2048, 1024]⟩
abbrev S1024x4608 : Shape := ⟨2, ![1024, 4608]⟩
abbrev S3x2048x512 : Shape := ⟨3, ![3, 2048, 512]⟩
abbrev S2048x512 : Shape := ⟨2, ![2048, 512]⟩
abbrev S512x1024 : Shape := ⟨2, ![512, 1024]⟩
abbrev S1024x3x3x512 : Shape := ⟨4, ![1024, 3, 3, 512]⟩
abbrev S1024x3x1x512 : Shape := ⟨4, ![1024, 3, 1, 512]⟩
abbrev S1024x3x512 : Shape := ⟨3, ![1024, 3, 512]⟩
abbrev S1024x1536 : Shape := ⟨2, ![1024, 1536]⟩
abbrev S2048x3x512 : Shape := ⟨3, ![2048, 3, 512]⟩
abbrev S2048x1536 : Shape := ⟨2, ![2048, 1536]⟩
abbrev S1536x1024 : Shape := ⟨2, ![1536, 1024]⟩
abbrev S1024x512 : Shape := ⟨2, ![1024, 512]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S1024x4608, .bf16⟩
  | .hbm, ⟨4, _⟩ => ⟨S3x2048x512, .bf16⟩
  | .hbm, ⟨5, _⟩ => ⟨S3x2048x512, .bf16⟩
  | .hbm, ⟨6, _⟩ => ⟨S3x2048x512, .bf16⟩
  | .hbm, ⟨7, _⟩ => ⟨S2048x512, .bf16⟩
  | .hbm, ⟨8, _⟩ => ⟨S512x1024, .bf16⟩
  | .hbm, ⟨9, _⟩ => ⟨S2048x1024, .f32⟩
  | .hbm, ⟨10, _⟩ => ⟨S2048x1024, .f32⟩
  | .hbm, ⟨11, _⟩ => ⟨S1024x3x3x512, .bf16⟩
  | .hbm, ⟨12, _⟩ => ⟨S1024x3x1x512, .bf16⟩
  | .hbm, ⟨13, _⟩ => ⟨S1024x3x512, .bf16⟩
  | .hbm, ⟨14, _⟩ => ⟨S1024x1536, .bf16⟩
  | .hbm, ⟨15, _⟩ => ⟨S2048x3x512, .bf16⟩
  | .hbm, ⟨16, _⟩ => ⟨S2048x1536, .bf16⟩
  | .hbm, ⟨17, _⟩ => ⟨S2048x1024, .f32⟩
  | .hbm, ⟨18, _⟩ => ⟨S1024x1536, .f32⟩
  | .hbm, ⟨19, _⟩ => ⟨S2048x1536, .f32⟩
  | .hbm, ⟨20, _⟩ => ⟨S2048x1536, .f32⟩
  | .hbm, ⟨21, _⟩ => ⟨S1536x1024, .f32⟩
  | .hbm, ⟨22, _⟩ => ⟨S1024x1536, .f32⟩
  | .hbm, ⟨23, _⟩ => ⟨S2048x1024, .f32⟩
  | .hbm, ⟨24, _⟩ => ⟨S1024x3x3x512, .bf16⟩
  | .hbm, ⟨25, _⟩ => ⟨S1024x3x1x512, .bf16⟩
  | .hbm, ⟨26, _⟩ => ⟨S1024x3x512, .bf16⟩
  | .hbm, ⟨27, _⟩ => ⟨S1024x1536, .bf16⟩
  | .hbm, ⟨28, _⟩ => ⟨S2048x3x512, .bf16⟩
  | .hbm, ⟨29, _⟩ => ⟨S2048x1536, .bf16⟩
  | .hbm, ⟨30, _⟩ => ⟨S2048x1024, .f32⟩
  | .hbm, ⟨31, _⟩ => ⟨S1024x1536, .f32⟩
  | .hbm, ⟨32, _⟩ => ⟨S2048x1536, .f32⟩
  | .hbm, ⟨33, _⟩ => ⟨S2048x1536, .f32⟩
  | .hbm, ⟨34, _⟩ => ⟨S1536x1024, .f32⟩
  | .hbm, ⟨35, _⟩ => ⟨S1024x1536, .f32⟩
  | .hbm, ⟨36, _⟩ => ⟨S2048x1024, .f32⟩
  | .hbm, ⟨37, _⟩ => ⟨S1024x3x3x512, .bf16⟩
  | .hbm, ⟨38, _⟩ => ⟨S1024x3x1x512, .bf16⟩
  | .hbm, ⟨39, _⟩ => ⟨S1024x3x512, .bf16⟩
  | .hbm, ⟨40, _⟩ => ⟨S1024x1536, .bf16⟩
  | .hbm, ⟨41, _⟩ => ⟨S2048x3x512, .bf16⟩
  | .hbm, ⟨42, _⟩ => ⟨S2048x1536, .bf16⟩
  | .hbm, ⟨43, _⟩ => ⟨S2048x1024, .f32⟩
  | .hbm, ⟨44, _⟩ => ⟨S1024x1536, .f32⟩
  | .hbm, ⟨45, _⟩ => ⟨S2048x1536, .f32⟩
  | .hbm, ⟨46, _⟩ => ⟨S2048x1536, .f32⟩
  | .hbm, ⟨47, _⟩ => ⟨S1536x1024, .f32⟩
  | .hbm, ⟨48, _⟩ => ⟨S1024x1536, .f32⟩
  | .hbm, ⟨49, _⟩ => ⟨S2048x1024, .f32⟩
  | .hbm, ⟨50, _⟩ => ⟨S2048x512, .f32⟩
  | .hbm, ⟨51, _⟩ => ⟨S512x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1024x512, .f32⟩
  | .hbm, ⟨56, _⟩ => ⟨S512x1024, .f32⟩
  | .hbm, ⟨57, _⟩ => ⟨S2048x512, .f32⟩
  | .hbm, ⟨58, _⟩ => ⟨S1024x1536, .bf16⟩
  | .hbm, ⟨59, _⟩ => ⟨S1024x1536, .bf16⟩
  | .hbm, ⟨60, _⟩ => ⟨S1024x1536, .bf16⟩
  | .hbm, ⟨61, _⟩ => ⟨S512x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== QkvDx0.lean ====
abbrev S3x2048x512 : Shape := ⟨3, ![3, 2048, 512]⟩
abbrev S1024x4608 : Shape := ⟨2, ![1024, 4608]⟩
abbrev S2048x1024 : Shape := ⟨2, ![2048, 1024]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S3x2048x512, .bf16⟩
  | .hbm, ⟨1, _⟩ => ⟨S1024x4608, .bf16⟩
  | .hbm, ⟨2, _⟩ => ⟨S2048x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S3x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg2
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDx0Ideal.lean ====
  let v1 : BitVec 32 := Scalar.addi v0 c0_i32
  let c0_i32_1 : BitVec 32 := 0#32
  ![c0_i32_0.toNat, v1.toNat]
-- ==== QkvDx0RefIdeal.lean ====
abbrev S3x2048x512 : Shape := ⟨3, ![3, 2048, 512]⟩
abbrev S1024x4608 : Shape := ⟨2, ![1024, 4608]⟩
abbrev S_ : Shape := ⟨0, ![]⟩
abbrev S2048x1024 : Shape := ⟨2, ![2048, 1024]⟩
abbrev S1024x3x3x512 : Shape := ⟨4, ![1024, 3, 3, 512]⟩
abbrev S1024x3x1x512 : Shape := ⟨4, ![1024, 3, 1, 512]⟩
abbrev S1024x3x512 : Shape := ⟨3, ![1024, 3, 512]⟩
abbrev S1024x1536 : Shape := ⟨2, ![1024, 1536]⟩
abbrev S2048x3x512 : Shape := ⟨3, ![2048, 3, 512]⟩
abbrev S2048x1536 : Shape := ⟨2, ![2048, 1536]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S3x2048x512, .bf16⟩
  | .hbm, ⟨1, _⟩ => ⟨S1024x4608, .bf16⟩
  | .hbm, ⟨2, _⟩ => ⟨S_, .f32⟩
  | .hbm, ⟨3, _⟩ => ⟨S2048x1024, .f32⟩
  | .hbm, ⟨4, _⟩ => ⟨S1024x3x3x512, .bf16⟩
  | .hbm, ⟨5, _⟩ => ⟨S1024x3x1x512, .bf16⟩
  | .hbm, ⟨6, _⟩ => ⟨S1024x3x512, .bf16⟩
  | .hbm, ⟨7, _⟩ => ⟨S1024x1536, .bf16⟩
  | .hbm, ⟨8, _⟩ => ⟨S2048x3x512, .bf16⟩
  | .hbm, ⟨9, _⟩ => ⟨S2048x1536, .bf16⟩
  | .hbm, ⟨10, _⟩ => ⟨S1024x1536, .f32⟩
  | .hbm, ⟨11, _⟩ => ⟨S2048x1536, .f32⟩
  | .hbm, ⟨12, _⟩ => ⟨S2048x1536, .f32⟩
  | .hbm, ⟨13, _⟩ => ⟨S1536x1024, .f32⟩
  | .hbm, ⟨14, _⟩ => ⟨S1024x1536, .f32⟩
  | .hbm, ⟨15, _⟩ => ⟨S2048x1024, .f32⟩
  | _, _ => ⟨S3x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== QkvDx1.lean ====
abbrev S3x2048x512 : Shape := ⟨3, ![3, 2048, 512]⟩
abbrev S1024x4608 : Shape := ⟨2, ![1024, 4608]⟩
abbrev S2048x1024 : Shape := ⟨2, ![2048, 1024]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S3x2048x512, .bf16⟩
  | .hbm, ⟨1, _⟩ => ⟨S1024x4608, .bf16⟩
  | .hbm, ⟨2, _⟩ => ⟨S2048x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S3x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg2
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDx1Ideal.lean ====
  let c1_i32 : BitVec 32 := 1#32
  let v1 : BitVec 32 := Scalar.addi v0 c1_i32
-- ==== QkvDx1RefIdeal.lean ====
abbrev S3x2048x512 : Shape := ⟨3, ![3, 2048, 512]⟩
abbrev S1024x4608 : Shape := ⟨2, ![1024, 4608]⟩
abbrev S_ : Shape := ⟨0, ![]⟩
abbrev S2048x1024 : Shape := ⟨2, ![2048, 1024]⟩
abbrev S1024x3x3x512 : Shape := ⟨4, ![1024, 3, 3, 512]⟩
abbrev S1024x3x1x512 : Shape := ⟨4, ![1024, 3, 1, 512]⟩
abbrev S1024x3x512 : Shape := ⟨3, ![1024, 3, 512]⟩
abbrev S1024x1536 : Shape := ⟨2, ![1024, 1536]⟩
abbrev S2048x3x512 : Shape := ⟨3, ![2048, 3, 512]⟩
abbrev S2048x1536 : Shape := ⟨2, ![2048, 1536]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S3x2048x512, .bf16⟩
  | .hbm, ⟨1, _⟩ => ⟨S1024x4608, .bf16⟩
  | .hbm, ⟨2, _⟩ => ⟨S_, .f32⟩
  | .hbm, ⟨3, _⟩ => ⟨S2048x1024, .f32⟩
  | .hbm, ⟨4, _⟩ => ⟨S1024x3x3x512, .bf16⟩
  | .hbm, ⟨5, _⟩ => ⟨S1024x3x1x512, .bf16⟩
  | .hbm, ⟨6, _⟩ => ⟨S1024x3x512, .bf16⟩
  | .hbm, ⟨7, _⟩ => ⟨S1024x1536, .bf16⟩
  | .hbm, ⟨8, _⟩ => ⟨S2048x3x512, .bf16⟩
  | .hbm, ⟨9, _⟩ => ⟨S2048x1536, .bf16⟩
  | .hbm, ⟨10, _⟩ => ⟨S1024x1536, .f32⟩
  | .hbm, ⟨11, _⟩ => ⟨S2048x1536, .f32⟩
  | .hbm, ⟨12, _⟩ => ⟨S2048x1536, .f32⟩
  | .hbm, ⟨13, _⟩ => ⟨S1536x1024, .f32⟩
  | .hbm, ⟨14, _⟩ => ⟨S1024x1536, .f32⟩
  | .hbm, ⟨15, _⟩ => ⟨S2048x1024, .f32⟩
  | _, _ => ⟨S3x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== QkvDx2.lean ====
abbrev S3x2048x512 : Shape := ⟨3, ![3, 2048, 512]⟩
abbrev S1024x4608 : Shape := ⟨2, ![1024, 4608]⟩
abbrev S2048x1024 : Shape := ⟨2, ![2048, 1024]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S3x2048x512, .bf16⟩
  | .hbm, ⟨1, _⟩ => ⟨S1024x4608, .bf16⟩
  | .hbm, ⟨2, _⟩ => ⟨S2048x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S3x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg2
  let c2_i32 : BitVec 32 := 2#32
  let v1 : BitVec 32 := Scalar.addi v0 c2_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDx2RefIdeal.lean ====
abbrev S3x2048x512 : Shape := ⟨3, ![3, 2048, 512]⟩
abbrev S1024x4608 : Shape := ⟨2, ![1024, 4608]⟩
abbrev S_ : Shape := ⟨0, ![]⟩
abbrev S2048x1024 : Shape := ⟨2, ![2048, 1024]⟩
abbrev S1024x3x3x512 : Shape := ⟨4, ![1024, 3, 3, 512]⟩
abbrev S1024x3x1x512 : Shape := ⟨4, ![1024, 3, 1, 512]⟩
abbrev S1024x3x512 : Shape := ⟨3, ![1024, 3, 512]⟩
abbrev S1024x1536 : Shape := ⟨2, ![1024, 1536]⟩
abbrev S2048x3x512 : Shape := ⟨3, ![2048, 3, 512]⟩
abbrev S2048x1536 : Shape := ⟨2, ![2048, 1536]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S3x2048x512, .bf16⟩
  | .hbm, ⟨1, _⟩ => ⟨S1024x4608, .bf16⟩
  | .hbm, ⟨2, _⟩ => ⟨S_, .f32⟩
  | .hbm, ⟨3, _⟩ => ⟨S2048x1024, .f32⟩
  | .hbm, ⟨4, _⟩ => ⟨S1024x3x3x512, .bf16⟩
  | .hbm, ⟨5, _⟩ => ⟨S1024x3x1x512, .bf16⟩
  | .hbm, ⟨6, _⟩ => ⟨S1024x3x512, .bf16⟩
  | .hbm, ⟨7, _⟩ => ⟨S1024x1536, .bf16⟩
  | .hbm, ⟨8, _⟩ => ⟨S2048x3x512, .bf16⟩
  | .hbm, ⟨9, _⟩ => ⟨S2048x1536, .bf16⟩
  | .hbm, ⟨10, _⟩ => ⟨S1024x1536, .f32⟩
  | .hbm, ⟨11, _⟩ => ⟨S2048x1536, .f32⟩
  | .hbm, ⟨12, _⟩ => ⟨S2048x1536, .f32⟩
  | .hbm, ⟨13, _⟩ => ⟨S1536x1024, .f32⟩
  | .hbm, ⟨14, _⟩ => ⟨S1024x1536, .f32⟩
  | .hbm, ⟨15, _⟩ => ⟨S2048x1024, .f32⟩
  | _, _ => ⟨S3x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== NormBwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== GateBwd.lean ====
abbrev S2048x512 : Shape := ⟨2, ![2048, 512]⟩
abbrev S512x512 : Shape := ⟨2, ![512, 512]⟩
abbrev S1x512 : Shape := ⟨2, ![1, 512]⟩
abbrev S2048x1024 : Shape := ⟨2, ![2048, 1024]⟩
abbrev S512 : Shape := ⟨1, ![512]⟩

abbrev nBuf : Space → Nat
  | .hbm => 7
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S512x512, .bf16⟩
  | .hbm, ⟨2, _⟩ => ⟨S1x512, .f32⟩
  | .hbm, ⟨3, _⟩ => ⟨S2048x1024, .f32⟩
  | .hbm, ⟨4, _⟩ => ⟨S2048x512, .f32⟩
  | .hbm, ⟨5, _⟩ => ⟨S512x512, .f32⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateBwdRefIdeal.lean ====
abbrev S2048x512 : Shape := ⟨2, ![2048, 512]⟩
abbrev S512x512 : Shape := ⟨2, ![512, 512]⟩
abbrev S1x512 : Shape := ⟨2, ![1, 512]⟩
abbrev S2048x1024 : Shape := ⟨2, ![2048, 1024]⟩
abbrev S_ : Shape := ⟨0, ![]⟩
abbrev S512 : Shape := ⟨1, ![512]⟩

abbrev nBuf : Space → Nat
  | .hbm => 75
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x512, .bf16⟩
  | .hbm, ⟨2, _⟩ => ⟨S1x512, .f32⟩
  | .hbm, ⟨3, _⟩ => ⟨S2048x1024, .f32⟩
  | .hbm, ⟨4, _⟩ => ⟨S512x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S_, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048x512, .f32⟩
  | .hbm, ⟨43, _⟩ => ⟨S2048x512, .f32⟩
  | .hbm, ⟨44, _⟩ => ⟨S_, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S512x512, .f32⟩
  | .hbm, ⟨57, _⟩ => ⟨S512x512, .f32⟩
  | .hbm, ⟨58, _⟩ => ⟨S2048x512, .f32⟩
  | .hbm, ⟨59, _⟩ => ⟨S2048x512, .f32⟩
  | .hbm, ⟨60, _⟩ => ⟨S2048x512, .f32⟩
  | .hbm, ⟨61, _⟩ => ⟨S2048x512, .f32⟩
  | .hbm, ⟨62, _⟩ => ⟨S_, .f32⟩
  | .hbm, ⟨63, _⟩ => ⟨S2048x512, .f32⟩
  | .hbm, ⟨64, _⟩ => ⟨S2048x512, .f32⟩
  | .hbm, ⟨65, _⟩ => ⟨S2048x512, .f32⟩
  | .hbm, ⟨66, _⟩ => ⟨S_, .f32⟩
  | .hbm, ⟨67, _⟩ => ⟨S2048x512, .f32⟩
  | .hbm, ⟨68, _⟩ => ⟨S2048x512, .f32⟩
  | .hbm, ⟨69, _⟩ => ⟨S2048x512, .f32⟩
  | .hbm, ⟨70, _⟩ => ⟨S_, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== NormFwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GateFwd.lean ====
abbrev S2048x512 : Shape := ⟨2, ![2048, 512]⟩
abbrev S512x512 : Shape := ⟨2, ![512, 512]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x512, .bf16⟩
  | .hbm, ⟨2, _⟩ => ⟨S1x512, .f32⟩
  | .hbm, ⟨3, _⟩ => ⟨S2048x512, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateFwdRefIdeal.lean ====
abbrev S2048x512 : Shape := ⟨2, ![2048, 512]⟩
abbrev S512x512 : Shape := ⟨2, ![512, 512]⟩
abbrev S1x512 : Shape := ⟨2, ![1, 512]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x512, .bf16⟩
  | .hbm, ⟨2, _⟩ => ⟨S1x512, .f32⟩
  | .hbm, ⟨3, _⟩ => ⟨S512x512, .f32⟩
  | .hbm, ⟨4, _⟩ => ⟨S2048x512, .f32⟩
  | .hbm, ⟨5, _⟩ => ⟨S2048x512, .f32⟩
  | .hbm, ⟨6, _⟩ => ⟨S_, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Loss.lean ====
abbrev S2048x1024 : Shape := ⟨2, ![2048, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1x128, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== ConvFwd.lean ====
abbrev S2048x5632 : Shape := ⟨2, ![2048, 5632]⟩
abbrev S3x5632 : Shape := ⟨2, ![3, 5632]⟩
abbrev S2x1x5632 : Shape := ⟨3, ![2, 1, 5632]⟩
abbrev S2048x2816 : Shape := ⟨2, ![2048, 2816]⟩
abbrev S2048x128 : Shape := ⟨2, ![2048, 128]⟩
abbrev S3x128 : Shape := ⟨2, ![3, 128]⟩
abbrev S1x1x128 : Shape := ⟨3, ![1, 1, 128]⟩
abbrev S1x128 : Shape := ⟨2, ![1, 128]⟩
abbrev S8x128 : Shape := ⟨2, ![8, 128]⟩
abbrev S2040x128 : Shape := ⟨2, ![2040, 128]⟩

abbrev nBuf : Space → Nat
  | .hbm => 4
  | .vmem => 14
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S2x1x5632, .f32⟩
  | .hbm, ⟨3, _⟩ => ⟨S2048x2816, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S2048x128, .bf16⟩
  | .local _ .vmem, ⟨13, _⟩ => ⟨S2048x128, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdRefIdeal.lean ====
abbrev S2048x5632 : Shape := ⟨2, ![2048, 5632]⟩
abbrev S3x5632 : Shape := ⟨2, ![3, 5632]⟩
abbrev S2x1x5632 : Shape := ⟨3, ![2, 1, 5632]⟩
abbrev S1x1x5632 : Shape := ⟨3, ![1, 1, 5632]⟩
abbrev S1x5632 : Shape := ⟨2, ![1, 5632]⟩
abbrev S_ : Shape := ⟨0, ![]⟩
abbrev S2047x5632 : Shape := ⟨2, ![2047, 5632]⟩
abbrev S2x5632 : Shape := ⟨2, ![2, 5632]⟩
abbrev S2046x5632 : Shape := ⟨2, ![2046, 5632]⟩
abbrev S2048x2816 : Shape := ⟨2, ![2048, 2816]⟩

abbrev nBuf : Space → Nat
  | .hbm => 41
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S2x1x5632, .f32⟩
  | .hbm, ⟨3, _⟩ => ⟨S1x1x5632, .f32⟩
  | .hbm, ⟨4, _⟩ => ⟨S1x5632, .f32⟩
  | .hbm, ⟨5, _⟩ => ⟨S1x5632, .f32⟩
  | .hbm, ⟨6, _⟩ => ⟨S_, .f32⟩
  | .hbm, ⟨7, _⟩ => ⟨S1x5632, .f32⟩
  | .hbm, ⟨8, _⟩ => ⟨S2047x5632, .f32⟩
  | .hbm, ⟨9, _⟩ => ⟨S2048x5632, .f32⟩
  | .hbm, ⟨10, _⟩ => ⟨S2x5632, .f32⟩
  | .hbm, ⟨11, _⟩ => ⟨S_, .f32⟩
  | .hbm, ⟨12, _⟩ => ⟨S2x5632, .f32⟩
  | .hbm, ⟨13, _⟩ => ⟨S2046x5632, .f32⟩
  | .hbm, ⟨14, _⟩ => ⟨S2048x5632, .f32⟩
  | .hbm, ⟨15, _⟩ => ⟨S1x5632, .f32⟩
  | .hbm, ⟨16, _⟩ => ⟨S2048x5632, .f32⟩
  | .hbm, ⟨17, _⟩ => ⟨S2048x5632, .f32⟩
  | .hbm, ⟨18, _⟩ => ⟨S1x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S1x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== ConvFwd1.lean ====
abbrev S2048x5632 : Shape := ⟨2, ![2048, 5632]⟩
abbrev S3x5632 : Shape := ⟨2, ![3, 5632]⟩
abbrev S2x1x5632 : Shape := ⟨3, ![2, 1, 5632]⟩
abbrev S2048x2816 : Shape := ⟨2, ![2048, 2816]⟩
abbrev S2048x128 : Shape := ⟨2, ![2048, 128]⟩
abbrev S3x128 : Shape := ⟨2, ![3, 128]⟩
abbrev S1x1x128 : Shape := ⟨3, ![1, 1, 128]⟩
abbrev S1x128 : Shape := ⟨2, ![1, 128]⟩
abbrev S8x128 : Shape := ⟨2, ![8, 128]⟩
abbrev S2040x128 : Shape := ⟨2, ![2040, 128]⟩

abbrev nBuf : Space → Nat
  | .hbm => 4
  | .vmem => 14
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S2x1x5632, .f32⟩
  | .hbm, ⟨3, _⟩ => ⟨S2048x2816, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S2048x128, .bf16⟩
  | .local _ .vmem, ⟨13, _⟩ => ⟨S2048x128, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_5 (i : grid0.Coords) : Fin 3 → Nat :=
  let arg0 : BitVec 32 := BitVec.ofNat 32 (i 0).val
  let c22_i32 : BitVec 32 := 22#32
  let v0 : BitVec 32 := Scalar.addi arg0 c22_i32
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwd1RefIdeal.lean ====
abbrev S2048x5632 : Shape := ⟨2, ![2048, 5632]⟩
abbrev S3x5632 : Shape := ⟨2, ![3, 5632]⟩
abbrev S2x1x5632 : Shape := ⟨3, ![2, 1, 5632]⟩
abbrev S1x1x5632 : Shape := ⟨3, ![1, 1, 5632]⟩
abbrev S1x5632 : Shape := ⟨2, ![1, 5632]⟩
abbrev S_ : Shape := ⟨0, ![]⟩
abbrev S2047x5632 : Shape := ⟨2, ![2047, 5632]⟩
abbrev S2x5632 : Shape := ⟨2, ![2, 5632]⟩
abbrev S2046x5632 : Shape := ⟨2, ![2046, 5632]⟩
abbrev S2048x2816 : Shape := ⟨2, ![2048, 2816]⟩

abbrev nBuf : Space → Nat
  | .hbm => 41
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S2x1x5632, .f32⟩
  | .hbm, ⟨3, _⟩ => ⟨S1x1x5632, .f32⟩
  | .hbm, ⟨4, _⟩ => ⟨S1x5632, .f32⟩
  | .hbm, ⟨5, _⟩ => ⟨S1x5632, .f32⟩
  | .hbm, ⟨6, _⟩ => ⟨S_, .f32⟩
  | .hbm, ⟨7, _⟩ => ⟨S1x5632, .f32⟩
  | .hbm, ⟨8, _⟩ => ⟨S2047x5632, .f32⟩
  | .hbm, ⟨9, _⟩ => ⟨S2048x5632, .f32⟩
  | .hbm, ⟨10, _⟩ => ⟨S2x5632, .f32⟩
  | .hbm, ⟨11, _⟩ => ⟨S_, .f32⟩
  | .hbm, ⟨12, _⟩ => ⟨S2x5632, .f32⟩
  | .hbm, ⟨13, _⟩ => ⟨S2046x5632, .f32⟩
  | .hbm, ⟨14, _⟩ => ⟨S2048x5632, .f32⟩
  | .hbm, ⟨15, _⟩ => ⟨S1x5632, .f32⟩
  | .hbm, ⟨16, _⟩ => ⟨S2048x5632, .f32⟩
  | .hbm, ⟨17, _⟩ => ⟨S2048x5632, .f32⟩
  | .hbm, ⟨18, _⟩ => ⟨S1x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S1x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== ParamsFwd.lean ====
abbrev S2048x1 : Shape := ⟨2, ![2048, 1]⟩
abbrev S1x32 : Shape := ⟨2, ![1, 32]⟩
abbrev S2048x16 : Shape := ⟨2, ![2048, 16]⟩
abbrev S2048x128 : Shape := ⟨2, ![2048, 128]⟩
abbrev S1x2048 : Shape := ⟨2, ![1, 2048]⟩
abbrev S2048x32 : Shape := ⟨2, ![2048, 32]⟩
abbrev S2048 : Shape := ⟨1, ![2048]⟩
abbrev S16x128 : Shape := ⟨2, ![16, 128]⟩
abbrev S128x2048 : Shape := ⟨2, ![128, 2048]⟩

abbrev nBuf : Space → Nat
  | .hbm => 13
  | .vmem => 13
  | .smem => 0
  | _ => 0

abbrev bufTy : (tb : Table) → Fin (tcTables nBuf tb) → BufTy
  | .hbm, ⟨0, _⟩ => ⟨S2048x1, .f32⟩
  | .hbm, ⟨1, _⟩ => ⟨S2048x1, .f32⟩
  | .hbm, ⟨2, _⟩ => ⟨S1x32, .f32⟩
  | .hbm, ⟨3, _⟩ => ⟨S2048x16, .f32⟩
  | .hbm, ⟨4, _⟩ => ⟨S2048x16, .f32⟩
  | .hbm, ⟨5, _⟩ => ⟨S2048x16, .f32⟩
  | .hbm, ⟨6, _⟩ => ⟨S2048x16, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S1x2048, .f32⟩
  | .hbm, ⟨12, _⟩ => ⟨S1x2048, .f32⟩
  | .local _ .vmem, ⟨0, _⟩ => ⟨S2048x1, .f32⟩
  | .local _ .vmem, ⟨1, _⟩ => ⟨S2048x1, .f32⟩
  | .local _ .vmem, ⟨2, _⟩ => ⟨S1x32, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | .local _ .vmem, ⟨6, _⟩ => ⟨S2048x16, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S1x2048, .f32⟩
  | .local _ .vmem, ⟨12, _⟩ => ⟨S1x2048, .f32⟩
  | _, _ => ⟨S2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ParamsFwdRefIdeal.lean ====
abbrev S2048x1 : Shape := ⟨2, ![2048, 1]⟩
abbrev S1x32 : Shape := ⟨2, ![1, 32]⟩
abbrev S2048x16 : Shape := ⟨2, ![2048, 16]⟩
abbrev S32x1 : Shape := ⟨2, ![32, 1]⟩
abbrev S32x64 : Shape := ⟨2, ![32, 64]⟩
abbrev S_ : Shape := ⟨0, ![]⟩
abbrev S2048x128 : Shape := ⟨2, ![2048, 128]⟩
abbrev S1x2048x1x16 : Shape := ⟨4, ![1, 2048, 1, 16]⟩
abbrev S1x2048x8x16 : Shape := ⟨4, ![1, 2048, 8, 16]⟩
abbrev S1x2048 : Shape := ⟨2, ![1, 2048]⟩

abbrev nBuf : Space → Nat
  | .hbm => 121
  | .vmem => 0
  | .smem => 0
  | _ => 0

abbrev bufTy : (tb : Table) → Fin (tcTables nBuf tb) → BufTy
  | .hbm, ⟨0, _⟩ => ⟨S2048x1, .f32⟩
  | .hbm, ⟨1, _⟩ => ⟨S2048x1, .f32⟩
  | .hbm, ⟨2, _⟩ => ⟨S1x32, .f32⟩
  | .hbm, ⟨3, _⟩ => ⟨S2048x16, .f32⟩
  | .hbm, ⟨4, _⟩ => ⟨S2048x16, .f32⟩
  | .hbm, ⟨5, _⟩ => ⟨S2048x16, .f32⟩
  | .hbm, ⟨6, _⟩ => ⟨S2048x16, .f32⟩
  | .hbm, ⟨7, _⟩ => ⟨S32x1, .f32⟩
  | .hbm, ⟨8, _⟩ => ⟨S32x64, .f32⟩
  | .hbm, ⟨9, _⟩ => ⟨S2048x1, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x16, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S2048x128, .i32⟩
  | .hbm, ⟨44, _⟩ => ⟨S2048x128, .i32⟩
  | .hbm, ⟨45, _⟩ => ⟨S_, .i32⟩
  | .hbm, ⟨46, _⟩ => ⟨S2048x128, .i32⟩
  | .hbm, ⟨47, _⟩ => ⟨S2048x128, .i32⟩
  | .hbm, ⟨48, _⟩ => ⟨S_, .i32⟩
  | .hbm, ⟨49, _⟩ => ⟨S2048x128, .i32⟩
  | .hbm, ⟨50, _⟩ => ⟨S2048x128, .i32⟩
  | .hbm, ⟨51, _⟩ => ⟨S_, .i32⟩
  | .hbm, ⟨52, _⟩ => ⟨S2048x128, .i32⟩
  | .hbm, ⟨53, _⟩ => ⟨S2048x128, .i32⟩
  | .hbm, ⟨54, _⟩ => ⟨S2048x128, .i1⟩
  | .hbm, ⟨55, _⟩ => ⟨S1x2048x1x16, .f32⟩
  | .hbm, ⟨56, _⟩ => ⟨S1x2048x8x16, .f32⟩
  | .hbm, ⟨57, _⟩ => ⟨S2048x128, .f32⟩
  | .hbm, ⟨58, _⟩ => ⟨S_, .f32⟩
  | .hbm, ⟨59, _⟩ => ⟨S_, .f32⟩
  | .hbm, ⟨60, _⟩ => ⟨S2048x128, .f32⟩
  | .hbm, ⟨61, _⟩ => ⟨S2048x128, .f32⟩
  | .hbm, ⟨62, _⟩ => ⟨S2048x128, .i32⟩
  | .hbm, ⟨63, _⟩ => ⟨S2048x128, .i32⟩
  | .hbm, ⟨64, _⟩ => ⟨S_, .i32⟩
  | .hbm, ⟨65, _⟩ => ⟨S2048x128, .i32⟩
  | .hbm, ⟨66, _⟩ => ⟨S2048x128, .i32⟩
  | .hbm, ⟨67, _⟩ => ⟨S_, .i32⟩
  | .hbm, ⟨68, _⟩ => ⟨S2048x128, .i32⟩
  | .hbm, ⟨69, _⟩ => ⟨S2048x128, .i32⟩
  | .hbm, ⟨70, _⟩ => ⟨S_, .i32⟩
  | .hbm, ⟨71, _⟩ => ⟨S2048x128, .i32⟩
  | .hbm, ⟨72, _⟩ => ⟨S2048x128, .i32⟩
  | .hbm, ⟨73, _⟩ => ⟨S2048x128, .i1⟩
  | .hbm, ⟨74, _⟩ => ⟨S1x2048x1x16, .f32⟩
  | .hbm, ⟨75, _⟩ => ⟨S1x2048x8x16, .f32⟩
  | .hbm, ⟨76, _⟩ => ⟨S2048x128, .f32⟩
  | .hbm, ⟨77, _⟩ => ⟨S_, .f32⟩
  | .hbm, ⟨78, _⟩ => ⟨S_, .f32⟩
  | .hbm, ⟨79, _⟩ => ⟨S2048x128, .f32⟩
  | .hbm, ⟨80, _⟩ => ⟨S2048x128, .f32⟩
  | .hbm, ⟨81, _⟩ => ⟨S2048x128, .i32⟩
  | .hbm, ⟨82, _⟩ => ⟨S2048x128, .i32⟩
  | .hbm, ⟨83, _⟩ => ⟨S_, .i32⟩
  | .hbm, ⟨84, _⟩ => ⟨S2048x128, .i32⟩
  | .hbm, ⟨85, _⟩ => ⟨S2048x128, .i32⟩
  | .hbm, ⟨86, _⟩ => ⟨S_, .i32⟩
  | .hbm, ⟨87, _⟩ => ⟨S2048x128, .i32⟩
  | .hbm, ⟨88, _⟩ => ⟨S2048x128, .i32⟩
  | .hbm, ⟨89, _⟩ => ⟨S_, .i32⟩
  | .hbm, ⟨90, _⟩ => ⟨S2048x128, .i32⟩
  | .hbm, ⟨91, _⟩ => ⟨S2048x128, .i32⟩
  | .hbm, ⟨92, _⟩ => ⟨S2048x128, .i1⟩
  | .hbm, ⟨93, _⟩ => ⟨S1x2048x1x16, .f32⟩
  | .hbm, ⟨94, _⟩ => ⟨S1x2048x8x16, .f32⟩
  | .hbm, ⟨95, _⟩ => ⟨S2048x128, .f32⟩
  | .hbm, ⟨96, _⟩ => ⟨S_, .f32⟩
  | .hbm, ⟨97, _⟩ => ⟨S_, .f32⟩
  | .hbm, ⟨98, _⟩ => ⟨S2048x128, .f32⟩
  | .hbm, ⟨99, _⟩ => ⟨S2048x128, .f32⟩
  | .hbm, ⟨100, _⟩ => ⟨S2048x128, .i32⟩
  | .hbm, ⟨101, _⟩ => ⟨S2048x128, .i32⟩
  | .hbm, ⟨102, _⟩ => ⟨S_, .i32⟩
  | .hbm, ⟨103, _⟩ => ⟨S2048x128, .i32⟩
  | .hbm, ⟨104, _⟩ => ⟨S2048x128, .i32⟩
  | .hbm, ⟨105, _⟩ => ⟨S_, .i32⟩
  | .hbm, ⟨106, _⟩ => ⟨S2048x128, .i32⟩
  | .hbm, ⟨107, _⟩ => ⟨S2048x128, .i32⟩
  | .hbm, ⟨108, _⟩ => ⟨S_, .i32⟩
  | .hbm, ⟨109, _⟩ => ⟨S2048x128, .i32⟩
  | .hbm, ⟨110, _⟩ => ⟨S2048x128, .i32⟩
  | .hbm, ⟨111, _⟩ => ⟨S2048x128, .i1⟩
  | .hbm, ⟨112, _⟩ => ⟨S1x2048x1x16, .f32⟩
  | .hbm, ⟨113, _⟩ => ⟨S1x2048x8x16, .f32⟩
  | .hbm, ⟨114, _⟩ => ⟨S2048x128, .f32⟩
  | .hbm, ⟨115, _⟩ => ⟨S_, .f32⟩
  | .hbm, ⟨116, _⟩ => ⟨S_, .f32⟩
  | .hbm, ⟨117, _⟩ => ⟨S2048x128, .f32⟩
  | .hbm, ⟨118, _⟩ => ⟨S2048x128, .f32⟩
  | .hbm, ⟨119, _⟩ => ⟨S1x2048, .f32⟩
  | .hbm, ⟨120, _⟩ => ⟨S1x2048, .f32⟩
  | _, _ => ⟨S2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c : Ref sig .tc := ⟨.hbm, 45, rfl⟩
abbrev main_v37 : Ref sig .tc := ⟨.hbm, 46, rfl⟩
abbrev main_v38 : Ref sig .tc := ⟨.hbm, 47, rfl⟩
abbrev main_c_0 : Ref sig .tc := ⟨.hbm, 48, rfl⟩
abbrev main_v39 : Ref sig .tc := ⟨.hbm, 49, rfl⟩
abbrev main_v40 : Ref sig .tc := ⟨.hbm, 50, rfl⟩
abbrev main_c_1 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_2 : Ref sig .tc := ⟨.hbm, 58, rfl⟩
abbrev main_call0_v0 : Ref sig .tc := ⟨.hbm, 59, rfl⟩
abbrev main_call0_v1 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_3 : Ref sig .tc := ⟨.hbm, 64, rfl⟩
abbrev main_v50 : Ref sig .tc := ⟨.hbm, 65, rfl⟩
abbrev main_v51 : Ref sig .tc := ⟨.hbm, 66, rfl⟩
abbrev main_c_4 : Ref sig .tc := ⟨.hbm, 67, rfl⟩
abbrev main_v52 : Ref sig .tc := ⟨.hbm, 68, rfl⟩
abbrev main_v53 : Ref sig .tc := ⟨.hbm, 69, rfl⟩
abbrev main_c_5 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_call1_v0 : Ref sig .tc := ⟨.hbm, 78, rfl⟩
abbrev main_call1_v1 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_7 : Ref sig .tc := ⟨.hbm, 83, rfl⟩
abbrev main_v63 : Ref sig .tc := ⟨.hbm, 84, rfl⟩
abbrev main_v64 : Ref sig .tc := ⟨.hbm, 85, rfl⟩
abbrev main_c_8 : Ref sig .tc := ⟨.hbm, 86, rfl⟩
abbrev main_v65 : Ref sig .tc := ⟨.hbm, 87, rfl⟩
abbrev main_v66 : Ref sig .tc := ⟨.hbm, 88, rfl⟩
abbrev main_c_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_call2_v0 : Ref sig .tc := ⟨.hbm, 97, rfl⟩
abbrev main_call2_v1 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_11 : Ref sig .tc := ⟨.hbm, 102, rfl⟩
abbrev main_v76 : Ref sig .tc := ⟨.hbm, 103, rfl⟩
abbrev main_v77 : Ref sig .tc := ⟨.hbm, 104, rfl⟩
abbrev main_c_12 : Ref sig .tc := ⟨.hbm, 105, rfl⟩
abbrev main_v78 : Ref sig .tc := ⟨.hbm, 106, rfl⟩
abbrev main_v79 : Ref sig .tc := ⟨.hbm, 107, rfl⟩
abbrev main_c_13 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_14 : Ref sig .tc := ⟨.hbm, 115, rfl⟩
abbrev main_call3_v0 : Ref sig .tc := ⟨.hbm, 116, rfl⟩
abbrev main_call3_v1 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩

abbrev nD : Nat := 1
abbrev τ : Topo := Topo.v7x

variable {F : FTy → Type} [FloatOps F]
-- ==== ParamsBwd.lean ====
abbrev S2048x1 : Shape := ⟨2, ![2048, 1]⟩
abbrev S1x32 : Shape := ⟨2, ![1, 32]⟩
abbrev S2048x16 : Shape := ⟨2, ![2048, 16]⟩
abbrev S2048x128 : Shape := ⟨2, ![2048, 128]⟩
abbrev S1x2048 : Shape := ⟨2, ![1, 2048]⟩
abbrev S2048x32 : Shape := ⟨2, ![2048, 32]⟩
abbrev S2048 : Shape := ⟨1, ![2048]⟩
abbrev S16x128 : Shape := ⟨2, ![16, 128]⟩
abbrev S128x2048 : Shape := ⟨2, ![128, 2048]⟩
abbrev S32 : Shape := ⟨1, ![32]⟩

abbrev nBuf : Space → Nat
  | .hbm => 20
  | .vmem => 20
  | .smem => 0
  | _ => 0

abbrev bufTy : (tb : Table) → Fin (tcTables nBuf tb) → BufTy
  | .hbm, ⟨0, _⟩ => ⟨S2048x1, .f32⟩
  | .hbm, ⟨1, _⟩ => ⟨S2048x1, .f32⟩
  | .hbm, ⟨2, _⟩ => ⟨S1x32, .f32⟩
  | .hbm, ⟨3, _⟩ => ⟨S2048x16, .f32⟩
  | .hbm, ⟨4, _⟩ => ⟨S2048x16, .f32⟩
  | .hbm, ⟨5, _⟩ => ⟨S2048x16, .f32⟩
  | .hbm, ⟨6, _⟩ => ⟨S2048x16, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S1x2048, .f32⟩
  | .hbm, ⟨12, _⟩ => ⟨S1x2048, .f32⟩
  | .hbm, ⟨13, _⟩ => ⟨S2048x1, .f32⟩
  | .hbm, ⟨14, _⟩ => ⟨S2048x1, .f32⟩
  | .hbm, ⟨15, _⟩ => ⟨S1x32, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .f32⟩
  | .local _ .vmem, ⟨0, _⟩ => ⟨S2048x1, .f32⟩
  | .local _ .vmem, ⟨1, _⟩ => ⟨S2048x1, .f32⟩
  | .local _ .vmem, ⟨2, _⟩ => ⟨S1x32, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | .local _ .vmem, ⟨6, _⟩ => ⟨S2048x16, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S1x2048, .f32⟩
  | .local _ .vmem, ⟨12, _⟩ => ⟨S1x2048, .f32⟩
  | .local _ .vmem, ⟨13, _⟩ => ⟨S2048x1, .f32⟩
  | .local _ .vmem, ⟨14, _⟩ => ⟨S2048x1, .f32⟩
  | .local _ .vmem, ⟨15, _⟩ => ⟨S1x32, .f32⟩
  | .local _ .vmem, ⟨16, _⟩ => ⟨S2048x16, .f32⟩
  | .local _ .vmem, ⟨17, _⟩ => ⟨S2048x16, .f32⟩
  | .local _ .vmem, ⟨18, _⟩ => ⟨S2048x16, .f32⟩
  | .local _ .vmem, ⟨19, _⟩ => ⟨S2048x16, .f32⟩
  | _, _ => ⟨S2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2048x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2048x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2048x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2048x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== ParamsBwdRefIdeal.lean ====
abbrev S2048x1 : Shape := ⟨2, ![2048, 1]⟩
abbrev S1x32 : Shape := ⟨2, ![1, 32]⟩
abbrev S2048x16 : Shape := ⟨2, ![2048, 16]⟩
abbrev S2048x128 : Shape := ⟨2, ![2048, 128]⟩
abbrev S1x2048 : Shape := ⟨2, ![1, 2048]⟩
abbrev S32x1 : Shape := ⟨2, ![32, 1]⟩
abbrev S32x64 : Shape := ⟨2, ![32, 64]⟩
abbrev S_ : Shape := ⟨0, ![]⟩
abbrev S1x2048x1x16 : Shape := ⟨4, ![1, 2048, 1, 16]⟩
abbrev S1x2048x8x16 : Shape := ⟨4, ![1, 2048, 8, 16]⟩
abbrev S2048 : Shape := ⟨1, ![2048]⟩
abbrev S32 : Shape := ⟨1, ![32]⟩

abbrev nBuf : Space → Nat
  | .hbm => 258
  | .vmem => 0
  | .smem => 0
  | _ => 0

abbrev hbmTy0_0 (i : Nat) : BufTy := match i % 128 with
  | 0 => ⟨S2048x1, .f32⟩
  | 1 => ⟨S2048x1, .f32⟩
  | 2 => ⟨S1x32, .f32⟩
  | 3 => ⟨S2048x16, .f32⟩
  | 4 => ⟨S2048x16, .f32⟩
  | 5 => ⟨S2048x16, .f32⟩
  | 6 => ⟨S2048x16, .f32⟩
  | 7 => ⟨S2048x128, .f32⟩
  | 8 => ⟨S2048x128, .f32⟩
  | 9 => ⟨S2048x128, .f32⟩
  | 10 => ⟨S2048x128, .f32⟩
  | 11 => ⟨S1x2048, .f32⟩
  | 12 => ⟨S1x2048, .f32⟩
  | 13 => ⟨S32x1, .f32⟩
  | 14 => ⟨S32x64, .f32⟩
  | 15 => ⟨S2048x1, .f32⟩
  | 16 => ⟨S2048x1, .f32⟩
  | 17 => ⟨S2048x1, .f32⟩
  | 18 => ⟨S2048x1, .f32⟩
  | 19 => ⟨S2048x1, .f32⟩
  | 20 => ⟨S2048x1, .f32⟩
  | 21 => ⟨S2048x1, .f32⟩
  | 22 => ⟨S2048x1, .f32⟩
  | 23 => ⟨S2048x1, .f32⟩
  | 24 => ⟨S2048x1, .f32⟩
  | 25 => ⟨S2048x1, .f32⟩
  | 26 => ⟨S2048x1, .f32⟩
  | 27 => ⟨S2048x1, .f32⟩
  | 28 => ⟨S2048x1, .f32⟩
  | 29 => ⟨S2048x1, .f32⟩
  | 30 => ⟨S_, .f32⟩
  | 31 => ⟨S2048x1, .f32⟩
  | 32 => ⟨S2048x1, .f32⟩
  | 33 => ⟨S2048x1, .f32⟩
  | 34 => ⟨S2048x1, .f32⟩
  | 35 => ⟨S2048x1, .f32⟩
  | 36 => ⟨S2048x1, .f32⟩
  | 37 => ⟨S2048x1, .f32⟩
  | 38 => ⟨S_, .f32⟩
  | 39 => ⟨S2048x1, .f32⟩
  | 40 => ⟨S2048x1, .f32⟩
  | 41 => ⟨S2048x1, .f32⟩
  | 42 => ⟨S2048x1, .f32⟩
  | 43 => ⟨S2048x1, .f32⟩
  | 44 => ⟨S2048x1, .f32⟩
  | 45 => ⟨S2048x1, .f32⟩
  | 46 => ⟨S_, .f32⟩
  | 47 => ⟨S2048x1, .f32⟩
  | 48 => ⟨S2048x1, .f32⟩
  | 49 => ⟨S2048x16, .f32⟩
  | 50 => ⟨S2048x16, .f32⟩
  | 51 => ⟨S2048x16, .f32⟩
  | 52 => ⟨S2048x16, .f32⟩
  | 53 => ⟨S2048x16, .f32⟩
  | 54 => ⟨S2048x16, .f32⟩
  | 55 => ⟨S2048x16, .f32⟩
  | 56 => ⟨S2048x16, .f32⟩
  | 57 => ⟨S2048x16, .f32⟩
  | 58 => ⟨S2048x16, .f32⟩
  | 59 => ⟨S2048x128, .i32⟩
  | 60 => ⟨S2048x128, .i32⟩
  | 61 => ⟨S_, .i32⟩
  | 62 => ⟨S2048x128, .i32⟩
  | 63 => ⟨S2048x128, .i32⟩
  | 64 => ⟨S_, .i32⟩
  | 65 => ⟨S2048x128, .i32⟩
  | 66 => ⟨S2048x128, .i32⟩
  | 67 => ⟨S_, .i32⟩
  | 68 => ⟨S2048x128, .i32⟩
  | 69 => ⟨S2048x128, .i32⟩
  | 70 => ⟨S2048x128, .i1⟩
  | 71 => ⟨S1x2048x1x16, .f32⟩
  | 72 => ⟨S1x2048x8x16, .f32⟩
  | 73 => ⟨S2048x128, .f32⟩
  | 74 => ⟨S_, .f32⟩
  | 75 => ⟨S_, .f32⟩
  | 76 => ⟨S2048x128, .f32⟩
  | 77 => ⟨S2048x128, .f32⟩
  | 78 => ⟨S_, .f32⟩
  | 79 => ⟨S2048x128, .f32⟩
  | 80 => ⟨S2048x128, .i32⟩
  | 81 => ⟨S2048x128, .i32⟩
  | 82 => ⟨S_, .i32⟩
  | 83 => ⟨S2048x128, .i32⟩
  | 84 => ⟨S2048x128, .i32⟩
  | 85 => ⟨S_, .i32⟩
  | 86 => ⟨S2048x128, .i32⟩
  | 87 => ⟨S2048x128, .i32⟩
  | 88 => ⟨S_, .i32⟩
  | 89 => ⟨S2048x128, .i32⟩
  | 90 => ⟨S2048x128, .i32⟩
  | 91 => ⟨S2048x128, .i1⟩
  | 92 => ⟨S1x2048x1x16, .f32⟩
  | 93 => ⟨S1x2048x8x16, .f32⟩
  | 94 => ⟨S2048x128, .f32⟩
  | 95 => ⟨S_, .f32⟩
  | 96 => ⟨S_, .f32⟩
  | 97 => ⟨S2048x128, .f32⟩
  | 98 => ⟨S2048x128, .f32⟩
  | 99 => ⟨S_, .f32⟩
  | 100 => ⟨S2048x128, .f32⟩
  | 101 => ⟨S2048x128, .i32⟩
  | 102 => ⟨S2048x128, .i32⟩
  | 103 => ⟨S_, .i32⟩
  | 104 => ⟨S2048x128, .i32⟩
  | 105 => ⟨S2048x128, .i32⟩
  | 106 => ⟨S_, .i32⟩
  | 107 => ⟨S2048x128, .i32⟩
  | 108 => ⟨S2048x128, .i32⟩
  | 109 => ⟨S_, .i32⟩
  | 110 => ⟨S2048x128, .i32⟩
  | 111 => ⟨S2048x128, .i32⟩
  | 112 => ⟨S2048x128, .i1⟩
  | 113 => ⟨S1x2048x1x16, .f32⟩
  | 114 => ⟨S1x2048x8x16, .f32⟩
  | 115 => ⟨S2048x128, .f32⟩
  | 116 => ⟨S_, .f32⟩
  | 117 => ⟨S_, .f32⟩
  | 118 => ⟨S2048x128, .f32⟩
  | 119 => ⟨S2048x128, .f32⟩
  | 120 => ⟨S_, .f32⟩
  | 121 => ⟨S2048x128, .f32⟩
  | 122 => ⟨S2048x128, .i32⟩
  | 123 => ⟨S2048x128, .i32⟩
  | 124 => ⟨S_, .i32⟩
  | 125 => ⟨S2048x128, .i32⟩
  | 126 => ⟨S2048x128, .i32⟩
  | 127 => ⟨S_, .i32⟩
  | _ => ⟨S2048x1, .f32⟩

abbrev hbmTy0_1 (i : Nat) : BufTy := match i % 128 with
  | 0 => ⟨S2048x128, .i32⟩
  | 1 => ⟨S2048x128, .i32⟩
  | 2 => ⟨S_, .i32⟩
  | 3 => ⟨S2048x128, .i32⟩
  | 4 => ⟨S2048x128, .i32⟩
  | 5 => ⟨S2048x128, .i1⟩
  | 6 => ⟨S1x2048x1x16, .f32⟩
  | 7 => ⟨S1x2048x8x16, .f32⟩
  | 8 => ⟨S2048x128, .f32⟩
  | 9 => ⟨S_, .f32⟩
  | 10 => ⟨S_, .f32⟩
  | 11 => ⟨S2048x128, .f32⟩
  | 12 => ⟨S2048x128, .f32⟩
  | 13 => ⟨S_, .f32⟩
  | 14 => ⟨S2048x128, .f32⟩
  | 15 => ⟨S1x2048, .f32⟩
  | 16 => ⟨S1x2048, .f32⟩
  | 17 => ⟨S2048x1, .f32⟩
  | 18 => ⟨S2048x1, .f32⟩
  | 19 => ⟨S_, .f32⟩
  | 20 => ⟨S2048x128, .f32⟩
  | 21 => ⟨S2048x128, .f32⟩
  | 22 => ⟨S1x2048x8x16, .f32⟩
  | 23 => ⟨S_, .f32⟩
  | 24 => ⟨S2048x16, .f32⟩
  | 25 => ⟨S_, .f32⟩
  | 26 => ⟨S2048x128, .f32⟩
  | 27 => ⟨S2048x128, .f32⟩
  | 28 => ⟨S1x2048x8x16, .f32⟩
  | 29 => ⟨S_, .f32⟩
  | 30 => ⟨S2048x16, .f32⟩
  | 31 => ⟨S_, .f32⟩
  | 32 => ⟨S2048x128, .f32⟩
  | 33 => ⟨S2048x128, .f32⟩
  | 34 => ⟨S1x2048x8x16, .f32⟩
  | 35 => ⟨S_, .f32⟩
  | 36 => ⟨S2048x16, .f32⟩
  | 37 => ⟨S_, .f32⟩
  | 38 => ⟨S2048x128, .f32⟩
  | 39 => ⟨S2048x128, .f32⟩
  | 40 => ⟨S1x2048x8x16, .f32⟩
  | 41 => ⟨S_, .f32⟩
  | 42 => ⟨S2048x16, .f32⟩
  | 43 => ⟨S2048x16, .f32⟩
  | 44 => ⟨S2048x16, .f32⟩
  | 45 => ⟨S2048x16, .f32⟩
  | 46 => ⟨S_, .f32⟩
  | 47 => ⟨S2048, .f32⟩
  | 48 => ⟨S2048x1, .f32⟩
  | 49 => ⟨S2048x16, .f32⟩
  | 50 => ⟨S2048x16, .f32⟩
  | 51 => ⟨S2048x16, .f32⟩
  | 52 => ⟨S_, .f32⟩
  | 53 => ⟨S2048, .f32⟩
  | 54 => ⟨S2048x1, .f32⟩
  | 55 => ⟨S2048x16, .f32⟩
  | 56 => ⟨S2048x16, .f32⟩
  | 57 => ⟨S2048x16, .f32⟩
  | 58 => ⟨S2048x16, .f32⟩
  | 59 => ⟨S2048x16, .f32⟩
  | 60 => ⟨S_, .f32⟩
  | 61 => ⟨S2048, .f32⟩
  | 62 => ⟨S2048x1, .f32⟩
  | 63 => ⟨S2048x1, .f32⟩
  | 64 => ⟨S2048x16, .f32⟩
  | 65 => ⟨S2048x16, .f32⟩
  | 66 => ⟨S2048x16, .f32⟩
  | 67 => ⟨S2048x16, .f32⟩
  | 68 => ⟨S_, .f32⟩
  | 69 => ⟨S2048, .f32⟩
  | 70 => ⟨S2048x1, .f32⟩
  | 71 => ⟨S2048x1, .f32⟩
  | 72 => ⟨S2048x1, .f32⟩
  | 73 => ⟨S2048x1, .f32⟩
  | 74 => ⟨S2048x1, .f32⟩
  | 75 => ⟨S2048x1, .f32⟩
  | 76 => ⟨S2048x1, .f32⟩
  | 77 => ⟨S2048x1, .f32⟩
  | 78 => ⟨S2048x1, .f32⟩
  | 79 => ⟨S2048x1, .f32⟩
  | 80 => ⟨S2048x1, .f32⟩
  | 81 => ⟨S2048x1, .f32⟩
  | 82 => ⟨S2048x1, .f32⟩
  | 83 => ⟨S2048x1, .f32⟩
  | 84 => ⟨S2048x1, .f32⟩
  | 85 => ⟨S2048x1, .f32⟩
  | 86 => ⟨S2048x1, .f32⟩
  | 87 => ⟨S2048x1, .f32⟩
  | 88 => ⟨S2048x1, .f32⟩
  | 89 => ⟨S2048x1, .f32⟩
  | 90 => ⟨S2048x1, .f32⟩
  | 91 => ⟨S2048x1, .f32⟩
  | 92 => ⟨S2048x1, .f32⟩
  | 93 => ⟨S2048x1, .f32⟩
  | 94 => ⟨S2048x1, .f32⟩
  | 95 => ⟨S2048x1, .f32⟩
  | 96 => ⟨S2048x1, .f32⟩
  | 97 => ⟨S2048x1, .f32⟩
  | 98 => ⟨S2048x1, .f32⟩
  | 99 => ⟨S2048x1, .f32⟩
  | 100 => ⟨S2048x1, .f32⟩
  | 101 => ⟨S2048x1, .f32⟩
  | 102 => ⟨S2048x1, .f32⟩
  | 103 => ⟨S2048x1, .f32⟩
  | 104 => ⟨S2048x1, .f32⟩
  | 105 => ⟨S2048x1, .f32⟩
  | 106 => ⟨S2048x1, .f32⟩
  | 107 => ⟨S2048x1, .f32⟩
  | 108 => ⟨S2048x1, .f32⟩
  | 109 => ⟨S2048x1, .f32⟩
  | 110 => ⟨S2048x1, .f32⟩
  | 111 => ⟨S2048x1, .f32⟩
  | 112 => ⟨S2048x1, .f32⟩
  | 113 => ⟨S2048x1, .f32⟩
  | 114 => ⟨S2048x1, .f32⟩
  | 115 => ⟨S2048x1, .f32⟩
  | 116 => ⟨S2048x1, .f32⟩
  | 117 => ⟨S2048x1, .f32⟩
  | 118 => ⟨S2048x1, .f32⟩
  | 119 => ⟨S2048x1, .f32⟩
  | 120 => ⟨S2048x1, .f32⟩
  | 121 => ⟨S2048x1, .f32⟩
  | 122 => ⟨S2048x1, .f32⟩
  | 123 => ⟨S2048x1, .f32⟩
  | 124 => ⟨S2048x1, .f32⟩
  | 125 => ⟨S32x64, .f32⟩
  | 126 => ⟨S_, .f32⟩
  | 127 => ⟨S32, .f32⟩
  | _ => ⟨S2048x1, .f32⟩

abbrev hbmTy0_2 (i : Nat) : BufTy := match i % 128 with
  | 0 => ⟨S32x1, .f32⟩
  | 1 => ⟨S1x32, .f32⟩
  | _ => ⟨S2048x1, .f32⟩

abbrev hbmTy (i : Nat) : BufTy := match i / 128 with
  | 0 => hbmTy0_0 i
  | 1 => hbmTy0_1 i
  | 2 => hbmTy0_2 i
  | _ => ⟨S2048x1, .f32⟩

abbrev bufTy : (tb : Table) → Fin (tcTables nBuf tb) → BufTy
  | .hbm, ⟨i, _⟩ => hbmTy i
  | _, _ => ⟨S2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c : Ref sig .tc := ⟨.hbm, 61, rfl⟩
abbrev main_v45 : Ref sig .tc := ⟨.hbm, 62, rfl⟩
abbrev main_v46 : Ref sig .tc := ⟨.hbm, 63, rfl⟩
abbrev main_c_2 : Ref sig .tc := ⟨.hbm, 64, rfl⟩
abbrev main_v47 : Ref sig .tc := ⟨.hbm, 65, rfl⟩
abbrev main_v48 : Ref sig .tc := ⟨.hbm, 66, rfl⟩
abbrev main_c_3 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_4 : Ref sig .tc := ⟨.hbm, 74, rfl⟩
abbrev main_call0_v0 : Ref sig .tc := ⟨.hbm, 75, rfl⟩
abbrev main_call0_v1 : Ref sig .tc := ⟨.hbm, 76, rfl⟩
abbrev main_v55_0 : Ref sig .tc := ⟨.hbm, 77, rfl⟩
abbrev main_call0_cst : Ref sig .tc := ⟨.hbm, 78, rfl⟩
abbrev main_v55_1 : Ref sig .tc := ⟨.hbm, 79, rfl⟩
abbrev main_v56 : Ref sig .tc := ⟨.hbm, 80, rfl⟩
abbrev main_v57 : Ref sig .tc := ⟨.hbm, 81, rfl⟩
abbrev main_c_5 : Ref sig .tc := ⟨.hbm, 82, rfl⟩
abbrev main_v58 : Ref sig .tc := ⟨.hbm, 83, rfl⟩
abbrev main_v59 : Ref sig .tc := ⟨.hbm, 84, rfl⟩
abbrev main_c_6 : Ref sig .tc := ⟨.hbm, 85, rfl⟩
abbrev main_v60 : Ref sig .tc := ⟨.hbm, 86, rfl⟩
abbrev main_v61 : Ref sig .tc := ⟨.hbm, 87, rfl⟩
abbrev main_c_7 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_8 : Ref sig .tc := ⟨.hbm, 95, rfl⟩
abbrev main_call1_v0 : Ref sig .tc := ⟨.hbm, 96, rfl⟩
abbrev main_call1_v1 : Ref sig .tc := ⟨.hbm, 97, rfl⟩
abbrev main_v68_0 : Ref sig .tc := ⟨.hbm, 98, rfl⟩
abbrev main_call1_cst : Ref sig .tc := ⟨.hbm, 99, rfl⟩
abbrev main_v68_1 : Ref sig .tc := ⟨.hbm, 100, rfl⟩
abbrev main_v69 : Ref sig .tc := ⟨.hbm, 101, rfl⟩
abbrev main_v70 : Ref sig .tc := ⟨.hbm, 102, rfl⟩
abbrev main_c_9 : Ref sig .tc := ⟨.hbm, 103, rfl⟩
abbrev main_v71 : Ref sig .tc := ⟨.hbm, 104, rfl⟩
abbrev main_v72 : Ref sig .tc := ⟨.hbm, 105, rfl⟩
abbrev main_c_10 : Ref sig .tc := ⟨.hbm, 106, rfl⟩
abbrev main_v73 : Ref sig .tc := ⟨.hbm, 107, rfl⟩
abbrev main_v74 : Ref sig .tc := ⟨.hbm, 108, rfl⟩
abbrev main_c_11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_12 : Ref sig .tc := ⟨.hbm, 116, rfl⟩
abbrev main_call2_v0 : Ref sig .tc := ⟨.hbm, 117, rfl⟩
abbrev main_call2_v1 : Ref sig .tc := ⟨.hbm, 118, rfl⟩
abbrev main_v81_0 : Ref sig .tc := ⟨.hbm, 119, rfl⟩
abbrev main_call2_cst : Ref sig .tc := ⟨.hbm, 120, rfl⟩
abbrev main_v81_1 : Ref sig .tc := ⟨.hbm, 121, rfl⟩
abbrev main_v82 : Ref sig .tc := ⟨.hbm, 122, rfl⟩
abbrev main_v83 : Ref sig .tc := ⟨.hbm, 123, rfl⟩
abbrev main_c_13 : Ref sig .tc := ⟨.hbm, 124, rfl⟩
abbrev main_v84 : Ref sig .tc := ⟨.hbm, 125, rfl⟩
abbrev main_v85 : Ref sig .tc := ⟨.hbm, 126, rfl⟩
abbrev main_c_14 : Ref sig .tc := ⟨.hbm, 127, rfl⟩
abbrev main_v86 : Ref sig .tc := ⟨.hbm, 128, rfl⟩
abbrev main_v87 : Ref sig .tc := ⟨.hbm, 129, rfl⟩
abbrev main_c_15 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_16 : Ref sig .tc := ⟨.hbm, 137, rfl⟩
abbrev main_call3_v0 : Ref sig .tc := ⟨.hbm, 138, rfl⟩
abbrev main_call3_v1 : Ref sig .tc := ⟨.hbm, 139, rfl⟩
abbrev main_v94_0 : Ref sig .tc := ⟨.hbm, 140, rfl⟩
abbrev main_call3_cst : Ref sig .tc := ⟨.hbm, 141, rfl⟩
abbrev main_v94_1 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_call4_cst : Ref sig .tc := ⟨.hbm, 147, rfl⟩
abbrev main_call4_v0 : Ref sig .tc := ⟨.hbm, 148, rfl⟩
abbrev main_v99 : Ref sig .tc := ⟨.hbm, 149, rfl⟩
abbrev main_v100 : Ref sig .tc := ⟨.hbm, 150, rfl⟩
abbrev main_cst_17 : Ref sig .tc := ⟨.hbm, 151, rfl⟩
abbrev main_v101 : Ref sig .tc := ⟨.hbm, 152, rfl⟩
abbrev main_call5_cst : Ref sig .tc := ⟨.hbm, 153, rfl⟩
abbrev main_call5_v0 : Ref sig .tc := ⟨.hbm, 154, rfl⟩
abbrev main_v102 : Ref sig .tc := ⟨.hbm, 155, rfl⟩
abbrev main_v103 : Ref sig .tc := ⟨.hbm, 156, rfl⟩
abbrev main_cst_18 : Ref sig .tc := ⟨.hbm, 157, rfl⟩
abbrev main_v104 : Ref sig .tc := ⟨.hbm, 158, rfl⟩
abbrev main_call6_cst : Ref sig .tc := ⟨.hbm, 159, rfl⟩
abbrev main_call6_v0 : Ref sig .tc := ⟨.hbm, 160, rfl⟩
abbrev main_v105 : Ref sig .tc := ⟨.hbm, 161, rfl⟩
abbrev main_v106 : Ref sig .tc := ⟨.hbm, 162, rfl⟩
abbrev main_cst_19 : Ref sig .tc := ⟨.hbm, 163, rfl⟩
abbrev main_v107 : Ref sig .tc := ⟨.hbm, 164, rfl⟩
abbrev main_call7_cst : Ref sig .tc := ⟨.hbm, 165, rfl⟩
abbrev main_call7_v0 : Ref sig .tc := ⟨.hbm, 166, rfl⟩
abbrev main_v108 : Ref sig .tc := ⟨.hbm, 167, rfl⟩
abbrev main_v109 : Ref sig .tc := ⟨.hbm, 168, rfl⟩
abbrev main_cst_20 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_cst_21 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_cst_22 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_cst_23 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_cst_24 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_cst_25 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩

abbrev nD : Nat := 1
abbrev τ : Topo := Topo.v7x

variable {F : FTy → Type} [FloatOps F]
-- ==== Proof.RefOps.lean ====
/- The reference program as stretches of operations and two counted loops: its operation lists, in the program's order, and
   the equations that say @main and the two loop bodies are the chains of these lists. -/
module

public import proofs.«01_k».proof.Proof.Gen.ReferenceIdeal
public import Idealize.ShloMosaic.Lib.Pipeline.Regions
public import Idealize.ShloMosaic.Lib.StableHlo.RunLoop

@[expose] public section

noncomputable section

namespace Cert.ReferenceIdeal

open Idealize.ShloMosaic Idealize.ShloMosaic.TcCoe
open Idealize.SL Idealize.SL.RA Idealize.SL.BI
open scoped Idealize.SL.BI
open Idealize.SL.BI.BIBase Idealize.SL.Sem
open Cert.ReferenceIdeal.Gen

/-- What a buffer of a shape and an element type holds. -/
abbrev Held (F : FTy → Type) (s : Shape) (t : EltTy) := (⟨s, t⟩ : BufTy).Contents (Elt F)

variable {F : FTy → Type} [FloatOps F]

/-- The operations before the first loop, in order. -/
abbrev preOps : List (HloOp τ sig (Elt F)) :=
  ( StableHlo.unary main_arg0 main_v0 ((extractStridedSlice S2048x512 ![0, 0] · slices_S2048x2560_S2048x512_0_0) : Held F S2048x2560 .f32 → Held F S2048x512 .f32)
  :: StableHlo.reshape main_v0 main_v1 (rfl : (.f32 : EltTy) = .f32) shapeCasts_S2048x512_S2048x4x128
  :: StableHlo.reshape main_arg1 main_v2 (rfl : (.f32 : EltTy) = .f32) shapeCasts_S2048x128_S4x512x128
  :: StableHlo.reshape main_arg2 main_v3 (rfl : (.f32 : EltTy) = .f32) shapeCasts_S2048x128_S4x512x128
  :: StableHlo.reshape main_arg3 main_v4 (rfl : (.f32 : EltTy) = .f32) shapeCasts_S2048x128_S4x512x128
  :: StableHlo.reshape main_arg4 main_v5 (rfl : (.f32 : EltTy) = .f32) shapeCasts_S2048x128_S4x512x128
  :: StableHlo.reshape main_arg5 main_v6 (rfl : (.f32 : EltTy) = .f32) shapeCasts_S1x2048_S4x512
  :: StableHlo.reshape main_arg6 main_v7 (rfl : (.f32 : EltTy) = .f32) shapeCasts_S1x2048_S4x512
  :: StableHlo.binary main_v1 main_v2 main_v8 ((fun l r => Host.dotGeneral dot_S2048x4x128_S4x512x128_S4x2048x512_2_2_0_1_1_0 none l r) : Held F S2048x4x128 .f32 → Held F S4x512x128 .f32 → Held F S4x2048x512 .f32)
  :: StableHlo.unary main_v8 main_v9 ((transpose S2048x4x512 [1, 0, 2] · transposes_S4x2048x512_S2048x4x512_1_0_2) : Held F S4x2048x512 .f32 → Held F S2048x4x512 .f32)
  :: StableHlo.binary main_v1 main_v3 main_v10 ((fun l r => Host.dotGeneral dot_S2048x4x128_S4x512x128_S4x2048x512_2_2_0_1_1_0 none l r) : Held F S2048x4x128 .f32 → Held F S4x512x128 .f32 → Held F S4x2048x512 .f32)
  :: StableHlo.unary main_v10 main_v11 ((transpose S2048x4x512 [1, 0, 2] · transposes_S4x2048x512_S2048x4x512_1_0_2) : Held F S4x2048x512 .f32 → Held F S2048x4x512 .f32)
  :: StableHlo.nullary main_cst (constant S_ .f32 0x00000000#32)
  :: StableHlo.unary main_cst main_v12 (broadcastInDim S4x512 ![] bcast_S_S4x512 : Held F S_ .f32 → Held F S4x512 .f32)
  :: StableHlo.nullary main_cst_0 (constant S_ .f32 0x00000000#32)
  :: StableHlo.unary main_cst_0 main_v13 (broadcastInDim S2048x4x512 ![] bcast_S_S2048x4x512 : Held F S_ .f32 → Held F S2048x4x512 .f32)
  :: StableHlo.nullary main_cst_1 (constant S_ .f32 0x00000000#32)
  :: StableHlo.unary main_cst_1 main_v14 (broadcastInDim S2048x4x512 ![] bcast_S_S2048x4x512 : Held F S_ .f32 → Held F S2048x4x512 .f32)
  :: StableHlo.nullary main_cst_2 (constant S_ .f32 0x00000000#32)
  :: StableHlo.unary main_cst_2 main_v15 (broadcastInDim S2048x4x512 ![] bcast_S_S2048x4x512 : Held F S_ .f32 → Held F S2048x4x512 .f32)
  :: StableHlo.nullary main_cst_3 (constant S_ .f32 0x00000000#32)
  :: StableHlo.unary main_cst_3 main_v16 (broadcastInDim S2048x4x512 ![] bcast_S_S2048x4x512 : Held F S_ .f32 → Held F S2048x4x512 .f32)
  :: StableHlo.nullary main_c (constantI S_ 32 0#32)
  :: StableHlo.unary main_v9 main_v17_0 id
  :: StableHlo.unary main_v11 main_v17_1 id
  :: StableHlo.unary main_v6 main_v17_2 id
  :: StableHlo.unary main_v7 main_v17_3 id
  :: StableHlo.unary main_c main_v17_4 id
  :: StableHlo.unary main_v12 main_v17_5 id
  :: StableHlo.unary main_v12 main_v17_6 id
  :: StableHlo.unary main_v13 main_v17_7 id
  :: StableHlo.unary main_v14 main_v17_8 id
  :: StableHlo.unary main_v15 main_v17_9 id
  :: StableHlo.unary main_v16 main_v17_10 id
  :: [] )
theorem preOps_sub : (preOps : List (HloOp τ sig (Elt F))).Forall fun op => op.bufs ⊆ StableHlo.tcRefs τ sig :=
  ⟨StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.binary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- Those between the loops, the first half. -/
abbrev midOps0 : List (HloOp τ sig (Elt F)) :=
  [ StableHlo.binary main_v17_7 main_v4 main_v18 ((fun l r => Host.dotGeneral dot_S2048x4x512_S4x512x128_S4x2048x128_2_1_0_2_1_0 none l r) : Held F S2048x4x512 .f32 → Held F S4x512x128 .f32 → Held F S4x2048x128 .f32),
    StableHlo.unary main_v18 main_v19 ((transpose S2048x4x128 [1, 0, 2] · transposes_S4x2048x128_S2048x4x128_1_0_2) : Held F S4x2048x128 .f32 → Held F S2048x4x128 .f32),
    StableHlo.binary main_v17_8 main_v5 main_v20 ((fun l r => Host.dotGeneral dot_S2048x4x512_S4x512x128_S4x2048x128_2_1_0_2_1_0 none l r) : Held F S2048x4x512 .f32 → Held F S4x512x128 .f32 → Held F S4x2048x128 .f32),
    StableHlo.unary main_v20 main_v21 ((transpose S2048x4x128 [1, 0, 2] · transposes_S4x2048x128_S2048x4x128_1_0_2) : Held F S4x2048x128 .f32 → Held F S2048x4x128 .f32),
    StableHlo.binary main_v19 main_v21 main_v22 (subf : Held F S2048x4x128 .f32 → Held F S2048x4x128 .f32 → Held F S2048x4x128 .f32),
    StableHlo.reshape main_arg7 main_v23 (rfl : (.f32 : EltTy) = .f32) shapeCasts_S1x512_S4x128,
    StableHlo.unary main_v23 main_v24 (broadcastInDim S1x4x128 ![1, 2] bcast_S4x128_S1x4x128_1_2 : Held F S4x128 .f32 → Held F S1x4x128 .f32),
    StableHlo.unary main_v24 main_v25 (broadcastInDim S2048x4x128 ![0, 1, 2] bcast_S1x4x128_S2048x4x128_0_1_2 : Held F S1x4x128 .f32 → Held F S2048x4x128 .f32),
    StableHlo.binary main_v25 main_v1 main_v26 (mulf : Held F S2048x4x128 .f32 → Held F S2048x4x128 .f32 → Held F S2048x4x128 .f32),
    StableHlo.binary main_v22 main_v26 main_v27 (addf : Held F S2048x4x128 .f32 → Held F S2048x4x128 .f32 → Held F S2048x4x128 .f32),
    StableHlo.reshape main_v27 main_v28 (rfl : (.f32 : EltTy) = .f32) shapeCasts_S2048x4x128_S2048x512,
    StableHlo.nullary main_cst_4 (constant S_ .f32 0x00000000#32),
    StableHlo.unary main_cst_4 main_v29 (broadcastInDim S4x512 ![] bcast_S_S4x512 : Held F S_ .f32 → Held F S4x512 .f32),
    StableHlo.nullary main_cst_5 (constant S_ .f32 0x00000000#32),
    StableHlo.unary main_cst_5 main_v30 (broadcastInDim S4x512 ![] bcast_S_S4x512 : Held F S_ .f32 → Held F S4x512 .f32),
    StableHlo.reshape main_arg8 main_v31 (rfl : (.f32 : EltTy) = .f32) shapeCasts_S2048x512_S2048x4x128,
    StableHlo.unary main_v24 main_v32 (broadcastInDim S2048x4x128 ![0, 1, 2] bcast_S1x4x128_S2048x4x128_0_1_2 : Held F S1x4x128 .f32 → Held F S2048x4x128 .f32),
    StableHlo.binary main_v32 main_v31 main_v33 (mulf : Held F S2048x4x128 .f32 → Held F S2048x4x128 .f32 → Held F S2048x4x128 .f32),
    StableHlo.binary main_v31 main_v1 main_v34 (mulf : Held F S2048x4x128 .f32 → Held F S2048x4x128 .f32 → Held F S2048x4x128 .f32),
    StableHlo.nullary main_cst_6 (constant S_ .f32 0x00000000#32),
    StableHlo.binary main_v34 main_cst_6 main_v35 ((fun x v => Host.reduceAdd x v reducesTo_S2048x4x128_S4x128_d0 h_S_) : Held F S2048x4x128 .f32 → Held F S_ .f32 → Held F S4x128 .f32),
    StableHlo.reshape main_v35 main_v36 (rfl : (.f32 : EltTy) = .f32) shapeCasts_S4x128_S1x4x128,
    StableHlo.nullary main_cst_7 (constant S_ .f32 0x00000000#32),
    StableHlo.binary main_v36 main_cst_7 main_v37 ((fun x v => Host.reduceAdd x v reducesTo_S1x4x128_S4x128_d0 h_S_) : Held F S1x4x128 .f32 → Held F S_ .f32 → Held F S4x128 .f32),
    StableHlo.reshape main_v37 main_v38 (rfl : (.f32 : EltTy) = .f32) shapeCasts_S4x128_S1x512 ]
theorem midOps0_sub : (midOps0 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.reshape_bufs_sub .., StableHlo.unary_bufs_sub .., StableHlo.unary_bufs_sub .., StableHlo.binary_bufs_sub .., StableHlo.binary_bufs_sub .., StableHlo.reshape_bufs_sub .., StableHlo.nullary_bufs_sub .., StableHlo.unary_bufs_sub .., StableHlo.nullary_bufs_sub .., StableHlo.unary_bufs_sub .., StableHlo.reshape_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.reshape_bufs_sub ..⟩
/-- Those between the loops, the second half. -/
abbrev midOps1 : List (HloOp τ sig (Elt F)) :=
  ( StableHlo.unary main_v31 main_v39 (Host.negf : Held F S2048x4x128 .f32 → Held F S2048x4x128 .f32)
  :: StableHlo.unary main_v39 main_v40 ((transpose S4x2048x128 [1, 0, 2] · transposes_S2048x4x128_S4x2048x128_1_0_2) : Held F S2048x4x128 .f32 → Held F S4x2048x128 .f32)
  :: StableHlo.binary main_v40 main_v17_8 main_v41 ((fun l r => Host.dotGeneral dot_S4x2048x128_S2048x4x512_S4x128x512_1_0_2_2_0_1 none l r) : Held F S4x2048x128 .f32 → Held F S2048x4x512 .f32 → Held F S4x128x512 .f32)
  :: StableHlo.unary main_v41 main_v42 ((transpose S4x512x128 [0, 2, 1] · transposes_S4x128x512_S4x512x128_0_2_1) : Held F S4x128x512 .f32 → Held F S4x512x128 .f32)
  :: StableHlo.binary main_v40 main_v5 main_v43 ((fun l r => Host.dotGeneral dot_S4x2048x128_S4x512x128_S4x2048x512_2_2_1_1_0_0 none l r) : Held F S4x2048x128 .f32 → Held F S4x512x128 .f32 → Held F S4x2048x512 .f32)
  :: StableHlo.unary main_v43 main_v44 ((transpose S2048x4x512 [1, 0, 2] · transposes_S4x2048x512_S2048x4x512_1_0_2) : Held F S4x2048x512 .f32 → Held F S2048x4x512 .f32)
  :: StableHlo.unary main_v31 main_v45 ((transpose S4x2048x128 [1, 0, 2] · transposes_S2048x4x128_S4x2048x128_1_0_2) : Held F S2048x4x128 .f32 → Held F S4x2048x128 .f32)
  :: StableHlo.binary main_v45 main_v17_7 main_v46 ((fun l r => Host.dotGeneral dot_S4x2048x128_S2048x4x512_S4x128x512_1_0_2_2_0_1 none l r) : Held F S4x2048x128 .f32 → Held F S2048x4x512 .f32 → Held F S4x128x512 .f32)
  :: StableHlo.unary main_v46 main_v47 ((transpose S4x512x128 [0, 2, 1] · transposes_S4x128x512_S4x512x128_0_2_1) : Held F S4x128x512 .f32 → Held F S4x512x128 .f32)
  :: StableHlo.binary main_v45 main_v4 main_v48 ((fun l r => Host.dotGeneral dot_S4x2048x128_S4x512x128_S4x2048x512_2_2_1_1_0_0 none l r) : Held F S4x2048x128 .f32 → Held F S4x512x128 .f32 → Held F S4x2048x512 .f32)
  :: StableHlo.unary main_v48 main_v49 ((transpose S2048x4x512 [1, 0, 2] · transposes_S4x2048x512_S2048x4x512_1_0_2) : Held F S4x2048x512 .f32 → Held F S2048x4x512 .f32)
  :: StableHlo.nullary main_cst_8 (constant S_ .f32 0x00000000#32)
  :: StableHlo.unary main_cst_8 main_v50 (broadcastInDim S4x512 ![] bcast_S_S4x512 : Held F S_ .f32 → Held F S4x512 .f32)
  :: StableHlo.nullary main_cst_9 (constant S_ .f32 0x00000000#32)
  :: StableHlo.unary main_cst_9 main_v51 (broadcastInDim S4x512 ![] bcast_S_S4x512 : Held F S_ .f32 → Held F S4x512 .f32)
  :: StableHlo.nullary main_cst_10 (constant S_ .f32 0x00000000#32)
  :: StableHlo.unary main_cst_10 main_v52 (broadcastInDim S4x512 ![] bcast_S_S4x512 : Held F S_ .f32 → Held F S4x512 .f32)
  :: StableHlo.nullary main_cst_11 (constant S_ .f32 0x00000000#32)
  :: StableHlo.unary main_cst_11 main_v53 (broadcastInDim S4x512 ![] bcast_S_S4x512 : Held F S_ .f32 → Held F S4x512 .f32)
  :: StableHlo.nullary main_cst_12 (constant S_ .f32 0x00000000#32)
  :: StableHlo.unary main_cst_12 main_v54 (broadcastInDim S2048x4x512 ![] bcast_S_S2048x4x512 : Held F S_ .f32 → Held F S2048x4x512 .f32)
  :: StableHlo.nullary main_cst_13 (constant S_ .f32 0x00000000#32)
  :: StableHlo.unary main_cst_13 main_v55 (broadcastInDim S2048x4x512 ![] bcast_S_S2048x4x512 : Held F S_ .f32 → Held F S2048x4x512 .f32)
  :: StableHlo.nullary main_c_14 (constantI S_ 32 0#32)
  :: StableHlo.unary main_v49 main_v56_0 id
  :: StableHlo.unary main_v44 main_v56_1 id
  :: StableHlo.unary main_v17_9 main_v56_2 id
  :: StableHlo.unary main_v17_10 main_v56_3 id
  :: StableHlo.unary main_v6 main_v56_4 id
  :: StableHlo.unary main_v7 main_v56_5 id
  :: StableHlo.unary main_c_14 main_v56_6 id
  :: StableHlo.unary main_v52 main_v56_7 id
  :: StableHlo.unary main_v53 main_v56_8 id
  :: StableHlo.unary main_v50 main_v56_9 id
  :: StableHlo.unary main_v51 main_v56_10 id
  :: StableHlo.unary main_v54 main_v56_11 id
  :: StableHlo.unary main_v55 main_v56_12 id
  :: [] )
theorem midOps1_sub : (midOps1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- Those after the second loop. -/
abbrev postOps : List (HloOp τ sig (Elt F)) :=
  [ StableHlo.unary main_v56_12 main_v57 ((transpose S4x2048x512 [1, 0, 2] · transposes_S2048x4x512_S4x2048x512_1_0_2) : Held F S2048x4x512 .f32 → Held F S4x2048x512 .f32),
    StableHlo.binary main_v57 main_v1 main_v58 ((fun l r => Host.dotGeneral dot_S4x2048x512_S2048x4x128_S4x512x128_1_0_2_2_0_1 none l r) : Held F S4x2048x512 .f32 → Held F S2048x4x128 .f32 → Held F S4x512x128 .f32),
    StableHlo.binary main_v57 main_v3 main_v59 ((fun l r => Host.dotGeneral dot_S4x2048x512_S4x512x128_S4x2048x128_2_1_1_2_0_0 none l r) : Held F S4x2048x512 .f32 → Held F S4x512x128 .f32 → Held F S4x2048x128 .f32),
    StableHlo.unary main_v59 main_v60 ((transpose S2048x4x128 [1, 0, 2] · transposes_S4x2048x128_S2048x4x128_1_0_2) : Held F S4x2048x128 .f32 → Held F S2048x4x128 .f32),
    StableHlo.binary main_v33 main_v60 main_v61 (addf : Held F S2048x4x128 .f32 → Held F S2048x4x128 .f32 → Held F S2048x4x128 .f32),
    StableHlo.unary main_v56_11 main_v62 ((transpose S4x2048x512 [1, 0, 2] · transposes_S2048x4x512_S4x2048x512_1_0_2) : Held F S2048x4x512 .f32 → Held F S4x2048x512 .f32),
    StableHlo.binary main_v62 main_v1 main_v63 ((fun l r => Host.dotGeneral dot_S4x2048x512_S2048x4x128_S4x512x128_1_0_2_2_0_1 none l r) : Held F S4x2048x512 .f32 → Held F S2048x4x128 .f32 → Held F S4x512x128 .f32),
    StableHlo.binary main_v62 main_v2 main_v64 ((fun l r => Host.dotGeneral dot_S4x2048x512_S4x512x128_S4x2048x128_2_1_1_2_0_0 none l r) : Held F S4x2048x512 .f32 → Held F S4x512x128 .f32 → Held F S4x2048x128 .f32),
    StableHlo.unary main_v64 main_v65 ((transpose S2048x4x128 [1, 0, 2] · transposes_S4x2048x128_S2048x4x128_1_0_2) : Held F S4x2048x128 .f32 → Held F S2048x4x128 .f32),
    StableHlo.binary main_v61 main_v65 main_v66 (addf : Held F S2048x4x128 .f32 → Held F S2048x4x128 .f32 → Held F S2048x4x128 .f32),
    StableHlo.reshape main_v56_8 main_v67 (rfl : (.f32 : EltTy) = .f32) shapeCasts_S4x512_S1x2048,
    StableHlo.reshape main_v56_7 main_v68 (rfl : (.f32 : EltTy) = .f32) shapeCasts_S4x512_S1x2048,
    StableHlo.reshape main_v42 main_v69 (rfl : (.f32 : EltTy) = .f32) shapeCasts_S4x512x128_S2048x128,
    StableHlo.reshape main_v47 main_v70 (rfl : (.f32 : EltTy) = .f32) shapeCasts_S4x512x128_S2048x128,
    StableHlo.reshape main_v58 main_v71 (rfl : (.f32 : EltTy) = .f32) shapeCasts_S4x512x128_S2048x128,
    StableHlo.reshape main_v63 main_v72 (rfl : (.f32 : EltTy) = .f32) shapeCasts_S4x512x128_S2048x128,
    StableHlo.reshape main_v66 main_v73 (rfl : (.f32 : EltTy) = .f32) shapeCasts_S2048x4x128_S2048x512,
    StableHlo.nullary main_cst_15 (constant S_ .f32 0x00000000#32),
    StableHlo.binary main_v73 main_cst_15 main_v74 ((fun x v => pad S2048x2560 ![0, 0] ![0, 2048] ![0, 0] x v pads_S2048x512_S2048x2560_000_020480 h_S_) : Held F S2048x512 .f32 → Held F S_ .f32 → Held F S2048x2560 .f32),
    StableHlo.unary main_v74 main_v75 ((extractStridedSlice S2048x512 ![0, 0] · slices_S2048x2560_S2048x512_0_0) : Held F S2048x2560 .f32 → Held F S2048x512 .f32),
    StableHlo.unary main_v75 main_v76 ((truncf .bf16 · bitsLt_bf16_f32) : Held F S2048x512 .f32 → Held F S2048x512 .bf16) ]
theorem postOps_sub : (postOps : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.binary_bufs_sub .., StableHlo.unary_bufs_sub .., StableHlo.unary_bufs_sub ..⟩
/-- The first loop's body, stretch 0. -/
abbrev scanOps0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v17_0 : StableHlo.TRef sig ⟨S2048x4x512, .f32⟩) ![(.of main_v17_4 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x4x512, .f32⟩) (fun x i => Host.dynamicSlice S1x4x512 x (fun k => (i k (Shape.Idx.first h_S_)).toInt) sliceFits_S2048x4x512_S1x4x512),
    StableHlo.TRef.reshape (.of main_while0b_call0_v0 : StableHlo.TRef sig ⟨S1x4x512, .f32⟩) (.of main_while0b_v77 : StableHlo.TRef sig ⟨S4x512, .f32⟩) (rfl : (.f32 : EltTy) = .f32) shapeCasts_S1x4x512_S4x512 ]
theorem scanOps0_sub : (scanOps0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The first loop's body, stretch 1. -/
abbrev scanOps1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v17_1 : StableHlo.TRef sig ⟨S2048x4x512, .f32⟩) ![(.of main_v17_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x4x512, .f32⟩) (fun x i => Host.dynamicSlice S1x4x512 x (fun k => (i k (Shape.Idx.first h_S_)).toInt) sliceFits_S2048x4x512_S1x4x512),
    StableHlo.TRef.reshape (.of main_while0b_call1_v0 : StableHlo.TRef sig ⟨S1x4x512, .f32⟩) (.of main_while0b_v78 : StableHlo.TRef sig ⟨S4x512, .f32⟩) (rfl : (.f32 : EltTy) = .f32) shapeCasts_S1x4x512_S4x512 ]
theorem scanOps1_sub : (scanOps1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The first loop's body, stretch 2. -/
abbrev scanOps2 : List (HloOp τ sig (Elt F)) :=
  [ StableHlo.binary main_v17_2 main_v17_5 main_while0b_v79 (mulf : Held F S4x512 .f32 → Held F S4x512 .f32 → Held F S4x512 .f32),
    StableHlo.binary main_v17_3 main_v17_6 main_while0b_v80 (mulf : Held F S4x512 .f32 → Held F S4x512 .f32 → Held F S4x512 .f32),
    StableHlo.binary main_while0b_v79 main_while0b_v80 main_while0b_v81 (subf : Held F S4x512 .f32 → Held F S4x512 .f32 → Held F S4x512 .f32),
    StableHlo.binary main_while0b_v81 main_while0b_v77 main_while0b_v82 (addf : Held F S4x512 .f32 → Held F S4x512 .f32 → Held F S4x512 .f32),
    StableHlo.binary main_v17_2 main_v17_6 main_while0b_v83 (mulf : Held F S4x512 .f32 → Held F S4x512 .f32 → Held F S4x512 .f32),
    StableHlo.binary main_v17_3 main_v17_5 main_while0b_v84 (mulf : Held F S4x512 .f32 → Held F S4x512 .f32 → Held F S4x512 .f32),
    StableHlo.binary main_while0b_v83 main_while0b_v84 main_while0b_v85 (addf : Held F S4x512 .f32 → Held F S4x512 .f32 → Held F S4x512 .f32),
    StableHlo.binary main_while0b_v85 main_while0b_v78 main_while0b_v86 (addf : Held F S4x512 .f32 → Held F S4x512 .f32 → Held F S4x512 .f32) ]
theorem scanOps2_sub : (scanOps2 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
/-- The first loop's body, stretch 3. -/
abbrev scanOps3 : List (HloOp τ sig (Elt F)) :=
  [ StableHlo.TRef.unary (.of main_while0b_v82 : StableHlo.TRef sig ⟨S4x512, .f32⟩) (.of main_while0b_call2_v0 : StableHlo.TRef sig ⟨S1x4x512, .f32⟩) (broadcastInDim S1x4x512 ![1, 2] bcast_S4x512_S1x4x512_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v17_7 : StableHlo.TRef sig ⟨S2048x4x512, .f32⟩) (.of main_while0b_call2_v0 : StableHlo.TRef sig ⟨S1x4x512, .f32⟩) ![(.of main_v17_4 : StableHlo.TRef sig ⟨S_, .i32⟩), (.of main_while0b_call2_c : StableHlo.TRef sig ⟨S_, .i32⟩), (.of main_while0b_call2_c_0 : StableHlo.TRef sig ⟨S_, .i32⟩)] (.of main_while0b_v87 : StableHlo.TRef sig ⟨S2048x4x512, .f32⟩) (fun x u i => Host.dynamicUpdateSlice x u (fun k => (i k (Shape.Idx.first h_S_)).toInt) updateFits_S2048x4x512_S1x4x512) ]
theorem scanOps3_sub : (scanOps3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The first loop's body, stretch 4. -/
abbrev scanOps4 : List (HloOp τ sig (Elt F)) :=
  [ StableHlo.TRef.unary (.of main_while0b_v86 : StableHlo.TRef sig ⟨S4x512, .f32⟩) (.of main_while0b_call3_v0 : StableHlo.TRef sig ⟨S1x4x512, .f32⟩) (broadcastInDim S1x4x512 ![1, 2] bcast_S4x512_S1x4x512_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v17_8 : StableHlo.TRef sig ⟨S2048x4x512, .f32⟩) (.of main_while0b_call3_v0 : StableHlo.TRef sig ⟨S1x4x512, .f32⟩) ![(.of main_v17_4 : StableHlo.TRef sig ⟨S_, .i32⟩), (.of main_while0b_call3_c : StableHlo.TRef sig ⟨S_, .i32⟩), (.of main_while0b_call3_c_0 : StableHlo.TRef sig ⟨S_, .i32⟩)] (.of main_while0b_v88 : StableHlo.TRef sig ⟨S2048x4x512, .f32⟩) (fun x u i => Host.dynamicUpdateSlice x u (fun k => (i k (Shape.Idx.first h_S_)).toInt) updateFits_S2048x4x512_S1x4x512) ]
theorem scanOps4_sub : (scanOps4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The first loop's body, stretch 5. -/
abbrev scanOps5 : List (HloOp τ sig (Elt F)) :=
  [ StableHlo.TRef.unary (.of main_v17_5 : StableHlo.TRef sig ⟨S4x512, .f32⟩) (.of main_while0b_call4_v0 : StableHlo.TRef sig ⟨S1x4x512, .f32⟩) (broadcastInDim S1x4x512 ![1, 2] bcast_S4x512_S1x4x512_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v17_9 : StableHlo.TRef sig ⟨S2048x4x512, .f32⟩) (.of main_while0b_call4_v0 : StableHlo.TRef sig ⟨S1x4x512, .f32⟩) ![(.of main_v17_4 : StableHlo.TRef sig ⟨S_, .i32⟩), (.of main_while0b_call4_c : StableHlo.TRef sig ⟨S_, .i32⟩), (.of main_while0b_call4_c_0 : StableHlo.TRef sig ⟨S_, .i32⟩)] (.of main_while0b_v89 : StableHlo.TRef sig ⟨S2048x4x512, .f32⟩) (fun x u i => Host.dynamicUpdateSlice x u (fun k => (i k (Shape.Idx.first h_S_)).toInt) updateFits_S2048x4x512_S1x4x512) ]
theorem scanOps5_sub : (scanOps5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The first loop's body, stretch 6. -/
abbrev scanOps6 : List (HloOp τ sig (Elt F)) :=
  [ StableHlo.TRef.unary (.of main_v17_6 : StableHlo.TRef sig ⟨S4x512, .f32⟩) (.of main_while0b_call5_v0 : StableHlo.TRef sig ⟨S1x4x512, .f32⟩) (broadcastInDim S1x4x512 ![1, 2] bcast_S4x512_S1x4x512_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v17_10 : StableHlo.TRef sig ⟨S2048x4x512, .f32⟩) (.of main_while0b_call5_v0 : StableHlo.TRef sig ⟨S1x4x512, .f32⟩) ![(.of main_v17_4 : StableHlo.TRef sig ⟨S_, .i32⟩), (.of main_while0b_call5_c : StableHlo.TRef sig ⟨S_, .i32⟩), (.of main_while0b_call5_c_0 : StableHlo.TRef sig ⟨S_, .i32⟩)] (.of main_while0b_v90 : StableHlo.TRef sig ⟨S2048x4x512, .f32⟩) (fun x u i => Host.dynamicUpdateSlice x u (fun k => (i k (Shape.Idx.first h_S_)).toInt) updateFits_S2048x4x512_S1x4x512) ]
theorem scanOps6_sub : (scanOps6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The first loop's body, stretch 7. -/
abbrev scanOps7 : List (HloOp τ sig (Elt F)) :=
  [ StableHlo.nullary main_while0b_c_26 (constantI S_ 32 1#32),
    StableHlo.binary main_v17_4 main_while0b_c_26 main_while0b_v91 (addi : Held F S_ .i32 → Held F S_ .i32 → Held F S_ .i32),
    StableHlo.unary main_while0b_v91 main_v17_4 id,
    StableHlo.unary main_while0b_v82 main_v17_5 id,
    StableHlo.unary main_while0b_v86 main_v17_6 id,
    StableHlo.unary main_while0b_v87 main_v17_7 id,
    StableHlo.unary main_while0b_v88 main_v17_8 id,
    StableHlo.unary main_while0b_v89 main_v17_9 id,
    StableHlo.unary main_while0b_v90 main_v17_10 id ]
theorem scanOps7_sub : (scanOps7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- The second loop's body, stretch 0. -/
abbrev backOps0 : List (HloOp τ sig (Elt F)) :=
  [ StableHlo.nullary main_while1b_c_28 (constantI S_ 32 2048#32),
    StableHlo.binary main_while1b_c_28 main_v56_6 main_while1b_v77 (subi : Held F S_ .i32 → Held F S_ .i32 → Held F S_ .i32),
    StableHlo.nullary main_while1b_c_29 (constantI S_ 32 1#32),
    StableHlo.binary main_while1b_v77 main_while1b_c_29 main_while1b_v78 (subi : Held F S_ .i32 → Held F S_ .i32 → Held F S_ .i32) ]
theorem backOps0_sub : (backOps0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
/-- The second loop's body, stretch 1. -/
abbrev backOps1 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.unaryIndexed (.of main_v56_0 : StableHlo.TRef sig ⟨S2048x4x512, .f32⟩) ![(.of main_while1b_v78 : StableHlo.TRef sig ⟨S_, .i32⟩), (.of main_while1b_call6_c : StableHlo.TRef sig ⟨S_, .i32⟩), (.of main_while1b_call6_c_0 : StableHlo.TRef sig ⟨S_, .i32⟩)] (.of main_while1b_call6_v0 : StableHlo.TRef sig ⟨S1x4x512, .f32⟩) (fun x i => Host.dynamicSlice S1x4x512 x (fun k => (i k (Shape.Idx.first h_S_)).toInt) sliceFits_S2048x4x512_S1x4x512),
    StableHlo.TRef.reshape (.of main_while1b_call6_v0 : StableHlo.TRef sig ⟨S1x4x512, .f32⟩) (.of main_while1b_v79 : StableHlo.TRef sig ⟨S4x512, .f32⟩) (rfl : (.f32 : EltTy) = .f32) shapeCasts_S1x4x512_S4x512 ]
theorem backOps1_sub : (backOps1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The second loop's body, stretch 2. -/
abbrev backOps2 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v56_1 : StableHlo.TRef sig ⟨S2048x4x512, .f32⟩) ![(.of main_while1b_v78 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x4x512, .f32⟩) (fun x i => Host.dynamicSlice S1x4x512 x (fun k => (i k (Shape.Idx.first h_S_)).toInt) sliceFits_S2048x4x512_S1x4x512),
    StableHlo.TRef.reshape (.of main_while1b_call7_v0 : StableHlo.TRef sig ⟨S1x4x512, .f32⟩) (.of main_while1b_v80 : StableHlo.TRef sig ⟨S4x512, .f32⟩) (rfl : (.f32 : EltTy) = .f32) shapeCasts_S1x4x512_S4x512 ]
theorem backOps2_sub : (backOps2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The second loop's body, stretch 3. -/
abbrev backOps3 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v56_2 : StableHlo.TRef sig ⟨S2048x4x512, .f32⟩) ![(.of main_while1b_v78 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x4x512, .f32⟩) (fun x i => Host.dynamicSlice S1x4x512 x (fun k => (i k (Shape.Idx.first h_S_)).toInt) sliceFits_S2048x4x512_S1x4x512),
    StableHlo.TRef.reshape (.of main_while1b_call8_v0 : StableHlo.TRef sig ⟨S1x4x512, .f32⟩) (.of main_while1b_v81 : StableHlo.TRef sig ⟨S4x512, .f32⟩) (rfl : (.f32 : EltTy) = .f32) shapeCasts_S1x4x512_S4x512 ]
theorem backOps3_sub : (backOps3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The second loop's body, stretch 4. -/
abbrev backOps4 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v56_3 : StableHlo.TRef sig ⟨S2048x4x512, .f32⟩) ![(.of main_while1b_v78 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x4x512, .f32⟩) (fun x i => Host.dynamicSlice S1x4x512 x (fun k => (i k (Shape.Idx.first h_S_)).toInt) sliceFits_S2048x4x512_S1x4x512),
    StableHlo.TRef.reshape (.of main_while1b_call9_v0 : StableHlo.TRef sig ⟨S1x4x512, .f32⟩) (.of main_while1b_v82 : StableHlo.TRef sig ⟨S4x512, .f32⟩) (rfl : (.f32 : EltTy) = .f32) shapeCasts_S1x4x512_S4x512 ]
theorem backOps4_sub : (backOps4 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The second loop's body, stretch 5. -/
abbrev backOps5 : List (HloOp τ sig (Elt F)) :=
  [ StableHlo.binary main_v56_9 main_while1b_v79 main_while1b_v83 (addf : Held F S4x512 .f32 → Held F S4x512 .f32 → Held F S4x512 .f32),
    StableHlo.binary main_v56_10 main_while1b_v80 main_while1b_v84 (addf : Held F S4x512 .f32 → Held F S4x512 .f32 → Held F S4x512 .f32),
    StableHlo.binary main_v56_5 main_while1b_v84 main_while1b_v85 (mulf : Held F S4x512 .f32 → Held F S4x512 .f32 → Held F S4x512 .f32),
    StableHlo.binary main_while1b_v84 main_while1b_v81 main_while1b_v86 (mulf : Held F S4x512 .f32 → Held F S4x512 .f32 → Held F S4x512 .f32),
    StableHlo.binary main_v56_8 main_while1b_v86 main_while1b_v87 (addf : Held F S4x512 .f32 → Held F S4x512 .f32 → Held F S4x512 .f32),
    StableHlo.binary main_v56_4 main_while1b_v84 main_while1b_v88 (mulf : Held F S4x512 .f32 → Held F S4x512 .f32 → Held F S4x512 .f32),
    StableHlo.binary main_while1b_v84 main_while1b_v82 main_while1b_v89 (mulf : Held F S4x512 .f32 → Held F S4x512 .f32 → Held F S4x512 .f32),
    StableHlo.binary main_v56_7 main_while1b_v89 main_while1b_v90 (addf : Held F S4x512 .f32 → Held F S4x512 .f32 → Held F S4x512 .f32),
    StableHlo.unary main_while1b_v83 main_while1b_v91 (Host.negf : Held F S4x512 .f32 → Held F S4x512 .f32),
    StableHlo.binary main_v56_5 main_while1b_v91 main_while1b_v92 (mulf : Held F S4x512 .f32 → Held F S4x512 .f32 → Held F S4x512 .f32),
    StableHlo.binary main_while1b_v88 main_while1b_v92 main_while1b_v93 (addf : Held F S4x512 .f32 → Held F S4x512 .f32 → Held F S4x512 .f32),
    StableHlo.binary main_while1b_v91 main_while1b_v82 main_while1b_v94 (mulf : Held F S4x512 .f32 → Held F S4x512 .f32 → Held F S4x512 .f32),
    StableHlo.binary main_while1b_v87 main_while1b_v94 main_while1b_v95 (addf : Held F S4x512 .f32 → Held F S4x512 .f32 → Held F S4x512 .f32),
    StableHlo.binary main_v56_4 main_while1b_v83 main_while1b_v96 (mulf : Held F S4x512 .f32 → Held F S4x512 .f32 → Held F S4x512 .f32),
    StableHlo.binary main_while1b_v85 main_while1b_v96 main_while1b_v97 (addf : Held F S4x512 .f32 → Held F S4x512 .f32 → Held F S4x512 .f32),
    StableHlo.binary main_while1b_v83 main_while1b_v81 main_while1b_v98 (mulf : Held F S4x512 .f32 → Held F S4x512 .f32 → Held F S4x512 .f32),
    StableHlo.binary main_while1b_v90 main_while1b_v98 main_while1b_v99 (addf : Held F S4x512 .f32 → Held F S4x512 .f32 → Held F S4x512 .f32) ]
theorem backOps5_sub : (backOps5 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
/-- The second loop's body, stretch 6. -/
abbrev backOps6 : List (HloOp τ sig (Elt F)) :=
  [ StableHlo.TRef.unary (.of main_while1b_v83 : StableHlo.TRef sig ⟨S4x512, .f32⟩) (.of main_while1b_call10_v0 : StableHlo.TRef sig ⟨S1x4x512, .f32⟩) (broadcastInDim S1x4x512 ![1, 2] bcast_S4x512_S1x4x512_1_2),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.binaryIndexed (.of main_v56_11 : StableHlo.TRef sig ⟨S2048x4x512, .f32⟩) (.of main_while1b_call10_v0 : StableHlo.TRef sig ⟨S1x4x512, .f32⟩) ![(.of main_while1b_v78 : StableHlo.TRef sig ⟨S_, .i32⟩), (.of main_while1b_call10_c : StableHlo.TRef sig ⟨S_, .i32⟩), (.of main_while1b_call10_c_0 : StableHlo.TRef sig ⟨S_, .i32⟩)] (.of main_while1b_v100 : StableHlo.TRef sig ⟨S2048x4x512, .f32⟩) (fun x u i => Host.dynamicUpdateSlice x u (fun k => (i k (Shape.Idx.first h_S_)).toInt) updateFits_S2048x4x512_S1x4x512) ]
theorem backOps6_sub : (backOps6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The second loop's body, stretch 7. -/
abbrev backOps7 : List (HloOp τ sig (Elt F)) :=
  [ StableHlo.TRef.unary (.of main_while1b_v84 : StableHlo.TRef sig ⟨S4x512, .f32⟩) (.of main_while1b_call11_v0 : StableHlo.TRef sig ⟨S1x4x512, .f32⟩) (broadcastInDim S1x4x512 ![1, 2] bcast_S4x512_S1x4x512_1_2),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.binaryIndexed (.of main_v56_12 : StableHlo.TRef sig ⟨S2048x4x512, .f32⟩) (.of main_while1b_call11_v0 : StableHlo.TRef sig ⟨S1x4x512, .f32⟩) ![(.of main_while1b_v78 : StableHlo.TRef sig ⟨S_, .i32⟩), (.of main_while1b_call11_c : StableHlo.TRef sig ⟨S_, .i32⟩), (.of main_while1b_call11_c_0 : StableHlo.TRef sig ⟨S_, .i32⟩)] (.of main_while1b_v101 : StableHlo.TRef sig ⟨S2048x4x512, .f32⟩) (fun x u i => Host.dynamicUpdateSlice x u (fun k => (i k (Shape.Idx.first h_S_)).toInt) updateFits_S2048x4x512_S1x4x512) ]
theorem backOps7_sub : (backOps7 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The second loop's body, stretch 8. -/
abbrev backOps8 : List (HloOp τ sig (Elt F)) :=
  [ StableHlo.nullary main_while1b_c_30 (constantI S_ 32 1#32),
    StableHlo.binary main_v56_6 main_while1b_c_30 main_while1b_v102 (addi : Held F S_ .i32 → Held F S_ .i32 → Held F S_ .i32),
    StableHlo.unary main_while1b_v102 main_v56_6 id,
    StableHlo.unary main_while1b_v99 main_v56_7 id,
    StableHlo.unary main_while1b_v95 main_v56_8 id,
    StableHlo.unary main_while1b_v97 main_v56_9 id,
    StableHlo.unary main_while1b_v93 main_v56_10 id,
    StableHlo.unary main_while1b_v100 main_v56_11 id,
    StableHlo.unary main_while1b_v101 main_v56_12 id ]
theorem backOps8_sub : (backOps8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem part0_chain (c : Dev nD) : main_part0 (F := F) c = (Pipeline.chainK
  [ StableHlo.seq preOps,
    HostLoop.enter 0 ]
  (StableHlo.seq midOps0) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

theorem part1_chain (c : Dev nD) : main_part1 (F := F) c = (Pipeline.chain
  [ StableHlo.seq midOps1,
    HostLoop.enter 1,
    StableHlo.seq postOps ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

theorem main_chain (c : Dev nD) : main (F := F) c = (Pipeline.chain
  [ StableHlo.seq preOps,
    HostLoop.enter 0,
    StableHlo.seq midOps0,
    StableHlo.seq midOps1,
    HostLoop.enter 1,
    StableHlo.seq postOps ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [part1_chain, part0_chain, Pipeline.chainK_bind_chain]
  chain_rfl

theorem scan_body_chain : main_while0_body (F := F) = (Pipeline.chain
  [ StableHlo.seq scanOps0,
    StableHlo.seq scanOps1,
    StableHlo.seq scanOps2,
    StableHlo.seq scanOps3,
    StableHlo.seq scanOps4,
    StableHlo.seq scanOps5,
    StableHlo.seq scanOps6,
    StableHlo.seq scanOps7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, Pipeline.chain_cons, Pipeline.chain_cons, StableHlo.chain_seq_cons]
  chain_rfl

theorem back_body_chain : main_while1_body (F := F) = (Pipeline.chain
  [ StableHlo.seq backOps0,
    StableHlo.seq backOps1,
    StableHlo.seq backOps2,
    StableHlo.seq backOps3,
    StableHlo.seq backOps4,
    StableHlo.seq backOps5,
    StableHlo.seq backOps6,
    StableHlo.seq backOps7,
    StableHlo.seq backOps8 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, StableHlo.chain_seq_cons, Pipeline.chain_cons, Pipeline.chain_cons, StableHlo.chain_seq_cons]
  chain_rfl

end Cert.ReferenceIdeal

end
-- ==== Proof.RunTwo.lean ====
/- The run of a host program that is stretches of operations with two counted loops between them. The library runs such a
   program with one loop (Lib/StableHlo/RunLoop.lean); here the same pieces, a stretch as a segment and a counted loop as a
   segment, are chained for two. Nothing here speaks of a particular program. -/
module

public import Idealize.ShloMosaic.Lib.Pipeline.Regions
public import Idealize.ShloMosaic.Lib.StableHlo.RunLoop

@[expose] public section

noncomputable section

namespace Cert.RunTwo

open Idealize.ShloMosaic Idealize.ShloMosaic.TcCoe Idealize.ShloMosaic.StableHlo
open Idealize.ShloMosaic.Pipeline (CSeg Ticket PCfg ucRefs unscopedBufs_held sub_ucRefs)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} {Λ₀ : Idealize.SL.Sem.Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- No kernel: nothing is admitted, no ticket is held and no counter has a level. -/
abbrev noAdm : (p : Fin 0) → (pcs p).Adm := fun p => p.elim0
abbrev noTk : Fin 0 → Ticket (Ix := Unit) (Name := ℕ) (U := Option PUnit) (Lvl := ℕ) (nD := nD) (τ := τ) pcs (noAdm pcs) :=
  fun j => j.elim0
abbrev noL : GSem nD τ sig → Finset Unit := fun _ => ∅
abbrev noLv : GSem nD τ sig → Unit → ℕ := fun _ _ => 0

theorem noCell_inj : Function.Injective (Pipeline.cellOf (nD := nD) (τ := τ) (Pipeline.pin pcs (noAdm pcs))) :=
  fun k => k.1.elim0

/-- What each core keeps beside its buffers: that it owes nobody anything. -/
abbrev keep (c : Dev nD) : sProp 𝕄 := iprop(∃ W, owes (c : Thread nD τ) (0 : CellTallies nD τ sig Unit) W)

/-- One counted loop: its label, its two regions, their operations, and how often it goes round. -/
structure Counted where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  hloops : loops l = HostLoop.step l cond body
  condOps : List (HloOp τ sig (Elt F))
  items : List (List (HloOp τ sig (Elt F)))
  plain : Plain items
  hbody : body = Pipeline.chain (items.map fun ops => (seq ops : Prog _ PUnit))
  n : ℕ

variable {pcs loops}

/-- The buffers when the loop is left, it being entered at `W`. -/
abbrev Counted.leave (q : Counted (nD := nD) (τ := τ) (F := F) pcs loops) (W : Dev nD → Valuation τ sig (Elt F)) :
    Dev nD → Valuation τ sig (Elt F) :=
  fun c => after q.condOps (atTrip q.condOps q.items W q.n c)

/-- What is asked of the loop's condition when it is entered at `W`: the library's `CondSpec`. -/
abbrev Counted.Spec (q : Counted (nD := nD) (τ := τ) (F := F) pcs loops) (W : Dev nD → Valuation τ sig (Elt F)) : Prop :=
  CondSpec pcs defs₀ loops q.cond q.condOps q.items W q.n

variable {defs₀}

/-- The condition's specification with what the core keeps framed through it. -/
theorem Counted.Spec.framed {q : Counted (nD := nD) (τ := τ) (F := F) pcs loops} {W : Dev nD → Valuation τ sig (Elt F)}
    (h : q.Spec defs₀ W) : LoopCond pcs defs₀ Variants.none loops (keep (F := F)) q.cond q.condOps q.items W q.n := by
  intro k hk c bd
  have hout : ∀ v : Elt F .i1,
      iprop(iprop(⌜v = 1#1 ↔ k < q.n⌝ ∗ boundary (c : Thread nD τ)
          ∗ held (c : Thread nD τ) (ucRefs τ sig) (after q.condOps (atTrip q.condOps q.items W k c))) ∗ keep (F := F) c)
        ⊢ iprop(⌜v = 1#1 ↔ k < q.n⌝ ∗ boundary (c : Thread nD τ)
          ∗ held (c : Thread nD τ) (ucRefs τ sig) (after q.condOps (atTrip q.condOps q.items W k c)) ∗ keep (F := F) c) := by
    intro v
    iintro ⟨⟨%hv, Hb, Hh⟩, Hk⟩
    isplitr; · ipureintro; exact hv
    isplitl [Hb]; · iexact Hb
    isplitl [Hh] <;> iassumption
  refine BIBase.Entails.trans ?_ (((sep_mono_left (h k hk c bd)).trans (wp_frame_r _ _ _)).trans (wp_mono _ _ _ hout))
  iintro ⟨Hb, Hh, Hk⟩
  isplitl [Hb Hh]; · isplitl [Hb] <;> iassumption
  iexact Hk

/-- The loop as one segment. -/
abbrev Counted.seg (q : Counted (nD := nD) (τ := τ) (F := F) pcs loops) {W : Dev nD → Valuation τ sig (Elt F)}
    (h : q.Spec defs₀ W) : CSeg pcs (noAdm pcs) defs₀ Variants.none noL noLv loops (noTk pcs) :=
  loopSeg pcs (noAdm pcs) defs₀ Variants.none noL noLv loops (noTk pcs) q.l q.cond q.body q.hloops q.condOps q.items q.plain
    q.hbody q.n W (keep (F := F)) h.framed

/-- Stretches as segments, entered at `V`. -/
abbrev flat (items : List (List (HloOp τ sig (Elt F)))) (h : Plain items) (V : Dev nD → Valuation τ sig (Elt F)) :
    List (CSeg pcs (noAdm pcs) defs₀ Variants.none noL noLv loops (noTk pcs)) :=
  segsOf pcs (noAdm pcs) defs₀ Variants.none noL noLv loops (noTk pcs) (keep (F := F)) items h V

variable (p q : Counted (nD := nD) (τ := τ) (F := F) pcs loops) (pre mid post : List (List (HloOp τ sig (Elt F))))
  (hpre : Plain pre) (hmid : Plain mid) (hpost : Plain post) (m : (ℓ : Loc nD τ sig) → Buf (Elt F) ℓ)

/-- The buffers where the first loop is entered, where the second is, and at the end. -/
abbrev enter₁ : Dev nD → Valuation τ sig (Elt F) := fun c => afterL pre (launchContents m c)
abbrev enter₂ : Dev nD → Valuation τ sig (Elt F) := fun c => afterL mid (p.leave (enter₁ pre m) c)
abbrev final : Dev nD → Valuation τ sig (Elt F) := fun c => afterL post (q.leave (enter₂ p pre mid m) c)

/-- The whole program's segments. -/
def allSegs (hp : p.Spec defs₀ (enter₁ pre m)) (hq : q.Spec defs₀ (enter₂ p pre mid m)) :
    List (CSeg pcs (noAdm pcs) defs₀ Variants.none noL noLv loops (noTk pcs)) :=
  flat pre hpre (launchContents m) ++ p.seg hp :: (flat mid hmid (p.leave (enter₁ pre m))
    ++ q.seg hq :: flat post hpost (q.leave (enter₂ p pre mid m)))

variable {p q pre mid post hpre hmid hpost m}

theorem allSegs_prog (hp : p.Spec defs₀ (enter₁ pre m)) (hq : q.Spec defs₀ (enter₂ p pre mid m)) :
    (allSegs p q pre mid post hpre hmid hpost m hp hq).map CSeg.prog
      = (pre.map fun ops => (seq ops : Prog _ PUnit)) ++ HostLoop.enter p.l :: ((mid.map fun ops => (seq ops : Prog _ PUnit))
          ++ HostLoop.enter q.l :: post.map fun ops => (seq ops : Prog _ PUnit)) := by
  unfold allSegs
  rw [List.map_append, List.map_cons, List.map_append, List.map_cons, segsOf_prog, segsOf_prog, segsOf_prog]
  rfl

theorem allSegs_chains (hp : p.Spec defs₀ (enter₁ pre m)) (hq : q.Spec defs₀ (enter₂ p pre mid m)) :
    CSeg.Chains (fun c => iprop(held (c : Thread nD τ) (ucRefs τ sig) (launchContents m c) ∗ keep (F := F) c))
      (allSegs p q pre mid post hpre hmid hpost m hp hq)
      (fun c => iprop(iprop(held (c : Thread nD τ) (ucRefs τ sig) (final p q pre mid post m c))
        ∗ ∃ W, owes (c : Thread nD τ) (0 : CellTallies nD τ sig Unit) W)) := by
  unfold allSegs
  exact CSeg.Chains.append (segsOf_chains _ _ _ _ _ _ _ _ _ pre hpre _) ⟨fun _ => .rfl,
    CSeg.Chains.append (segsOf_chains _ _ _ _ _ _ _ _ _ mid hmid _) ⟨fun _ => .rfl, segsOf_chains _ _ _ _ _ _ _ _ _ post hpost _⟩⟩

/-- From any memory with zero counters every weakly fair execution ends, and every unscoped TensorCore buffer then holds
    what `final` says. -/
theorem run_two [∀ e, Nonempty (Elt F e)]
    (main : Dev nD → Prog (TpuEff nD τ sig (Elt F) (HostLoop.Sig (Pipeline.Sig Λ₀ (Fin 0) fun p => (pcs p).Adm) nL) .tc) PUnit)
    (hmain : ∀ c, main c = Pipeline.chain ((pre.map fun ops => (seq ops : Prog _ PUnit)) ++ HostLoop.enter p.l
      :: ((mid.map fun ops => (seq ops : Prog _ PUnit)) ++ HostLoop.enter q.l :: post.map fun ops => (seq ops : Prog _ PUnit))))
    (hpre : Plain pre) (hmid : Plain mid) (hpost : Plain post)
    (ρ : Dev nD → PrngReg) (hp : p.Spec defs₀ (enter₁ pre m)) (hq : q.Spec defs₀ (enter₂ p pre mid m)) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = final p q pre mid post m c (Proc.devRef .tc b)) :=
  Pipeline.θ_run_regions_loop_kit (Ix := Unit) (Name := ℕ) (U := Option PUnit) (Lvl := ℕ) (J := Fin 0) (P := Fin 0) (Val := Elt F)
    pcs (noAdm pcs) (noCell_inj pcs) defs₀ Variants.none noL noLv loops (noTk pcs) m ρ main
    (allSegs p q pre mid post hpre hmid hpost m hp hq)
    (fun c Q => by
      rw [hmain c]
      show wp _ _ _ (Pipeline.chain ((allSegs p q pre mid post hpre hmid hpost m hp hq).map CSeg.prog)) Q ⊢ _
      rw [allSegs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ))
            ⊢ bigSep Finset.univ (fun _ : Dev nD => (BI.emp : sProp (MT nD τ sig Unit (Elt F) ℕ (Option PUnit) ℕ))) from by
          rw [BI.bigSep_emp_const])
        iempintro)
    (T₀ := fun c => iprop(held (c : Thread nD τ) (ucRefs τ sig) (launchContents m c) ∗ keep (F := F) c))
    (Tₙ := fun c => iprop(held (c : Thread nD τ) (ucRefs τ sig) (final p q pre mid post m c)))
    (hch := allSegs_chains hp hq)
    (hinit := by
      refine Pipeline.initEach noL noLv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final p q pre mid post m c b)
    (hfin := fun c s' => by
      unfold held
      iintro ⟨Hh, HSI⟩
      ihave Hr := (pointsTo_read_all (ucRefs τ sig) (fun b => ((c : Dev nD), b)) (fun b => final p q pre mid post m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.RunTwo

end
-- ==== Proof.RefRun.lean ====
/- The reference's run: its two counters, its two conditions, and where every buffer is at the end. -/
module

public import proofs.«01_k».proof.Proof.RefOps
public import proofs.«01_k».proof.Proof.RunTwo
public import Idealize.ShloMosaic.Lib.StableHlo.RunRead
public import Idealize.ShloMosaic.Lib.Scf.ExitTest
public import Idealize.ShloMosaic.Lib.Scf.Counter

@[expose] public section

noncomputable section

namespace Cert.ReferenceIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.ReferenceIdeal.Gen

variable {F : FTy → Type} [FloatOps F]

/-- The first loop's condition: the bound, and the counter compared with it. -/
abbrev scanCond : List (HloOp τ sig (Elt F)) :=
  [ StableHlo.nullary main_while0c_c_26 (constantI S_ 32 2048#32),
    StableHlo.binary main_v17_4 main_while0c_c_26 main_while0c_v77 (cmpi .slt) ]

/-- The second loop's condition. -/
abbrev backCond : List (HloOp τ sig (Elt F)) :=
  [ StableHlo.nullary main_while1c_c_28 (constantI S_ 32 2048#32),
    StableHlo.binary main_v56_6 main_while1c_c_28 main_while1c_v77 (cmpi .slt) ]

/-- The two bodies, and what lies around the loops. -/
abbrev preI : List (List (HloOp τ sig (Elt F))) := [preOps]
abbrev midI : List (List (HloOp τ sig (Elt F))) := [midOps0, midOps1]
abbrev postI : List (List (HloOp τ sig (Elt F))) := [postOps]
abbrev scanI : List (List (HloOp τ sig (Elt F))) := [scanOps0, scanOps1, scanOps2, scanOps3, scanOps4, scanOps5, scanOps6, scanOps7]
abbrev backI : List (List (HloOp τ sig (Elt F))) := [backOps0, backOps1, backOps2, backOps3, backOps4, backOps5, backOps6, backOps7, backOps8]

/-! No stretch allocates a buffer. -/
theorem preI_plain : Plain (preI (F := F)) :=
  .cons preOps_sub (hf := List.forall_iff_forall_mem.mp (forall_fresh_of_map rfl)) (.nil)
theorem midI_plain : Plain (midI (F := F)) :=
  .cons midOps0_sub (hf := List.forall_iff_forall_mem.mp (forall_fresh_of_map rfl)) (.cons midOps1_sub (hf := List.forall_iff_forall_mem.mp (forall_fresh_of_map rfl)) (.nil))
theorem postI_plain : Plain (postI (F := F)) :=
  .cons postOps_sub (hf := List.forall_iff_forall_mem.mp (forall_fresh_of_map rfl)) (.nil)
theorem scanI_plain : Plain (scanI (F := F)) :=
  .cons scanOps0_sub (hf := List.forall_iff_forall_mem.mp (forall_fresh_of_map rfl)) (.cons scanOps1_sub (hf := List.forall_iff_forall_mem.mp (forall_fresh_of_map rfl)) (.cons scanOps2_sub (hf := List.forall_iff_forall_mem.mp (forall_fresh_of_map rfl)) (.cons scanOps3_sub (hf := List.forall_iff_forall_mem.mp (forall_fresh_of_map rfl)) (.cons scanOps4_sub (hf := List.forall_iff_forall_mem.mp (forall_fresh_of_map rfl)) (.cons scanOps5_sub (hf := List.forall_iff_forall_mem.mp (forall_fresh_of_map rfl)) (.cons scanOps6_sub (hf := List.forall_iff_forall_mem.mp (forall_fresh_of_map rfl)) (.cons scanOps7_sub (hf := List.forall_iff_forall_mem.mp (forall_fresh_of_map rfl)) (.nil))))))))
theorem backI_plain : Plain (backI (F := F)) :=
  .cons backOps0_sub (hf := List.forall_iff_forall_mem.mp (forall_fresh_of_map rfl)) (.cons backOps1_sub (hf := List.forall_iff_forall_mem.mp (forall_fresh_of_map rfl)) (.cons backOps2_sub (hf := List.forall_iff_forall_mem.mp (forall_fresh_of_map rfl)) (.cons backOps3_sub (hf := List.forall_iff_forall_mem.mp (forall_fresh_of_map rfl)) (.cons backOps4_sub (hf := List.forall_iff_forall_mem.mp (forall_fresh_of_map rfl)) (.cons backOps5_sub (hf := List.forall_iff_forall_mem.mp (forall_fresh_of_map rfl)) (.cons backOps6_sub (hf := List.forall_iff_forall_mem.mp (forall_fresh_of_map rfl)) (.cons backOps7_sub (hf := List.forall_iff_forall_mem.mp (forall_fresh_of_map rfl)) (.cons backOps8_sub (hf := List.forall_iff_forall_mem.mp (forall_fresh_of_map rfl)) (.nil)))))))))

/-- The two loops. -/
abbrev scanLoop : RunTwo.Counted (nD := nD) (τ := τ) (F := F) pcfgs loops :=
  ⟨0, main_while0_cond, main_while0_body, rfl, scanCond, scanI, scanI_plain, by rw [scan_body_chain]; rfl, 2048⟩
abbrev backLoop : RunTwo.Counted (nD := nD) (τ := τ) (F := F) pcfgs loops :=
  ⟨1, main_while1_cond, main_while1_body, rfl, backCond, backI, backI_plain, by rw [back_body_chain]; rfl, 2048⟩

set_option maxRecDepth 100000 in
/-- One trip of a loop moves its counter one on. -/
theorem scan_ctr (V : Valuation τ sig (Elt F)) :
    afterL scanI (after scanCond V) (Proc.devRef .tc main_v17_4) = addi (V (Proc.devRef .tc main_v17_4)) (constantI S_ 32 1#32) := by
  simp only [afterL_cons, afterL_nil]
  after_reads_simp
  rfl

set_option maxRecDepth 100000 in
theorem back_ctr (V : Valuation τ sig (Elt F)) :
    afterL backI (after backCond V) (Proc.devRef .tc main_v56_6) = addi (V (Proc.devRef .tc main_v56_6)) (constantI S_ 32 1#32) := by
  simp only [afterL_cons, afterL_nil]
  after_reads_simp
  rfl

set_option maxRecDepth 100000 in
/-- A loop is entered with its counter at zero. -/
theorem scan_start (V : Valuation τ sig (Elt F)) : afterL preI V (Proc.devRef .tc main_v17_4) = fun _ => (0#32 : BitVec 32) := by
  simp only [afterL_cons, afterL_nil]
  after_reads_simp
  rfl

set_option maxRecDepth 100000 in
theorem back_start (V : Valuation τ sig (Elt F)) : afterL midI V (Proc.devRef .tc main_v56_6) = fun _ => (0#32 : BitVec 32) := by
  simp only [afterL_cons, afterL_nil]
  after_reads_simp
  rfl

/-- Before trip `k` the counter is `k`. -/
theorem scan_ctr_at (W : Dev nD → Valuation τ sig (Elt F)) (c : Dev nD)
    (h : W c (Proc.devRef .tc main_v17_4) = fun _ => (0#32 : BitVec 32)) :
    ∀ k, atTrip scanCond scanI W k c (Proc.devRef .tc main_v17_4) = fun _ => Scf.iv 0#32 1#32 k
  | 0 => by rw [atTrip_zero, h, Scf.iv_zero]
  | k + 1 => by rw [atTrip_succ, scan_ctr, scan_ctr_at W c h k, Scf.iv_succ]; rfl

theorem back_ctr_at (W : Dev nD → Valuation τ sig (Elt F)) (c : Dev nD)
    (h : W c (Proc.devRef .tc main_v56_6) = fun _ => (0#32 : BitVec 32)) :
    ∀ k, atTrip backCond backI W k c (Proc.devRef .tc main_v56_6) = fun _ => Scf.iv 0#32 1#32 k
  | 0 => by rw [atTrip_zero, h, Scf.iv_zero]
  | k + 1 => by rw [atTrip_succ, back_ctr, back_ctr_at W c h k, Scf.iv_succ]; rfl

-- a rule stated for any thread, applied at the TensorCore's, unifies only if a variable's type may be unfolded
set_option backward.isDefEq.respectTransparency.types false in
theorem scan_spec (W : Dev nD → Valuation τ sig (Elt F))
    (h : ∀ c, W c (Proc.devRef .tc main_v17_4) = fun _ => (0#32 : BitVec 32)) : (scanLoop (F := F)).Spec defs₀ W := by
  intro k hk c bd
  have hctr := scan_ctr_at W c (h c) k
  show _ ⊢ wp _ _ _ (main_while0_cond (F := F)) _
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip scanCond scanI W k c) main_v17_4 HostLoop.idx0)
        (HloOp.result _ (atTrip scanCond scanI W k c) main_while0c_c_26 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  show _ ⊢ held _ _ (after scanCond _)
  rw [after_cons, after_cons, after_nil]

set_option backward.isDefEq.respectTransparency.types false in
theorem back_spec (W : Dev nD → Valuation τ sig (Elt F))
    (h : ∀ c, W c (Proc.devRef .tc main_v56_6) = fun _ => (0#32 : BitVec 32)) : (backLoop (F := F)).Spec defs₀ W := by
  intro k hk c bd
  have hctr := back_ctr_at W c (h c) k
  show _ ⊢ wp _ _ _ (main_while1_cond (F := F)) _
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip backCond backI W k c) main_v56_6 HostLoop.idx0)
        (HloOp.result _ (atTrip backCond backI W k c) main_while1c_c_28 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  show _ ⊢ held _ _ (after backCond _)
  rw [after_cons, after_cons, after_nil]

variable (m : (ℓ : Loc nD τ sig) → Buf (Elt F) ℓ) (ρ : Dev nD → PrngReg)

/-- Where the first loop is entered, where the second is, and the end. -/
abbrev E₁ (c : Dev nD) : Valuation τ sig (Elt F) := afterL preI (launchContents m c)
abbrev X₁ (c : Dev nD) : Valuation τ sig (Elt F) := after scanCond (atTrip scanCond scanI (E₁ m) 2048 c)
abbrev E₂ (c : Dev nD) : Valuation τ sig (Elt F) := afterL midI (X₁ m c)
abbrev X₂ (c : Dev nD) : Valuation τ sig (Elt F) := after backCond (atTrip backCond backI (E₂ m) 2048 c)
abbrev Fin' (c : Dev nD) : Valuation τ sig (Elt F) := afterL postI (X₂ m c)

set_option maxRecDepth 100000 in
/-- From any memory with zero counters every weakly fair execution of the reference ends, each buffer as the fold says. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = Fin' m c (Proc.devRef .tc b)) :=
  RunTwo.run_two (p := scanLoop) (q := backLoop) (defs₀ := defs₀) (loops := loops) (pcs := pcfgs) main
    (fun c => by rw [main_chain]; rfl) preI_plain midI_plain postI_plain ρ
    (scan_spec _ fun c => scan_start _) (back_spec _ fun c => back_start _)

end Cert.ReferenceIdeal

end
-- ==== Proof.RefKeep.lean ====
/- What the reference's stretches write, and so what they leave alone. Its arguments end as they began: its frame. -/
module

public import proofs.«01_k».proof.Proof.RefRun
public import proofs.«01_k».proof.Defs
public import Idealize.ShloMosaic.Adequacy
public import Idealize.ShloMosaic.Init

@[expose] public section

noncomputable section

namespace Cert.ReferenceIdeal

open Idealize.ShloMosaic Idealize.ShloMosaic.TcCoe
open Idealize.SL.Sem
open Idealize.ShloMosaic.StableHlo
open Cert.ReferenceIdeal.Gen

variable {F : FTy → Type} [FloatOps F]

/-! The buffers each part writes, in order; a loop's list begins with its condition's. -/
abbrev preW : List (Ref sig .tc) :=
  [main_v0, main_v1, main_v2, main_v3, main_v4, main_v5, main_v6, main_v7, main_v8, main_v9, main_v10, main_v11, main_cst,
   main_v12, main_cst_0, main_v13, main_cst_1, main_v14, main_cst_2, main_v15, main_cst_3, main_v16, main_c, main_v17_0,
   main_v17_1, main_v17_2, main_v17_3, main_v17_4, main_v17_5, main_v17_6, main_v17_7, main_v17_8, main_v17_9, main_v17_10]
abbrev scanW : List (Ref sig .tc) :=
  [main_while0c_c_26, main_while0c_v77, main_while0b_call0_c, main_while0b_call0_c_0, main_while0b_call0_v0,
   main_while0b_v77, main_while0b_call1_c, main_while0b_call1_c_0, main_while0b_call1_v0, main_while0b_v78, main_while0b_v79,
   main_while0b_v80, main_while0b_v81, main_while0b_v82, main_while0b_v83, main_while0b_v84, main_while0b_v85,
   main_while0b_v86, main_while0b_call2_v0, main_while0b_call2_c, main_while0b_call2_c_0, main_while0b_v87,
   main_while0b_call3_v0, main_while0b_call3_c, main_while0b_call3_c_0, main_while0b_v88, main_while0b_call4_v0,
   main_while0b_call4_c, main_while0b_call4_c_0, main_while0b_v89, main_while0b_call5_v0, main_while0b_call5_c,
   main_while0b_call5_c_0, main_while0b_v90, main_while0b_c_26, main_while0b_v91, main_v17_4, main_v17_5, main_v17_6,
   main_v17_7, main_v17_8, main_v17_9, main_v17_10]
abbrev midW : List (Ref sig .tc) :=
  [main_v18, main_v19, main_v20, main_v21, main_v22, main_v23, main_v24, main_v25, main_v26, main_v27, main_v28, main_cst_4,
   main_v29, main_cst_5, main_v30, main_v31, main_v32, main_v33, main_v34, main_cst_6, main_v35, main_v36, main_cst_7,
   main_v37, main_v38, main_v39, main_v40, main_v41, main_v42, main_v43, main_v44, main_v45, main_v46, main_v47, main_v48,
   main_v49, main_cst_8, main_v50, main_cst_9, main_v51, main_cst_10, main_v52, main_cst_11, main_v53, main_cst_12, main_v54,
   main_cst_13, main_v55, main_c_14, main_v56_0, main_v56_1, main_v56_2, main_v56_3, main_v56_4, main_v56_5, main_v56_6,
   main_v56_7, main_v56_8, main_v56_9, main_v56_10, main_v56_11, main_v56_12]
abbrev backW : List (Ref sig .tc) :=
  [main_while1c_c_28, main_while1c_v77, main_while1b_c_28, main_while1b_v77, main_while1b_c_29, main_while1b_v78,
   main_while1b_call6_c, main_while1b_call6_c_0, main_while1b_call6_v0, main_while1b_v79, main_while1b_call7_c,
   main_while1b_call7_c_0, main_while1b_call7_v0, main_while1b_v80, main_while1b_call8_c, main_while1b_call8_c_0,
   main_while1b_call8_v0, main_while1b_v81, main_while1b_call9_c, main_while1b_call9_c_0, main_while1b_call9_v0,
   main_while1b_v82, main_while1b_v83, main_while1b_v84, main_while1b_v85, main_while1b_v86, main_while1b_v87,
   main_while1b_v88, main_while1b_v89, main_while1b_v90, main_while1b_v91, main_while1b_v92, main_while1b_v93,
   main_while1b_v94, main_while1b_v95, main_while1b_v96, main_while1b_v97, main_while1b_v98, main_while1b_v99,
   main_while1b_call10_v0, main_while1b_call10_c, main_while1b_call10_c_0, main_while1b_v100, main_while1b_call11_v0,
   main_while1b_call11_c, main_while1b_call11_c_0, main_while1b_v101, main_while1b_c_30, main_while1b_v102, main_v56_6,
   main_v56_7, main_v56_8, main_v56_9, main_v56_10, main_v56_11, main_v56_12]
abbrev postW : List (Ref sig .tc) :=
  [main_v57, main_v58, main_v59, main_v60, main_v61, main_v62, main_v63, main_v64, main_v65, main_v66, main_v67, main_v68,
   main_v69, main_v70, main_v71, main_v72, main_v73, main_cst_15, main_v74, main_v75, main_v76]

/-! A buffer a part does not write keeps its contents through it. -/
set_option maxRecDepth 100000 in
theorem pre_keep (V : Valuation τ sig (Elt F)) (r : Ref sig .tc) (h : r ∉ preW) :
    afterL preI V (Proc.devRef .tc r) = V (Proc.devRef .tc r) := by
  rw [afterL_eq_after_flatten]
  exact after_of_writes_sub (preI (F := F)).flatten V (forall_writes_sub_of_map (W := preW) rfl) h

set_option maxRecDepth 100000 in
theorem scan_keep (V : Valuation τ sig (Elt F)) (r : Ref sig .tc) (h : r ∉ scanW) :
    afterL scanI (after scanCond V) (Proc.devRef .tc r) = V (Proc.devRef .tc r) := by
  rw [afterL_eq_after_flatten, ← after_append]
  exact after_of_writes_sub (scanCond ++ (scanI (F := F)).flatten) V (forall_writes_sub_of_map (W := scanW) rfl) h

theorem scan_cond_keep (V : Valuation τ sig (Elt F)) (r : Ref sig .tc) (h : r ∉ scanW) :
    after scanCond V (Proc.devRef .tc r) = V (Proc.devRef .tc r) :=
  after_of_writes_sub scanCond V (forall_writes_sub_of_map (W := scanW.take 2) rfl) fun hr => h (List.mem_of_mem_take hr)

theorem scan_trips_keep (W : Dev nD → Valuation τ sig (Elt F)) (c : Dev nD) (r : Ref sig .tc) (h : r ∉ scanW) :
    ∀ k, atTrip scanCond scanI W k c (Proc.devRef .tc r) = W c (Proc.devRef .tc r)
  | 0 => rfl
  | k + 1 => by rw [atTrip_succ, scan_keep _ r h, scan_trips_keep W c r h k]

set_option maxRecDepth 100000 in
theorem mid_keep (V : Valuation τ sig (Elt F)) (r : Ref sig .tc) (h : r ∉ midW) :
    afterL midI V (Proc.devRef .tc r) = V (Proc.devRef .tc r) := by
  rw [afterL_eq_after_flatten]
  exact after_of_writes_sub (midI (F := F)).flatten V (forall_writes_sub_of_map (W := midW) rfl) h

set_option maxRecDepth 100000 in
theorem back_keep (V : Valuation τ sig (Elt F)) (r : Ref sig .tc) (h : r ∉ backW) :
    afterL backI (after backCond V) (Proc.devRef .tc r) = V (Proc.devRef .tc r) := by
  rw [afterL_eq_after_flatten, ← after_append]
  exact after_of_writes_sub (backCond ++ (backI (F := F)).flatten) V (forall_writes_sub_of_map (W := backW) rfl) h

theorem back_cond_keep (V : Valuation τ sig (Elt F)) (r : Ref sig .tc) (h : r ∉ backW) :
    after backCond V (Proc.devRef .tc r) = V (Proc.devRef .tc r) :=
  after_of_writes_sub backCond V (forall_writes_sub_of_map (W := backW.take 2) rfl) fun hr => h (List.mem_of_mem_take hr)

theorem back_trips_keep (W : Dev nD → Valuation τ sig (Elt F)) (c : Dev nD) (r : Ref sig .tc) (h : r ∉ backW) :
    ∀ k, atTrip backCond backI W k c (Proc.devRef .tc r) = W c (Proc.devRef .tc r)
  | 0 => rfl
  | k + 1 => by rw [atTrip_succ, back_keep _ r h, back_trips_keep W c r h k]

set_option maxRecDepth 100000 in
theorem post_keep (V : Valuation τ sig (Elt F)) (r : Ref sig .tc) (h : r ∉ postW) :
    afterL postI V (Proc.devRef .tc r) = V (Proc.devRef .tc r) := by
  rw [afterL_eq_after_flatten]
  exact after_of_writes_sub (postI (F := F)).flatten V (forall_writes_sub_of_map (W := postW) rfl) h

variable (m : (ℓ : Loc nD τ sig) → Buf (Elt F) ℓ)

/-! The same across each loop, and across the whole program. -/
theorem X₁_keep (c : Dev nD) (r : Ref sig .tc) (h : r ∉ scanW) : X₁ m c (Proc.devRef .tc r) = E₁ m c (Proc.devRef .tc r) :=
  (scan_cond_keep _ r h).trans (scan_trips_keep (E₁ m) c r h 2048)
theorem X₂_keep (c : Dev nD) (r : Ref sig .tc) (h : r ∉ backW) : X₂ m c (Proc.devRef .tc r) = E₂ m c (Proc.devRef .tc r) :=
  (back_cond_keep _ r h).trans (back_trips_keep (E₂ m) c r h 2048)

theorem untouched (c : Dev nD) (r : Ref sig .tc) (h : r ∉ preW ∧ r ∉ scanW ∧ r ∉ midW ∧ r ∉ backW ∧ r ∉ postW) :
    Fin' m c (Proc.devRef .tc r) = m ((c.tc : Thread nD τ).loc r) :=
  (post_keep _ r h.2.2.2.2).trans <| (X₂_keep m c r h.2.2.2.1).trans <| (mid_keep _ r h.2.2.1).trans <|
    (X₁_keep m c r h.2.1).trans (pre_keep _ r h.1)

/-- What the run says of one memory at its end: the arguments as they were. -/
def ArgsKept (m' : (ℓ : Loc nD τ sig) → Buf (Elt F) ℓ) : Prop :=
  ∀ c : Dev nD, m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
    ∧ m' ((c.tc : Thread nD τ).loc main_arg8) = m ((c.tc : Thread nD τ).loc main_arg8)

set_option maxRecDepth 100000 in
theorem args_kept {m' : (ℓ : Loc nD τ sig) → Buf (Elt F) ℓ} (h : ∀ (c : Dev nD) (b : Ref sig .tc),
    (Proc.devRef .tc b : DevRef τ sig).isScoped = false → m' ((c.tc : Thread nD τ).loc b) = Fin' m c (Proc.devRef .tc b)) :
    ArgsKept m m' := fun c =>
  ⟨(h c main_arg0 rfl).trans (untouched m c main_arg0 (by decide +kernel)),
    (h c main_arg1 rfl).trans (untouched m c main_arg1 (by decide +kernel)),
    (h c main_arg2 rfl).trans (untouched m c main_arg2 (by decide +kernel)),
    (h c main_arg3 rfl).trans (untouched m c main_arg3 (by decide +kernel)),
    (h c main_arg4 rfl).trans (untouched m c main_arg4 (by decide +kernel)),
    (h c main_arg5 rfl).trans (untouched m c main_arg5 (by decide +kernel)),
    (h c main_arg6 rfl).trans (untouched m c main_arg6 (by decide +kernel)),
    (h c main_arg7 rfl).trans (untouched m c main_arg7 (by decide +kernel)),
    (h c main_arg8 rfl).trans (untouched m c main_arg8 (by decide +kernel))⟩

/-- The reference's frame: it ends, its arguments unchanged and its counters at zero. -/
theorem frame_reference : Cert.quiescent_ReferenceIdeal := fun m ρ _ =>
  (θ_run defs _ _).mono (fun r h => ⟨args_kept m h, Idealize.ShloMosaic.sem_eq_zero_of_no_sems (by decide) r.2⟩) (run_fold m ρ)

end Cert.ReferenceIdeal

end
-- ==== Proof.Cx.lean ====
/-
  The arithmetic of the S5 scan, apart from any program.

  The kernel keeps a complex array as two arrays of extended reals, its real and its imaginary part. `IsC R I Z` says
  the two hold the complex array `Z` (and so are finite); sums, differences and the complex product of such pairs are
  the pairs of the complex results. `st a b` is the recurrence `x ↦ b t + a x` run from 0, `stepF`/`stepB` are the doubling
  steps by which the kernel runs eight trips of it at once, downwards for the forward scan and upwards for the backward
  one, and `groupF`/`groupB` say that three steps and one product with the carry are those eight trips.
-/
module

public import Idealize.ShloMosaic.Lib.ValueIdx
public import Mathlib.Analysis.Complex.Basic

@[expose] public section

open Idealize.ShloMosaic Idealize.ShloMosaic.ValueIdx

namespace S5

variable {ι : Type}

/-- The pair of extended real arrays `R`, `I` holds the complex array `Z`. -/
def IsC (R I : ι → EReal) (Z : ι → ℂ) : Prop := ∀ j, R j = ((Z j).re : EReal) ∧ I j = ((Z j).im : EReal)

/-- The doubling step of the kernels, `b + p s` written with real and imaginary parts. -/
theorem IsC.step {br bi pr pi sr si xr xi : ι → EReal} {B P Q : ι → ℂ} (hb : IsC br bi B) (hp : IsC pr pi P) (hs : IsC sr si Q)
    (hr : ∀ j, xr j = br j + pr j * sr j - pi j * si j) (hi : ∀ j, xi j = bi j + pr j * si j + pi j * sr j) :
    IsC xr xi (fun j => B j + P j * Q j) := by
  intro j
  rw [hr, hi, (hb j).1, (hb j).2, (hp j).1, (hp j).2, (hs j).1, (hs j).2, Complex.add_re, Complex.add_im, Complex.mul_re, Complex.mul_im]
  simp only [← EReal.coe_mul, ← EReal.coe_add, ← EReal.coe_sub, EReal.coe_eq_coe_iff]
  exact ⟨by ring, by ring⟩

/-- The product of two pairs, as the kernels build the powers of `a`. -/
theorem IsC.mul {pr pi sr si xr xi : ι → EReal} {P Q : ι → ℂ} (hp : IsC pr pi P) (hs : IsC sr si Q)
    (hr : ∀ j, xr j = pr j * sr j - pi j * si j) (hi : ∀ j, xi j = pr j * si j + pi j * sr j) :
    IsC xr xi (fun j => P j * Q j) := by
  intro j
  rw [hr, hi, (hp j).1, (hp j).2, (hs j).1, (hs j).2, Complex.mul_re, Complex.mul_im]
  norm_cast

theorem IsC.congr {R I : ι → EReal} {Z Z' : ι → ℂ} (h : IsC R I Z) (e : ∀ j, Z j = Z' j) : IsC R I Z' :=
  fun j => by rw [← e j]; exact h j

theorem IsC.re {R I : ι → EReal} {Z : ι → ℂ} (h : IsC R I Z) (j : ι) : R j = ((Z j).re : EReal) := (h j).1
theorem IsC.im {R I : ι → EReal} {Z : ι → ℂ} (h : IsC R I Z) (j : ι) : I j = ((Z j).im : EReal) := (h j).2

theorem re_congr {z w : ℂ} (h : z = w) : ((z.re : ℝ) : EReal) = ((w.re : ℝ) : EReal) := by rw [h]
theorem im_congr {z w : ℂ} (h : z = w) : ((z.im : ℝ) : EReal) = ((w.im : ℝ) : EReal) := by rw [h]

/-- A sum of finite numbers is finite. -/
theorem coe_sum {κ : Type} (s : Finset κ) (f : κ → ℝ) : (∑ k ∈ s, (f k : EReal)) = ((∑ k ∈ s, f k : ℝ) : EReal) := by
  classical
  induction s using Finset.induction_on with
  | empty => rfl
  | insert k s hk ih => rw [Finset.sum_insert hk, Finset.sum_insert hk, EReal.coe_add, ih]

/-- A sum of products of finite numbers is finite. -/
theorem coe_sum_mul {κ : Type} [Fintype κ] (f g : κ → ℝ) :
    (∑ k, (f k : EReal) * (g k : EReal)) = ((∑ k, f k * g k : ℝ) : EReal) := by
  rw [← coe_sum]
  exact Finset.sum_congr rfl fun k _ => (EReal.coe_mul _ _).symm

/-- The recurrence from 0: the value before trip `t`. -/
noncomputable def st (a : ℂ) (b : ℕ → ℂ) : ℕ → ℂ
  | 0 => 0
  | t + 1 => b t + a * st a b t

theorem st_succ (a : ℂ) (b : ℕ → ℂ) (t : ℕ) : st a b (t + 1) = b t + a * st a b t := rfl

/-- Half-run memory: row `t` holds its state where it is below `n`, and the input where it is not yet reached. -/
noncomputable def held (a : ℂ) (b : ℕ → ℂ) (n t : ℕ) : ℂ := if t < n then st a b (t + 1) else b t

theorem held_lt {a : ℂ} {b : ℕ → ℂ} {n t : ℕ} (h : t < n) : held a b n t = st a b (t + 1) := if_pos h
theorem held_ge {a : ℂ} {b : ℕ → ℂ} {n t : ℕ} (h : n ≤ t) : held a b n t = b t := if_neg (by omega)

/-- Rows moved down by `s`, zero above. -/
def down (s : ℕ) (f : Fin 8 → ℂ) (r : Fin 8) : ℂ := if h : s ≤ r.val then f ⟨r.val - s, by omega⟩ else 0

/-- Rows moved up by `s`, zero below. -/
def up (s : ℕ) (f : Fin 8 → ℂ) (r : Fin 8) : ℂ := if h : r.val + s < 8 then f ⟨r.val + s, h⟩ else 0

/-- One doubling step of the forward scan. -/
noncomputable def stepF (p : ℂ) (s : ℕ) (f : Fin 8 → ℂ) (r : Fin 8) : ℂ := f r + p * down s f r

/-- One doubling step of the backward scan. -/
noncomputable def stepB (p : ℂ) (s : ℕ) (f : Fin 8 → ℂ) (r : Fin 8) : ℂ := f r + p * up s f r

/-- Three doubling steps and the carry are eight trips of the recurrence. -/
theorem groupF (a : ℂ) (b : ℕ → ℂ) (t : ℕ) (r : Fin 8) :
    stepF (a ^ 4) 4 (stepF (a ^ 2) 2 (stepF a 1 fun r => b (t + r.val))) r + a ^ (r.val + 1) * st a b t = st a b (t + r.val + 1) := by
  fin_cases r <;> simp [stepF, down, st_succ, ← Nat.add_assoc] <;> ring

/-- The same from the last row to the first: row `r` is trip `7 - r`. -/
theorem groupB (a : ℂ) (b : ℕ → ℂ) (t : ℕ) (r : Fin 8) :
    stepB (a ^ 4) 4 (stepB (a ^ 2) 2 (stepB a 1 fun r => b (t + (7 - r.val)))) r + a ^ (8 - r.val) * st a b t
      = st a b (t + (8 - r.val)) := by
  fin_cases r <;> simp [stepB, up, st_succ, ← Nat.add_assoc] <;> ring

end S5

end
-- ==== Proof.Rows.lean ====
/-
  Groups of eight rows, as the kernels' vector operations move them: a rotation with a mask is a shift that lets zeros
  in, a row spread over the eight rows is that row everywhere.
-/
module

public import proofs.«01_k».proof.Proof.Gen.KernelIdeal
public import proofs.«01_k».proof.Proof.Cx
public import Idealize.ShloMosaic.Lib.KernelVsHost
public import Idealize.ShloMosaic.Lib.Pipeline.Value

@[expose] public section

open Idealize.ShloMosaic Idealize.ShloMosaic.ValueIdx

namespace S5

open Cert.KernelIdeal Cert.KernelIdeal.Facts₀

/-- The row number, as the kernels compute it. -/
abbrev rid : IVec S8x512 32 := iota .tc S8x512 32 [0] iota_S8x512_d0_w32

theorem zero_word : (Scalar.ofBits (F := Ideal) .f32 0x00000000#32 : EReal) = 0 := by
  show Ideal.ofBits .f32 0x00000000#32 = 0
  simp [Ideal.ofBits, Ideal.ieee]

theorem rid_apply (r : Fin 8) (q : Fin 512) : rid (ix2 r q) = BitVec.ofNat 32 r.val := by
  show BitVec.ofNat 32 (0 * 8 + r.val) = _
  rw [Nat.zero_mul, Nat.zero_add]

theorem sel_ge (s : ℕ) (hs : s < 8) (r : Fin 8) {α : Type} (x y : α) :
    Scalar.select (IntOp.cmpi .sge (BitVec.ofNat 32 r.val) (BitVec.ofNat 32 s)) x y = if s ≤ r.val then x else y := by
  have : IntOp.cmpi .sge (BitVec.ofNat 32 r.val) (BitVec.ofNat 32 s) = if s ≤ r.val then 1#1 else 0#1 := by
    interval_cases s <;> fin_cases r <;> rfl
  rw [this]; split <;> rfl

theorem sel_lt (s : ℕ) (hs : s < 8) (r : Fin 8) {α : Type} (x y : α) :
    Scalar.select (IntOp.cmpi .slt (BitVec.ofNat 32 r.val) (BitVec.ofNat 32 s)) x y = if r.val < s then x else y := by
  have : IntOp.cmpi .slt (BitVec.ofNat 32 r.val) (BitVec.ofNat 32 s) = if r.val < s then 1#1 else 0#1 := by
    interval_cases s <;> fin_cases r <;> rfl
  rw [this]; split <;> rfl

theorem sel_eq (s : ℕ) (hs : s < 8) (r : Fin 8) {α : Type} (x y : α) :
    Scalar.select (IntOp.cmpi .eq (BitVec.ofNat 32 r.val) (BitVec.ofNat 32 s)) x y = if r.val = s then x else y := by
  have : IntOp.cmpi .eq (BitVec.ofNat 32 r.val) (BitVec.ofNat 32 s) = if r.val = s then 1#1 else 0#1 := by
    interval_cases s <;> fin_cases r <;> rfl
  rw [this]; split <;> rfl

theorem rotate_apply (s : ℕ) (hs : s < 8) (x : S8x512.Idx → EReal) (r : Fin 8) (q : Fin 512) :
    dynamicRotate 0 (BitVec.ofNat 32 s) none x rotates_S8x512_d0 (ix2 r q)
      = x (ix2 ⟨(r.val + 8 - s) % 8, Nat.mod_lt _ (by decide)⟩ q) := by
  refine dynamicRotate_apply 0 _ x _ _ _ (Fin.forall_fin_two.mpr ⟨?_, rfl⟩)
  rw [if_pos rfl]
  show (r.val + 8 - s) % 8 = (r.val + 8 - (BitVec.ofNat 32 s).toNat % 8) % 8
  rw [BitVec.toNat_ofNat, Nat.mod_eq_of_lt (by omega : s < 2 ^ 32), Nat.mod_eq_of_lt hs]

/-- A masked rotation by `s`: the rows move down, zeros come in above. -/
theorem down_apply (s : ℕ) (hs : s < 8) (x : S8x512.Idx → EReal) (r : Fin 8) (q : Fin 512) :
    select (cmpi .sge rid (broadcast S8x512 (BitVec.ofNat 32 s))) (dynamicRotate 0 (BitVec.ofNat 32 s) none x rotates_S8x512_d0)
      (broadcast S8x512 (Scalar.ofBits (F := Ideal) .f32 0x00000000#32)) (ix2 r q)
      = if h : s ≤ r.val then x (ix2 ⟨r.val - s, by omega⟩ q) else 0 := by
  rw [select_apply, rotate_apply s hs, broadcast_apply, zero_word]
  show Scalar.select (IntOp.cmpi .sge (rid (ix2 r q)) (BitVec.ofNat 32 s)) _ _ = _
  rw [rid_apply, sel_ge s hs]
  by_cases h : s ≤ r.val
  · rw [if_pos h, dif_pos h]
    congr 2
    exact Fin.ext (by show (r.val + 8 - s) % 8 = r.val - s; omega)
  · rw [if_neg h, dif_neg h]

/-- A masked rotation by `8 - s`: the rows move up, zeros come in below. -/
theorem up_apply (s : ℕ) (h0 : 0 < s) (hs : s < 8) (x : S8x512.Idx → EReal) (y : EReal) (r : Fin 8) (q : Fin 512) :
    Scalar.select (IntOp.cmpi .slt (rid (ix2 r q)) (BitVec.ofNat 32 (8 - s)))
      (dynamicRotate 0 (BitVec.ofNat 32 (8 - s)) none x rotates_S8x512_d0 (ix2 r q)) y
      = if h : r.val + s < 8 then x (ix2 ⟨r.val + s, h⟩ q) else y := by
  rw [rotate_apply (8 - s) (by omega), rid_apply, sel_lt (8 - s) (by omega)]
  by_cases h : r.val + s < 8
  · rw [if_pos (by omega), dif_pos h]
    congr 2
    exact Fin.ext (by show (r.val + 8 - (8 - s)) % 8 = r.val + s; omega)
  · rw [if_neg (by omega), dif_neg h]

/-- Column `q` of a group of eight rows. -/
abbrev col (Z : S8x512.Idx → ℂ) (q : Fin 512) (r : Fin 8) : ℂ := Z (ix2 r q)

/-- The rows moved down, of a complex pair. -/
theorem IsC.down {R I : S8x512.Idx → EReal} {Z : S8x512.Idx → ℂ} (h : IsC R I Z) (s : ℕ) (hs : s < 8) :
    IsC (select (cmpi .sge rid (broadcast S8x512 (BitVec.ofNat 32 s))) (dynamicRotate 0 (BitVec.ofNat 32 s) none R rotates_S8x512_d0)
        (broadcast S8x512 (Scalar.ofBits (F := Ideal) .f32 0x00000000#32)))
      (select (cmpi .sge rid (broadcast S8x512 (BitVec.ofNat 32 s))) (dynamicRotate 0 (BitVec.ofNat 32 s) none I rotates_S8x512_d0)
        (broadcast S8x512 (Scalar.ofBits (F := Ideal) .f32 0x00000000#32)))
      (fun j => S5.down s (col Z (j 1)) (j 0)) := by
  intro j
  obtain ⟨r, q, rfl⟩ : ∃ r q, j = ix2 r q := ⟨j 0, j 1, eq_ix2 j⟩
  rw [down_apply s hs, down_apply s hs]
  show _ = (((S5.down s (col Z q) r).re : ℝ) : EReal) ∧ _ = (((S5.down s (col Z q) r).im : ℝ) : EReal)
  unfold S5.down
  by_cases hr : s ≤ r.val
  · rw [dif_pos hr, dif_pos hr, dif_pos hr]; exact h _
  · rw [dif_neg hr, dif_neg hr, dif_neg hr]; exact ⟨rfl, rfl⟩

/-- The rows moved up, of a complex pair. -/
theorem IsC.up {R I : S8x512.Idx → EReal} {Z : S8x512.Idx → ℂ} (h : IsC R I Z) (s : ℕ) (h0 : 0 < s) (hs : s < 8) :
    IsC (select (cmpi .slt rid (broadcast S8x512 (BitVec.ofNat 32 (8 - s)))) (dynamicRotate 0 (BitVec.ofNat 32 (8 - s)) none R rotates_S8x512_d0)
        (broadcast S8x512 (Scalar.ofBits (F := Ideal) .f32 0x00000000#32)))
      (select (cmpi .slt rid (broadcast S8x512 (BitVec.ofNat 32 (8 - s)))) (dynamicRotate 0 (BitVec.ofNat 32 (8 - s)) none I rotates_S8x512_d0)
        (broadcast S8x512 (Scalar.ofBits (F := Ideal) .f32 0x00000000#32)))
      (fun j => S5.up s (col Z (j 1)) (j 0)) := by
  intro j
  obtain ⟨r, q, rfl⟩ : ∃ r q, j = ix2 r q := ⟨j 0, j 1, eq_ix2 j⟩
  rw [select_apply, select_apply, broadcast_apply, zero_word]
  show Scalar.select (IntOp.cmpi .slt (rid (ix2 r q)) (BitVec.ofNat 32 (8 - s))) _ _ = (((S5.up s (col Z q) r).re : ℝ) : EReal)
    ∧ Scalar.select (IntOp.cmpi .slt (rid (ix2 r q)) (BitVec.ofNat 32 (8 - s))) _ _ = (((S5.up s (col Z q) r).im : ℝ) : EReal)
  rw [up_apply s h0 hs, up_apply s h0 hs]
  unfold S5.up
  by_cases hr : r.val + s < 8
  · rw [dif_pos hr, dif_pos hr, dif_pos hr]; exact h _
  · rw [dif_neg hr, dif_neg hr, dif_neg hr]; exact ⟨rfl, rfl⟩

theorem spread_apply (x : S1x512.Idx → EReal) (j : S8x512.Idx) :
    broadcastTo S8x512 x broadcasts_S1x512_S8x512 j = x (ix2 0 (j 1)) :=
  broadcastTo_apply x _ j _ (Fin.forall_fin_two.mpr ⟨rfl, rfl⟩)

/-- One row spread over the eight, of a complex pair. -/
theorem IsC.spread {R I : S1x512.Idx → EReal} {Z : S1x512.Idx → ℂ} (h : IsC R I Z) :
    IsC (broadcastTo S8x512 R broadcasts_S1x512_S8x512) (broadcastTo S8x512 I broadcasts_S1x512_S8x512)
      (fun j => Z (ix2 0 (j 1))) :=
  fun j => by rw [spread_apply, spread_apply]; exact h _

/-- A table of eight rows, put together row by row with masks. -/
noncomputable def tab (x : Fin 8 → S1x512.Idx → EReal) : S8x512.Idx → EReal :=
  let w (s : ℕ) (hs : s < 8) (prev : S8x512.Idx → EReal) : S8x512.Idx → EReal :=
    select (cmpi .eq rid (broadcast S8x512 (BitVec.ofNat 32 s)))
      (broadcastTo S8x512 (shapeCast S1x512 (x ⟨s, hs⟩) shapeCasts_S1x512_S1x512) broadcasts_S1x512_S8x512) prev
  w 7 (by decide) (w 6 (by decide) (w 5 (by decide) (w 4 (by decide) (w 3 (by decide) (w 2 (by decide) (w 1 (by decide)
    (w 0 (by decide) (broadcast S8x512 (Scalar.ofBits (F := Ideal) .f32 0x00000000#32)))))))))

theorem tab_apply (x : Fin 8 → S1x512.Idx → EReal) (r : Fin 8) (q : Fin 512) : tab x (ix2 r q) = x r (ix2 0 q) := by
  have hw (s : ℕ) (hs : s < 8) (prev : S8x512.Idx → EReal) :
      select (cmpi .eq rid (broadcast S8x512 (BitVec.ofNat 32 s)))
        (broadcastTo S8x512 (shapeCast S1x512 (x ⟨s, hs⟩) shapeCasts_S1x512_S1x512) broadcasts_S1x512_S8x512) prev (ix2 r q)
        = if r.val = s then x ⟨s, hs⟩ (ix2 0 q) else prev (ix2 r q) := by
    rw [shapeCast_self, select_apply, spread_apply]
    show Scalar.select (IntOp.cmpi .eq (rid (ix2 r q)) (BitVec.ofNat 32 s)) _ _ = _
    rw [rid_apply, sel_eq s hs]
  unfold tab
  simp only [hw]
  fin_cases r <;> rfl

/-- Row `r` of the table is row `r`'s power. -/
theorem IsC.tab {x y : Fin 8 → S1x512.Idx → EReal} {A : S1x512.Idx → ℂ} {e : Fin 8 → ℕ}
    (h : ∀ r, IsC (x r) (y r) (fun j => A j ^ e r)) :
    IsC (S5.tab x) (S5.tab y) (fun j => A (ix2 0 (j 1)) ^ e (j 0)) := by
  intro j
  obtain ⟨r, q, rfl⟩ : ∃ r q, j = ix2 r q := ⟨j 0, j 1, eq_ix2 j⟩
  rw [tab_apply, tab_apply]
  exact h r _

/-- The next power, from the last one. -/
theorem IsC.next {pr pi ar ai xr xi : S1x512.Idx → EReal} {A : S1x512.Idx → ℂ} {n : ℕ} (hp : IsC pr pi (fun j => A j ^ n))
    (ha : IsC ar ai A) (hr : ∀ j, xr j = pr j * ar j - pi j * ai j) (hi : ∀ j, xi j = pr j * ai j + pi j * ar j) :
    IsC xr xi (fun j => A j ^ (n + 1)) :=
  (hp.mul ha hr hi).congr fun j => (pow_succ _ _).symm

end S5

end
-- ==== Proof.BwdTrip.lean ====
/-
  One trip of the backward scan's loop: eight rows of the cotangent recurrence, from the last row to the first.

  The loop keeps the cotangent of the state after its eight rows as its carry, and beside it the eight partial sums of the
  gradient of `a`. The trip loads eight rows of the input, runs the three doubling steps over the powers of the conjugate of `a`,
  adds the carry times the table of `a^(8-r)`, stores the eight rows back, adds the conjugate states times the rows
  one further on to the partial sums, and yields the first row.
-/
module

public import proofs.«01_k».proof.Proof.Gen.KernelIdeal.Frame
public import proofs.«01_k».proof.Proof.Rows
public import Idealize.ShloMosaic.Lib.WritesUnit
public import Idealize.ShloMosaic.Lib.Tactic

@[expose] public section

noncomputable section

open Idealize.ShloMosaic Idealize.ShloMosaic.TcCoe Idealize.SL.Sem Idealize.ShloMosaic.ValueIdx

namespace S5.Bwd

open Cert.KernelIdeal Cert.KernelIdeal.Gen Cert.KernelIdeal.Facts₀

section Group

variable {v264 : Vec Ideal S1x512 .f32} {v267 v270 v273 v282 v285 : FVec Ideal S1x512 .f32}
  {v387 v392 : FVec Ideal S8x512 .f32} {cr ci : FVec Ideal S1x512 .f32} {gr gi : FVec Ideal S8x512 .f32} {v606 v608 xr xi : Vec Ideal S8x512 .f32}
  {lr li : FVec Ideal S8x512 .f32} {A C : S1x512.Idx → ℂ} {B X G L : S8x512.Idx → ℂ}

/-- The first doubling step, by `a`. -/
theorem step1 (h1 : IsC v264 v267 A) (hb : IsC v606 v608 B) :
    IsC (k1_pay3 v264 v267 rid v606 v608) (k1_pay4 v264 v267 rid v606 v608)
      (fun j => stepB (A (ix2 0 (j 1))) 1 (col B (j 1)) (j 0)) := by
  refine (hb.step h1.spread (hb.up 1 (by decide) (by decide)) (fun _ => rfl) (fun _ => rfl)).congr fun j => ?_
  conv_lhs => rw [eq_ix2 j]
  rw [eq_ix2 j]; rfl

/-- The second, by `a²`. -/
theorem step2 (h1 : IsC v264 v267 A) (h2 : IsC v270 v273 (fun j => A j ^ 2)) (hb : IsC v606 v608 B) :
    IsC (k1_pay9 (k1_pay6 v264 v267 rid v606 v608) (k1_pay7 v264 v267 v270 rid v606 v608) (k1_pay8 v273))
      (k1_pay10 v270 v273 (k1_pay4 v264 v267 rid v606 v608) (k1_pay5 v264 v267 rid v606 v608) (k1_pay6 v264 v267 rid v606 v608))
      (fun j => stepB (A (ix2 0 (j 1)) ^ 2) 2 (stepB (A (ix2 0 (j 1))) 1 (col B (j 1))) (j 0)) :=
  ((step1 h1 hb).step h2.spread ((step1 h1 hb).up 2 (by decide) (by decide)) (fun _ => rfl) (fun _ => rfl)).congr fun _ => rfl

/-- The third, by `a⁴`, and the carry. -/
theorem step3 (h1 : IsC v264 v267 A) (h2 : IsC v270 v273 (fun j => A j ^ 2)) (h4 : IsC v282 v285 (fun j => A j ^ 4))
    (ht : IsC v387 v392 (fun j => A (ix2 0 (j 1)) ^ (8 - (j 0).val))) (hc : IsC cr ci C) (hb : IsC v606 v608 B) :
    IsC (k1_pay13 v270 v273 v282 v285 rid v387 v392 cr ci (k1_pay4 v264 v267 rid v606 v608) (k1_pay5 v264 v267 rid v606 v608) (k1_pay6 v264 v267 rid v606 v608) (k1_pay7 v264 v267 v270 rid v606 v608) (k1_pay8 v273))
      (k1_pay14 v270 v273 v282 v285 rid v387 v392 cr ci (k1_pay4 v264 v267 rid v606 v608) (k1_pay5 v264 v267 rid v606 v608) (k1_pay6 v264 v267 rid v606 v608) (k1_pay7 v264 v267 v270 rid v606 v608) (k1_pay8 v273))
      (fun j => stepB (A (ix2 0 (j 1)) ^ 4) 4 (stepB (A (ix2 0 (j 1)) ^ 2) 2 (stepB (A (ix2 0 (j 1))) 1 (col B (j 1)))) (j 0)
        + A (ix2 0 (j 1)) ^ (8 - (j 0).val) * C (ix2 0 (j 1))) :=
  (((step2 h1 h2 hb).step h4.spread ((step2 h1 h2 hb).up 4 (by decide) (by decide)) (fun _ => rfl) (fun _ => rfl)).step ht hc.spread
    (fun _ => rfl) (fun _ => rfl)).congr fun _ => rfl

/-- The rows one further on: the last of them is the carry. -/
theorem next (hl : IsC lr li L) (hc : IsC cr ci C) :
    IsC (k1_pay79 rid cr lr) (k1_pay80 rid ci li)
      (fun j => if h : (j 0).val + 1 < 8 then L (ix2 ⟨(j 0).val + 1, h⟩ (j 1)) else C (ix2 0 (j 1))) := by
  intro j
  obtain ⟨r, q, rfl⟩ : ∃ r q, j = ix2 r q := ⟨j 0, j 1, eq_ix2 j⟩
  have e (x : S8x512.Idx → EReal) (y : S1x512.Idx → EReal) :
      select (cmpi .slt rid (broadcast S8x512 7#32)) (dynamicRotate 0 7#32 none x Facts₀.rotates_S8x512_d0)
        (broadcastTo S8x512 (shapeCast S1x512 y Facts₀.shapeCasts_S1x512_S1x512) Facts₀.broadcasts_S1x512_S8x512) (ix2 r q)
        = if h : r.val + 1 < 8 then x (ix2 ⟨r.val + 1, h⟩ q) else y (ix2 0 q) := by
    rw [shapeCast_self, select_apply, spread_apply]
    exact up_apply 1 (by decide) (by decide) x _ r q
  refine ⟨(e lr cr).trans ?_, (e li ci).trans ?_⟩
  · show _ = (((if h : r.val + 1 < 8 then L (ix2 ⟨r.val + 1, h⟩ q) else C (ix2 0 q)).re : ℝ) : EReal)
    by_cases h : r.val + 1 < 8
    · rw [dif_pos h, dif_pos h]; exact (hl _).1
    · rw [dif_neg h, dif_neg h]; exact (hc _).1
  · show _ = (((if h : r.val + 1 < 8 then L (ix2 ⟨r.val + 1, h⟩ q) else C (ix2 0 q)).im : ℝ) : EReal)
    by_cases h : r.val + 1 < 8
    · rw [dif_pos h, dif_pos h]; exact (hl _).2
    · rw [dif_neg h, dif_neg h]; exact (hc _).2

/-- The partial sums of the gradient of `a`, with one more trip in. -/
theorem sums (hg : IsC gr gi G) (hx : IsC xr xi X) (hl : IsC lr li L) (hc : IsC cr ci C) :
    IsC (k1_pay85 rid cr ci gr lr li xr xi) (k1_pay86 rid cr ci gi lr li xr xi)
      (fun j => G j + (starRingEnd ℂ) (X j) * (if h : (j 0).val + 1 < 8 then L (ix2 ⟨(j 0).val + 1, h⟩ (j 1)) else C (ix2 0 (j 1)))) := by
  have hn := next hl hc
  have e1 : k1_pay81 xr = xr := shapeCast_self xr _
  have e2 : k1_pay82 xi = xi := shapeCast_self xi _
  intro j
  have er : k1_pay85 rid cr ci gr lr li xr xi j = gr j + k1_pay81 xr j * k1_pay79 rid cr lr j + k1_pay82 xi j * k1_pay80 rid ci li j := rfl
  have ei : k1_pay86 rid cr ci gi lr li xr xi j = gi j + k1_pay81 xr j * k1_pay80 rid ci li j - k1_pay82 xi j * k1_pay79 rid cr lr j := rfl
  rw [er, ei, e1, e2, (hg j).1, (hg j).2, (hx j).1, (hx j).2, (hn j).1, (hn j).2, Complex.add_re, Complex.add_im, Complex.mul_re, Complex.mul_im,
    Complex.conj_re, Complex.conj_im]
  simp only [← EReal.coe_mul, ← EReal.coe_add, ← EReal.coe_sub, EReal.coe_eq_coe_iff]
  exact ⟨by ring, by ring⟩

end Group

section Powers

variable {ar ai : Vec Ideal S1x512 .f32} {A : S1x512.Idx → ℂ}

/-- The conjugate of `a`. -/
theorem pow1 (h : IsC ar ai A) : IsC ar (k1_pay60 ai) (fun j => (starRingEnd ℂ) (A j)) := by
  intro j
  have e : k1_pay60 ai j = 0 - ai j := congrArg (· - ai j) zero_word
  rw [e, (h j).1, (h j).2, zero_sub, ← EReal.coe_neg, Complex.conj_re, Complex.conj_im]
  exact ⟨rfl, rfl⟩

theorem pow2 (h : IsC ar (k1_pay60 ai) A) : IsC (k1_pay61 ar ai) (k1_pay62 ar ai) (fun j => A j ^ 2) :=
  IsC.next (n := 1) (h.congr fun j => (pow_one _).symm) h (fun _ => rfl) (fun _ => rfl)

theorem pow3 (h : IsC ar (k1_pay60 ai) A) : IsC (k1_pay63 ar ai) (k1_pay64 ar ai) (fun j => A j ^ 3) :=
  (pow2 h).next h (fun _ => rfl) (fun _ => rfl)

theorem pow4 (h : IsC ar (k1_pay60 ai) A) : IsC (k1_pay65 ar ai) (k1_pay66 ar ai) (fun j => A j ^ 4) :=
  (pow3 h).next h (fun _ => rfl) (fun _ => rfl)

theorem pow5 (h : IsC ar (k1_pay60 ai) A) : IsC (k1_pay67 ar ai) (k1_pay68 ar ai) (fun j => A j ^ 5) :=
  (pow4 h).next h (fun _ => rfl) (fun _ => rfl)

theorem pow6 (h : IsC ar (k1_pay60 ai) A) : IsC (k1_pay69 ar ai) (k1_pay70 ar ai) (fun j => A j ^ 6) :=
  (pow5 h).next h (fun _ => rfl) (fun _ => rfl)

theorem pow7 (h : IsC ar (k1_pay60 ai) A) :
    IsC (k1_pay71 ar (k1_pay60 ai) (k1_pay69 ar ai) (k1_pay70 ar ai)) (k1_pay72 ar (k1_pay60 ai) (k1_pay69 ar ai) (k1_pay70 ar ai)) (fun j => A j ^ 7) :=
  (pow6 h).next h (fun _ => rfl) (fun _ => rfl)

/-- The eighth power, built inside the table. -/
def a8r (ar ai : FVec Ideal S1x512 .f32) : FVec Ideal S1x512 .f32 :=
  subf (mulf (k1_pay71 ar (k1_pay60 ai) (k1_pay69 ar ai) (k1_pay70 ar ai)) ar) (mulf (k1_pay72 ar (k1_pay60 ai) (k1_pay69 ar ai) (k1_pay70 ar ai)) (k1_pay60 ai))

def a8i (ar ai : FVec Ideal S1x512 .f32) : FVec Ideal S1x512 .f32 :=
  addf (mulf (k1_pay71 ar (k1_pay60 ai) (k1_pay69 ar ai) (k1_pay70 ar ai)) (k1_pay60 ai)) (mulf (k1_pay72 ar (k1_pay60 ai) (k1_pay69 ar ai) (k1_pay70 ar ai)) ar)

theorem pow8 (h : IsC ar (k1_pay60 ai) A) : IsC (a8r ar ai) (a8i ar ai) (fun j => A j ^ 8) :=
  (pow7 h).next h (fun _ => rfl) (fun _ => rfl)

/-- The table of `a^(8-r)`, as the loop's parameters hold it. -/
theorem table (h : IsC ar (k1_pay60 ai) A) :
    IsC (k1_pay75 ar (k1_pay61 ar ai) (k1_pay63 ar ai) (k1_pay65 ar ai) rid (k1_pay74 ar (k1_pay60 ai) (k1_pay67 ar ai) (k1_pay69 ar ai) (k1_pay70 ar ai)))
      (k1_pay76 (k1_pay60 ai) (k1_pay62 ar ai) (k1_pay64 ar ai) (k1_pay66 ar ai) (k1_pay68 ar ai) rid (k1_pay73 ar (k1_pay60 ai) (k1_pay69 ar ai) (k1_pay70 ar ai)) 3#32)
      (fun j => A (ix2 0 (j 1)) ^ (8 - (j 0).val)) := by
  refine IsC.tab (A := A) (e := fun r => 8 - r.val)
    (x := ![a8r ar ai, k1_pay71 ar (k1_pay60 ai) (k1_pay69 ar ai) (k1_pay70 ar ai), k1_pay69 ar ai, k1_pay67 ar ai, k1_pay65 ar ai, k1_pay63 ar ai, k1_pay61 ar ai, ar])
    (y := ![a8i ar ai, k1_pay72 ar (k1_pay60 ai) (k1_pay69 ar ai) (k1_pay70 ar ai), k1_pay70 ar ai, k1_pay68 ar ai, k1_pay66 ar ai, k1_pay64 ar ai, k1_pay62 ar ai, k1_pay60 ai]) fun r => ?_
  fin_cases r
  · exact pow8 h
  · exact pow7 h
  · exact pow6 h
  · exact pow5 h
  · exact pow4 h
  · exact pow3 h
  · exact pow2 h
  · exact h.congr fun j => (pow_one _).symm

end Powers

section Loop

/-- The eight rows of trip `k`. -/
abbrev rect (k : Fin k1_t1_loop.trips) : Rect S2048x512 := Rect.unit (s := S2048x512) (k1_off1 k) S8x512.size (Gen.k1_off1_inb k)

/-- Those rows of a buffer. -/
abbrev rowsOf (m : Memref sig .tc .vmem S2048x512 .f32) (k : Fin k1_t1_loop.trips) (f : BufTy.Contents (Elt Ideal) m.view.ty) :
    Vec Ideal S8x512 .f32 := View.readAt (Elt Ideal) m.view (rect k).toLoadRect f

theorem trips_lt (k : Fin k1_t1_loop.trips) : k.val < 256 := Nat.lt_of_lt_of_le k.isLt k1_t1_abs.2.1

theorem rowsOf_apply (m : Memref sig .tc .vmem S2048x512 .f32) (k : Fin k1_t1_loop.trips) (f : BufTy.Contents (Elt Ideal) m.view.ty)
    (r : Fin 8) (q : Fin 512) :
    rowsOf m k f (ix2 r q) = m.view.read (Elt Ideal) f (ix2 ⟨2040 - 8 * k.val + r.val, by omega⟩ q) := by
  unfold rowsOf
  rw [View.readAt_apply]
  congr 1
  have e := k1_off1_eq k
  funext a
  apply Fin.ext
  rw [LoadRect.idx_apply]
  match a with
  | ⟨0, _⟩ => show k1_off1 k 0 + 1 * r.val = 2040 - 8 * k.val + r.val; rw [e]; show (2040 - 8 * k.val) + 1 * r.val = _; omega
  | ⟨1, _⟩ => show k1_off1 k 1 + 1 * q.val = q.val; rw [e]; show 0 + 1 * q.val = _; omega

variable (c : Dev nD) (bd : Option Variants.none.V) (i : grid1.Coords)
  (arg1 : Memref sig .tc .vmem S2048x128 .f32) (harg1 : arg1.IsWhole) (arg2 : Memref sig .tc .vmem S2048x128 .f32) (harg2 : arg2.IsWhole) (arg3 : Memref sig .tc .vmem S2048x512 .f32) (harg3 : arg3.IsWhole)
  (arg4 : Memref sig .tc .vmem S2048x512 .f32) (harg4 : arg4.IsWhole) (arg5 : Memref sig .tc .vmem S512x128 .f32) (harg5 : arg5.IsWhole) (arg6 : Memref sig .tc .vmem S512x128 .f32) (harg6 : arg6.IsWhole)
  (arg7 : Memref sig .tc .vmem S512x128 .f32) (harg7 : arg7.IsWhole) (arg8 : Memref sig .tc .vmem S512x128 .f32) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x128 .f32) (harg11 : arg11.IsWhole) (arg12 : Memref sig .tc .vmem S2048x128 .bf16) (harg12 : arg12.IsWhole)
  (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
  (arg16 : Memref sig .tc .vmem S512x128 .f32) (harg16 : arg16.IsWhole) (arg17 : Memref sig .tc .vmem S1x512 .f32) (harg17 : arg17.IsWhole) (arg18 : Memref sig .tc .vmem S1x512 .f32) (harg18 : arg18.IsWhole)
  (arg19 : Memref sig .tc .vmem S1x128 .f32) (harg19 : arg19.IsWhole) (arg20 : Memref sig .tc .vmem S2048x512 .f32) (harg20 : arg20.IsWhole) (arg21 : Memref sig .tc .vmem S2048x512 .f32) (harg21 : arg21.IsWhole)
  (v264 : Vec Ideal S1x512 .f32) (v267 v270 v273 v282 v285 : FVec Ideal S1x512 .f32)
  (v387 v392 : FVec Ideal S8x512 .f32) (v393 : FVec Ideal S1x512 .f32) (v394 : FVec Ideal S8x512 .f32) (c0 : BitVec 32)
  (X3 : BufTy.Contents (Elt Ideal) arg3.view.ty) (X4 : BufTy.Contents (Elt Ideal) arg4.view.ty)
  {A : S1x512.Idx → ℂ}

/-- What a trip carries: the cotangent of the state and the partial sums. -/
abbrev Carry := FVec Ideal S1x512 .f32 × FVec Ideal S1x512 .f32 × FVec Ideal S8x512 .f32 × FVec Ideal S8x512 .f32

/-- The eight rows a trip computes. -/
abbrev rowsR (k : Fin k1_t1_loop.trips) (acc : Carry) (f : BufTy.Contents (Elt Ideal) arg20.view.ty) (g : BufTy.Contents (Elt Ideal) arg21.view.ty) :
    FVec Ideal S8x512 .f32 :=
  k1_pay13 v270 v273 v282 v285 rid v387 v392 acc.1 acc.2.1 (k1_pay4 v264 v267 rid (rowsOf arg20 k f) (rowsOf arg21 k g)) (k1_pay5 v264 v267 rid (rowsOf arg20 k f) (rowsOf arg21 k g)) (k1_pay6 v264 v267 rid (rowsOf arg20 k f) (rowsOf arg21 k g)) (k1_pay7 v264 v267 v270 rid (rowsOf arg20 k f) (rowsOf arg21 k g)) (k1_pay8 v273)

abbrev rowsI (k : Fin k1_t1_loop.trips) (acc : Carry) (f : BufTy.Contents (Elt Ideal) arg20.view.ty) (g : BufTy.Contents (Elt Ideal) arg21.view.ty) :
    FVec Ideal S8x512 .f32 :=
  k1_pay14 v270 v273 v282 v285 rid v387 v392 acc.1 acc.2.1 (k1_pay4 v264 v267 rid (rowsOf arg20 k f) (rowsOf arg21 k g)) (k1_pay5 v264 v267 rid (rowsOf arg20 k f) (rowsOf arg21 k g)) (k1_pay6 v264 v267 rid (rowsOf arg20 k f) (rowsOf arg21 k g)) (k1_pay7 v264 v267 v270 rid (rowsOf arg20 k f) (rowsOf arg21 k g)) (k1_pay8 v273)

theorem tripL_eq (k : Fin k1_t1_loop.trips) (acc : Carry) (f : BufTy.Contents (Elt Ideal) arg20.view.ty) (g : BufTy.Contents (Elt Ideal) arg21.view.ty) :
    tripL_k1_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v264 v267 v270 v273 v282 v285 rid v387 v392 v393 v394 c0 X3 X4 k acc f g
      = ([⟨rect k, rowsR arg20 arg21 v264 v267 v270 v273 v282 v285 v387 v392 k acc f g⟩],
        [⟨rect k, rowsI arg20 arg21 v264 v267 v270 v273 v282 v285 v387 v392 k acc f g⟩]) := by
  rw [← shapeCast_self (rowsR arg20 arg21 v264 v267 v270 v273 v282 v285 v387 v392 k acc f g) Facts₀.shapeCasts_S8x512_S8x512,
    ← shapeCast_self (rowsI arg20 arg21 v264 v267 v270 v273 v282 v285 v387 v392 k acc f g) Facts₀.shapeCasts_S8x512_S8x512]
  unfold tripL_k1_t1 trip_k1_t1
  rfl

theorem tripR_eq (k : Fin k1_t1_loop.trips) (acc : Carry) (f : BufTy.Contents (Elt Ideal) arg20.view.ty) (g : BufTy.Contents (Elt Ideal) arg21.view.ty) :
    tripR_k1_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v264 v267 v270 v273 v282 v285 rid v387 v392 v393 v394 c0 X3 X4 k acc f g
      = (k1_pay83 (rowsR arg20 arg21 v264 v267 v270 v273 v282 v285 v387 v392 k acc f g), k1_pay84 (rowsI arg20 arg21 v264 v267 v270 v273 v282 v285 v387 v392 k acc f g),
        k1_pay85 rid acc.1 acc.2.1 acc.2.2.1 (rowsR arg20 arg21 v264 v267 v270 v273 v282 v285 v387 v392 k acc f g) (rowsI arg20 arg21 v264 v267 v270 v273 v282 v285 v387 v392 k acc f g)
          (rowsOf arg3 k X3) (rowsOf arg4 k X4),
        k1_pay86 rid acc.1 acc.2.1 acc.2.2.2 (rowsR arg20 arg21 v264 v267 v270 v273 v282 v285 v387 v392 k acc f g) (rowsI arg20 arg21 v264 v267 v270 v273 v282 v285 v387 v392 k acc f g)
          (rowsOf arg3 k X3) (rowsOf arg4 k X4)) := by
  unfold tripR_k1_t1 trip_k1_t1
  rfl

variable {v264 v267 v270 v273 v282 v285 v387 v392}

/-- The gradient of `a` of one column, as partial sums over the rows `r` of the groups of eight: the conjugate states `x` times
    the cotangents `s`. -/
def part (x s : ℕ → ℂ) (k r : ℕ) : ℂ := ∑ i ∈ Finset.range k, (starRingEnd ℂ) (x (2040 - 8 * i + r)) * s (8 * i + (7 - r))

theorem row0 (Z : S8x512.Idx → EReal) (q : Fin 512) (h : S8x512.Slices ![0, 0] S1x512) :
    extractStridedSlice S1x512 ![0, 0] Z h (ix2 0 q) = Z (ix2 0 q) := by
  refine congrArg Z ?_
  funext a; apply Fin.ext
  match a with
  | ⟨0, _⟩ => rfl
  | ⟨1, _⟩ => show 0 + q.val = q.val; omega

/-- What the loop holds before trip `k`: the last `8 k` rows are cotangents, the others still the input, and the carry is
    the cotangent after them. -/
theorem loop_inv (h1 : IsC v264 v267 A) (h2 : IsC v270 v273 (fun j => A j ^ 2)) (h4 : IsC v282 v285 (fun j => A j ^ 4))
    (ht : IsC v387 v392 (fun j => A (ix2 0 (j 1)) ^ (8 - (j 0).val)))
    (G20 : BufTy.Contents (Elt Ideal) arg20.view.ty) (G21 : BufTy.Contents (Elt Ideal) arg21.view.ty) (b x : Fin 512 → ℕ → ℂ)
    (hG : IsC (arg20.view.read (Elt Ideal) G20) (arg21.view.read (Elt Ideal) G21) (fun y : S2048x512.Idx => b (y 1) (2047 - (y 0).val)))
    (hX : IsC (arg3.view.read (Elt Ideal) X3) (arg4.view.read (Elt Ideal) X4) (fun y : S2048x512.Idx => x (y 1) (y 0).val))
    (k : ℕ) (hk : k ≤ k1_t1_loop.trips) :
    IsC (st_k1_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v264 v267 v270 v273 v282 v285 rid v387 v392 v393 v394 c0 X3 X4 G20 G21 (k1_pay77, k1_pay77, k1_pay78, k1_pay78) k).1.1 (st_k1_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v264 v267 v270 v273 v282 v285 rid v387 v392 v393 v394 c0 X3 X4 G20 G21 (k1_pay77, k1_pay77, k1_pay78, k1_pay78) k).1.2.1
        (fun j => st (A j) (b (j 1)) (8 * k))
      ∧ IsC (st_k1_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v264 v267 v270 v273 v282 v285 rid v387 v392 v393 v394 c0 X3 X4 G20 G21 (k1_pay77, k1_pay77, k1_pay78, k1_pay78) k).1.2.2.1 (st_k1_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v264 v267 v270 v273 v282 v285 rid v387 v392 v393 v394 c0 X3 X4 G20 G21 (k1_pay77, k1_pay77, k1_pay78, k1_pay78) k).1.2.2.2
        (fun j => part (x (j 1)) (st (A (ix2 0 (j 1))) (b (j 1))) k (j 0).val)
      ∧ IsC (arg20.view.read (Elt Ideal) (arg20.view.writes (Elt Ideal) G20 (st_k1_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v264 v267 v270 v273 v282 v285 rid v387 v392 v393 v394 c0 X3 X4 G20 G21 (k1_pay77, k1_pay77, k1_pay78, k1_pay78) k).2.1))
          (arg21.view.read (Elt Ideal) (arg21.view.writes (Elt Ideal) G21 (st_k1_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v264 v267 v270 v273 v282 v285 rid v387 v392 v393 v394 c0 X3 X4 G20 G21 (k1_pay77, k1_pay77, k1_pay78, k1_pay78) k).2.2))
          (fun y : S2048x512.Idx => held (A (ix2 0 (y 1))) (b (y 1)) (8 * k) (2047 - (y 0).val)) := by
  induction k with
  | zero =>
    rw [st_k1_t1_zero]
    refine ⟨fun j => ⟨zero_word, zero_word⟩, fun j => ⟨zero_word, zero_word⟩, fun y => ?_⟩
    have e : held (A (ix2 0 (y 1))) (b (y 1)) (8 * 0) (2047 - (y 0).val) = b (y 1) (2047 - (y 0).val) := held_ge (Nat.zero_le _)
    exact ⟨(hG y).1.trans (re_congr e.symm), (hG y).2.trans (im_congr e.symm)⟩
  | succ k ih =>
    obtain ⟨hc, hp, hm⟩ := ih (Nat.le_of_succ_le hk)
    have hk8 : k < 256 := trips_lt ⟨k, hk⟩
    have hb : IsC (rowsOf arg20 ⟨k, hk⟩ (arg20.view.writes (Elt Ideal) G20 (st_k1_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v264 v267 v270 v273 v282 v285 rid v387 v392 v393 v394 c0 X3 X4 G20 G21 (k1_pay77, k1_pay77, k1_pay78, k1_pay78) k).2.1))
        (rowsOf arg21 ⟨k, hk⟩ (arg21.view.writes (Elt Ideal) G21 (st_k1_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v264 v267 v270 v273 v282 v285 rid v387 v392 v393 v394 c0 X3 X4 G20 G21 (k1_pay77, k1_pay77, k1_pay78, k1_pay78) k).2.2))
        (fun j => b (j 1) (8 * k + (7 - (j 0).val))) := by
      intro j
      obtain ⟨r, q, rfl⟩ : ∃ r q, j = ix2 r q := ⟨j 0, j 1, eq_ix2 j⟩
      rw [rowsOf_apply, rowsOf_apply]
      have := hm (ix2 ⟨2040 - 8 * k + r.val, by omega⟩ q)
      have e : held (A (ix2 0 q)) (b q) (8 * k) (2047 - (2040 - 8 * k + r.val)) = b q (8 * k + (7 - r.val)) :=
        (held_ge (by omega)).trans (congrArg _ (by omega))
      exact ⟨this.1.trans (re_congr e), this.2.trans (im_congr e)⟩
    have hx : IsC (rowsOf arg3 ⟨k, hk⟩ X3) (rowsOf arg4 ⟨k, hk⟩ X4) (fun j => x (j 1) (2040 - 8 * k + (j 0).val)) := by
      intro j
      obtain ⟨r, q, rfl⟩ : ∃ r q, j = ix2 r q := ⟨j 0, j 1, eq_ix2 j⟩
      rw [rowsOf_apply, rowsOf_apply]
      exact hX _
    have hg := (step3 h1 h2 h4 ht hc hb).congr (Z' := fun j => st (A (ix2 0 (j 1))) (b (j 1)) (8 * k + (8 - (j 0).val)))
      fun j => groupB (A (ix2 0 (j 1))) (b (j 1)) (8 * k) (j 0)
    have hs := sums hp hx hg hc
    rw [st_k1_t1_succ (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v264 v267 v270 v273 v282 v285 rid v387 v392 v393 v394 c0 X3 X4 G20 G21 (k1_pay77, k1_pay77, k1_pay78, k1_pay78) ⟨k, hk⟩,
      tripL_eq, tripR_eq]
    refine ⟨fun j => ?_, hs.congr fun j => ?_, fun y => ?_⟩
    · obtain ⟨q, rfl⟩ : ∃ q, j = ix2 0 q := ⟨j 1, (eq_ix2 j).trans (congrArg (fun z : Fin 1 => ix2 z (j 1)) (Subsingleton.elim (α := Fin 1) _ _))⟩
      have := hg (ix2 0 q)
      exact ⟨(row0 _ q Facts₀.slices_S8x512_o0_0_S1x512).trans this.1, (row0 _ q Facts₀.slices_S8x512_o0_0_S1x512).trans this.2⟩
    · obtain ⟨r, q, rfl⟩ : ∃ r q, j = ix2 r q := ⟨j 0, j 1, eq_ix2 j⟩
      refine (congrArg₂ (· + ·) rfl (congrArg₂ (· * ·) rfl ?_)).trans (Finset.sum_range_succ _ k).symm
      show (if h : r.val + 1 < 8 then st (A (ix2 0 q)) (b q) (8 * k + (8 - (r.val + 1))) else st (A (ix2 0 q)) (b q) (8 * k)) = st (A (ix2 0 q)) (b q) (8 * k + (7 - r.val))
      by_cases h : r.val + 1 < 8
      · rw [dif_pos h]; exact congrArg _ (by omega)
      · rw [dif_neg h]; exact congrArg _ (by omega)
    · show arg20.view.read (Elt Ideal) (arg20.view.writes (Elt Ideal) G20 (_ :: _)) y = _ ∧
        arg21.view.read (Elt Ideal) (arg21.view.writes (Elt Ideal) G21 (_ :: _)) y = _
      obtain ⟨t, q, rfl⟩ : ∃ t q, y = ix2 t q := ⟨y 0, y 1, eq_ix2 y⟩
      by_cases hin : 2040 - 8 * k ≤ t.val ∧ t.val < 2040 - 8 * k + 8
      · have := hg (ix2 ⟨t.val - (2040 - 8 * k), by omega⟩ q)
        have e : held (A (ix2 0 q)) (b q) (8 * (k + 1)) (2047 - t.val) = st (A (ix2 0 q)) (b q) (8 * k + (8 - (t.val - (2040 - 8 * k)))) := by
          rw [held_lt (by omega)]
          congr 1
          omega
        refine ⟨(View.read_writes_cons_rows_of_mem arg20.view G20 _ _ _ (ix2 t q) (ix2 (⟨t.val - (2040 - 8 * k), by omega⟩ : Fin 8) q) (k1_off1_eq ⟨k, hk⟩)
            (by show t.val = (2040 - 8 * k) + (t.val - (2040 - 8 * k)); omega) rfl).trans (this.1.trans (re_congr e.symm)),
          (View.read_writes_cons_rows_of_mem arg21.view G21 _ _ _ (ix2 t q) (ix2 (⟨t.val - (2040 - 8 * k), by omega⟩ : Fin 8) q) (k1_off1_eq ⟨k, hk⟩)
            (by show t.val = (2040 - 8 * k) + (t.val - (2040 - 8 * k)); omega) rfl).trans (this.2.trans (im_congr e.symm))⟩
      · have := hm (ix2 t q)
        have e : held (A (ix2 0 q)) (b q) (8 * (k + 1)) (2047 - t.val) = held (A (ix2 0 q)) (b q) (8 * k) (2047 - t.val) := by
          by_cases hlt : 2047 - t.val < 8 * k
          · rw [held_lt hlt, held_lt (by omega)]
          · rw [held_ge (by omega), held_ge (by omega)]
        refine ⟨(View.read_writes_cons_rows_of_not_mem (W := 8) arg20.view G20 _ _ _ (ix2 t q) (k1_off1_eq ⟨k, hk⟩) rfl
            (by show t.val < 2040 - 8 * k ∨ 2040 - 8 * k + 8 ≤ t.val; omega)).trans (this.1.trans (re_congr e.symm)),
          (View.read_writes_cons_rows_of_not_mem (W := 8) arg21.view G21 _ _ _ (ix2 t q) (k1_off1_eq ⟨k, hk⟩) rfl
            (by show t.val < 2040 - 8 * k ∨ 2040 - 8 * k + 8 ≤ t.val; omega)).trans (this.2.trans (im_congr e.symm))⟩

end Loop

end S5.Bwd

end

end
-- ==== Proof.Dots.lean ====
/-
  The kernels' products and block loads, read at an index.
-/
module

public import proofs.«01_k».proof.Proof.Rows
public import Idealize.ShloMosaic.Lib.MatmulPlain
public import Idealize.ShloMosaic.Lib.VecWindow

@[expose] public section

open Idealize.ShloMosaic Idealize.ShloMosaic.ValueIdx

namespace S5

open Cert.KernelIdeal Cert.KernelIdeal.Facts₀

theorem zero_const {S : Shape} (j : S.Idx) : (constant (F := Ideal) S .f32 0x00000000#32 : S.Idx → EReal) j = 0 := zero_word

/-- `x wᵀ`: rows of `x` against rows of `w`. -/
noncomputable abbrev dotNT (x : S256x128.Idx → EReal) (w : S512x128.Idx → EReal) : S256x512.Idx → EReal :=
  matmul (F := Ideal) (φ₁ := .bf16) (φ₂ := .bf16) dot_S256x128_S512x128_S256x512_1_1_0_0_n_n none x w (constant S256x512 .f32 0x00000000#32)

/-- `x w`. -/
noncomputable abbrev dotNN (x : S256x512.Idx → EReal) (w : S512x128.Idx → EReal) : S256x128.Idx → EReal :=
  matmul (F := Ideal) (φ₁ := .bf16) (φ₂ := .bf16) dot_S256x512_S512x128_S256x128_1_0_0_1_n_n none x w (constant S256x128 .f32 0x00000000#32)

/-- `xᵀ w`. -/
noncomputable abbrev dotTN (x : S256x512.Idx → EReal) (w : S256x128.Idx → EReal) : S512x128.Idx → EReal :=
  matmul (F := Ideal) (φ₁ := .bf16) (φ₂ := .bf16) dot_S256x512_S256x128_S512x128_0_0_1_1_n_n none x w (constant S512x128 .f32 0x00000000#32)

theorem dotNT_apply (x : S256x128.Idx → EReal) (w : S512x128.Idx → EReal) (r : Fin 256) (q : Fin 512) :
    dotNT x w (ix2 r q) = ∑ c : Fin 128, x (ix2 r c) * w (ix2 q c) :=
  (Ideal.matmul_transposedRhs_apply (M := 256) (K := 128) (N := 512) (φ₁ := .bf16) (φ₂ := .bf16) none x w _ r q).trans
    (by rw [zero_const, zero_add])

theorem dotNN_apply (x : S256x512.Idx → EReal) (w : S512x128.Idx → EReal) (r : Fin 256) (q : Fin 128) :
    dotNN x w (ix2 r q) = ∑ p : Fin 512, x (ix2 r p) * w (ix2 p q) :=
  (Ideal.matmul_plain_apply (M := 256) (K := 512) (N := 128) (φ₁ := .bf16) (φ₂ := .bf16) none x w _ r q).trans
    (by rw [zero_const, zero_add])

theorem dotTN_apply (x : S256x512.Idx → EReal) (w : S256x128.Idx → EReal) (p : Fin 512) (q : Fin 128) :
    dotTN x w (ix2 p q) = ∑ r : Fin 256, x (ix2 r p) * w (ix2 r q) := by
  refine (Ideal.matmul_apply _ _ _ _ _ _).trans ?_
  rw [zero_const, zero_add, ← Equiv.sum_comp (contrEquiv1 dot_S256x512_S256x128_S512x128_0_0_1_1_n_n 256 rfl rfl).symm]
  refine Finset.sum_congr rfl fun k _ => ?_
  have hk := contrEquiv1_symm_val dot_S256x512_S256x128_S512x128_0_0_1_1_n_n 256 rfl rfl k
  congr 2
  · funext a; apply Fin.ext
    match a with
    | ⟨0, _⟩ => exact hk
    | ⟨1, _⟩ => rfl
  · funext a; apply Fin.ext
    match a with
    | ⟨0, _⟩ => exact hk
    | ⟨1, _⟩ => rfl

/-- A block of 256 rows from row `o` lies in the 2048. -/
theorem blk (N o : ℕ) (ho : o + 256 ≤ 2048) (a : Fin 2) :
    (![o, 0] : Fin 2 → ℕ) a + (![256, N] : Fin 2 → ℕ) a ≤ (⟨2, ![2048, N]⟩ : Shape).size a := by
  match a with
  | ⟨0, _⟩ => exact ho
  | ⟨1, _⟩ => exact (Nat.zero_add N).le

/-- Row `r` of a block of 256 rows from row `o`. -/
theorem rows_idx {N o : ℕ} (inb : ∀ a, (![o, 0] : Fin 2 → ℕ) a + (![256, N] : Fin 2 → ℕ) a ≤ (⟨2, ![2048, N]⟩ : Shape).size a)
    (r : Fin 256) (q : Fin N) :
    (Rect.unit (s := ⟨2, ![2048, N]⟩) ![o, 0] ![256, N] inb).toLoadRect.idx (ix2 r q)
      = ix2 ⟨o + r.val, by have : o + 256 ≤ 2048 := inb 0; omega⟩ q := by
  funext a; apply Fin.ext
  rw [LoadRect.idx_apply]
  match a with
  | ⟨0, _⟩ => show o + 1 * r.val = o + r.val; omega
  | ⟨1, _⟩ => show 0 + 1 * q.val = q.val; omega

section Load

variable {N o : ℕ} (m : Memref sig .tc .vmem ⟨2, ![2048, N]⟩ .f32)
  (inb : ∀ a, (![o, 0] : Fin 2 → ℕ) a + (![256, N] : Fin 2 → ℕ) a ≤ (⟨2, ![2048, N]⟩ : Shape).size a)

/-- A load of 256 rows of an array. -/
theorem load_rows (hm : m.IsWhole) (x : Vec Ideal ⟨2, ![2048, N]⟩ .f32) (r : Fin 256) (q : Fin N) :
    View.readAt (Elt Ideal) m.view (Rect.unit (s := ⟨2, ![2048, N]⟩) ![o, 0] ![256, N] inb).toLoadRect (hm.unread x) (ix2 r q)
      = x (ix2 ⟨o + r.val, by have : o + 256 ≤ 2048 := inb 0; omega⟩ q) := by
  rw [View.readAt_apply, hm.read_unread, rows_idx]

/-- A load of 256 rows of what stores have left. -/
theorem load_rows_cov (L : List (View.Piece (Elt Ideal) ⟨2, ![2048, N]⟩ .f32)) (r : Fin 256) (q : Fin N) :
    m.view.readCov L (Rect.unit (s := ⟨2, ![2048, N]⟩) ![o, 0] ![256, N] inb).toLoadRect (ix2 r q)
      = View.canon L (ix2 ⟨o + r.val, by have : o + 256 ≤ 2048 := inb 0; omega⟩ q) := by
  rw [View.readCov_eq_canon']
  exact congrArg _ (rows_idx inb r q)

end Load

/-- A load of a whole array. -/
theorem load_all {s : Shape} (m : Memref sig .tc .vmem s .f32) (hm : m.IsWhole) (x : Vec Ideal s .f32) {off : Fin s.rank → ℕ}
    (inb : ∀ a, off a + s.size a ≤ s.size a) :
    View.readAt (Elt Ideal) m.view (Rect.unit off s.size inb).toLoadRect (hm.unread x) = x := by
  rw [View.readAt_full, hm.read_unread]

end S5

end
-- ==== Proof.Blocks.lean ====
/-
  Sums over 2048 rows, taken in eight blocks of 256 as the backward kernel takes them, and the kernel's column sums.
-/
module

public import proofs.«01_k».proof.Proof.Dots

@[expose] public section

open Idealize.ShloMosaic Idealize.ShloMosaic.ValueIdx

namespace S5

open Cert.KernelIdeal Cert.KernelIdeal.Facts₀

/-- The part of a sum over 2048 rows that the 256 rows from row `o` give. -/
def seg {M : Type} [AddCommMonoid M] (f : Fin 2048 → M) (o : ℕ) (ho : o + 256 ≤ 2048) : M := ∑ r : Fin 256, f ⟨o + r.val, by omega⟩

theorem seg_sum {M : Type} [AddCommMonoid M] (f : Fin 2048 → M) :
    seg f 0 (by decide) + seg f 256 (by decide) + seg f 512 (by decide) + seg f 768 (by decide) + seg f 1024 (by decide)
      + seg f 1280 (by decide) + seg f 1536 (by decide) + seg f 1792 (by decide) = ∑ t, f t := by
  have h := (Equiv.sum_comp (finProdFinEquiv (m := 8) (n := 256)) f).symm
  rw [Fintype.sum_prod_type, Fin.sum_univ_eight] at h
  refine Eq.trans ?_ h.symm
  unfold seg
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact Finset.sum_congr rfl fun r _ => congrArg f (Fin.ext (Nat.add_comm _ _))

/-- Subtracting the eight parts one by one from zero subtracts the sum, where all terms are real. -/
theorem seg_sub (f : Fin 2048 → ℝ) :
    (0 : EReal) - seg (fun t => (f t : EReal)) 0 (by decide) - seg (fun t => (f t : EReal)) 256 (by decide) - seg (fun t => (f t : EReal)) 512 (by decide)
      - seg (fun t => (f t : EReal)) 768 (by decide) - seg (fun t => (f t : EReal)) 1024 (by decide) - seg (fun t => (f t : EReal)) 1280 (by decide)
      - seg (fun t => (f t : EReal)) 1536 (by decide) - seg (fun t => (f t : EReal)) 1792 (by decide) = ((-∑ t, f t : ℝ) : EReal) := by
  have e : ∀ o ho, seg (fun t => (f t : EReal)) o ho = ((seg f o ho : ℝ) : EReal) := fun o ho => coe_sum _ _
  simp only [e]
  rw [← seg_sum f]
  norm_cast
  ring

/-- The sum down each column of 256 rows, as a row. -/
theorem colSum_apply (v : S256x128.Idx → EReal) (q : Fin 128) :
    shapeCast S1x128 (multiReduction (F := Ideal) (φ := .f32) .add [0] S128 v 0x00000000#32 reduces_S256x128_S128 (.inl rfl) rfl) shapeCasts_S128_S1x128 (ix2 0 q)
      = ∑ r : Fin 256, v (ix2 r q) := by
  rw [shapeCast_apply _ _ _ (ix1 q) (by rw [Shape.rowMajor_val_two, Shape.rowMajor_val_one]; show q.val = 0 * 128 + q.val; omega)]
  refine (Ideal.multiReduction_add_single _ _ _ _ _ _).trans ?_
  exact Finset.sum_congr rfl fun r _ => congrArg v (by funext a; match a with | ⟨0, _⟩ => rfl | ⟨1, _⟩ => rfl)

/-- The sum down each column of 8 rows, as a row. -/
theorem colSum8_apply (v : S8x512.Idx → EReal) (q : Fin 512) :
    shapeCast S1x512 (multiReduction (F := Ideal) (φ := .f32) .add [0] S512 v 0x00000000#32 reduces_S8x512_S512 (.inl rfl) rfl) shapeCasts_S512_S1x512 (ix2 0 q)
      = ∑ r : Fin 8, v (ix2 r q) := by
  rw [shapeCast_apply _ _ _ (ix1 q) (by rw [Shape.rowMajor_val_two, Shape.rowMajor_val_one]; show q.val = 0 * 512 + q.val; omega)]
  refine (Ideal.multiReduction_add_single _ _ _ _ _ _).trans ?_
  exact Finset.sum_congr rfl fun r _ => congrArg v (by funext a; match a with | ⟨0, _⟩ => rfl | ⟨1, _⟩ => rfl)

section Load

variable {N : ℕ}

/-- 256 rows from row `o` of an array. -/
noncomputable abbrev ld (m : Memref sig .tc .vmem ⟨2, ![2048, N]⟩ .f32) (hm : m.IsWhole) (x : Vec Ideal ⟨2, ![2048, N]⟩ .f32) (o : ℕ) (ho : o + 256 ≤ 2048) :
    Vec Ideal ⟨2, ![256, N]⟩ .f32 :=
  View.readAt (Elt Ideal) m.view (Rect.unit (s := ⟨2, ![2048, N]⟩) ![o, 0] ![256, N] (blk N o ho)).toLoadRect (hm.unread x)

/-- 256 rows from row `o` of what stores have left. -/
noncomputable abbrev lc (m : Memref sig .tc .vmem ⟨2, ![2048, N]⟩ .f32) (L : List (View.Piece (Elt Ideal) ⟨2, ![2048, N]⟩ .f32)) (o : ℕ) (ho : o + 256 ≤ 2048) :
    Vec Ideal ⟨2, ![256, N]⟩ .f32 :=
  m.view.readCov L (Rect.unit (s := ⟨2, ![2048, N]⟩) ![o, 0] ![256, N] (blk N o ho)).toLoadRect

variable (o : ℕ) (ho : o + 256 ≤ 2048)

theorem tn_ld (m : Memref sig .tc .vmem S2048x512 .f32) (hm : m.IsWhole) (x : Vec Ideal S2048x512 .f32)
    (n : Memref sig .tc .vmem S2048x128 .f32) (hn : n.IsWhole) (w : Vec Ideal S2048x128 .f32) (p : Fin 512) (q : Fin 128) :
    dotTN (ld m hm x o ho) (ld n hn w o ho) (ix2 p q) = seg (fun t => x (ix2 t p) * w (ix2 t q)) o ho :=
  (dotTN_apply _ _ p q).trans (Finset.sum_congr rfl fun r _ => congrArg₂ (· * ·) (load_rows m (blk 512 o ho) hm x r p) (load_rows n (blk 128 o ho) hn w r q))

theorem tn_lc (m : Memref sig .tc .vmem S2048x512 .f32) (L : List (View.Piece (Elt Ideal) S2048x512 .f32))
    (n : Memref sig .tc .vmem S2048x128 .f32) (hn : n.IsWhole) (w : Vec Ideal S2048x128 .f32) (p : Fin 512) (q : Fin 128) :
    dotTN (lc m L o ho) (ld n hn w o ho) (ix2 p q) = seg (fun t => View.canon L (ix2 t p) * w (ix2 t q)) o ho :=
  (dotTN_apply _ _ p q).trans (Finset.sum_congr rfl fun r _ => congrArg₂ (· * ·) (load_rows_cov m (blk 512 o ho) L r p) (load_rows n (blk 128 o ho) hn w r q))

theorem col_ld (m : Memref sig .tc .vmem S2048x128 .f32) (hm : m.IsWhole) (x : Vec Ideal S2048x128 .f32)
    (n : Memref sig .tc .vmem S2048x128 .f32) (hn : n.IsWhole) (w : Vec Ideal S2048x128 .f32) (q : Fin 128) :
    shapeCast S1x128 (multiReduction (F := Ideal) (φ := .f32) .add [0] S128 (mulf (ld m hm x o ho) (ld n hn w o ho)) 0x00000000#32 reduces_S256x128_S128 (.inl rfl) rfl) shapeCasts_S128_S1x128 (ix2 0 q)
      = seg (fun t => x (ix2 t q) * w (ix2 t q)) o ho :=
  (colSum_apply _ q).trans (Finset.sum_congr rfl fun r _ => congrArg₂ (· * ·) (load_rows m (blk 128 o ho) hm x r q) (load_rows n (blk 128 o ho) hn w r q))

end Load

end S5

end
-- ==== Proof.BwdStores.lean ====
/-
  The backward kernel's stores at one grid point, written out: the input of the cotangent recurrence, what its loop leaves of it,
  and the stores of the eight outputs.
-/
module

public import proofs.«01_k».proof.Proof.BwdTrip
public import proofs.«01_k».proof.Proof.Blocks
public import Idealize.ShloMosaic.Lib.Pipeline.ReadBack

@[expose] public section

set_option maxRecDepth 16384

noncomputable section

open Idealize.ShloMosaic Idealize.ShloMosaic.TcCoe Idealize.ShloMosaic.Tactic Idealize.SL.Sem Idealize.ShloMosaic.ValueIdx

namespace S5.Bwd

open Cert.KernelIdeal Cert.KernelIdeal.Gen Cert.KernelIdeal.Facts₀

section

variable (c : Dev nD) (i : grid1.Coords)
  (arg1 : Memref sig .tc .vmem S2048x128 .f32) (harg1 : arg1.IsWhole) (arg2 : Memref sig .tc .vmem S2048x128 .f32) (harg2 : arg2.IsWhole) (arg3 : Memref sig .tc .vmem S2048x512 .f32) (harg3 : arg3.IsWhole)
  (arg4 : Memref sig .tc .vmem S2048x512 .f32) (harg4 : arg4.IsWhole) (arg5 : Memref sig .tc .vmem S512x128 .f32) (harg5 : arg5.IsWhole) (arg6 : Memref sig .tc .vmem S512x128 .f32) (harg6 : arg6.IsWhole)
  (arg7 : Memref sig .tc .vmem S512x128 .f32) (harg7 : arg7.IsWhole) (arg8 : Memref sig .tc .vmem S512x128 .f32) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x128 .f32) (harg11 : arg11.IsWhole) (arg12 : Memref sig .tc .vmem S2048x128 .bf16) (harg12 : arg12.IsWhole)
  (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
  (arg16 : Memref sig .tc .vmem S512x128 .f32) (harg16 : arg16.IsWhole) (arg17 : Memref sig .tc .vmem S1x512 .f32) (harg17 : arg17.IsWhole) (arg18 : Memref sig .tc .vmem S1x512 .f32) (harg18 : arg18.IsWhole)
  (arg19 : Memref sig .tc .vmem S1x128 .f32) (harg19 : arg19.IsWhole) (arg20 : Memref sig .tc .vmem S2048x512 .f32) (harg20 : arg20.IsWhole) (arg21 : Memref sig .tc .vmem S2048x512 .f32) (harg21 : arg21.IsWhole)
  (x0 x1 : Vec Ideal S2048x128 .f32) (x2 x3 : Vec Ideal S2048x512 .f32) (x4 x5 x6 x7 : Vec Ideal S512x128 .f32) (x8 x9 : Vec Ideal S1x512 .f32) (x10 : Vec Ideal S1x128 .f32)

/-- The input of the recurrence, real part: the cotangent of `y` times `C`. -/
def preR : List (View.Piece (Elt Ideal) S2048x512 .f32) :=
  [
    ⟨Rect.unit (s := S2048x512) ![1792, 0] S256x512.size (blk 512 1792 (by decide)), k1_pay54 (View.readAt (Elt Ideal) arg7.view (Rect.unit (s := S512x128) ![0, 0] S512x128.size Facts₀.inb_S512x128_S512x128_0_0).toLoadRect (harg7.unread x6)) (ld arg1 harg1 x0 1792 (by decide))⟩,
    ⟨Rect.unit (s := S2048x512) ![1536, 0] S256x512.size (blk 512 1536 (by decide)), k1_pay49 (View.readAt (Elt Ideal) arg7.view (Rect.unit (s := S512x128) ![0, 0] S512x128.size Facts₀.inb_S512x128_S512x128_0_0).toLoadRect (harg7.unread x6)) (ld arg1 harg1 x0 1536 (by decide))⟩,
    ⟨Rect.unit (s := S2048x512) ![1280, 0] S256x512.size (blk 512 1280 (by decide)), k1_pay45 (View.readAt (Elt Ideal) arg7.view (Rect.unit (s := S512x128) ![0, 0] S512x128.size Facts₀.inb_S512x128_S512x128_0_0).toLoadRect (harg7.unread x6)) (ld arg1 harg1 x0 1280 (by decide))⟩,
    ⟨Rect.unit (s := S2048x512) ![1024, 0] S256x512.size (blk 512 1024 (by decide)), k1_pay38 (View.readAt (Elt Ideal) arg7.view (Rect.unit (s := S512x128) ![0, 0] S512x128.size Facts₀.inb_S512x128_S512x128_0_0).toLoadRect (harg7.unread x6)) (ld arg1 harg1 x0 1024 (by decide))⟩,
    ⟨Rect.unit (s := S2048x512) ![768, 0] S256x512.size (blk 512 768 (by decide)), (fun w v => k1_pay33 (k1_pay32 w v)) (View.readAt (Elt Ideal) arg7.view (Rect.unit (s := S512x128) ![0, 0] S512x128.size Facts₀.inb_S512x128_S512x128_0_0).toLoadRect (harg7.unread x6)) (ld arg1 harg1 x0 768 (by decide))⟩,
    ⟨Rect.unit (s := S2048x512) ![512, 0] S256x512.size (blk 512 512 (by decide)), k1_pay27 (View.readAt (Elt Ideal) arg7.view (Rect.unit (s := S512x128) ![0, 0] S512x128.size Facts₀.inb_S512x128_S512x128_0_0).toLoadRect (harg7.unread x6)) (ld arg1 harg1 x0 512 (by decide))⟩,
    ⟨Rect.unit (s := S2048x512) ![256, 0] S256x512.size (blk 512 256 (by decide)), k1_pay22 (View.readAt (Elt Ideal) arg7.view (Rect.unit (s := S512x128) ![0, 0] S512x128.size Facts₀.inb_S512x128_S512x128_0_0).toLoadRect (harg7.unread x6)) (ld arg1 harg1 x0 256 (by decide))⟩,
    ⟨Rect.unit (s := S2048x512) ![0, 0] S256x512.size (blk 512 0 (by decide)), k1_pay18 (View.readAt (Elt Ideal) arg7.view (Rect.unit (s := S512x128) ![0, 0] S512x128.size Facts₀.inb_S512x128_S512x128_0_0).toLoadRect (harg7.unread x6)) (ld arg1 harg1 x0 0 (by decide))⟩]

/-- The input of the recurrence, imaginary part. -/
def preI : List (View.Piece (Elt Ideal) S2048x512 .f32) :=
  [
    ⟨Rect.unit (s := S2048x512) ![1792, 0] S256x512.size (blk 512 1792 (by decide)), k1_pay55 (View.readAt (Elt Ideal) arg8.view (Rect.unit (s := S512x128) ![0, 0] S512x128.size Facts₀.inb_S512x128_S512x128_0_0).toLoadRect (harg8.unread x7)) (ld arg1 harg1 x0 1792 (by decide))⟩,
    ⟨Rect.unit (s := S2048x512) ![1536, 0] S256x512.size (blk 512 1536 (by decide)), k1_pay50 (View.readAt (Elt Ideal) arg8.view (Rect.unit (s := S512x128) ![0, 0] S512x128.size Facts₀.inb_S512x128_S512x128_0_0).toLoadRect (harg8.unread x7)) (ld arg1 harg1 x0 1536 (by decide))⟩,
    ⟨Rect.unit (s := S2048x512) ![1280, 0] S256x512.size (blk 512 1280 (by decide)), k1_pay46 (View.readAt (Elt Ideal) arg8.view (Rect.unit (s := S512x128) ![0, 0] S512x128.size Facts₀.inb_S512x128_S512x128_0_0).toLoadRect (harg8.unread x7)) (ld arg1 harg1 x0 1280 (by decide))⟩,
    ⟨Rect.unit (s := S2048x512) ![1024, 0] S256x512.size (blk 512 1024 (by decide)), (fun w v => k1_pay41 (k1_pay39 w v) k1_pay40) (View.readAt (Elt Ideal) arg8.view (Rect.unit (s := S512x128) ![0, 0] S512x128.size Facts₀.inb_S512x128_S512x128_0_0).toLoadRect (harg8.unread x7)) (ld arg1 harg1 x0 1024 (by decide))⟩,
    ⟨Rect.unit (s := S2048x512) ![768, 0] S256x512.size (blk 512 768 (by decide)), k1_pay34 (View.readAt (Elt Ideal) arg8.view (Rect.unit (s := S512x128) ![0, 0] S512x128.size Facts₀.inb_S512x128_S512x128_0_0).toLoadRect (harg8.unread x7)) (ld arg1 harg1 x0 768 (by decide))⟩,
    ⟨Rect.unit (s := S2048x512) ![512, 0] S256x512.size (blk 512 512 (by decide)), k1_pay28 (View.readAt (Elt Ideal) arg8.view (Rect.unit (s := S512x128) ![0, 0] S512x128.size Facts₀.inb_S512x128_S512x128_0_0).toLoadRect (harg8.unread x7)) (ld arg1 harg1 x0 512 (by decide))⟩,
    ⟨Rect.unit (s := S2048x512) ![256, 0] S256x512.size (blk 512 256 (by decide)), k1_pay23 (View.readAt (Elt Ideal) arg8.view (Rect.unit (s := S512x128) ![0, 0] S512x128.size Facts₀.inb_S512x128_S512x128_0_0).toLoadRect (harg8.unread x7)) (ld arg1 harg1 x0 256 (by decide))⟩,
    ⟨Rect.unit (s := S2048x512) ![0, 0] S256x512.size (blk 512 0 (by decide)), k1_pay19 (View.readAt (Elt Ideal) arg8.view (Rect.unit (s := S512x128) ![0, 0] S512x128.size Facts₀.inb_S512x128_S512x128_0_0).toLoadRect (harg8.unread x7)) (ld arg1 harg1 x0 0 (by decide))⟩]

/-- The loop, all its trips, from what memory holds before it. -/
abbrev loopSt (ar ai : Vec Ideal S1x512 .f32) (X3 : BufTy.Contents (Elt Ideal) arg3.view.ty) (X4 : BufTy.Contents (Elt Ideal) arg4.view.ty)
    (G20 : BufTy.Contents (Elt Ideal) arg20.view.ty) (G21 : BufTy.Contents (Elt Ideal) arg21.view.ty) :=
  st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 ar (k1_pay60 ai) (k1_pay61 ar ai) (k1_pay62 ar ai) (k1_pay65 ar ai) (k1_pay66 ar ai) rid (k1_pay75 ar (k1_pay61 ar ai) (k1_pay63 ar ai) (k1_pay65 ar ai) rid (k1_pay74 ar (k1_pay60 ai) (k1_pay67 ar ai) (k1_pay69 ar ai) (k1_pay70 ar ai))) (k1_pay76 (k1_pay60 ai) (k1_pay62 ar ai) (k1_pay64 ar ai) (k1_pay66 ar ai) (k1_pay68 ar ai) rid (k1_pay73 ar (k1_pay60 ai) (k1_pay69 ar ai) (k1_pay70 ar ai)) 3#32) k1_pay77 k1_pay78 0#32 X3 X4 G20 G21 (k1_pay77, k1_pay77, k1_pay78, k1_pay78) k1_t1_loop.trips

/-- The loop of this kernel: over the input above. -/
abbrev loopOf :=
  loopSt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (View.readAt (Elt Ideal) arg9.view (Rect.unit (s := S1x512) ![0, 0] S1x512.size Facts₀.inb_S1x512_S1x512_0_0).toLoadRect (harg9.unread x8)) (View.readAt (Elt Ideal) arg10.view (Rect.unit (s := S1x512) ![0, 0] S1x512.size Facts₀.inb_S1x512_S1x512_0_0).toLoadRect (harg10.unread x9)) (harg3.unread x2) (harg4.unread x3) (arg20.view.writes (Elt Ideal) arg20.view.junk (preR arg1 harg1 arg7 harg7 x0 x6)) (arg21.view.writes (Elt Ideal) arg21.view.junk (preI arg1 harg1 arg8 harg8 x0 x7))

/-- The stores into the cotangents' memory, real part: the loop's, then the input's. -/
def lamR : List (View.Piece (Elt Ideal) S2048x512 .f32) :=
  (loopOf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.1 ++ preR arg1 harg1 arg7 harg7 x0 x6

/-- The stores into the cotangents' memory, imaginary part. -/
def lamI : List (View.Piece (Elt Ideal) S2048x512 .f32) :=
  (loopOf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).2.2 ++ preI arg1 harg1 arg8 harg8 x0 x7

/-- The stores of the gradient of `u`. -/
def duStores (LR LI : List (View.Piece (Elt Ideal) S2048x512 .f32)) : List (View.Piece (Elt Ideal) S2048x128 .bf16) :=
  [
    ⟨Rect.unit (s := S2048x128) ![1792, 0] S256x128.size (blk 128 1792 (by decide)), k1_pay115 (View.readAt (Elt Ideal) arg5.view (Rect.unit (s := S512x128) ![0, 0] S512x128.size Facts₀.inb_S512x128_S512x128_0_0).toLoadRect (harg5.unread x4)) (View.readAt (Elt Ideal) arg6.view (Rect.unit (s := S512x128) ![0, 0] S512x128.size Facts₀.inb_S512x128_S512x128_0_0).toLoadRect (harg6.unread x5)) (View.readAt (Elt Ideal) arg11.view (Rect.unit (s := S1x128) ![0, 0] S1x128.size Facts₀.inb_S1x128_S1x128_0_0).toLoadRect (harg11.unread x10)) (lc arg20 LR 1792 (by decide)) (lc arg21 LI 1792 (by decide)) (ld arg1 harg1 x0 1792 (by decide))⟩,
    ⟨Rect.unit (s := S2048x128) ![1536, 0] S256x128.size (blk 128 1536 (by decide)), k1_pay111 (View.readAt (Elt Ideal) arg5.view (Rect.unit (s := S512x128) ![0, 0] S512x128.size Facts₀.inb_S512x128_S512x128_0_0).toLoadRect (harg5.unread x4)) (View.readAt (Elt Ideal) arg6.view (Rect.unit (s := S512x128) ![0, 0] S512x128.size Facts₀.inb_S512x128_S512x128_0_0).toLoadRect (harg6.unread x5)) (View.readAt (Elt Ideal) arg11.view (Rect.unit (s := S1x128) ![0, 0] S1x128.size Facts₀.inb_S1x128_S1x128_0_0).toLoadRect (harg11.unread x10)) (lc arg20 LR 1536 (by decide)) (lc arg21 LI 1536 (by decide)) (ld arg1 harg1 x0 1536 (by decide))⟩,
    ⟨Rect.unit (s := S2048x128) ![1280, 0] S256x128.size (blk 128 1280 (by decide)), (fun a b d v w u => k1_pay109 d (k1_pay106 a v) (k1_pay107 w) (k1_pay108 b) u) (View.readAt (Elt Ideal) arg5.view (Rect.unit (s := S512x128) ![0, 0] S512x128.size Facts₀.inb_S512x128_S512x128_0_0).toLoadRect (harg5.unread x4)) (View.readAt (Elt Ideal) arg6.view (Rect.unit (s := S512x128) ![0, 0] S512x128.size Facts₀.inb_S512x128_S512x128_0_0).toLoadRect (harg6.unread x5)) (View.readAt (Elt Ideal) arg11.view (Rect.unit (s := S1x128) ![0, 0] S1x128.size Facts₀.inb_S1x128_S1x128_0_0).toLoadRect (harg11.unread x10)) (lc arg20 LR 1280 (by decide)) (lc arg21 LI 1280 (by decide)) (ld arg1 harg1 x0 1280 (by decide))⟩,
    ⟨Rect.unit (s := S2048x128) ![1024, 0] S256x128.size (blk 128 1024 (by decide)), k1_pay103 (View.readAt (Elt Ideal) arg5.view (Rect.unit (s := S512x128) ![0, 0] S512x128.size Facts₀.inb_S512x128_S512x128_0_0).toLoadRect (harg5.unread x4)) (View.readAt (Elt Ideal) arg6.view (Rect.unit (s := S512x128) ![0, 0] S512x128.size Facts₀.inb_S512x128_S512x128_0_0).toLoadRect (harg6.unread x5)) (View.readAt (Elt Ideal) arg11.view (Rect.unit (s := S1x128) ![0, 0] S1x128.size Facts₀.inb_S1x128_S1x128_0_0).toLoadRect (harg11.unread x10)) (lc arg20 LR 1024 (by decide)) (lc arg21 LI 1024 (by decide)) (ld arg1 harg1 x0 1024 (by decide))⟩,
    ⟨Rect.unit (s := S2048x128) ![768, 0] S256x128.size (blk 128 768 (by decide)), k1_pay101 (View.readAt (Elt Ideal) arg5.view (Rect.unit (s := S512x128) ![0, 0] S512x128.size Facts₀.inb_S512x128_S512x128_0_0).toLoadRect (harg5.unread x4)) (View.readAt (Elt Ideal) arg6.view (Rect.unit (s := S512x128) ![0, 0] S512x128.size Facts₀.inb_S512x128_S512x128_0_0).toLoadRect (harg6.unread x5)) (View.readAt (Elt Ideal) arg11.view (Rect.unit (s := S1x128) ![0, 0] S1x128.size Facts₀.inb_S1x128_S1x128_0_0).toLoadRect (harg11.unread x10)) (lc arg20 LR 768 (by decide)) (lc arg21 LI 768 (by decide)) (ld arg1 harg1 x0 768 (by decide))⟩,
    ⟨Rect.unit (s := S2048x128) ![512, 0] S256x128.size (blk 128 512 (by decide)), (fun a b d v w u => k1_pay98 b d w (k1_pay96 v) (k1_pay97 a) (constant S256x128 .f32 0x00000000#32) u) (View.readAt (Elt Ideal) arg5.view (Rect.unit (s := S512x128) ![0, 0] S512x128.size Facts₀.inb_S512x128_S512x128_0_0).toLoadRect (harg5.unread x4)) (View.readAt (Elt Ideal) arg6.view (Rect.unit (s := S512x128) ![0, 0] S512x128.size Facts₀.inb_S512x128_S512x128_0_0).toLoadRect (harg6.unread x5)) (View.readAt (Elt Ideal) arg11.view (Rect.unit (s := S1x128) ![0, 0] S1x128.size Facts₀.inb_S1x128_S1x128_0_0).toLoadRect (harg11.unread x10)) (lc arg20 LR 512 (by decide)) (lc arg21 LI 512 (by decide)) (ld arg1 harg1 x0 512 (by decide))⟩,
    ⟨Rect.unit (s := S2048x128) ![256, 0] S256x128.size (blk 128 256 (by decide)), k1_pay93 (View.readAt (Elt Ideal) arg5.view (Rect.unit (s := S512x128) ![0, 0] S512x128.size Facts₀.inb_S512x128_S512x128_0_0).toLoadRect (harg5.unread x4)) (View.readAt (Elt Ideal) arg6.view (Rect.unit (s := S512x128) ![0, 0] S512x128.size Facts₀.inb_S512x128_S512x128_0_0).toLoadRect (harg6.unread x5)) (View.readAt (Elt Ideal) arg11.view (Rect.unit (s := S1x128) ![0, 0] S1x128.size Facts₀.inb_S1x128_S1x128_0_0).toLoadRect (harg11.unread x10)) (lc arg20 LR 256 (by decide)) (lc arg21 LI 256 (by decide)) (ld arg1 harg1 x0 256 (by decide))⟩,
    ⟨Rect.unit (s := S2048x128) ![0, 0] S256x128.size (blk 128 0 (by decide)), k1_pay91 (View.readAt (Elt Ideal) arg5.view (Rect.unit (s := S512x128) ![0, 0] S512x128.size Facts₀.inb_S512x128_S512x128_0_0).toLoadRect (harg5.unread x4)) (View.readAt (Elt Ideal) arg6.view (Rect.unit (s := S512x128) ![0, 0] S512x128.size Facts₀.inb_S512x128_S512x128_0_0).toLoadRect (harg6.unread x5)) (View.readAt (Elt Ideal) arg11.view (Rect.unit (s := S1x128) ![0, 0] S1x128.size Facts₀.inb_S1x128_S1x128_0_0).toLoadRect (harg11.unread x10)) (lc arg20 LR 0 (by decide)) (lc arg21 LI 0 (by decide)) (ld arg1 harg1 x0 0 (by decide))⟩]

theorem stores11 : (kernelRun1_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).1 = duStores arg1 harg1 arg5 harg5 arg6 harg6 arg11 harg11 arg20 arg21 x0 x4 x5 x10 (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) := by
  unfold kernelRun1_A
  rfl

theorem out12 : (out1_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) = (k1_pay116 (k1_pay112 (k1_pay104 (k1_pay99 (k1_pay94 k1_pay89 (ld arg2 harg2 x1 0 (by decide)) (k1_pay92 (lc arg20 (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 0 (by decide))) (lc arg20 (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 256 (by decide)) (ld arg2 harg2 x1 256 (by decide))) (lc arg20 (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 512 (by decide)) (ld arg2 harg2 x1 512 (by decide))) (k1_pay102 (lc arg20 (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 768 (by decide)) (ld arg2 harg2 x1 768 (by decide))) (lc arg20 (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 1024 (by decide)) (ld arg2 harg2 x1 1024 (by decide))) (lc arg20 (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 1280 (by decide)) (ld arg2 harg2 x1 1280 (by decide)) (lc arg20 (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 1536 (by decide)) (ld arg2 harg2 x1 1536 (by decide))) (lc arg20 (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 1792 (by decide)) (ld arg2 harg2 x1 1792 (by decide))) := by
  refine (View.read_writes_junk_eq_canon _ _).trans ((congrArg View.canon (?_ : _ = [⟨Rect.unit (s := S512x128) ![0, 0] S512x128.size Facts₀.inb_S512x128_S512x128_0_0, _⟩])).trans
    (View.canon_unit_zero (by funext a; match a with | ⟨0, _⟩ => rfl | ⟨1, _⟩ => rfl) _ _))
  unfold kernelRun1_A
  rfl

theorem out13 : (out1_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) = (k1_pay117 (k1_pay110 (k1_pay105 (k1_pay100 (k1_pay95 k1_pay90 (lc arg21 (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 0 (by decide)) (ld arg2 harg2 x1 0 (by decide)) (lc arg21 (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 256 (by decide)) (ld arg2 harg2 x1 256 (by decide))) (lc arg21 (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 512 (by decide)) (ld arg2 harg2 x1 512 (by decide))) (lc arg21 (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 768 (by decide)) (ld arg2 harg2 x1 768 (by decide)) (lc arg21 (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 1024 (by decide)) (ld arg2 harg2 x1 1024 (by decide))) (lc arg21 (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 1280 (by decide)) (ld arg2 harg2 x1 1280 (by decide))) (k1_pay113 (lc arg21 (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 1536 (by decide))) (k1_pay114 (ld arg2 harg2 x1 1536 (by decide))) (lc arg21 (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) 1792 (by decide)) (ld arg2 harg2 x1 1792 (by decide))) := by
  refine (View.read_writes_junk_eq_canon _ _).trans ((congrArg View.canon (?_ : _ = [⟨Rect.unit (s := S512x128) ![0, 0] S512x128.size Facts₀.inb_S512x128_S512x128_0_0, _⟩])).trans
    (View.canon_unit_zero (by funext a; match a with | ⟨0, _⟩ => rfl | ⟨1, _⟩ => rfl) _ _))
  unfold kernelRun1_A
  rfl

theorem out14 : (out1_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) = (k1_pay56 (k1_pay51 (k1_pay42 (k1_pay35 (k1_pay29 (k1_pay24 (k1_pay20 (ld arg1 harg1 x0 0 (by decide)) (ld arg3 harg3 x2 0 (by decide))) (ld arg1 harg1 x0 256 (by decide)) (ld arg3 harg3 x2 256 (by decide))) (ld arg1 harg1 x0 512 (by decide)) (ld arg3 harg3 x2 512 (by decide))) (ld arg1 harg1 x0 768 (by decide)) (ld arg3 harg3 x2 768 (by decide))) (ld arg1 harg1 x0 1024 (by decide)) (ld arg3 harg3 x2 1024 (by decide))) (ld arg1 harg1 x0 1280 (by decide)) (ld arg3 harg3 x2 1280 (by decide)) (ld arg1 harg1 x0 1536 (by decide)) (ld arg3 harg3 x2 1536 (by decide))) (ld arg1 harg1 x0 1792 (by decide)) (ld arg3 harg3 x2 1792 (by decide))) := by
  refine (View.read_writes_junk_eq_canon _ _).trans ((congrArg View.canon (?_ : _ = [⟨Rect.unit (s := S512x128) ![0, 0] S512x128.size Facts₀.inb_S512x128_S512x128_0_0, _⟩])).trans
    (View.canon_unit_zero (by funext a; match a with | ⟨0, _⟩ => rfl | ⟨1, _⟩ => rfl) _ _))
  unfold kernelRun1_A
  rfl

theorem out15 : (out1_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) = (k1_pay58 (k1_pay52 (k1_pay47 (k1_pay43 (k1_pay36 (k1_pay30 (k1_pay25 (k1_pay21 (ld arg1 harg1 x0 0 (by decide)) (ld arg4 harg4 x3 0 (by decide))) (ld arg1 harg1 x0 256 (by decide)) (ld arg4 harg4 x3 256 (by decide))) (ld arg1 harg1 x0 512 (by decide)) (ld arg4 harg4 x3 512 (by decide))) (ld arg1 harg1 x0 768 (by decide)) (ld arg4 harg4 x3 768 (by decide))) (ld arg1 harg1 x0 1024 (by decide)) (ld arg4 harg4 x3 1024 (by decide))) (ld arg1 harg1 x0 1280 (by decide)) (ld arg4 harg4 x3 1280 (by decide))) (ld arg1 harg1 x0 1536 (by decide)) (ld arg4 harg4 x3 1536 (by decide))) (k1_pay57 (ld arg1 harg1 x0 1792 (by decide)) (ld arg4 harg4 x3 1792 (by decide)))) := by
  refine (View.read_writes_junk_eq_canon _ _).trans ((congrArg View.canon (?_ : _ = [⟨Rect.unit (s := S512x128) ![0, 0] S512x128.size Facts₀.inb_S512x128_S512x128_0_0, _⟩])).trans
    (View.canon_unit_zero (by funext a; match a with | ⟨0, _⟩ => rfl | ⟨1, _⟩ => rfl) _ _))
  unfold kernelRun1_A
  rfl

theorem out16 : (out1_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) = k1_pay87 (loopOf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1.2.2.1 := by
  refine (View.read_writes_junk_eq_canon _ _).trans ((congrArg View.canon (?_ : _ = [⟨Rect.unit (s := S1x512) ![0, 0] S1x512.size Facts₀.inb_S1x512_S1x512_0_0, _⟩])).trans
    (View.canon_unit_zero (by funext a; match a with | ⟨0, _⟩ => rfl | ⟨1, _⟩ => rfl) _ _))
  unfold kernelRun1_A
  rfl

theorem out17 : (out1_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) = k1_pay88 (loopOf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1.2.2.2 := by
  refine (View.read_writes_junk_eq_canon _ _).trans ((congrArg View.canon (?_ : _ = [⟨Rect.unit (s := S1x512) ![0, 0] S1x512.size Facts₀.inb_S1x512_S1x512_0_0, _⟩])).trans
    (View.canon_unit_zero (by funext a; match a with | ⟨0, _⟩ => rfl | ⟨1, _⟩ => rfl) _ _))
  unfold kernelRun1_A
  rfl

theorem out18 : (out1_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) = (k1_pay59 (k1_pay53 (k1_pay48 (k1_pay44 (k1_pay37 (k1_pay31 (k1_pay26 k1_pay17 (ld arg1 harg1 x0 0 (by decide)) (ld arg2 harg2 x1 0 (by decide)) (ld arg1 harg1 x0 256 (by decide)) (ld arg2 harg2 x1 256 (by decide))) (ld arg1 harg1 x0 512 (by decide)) (ld arg2 harg2 x1 512 (by decide))) (ld arg1 harg1 x0 768 (by decide)) (ld arg2 harg2 x1 768 (by decide))) (ld arg1 harg1 x0 1024 (by decide)) (ld arg2 harg2 x1 1024 (by decide))) (ld arg1 harg1 x0 1280 (by decide)) (ld arg2 harg2 x1 1280 (by decide))) (ld arg1 harg1 x0 1536 (by decide)) (ld arg2 harg2 x1 1536 (by decide))) (ld arg1 harg1 x0 1792 (by decide)) (ld arg2 harg2 x1 1792 (by decide))) := by
  refine (View.read_writes_junk_eq_canon _ _).trans ((congrArg View.canon (?_ : _ = [⟨Rect.unit (s := S1x128) ![0, 0] S1x128.size Facts₀.inb_S1x128_S1x128_0_0, _⟩])).trans
    (View.canon_unit_zero (by funext a; match a with | ⟨0, _⟩ => rfl | ⟨1, _⟩ => rfl) _ _))
  unfold kernelRun1_A
  rfl

end

end S5.Bwd

end

end
-- ==== Proof.FwdTrip.lean ====
/-
  One trip of the forward scan's loop: eight rows of the recurrence.

  The loop keeps the state before its eight rows as its carry (`cr`, `ci`). The trip loads eight rows of the input
  `b`, runs the three doubling steps over the powers `a`, `a²`, `a⁴`, adds the carry times the table of `a^(r+1)`, stores the eight
  states back and yields the last of them.
-/
module

public import proofs.«01_k».proof.Proof.Gen.KernelIdeal.Frame
public import proofs.«01_k».proof.Proof.Rows
public import Idealize.ShloMosaic.Lib.WritesUnit
public import Idealize.ShloMosaic.Lib.Tactic

@[expose] public section

noncomputable section

open Idealize.ShloMosaic Idealize.ShloMosaic.TcCoe Idealize.SL.Sem Idealize.ShloMosaic.ValueIdx

namespace S5.Fwd

open Cert.KernelIdeal Cert.KernelIdeal.Gen Cert.KernelIdeal.Facts₀

section Group

variable {v74 v75 : Vec Ideal S1x512 .f32} {v78 v81 v90 v93 v117 : FVec Ideal S1x512 .f32}
  {v185 v190 : FVec Ideal S8x512 .f32} {v192 : IVec S8x512 1} {v193 cr ci : FVec Ideal S1x512 .f32} {v338 v341 : Vec Ideal S8x512 .f32}
  {A C : S1x512.Idx → ℂ} {B : S8x512.Idx → ℂ}

/-- The first doubling step, by `a`. -/
theorem step1 (h1 : IsC v74 v75 A) (hb : IsC v338 v341 B) :
    IsC (k0_pay5 v74 v75 rid v338 v341) (k0_pay6 v74 v75 rid v338 v341)
      (fun j => stepF (A (ix2 0 (j 1))) 1 (col B (j 1)) (j 0)) := by
  have e1 : k0_pay1 v338 = v338 := shapeCast_self v338 _
  have e2 : k0_pay2 v341 = v341 := shapeCast_self v341 _
  have hd := hb.down 1 (by decide)
  refine ((hb.step h1.spread hd (xr := k0_pay5 v74 v75 rid v338 v341) (xi := k0_pay6 v74 v75 rid v338 v341)
    (fun j => ?_) (fun j => ?_))).congr fun j => ?_
  · show k0_pay1 v338 j + _ * k0_pay3 rid v338 j - _ * k0_pay4 rid v341 j = _
    rw [e1]; unfold k0_pay3 k0_pay4; rw [e1, e2]
  · show k0_pay2 v341 j + _ * k0_pay4 rid v341 j + _ * k0_pay3 rid v338 j = _
    rw [e2]; unfold k0_pay3 k0_pay4; rw [e1, e2]
  · conv_lhs => rw [eq_ix2 j]
    rw [eq_ix2 j]; rfl

/-- The second, by `a²`. -/
theorem step2 (h1 : IsC v74 v75 A) (h2 : IsC v78 v81 (fun j => A j ^ 2)) (hb : IsC v338 v341 B) :
    IsC (k0_pay52 (k0_pay8 v74 v75 rid v338 v341) (k0_pay9 v74 v75 v78 rid v338 v341) (k0_pay10 v81))
      (k0_pay53 v78 v81 (k0_pay6 v74 v75 rid v338 v341) (k0_pay7 v74 v75 rid v338 v341) (k0_pay8 v74 v75 rid v338 v341))
      (fun j => stepF (A (ix2 0 (j 1)) ^ 2) 2 (stepF (A (ix2 0 (j 1))) 1 (col B (j 1))) (j 0)) :=
  ((step1 h1 hb).step h2.spread ((step1 h1 hb).down 2 (by decide)) (fun _ => rfl) (fun _ => rfl)).congr fun _ => rfl

/-- The third, by `a⁴`, and the carry. -/
theorem step3 (h1 : IsC v74 v75 A) (h2 : IsC v78 v81 (fun j => A j ^ 2)) (h4 : IsC v90 v93 (fun j => A j ^ 4))
    (ht : IsC (k0_pay49 v185 v192 v193) (k0_pay50 v117 rid v190) (fun j => A (ix2 0 (j 1)) ^ ((j 0).val + 1)))
    (hc : IsC cr ci C) (hb : IsC v338 v341 B) :
    IsC (k0_pay56 v78 v81 v90 v93 v117 rid v185 v190 v192 v193 cr ci (k0_pay6 v74 v75 rid v338 v341) (k0_pay7 v74 v75 rid v338 v341)
        (k0_pay8 v74 v75 rid v338 v341) (k0_pay9 v74 v75 v78 rid v338 v341) (k0_pay10 v81))
      (k0_pay57 v78 v81 v90 v93 v117 rid v185 v190 v192 v193 cr ci (k0_pay6 v74 v75 rid v338 v341) (k0_pay7 v74 v75 rid v338 v341)
        (k0_pay8 v74 v75 rid v338 v341) (k0_pay9 v74 v75 v78 rid v338 v341) (k0_pay10 v81))
      (fun j => stepF (A (ix2 0 (j 1)) ^ 4) 4 (stepF (A (ix2 0 (j 1)) ^ 2) 2 (stepF (A (ix2 0 (j 1))) 1 (col B (j 1)))) (j 0)
        + A (ix2 0 (j 1)) ^ ((j 0).val + 1) * C (ix2 0 (j 1))) :=
  (((step2 h1 h2 hb).step h4.spread ((step2 h1 h2 hb).down 4 (by decide)) (fun _ => rfl) (fun _ => rfl)).step ht hc.spread
    (fun _ => rfl) (fun _ => rfl)).congr fun _ => rfl

end Group

section Powers

variable {v74 v75 : Vec Ideal S1x512 .f32} {A : S1x512.Idx → ℂ}

/-- The square of `a`. -/
theorem pow2 (h : IsC v74 v75 A) : IsC (k0_pay27 v74 v75) (k0_pay28 v74 v75) (fun j => A j ^ 2) :=
  IsC.next (n := 1) (h.congr fun j => (pow_one _).symm) h (fun _ => rfl) (fun _ => rfl)

theorem pow3 (h : IsC v74 v75 A) : IsC (k0_pay29 v74 v75) (k0_pay30 v74 v75) (fun j => A j ^ 3) :=
  (pow2 h).next h (fun _ => rfl) (fun _ => rfl)

/-- The fourth power. -/
theorem pow4 (h : IsC v74 v75 A) :
    IsC (k0_pay31 v74 v75) (k0_pay32 v74 v75 (k0_pay29 v74 v75) (k0_pay30 v74 v75)) (fun j => A j ^ 4) :=
  (pow3 h).next h (fun _ => rfl) (fun _ => rfl)

/-- The table of `a^(r+1)`, as the loop's parameters hold it. -/
theorem table (h : IsC v74 v75 A) :
    IsC (k0_pay49 (k0_pay45 (k0_pay31 v74 v75) (k0_pay33 v74 v75 (k0_pay29 v74 v75) (k0_pay30 v74 v75) (k0_pay31 v74 v75))
          (k0_pay35 v74 v75 (k0_pay29 v74 v75) (k0_pay30 v74 v75) (k0_pay31 v74 v75))
          (k0_pay37 v74 v75 (k0_pay29 v74 v75) (k0_pay30 v74 v75) (k0_pay31 v74 v75)) rid (k0_pay41 v74 (k0_pay27 v74 v75)) k0_pay43
          (k0_pay44 (k0_pay29 v74 v75))) (k0_pay47 rid)
        (k0_pay48 (k0_pay39 v74 v75 (k0_pay29 v74 v75) (k0_pay30 v74 v75) (k0_pay31 v74 v75))))
      (k0_pay50 (k0_pay40 v74 v75 (k0_pay29 v74 v75) (k0_pay30 v74 v75) (k0_pay31 v74 v75)) rid
        (k0_pay46 (k0_pay30 v74 v75) (k0_pay32 v74 v75 (k0_pay29 v74 v75) (k0_pay30 v74 v75))
          (k0_pay34 v74 v75 (k0_pay29 v74 v75) (k0_pay30 v74 v75) (k0_pay31 v74 v75))
          (k0_pay36 v74 v75 (k0_pay29 v74 v75) (k0_pay30 v74 v75) (k0_pay31 v74 v75))
          (k0_pay38 v74 v75 (k0_pay29 v74 v75) (k0_pay30 v74 v75) (k0_pay31 v74 v75)) rid (k0_pay42 v75 (k0_pay28 v74 v75))))
      (fun j => A (ix2 0 (j 1)) ^ ((j 0).val + 1)) := by
  have h5 : IsC (k0_pay33 v74 v75 (k0_pay29 v74 v75) (k0_pay30 v74 v75) (k0_pay31 v74 v75)) _ (fun j => A j ^ 5) :=
    (pow4 h).next h (fun _ => rfl) (xi := k0_pay34 v74 v75 (k0_pay29 v74 v75) (k0_pay30 v74 v75) (k0_pay31 v74 v75)) (fun _ => rfl)
  have h6 : IsC (k0_pay35 v74 v75 (k0_pay29 v74 v75) (k0_pay30 v74 v75) (k0_pay31 v74 v75)) _ (fun j => A j ^ 6) :=
    h5.next h (fun _ => rfl) (xi := k0_pay36 v74 v75 (k0_pay29 v74 v75) (k0_pay30 v74 v75) (k0_pay31 v74 v75)) (fun _ => rfl)
  have h7 : IsC (k0_pay37 v74 v75 (k0_pay29 v74 v75) (k0_pay30 v74 v75) (k0_pay31 v74 v75)) _ (fun j => A j ^ 7) :=
    h6.next h (fun _ => rfl) (xi := k0_pay38 v74 v75 (k0_pay29 v74 v75) (k0_pay30 v74 v75) (k0_pay31 v74 v75)) (fun _ => rfl)
  have h8 : IsC (k0_pay39 v74 v75 (k0_pay29 v74 v75) (k0_pay30 v74 v75) (k0_pay31 v74 v75)) _ (fun j => A j ^ 8) :=
    h7.next h (fun _ => rfl) (xi := k0_pay40 v74 v75 (k0_pay29 v74 v75) (k0_pay30 v74 v75) (k0_pay31 v74 v75)) (fun _ => rfl)
  refine IsC.tab (A := A) (e := fun r => r.val + 1) (x := ![v74, k0_pay27 v74 v75, k0_pay29 v74 v75, k0_pay31 v74 v75,
      k0_pay33 v74 v75 (k0_pay29 v74 v75) (k0_pay30 v74 v75) (k0_pay31 v74 v75),
      k0_pay35 v74 v75 (k0_pay29 v74 v75) (k0_pay30 v74 v75) (k0_pay31 v74 v75),
      k0_pay37 v74 v75 (k0_pay29 v74 v75) (k0_pay30 v74 v75) (k0_pay31 v74 v75),
      k0_pay39 v74 v75 (k0_pay29 v74 v75) (k0_pay30 v74 v75) (k0_pay31 v74 v75)])
    (y := ![v75, k0_pay28 v74 v75, k0_pay30 v74 v75, k0_pay32 v74 v75 (k0_pay29 v74 v75) (k0_pay30 v74 v75),
      k0_pay34 v74 v75 (k0_pay29 v74 v75) (k0_pay30 v74 v75) (k0_pay31 v74 v75),
      k0_pay36 v74 v75 (k0_pay29 v74 v75) (k0_pay30 v74 v75) (k0_pay31 v74 v75),
      k0_pay38 v74 v75 (k0_pay29 v74 v75) (k0_pay30 v74 v75) (k0_pay31 v74 v75),
      k0_pay40 v74 v75 (k0_pay29 v74 v75) (k0_pay30 v74 v75) (k0_pay31 v74 v75)]) fun r => ?_
  fin_cases r
  · exact h.congr fun j => (pow_one _).symm
  · exact pow2 h
  · exact pow3 h
  · exact pow4 h
  · exact h5
  · exact h6
  · exact h7
  · exact h8

end Powers

section Loop

/-- The eight rows of trip `k`. -/
abbrev rect (k : Fin k0_t1_loop.trips) : Rect S2048x512 := Rect.unit (s := S2048x512) (k0_off1 k) S8x512.size (Gen.k0_off1_inb k)

/-- Those rows of a buffer. -/
abbrev rowsOf (m : Memref sig .tc .vmem S2048x512 .f32) (k : Fin k0_t1_loop.trips) (f : BufTy.Contents (Elt Ideal) m.view.ty) :
    Vec Ideal S8x512 .f32 := View.readAt (Elt Ideal) m.view (rect k).toLoadRect f

theorem trips_lt (k : Fin k0_t1_loop.trips) : k.val < 256 := Nat.lt_of_lt_of_le k.isLt k0_t1_abs.2.1

theorem rowsOf_apply (m : Memref sig .tc .vmem S2048x512 .f32) (k : Fin k0_t1_loop.trips) (f : BufTy.Contents (Elt Ideal) m.view.ty)
    (r : Fin 8) (q : Fin 512) :
    rowsOf m k f (ix2 r q) = m.view.read (Elt Ideal) f (ix2 ⟨8 * k.val + r.val, by have := trips_lt k; omega⟩ q) := by
  unfold rowsOf
  rw [View.readAt_apply]
  congr 1
  have e := k0_off1_eq k
  funext a
  apply Fin.ext
  rw [LoadRect.idx_apply]
  match a with
  | ⟨0, _⟩ => show k0_off1 k 0 + 1 * r.val = 8 * k.val + r.val; rw [e]; show 8 * k.val + 1 * r.val = _; omega
  | ⟨1, _⟩ => show k0_off1 k 1 + 1 * q.val = q.val; rw [e]; show 0 + 1 * q.val = _; omega

variable (c : Dev nD) (bd : Option Variants.none.V) (i : grid0.Coords)
  (arg1 : Memref sig .tc .vmem S2048x128 .f32) (harg1 : arg1.IsWhole) (arg2 : Memref sig .tc .vmem S512x128 .f32) (harg2 : arg2.IsWhole) (arg3 : Memref sig .tc .vmem S512x128 .f32) (harg3 : arg3.IsWhole)
  (arg4 : Memref sig .tc .vmem S512x128 .f32) (harg4 : arg4.IsWhole) (arg5 : Memref sig .tc .vmem S512x128 .f32) (harg5 : arg5.IsWhole) (arg6 : Memref sig .tc .vmem S1x512 .f32) (harg6 : arg6.IsWhole)
  (arg7 : Memref sig .tc .vmem S1x512 .f32) (harg7 : arg7.IsWhole) (arg8 : Memref sig .tc .vmem S1x128 .f32) (harg8 : arg8.IsWhole) (arg9 : Memref sig .tc .vmem S2048x512 .f32) (harg9 : arg9.IsWhole)
  (arg10 : Memref sig .tc .vmem S2048x512 .f32) (harg10 : arg10.IsWhole) (arg11 : Memref sig .tc .vmem S2048x128 .f32) (harg11 : arg11.IsWhole)
  (v74 v75 : Vec Ideal S1x512 .f32) (v78 v81 v90 v93 v117 : FVec Ideal S1x512 .f32)
  (v185 v190 : FVec Ideal S8x512 .f32) (v192 : IVec S8x512 1) (v193 : FVec Ideal S1x512 .f32)
  {A : S1x512.Idx → ℂ}

theorem tripL_eq (k : Fin k0_t1_loop.trips) (acc : FVec Ideal S1x512 .f32 × FVec Ideal S1x512 .f32)
    (f : BufTy.Contents (Elt Ideal) arg9.view.ty) (g : BufTy.Contents (Elt Ideal) arg10.view.ty) :
    tripL_k0_t1 (F := Ideal) Variants.none c bd i arg1 harg1 arg2 harg2 arg3 harg3 arg4 harg4 arg5 harg5 arg6 harg6 arg7 harg7 arg8 harg8 arg9 harg9 arg10 harg10 arg11 harg11 v74 v75 v78 v81 v90 v93 v117 rid v185 v190 v192 v193 k acc f g
      = ([⟨rect k, k0_pay56 v78 v81 v90 v93 v117 rid v185 v190 v192 v193 acc.1 acc.2 (k0_pay6 v74 v75 rid (rowsOf arg9 k f) (rowsOf arg10 k g)) (k0_pay7 v74 v75 rid (rowsOf arg9 k f) (rowsOf arg10 k g))
        (k0_pay8 v74 v75 rid (rowsOf arg9 k f) (rowsOf arg10 k g)) (k0_pay9 v74 v75 v78 rid (rowsOf arg9 k f) (rowsOf arg10 k g)) (k0_pay10 v81)⟩],
        [⟨rect k, k0_pay57 v78 v81 v90 v93 v117 rid v185 v190 v192 v193 acc.1 acc.2 (k0_pay6 v74 v75 rid (rowsOf arg9 k f) (rowsOf arg10 k g)) (k0_pay7 v74 v75 rid (rowsOf arg9 k f) (rowsOf arg10 k g))
        (k0_pay8 v74 v75 rid (rowsOf arg9 k f) (rowsOf arg10 k g)) (k0_pay9 v74 v75 v78 rid (rowsOf arg9 k f) (rowsOf arg10 k g)) (k0_pay10 v81)⟩]) := by
  unfold tripL_k0_t1 trip_k0_t1
  rfl

theorem tripR_eq (k : Fin k0_t1_loop.trips) (acc : FVec Ideal S1x512 .f32 × FVec Ideal S1x512 .f32)
    (f : BufTy.Contents (Elt Ideal) arg9.view.ty) (g : BufTy.Contents (Elt Ideal) arg10.view.ty) :
    tripR_k0_t1 (F := Ideal) Variants.none c bd i arg1 harg1 arg2 harg2 arg3 harg3 arg4 harg4 arg5 harg5 arg6 harg6 arg7 harg7 arg8 harg8 arg9 harg9 arg10 harg10 arg11 harg11 v74 v75 v78 v81 v90 v93 v117 rid v185 v190 v192 v193 k acc f g
      = (k0_pay58 v78 v81 v90 v93 v117 rid v185 v190 v192 v193 acc.1 acc.2 (k0_pay6 v74 v75 rid (rowsOf arg9 k f) (rowsOf arg10 k g)) (k0_pay7 v74 v75 rid (rowsOf arg9 k f) (rowsOf arg10 k g))
        (k0_pay8 v74 v75 rid (rowsOf arg9 k f) (rowsOf arg10 k g)) (k0_pay9 v74 v75 v78 rid (rowsOf arg9 k f) (rowsOf arg10 k g)) (k0_pay10 v81),
        k0_pay59 v78 v81 v90 v93 v117 rid v185 v190 v192 v193 acc.1 acc.2 (k0_pay6 v74 v75 rid (rowsOf arg9 k f) (rowsOf arg10 k g)) (k0_pay7 v74 v75 rid (rowsOf arg9 k f) (rowsOf arg10 k g))
        (k0_pay8 v74 v75 rid (rowsOf arg9 k f) (rowsOf arg10 k g)) (k0_pay9 v74 v75 v78 rid (rowsOf arg9 k f) (rowsOf arg10 k g)) (k0_pay10 v81)) := by
  unfold tripR_k0_t1 trip_k0_t1
  rfl

variable {v74 v75 v78 v81 v90 v93 v117 v185 v190 v192 v193}

/-- What the loop holds before trip `k`: rows below `8 k` are states, the others still the input, and the carry is the
    state before row `8 k`. -/
theorem loop_inv (h1 : IsC v74 v75 A) (h2 : IsC v78 v81 (fun j => A j ^ 2)) (h4 : IsC v90 v93 (fun j => A j ^ 4))
    (ht : IsC (k0_pay49 v185 v192 v193) (k0_pay50 v117 rid v190) (fun j => A (ix2 0 (j 1)) ^ ((j 0).val + 1)))
    (G9 : BufTy.Contents (Elt Ideal) arg9.view.ty) (G10 : BufTy.Contents (Elt Ideal) arg10.view.ty) (b : Fin 512 → ℕ → ℂ)
    (hG : IsC (arg9.view.read (Elt Ideal) G9) (arg10.view.read (Elt Ideal) G10) (fun y : S2048x512.Idx => b (y 1) (y 0).val))
    (k : ℕ) (hk : k ≤ k0_t1_loop.trips) :
    IsC (st_k0_t1 (F := Ideal) Variants.none c bd i arg1 harg1 arg2 harg2 arg3 harg3 arg4 harg4 arg5 harg5 arg6 harg6 arg7 harg7 arg8 harg8 arg9 harg9 arg10 harg10 arg11 harg11 v74 v75 v78 v81 v90 v93 v117 rid v185 v190 v192 v193 G9 G10 (k0_pay51, k0_pay51) k).1.1 (st_k0_t1 (F := Ideal) Variants.none c bd i arg1 harg1 arg2 harg2 arg3 harg3 arg4 harg4 arg5 harg5 arg6 harg6 arg7 harg7 arg8 harg8 arg9 harg9 arg10 harg10 arg11 harg11 v74 v75 v78 v81 v90 v93 v117 rid v185 v190 v192 v193 G9 G10 (k0_pay51, k0_pay51) k).1.2
        (fun j => st (A j) (b (j 1)) (8 * k))
      ∧ IsC (arg9.view.read (Elt Ideal) (arg9.view.writes (Elt Ideal) G9 (st_k0_t1 (F := Ideal) Variants.none c bd i arg1 harg1 arg2 harg2 arg3 harg3 arg4 harg4 arg5 harg5 arg6 harg6 arg7 harg7 arg8 harg8 arg9 harg9 arg10 harg10 arg11 harg11 v74 v75 v78 v81 v90 v93 v117 rid v185 v190 v192 v193 G9 G10 (k0_pay51, k0_pay51) k).2.1))
          (arg10.view.read (Elt Ideal) (arg10.view.writes (Elt Ideal) G10 (st_k0_t1 (F := Ideal) Variants.none c bd i arg1 harg1 arg2 harg2 arg3 harg3 arg4 harg4 arg5 harg5 arg6 harg6 arg7 harg7 arg8 harg8 arg9 harg9 arg10 harg10 arg11 harg11 v74 v75 v78 v81 v90 v93 v117 rid v185 v190 v192 v193 G9 G10 (k0_pay51, k0_pay51) k).2.2))
          (fun y : S2048x512.Idx => held (A (ix2 0 (y 1))) (b (y 1)) (8 * k) (y 0).val) := by
  induction k with
  | zero =>
    rw [st_k0_t1_zero]
    refine ⟨fun j => ?_, fun y => ?_⟩
    · exact ⟨zero_word, zero_word⟩
    · have e : held (A (ix2 0 (y 1))) (b (y 1)) (8 * 0) (y 0).val = b (y 1) (y 0).val := held_ge (Nat.zero_le _)
      exact ⟨(hG y).1.trans (re_congr e.symm), (hG y).2.trans (im_congr e.symm)⟩
  | succ k ih =>
    obtain ⟨hc, hm⟩ := ih (Nat.le_of_succ_le hk)
    have hk8 : k < 256 := trips_lt ⟨k, hk⟩
    have hb : IsC (rowsOf arg9 ⟨k, hk⟩ (arg9.view.writes (Elt Ideal) G9 (st_k0_t1 (F := Ideal) Variants.none c bd i arg1 harg1 arg2 harg2 arg3 harg3 arg4 harg4 arg5 harg5 arg6 harg6 arg7 harg7 arg8 harg8 arg9 harg9 arg10 harg10 arg11 harg11 v74 v75 v78 v81 v90 v93 v117 rid v185 v190 v192 v193 G9 G10 (k0_pay51, k0_pay51) k).2.1))
        (rowsOf arg10 ⟨k, hk⟩ (arg10.view.writes (Elt Ideal) G10 (st_k0_t1 (F := Ideal) Variants.none c bd i arg1 harg1 arg2 harg2 arg3 harg3 arg4 harg4 arg5 harg5 arg6 harg6 arg7 harg7 arg8 harg8 arg9 harg9 arg10 harg10 arg11 harg11 v74 v75 v78 v81 v90 v93 v117 rid v185 v190 v192 v193 G9 G10 (k0_pay51, k0_pay51) k).2.2))
        (fun j => b (j 1) (8 * k + (j 0).val)) := by
      intro j
      obtain ⟨r, q, rfl⟩ : ∃ r q, j = ix2 r q := ⟨j 0, j 1, eq_ix2 j⟩
      rw [rowsOf_apply, rowsOf_apply]
      have := hm (ix2 ⟨8 * k + r.val, by omega⟩ q)
      have e : held (A (ix2 0 q)) (b q) (8 * k) (8 * k + r.val) = b q (8 * k + r.val) := held_ge (by omega)
      exact ⟨this.1.trans (re_congr e), this.2.trans (im_congr e)⟩
    have hg := (step3 h1 h2 h4 ht hc hb).congr (Z' := fun j => st (A (ix2 0 (j 1))) (b (j 1)) (8 * k + (j 0).val + 1))
      fun j => groupF (A (ix2 0 (j 1))) (b (j 1)) (8 * k) (j 0)
    rw [st_k0_t1_succ (F := Ideal) Variants.none c bd i arg1 harg1 arg2 harg2 arg3 harg3 arg4 harg4 arg5 harg5 arg6 harg6 arg7 harg7 arg8 harg8 arg9 harg9 arg10 harg10 arg11 harg11 v74 v75 v78 v81 v90 v93 v117 rid v185 v190 v192 v193 G9 G10 (k0_pay51, k0_pay51) ⟨k, hk⟩,
      tripL_eq, tripR_eq]
    refine ⟨fun j => ?_, fun y => ?_⟩
    · have := hg (ix2 7 (j 1))
      obtain ⟨q, rfl⟩ : ∃ q, j = ix2 0 q := ⟨j 1, (eq_ix2 j).trans (congrArg (fun z : Fin 1 => ix2 z (j 1)) (Subsingleton.elim (α := Fin 1) _ _))⟩
      have e : (fun a => ⟨(![7, 0] : Fin 2 → ℕ) a + ((ix2 (0 : Fin 1) q : S1x512.Idx) a).val, by
          match a with
          | ⟨0, _⟩ => exact (by decide : 7 + 0 < 8)
          | ⟨1, _⟩ => show 0 + q.val < 512; omega⟩ : S8x512.Idx) = ix2 7 q := by
        funext a; apply Fin.ext
        match a with
        | ⟨0, _⟩ => rfl
        | ⟨1, _⟩ => show 0 + q.val = q.val; omega
      refine ⟨(congrArg _ e).trans this.1, (congrArg _ e).trans this.2⟩
    · show arg9.view.read (Elt Ideal) (arg9.view.writes (Elt Ideal) G9 (_ :: _)) y = _ ∧
        arg10.view.read (Elt Ideal) (arg10.view.writes (Elt Ideal) G10 (_ :: _)) y = _
      obtain ⟨t, q, rfl⟩ : ∃ t q, y = ix2 t q := ⟨y 0, y 1, eq_ix2 y⟩
      by_cases hin : 8 * k ≤ t.val ∧ t.val < 8 * k + 8
      · have := hg (ix2 ⟨t.val - 8 * k, by omega⟩ q)
        have e : held (A (ix2 0 q)) (b q) (8 * (k + 1)) t.val = st (A (ix2 0 q)) (b q) (8 * k + (t.val - 8 * k) + 1) := by
          rw [held_lt (by omega)]
          congr 1
          omega
        refine ⟨(View.read_writes_cons_rows_of_mem arg9.view G9 _ _ _ (ix2 t q) (ix2 (⟨t.val - 8 * k, by omega⟩ : Fin 8) q) (k0_off1_eq ⟨k, hk⟩)
            (by show t.val = 8 * k + (t.val - 8 * k); omega) rfl).trans (this.1.trans (re_congr e.symm)),
          (View.read_writes_cons_rows_of_mem arg10.view G10 _ _ _ (ix2 t q) (ix2 (⟨t.val - 8 * k, by omega⟩ : Fin 8) q) (k0_off1_eq ⟨k, hk⟩)
            (by show t.val = 8 * k + (t.val - 8 * k); omega) rfl).trans (this.2.trans (im_congr e.symm))⟩
      · have := hm (ix2 t q)
        have e : held (A (ix2 0 q)) (b q) (8 * (k + 1)) t.val = held (A (ix2 0 q)) (b q) (8 * k) t.val := by
          by_cases hlt : t.val < 8 * k
          · rw [held_lt hlt, held_lt (by omega)]
          · rw [held_ge (by omega), held_ge (by omega)]
        refine ⟨(View.read_writes_cons_rows_of_not_mem (W := 8) arg9.view G9 _ _ _ (ix2 t q) (k0_off1_eq ⟨k, hk⟩) rfl
            (by show t.val < 8 * k ∨ 8 * k + 8 ≤ t.val; omega)).trans (this.1.trans (re_congr e.symm)),
          (View.read_writes_cons_rows_of_not_mem (W := 8) arg10.view G10 _ _ _ (ix2 t q) (k0_off1_eq ⟨k, hk⟩) rfl
            (by show t.val < 8 * k ∨ 8 * k + 8 ≤ t.val; omega)).trans (this.2.trans (im_congr e.symm))⟩

end Loop

end S5.Fwd

end

end
-- ==== Proof.FwdOut.lean ====
/-
  What one grid point of the forward scan leaves in its three outputs: the real and the imaginary part of the states,
  and `y`.
-/
module

public import proofs.«01_k».proof.Proof.FwdTrip
public import proofs.«01_k».proof.Proof.Dots
public import Idealize.ShloMosaic.Lib.Pipeline.ReadBack

@[expose] public section

set_option maxRecDepth 16384

noncomputable section

open Idealize.ShloMosaic Idealize.ShloMosaic.TcCoe Idealize.ShloMosaic.Tactic Idealize.SL.Sem Idealize.ShloMosaic.ValueIdx

namespace S5.Fwd

open Cert.KernelIdeal Cert.KernelIdeal.Gen Cert.KernelIdeal.Facts₀

/-- The scan's input in column `q`: `u` times the weights `B`. -/
def inp (U : S2048x128.Idx → ℝ) (B : S512x128.Idx → ℂ) (q : Fin 512) (t : ℕ) : ℂ :=
  if h : t < 2048 then ∑ c : Fin 128, (U (ix2 ⟨t, h⟩ c) : ℂ) * B (ix2 q c) else 0

/-- The product of all rows. -/
def rowsTimes (x : S2048x128.Idx → EReal) (w : S512x128.Idx → EReal) (y : S2048x512.Idx) : EReal :=
  ∑ c : Fin 128, x (ix2 (y 0) c) * w (ix2 (y 1) c)

theorem rowsTimes_inp {x : S2048x128.Idx → EReal} {U : S2048x128.Idx → ℝ} {R I : S512x128.Idx → EReal} {B : S512x128.Idx → ℂ}
    (hx : ∀ j, x j = (U j : EReal)) (hB : IsC R I B) :
    IsC (rowsTimes x R) (rowsTimes x I) (fun y => inp U B (y 1) (y 0).val) := by
  intro y
  obtain ⟨t, q, rfl⟩ : ∃ t q, y = ix2 t q := ⟨y 0, y 1, eq_ix2 y⟩
  have e : inp U B q t.val = ∑ c : Fin 128, (U (ix2 t c) : ℂ) * B (ix2 q c) := dif_pos t.isLt
  have er : rowsTimes x R (ix2 t q) = ((∑ c : Fin 128, U (ix2 t c) * (B (ix2 q c)).re : ℝ) : EReal) :=
    (Finset.sum_congr rfl fun c _ => by rw [hx, (hB _).1]).trans (coe_sum_mul _ _)
  have ei : rowsTimes x I (ix2 t q) = ((∑ c : Fin 128, U (ix2 t c) * (B (ix2 q c)).im : ℝ) : EReal) :=
    (Finset.sum_congr rfl fun c _ => by rw [hx, (hB _).2]).trans (coe_sum_mul _ _)
  refine ⟨er.trans (congrArg _ ?_), ei.trans (congrArg _ ?_)⟩
  · show _ = (inp U B q t.val).re
    rw [e, Complex.re_sum]
    exact Finset.sum_congr rfl fun c _ => (Complex.re_ofReal_mul _ _).symm
  · show _ = (inp U B q t.val).im
    rw [e, Complex.im_sum]
    exact Finset.sum_congr rfl fun c _ => (Complex.im_ofReal_mul _ _).symm

section

variable (c : Dev nD) (i : grid0.Coords)
  (arg1 : Memref sig .tc .vmem S2048x128 .f32) (harg1 : arg1.IsWhole) (arg2 : Memref sig .tc .vmem S512x128 .f32) (harg2 : arg2.IsWhole) (arg3 : Memref sig .tc .vmem S512x128 .f32) (harg3 : arg3.IsWhole)
  (arg4 : Memref sig .tc .vmem S512x128 .f32) (harg4 : arg4.IsWhole) (arg5 : Memref sig .tc .vmem S512x128 .f32) (harg5 : arg5.IsWhole) (arg6 : Memref sig .tc .vmem S1x512 .f32) (harg6 : arg6.IsWhole)
  (arg7 : Memref sig .tc .vmem S1x512 .f32) (harg7 : arg7.IsWhole) (arg8 : Memref sig .tc .vmem S1x128 .f32) (harg8 : arg8.IsWhole) (arg9 : Memref sig .tc .vmem S2048x512 .f32) (harg9 : arg9.IsWhole)
  (arg10 : Memref sig .tc .vmem S2048x512 .f32) (harg10 : arg10.IsWhole) (arg11 : Memref sig .tc .vmem S2048x128 .f32) (harg11 : arg11.IsWhole)
  (x0 : Vec Ideal S2048x128 .f32) (x1 x2 x3 x4 : Vec Ideal S512x128 .f32) (x5 x6 : Vec Ideal S1x512 .f32) (x7 : Vec Ideal S1x128 .f32)

/-- One block of 256 rows of the input. -/
theorem in_piece (o : ℕ) (ho : o + 256 ≤ 2048) (argw : Memref sig .tc .vmem S512x128 .f32) (hw : argw.IsWhole) (w : Vec Ideal S512x128 .f32)
    (f : Vec Ideal S512x128 .f32 → Vec Ideal S256x128 .f32 → FVec Ideal S256x512 .f32) (hf : ∀ w v, f w v = dotNT v w)
    (x : (Rect.unit (s := S2048x512) ![o, 0] S256x512.size (blk 512 o ho)).shape.Idx) :
    f (View.readAt (Elt Ideal) argw.view (Rect.unit (s := S512x128) ![0, 0] S512x128.size Facts₀.inb_S512x128_S512x128_0_0).toLoadRect (hw.unread w))
        (View.readAt (Elt Ideal) arg1.view (Rect.unit (s := S2048x128) ![o, 0] S256x128.size (blk 128 o ho)).toLoadRect (harg1.unread x0)) x
      = rowsTimes x0 w ((Rect.unit (s := S2048x512) ![o, 0] S256x512.size (blk 512 o ho)).emb x) := by
  obtain ⟨r, q, rfl⟩ : ∃ (r : Fin 256) (q : Fin 512), x = ix2 r q := ⟨x 0, x 1, eq_ix2 (n0 := 256) (n1 := 512) x⟩
  rw [hf, load_all]
  refine (dotNT_apply _ _ r q).trans ?_
  have e : (Rect.unit (s := S2048x512) ![o, 0] S256x512.size (blk 512 o ho)).emb (ix2 r q) = ix2 ⟨o + r.val, by omega⟩ q :=
    rows_idx (blk 512 o ho) r q
  rw [e]
  exact Finset.sum_congr rfl fun c _ => congrArg (· * _) (load_rows arg1 (blk 128 o ho) harg1 x0 r c)

/-- The states, as the run leaves them in its two outputs. -/
theorem states {U : S2048x128.Idx → ℝ} {B : S512x128.Idx → ℂ} {A : S1x512.Idx → ℂ} (h0 : ∀ j, x0 j = (U j : EReal)) (hB : IsC x1 x2 B) (hA : IsC x5 x6 A) :
    IsC (out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7)
      (out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7)
      (fun y => st (A (ix2 0 (y 1))) (inp U B (y 1)) ((y 0).val + 1)) := by
  have ha : IsC (View.readAt (Elt Ideal) arg6.view (Rect.unit (s := S1x512) ![0, 0] S1x512.size Facts₀.inb_S1x512_S1x512_0_0).toLoadRect (harg6.unread x5))
      (View.readAt (Elt Ideal) arg7.view (Rect.unit (s := S1x512) ![0, 0] S1x512.size Facts₀.inb_S1x512_S1x512_0_0).toLoadRect (harg7.unread x6)) A := by
    rw [load_all, load_all]; exact hA
  have hpow3 := pow3 ha
  unfold out0_A_8 out0_A_9 kernelRun0_A
  dsimp only
  sl_unfold_words
  rw [View.read_writes_junk_eq_canon, View.read_writes_junk_eq_canon, ← View.read_writes_junk_eq_canon arg9.view,
    ← View.read_writes_junk_eq_canon arg10.view, View.writes_append, View.writes_append]
  refine IsC.congr (loop_inv c none i arg1 harg1 arg2 harg2 arg3 harg3 arg4 harg4 arg5 harg5 arg6 harg6 arg7 harg7 arg8 harg8 arg9 harg9 arg10 harg10 arg11 harg11 ha (pow2 ha) (pow4 ha) (table ha) _ _ (inp U B) ?_ _ (Nat.le_refl _)).2 fun y => ?_
  · rw [View.read_writes_junk_eq_canon, View.read_writes_junk_eq_canon]
    have key := rowsTimes_inp h0 hB
    intro y
    refine ⟨(View.canon_apply_of_pieces (rowsTimes x0 x1) _ (View.PiecesOf.mem ?_) y (View.cover_of_tiledL (s := S2048x512) _ S256x512.size (by sl_kernel_rfl) y)).trans (key y).1,
      (View.canon_apply_of_pieces (rowsTimes x0 x2) _ (View.PiecesOf.mem ?_) y (View.cover_of_tiledL (s := S2048x512) _ S256x512.size (by sl_kernel_rfl) y)).trans (key y).2⟩
    · exact ⟨in_piece arg1 harg1 x0 1792 (by decide) arg2 harg2 x1 k0_pay25 fun _ _ => rfl,
        in_piece arg1 harg1 x0 1536 (by decide) arg2 harg2 x1 k0_pay23 fun _ _ => rfl,
        in_piece arg1 harg1 x0 1280 (by decide) arg2 harg2 x1 k0_pay21 fun _ _ => rfl,
        in_piece arg1 harg1 x0 1024 (by decide) arg2 harg2 x1 k0_pay19 fun _ _ => rfl,
        in_piece arg1 harg1 x0 768 (by decide) arg2 harg2 x1 k0_pay17 fun _ _ => rfl,
        in_piece arg1 harg1 x0 512 (by decide) arg2 harg2 x1 k0_pay15 fun _ _ => rfl,
        in_piece arg1 harg1 x0 256 (by decide) arg2 harg2 x1 k0_pay13 fun _ _ => rfl,
        in_piece arg1 harg1 x0 0 (by decide) arg2 harg2 x1 k0_pay11 fun _ _ => rfl,
        trivial⟩
    · exact ⟨in_piece arg1 harg1 x0 1792 (by decide) arg3 harg3 x2 k0_pay26 fun _ _ => rfl,
        in_piece arg1 harg1 x0 1536 (by decide) arg3 harg3 x2 k0_pay24 fun _ _ => rfl,
        in_piece arg1 harg1 x0 1280 (by decide) arg3 harg3 x2 k0_pay22 fun _ _ => rfl,
        in_piece arg1 harg1 x0 1024 (by decide) arg3 harg3 x2 k0_pay20 fun _ _ => rfl,
        in_piece arg1 harg1 x0 768 (by decide) arg3 harg3 x2 k0_pay18 fun _ _ => rfl,
        in_piece arg1 harg1 x0 512 (by decide) arg3 harg3 x2 k0_pay16 fun _ _ => rfl,
        in_piece arg1 harg1 x0 256 (by decide) arg3 harg3 x2 k0_pay14 fun _ _ => rfl,
        in_piece arg1 harg1 x0 0 (by decide) arg3 harg3 x2 k0_pay12 fun _ _ => rfl,
        trivial⟩
  · have ht : k0_t1_loop.trips = 256 := by decide +kernel
    have hy : (y 0).val < 2048 := (y 0).isLt
    refine held_lt ?_
    rw [ht]; omega

/-- `y` from the states: their real part times `C`, and the `D` term. -/
def outY (xr xi : S2048x512.Idx → EReal) (cr ci : S512x128.Idx → EReal) (d : S1x128.Idx → EReal) (u : S2048x128.Idx → EReal) (y : S2048x128.Idx) : EReal :=
  (∑ p : Fin 512, xr (ix2 (y 0) p) * cr (ix2 p (y 1))) - (∑ p : Fin 512, xi (ix2 (y 0) p) * ci (ix2 p (y 1))) + d (ix2 0 (y 1)) * u y

/-- One block of 256 rows of it, from blocks of the states. -/
def yBlk (cr ci : Vec Ideal S512x128 .f32) (d : Vec Ideal S1x128 .f32) (xr xi : Vec Ideal S256x512 .f32) (u : Vec Ideal S256x128 .f32) : FVec Ideal S256x128 .f32 :=
  addf (subf (dotNN (shapeCast S256x512 xr Facts₀.shapeCasts_S256x512_S256x512) cr) (dotNN (shapeCast S256x512 xi Facts₀.shapeCasts_S256x512_S256x512) ci)) (mulf (broadcastTo S256x128 d Facts₀.broadcasts_S1x128_S256x128) u)

theorem y_piece (o : ℕ) (ho : o + 256 ≤ 2048) (L9 L10 : List (View.Piece (Elt Ideal) S2048x512 .f32))
    (f : Vec Ideal S512x128 .f32 → Vec Ideal S512x128 .f32 → Vec Ideal S1x128 .f32 → Vec Ideal S256x512 .f32 → Vec Ideal S256x512 .f32 → Vec Ideal S256x128 .f32 → FVec Ideal S256x128 .f32)
    (hf : ∀ a b d v w u, f a b d v w u = yBlk a b d v w u)
    (x : (Rect.unit (s := S2048x128) ![o, 0] S256x128.size (blk 128 o ho)).shape.Idx) :
    f (View.readAt (Elt Ideal) arg4.view (Rect.unit (s := S512x128) ![0, 0] S512x128.size Facts₀.inb_S512x128_S512x128_0_0).toLoadRect (harg4.unread x3))
        (View.readAt (Elt Ideal) arg5.view (Rect.unit (s := S512x128) ![0, 0] S512x128.size Facts₀.inb_S512x128_S512x128_0_0).toLoadRect (harg5.unread x4))
        (View.readAt (Elt Ideal) arg8.view (Rect.unit (s := S1x128) ![0, 0] S1x128.size Facts₀.inb_S1x128_S1x128_0_0).toLoadRect (harg8.unread x7))
        (arg9.view.readCov L9 (Rect.unit (s := S2048x512) ![o, 0] S256x512.size (blk 512 o ho)).toLoadRect)
        (arg10.view.readCov L10 (Rect.unit (s := S2048x512) ![o, 0] S256x512.size (blk 512 o ho)).toLoadRect)
        (View.readAt (Elt Ideal) arg1.view (Rect.unit (s := S2048x128) ![o, 0] S256x128.size (blk 128 o ho)).toLoadRect (harg1.unread x0)) x
      = outY (View.canon L9) (View.canon L10) x3 x4 x7 x0 ((Rect.unit (s := S2048x128) ![o, 0] S256x128.size (blk 128 o ho)).emb x) := by
  obtain ⟨r, q, rfl⟩ : ∃ (r : Fin 256) (q : Fin 128), x = ix2 r q := ⟨x 0, x 1, eq_ix2 (n0 := 256) (n1 := 128) x⟩
  have e : (Rect.unit (s := S2048x128) ![o, 0] S256x128.size (blk 128 o ho)).emb (ix2 r q) = ix2 ⟨o + r.val, by omega⟩ q :=
    rows_idx (blk 128 o ho) r q
  rw [hf, e, load_all, load_all, load_all]
  have hd : broadcastTo S256x128 x7 Facts₀.broadcasts_S1x128_S256x128 (ix2 r q) = x7 (ix2 0 q) :=
    broadcastTo_apply x7 _ _ _ (Fin.forall_fin_two.mpr ⟨rfl, rfl⟩)
  unfold yBlk
  rw [shapeCast_self, shapeCast_self]
  show dotNN _ _ (ix2 r q) - dotNN _ _ (ix2 r q) + broadcastTo S256x128 x7 Facts₀.broadcasts_S1x128_S256x128 (ix2 r q) * _ = _
  rw [hd, dotNN_apply, dotNN_apply, load_rows arg1 (blk 128 o ho) harg1 x0 r q]
  refine congrArg₂ (· + ·) (congrArg₂ (· - ·) ?_ ?_) rfl
  · exact Finset.sum_congr rfl fun p _ => congrArg (· * _) (load_rows_cov arg9 (blk 512 o ho) L9 r p)
  · exact Finset.sum_congr rfl fun p _ => congrArg (· * _) (load_rows_cov arg10 (blk 512 o ho) L10 r p)

/-- The eight stores of `y`. -/
def yStores (L9 L10 : List (View.Piece (Elt Ideal) S2048x512 .f32)) : List (View.Piece (Elt Ideal) S2048x128 .f32) :=
  [⟨Rect.unit (s := S2048x128) ![1792, 0] S256x128.size (blk 128 1792 (by decide)), (fun a b d v w u => k0_pay72 a b d v w u) (View.readAt (Elt Ideal) arg4.view (Rect.unit (s := S512x128) ![0, 0] S512x128.size Facts₀.inb_S512x128_S512x128_0_0).toLoadRect (harg4.unread x3)) (View.readAt (Elt Ideal) arg5.view (Rect.unit (s := S512x128) ![0, 0] S512x128.size Facts₀.inb_S512x128_S512x128_0_0).toLoadRect (harg5.unread x4)) (View.readAt (Elt Ideal) arg8.view (Rect.unit (s := S1x128) ![0, 0] S1x128.size Facts₀.inb_S1x128_S1x128_0_0).toLoadRect (harg8.unread x7)) (arg9.view.readCov L9 (Rect.unit (s := S2048x512) ![1792, 0] S256x512.size (blk 512 1792 (by decide))).toLoadRect) (arg10.view.readCov L10 (Rect.unit (s := S2048x512) ![1792, 0] S256x512.size (blk 512 1792 (by decide))).toLoadRect) (View.readAt (Elt Ideal) arg1.view (Rect.unit (s := S2048x128) ![1792, 0] S256x128.size (blk 128 1792 (by decide))).toLoadRect (harg1.unread x0))⟩,
        ⟨Rect.unit (s := S2048x128) ![1536, 0] S256x128.size (blk 128 1536 (by decide)), (fun a b d v w u => k0_pay71 a b d v w u) (View.readAt (Elt Ideal) arg4.view (Rect.unit (s := S512x128) ![0, 0] S512x128.size Facts₀.inb_S512x128_S512x128_0_0).toLoadRect (harg4.unread x3)) (View.readAt (Elt Ideal) arg5.view (Rect.unit (s := S512x128) ![0, 0] S512x128.size Facts₀.inb_S512x128_S512x128_0_0).toLoadRect (harg5.unread x4)) (View.readAt (Elt Ideal) arg8.view (Rect.unit (s := S1x128) ![0, 0] S1x128.size Facts₀.inb_S1x128_S1x128_0_0).toLoadRect (harg8.unread x7)) (arg9.view.readCov L9 (Rect.unit (s := S2048x512) ![1536, 0] S256x512.size (blk 512 1536 (by decide))).toLoadRect) (arg10.view.readCov L10 (Rect.unit (s := S2048x512) ![1536, 0] S256x512.size (blk 512 1536 (by decide))).toLoadRect) (View.readAt (Elt Ideal) arg1.view (Rect.unit (s := S2048x128) ![1536, 0] S256x128.size (blk 128 1536 (by decide))).toLoadRect (harg1.unread x0))⟩,
        ⟨Rect.unit (s := S2048x128) ![1280, 0] S256x128.size (blk 128 1280 (by decide)), (fun a b d v w u => k0_pay70 d (k0_pay69 a b v w) u) (View.readAt (Elt Ideal) arg4.view (Rect.unit (s := S512x128) ![0, 0] S512x128.size Facts₀.inb_S512x128_S512x128_0_0).toLoadRect (harg4.unread x3)) (View.readAt (Elt Ideal) arg5.view (Rect.unit (s := S512x128) ![0, 0] S512x128.size Facts₀.inb_S512x128_S512x128_0_0).toLoadRect (harg5.unread x4)) (View.readAt (Elt Ideal) arg8.view (Rect.unit (s := S1x128) ![0, 0] S1x128.size Facts₀.inb_S1x128_S1x128_0_0).toLoadRect (harg8.unread x7)) (arg9.view.readCov L9 (Rect.unit (s := S2048x512) ![1280, 0] S256x512.size (blk 512 1280 (by decide))).toLoadRect) (arg10.view.readCov L10 (Rect.unit (s := S2048x512) ![1280, 0] S256x512.size (blk 512 1280 (by decide))).toLoadRect) (View.readAt (Elt Ideal) arg1.view (Rect.unit (s := S2048x128) ![1280, 0] S256x128.size (blk 128 1280 (by decide))).toLoadRect (harg1.unread x0))⟩,
        ⟨Rect.unit (s := S2048x128) ![1024, 0] S256x128.size (blk 128 1024 (by decide)), (fun a b d v w u => k0_pay68 a b d v w u) (View.readAt (Elt Ideal) arg4.view (Rect.unit (s := S512x128) ![0, 0] S512x128.size Facts₀.inb_S512x128_S512x128_0_0).toLoadRect (harg4.unread x3)) (View.readAt (Elt Ideal) arg5.view (Rect.unit (s := S512x128) ![0, 0] S512x128.size Facts₀.inb_S512x128_S512x128_0_0).toLoadRect (harg5.unread x4)) (View.readAt (Elt Ideal) arg8.view (Rect.unit (s := S1x128) ![0, 0] S1x128.size Facts₀.inb_S1x128_S1x128_0_0).toLoadRect (harg8.unread x7)) (arg9.view.readCov L9 (Rect.unit (s := S2048x512) ![1024, 0] S256x512.size (blk 512 1024 (by decide))).toLoadRect) (arg10.view.readCov L10 (Rect.unit (s := S2048x512) ![1024, 0] S256x512.size (blk 512 1024 (by decide))).toLoadRect) (View.readAt (Elt Ideal) arg1.view (Rect.unit (s := S2048x128) ![1024, 0] S256x128.size (blk 128 1024 (by decide))).toLoadRect (harg1.unread x0))⟩,
        ⟨Rect.unit (s := S2048x128) ![768, 0] S256x128.size (blk 128 768 (by decide)), (fun a b d v w u => k0_pay67 d (k0_pay64 a v) (k0_pay65 w) (k0_pay66 b) u) (View.readAt (Elt Ideal) arg4.view (Rect.unit (s := S512x128) ![0, 0] S512x128.size Facts₀.inb_S512x128_S512x128_0_0).toLoadRect (harg4.unread x3)) (View.readAt (Elt Ideal) arg5.view (Rect.unit (s := S512x128) ![0, 0] S512x128.size Facts₀.inb_S512x128_S512x128_0_0).toLoadRect (harg5.unread x4)) (View.readAt (Elt Ideal) arg8.view (Rect.unit (s := S1x128) ![0, 0] S1x128.size Facts₀.inb_S1x128_S1x128_0_0).toLoadRect (harg8.unread x7)) (arg9.view.readCov L9 (Rect.unit (s := S2048x512) ![768, 0] S256x512.size (blk 512 768 (by decide))).toLoadRect) (arg10.view.readCov L10 (Rect.unit (s := S2048x512) ![768, 0] S256x512.size (blk 512 768 (by decide))).toLoadRect) (View.readAt (Elt Ideal) arg1.view (Rect.unit (s := S2048x128) ![768, 0] S256x128.size (blk 128 768 (by decide))).toLoadRect (harg1.unread x0))⟩,
        ⟨Rect.unit (s := S2048x128) ![512, 0] S256x128.size (blk 128 512 (by decide)), (fun a b d v w u => k0_pay63 a b d v w u) (View.readAt (Elt Ideal) arg4.view (Rect.unit (s := S512x128) ![0, 0] S512x128.size Facts₀.inb_S512x128_S512x128_0_0).toLoadRect (harg4.unread x3)) (View.readAt (Elt Ideal) arg5.view (Rect.unit (s := S512x128) ![0, 0] S512x128.size Facts₀.inb_S512x128_S512x128_0_0).toLoadRect (harg5.unread x4)) (View.readAt (Elt Ideal) arg8.view (Rect.unit (s := S1x128) ![0, 0] S1x128.size Facts₀.inb_S1x128_S1x128_0_0).toLoadRect (harg8.unread x7)) (arg9.view.readCov L9 (Rect.unit (s := S2048x512) ![512, 0] S256x512.size (blk 512 512 (by decide))).toLoadRect) (arg10.view.readCov L10 (Rect.unit (s := S2048x512) ![512, 0] S256x512.size (blk 512 512 (by decide))).toLoadRect) (View.readAt (Elt Ideal) arg1.view (Rect.unit (s := S2048x128) ![512, 0] S256x128.size (blk 128 512 (by decide))).toLoadRect (harg1.unread x0))⟩,
        ⟨Rect.unit (s := S2048x128) ![256, 0] S256x128.size (blk 128 256 (by decide)), (fun a b d v w u => k0_pay62 b d (k0_pay61 a v) w u) (View.readAt (Elt Ideal) arg4.view (Rect.unit (s := S512x128) ![0, 0] S512x128.size Facts₀.inb_S512x128_S512x128_0_0).toLoadRect (harg4.unread x3)) (View.readAt (Elt Ideal) arg5.view (Rect.unit (s := S512x128) ![0, 0] S512x128.size Facts₀.inb_S512x128_S512x128_0_0).toLoadRect (harg5.unread x4)) (View.readAt (Elt Ideal) arg8.view (Rect.unit (s := S1x128) ![0, 0] S1x128.size Facts₀.inb_S1x128_S1x128_0_0).toLoadRect (harg8.unread x7)) (arg9.view.readCov L9 (Rect.unit (s := S2048x512) ![256, 0] S256x512.size (blk 512 256 (by decide))).toLoadRect) (arg10.view.readCov L10 (Rect.unit (s := S2048x512) ![256, 0] S256x512.size (blk 512 256 (by decide))).toLoadRect) (View.readAt (Elt Ideal) arg1.view (Rect.unit (s := S2048x128) ![256, 0] S256x128.size (blk 128 256 (by decide))).toLoadRect (harg1.unread x0))⟩,
        ⟨Rect.unit (s := S2048x128) ![0, 0] S256x128.size (blk 128 0 (by decide)), (fun a b d v w u => k0_pay60 a b d v w u) (View.readAt (Elt Ideal) arg4.view (Rect.unit (s := S512x128) ![0, 0] S512x128.size Facts₀.inb_S512x128_S512x128_0_0).toLoadRect (harg4.unread x3)) (View.readAt (Elt Ideal) arg5.view (Rect.unit (s := S512x128) ![0, 0] S512x128.size Facts₀.inb_S512x128_S512x128_0_0).toLoadRect (harg5.unread x4)) (View.readAt (Elt Ideal) arg8.view (Rect.unit (s := S1x128) ![0, 0] S1x128.size Facts₀.inb_S1x128_S1x128_0_0).toLoadRect (harg8.unread x7)) (arg9.view.readCov L9 (Rect.unit (s := S2048x512) ![0, 0] S256x512.size (blk 512 0 (by decide))).toLoadRect) (arg10.view.readCov L10 (Rect.unit (s := S2048x512) ![0, 0] S256x512.size (blk 512 0 (by decide))).toLoadRect) (View.readAt (Elt Ideal) arg1.view (Rect.unit (s := S2048x128) ![0, 0] S256x128.size (blk 128 0 (by decide))).toLoadRect (harg1.unread x0))⟩]

theorem y_stores : (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7).2.2.1 = yStores arg1 harg1 arg4 harg4 arg5 harg5 arg8 harg8 arg9 arg10 x0 x3 x4 x7 (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7).1 (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7).2.1 := by
  unfold kernelRun0_A
  rfl

/-- `y`, as the run leaves it in its output. -/
theorem y_out :
    out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7
      = outY (out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7) (out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7) x3 x4 x7 x0 := by
  have e8 : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 = View.canon (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7).1 := View.read_writes_junk_eq_canon _ _
  have e9 : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 = View.canon (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7).2.1 := View.read_writes_junk_eq_canon _ _
  have e10 : out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 = View.canon (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7).2.2.1 := View.read_writes_junk_eq_canon _ _
  rw [e8, e9, e10, y_stores]
  funext y
  refine View.canon_apply_of_pieces _ _ (View.PiecesOf.mem ?_) y (View.cover_of_tiledL (s := S2048x128) _ S256x128.size (by sl_kernel_rfl) y)
  exact ⟨y_piece arg1 harg1 arg4 harg4 arg5 harg5 arg8 harg8 arg9 arg10 x0 x3 x4 x7 1792 (by decide) _ _ (fun a b d v w u => k0_pay72 a b d v w u) (fun _ _ _ _ _ _ => rfl), y_piece arg1 harg1 arg4 harg4 arg5 harg5 arg8 harg8 arg9 arg10 x0 x3 x4 x7 1536 (by decide) _ _ (fun a b d v w u => k0_pay71 a b d v w u) (fun _ _ _ _ _ _ => rfl), y_piece arg1 harg1 arg4 harg4 arg5 harg5 arg8 harg8 arg9 arg10 x0 x3 x4 x7 1280 (by decide) _ _ (fun a b d v w u => k0_pay70 d (k0_pay69 a b v w) u) (fun _ _ _ _ _ _ => rfl), y_piece arg1 harg1 arg4 harg4 arg5 harg5 arg8 harg8 arg9 arg10 x0 x3 x4 x7 1024 (by decide) _ _ (fun a b d v w u => k0_pay68 a b d v w u) (fun _ _ _ _ _ _ => rfl), y_piece arg1 harg1 arg4 harg4 arg5 harg5 arg8 harg8 arg9 arg10 x0 x3 x4 x7 768 (by decide) _ _ (fun a b d v w u => k0_pay67 d (k0_pay64 a v) (k0_pay65 w) (k0_pay66 b) u) (fun _ _ _ _ _ _ => rfl), y_piece arg1 harg1 arg4 harg4 arg5 harg5 arg8 harg8 arg9 arg10 x0 x3 x4 x7 512 (by decide) _ _ (fun a b d v w u => k0_pay63 a b d v w u) (fun _ _ _ _ _ _ => rfl), y_piece arg1 harg1 arg4 harg4 arg5 harg5 arg8 harg8 arg9 arg10 x0 x3 x4 x7 256 (by decide) _ _ (fun a b d v w u => k0_pay62 b d (k0_pay61 a v) w u) (fun _ _ _ _ _ _ => rfl), y_piece arg1 harg1 arg4 harg4 arg5 harg5 arg8 harg8 arg9 arg10 x0 x3 x4 x7 0 (by decide) _ _ (fun a b d v w u => k0_pay60 a b d v w u) (fun _ _ _ _ _ _ => rfl), trivial⟩

end

end S5.Fwd

end

end
-- ==== Proof.BwdOut.lean ====
/-
  What the backward kernel leaves in its eight outputs at one grid point.
-/
module

public import proofs.«01_k».proof.Proof.BwdStores
public import proofs.«01_k».proof.Proof.FwdOut

@[expose] public section

set_option maxRecDepth 16384

noncomputable section

open Idealize.ShloMosaic Idealize.ShloMosaic.TcCoe Idealize.ShloMosaic.Tactic Idealize.SL.Sem Idealize.ShloMosaic.ValueIdx

namespace S5.Bwd

open Cert.KernelIdeal Cert.KernelIdeal.Gen Cert.KernelIdeal.Facts₀

/-- The cotangent of the states, last row first: the cotangent of `y` times the conjugate of `C`. -/
def cot (Dy : S2048x128.Idx → ℝ) (C : S512x128.Idx → ℂ) (q : Fin 512) (s : ℕ) : ℂ := (starRingEnd ℂ) (Fwd.inp Dy C q (2047 - s))

/-- The cotangent that reaches the state of row `t`: the recurrence run from the last row down to it. -/
def lam (A : S1x512.Idx → ℂ) (Dy : S2048x128.Idx → ℝ) (C : S512x128.Idx → ℂ) (q : Fin 512) (t : ℕ) : ℂ :=
  st ((starRingEnd ℂ) (A (ix2 0 q))) (cot Dy C q) (2048 - t)

/-- Zero less the product of all rows. -/
def negRows (x : S2048x128.Idx → EReal) (w : S512x128.Idx → EReal) (y : S2048x512.Idx) : EReal := 0 - Fwd.rowsTimes x w y

/-- The gradient of `u`: the cotangents times `B`, real and imaginary parts, and the `D` term. -/
def outDu (lr li : S2048x512.Idx → EReal) (br bi : S512x128.Idx → EReal) (d : S1x128.Idx → EReal) (dy : S2048x128.Idx → EReal) (y : S2048x128.Idx) : EReal :=
  (∑ p : Fin 512, lr (ix2 (y 0) p) * br (ix2 p (y 1))) + (∑ p : Fin 512, li (ix2 (y 0) p) * bi (ix2 p (y 1))) + d (ix2 0 (y 1)) * dy y

/-- One block of 256 rows of it. -/
def duBlk (br bi : Vec Ideal S512x128 .f32) (d : Vec Ideal S1x128 .f32) (lr li : Vec Ideal S256x512 .f32) (dy : Vec Ideal S256x128 .f32) : FVec Ideal S256x128 .bf16 :=
  truncf .bf16 (addf (addf (dotNN lr br) (dotNN li bi)) (mulf (broadcastTo S256x128 d Facts₀.broadcasts_S1x128_S256x128) dy)) Facts₀.bitsLt_bf16_f32

theorem add8 {S : Shape} (z b0 b1 b2 b3 b4 b5 b6 b7 : FVec Ideal S .f32) (y : S.Idx) :
    (addf (addf (addf (addf (addf (addf (addf (addf z b0) b1) b2) b3) b4) b5) b6) b7 : FVec Ideal S .f32) y
      = (z y + b0 y + b1 y + b2 y + b3 y + b4 y + b5 y + b6 y + b7 y : EReal) := rfl

theorem sub8 {S : Shape} (z b0 b1 b2 b3 b4 b5 b6 b7 : FVec Ideal S .f32) (y : S.Idx) :
    (subf (subf (subf (subf (subf (subf (subf (subf z b0) b1) b2) b3) b4) b5) b6) b7 : FVec Ideal S .f32) y
      = (z y - b0 y - b1 y - b2 y - b3 y - b4 y - b5 y - b6 y - b7 y : EReal) := rfl

section Acc

variable (l0 l1 l2 l3 l4 l5 l6 l7 : Vec Ideal S256x512 .f32) (w0 w1 w2 w3 w4 w5 w6 w7 v0 v1 v2 v3 v4 v5 v6 v7 : Vec Ideal S256x128 .f32)

theorem acc12 : k1_pay116 (k1_pay112 (k1_pay104 (k1_pay99 (k1_pay94 (k1_pay89 (F := Ideal)) w0 (k1_pay92 l0) l1 w1) l2 w2) (k1_pay102 l3 w3) l4 w4) l5 w5 l6 w6) l7 w7
    = (addf (addf (addf (addf (addf (addf (addf (addf (constant (F := Ideal) S512x128 .f32 0x00000000#32) (dotTN l0 w0)) (dotTN l1 w1)) (dotTN l2 w2)) (dotTN l3 w3)) (dotTN l4 w4)) (dotTN l5 w5)) (dotTN l6 w6)) (dotTN l7 w7)) := rfl

theorem acc13 : k1_pay117 (k1_pay110 (k1_pay105 (k1_pay100 (k1_pay95 (k1_pay90 (F := Ideal)) l0 w0 l1 w1) l2 w2) l3 w3 l4 w4) l5 w5) (k1_pay113 l6) (k1_pay114 w6) l7 w7
    = (addf (addf (addf (addf (addf (addf (addf (addf (constant (F := Ideal) S512x128 .f32 0x00000000#32) (dotTN l0 w0)) (dotTN l1 w1)) (dotTN l2 w2)) (dotTN l3 w3)) (dotTN l4 w4)) (dotTN l5 w5)) (dotTN l6 w6)) (dotTN l7 w7)) := rfl

theorem acc14 : k1_pay56 (k1_pay51 (k1_pay42 (k1_pay35 (k1_pay29 (k1_pay24 (k1_pay20 w0 l0) w1 l1) w2 l2) w3 l3) w4 l4) w5 l5 w6 l6) w7 l7
    = (addf (addf (addf (addf (addf (addf (addf (addf (constant (F := Ideal) S512x128 .f32 0x00000000#32) (dotTN l0 w0)) (dotTN l1 w1)) (dotTN l2 w2)) (dotTN l3 w3)) (dotTN l4 w4)) (dotTN l5 w5)) (dotTN l6 w6)) (dotTN l7 w7)) := by
  refine Eq.trans (b := (addf (addf (addf (addf (addf (addf (addf (addf (constant (F := Ideal) S512x128 .f32 0x00000000#32) (dotTN (shapeCast S256x512 l0 Facts₀.shapeCasts_S256x512_S256x512) w0)) (dotTN (shapeCast S256x512 l1 Facts₀.shapeCasts_S256x512_S256x512) w1)) (dotTN (shapeCast S256x512 l2 Facts₀.shapeCasts_S256x512_S256x512) w2)) (dotTN (shapeCast S256x512 l3 Facts₀.shapeCasts_S256x512_S256x512) w3)) (dotTN (shapeCast S256x512 l4 Facts₀.shapeCasts_S256x512_S256x512) w4)) (dotTN (shapeCast S256x512 l5 Facts₀.shapeCasts_S256x512_S256x512) w5)) (dotTN (shapeCast S256x512 l6 Facts₀.shapeCasts_S256x512_S256x512) w6)) (dotTN (shapeCast S256x512 l7 Facts₀.shapeCasts_S256x512_S256x512) w7))) rfl ?_
  simp only [shapeCast_self]

theorem acc15 : k1_pay58 (k1_pay52 (k1_pay47 (k1_pay43 (k1_pay36 (k1_pay30 (k1_pay25 (k1_pay21 w0 l0) w1 l1) w2 l2) w3 l3) w4 l4) w5 l5) w6 l6) (k1_pay57 w7 l7)
    = (subf (subf (subf (subf (subf (subf (subf (subf (constant (F := Ideal) S512x128 .f32 0x00000000#32) (dotTN l0 w0)) (dotTN l1 w1)) (dotTN l2 w2)) (dotTN l3 w3)) (dotTN l4 w4)) (dotTN l5 w5)) (dotTN l6 w6)) (dotTN l7 w7)) := by
  refine Eq.trans (b := (subf (subf (subf (subf (subf (subf (subf (subf (constant (F := Ideal) S512x128 .f32 0x00000000#32) (dotTN (shapeCast S256x512 l0 Facts₀.shapeCasts_S256x512_S256x512) w0)) (dotTN (shapeCast S256x512 l1 Facts₀.shapeCasts_S256x512_S256x512) w1)) (dotTN (shapeCast S256x512 l2 Facts₀.shapeCasts_S256x512_S256x512) w2)) (dotTN (shapeCast S256x512 l3 Facts₀.shapeCasts_S256x512_S256x512) w3)) (dotTN (shapeCast S256x512 l4 Facts₀.shapeCasts_S256x512_S256x512) w4)) (dotTN (shapeCast S256x512 l5 Facts₀.shapeCasts_S256x512_S256x512) w5)) (dotTN (shapeCast S256x512 l6 Facts₀.shapeCasts_S256x512_S256x512) w6)) (dotTN (shapeCast S256x512 l7 Facts₀.shapeCasts_S256x512_S256x512) w7))) rfl ?_
  simp only [shapeCast_self]

theorem acc18 : k1_pay59 (k1_pay53 (k1_pay48 (k1_pay44 (k1_pay37 (k1_pay31 (k1_pay26 (k1_pay17 (F := Ideal)) v0 w0 v1 w1) v2 w2) v3 w3) v4 w4) v5 w5) v6 w6) v7 w7
    = (addf (addf (addf (addf (addf (addf (addf (addf (constant (F := Ideal) S1x128 .f32 0x00000000#32) (shapeCast S1x128 (multiReduction (F := Ideal) (φ := .f32) .add [0] S128 (mulf v0 w0) 0x00000000#32 Facts₀.reduces_S256x128_S128 (.inl rfl) rfl) Facts₀.shapeCasts_S128_S1x128)) (shapeCast S1x128 (multiReduction (F := Ideal) (φ := .f32) .add [0] S128 (mulf v1 w1) 0x00000000#32 Facts₀.reduces_S256x128_S128 (.inl rfl) rfl) Facts₀.shapeCasts_S128_S1x128)) (shapeCast S1x128 (multiReduction (F := Ideal) (φ := .f32) .add [0] S128 (mulf v2 w2) 0x00000000#32 Facts₀.reduces_S256x128_S128 (.inl rfl) rfl) Facts₀.shapeCasts_S128_S1x128)) (shapeCast S1x128 (multiReduction (F := Ideal) (φ := .f32) .add [0] S128 (mulf v3 w3) 0x00000000#32 Facts₀.reduces_S256x128_S128 (.inl rfl) rfl) Facts₀.shapeCasts_S128_S1x128)) (shapeCast S1x128 (multiReduction (F := Ideal) (φ := .f32) .add [0] S128 (mulf v4 w4) 0x00000000#32 Facts₀.reduces_S256x128_S128 (.inl rfl) rfl) Facts₀.shapeCasts_S128_S1x128)) (shapeCast S1x128 (multiReduction (F := Ideal) (φ := .f32) .add [0] S128 (mulf v5 w5) 0x00000000#32 Facts₀.reduces_S256x128_S128 (.inl rfl) rfl) Facts₀.shapeCasts_S128_S1x128)) (shapeCast S1x128 (multiReduction (F := Ideal) (φ := .f32) .add [0] S128 (mulf v6 w6) 0x00000000#32 Facts₀.reduces_S256x128_S128 (.inl rfl) rfl) Facts₀.shapeCasts_S128_S1x128)) (shapeCast S1x128 (multiReduction (F := Ideal) (φ := .f32) .add [0] S128 (mulf v7 w7) 0x00000000#32 Facts₀.reduces_S256x128_S128 (.inl rfl) rfl) Facts₀.shapeCasts_S128_S1x128)) := rfl

end Acc

section

variable (c : Dev nD) (i : grid1.Coords)
  (arg1 : Memref sig .tc .vmem S2048x128 .f32) (harg1 : arg1.IsWhole) (arg2 : Memref sig .tc .vmem S2048x128 .f32) (harg2 : arg2.IsWhole) (arg3 : Memref sig .tc .vmem S2048x512 .f32) (harg3 : arg3.IsWhole)
  (arg4 : Memref sig .tc .vmem S2048x512 .f32) (harg4 : arg4.IsWhole) (arg5 : Memref sig .tc .vmem S512x128 .f32) (harg5 : arg5.IsWhole) (arg6 : Memref sig .tc .vmem S512x128 .f32) (harg6 : arg6.IsWhole)
  (arg7 : Memref sig .tc .vmem S512x128 .f32) (harg7 : arg7.IsWhole) (arg8 : Memref sig .tc .vmem S512x128 .f32) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x128 .f32) (harg11 : arg11.IsWhole) (arg12 : Memref sig .tc .vmem S2048x128 .bf16) (harg12 : arg12.IsWhole)
  (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
  (arg16 : Memref sig .tc .vmem S512x128 .f32) (harg16 : arg16.IsWhole) (arg17 : Memref sig .tc .vmem S1x512 .f32) (harg17 : arg17.IsWhole) (arg18 : Memref sig .tc .vmem S1x512 .f32) (harg18 : arg18.IsWhole)
  (arg19 : Memref sig .tc .vmem S1x128 .f32) (harg19 : arg19.IsWhole) (arg20 : Memref sig .tc .vmem S2048x512 .f32) (harg20 : arg20.IsWhole) (arg21 : Memref sig .tc .vmem S2048x512 .f32) (harg21 : arg21.IsWhole)
  (x0 x1 : Vec Ideal S2048x128 .f32) (x2 x3 : Vec Ideal S2048x512 .f32) (x4 x5 x6 x7 : Vec Ideal S512x128 .f32) (x8 x9 : Vec Ideal S1x512 .f32) (x10 : Vec Ideal S1x128 .f32)

theorem preR_piece (o : ℕ) (ho : o + 256 ≤ 2048)
    (f : Vec Ideal S512x128 .f32 → Vec Ideal S256x128 .f32 → FVec Ideal S256x512 .f32) (hf : ∀ w v, f w v = shapeCast S256x512 (dotNT v w) Facts₀.shapeCasts_S256x512_S256x512)
    (x : (Rect.unit (s := S2048x512) ![o, 0] S256x512.size (blk 512 o ho)).shape.Idx) :
    f (View.readAt (Elt Ideal) arg7.view (Rect.unit (s := S512x128) ![0, 0] S512x128.size Facts₀.inb_S512x128_S512x128_0_0).toLoadRect (harg7.unread x6)) (ld arg1 harg1 x0 o ho) x
      = Fwd.rowsTimes x0 x6 ((Rect.unit (s := S2048x512) ![o, 0] S256x512.size (blk 512 o ho)).emb x) := by
  obtain ⟨r, q, rfl⟩ : ∃ (r : Fin 256) (q : Fin 512), x = ix2 r q := ⟨x 0, x 1, eq_ix2 (n0 := 256) (n1 := 512) x⟩
  rw [hf, load_all, shapeCast_self]
  refine (dotNT_apply _ _ r q).trans ?_
  have e : (Rect.unit (s := S2048x512) ![o, 0] S256x512.size (blk 512 o ho)).emb (ix2 r q) = ix2 ⟨o + r.val, by omega⟩ q :=
    rows_idx (blk 512 o ho) r q
  rw [e]
  exact Finset.sum_congr rfl fun c _ => congrArg (· * _) (load_rows arg1 (blk 128 o ho) harg1 x0 r c)

theorem preI_piece (o : ℕ) (ho : o + 256 ≤ 2048)
    (f : Vec Ideal S512x128 .f32 → Vec Ideal S256x128 .f32 → FVec Ideal S256x512 .f32)
    (hf : ∀ w v, f w v = shapeCast S256x512 (subf (constant (F := Ideal) S256x512 .f32 0x00000000#32) (dotNT v w)) Facts₀.shapeCasts_S256x512_S256x512)
    (x : (Rect.unit (s := S2048x512) ![o, 0] S256x512.size (blk 512 o ho)).shape.Idx) :
    f (View.readAt (Elt Ideal) arg8.view (Rect.unit (s := S512x128) ![0, 0] S512x128.size Facts₀.inb_S512x128_S512x128_0_0).toLoadRect (harg8.unread x7)) (ld arg1 harg1 x0 o ho) x
      = negRows x0 x7 ((Rect.unit (s := S2048x512) ![o, 0] S256x512.size (blk 512 o ho)).emb x) := by
  obtain ⟨r, q, rfl⟩ : ∃ (r : Fin 256) (q : Fin 512), x = ix2 r q := ⟨x 0, x 1, eq_ix2 (n0 := 256) (n1 := 512) x⟩
  rw [hf, load_all, shapeCast_self]
  have e : (Rect.unit (s := S2048x512) ![o, 0] S256x512.size (blk 512 o ho)).emb (ix2 r q) = ix2 ⟨o + r.val, by omega⟩ q :=
    rows_idx (blk 512 o ho) r q
  rw [e]
  refine congrArg₂ (· - ·) (zero_const (ix2 r q)) ((dotNT_apply _ _ r q).trans ?_)
  exact Finset.sum_congr rfl fun c _ => congrArg (· * _) (load_rows arg1 (blk 128 o ho) harg1 x0 r c)

/-- The input of the recurrence, as memory holds it before the loop. -/
theorem pre_input {Dy : S2048x128.Idx → ℝ} {C : S512x128.Idx → ℂ} (h0 : ∀ j, x0 j = (Dy j : EReal)) (hC : IsC x6 x7 C) :
    IsC (View.canon (preR arg1 harg1 arg7 harg7 x0 x6)) (View.canon (preI arg1 harg1 arg8 harg8 x0 x7)) (fun y => cot Dy C (y 1) (2047 - (y 0).val)) := by
  intro y
  have key := Fwd.rowsTimes_inp h0 hC y
  have hy : (y 0).val < 2048 := (y 0).isLt
  have e : cot Dy C (y 1) (2047 - (y 0).val) = (starRingEnd ℂ) (Fwd.inp Dy C (y 1) (y 0).val) := by
    unfold cot
    rw [show 2047 - (2047 - (y 0).val) = (y 0).val by omega]
  have er : View.canon (preR arg1 harg1 arg7 harg7 x0 x6) y = Fwd.rowsTimes x0 x6 y :=
    by
    refine View.canon_apply_of_pieces (Val := Elt Ideal) (e := .f32) (Fwd.rowsTimes x0 x6) _ (View.PiecesOf.mem ?_) y (View.cover_of_tiledL (s := S2048x512) _ S256x512.size (by sl_kernel_rfl) y)
    exact ⟨preR_piece arg1 harg1 arg7 harg7 x0 x6 1792 (by decide) k1_pay54 (fun _ _ => rfl), preR_piece arg1 harg1 arg7 harg7 x0 x6 1536 (by decide) k1_pay49 (fun _ _ => rfl), preR_piece arg1 harg1 arg7 harg7 x0 x6 1280 (by decide) k1_pay45 (fun _ _ => rfl), preR_piece arg1 harg1 arg7 harg7 x0 x6 1024 (by decide) k1_pay38 (fun _ _ => rfl), preR_piece arg1 harg1 arg7 harg7 x0 x6 768 (by decide) (fun w v => k1_pay33 (k1_pay32 w v)) (fun _ _ => rfl), preR_piece arg1 harg1 arg7 harg7 x0 x6 512 (by decide) k1_pay27 (fun _ _ => rfl), preR_piece arg1 harg1 arg7 harg7 x0 x6 256 (by decide) k1_pay22 (fun _ _ => rfl), preR_piece arg1 harg1 arg7 harg7 x0 x6 0 (by decide) k1_pay18 (fun _ _ => rfl), trivial⟩
  have ei : View.canon (preI arg1 harg1 arg8 harg8 x0 x7) y = 0 - Fwd.rowsTimes x0 x7 y :=
    by
    refine View.canon_apply_of_pieces (Val := Elt Ideal) (e := .f32) (negRows x0 x7) _ (View.PiecesOf.mem ?_) y (View.cover_of_tiledL (s := S2048x512) _ S256x512.size (by sl_kernel_rfl) y)
    exact ⟨preI_piece arg1 harg1 arg8 harg8 x0 x7 1792 (by decide) k1_pay55 (fun _ _ => rfl), preI_piece arg1 harg1 arg8 harg8 x0 x7 1536 (by decide) k1_pay50 (fun _ _ => rfl), preI_piece arg1 harg1 arg8 harg8 x0 x7 1280 (by decide) k1_pay46 (fun _ _ => rfl), preI_piece arg1 harg1 arg8 harg8 x0 x7 1024 (by decide) (fun w v => k1_pay41 (k1_pay39 w v) k1_pay40) (fun _ _ => rfl), preI_piece arg1 harg1 arg8 harg8 x0 x7 768 (by decide) k1_pay34 (fun _ _ => rfl), preI_piece arg1 harg1 arg8 harg8 x0 x7 512 (by decide) k1_pay28 (fun _ _ => rfl), preI_piece arg1 harg1 arg8 harg8 x0 x7 256 (by decide) k1_pay23 (fun _ _ => rfl), preI_piece arg1 harg1 arg8 harg8 x0 x7 0 (by decide) k1_pay19 (fun _ _ => rfl), trivial⟩
  refine ⟨er.trans (key.1.trans ?_), ei.trans ?_⟩
  · show _ = (((cot Dy C (y 1) (2047 - (y 0).val)).re : ℝ) : EReal)
    rw [e]; rfl
  · show _ = (((cot Dy C (y 1) (2047 - (y 0).val)).im : ℝ) : EReal)
    rw [e, key.2, zero_sub]; rfl

section Loop

variable {A : S1x512.Idx → ℂ} {Dy : S2048x128.Idx → ℝ} {C : S512x128.Idx → ℂ} {x : Fin 512 → ℕ → ℂ}

/-- What the loop leaves, all its trips done. -/
theorem loop_done (h0 : ∀ j, x0 j = (Dy j : EReal)) (hC : IsC x6 x7 C) (hA : IsC x8 x9 A) (hx : IsC x2 x3 (fun y => x (y 1) (y 0).val)) :
    IsC (loopOf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1.2.2.1 (loopOf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9).1.2.2.2 (fun j => part (x (j 1)) (st ((starRingEnd ℂ) (A (ix2 0 (j 1)))) (cot Dy C (j 1))) 256 (j 0).val)
      ∧ IsC (View.canon (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9)) (View.canon (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9)) (fun y => lam A Dy C (y 1) (y 0).val) := by
  have ha : IsC (View.readAt (Elt Ideal) arg9.view (Rect.unit (s := S1x512) ![0, 0] S1x512.size Facts₀.inb_S1x512_S1x512_0_0).toLoadRect (harg9.unread x8)) (View.readAt (Elt Ideal) arg10.view (Rect.unit (s := S1x512) ![0, 0] S1x512.size Facts₀.inb_S1x512_S1x512_0_0).toLoadRect (harg10.unread x9)) A := by
    rw [load_all, load_all]; exact hA
  have ht : k1_t1_loop.trips = 256 := by decide +kernel
  have hin := pre_input arg1 harg1 arg7 harg7 arg8 harg8 x0 x6 x7 h0 hC
  have h1 := pow1 ha
  have inv := loop_inv (X3 := harg3.unread x2) (X4 := harg4.unread x3) c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k1_pay77 k1_pay78 0#32 h1 (pow2 h1) (pow4 h1) (table h1)
    (arg20.view.writes (Elt Ideal) arg20.view.junk (preR arg1 harg1 arg7 harg7 x0 x6)) (arg21.view.writes (Elt Ideal) arg21.view.junk (preI arg1 harg1 arg8 harg8 x0 x7))
    (cot Dy C) x (by rw [View.read_writes_junk_eq_canon, View.read_writes_junk_eq_canon]; exact hin)
    (by rw [harg3.read_unread, harg4.read_unread]; exact hx) k1_t1_loop.trips (Nat.le_refl _)
  refine ⟨?_, ?_⟩
  · have h := inv.2.1
    refine IsC.congr h fun j => ?_
    show part _ _ k1_t1_loop.trips _ = part _ _ 256 _
    rw [ht]
  · have h := inv.2.2
    unfold lamR lamI
    rw [← View.read_writes_junk_eq_canon arg20.view, ← View.read_writes_junk_eq_canon arg21.view, View.writes_append, View.writes_append]
    refine IsC.congr h fun y => ?_
    have hy : (y 0).val < 2048 := (y 0).isLt
    refine (held_lt ?_).trans ?_
    · rw [ht]; omega
    · show st _ _ _ = st _ _ _
      congr 1; omega

end Loop

theorem du_piece (o : ℕ) (ho : o + 256 ≤ 2048) (LR LI : List (View.Piece (Elt Ideal) S2048x512 .f32))
    (f : Vec Ideal S512x128 .f32 → Vec Ideal S512x128 .f32 → Vec Ideal S1x128 .f32 → Vec Ideal S256x512 .f32 → Vec Ideal S256x512 .f32 → Vec Ideal S256x128 .f32 → FVec Ideal S256x128 .bf16)
    (hf : ∀ a b d v w u, f a b d v w u = duBlk a b d v w u)
    (x : (Rect.unit (s := S2048x128) ![o, 0] S256x128.size (blk 128 o ho)).shape.Idx) :
    f (View.readAt (Elt Ideal) arg5.view (Rect.unit (s := S512x128) ![0, 0] S512x128.size Facts₀.inb_S512x128_S512x128_0_0).toLoadRect (harg5.unread x4)) (View.readAt (Elt Ideal) arg6.view (Rect.unit (s := S512x128) ![0, 0] S512x128.size Facts₀.inb_S512x128_S512x128_0_0).toLoadRect (harg6.unread x5)) (View.readAt (Elt Ideal) arg11.view (Rect.unit (s := S1x128) ![0, 0] S1x128.size Facts₀.inb_S1x128_S1x128_0_0).toLoadRect (harg11.unread x10)) (lc arg20 LR o ho) (lc arg21 LI o ho) (ld arg1 harg1 x0 o ho) x
      = outDu (View.canon LR) (View.canon LI) x4 x5 x10 x0 ((Rect.unit (s := S2048x128) ![o, 0] S256x128.size (blk 128 o ho)).emb x) := by
  obtain ⟨r, q, rfl⟩ : ∃ (r : Fin 256) (q : Fin 128), x = ix2 r q := ⟨x 0, x 1, eq_ix2 (n0 := 256) (n1 := 128) x⟩
  have e : (Rect.unit (s := S2048x128) ![o, 0] S256x128.size (blk 128 o ho)).emb (ix2 r q) = ix2 ⟨o + r.val, by omega⟩ q :=
    rows_idx (blk 128 o ho) r q
  rw [hf, e, load_all, load_all, load_all]
  have hd : broadcastTo S256x128 x10 Facts₀.broadcasts_S1x128_S256x128 (ix2 r q) = x10 (ix2 0 q) :=
    broadcastTo_apply x10 _ _ _ (Fin.forall_fin_two.mpr ⟨rfl, rfl⟩)
  unfold duBlk
  show dotNN _ _ (ix2 r q) + dotNN _ _ (ix2 r q) + broadcastTo S256x128 x10 Facts₀.broadcasts_S1x128_S256x128 (ix2 r q) * _ = _
  rw [hd, dotNN_apply, dotNN_apply]
  refine congrArg₂ (· + ·) (congrArg₂ (· + ·) ?_ ?_) (congrArg (_ * ·) (load_rows arg1 (blk 128 o ho) harg1 x0 r q))
  · exact Finset.sum_congr rfl fun p _ => congrArg (· * _) (load_rows_cov arg20 (blk 512 o ho) LR r p)
  · exact Finset.sum_congr rfl fun p _ => congrArg (· * _) (load_rows_cov arg21 (blk 512 o ho) LI r p)

/-- The gradient of `u`. -/
theorem du_out : (out1_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) = outDu (View.canon (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9)) (View.canon (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9)) x4 x5 x10 x0 := by
  have e11 : (out1_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) = View.canon (kernelRun1_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).1 := View.read_writes_junk_eq_canon _ _
  rw [e11, stores11]
  funext y
  refine View.canon_apply_of_pieces _ _ (View.PiecesOf.mem ?_) y (View.cover_of_tiledL (s := S2048x128) _ S256x128.size (by sl_kernel_rfl) y)
  exact ⟨du_piece arg1 harg1 arg5 harg5 arg6 harg6 arg11 harg11 arg20 arg21 x0 x4 x5 x10 1792 (by decide) _ _ k1_pay115 (fun _ _ _ _ _ _ => rfl), du_piece arg1 harg1 arg5 harg5 arg6 harg6 arg11 harg11 arg20 arg21 x0 x4 x5 x10 1536 (by decide) _ _ k1_pay111 (fun _ _ _ _ _ _ => rfl), du_piece arg1 harg1 arg5 harg5 arg6 harg6 arg11 harg11 arg20 arg21 x0 x4 x5 x10 1280 (by decide) _ _ (fun a b d v w u => k1_pay109 d (k1_pay106 a v) (k1_pay107 w) (k1_pay108 b) u) (fun _ _ _ _ _ _ => rfl), du_piece arg1 harg1 arg5 harg5 arg6 harg6 arg11 harg11 arg20 arg21 x0 x4 x5 x10 1024 (by decide) _ _ k1_pay103 (fun _ _ _ _ _ _ => rfl), du_piece arg1 harg1 arg5 harg5 arg6 harg6 arg11 harg11 arg20 arg21 x0 x4 x5 x10 768 (by decide) _ _ k1_pay101 (fun _ _ _ _ _ _ => rfl), du_piece arg1 harg1 arg5 harg5 arg6 harg6 arg11 harg11 arg20 arg21 x0 x4 x5 x10 512 (by decide) _ _ (fun a b d v w u => k1_pay98 b d w (k1_pay96 v) (k1_pay97 a) (constant S256x128 .f32 0x00000000#32) u) (fun _ _ _ _ _ _ => rfl), du_piece arg1 harg1 arg5 harg5 arg6 harg6 arg11 harg11 arg20 arg21 x0 x4 x5 x10 256 (by decide) _ _ k1_pay93 (fun _ _ _ _ _ _ => rfl), du_piece arg1 harg1 arg5 harg5 arg6 harg6 arg11 harg11 arg20 arg21 x0 x4 x5 x10 0 (by decide) _ _ k1_pay91 (fun _ _ _ _ _ _ => rfl), trivial⟩

/-- The gradient of `B`, real part, from the cotangents. -/
theorem wbr_out (y : S512x128.Idx) : (out1_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) y = ∑ t : Fin 2048, View.canon (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) (ix2 t (y 0)) * x1 (ix2 t (y 1)) := by
  obtain ⟨p, q, rfl⟩ : ∃ (p : Fin 512) (q : Fin 128), y = ix2 p q := ⟨y 0, y 1, eq_ix2 (n0 := 512) (n1 := 128) y⟩
  rw [out12]
  rw [acc12, add8, zero_const, zero_add, tn_lc, tn_lc, tn_lc, tn_lc, tn_lc, tn_lc, tn_lc, tn_lc]
  exact seg_sum _

/-- The gradient of `B`, imaginary part, from the cotangents. -/
theorem wbi_out (y : S512x128.Idx) : (out1_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) y = ∑ t : Fin 2048, View.canon (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x2 x3 x6 x7 x8 x9) (ix2 t (y 0)) * x1 (ix2 t (y 1)) := by
  obtain ⟨p, q, rfl⟩ : ∃ (p : Fin 512) (q : Fin 128), y = ix2 p q := ⟨y 0, y 1, eq_ix2 (n0 := 512) (n1 := 128) y⟩
  rw [out13]
  rw [acc13, add8, zero_const, zero_add, tn_lc, tn_lc, tn_lc, tn_lc, tn_lc, tn_lc, tn_lc, tn_lc]
  exact seg_sum _

/-- The gradient of `C`, real part, from the states. -/
theorem wcr_out (y : S512x128.Idx) : (out1_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) y = ∑ t : Fin 2048, x2 (ix2 t (y 0)) * x0 (ix2 t (y 1)) := by
  obtain ⟨p, q, rfl⟩ : ∃ (p : Fin 512) (q : Fin 128), y = ix2 p q := ⟨y 0, y 1, eq_ix2 (n0 := 512) (n1 := 128) y⟩
  rw [out14]
  rw [acc14, add8, zero_const, zero_add, tn_ld, tn_ld, tn_ld, tn_ld, tn_ld, tn_ld, tn_ld, tn_ld]
  exact seg_sum _

/-- The gradient of `C`, imaginary part, from the states. -/
theorem wci_out {Y : S2048x512.Idx → ℝ} {Dy : S2048x128.Idx → ℝ} (h3 : ∀ j, x3 j = (Y j : EReal)) (h0 : ∀ j, x0 j = (Dy j : EReal)) (y : S512x128.Idx) :
    (out1_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) y = ((-∑ t : Fin 2048, Y (ix2 t (y 0)) * Dy (ix2 t (y 1)) : ℝ) : EReal) := by
  obtain ⟨p, q, rfl⟩ : ∃ (p : Fin 512) (q : Fin 128), y = ix2 p q := ⟨y 0, y 1, eq_ix2 (n0 := 512) (n1 := 128) y⟩
  rw [out15]
  rw [acc15, sub8, zero_const, tn_ld, tn_ld, tn_ld, tn_ld, tn_ld, tn_ld, tn_ld, tn_ld]
  have e : (fun t : Fin 2048 => x3 (ix2 t p) * x0 (ix2 t q)) = fun t => ((Y (ix2 t p) * Dy (ix2 t q) : ℝ) : EReal) := by
    funext t; rw [h3, h0, EReal.coe_mul]
  rw [e]
  exact seg_sub _

/-- The gradient of `D`. -/
theorem d_out (y : S1x128.Idx) : (out1_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10) y = ∑ t : Fin 2048, x0 (ix2 t (y 1)) * x1 (ix2 t (y 1)) := by
  obtain ⟨q, rfl⟩ : ∃ q : Fin 128, y = ix2 0 q := ⟨y 1, (eq_ix2 (n0 := 1) (n1 := 128) y).trans (congrArg (ix2 · (y 1)) (Subsingleton.elim (α := Fin 1) _ _))⟩
  rw [out18]
  rw [acc18, add8, zero_const, zero_add, col_ld, col_ld, col_ld, col_ld, col_ld, col_ld, col_ld, col_ld]
  exact seg_sum _

end

end S5.Bwd

end

end
-- ==== Proof.Spec.lean ====
/-
  The nine results of the S5 scan and its gradient, said once for one group of 128 channels and 512 states.

  `Grp` holds a group's share of the arguments, `Real G` says that they are finite, all but the skip weights `d`, and
  names the real and complex numbers they are. The states are `st`, run forwards; their cotangents are `lam`, run
  backwards from the last row; each result is a sum over rows, states or channels of products of these.
-/
module

public import proofs.«01_k».proof.Proof.BwdOut

@[expose] public section

noncomputable section

open Idealize.ShloMosaic Idealize.ShloMosaic.ValueIdx

namespace S5

/-- One group's share of the arguments. -/
structure Grp where
  u : (⟨2, ![2048, 128]⟩ : Shape).Idx → EReal
  dy : (⟨2, ![2048, 128]⟩ : Shape).Idx → EReal
  br : (⟨2, ![512, 128]⟩ : Shape).Idx → EReal
  bi : (⟨2, ![512, 128]⟩ : Shape).Idx → EReal
  cr : (⟨2, ![512, 128]⟩ : Shape).Idx → EReal
  ci : (⟨2, ![512, 128]⟩ : Shape).Idx → EReal
  ar : (⟨2, ![1, 512]⟩ : Shape).Idx → EReal
  ai : (⟨2, ![1, 512]⟩ : Shape).Idx → EReal
  d : (⟨2, ![1, 128]⟩ : Shape).Idx → EReal

/-- The numbers a group's arguments are, where they are finite. -/
structure Real (G : Grp) where
  U : (⟨2, ![2048, 128]⟩ : Shape).Idx → ℝ
  Dy : (⟨2, ![2048, 128]⟩ : Shape).Idx → ℝ
  B : (⟨2, ![512, 128]⟩ : Shape).Idx → ℂ
  C : (⟨2, ![512, 128]⟩ : Shape).Idx → ℂ
  A : (⟨2, ![1, 512]⟩ : Shape).Idx → ℂ
  hu : ∀ j, G.u j = (U j : EReal)
  hdy : ∀ j, G.dy j = (Dy j : EReal)
  hB : IsC G.br G.bi B
  hC : IsC G.cr G.ci C
  hA : IsC G.ar G.ai A

variable {G : Grp} (R : Real G)

namespace Real

/-- State `q` after row `t`, real and imaginary parts. -/
def state (q : Fin 512) (t : ℕ) : ℂ := st (R.A (ix2 0 q)) (Fwd.inp R.U R.B q) (t + 1)

/-- State `q` before row `t`. -/
def prev (q : Fin 512) (t : ℕ) : ℂ := st (R.A (ix2 0 q)) (Fwd.inp R.U R.B q) t

/-- The cotangent of state `q` after row `t`. -/
def cotangent (q : Fin 512) (t : ℕ) : ℂ := Bwd.lam R.A R.Dy R.C q t

def xr (y : (⟨2, ![2048, 512]⟩ : Shape).Idx) : EReal := ((R.state (y 1) (y 0).val).re : EReal)
def xi (y : (⟨2, ![2048, 512]⟩ : Shape).Idx) : EReal := ((R.state (y 1) (y 0).val).im : EReal)
def lr (y : (⟨2, ![2048, 512]⟩ : Shape).Idx) : EReal := ((R.cotangent (y 1) (y 0).val).re : EReal)
def li (y : (⟨2, ![2048, 512]⟩ : Shape).Idx) : EReal := ((R.cotangent (y 1) (y 0).val).im : EReal)

/-- The scan's output. -/
def outY : (⟨2, ![2048, 128]⟩ : Shape).Idx → EReal := Fwd.outY R.xr R.xi G.cr G.ci G.d G.u

/-- The gradient of the scan's input. -/
def outDu : (⟨2, ![2048, 128]⟩ : Shape).Idx → EReal := Bwd.outDu R.lr R.li G.br G.bi G.d G.dy

/-- The gradients of `B` and of `C`. -/
def outBr (y : (⟨2, ![512, 128]⟩ : Shape).Idx) : EReal := ∑ t : Fin 2048, R.lr (ix2 t (y 0)) * G.u (ix2 t (y 1))
def outBi (y : (⟨2, ![512, 128]⟩ : Shape).Idx) : EReal := ∑ t : Fin 2048, R.li (ix2 t (y 0)) * G.u (ix2 t (y 1))
def outCr (y : (⟨2, ![512, 128]⟩ : Shape).Idx) : EReal := ∑ t : Fin 2048, R.xr (ix2 t (y 0)) * G.dy (ix2 t (y 1))
def outCi (y : (⟨2, ![512, 128]⟩ : Shape).Idx) : EReal := ((-∑ t : Fin 2048, (R.state (y 0) t.val).im * R.Dy (ix2 t (y 1)) : ℝ) : EReal)

/-- The gradient of `a`: each state's cotangent times the conjugate of the state before it. -/
def gradA (q : Fin 512) : ℂ := ∑ t ∈ Finset.range 2048, (starRingEnd ℂ) (R.prev q t) * R.cotangent q t
def outAr (y : (⟨2, ![1, 512]⟩ : Shape).Idx) : EReal := ((R.gradA (y 1)).re : EReal)
def outAi (y : (⟨2, ![1, 512]⟩ : Shape).Idx) : EReal := ((R.gradA (y 1)).im : EReal)

end Real

/-- The gradient of the skip weights. -/
def Grp.outD (G : Grp) (y : (⟨2, ![1, 128]⟩ : Shape).Idx) : EReal := ∑ t : Fin 2048, G.dy (ix2 t (y 1)) * G.u (ix2 t (y 1))

namespace Real

/-- The sum over rows moves by one row: the kernel pairs a state with the next row's cotangent, and both ends vanish. -/
theorem gradA_shift (q : Fin 512) :
    ∑ t ∈ Finset.range 2048, (starRingEnd ℂ) (R.state q t) * R.cotangent q (t + 1) = R.gradA q := by
  let f : ℕ → ℂ := fun t => (starRingEnd ℂ) (R.prev q t) * R.cotangent q t
  have h0 : f 0 = 0 := by
    show (starRingEnd ℂ) (0 : ℂ) * _ = 0
    rw [map_zero, zero_mul]
  have hn : f 2048 = 0 := by
    have e : R.cotangent q 2048 = 0 := rfl
    show (starRingEnd ℂ) (R.prev q 2048) * R.cotangent q 2048 = 0
    rw [e, mul_zero]
  have e1 := Finset.sum_range_succ f 2048
  have e2 := Finset.sum_range_succ' f 2048
  rw [hn, add_zero] at e1
  rw [h0, add_zero] at e2
  exact e2.symm.trans e1

/-- The reference adds the same products up from the last row. -/
theorem gradA_down (q : Fin 512) :
    ∑ i ∈ Finset.range 2048, (starRingEnd ℂ) (R.prev q (2047 - i)) * st ((starRingEnd ℂ) (R.A (ix2 0 q))) (Bwd.cot R.Dy R.C q) (i + 1)
      = R.gradA q := by
  unfold gradA
  rw [← Finset.sum_range_reflect (fun t => (starRingEnd ℂ) (R.prev q t) * R.cotangent q t)]
  refine Finset.sum_congr rfl fun i hi => ?_
  have h : i < 2048 := Finset.mem_range.mp hi
  have e : R.cotangent q (2048 - 1 - i) = st ((starRingEnd ℂ) (R.A (ix2 0 q))) (Bwd.cot R.Dy R.C q) (2048 - (2048 - 1 - i)) := rfl
  rw [e, show 2048 - (2048 - 1 - i) = i + 1 by omega]

/-- A sum over rows, by groups of eight. -/
theorem sum_groups (g : ℕ → ℂ) : ∀ n, ∑ t ∈ Finset.range (8 * n), g t = ∑ i ∈ Finset.range n, ∑ r ∈ Finset.range 8, g (8 * i + r)
  | 0 => rfl
  | n + 1 => by rw [Finset.sum_range_succ, ← sum_groups g n, Nat.mul_succ, Finset.sum_range_add]

/-- The kernel adds them up by the row's place in its group of eight, groups last to first. -/
theorem gradA_part (q : Fin 512) :
    ∑ r : Fin 8, Bwd.part (fun t => R.state q t) (st ((starRingEnd ℂ) (R.A (ix2 0 q))) (Bwd.cot R.Dy R.C q)) 256 r.val = R.gradA q := by
  rw [← gradA_shift]
  refine Eq.trans ?_ (sum_groups (fun t => (starRingEnd ℂ) (R.state q t) * R.cotangent q (t + 1)) 256).symm
  rw [← Finset.sum_range_reflect (fun i => ∑ r ∈ Finset.range 8, (starRingEnd ℂ) (R.state q (8 * i + r)) * R.cotangent q (8 * i + r + 1)),
    Fin.sum_univ_eq_sum_range (fun r => Bwd.part (fun t => R.state q t) (st ((starRingEnd ℂ) (R.A (ix2 0 q))) (Bwd.cot R.Dy R.C q)) 256 r) 8]
  unfold Bwd.part
  rw [Finset.sum_comm]
  refine Finset.sum_congr rfl fun i hi => Finset.sum_congr rfl fun r hr => ?_
  have h1 : i < 256 := Finset.mem_range.mp hi
  have h2 : r < 8 := Finset.mem_range.mp hr
  have e : R.cotangent q (8 * (256 - 1 - i) + r + 1)
      = st ((starRingEnd ℂ) (R.A (ix2 0 q))) (Bwd.cot R.Dy R.C q) (2048 - (8 * (256 - 1 - i) + r + 1)) := rfl
  rw [e, show 2048 - (8 * (256 - 1 - i) + r + 1) = 8 * i + (7 - r) by omega, show 8 * (256 - 1 - i) + r = 2040 - 8 * i + r by omega]

end Real

end S5

end
-- ==== Proof.Whole.lean ====
/-
  The whole arrays, cut into four groups: channel `128 g + c` and state `512 g + q` belong to group `g`.
-/
module

public import proofs.«01_k».proof.Proof.Spec

@[expose] public section

noncomputable section

open Idealize.ShloMosaic Idealize.ShloMosaic.ValueIdx

namespace S5

/-- Channel `c` and state `q` of group `g`, as indices of the whole arrays. -/
def chan (g : Fin 4) (c : Fin 128) : Fin 512 := ⟨128 * g.val + c.val, by omega⟩
def stat (g : Fin 4) (q : Fin 512) : Fin 2048 := ⟨512 * g.val + q.val, by omega⟩

/-- The group of a channel or a state and its place there. -/
def chanGrp (k : Fin 512) : Fin 4 := ⟨k.val / 128, by omega⟩
def chanIn (k : Fin 512) : Fin 128 := ⟨k.val % 128, by omega⟩
def statGrp (k : Fin 2048) : Fin 4 := ⟨k.val / 512, by omega⟩
def statIn (k : Fin 2048) : Fin 512 := ⟨k.val % 512, by omega⟩

theorem chan_split (k : Fin 512) : chan (chanGrp k) (chanIn k) = k :=
  Fin.ext (by show 128 * (k.val / 128) + k.val % 128 = k.val; omega)
theorem stat_split (k : Fin 2048) : stat (statGrp k) (statIn k) = k :=
  Fin.ext (by show 512 * (k.val / 512) + k.val % 512 = k.val; omega)
theorem chanGrp_chan (g : Fin 4) (c : Fin 128) : chanGrp (chan g c) = g :=
  Fin.ext (by show (128 * g.val + c.val) / 128 = g.val; omega)
theorem chanIn_chan (g : Fin 4) (c : Fin 128) : chanIn (chan g c) = c :=
  Fin.ext (by show (128 * g.val + c.val) % 128 = c.val; omega)
theorem statGrp_stat (g : Fin 4) (q : Fin 512) : statGrp (stat g q) = g :=
  Fin.ext (by show (512 * g.val + q.val) / 512 = g.val; omega)
theorem statIn_stat (g : Fin 4) (q : Fin 512) : statIn (stat g q) = q :=
  Fin.ext (by show (512 * g.val + q.val) % 512 = q.val; omega)

/-- The arguments, whole. -/
structure Args where
  x : (⟨2, ![2048, 2560]⟩ : Shape).Idx → EReal
  br : (⟨2, ![2048, 128]⟩ : Shape).Idx → EReal
  bi : (⟨2, ![2048, 128]⟩ : Shape).Idx → EReal
  cr : (⟨2, ![2048, 128]⟩ : Shape).Idx → EReal
  ci : (⟨2, ![2048, 128]⟩ : Shape).Idx → EReal
  ar : (⟨2, ![1, 2048]⟩ : Shape).Idx → EReal
  ai : (⟨2, ![1, 2048]⟩ : Shape).Idx → EReal
  d : (⟨2, ![1, 512]⟩ : Shape).Idx → EReal
  dy : (⟨2, ![2048, 512]⟩ : Shape).Idx → EReal

/-- Column `k < 512` of the wide input array, whose first 512 columns are the scan's input. -/
def inCol (k : Fin 512) : Fin 2560 := ⟨k.val, by omega⟩

/-- Group `g`'s share. -/
def Args.grp (P : Args) (g : Fin 4) : Grp where
  u y := P.x (ix2 (y 0) (inCol (chan g (y 1))))
  dy y := P.dy (ix2 (y 0) (chan g (y 1)))
  br y := P.br (ix2 (stat g (y 0)) (y 1))
  bi y := P.bi (ix2 (stat g (y 0)) (y 1))
  cr y := P.cr (ix2 (stat g (y 0)) (y 1))
  ci y := P.ci (ix2 (stat g (y 0)) (y 1))
  ar y := P.ar (ix2 (y 0) (stat g (y 1)))
  ai y := P.ai (ix2 (y 0) (stat g (y 1)))
  d y := P.d (ix2 (y 0) (chan g (y 1)))

/-- Four groups' arrays side by side: rows by channels, rows by states, states by channels, one row of states, one
    row of channels. -/
def byChan (f : Fin 4 → (⟨2, ![2048, 128]⟩ : Shape).Idx → EReal) (y : (⟨2, ![2048, 512]⟩ : Shape).Idx) : EReal :=
  f (chanGrp (y 1)) (ix2 (y 0) (chanIn (y 1)))
def byState (f : Fin 4 → (⟨2, ![2048, 512]⟩ : Shape).Idx → EReal) (y : (⟨2, ![2048, 2048]⟩ : Shape).Idx) : EReal :=
  f (statGrp (y 1)) (ix2 (y 0) (statIn (y 1)))
def stacked (f : Fin 4 → (⟨2, ![512, 128]⟩ : Shape).Idx → EReal) (y : (⟨2, ![2048, 128]⟩ : Shape).Idx) : EReal :=
  f (statGrp (y 0)) (ix2 (statIn (y 0)) (y 1))
def rowState (f : Fin 4 → (⟨2, ![1, 512]⟩ : Shape).Idx → EReal) (y : (⟨2, ![1, 2048]⟩ : Shape).Idx) : EReal :=
  f (statGrp (y 1)) (ix2 (y 0) (statIn (y 1)))
def rowChan (f : Fin 4 → (⟨2, ![1, 128]⟩ : Shape).Idx → EReal) (y : (⟨2, ![1, 512]⟩ : Shape).Idx) : EReal :=
  f (chanGrp (y 1)) (ix2 (y 0) (chanIn (y 1)))

theorem byChan_at (f) (t : Fin 2048) (g : Fin 4) (c : Fin 128) : byChan f (ix2 t (chan g c)) = f g (ix2 t c) := by
  show f (chanGrp (chan g c)) (ix2 t (chanIn (chan g c))) = _
  rw [chanGrp_chan, chanIn_chan]
theorem byState_at (f) (t : Fin 2048) (g : Fin 4) (q : Fin 512) : byState f (ix2 t (stat g q)) = f g (ix2 t q) := by
  show f (statGrp (stat g q)) (ix2 t (statIn (stat g q))) = _
  rw [statGrp_stat, statIn_stat]
theorem stacked_at (f) (g : Fin 4) (q : Fin 512) (c : Fin 128) : stacked f (ix2 (stat g q) c) = f g (ix2 q c) := by
  show f (statGrp (stat g q)) (ix2 (statIn (stat g q)) c) = _
  rw [statGrp_stat, statIn_stat]
theorem rowState_at (f) (z : Fin 1) (g : Fin 4) (q : Fin 512) : rowState f (ix2 z (stat g q)) = f g (ix2 z q) := by
  show f (statGrp (stat g q)) (ix2 z (statIn (stat g q))) = _
  rw [statGrp_stat, statIn_stat]
theorem rowChan_at (f) (z : Fin 1) (g : Fin 4) (c : Fin 128) : rowChan f (ix2 z (chan g c)) = f g (ix2 z c) := by
  show f (chanGrp (chan g c)) (ix2 z (chanIn (chan g c))) = _
  rw [chanGrp_chan, chanIn_chan]

/-- Two arrays that agree group by group are equal. -/
theorem ext_chan {n : ℕ} {X Y : (⟨2, ![n, 512]⟩ : Shape).Idx → EReal}
    (h : ∀ t g c, X (ix2 t (chan g c)) = Y (ix2 t (chan g c))) : X = Y := by
  funext y
  obtain ⟨t, k, rfl⟩ : ∃ t k, y = ix2 t k := ⟨y 0, y 1, eq_ix2 y⟩
  have := h t (chanGrp k) (chanIn k)
  rwa [chan_split] at this
theorem ext_stat {n : ℕ} {X Y : (⟨2, ![n, 2048]⟩ : Shape).Idx → EReal}
    (h : ∀ t g q, X (ix2 t (stat g q)) = Y (ix2 t (stat g q))) : X = Y := by
  funext y
  obtain ⟨t, k, rfl⟩ : ∃ t k, y = ix2 t k := ⟨y 0, y 1, eq_ix2 y⟩
  have := h t (statGrp k) (statIn k)
  rwa [stat_split] at this
theorem ext_stacked {X Y : (⟨2, ![2048, 128]⟩ : Shape).Idx → EReal}
    (h : ∀ g q c, X (ix2 (stat g q) c) = Y (ix2 (stat g q) c)) : X = Y := by
  funext y
  obtain ⟨k, c, rfl⟩ : ∃ t k, y = ix2 t k := ⟨y 0, y 1, eq_ix2 y⟩
  have := h (statGrp k) (statIn k) c
  rwa [stat_split] at this

end S5

end
-- ==== Proof.RefRead.lean ====
/-
  What the reference's operations around its loops leave in the buffers that matter, as functions of what they find.
-/
module

public import proofs.«01_k».proof.Proof.RefKeep

@[expose] public section

set_option maxRecDepth 100000

noncomputable section

namespace Cert.ReferenceIdeal

open Idealize.ShloMosaic Idealize.ShloMosaic.TcCoe Idealize.ShloMosaic.Tactic Idealize.ShloMosaic.StableHlo
open Cert.ReferenceIdeal.Gen

variable {F : FTy → Type} [FloatOps F]

/-! The arguments by groups: rows by group by channel, group by state by channel, group by state. -/
def rowsIn (x : FVec F S2048x2560 .f32) : FVec F S2048x4x128 .f32 :=
  shapeCast S2048x4x128 (extractStridedSlice S2048x512 ![0, 0] x slices_S2048x2560_S2048x512_0_0) shapeCasts_S2048x512_S2048x4x128
def rows (x : FVec F S2048x512 .f32) : FVec F S2048x4x128 .f32 := shapeCast S2048x4x128 x shapeCasts_S2048x512_S2048x4x128
def unrows (x : FVec F S2048x4x128 .f32) : FVec F S2048x512 .f32 := shapeCast S2048x512 x shapeCasts_S2048x4x128_S2048x512
def weights (x : FVec F S2048x128 .f32) : FVec F S4x512x128 .f32 := shapeCast S4x512x128 x shapeCasts_S2048x128_S4x512x128
def unweights (x : FVec F S4x512x128 .f32) : FVec F S2048x128 .f32 := shapeCast S2048x128 x shapeCasts_S4x512x128_S2048x128
def diag (x : FVec F S1x2048 .f32) : FVec F S4x512 .f32 := shapeCast S4x512 x shapeCasts_S1x2048_S4x512
def undiag (x : FVec F S4x512 .f32) : FVec F S1x2048 .f32 := shapeCast S1x2048 x shapeCasts_S4x512_S1x2048
def skip (x : FVec F S1x512 .f32) : FVec F S2048x4x128 .f32 :=
  broadcastInDim S2048x4x128 ![0, 1, 2] bcast_S1x4x128_S2048x4x128_0_1_2
    (broadcastInDim S1x4x128 ![1, 2] bcast_S4x128_S1x4x128_1_2 (shapeCast S4x128 x shapeCasts_S1x512_S4x128))
def zeros : FVec F S4x512 .f32 := broadcastInDim S4x512 ![] bcast_S_S4x512 (constant S_ .f32 0x00000000#32)

/-! The products, by group. -/
def toStates (x : FVec F S2048x4x128 .f32) (w : FVec F S4x512x128 .f32) : FVec F S2048x4x512 .f32 :=
  transpose S2048x4x512 [1, 0, 2] (Host.dotGeneral dot_S2048x4x128_S4x512x128_S4x2048x512_2_2_0_1_1_0 none x w) transposes_S4x2048x512_S2048x4x512_1_0_2
def toChans (x : FVec F S2048x4x512 .f32) (w : FVec F S4x512x128 .f32) : FVec F S2048x4x128 .f32 :=
  transpose S2048x4x128 [1, 0, 2] (Host.dotGeneral dot_S2048x4x512_S4x512x128_S4x2048x128_2_1_0_2_1_0 none x w) transposes_S4x2048x128_S2048x4x128_1_0_2
def byGroup (x : FVec F S2048x4x128 .f32) : FVec F S4x2048x128 .f32 := transpose S4x2048x128 [1, 0, 2] x transposes_S2048x4x128_S4x2048x128_1_0_2
def byGroup' (x : FVec F S2048x4x512 .f32) : FVec F S4x2048x512 .f32 := transpose S4x2048x512 [1, 0, 2] x transposes_S2048x4x512_S4x2048x512_1_0_2
def outer (x : FVec F S4x2048x128 .f32) (s : FVec F S2048x4x512 .f32) : FVec F S4x512x128 .f32 :=
  transpose S4x512x128 [0, 2, 1] (Host.dotGeneral dot_S4x2048x128_S2048x4x512_S4x128x512_1_0_2_2_0_1 none x s) transposes_S4x128x512_S4x512x128_0_2_1
def toStates' (x : FVec F S4x2048x128 .f32) (w : FVec F S4x512x128 .f32) : FVec F S2048x4x512 .f32 :=
  transpose S2048x4x512 [1, 0, 2] (Host.dotGeneral dot_S4x2048x128_S4x512x128_S4x2048x512_2_2_1_1_0_0 none x w) transposes_S4x2048x512_S2048x4x512_1_0_2
def outer' (s : FVec F S4x2048x512 .f32) (x : FVec F S2048x4x128 .f32) : FVec F S4x512x128 .f32 :=
  Host.dotGeneral dot_S4x2048x512_S2048x4x128_S4x512x128_1_0_2_2_0_1 none s x
def toChans' (s : FVec F S4x2048x512 .f32) (w : FVec F S4x512x128 .f32) : FVec F S2048x4x128 .f32 :=
  transpose S2048x4x128 [1, 0, 2] (Host.dotGeneral dot_S4x2048x512_S4x512x128_S4x2048x128_2_1_1_2_0_0 none s w) transposes_S4x2048x128_S2048x4x128_1_0_2
/-- The sum over the rows. -/
def overRows (x : FVec F S2048x4x128 .f32) : FVec F S1x512 .f32 :=
  shapeCast S1x512 (Host.reduceAdd (shapeCast S1x4x128 (Host.reduceAdd x (constant S_ .f32 0x00000000#32) reducesTo_S2048x4x128_S4x128_d0 h_S_)
    shapeCasts_S4x128_S1x4x128) (constant S_ .f32 0x00000000#32) reducesTo_S1x4x128_S4x128_d0 h_S_) shapeCasts_S4x128_S1x512
/-- The first 512 of 2560 columns, once padded to them. -/
def narrow (x : FVec F S2048x512 .f32) : FVec F S2048x512 .bf16 :=
  truncf .bf16 (extractStridedSlice S2048x512 ![0, 0]
    (pad S2048x2560 ![0, 0] ![0, 2048] ![0, 0] x (constant S_ .f32 0x00000000#32) pads_S2048x512_S2048x2560_000_020480 h_S_)
    slices_S2048x2560_S2048x512_0_0) bitsLt_bf16_f32

variable (V : Valuation τ sig (Elt F))

/-! Before the first loop. -/
theorem pre_v1 : afterL preI V (Proc.devRef .tc main_v1) = rowsIn (V (Proc.devRef .tc main_arg0)) := by
  simp only [afterL_cons, afterL_nil]; after_reads_simp; rfl
theorem pre_v2 : afterL preI V (Proc.devRef .tc main_v2) = weights (V (Proc.devRef .tc main_arg1)) := by
  simp only [afterL_cons, afterL_nil]; after_reads_simp; rfl
theorem pre_v3 : afterL preI V (Proc.devRef .tc main_v3) = weights (V (Proc.devRef .tc main_arg2)) := by
  simp only [afterL_cons, afterL_nil]; after_reads_simp; rfl
theorem pre_v4 : afterL preI V (Proc.devRef .tc main_v4) = weights (V (Proc.devRef .tc main_arg3)) := by
  simp only [afterL_cons, afterL_nil]; after_reads_simp; rfl
theorem pre_v5 : afterL preI V (Proc.devRef .tc main_v5) = weights (V (Proc.devRef .tc main_arg4)) := by
  simp only [afterL_cons, afterL_nil]; after_reads_simp; rfl
theorem pre_v6 : afterL preI V (Proc.devRef .tc main_v6) = diag (V (Proc.devRef .tc main_arg5)) := by
  simp only [afterL_cons, afterL_nil]; after_reads_simp; rfl
theorem pre_v7 : afterL preI V (Proc.devRef .tc main_v7) = diag (V (Proc.devRef .tc main_arg6)) := by
  simp only [afterL_cons, afterL_nil]; after_reads_simp; rfl
theorem pre_0 : afterL preI V (Proc.devRef .tc main_v17_0) = toStates (rowsIn (V (Proc.devRef .tc main_arg0))) (weights (V (Proc.devRef .tc main_arg1))) := by
  simp only [afterL_cons, afterL_nil]; after_reads_simp; rfl
theorem pre_1 : afterL preI V (Proc.devRef .tc main_v17_1) = toStates (rowsIn (V (Proc.devRef .tc main_arg0))) (weights (V (Proc.devRef .tc main_arg2))) := by
  simp only [afterL_cons, afterL_nil]; after_reads_simp; rfl
theorem pre_2 : afterL preI V (Proc.devRef .tc main_v17_2) = diag (V (Proc.devRef .tc main_arg5)) := by
  simp only [afterL_cons, afterL_nil]; after_reads_simp; rfl
theorem pre_3 : afterL preI V (Proc.devRef .tc main_v17_3) = diag (V (Proc.devRef .tc main_arg6)) := by
  simp only [afterL_cons, afterL_nil]; after_reads_simp; rfl
theorem pre_5 : afterL preI V (Proc.devRef .tc main_v17_5) = zeros := by
  simp only [afterL_cons, afterL_nil]; after_reads_simp; rfl
theorem pre_6 : afterL preI V (Proc.devRef .tc main_v17_6) = zeros := by
  simp only [afterL_cons, afterL_nil]; after_reads_simp; rfl

/-! Between the loops. -/
theorem mid_v28 : afterL midI V (Proc.devRef .tc main_v28)
    = unrows (addf (subf (toChans (V (Proc.devRef .tc main_v17_7)) (V (Proc.devRef .tc main_v4))) (toChans (V (Proc.devRef .tc main_v17_8)) (V (Proc.devRef .tc main_v5))))
        (mulf (skip (V (Proc.devRef .tc main_arg7))) (V (Proc.devRef .tc main_v1)))) := by
  simp only [afterL_cons, afterL_nil]; after_reads_simp; rfl
theorem mid_v33 : afterL midI V (Proc.devRef .tc main_v33) = mulf (skip (V (Proc.devRef .tc main_arg7))) (rows (V (Proc.devRef .tc main_arg8))) := by
  simp only [afterL_cons, afterL_nil]; after_reads_simp; rfl
theorem mid_v38 : afterL midI V (Proc.devRef .tc main_v38) = overRows (mulf (rows (V (Proc.devRef .tc main_arg8))) (V (Proc.devRef .tc main_v1))) := by
  simp only [afterL_cons, afterL_nil]; after_reads_simp; rfl
theorem mid_v42 : afterL midI V (Proc.devRef .tc main_v42)
    = outer (byGroup (Host.negf (rows (V (Proc.devRef .tc main_arg8))))) (V (Proc.devRef .tc main_v17_8)) := by
  simp only [afterL_cons, afterL_nil]; after_reads_simp; rfl
theorem mid_v47 : afterL midI V (Proc.devRef .tc main_v47)
    = outer (byGroup (rows (V (Proc.devRef .tc main_arg8)))) (V (Proc.devRef .tc main_v17_7)) := by
  simp only [afterL_cons, afterL_nil]; after_reads_simp; rfl
theorem mid_0 : afterL midI V (Proc.devRef .tc main_v56_0)
    = toStates' (byGroup (rows (V (Proc.devRef .tc main_arg8)))) (V (Proc.devRef .tc main_v4)) := by
  simp only [afterL_cons, afterL_nil]; after_reads_simp; rfl
theorem mid_1 : afterL midI V (Proc.devRef .tc main_v56_1)
    = toStates' (byGroup (Host.negf (rows (V (Proc.devRef .tc main_arg8))))) (V (Proc.devRef .tc main_v5)) := by
  simp only [afterL_cons, afterL_nil]; after_reads_simp; rfl
theorem mid_2 : afterL midI V (Proc.devRef .tc main_v56_2) = V (Proc.devRef .tc main_v17_9) := by
  simp only [afterL_cons, afterL_nil]; after_reads_simp; rfl
theorem mid_3 : afterL midI V (Proc.devRef .tc main_v56_3) = V (Proc.devRef .tc main_v17_10) := by
  simp only [afterL_cons, afterL_nil]; after_reads_simp; rfl
theorem mid_4 : afterL midI V (Proc.devRef .tc main_v56_4) = V (Proc.devRef .tc main_v6) := by
  simp only [afterL_cons, afterL_nil]; after_reads_simp; rfl
theorem mid_5 : afterL midI V (Proc.devRef .tc main_v56_5) = V (Proc.devRef .tc main_v7) := by
  simp only [afterL_cons, afterL_nil]; after_reads_simp; rfl
theorem mid_7 : afterL midI V (Proc.devRef .tc main_v56_7) = zeros := by
  simp only [afterL_cons, afterL_nil]; after_reads_simp; rfl
theorem mid_8 : afterL midI V (Proc.devRef .tc main_v56_8) = zeros := by
  simp only [afterL_cons, afterL_nil]; after_reads_simp; rfl
theorem mid_9 : afterL midI V (Proc.devRef .tc main_v56_9) = zeros := by
  simp only [afterL_cons, afterL_nil]; after_reads_simp; rfl
theorem mid_10 : afterL midI V (Proc.devRef .tc main_v56_10) = zeros := by
  simp only [afterL_cons, afterL_nil]; after_reads_simp; rfl

/-! After the second loop. -/
theorem post_v67 : afterL postI V (Proc.devRef .tc main_v67) = undiag (V (Proc.devRef .tc main_v56_8)) := by
  simp only [afterL_cons, afterL_nil]; after_reads_simp; rfl
theorem post_v68 : afterL postI V (Proc.devRef .tc main_v68) = undiag (V (Proc.devRef .tc main_v56_7)) := by
  simp only [afterL_cons, afterL_nil]; after_reads_simp; rfl
theorem post_v69 : afterL postI V (Proc.devRef .tc main_v69) = unweights (V (Proc.devRef .tc main_v42)) := by
  simp only [afterL_cons, afterL_nil]; after_reads_simp; rfl
theorem post_v70 : afterL postI V (Proc.devRef .tc main_v70) = unweights (V (Proc.devRef .tc main_v47)) := by
  simp only [afterL_cons, afterL_nil]; after_reads_simp; rfl
theorem post_v71 : afterL postI V (Proc.devRef .tc main_v71)
    = unweights (outer' (byGroup' (V (Proc.devRef .tc main_v56_12))) (V (Proc.devRef .tc main_v1))) := by
  simp only [afterL_cons, afterL_nil]; after_reads_simp; rfl
theorem post_v72 : afterL postI V (Proc.devRef .tc main_v72)
    = unweights (outer' (byGroup' (V (Proc.devRef .tc main_v56_11))) (V (Proc.devRef .tc main_v1))) := by
  simp only [afterL_cons, afterL_nil]; after_reads_simp; rfl
theorem post_v76 : afterL postI V (Proc.devRef .tc main_v76)
    = narrow (unrows (addf (addf (V (Proc.devRef .tc main_v33)) (toChans' (byGroup' (V (Proc.devRef .tc main_v56_12))) (V (Proc.devRef .tc main_v3))))
        (toChans' (byGroup' (V (Proc.devRef .tc main_v56_11))) (V (Proc.devRef .tc main_v2))))) := by
  simp only [afterL_cons, afterL_nil]; after_reads_simp; rfl

end Cert.ReferenceIdeal

end
-- ==== Proof.RefAt.lean ====
/-
  The reference's rearrangements, products and sums, read at an index over the extended reals.
-/
module

public import proofs.«01_k».proof.Proof.RefRead
public import proofs.«01_k».proof.Proof.Whole
public import Idealize.ShloMosaic.Lib.ValueIdx
public import Idealize.ShloMosaic.Lib.Pipeline.Value
public import Idealize.ShloMosaic.Lib.KernelVsHost
public import Idealize.ShloMosaic.Lib.IdealHost
public import Idealize.ShloMosaic.Lib.Pointwise.Reduce
public import Idealize.ShloMosaic.Lib.ValueIdxCore

@[expose] public section

noncomputable section

namespace Cert.ReferenceIdeal

open Idealize.ShloMosaic hiding ix0 ix1 ix2 ix3 eq_ix2 eq_ix3
open Idealize.ShloMosaic.TcCoe Idealize.ShloMosaic.StableHlo Idealize.ShloMosaic.ValueIdx
open Cert.ReferenceIdeal.Gen S5

variable (t : Fin 2048) (g : Fin 4) (q : Fin 512) (k : Fin 128)

/-! ## Rearrangements -/

theorem rows_at (x : S2048x512.Idx → EReal) : rows (F := Ideal) x (ix3 t g k) = x (ix2 t (chan g k)) :=
  shapeCast_apply _ _ _ _ (by
    rw [Shape.rowMajor_val_two, Shape.rowMajor_val_three]
    show t.val * 512 + (128 * g.val + k.val) = (t.val * 4 + g.val) * 128 + k.val; omega)
theorem unrows_at (x : S2048x4x128.Idx → EReal) : unrows (F := Ideal) x (ix2 t (chan g k)) = x (ix3 t g k) :=
  shapeCast_apply _ _ _ _ (by
    rw [Shape.rowMajor_val_two, Shape.rowMajor_val_three]
    show (t.val * 4 + g.val) * 128 + k.val = t.val * 512 + (128 * g.val + k.val); omega)
theorem rowsIn_at (x : S2048x2560.Idx → EReal) : rowsIn (F := Ideal) x (ix3 t g k) = x (ix2 t (inCol (chan g k))) := by
  refine (shapeCast_apply _ _ _ (ix2 t (chan g k)) (by
    rw [Shape.rowMajor_val_two, Shape.rowMajor_val_three]
    show t.val * 512 + (128 * g.val + k.val) = (t.val * 4 + g.val) * 128 + k.val; omega)).trans
    (extractStridedSlice_apply _ _ _ _ (ix2 t (inCol (chan g k))) fun a => ?_)
  match a with
  | ⟨0, _⟩ => exact (Nat.zero_add _).symm
  | ⟨1, _⟩ => exact (Nat.zero_add _).symm
theorem weights_at (x : S2048x128.Idx → EReal) : weights (F := Ideal) x (ix3 g q k) = x (ix2 (stat g q) k) :=
  shapeCast_apply _ _ _ _ (by
    rw [Shape.rowMajor_val_two, Shape.rowMajor_val_three]
    show (512 * g.val + q.val) * 128 + k.val = (g.val * 512 + q.val) * 128 + k.val; omega)
theorem unweights_at (x : S4x512x128.Idx → EReal) : unweights (F := Ideal) x (ix2 (stat g q) k) = x (ix3 g q k) :=
  shapeCast_apply _ _ _ _ (by
    rw [Shape.rowMajor_val_two, Shape.rowMajor_val_three]
    show (g.val * 512 + q.val) * 128 + k.val = (512 * g.val + q.val) * 128 + k.val; omega)
theorem diag_at (x : S1x2048.Idx → EReal) (z : Fin 1) : diag (F := Ideal) x (ix2 g q) = x (ix2 z (stat g q)) :=
  shapeCast_apply _ _ _ _ (by
    rw [Shape.rowMajor_val_two, Shape.rowMajor_val_two]
    show z.val * 2048 + (512 * g.val + q.val) = g.val * 512 + q.val; omega)
theorem undiag_at (x : S4x512.Idx → EReal) (z : Fin 1) : undiag (F := Ideal) x (ix2 z (stat g q)) = x (ix2 g q) :=
  shapeCast_apply _ _ _ _ (by
    rw [Shape.rowMajor_val_two, Shape.rowMajor_val_two]
    show g.val * 512 + q.val = z.val * 2048 + (512 * g.val + q.val); omega)
theorem skip_at (x : S1x512.Idx → EReal) (z : Fin 1) : skip (F := Ideal) x (ix3 t g k) = x (ix2 z (chan g k)) := by
  refine (broadcastInDim_apply _ _ _ _ (ix3 (0 : Fin 1) g k) fun a => ?_).trans
    ((broadcastInDim_apply _ _ _ _ (ix2 g k) fun a => ?_).trans
      (shapeCast_apply _ _ _ _ (by
        rw [Shape.rowMajor_val_two, Shape.rowMajor_val_two]
        show z.val * 512 + (128 * g.val + k.val) = g.val * 128 + k.val; omega)))
  · match a with
    | ⟨0, _⟩ => rfl
    | ⟨1, _⟩ => rfl
    | ⟨2, _⟩ => rfl
  · match a with
    | ⟨0, _⟩ => rfl
    | ⟨1, _⟩ => rfl
theorem zeros_at (y : S4x512.Idx) : (zeros (F := Ideal) : S4x512.Idx → EReal) y = 0 :=
  (broadcastInDim_scalar_apply _ _ _).trans zero_word
theorem byGroup_at (x : S2048x4x128.Idx → EReal) : byGroup (F := Ideal) x (ix3 g t k) = x (ix3 t g k) :=
  transpose_apply _ _ _ _ _ fun b => by
    match b with
    | ⟨0, _⟩ => rfl
    | ⟨1, _⟩ => rfl
    | ⟨2, _⟩ => rfl
theorem byGroup'_at (x : S2048x4x512.Idx → EReal) : byGroup' (F := Ideal) x (ix3 g t q) = x (ix3 t g q) :=
  transpose_apply _ _ _ _ _ fun b => by
    match b with
    | ⟨0, _⟩ => rfl
    | ⟨1, _⟩ => rfl
    | ⟨2, _⟩ => rfl
theorem narrow_eq (x : S2048x512.Idx → EReal) : (narrow (F := Ideal) x : S2048x512.Idx → EReal) = x := by
  funext y
  obtain ⟨t, c, rfl⟩ : ∃ t c, y = ix2 t c := ⟨y 0, y 1, eq_ix2 y⟩
  show extractStridedSlice S2048x512 ![0, 0] (pad S2048x2560 ![0, 0] ![0, 2048] ![0, 0] x (constant (F := Ideal) S_ .f32 0x00000000#32)
    pads_S2048x512_S2048x2560_000_020480 h_S_) slices_S2048x2560_S2048x512_0_0 (ix2 t c) = _
  refine (extractStridedSlice_apply _ _ _ _ (ix2 t (inCol c)) fun a => ?_).trans
    (pad_apply_of_inside _ _ _ _ _ _ _ _ (ix2 t c) fun a => ?_)
  · match a with
    | ⟨0, _⟩ => exact (Nat.zero_add _).symm
    | ⟨1, _⟩ => exact (Nat.zero_add _).symm
  · match a with
    | ⟨0, _⟩ => show t.val = 0 + t.val * 1; omega
    | ⟨1, _⟩ => show c.val = 0 + c.val * 1; omega

/-! ## Products and sums -/

theorem toStates_at (x : S2048x4x128.Idx → EReal) (w : S4x512x128.Idx → EReal) :
    toStates (F := Ideal) x w (ix3 t g q) = ∑ c : Fin 128, x (ix3 t g c) * w (ix3 g q c) := by
  refine (transpose_apply _ _ _ _ (ix3 g t q) fun b => ?_).trans ((Ideal.dotGeneral_apply _ _ _ _ _ _).trans ?_)
  · match b with
    | ⟨0, _⟩ => rfl
    | ⟨1, _⟩ => rfl
    | ⟨2, _⟩ => rfl
  let d := dot_S2048x4x128_S4x512x128_S4x2048x512_2_2_0_1_1_0
  rw [← Equiv.sum_comp (contrEquiv1 d 128 rfl rfl).symm]
  refine Finset.sum_congr rfl fun c _ => ?_
  have hk := contrEquiv1_symm_val d 128 rfl rfl c
  congr 2
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => rfl
    | ⟨2, _⟩ => exact hk

theorem toStates'_at (x : S4x2048x128.Idx → EReal) (w : S4x512x128.Idx → EReal) :
    toStates' (F := Ideal) x w (ix3 t g q) = ∑ c : Fin 128, x (ix3 g t c) * w (ix3 g q c) := by
  refine (transpose_apply _ _ _ _ (ix3 g t q) fun b => ?_).trans ((Ideal.dotGeneral_apply _ _ _ _ _ _).trans ?_)
  · match b with
    | ⟨0, _⟩ => rfl
    | ⟨1, _⟩ => rfl
    | ⟨2, _⟩ => rfl
  let d := dot_S4x2048x128_S4x512x128_S4x2048x512_2_2_1_1_0_0
  rw [← Equiv.sum_comp (contrEquiv1 d 128 rfl rfl).symm]
  refine Finset.sum_congr rfl fun c _ => ?_
  have hk := contrEquiv1_symm_val d 128 rfl rfl c
  congr 2
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => rfl
    | ⟨2, _⟩ => exact hk

theorem toChans_at (x : S2048x4x512.Idx → EReal) (w : S4x512x128.Idx → EReal) :
    toChans (F := Ideal) x w (ix3 t g k) = ∑ p : Fin 512, x (ix3 t g p) * w (ix3 g p k) := by
  refine (transpose_apply _ _ _ _ (ix3 g t k) fun b => ?_).trans ((Ideal.dotGeneral_apply _ _ _ _ _ _).trans ?_)
  · match b with
    | ⟨0, _⟩ => rfl
    | ⟨1, _⟩ => rfl
    | ⟨2, _⟩ => rfl
  let d := dot_S2048x4x512_S4x512x128_S4x2048x128_2_1_0_2_1_0
  rw [← Equiv.sum_comp (contrEquiv1 d 512 rfl rfl).symm]
  refine Finset.sum_congr rfl fun c _ => ?_
  have hk := contrEquiv1_symm_val d 512 rfl rfl c
  congr 2
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => exact hk
    | ⟨2, _⟩ => rfl

theorem toChans'_at (x : S4x2048x512.Idx → EReal) (w : S4x512x128.Idx → EReal) :
    toChans' (F := Ideal) x w (ix3 t g k) = ∑ p : Fin 512, x (ix3 g t p) * w (ix3 g p k) := by
  refine (transpose_apply _ _ _ _ (ix3 g t k) fun b => ?_).trans ((Ideal.dotGeneral_apply _ _ _ _ _ _).trans ?_)
  · match b with
    | ⟨0, _⟩ => rfl
    | ⟨1, _⟩ => rfl
    | ⟨2, _⟩ => rfl
  let d := dot_S4x2048x512_S4x512x128_S4x2048x128_2_1_1_2_0_0
  rw [← Equiv.sum_comp (contrEquiv1 d 512 rfl rfl).symm]
  refine Finset.sum_congr rfl fun c _ => ?_
  have hk := contrEquiv1_symm_val d 512 rfl rfl c
  congr 2
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => exact hk
    | ⟨2, _⟩ => rfl

theorem outer_at (x : S4x2048x128.Idx → EReal) (s : S2048x4x512.Idx → EReal) :
    outer (F := Ideal) x s (ix3 g q k) = ∑ t : Fin 2048, x (ix3 g t k) * s (ix3 t g q) := by
  refine (transpose_apply _ _ _ _ (ix3 g k q) fun b => ?_).trans ((Ideal.dotGeneral_apply _ _ _ _ _ _).trans ?_)
  · match b with
    | ⟨0, _⟩ => rfl
    | ⟨1, _⟩ => rfl
    | ⟨2, _⟩ => rfl
  let d := dot_S4x2048x128_S2048x4x512_S4x128x512_1_0_2_2_0_1
  rw [← Equiv.sum_comp (contrEquiv1 d 2048 rfl rfl).symm]
  refine Finset.sum_congr rfl fun c _ => ?_
  have hk := contrEquiv1_symm_val d 2048 rfl rfl c
  congr 2
  · funext a; apply Fin.ext
    match a with
    | ⟨0, _⟩ => rfl
    | ⟨1, _⟩ => exact hk
    | ⟨2, _⟩ => rfl
  · funext a; apply Fin.ext
    match a with
    | ⟨0, _⟩ => exact hk
    | ⟨1, _⟩ => rfl
    | ⟨2, _⟩ => rfl

theorem outer'_at (s : S4x2048x512.Idx → EReal) (x : S2048x4x128.Idx → EReal) :
    outer' (F := Ideal) s x (ix3 g q k) = ∑ t : Fin 2048, s (ix3 g t q) * x (ix3 t g k) := by
  refine (Ideal.dotGeneral_apply _ _ _ _ _ _).trans ?_
  let d := dot_S4x2048x512_S2048x4x128_S4x512x128_1_0_2_2_0_1
  rw [← Equiv.sum_comp (contrEquiv1 d 2048 rfl rfl).symm]
  refine Finset.sum_congr rfl fun c _ => ?_
  have hk := contrEquiv1_symm_val d 2048 rfl rfl c
  congr 2
  · funext a; apply Fin.ext
    match a with
    | ⟨0, _⟩ => rfl
    | ⟨1, _⟩ => exact hk
    | ⟨2, _⟩ => rfl
  · funext a; apply Fin.ext
    match a with
    | ⟨0, _⟩ => exact hk
    | ⟨1, _⟩ => rfl
    | ⟨2, _⟩ => rfl

theorem overRows_at (x : S2048x4x128.Idx → EReal) (z : Fin 1) :
    overRows (F := Ideal) x (ix2 z (chan g k)) = ∑ t : Fin 2048, x (ix3 t g k) := by
  refine (shapeCast_apply _ _ _ (ix2 g k) (by
    rw [Shape.rowMajor_val_two, Shape.rowMajor_val_two]
    show g.val * 128 + k.val = z.val * 512 + (128 * g.val + k.val); omega)).trans ?_
  refine (hostReduceAdd_apply _ _ _ _ _).trans ((Ideal.hostReduceAdd_r3_a0 _ _ _ _).trans ?_)
  rw [show (constant (F := Ideal) S_ .f32 0x00000000#32 : S_.Idx → EReal) (Shape.Idx.first h_S_) = 0 from zero_word, zero_add, Fin.sum_univ_one]
  refine (shapeCast_apply _ _ _ (ix2 g k) (by
    rw [Shape.rowMajor_val_two, Shape.rowMajor_val_three]
    show g.val * 128 + k.val = ((0 : ℕ) * 4 + g.val) * 128 + k.val; omega)).trans ?_
  refine (hostReduceAdd_apply _ _ _ _ _).trans ((Ideal.hostReduceAdd_r3_a0 _ _ _ _).trans ?_)
  rw [show (constant (F := Ideal) S_ .f32 0x00000000#32 : S_.Idx → EReal) (Shape.Idx.first h_S_) = 0 from zero_word, zero_add]
  rfl

end Cert.ReferenceIdeal

end
-- ==== Proof.Finite.lean ====
/-
  The precondition's meaning: where it holds, each of the named arguments is a real number at every index the scan reads.
-/
module

public import proofs.«01_k».proof.Pre_finite
public import proofs.«01_k».proof.Proof.Whole
public import proofs.«01_k».proof.Proof.RefAt

@[expose] public section

noncomputable section

open Idealize.ShloMosaic hiding ix0 ix1 ix2 ix3 eq_ix2 eq_ix3
open Idealize.ShloMosaic.ValueIdx

namespace S5

theorem facts_finite : Cert.Pre_finite.Facts where
  slices_S2048x2560_S2048x512_0_0 := by decide
  bcast_S_S2048x512 := by decide
  bcast_S_S2048x128 := by decide
  bcast_S_S1x2048 := by decide

/-- The word the comparison is made with reads infinity. -/
theorem inf_word : Ideal.ofBits .f32 0x7F800000#32 = (⊤ : EReal) := by
  simp [Ideal.ofBits, Ideal.ieee]

/-- A magnitude below infinity is a real number's. -/
theorem real_of_cmp {x : EReal} (h : Ideal.cmp .olt (max x (-x)) (Ideal.ofBits .f32 0x7F800000#32) = 1#1) : ((x.toReal : ℝ) : EReal) = x := by
  rw [inf_word] at h
  have h' : max x (-x) < ⊤ := by
    by_contra hn
    simp [Ideal.cmp, hn] at h
  refine EReal.coe_toReal (ne_of_lt (lt_of_le_of_lt (le_max_left _ _) h')) fun e => ?_
  rw [e] at h'
  simp at h'

/-- The arguments the claim needs finite, in words: the input's columns, the weights, the diagonal, the output's cotangent. -/
structure Finite (P : Args) : Prop where
  x : ∀ t k, ((P.x (ix2 t (inCol k))).toReal : EReal) = P.x (ix2 t (inCol k))
  br : ∀ y, ((P.br y).toReal : EReal) = P.br y
  bi : ∀ y, ((P.bi y).toReal : EReal) = P.bi y
  cr : ∀ y, ((P.cr y).toReal : EReal) = P.cr y
  ci : ∀ y, ((P.ci y).toReal : EReal) = P.ci y
  ar : ∀ y, ((P.ar y).toReal : EReal) = P.ar y
  ai : ∀ y, ((P.ai y).toReal : EReal) = P.ai y
  dy : ∀ y, ((P.dy y).toReal : EReal) = P.dy y

/-- A group's numbers. -/
def Finite.real {P : Args} (h : Finite P) (g : Fin 4) : Real (P.grp g) where
  U y := ((P.grp g).u y).toReal
  Dy y := ((P.grp g).dy y).toReal
  B y := ⟨((P.grp g).br y).toReal, ((P.grp g).bi y).toReal⟩
  C y := ⟨((P.grp g).cr y).toReal, ((P.grp g).ci y).toReal⟩
  A y := ⟨((P.grp g).ar y).toReal, ((P.grp g).ai y).toReal⟩
  hu y := (h.x (y 0) (chan g (y 1))).symm
  hdy y := (h.dy _).symm
  hB y := ⟨(h.br _).symm, (h.bi _).symm⟩
  hC y := ⟨(h.cr _).symm, (h.ci _).symm⟩
  hA y := ⟨(h.ar _).symm, (h.ai _).symm⟩

/-- The precondition gives finite arguments. -/
theorem finite_of [Cert.Pre_finite.Facts] (P : Args)
    (h : Cert.Pre_finite.fn (F := Ideal) P.x P.br P.bi P.cr P.ci P.ar P.ai P.d P.dy
      = (fun _ => 1#1, fun _ => 1#1, fun _ => 1#1, fun _ => 1#1, fun _ => 1#1, fun _ => 1#1, fun _ => 1#1, fun _ => 1#1)) : Finite P := by
  have h0 := congrArg (fun p => p.1) h
  have h1 := congrArg (fun p => p.2.1) h
  have h2 := congrArg (fun p => p.2.2.1) h
  have h3 := congrArg (fun p => p.2.2.2.1) h
  have h4 := congrArg (fun p => p.2.2.2.2.1) h
  have h5 := congrArg (fun p => p.2.2.2.2.2.1) h
  have h6 := congrArg (fun p => p.2.2.2.2.2.2.1) h
  have h7 := congrArg (fun p => p.2.2.2.2.2.2.2) h
  refine ⟨fun t k => ?_, fun y => real_of_cmp (congrFun h1 y), fun y => real_of_cmp (congrFun h2 y), fun y => real_of_cmp (congrFun h3 y),
    fun y => real_of_cmp (congrFun h4 y), fun y => real_of_cmp (congrFun h5 y), fun y => real_of_cmp (congrFun h6 y), fun y => real_of_cmp (congrFun h7 y)⟩
  have e : extractStridedSlice Cert.Pre_finite.S2048x512 ![0, 0] P.x Cert.Pre_finite.Facts.slices_S2048x2560_S2048x512_0_0 (ix2 t k) = P.x (ix2 t (inCol k)) := by
    refine congrArg P.x ?_
    funext i
    fin_cases i <;> exact Fin.ext (Nat.zero_add _)
  rw [← e]
  exact real_of_cmp (congrFun h0 (ix2 t k))

end S5

end
-- ==== Proof.BlockVal.lean ====
/-
  What the two kernels leave in one block, in the words of the specification: the states, `y`, and the seven gradients.
-/
module

public import proofs.«01_k».proof.Proof.Spec
public import proofs.«01_k».proof.Proof.Blocks

@[expose] public section

set_option maxRecDepth 16384

noncomputable section

open Idealize.ShloMosaic Idealize.ShloMosaic.TcCoe Idealize.ShloMosaic.Tactic Idealize.SL.Sem Idealize.ShloMosaic.ValueIdx

namespace S5.Real

open Cert.KernelIdeal Cert.KernelIdeal.Gen S5.Fwd S5.Bwd

variable {G : Grp} (R : Real G)

section

variable (c : Dev nD) (i : grid0.Coords)
  (arg1 : Memref sig .tc .vmem S2048x128 .f32) (harg1 : arg1.IsWhole) (arg2 : Memref sig .tc .vmem S512x128 .f32) (harg2 : arg2.IsWhole) (arg3 : Memref sig .tc .vmem S512x128 .f32) (harg3 : arg3.IsWhole)
  (arg4 : Memref sig .tc .vmem S512x128 .f32) (harg4 : arg4.IsWhole) (arg5 : Memref sig .tc .vmem S512x128 .f32) (harg5 : arg5.IsWhole) (arg6 : Memref sig .tc .vmem S1x512 .f32) (harg6 : arg6.IsWhole)
  (arg7 : Memref sig .tc .vmem S1x512 .f32) (harg7 : arg7.IsWhole) (arg8 : Memref sig .tc .vmem S1x128 .f32) (harg8 : arg8.IsWhole) (arg9 : Memref sig .tc .vmem S2048x512 .f32) (harg9 : arg9.IsWhole)
  (arg10 : Memref sig .tc .vmem S2048x512 .f32) (harg10 : arg10.IsWhole) (arg11 : Memref sig .tc .vmem S2048x128 .f32) (harg11 : arg11.IsWhole)

theorem fwd_states : IsC (out0_A_8 (F := Ideal) c i arg1 harg1 arg2 harg2 arg3 harg3 arg4 harg4 arg5 harg5 arg6 harg6 arg7 harg7 arg8 harg8 arg9 harg9 arg10 harg10 arg11 harg11 G.u G.br G.bi G.cr G.ci G.ar G.ai G.d) (out0_A_9 (F := Ideal) c i arg1 harg1 arg2 harg2 arg3 harg3 arg4 harg4 arg5 harg5 arg6 harg6 arg7 harg7 arg8 harg8 arg9 harg9 arg10 harg10 arg11 harg11 G.u G.br G.bi G.cr G.ci G.ar G.ai G.d)
    (fun y => R.state (y 1) (y 0).val) :=
  states c i arg1 harg1 arg2 harg2 arg3 harg3 arg4 harg4 arg5 harg5 arg6 harg6 arg7 harg7 arg8 harg8 arg9 harg9 arg10 harg10 arg11 harg11 G.u G.br G.bi G.cr G.ci G.ar G.ai G.d R.hu R.hB R.hA

theorem fwd_xr : out0_A_8 (F := Ideal) c i arg1 harg1 arg2 harg2 arg3 harg3 arg4 harg4 arg5 harg5 arg6 harg6 arg7 harg7 arg8 harg8 arg9 harg9 arg10 harg10 arg11 harg11 G.u G.br G.bi G.cr G.ci G.ar G.ai G.d = R.xr :=
  funext fun y => (R.fwd_states c i arg1 harg1 arg2 harg2 arg3 harg3 arg4 harg4 arg5 harg5 arg6 harg6 arg7 harg7 arg8 harg8 arg9 harg9 arg10 harg10 arg11 harg11 y).1

theorem fwd_xi : out0_A_9 (F := Ideal) c i arg1 harg1 arg2 harg2 arg3 harg3 arg4 harg4 arg5 harg5 arg6 harg6 arg7 harg7 arg8 harg8 arg9 harg9 arg10 harg10 arg11 harg11 G.u G.br G.bi G.cr G.ci G.ar G.ai G.d = R.xi :=
  funext fun y => (R.fwd_states c i arg1 harg1 arg2 harg2 arg3 harg3 arg4 harg4 arg5 harg5 arg6 harg6 arg7 harg7 arg8 harg8 arg9 harg9 arg10 harg10 arg11 harg11 y).2

theorem fwd_y : out0_A_10 (F := Ideal) c i arg1 harg1 arg2 harg2 arg3 harg3 arg4 harg4 arg5 harg5 arg6 harg6 arg7 harg7 arg8 harg8 arg9 harg9 arg10 harg10 arg11 harg11 G.u G.br G.bi G.cr G.ci G.ar G.ai G.d = R.outY := by
  rw [y_out, R.fwd_xr, R.fwd_xi]
  rfl

end

section

variable (c : Dev nD) (i : grid1.Coords)
  (arg1 : Memref sig .tc .vmem S2048x128 .f32) (harg1 : arg1.IsWhole) (arg2 : Memref sig .tc .vmem S2048x128 .f32) (harg2 : arg2.IsWhole) (arg3 : Memref sig .tc .vmem S2048x512 .f32) (harg3 : arg3.IsWhole)
  (arg4 : Memref sig .tc .vmem S2048x512 .f32) (harg4 : arg4.IsWhole) (arg5 : Memref sig .tc .vmem S512x128 .f32) (harg5 : arg5.IsWhole) (arg6 : Memref sig .tc .vmem S512x128 .f32) (harg6 : arg6.IsWhole)
  (arg7 : Memref sig .tc .vmem S512x128 .f32) (harg7 : arg7.IsWhole) (arg8 : Memref sig .tc .vmem S512x128 .f32) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x128 .f32) (harg11 : arg11.IsWhole) (arg12 : Memref sig .tc .vmem S2048x128 .bf16) (harg12 : arg12.IsWhole)
  (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole)
  (arg16 : Memref sig .tc .vmem S512x128 .f32) (harg16 : arg16.IsWhole) (arg17 : Memref sig .tc .vmem S1x512 .f32) (harg17 : arg17.IsWhole) (arg18 : Memref sig .tc .vmem S1x512 .f32) (harg18 : arg18.IsWhole)
  (arg19 : Memref sig .tc .vmem S1x128 .f32) (harg19 : arg19.IsWhole) (arg20 : Memref sig .tc .vmem S2048x512 .f32) (harg20 : arg20.IsWhole) (arg21 : Memref sig .tc .vmem S2048x512 .f32) (harg21 : arg21.IsWhole)

theorem bwd_loop :
    IsC (loopOf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy R.xr R.xi G.cr G.ci G.ar G.ai).1.2.2.1 (loopOf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy R.xr R.xi G.cr G.ci G.ar G.ai).1.2.2.2
        (fun j => part (fun t => R.state (j 1) t) (st ((starRingEnd ℂ) (R.A (ix2 0 (j 1)))) (cot R.Dy R.C (j 1))) 256 (j 0).val)
      ∧ IsC (View.canon (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy R.xr R.xi G.cr G.ci G.ar G.ai)) (View.canon (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy R.xr R.xi G.cr G.ci G.ar G.ai)) (fun y => lam R.A R.Dy R.C (y 1) (y 0).val) :=
  loop_done (x := fun q t => R.state q t) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy R.xr R.xi G.cr G.ci G.ar G.ai R.hdy R.hC R.hA (fun y => ⟨rfl, rfl⟩)

theorem bwd_lr : View.canon (lamR c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy R.xr R.xi G.cr G.ci G.ar G.ai) = R.lr := funext fun y => ((R.bwd_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 y).1
theorem bwd_li : View.canon (lamI c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy R.xr R.xi G.cr G.ci G.ar G.ai) = R.li := funext fun y => ((R.bwd_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).2 y).2

theorem bwd_du : out1_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy G.u R.xr R.xi G.br G.bi G.cr G.ci G.ar G.ai G.d = R.outDu := by
  rw [du_out, R.bwd_lr, R.bwd_li]
  rfl

theorem bwd_br : out1_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy G.u R.xr R.xi G.br G.bi G.cr G.ci G.ar G.ai G.d = R.outBr := by
  funext y
  rw [wbr_out, R.bwd_lr]
  rfl

theorem bwd_bi : out1_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy G.u R.xr R.xi G.br G.bi G.cr G.ci G.ar G.ai G.d = R.outBi := by
  funext y
  rw [wbi_out, R.bwd_li]
  rfl

theorem bwd_cr : out1_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy G.u R.xr R.xi G.br G.bi G.cr G.ci G.ar G.ai G.d = R.outCr := by
  funext y
  exact wcr_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy G.u R.xr R.xi G.br G.bi G.cr G.ci G.ar G.ai G.d y

theorem bwd_ci : out1_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy G.u R.xr R.xi G.br G.bi G.cr G.ci G.ar G.ai G.d = R.outCi := by
  funext y
  exact wci_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy G.u R.xr R.xi G.br G.bi G.cr G.ci G.ar G.ai G.d (Y := fun y => (R.state (y 1) (y 0).val).im) (fun _ => rfl) R.hdy y

theorem bwd_ar : out1_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy G.u R.xr R.xi G.br G.bi G.cr G.ci G.ar G.ai G.d = R.outAr := by
  funext y
  obtain ⟨q, rfl⟩ : ∃ q : Fin 512, y = ix2 0 q := ⟨y 1, (eq_ix2 (n0 := 1) (n1 := 512) y).trans (congrArg (ix2 · (y 1)) (Subsingleton.elim (α := Fin 1) _ _))⟩
  rw [out16]
  refine (colSum8_apply _ q).trans ?_
  refine (Finset.sum_congr rfl fun r _ => ((R.bwd_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 (ix2 r q)).1).trans ?_
  refine (coe_sum _ _).trans (congrArg _ ?_)
  show (∑ r : Fin 8, (part (fun t => R.state q t) (st ((starRingEnd ℂ) (R.A (ix2 0 q))) (cot R.Dy R.C q)) 256 r.val).re) = (R.gradA q).re
  rw [← R.gradA_part q, Complex.re_sum]

theorem bwd_ai : out1_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy G.u R.xr R.xi G.br G.bi G.cr G.ci G.ar G.ai G.d = R.outAi := by
  funext y
  obtain ⟨q, rfl⟩ : ∃ q : Fin 512, y = ix2 0 q := ⟨y 1, (eq_ix2 (n0 := 1) (n1 := 512) y).trans (congrArg (ix2 · (y 1)) (Subsingleton.elim (α := Fin 1) _ _))⟩
  rw [out17]
  refine (colSum8_apply _ q).trans ?_
  refine (Finset.sum_congr rfl fun r _ => ((R.bwd_loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21).1 (ix2 r q)).2).trans ?_
  refine (coe_sum _ _).trans (congrArg _ ?_)
  show (∑ r : Fin 8, (part (fun t => R.state q t) (st ((starRingEnd ℂ) (R.A (ix2 0 q))) (cot R.Dy R.C q)) 256 r.val).im) = (R.gradA q).im
  rw [← R.gradA_part q, Complex.im_sum]

theorem bwd_d : out1_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy G.u R.xr R.xi G.br G.bi G.cr G.ci G.ar G.ai G.d = G.outD := by
  funext y
  exact d_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 G.dy G.u R.xr R.xi G.br G.bi G.cr G.ci G.ar G.ai G.d y

end

end S5.Real

end
-- ==== Proof.KerVal.lean ====
/-
  What the kernel's arrays hold when it returns: each grid point's block is what `BlockVal` says of its group, and the
  four blocks of an array tile it. The launch's thread state then gives the value run: `returns`.
-/
module

public import proofs.«01_k».proof.Proof.Whole
public import proofs.«01_k».proof.Proof.BlockVal
public import Idealize.ShloMosaic.Lib.Pipeline.ValueKit.Geometry

@[expose] public section

set_option maxRecDepth 16384

noncomputable section

open Idealize.ShloMosaic Idealize.ShloMosaic.Pipeline Idealize.ShloMosaic.Pipeline Idealize.ShloMosaic.Pipeline Idealize.ShloMosaic.Pipeline Idealize.ShloMosaic.Pipeline Idealize.ShloMosaic.TcCoe Idealize.ShloMosaic.Tactic Idealize.SL.Sem Idealize.ShloMosaic.ValueIdx

namespace Cert.KernelIdeal.Val

open Cert.KernelIdeal Cert.KernelIdeal.Gen S5

variable (m : (ℓ : Loc nD τ sig) → Buf (Elt Ideal) ℓ) (ρ : Dev nD → PrngReg)

/-- The argument arrays. -/
def args (c : Dev nD) : Args where
  x := m ((c : Thread nD τ).loc main_arg0)
  br := m ((c : Thread nD τ).loc main_arg1)
  bi := m ((c : Thread nD τ).loc main_arg2)
  cr := m ((c : Thread nD τ).loc main_arg3)
  ci := m ((c : Thread nD τ).loc main_arg4)
  ar := m ((c : Thread nD τ).loc main_arg5)
  ai := m ((c : Thread nD τ).loc main_arg6)
  d := m ((c : Thread nD τ).loc main_arg7)
  dy := m ((c : Thread nD τ).loc main_arg8)

/-- The group a grid point works on. -/
def grpAt (t : Fin cfg0.N) : Fin 4 := ⟨t.val, t.isLt.trans_eq N_0⟩

/-- Where a block's entries lie in its array: group `g`'s channels, its states as columns, its states as rows. -/
theorem to_chan {n : ℕ} {p : (⟨2, ![n, 512]⟩ : Shape).Idx} {a : Fin n} {b : Fin 128} (g : Fin 4)
    (h0 : (p 0).val = a.val) (h1 : (p 1).val = g.val * 128 + b.val) : p = ix2 a (chan g b) := by
  refine (eq_ix2 p).trans (congrArg₂ ix2 (Fin.ext h0) (Fin.ext (h1.trans ?_)))
  show _ = 128 * g.val + b.val
  omega
theorem to_inCol {n : ℕ} {p : (⟨2, ![n, 2560]⟩ : Shape).Idx} {a : Fin n} {b : Fin 128} (g : Fin 4)
    (h0 : (p 0).val = a.val) (h1 : (p 1).val = g.val * 128 + b.val) : p = ix2 a (inCol (chan g b)) := by
  refine (eq_ix2 p).trans (congrArg₂ ix2 (Fin.ext h0) (Fin.ext (h1.trans ?_)))
  show _ = 128 * g.val + b.val
  omega
theorem to_stat {n : ℕ} {p : (⟨2, ![n, 2048]⟩ : Shape).Idx} {a : Fin n} {b : Fin 512} (g : Fin 4)
    (h0 : (p 0).val = a.val) (h1 : (p 1).val = g.val * 512 + b.val) : p = ix2 a (stat g b) := by
  refine (eq_ix2 p).trans (congrArg₂ ix2 (Fin.ext h0) (Fin.ext (h1.trans ?_)))
  show _ = 512 * g.val + b.val
  omega
theorem to_row {p : (⟨2, ![2048, 128]⟩ : Shape).Idx} {a : Fin 512} {b : Fin 128} (g : Fin 4)
    (h0 : (p 0).val = g.val * 512 + a.val) (h1 : (p 1).val = b.val) : p = ix2 (stat g a) b := by
  refine (eq_ix2 p).trans (congrArg₂ ix2 (Fin.ext (h0.trans ?_)) (Fin.ext h1))
  show _ = 512 * g.val + a.val
  omega

/-! ## The forward kernel's blocks -/

theorem emb0_0 (t : Fin cfg0.N) (y) : (win0_0.blk t).view.emb y = ix2 (y 0) (inCol (chan (grpAt t) (y 1))) := by
  have e : win0_0.index t = ![0, t.val] := (by decide +kernel : ∀ t : Fin grid0.N, win0_0.index t = ![0, t.val]) t
  refine to_inCol (grpAt t) ?_ ?_ <;> blk_simp [e] <;> rfl
theorem emb0_1 (t : Fin cfg0.N) (y) : (win0_1.blk t).view.emb y = ix2 (stat (grpAt t) (y 0)) (y 1) := by
  have e : win0_1.index t = ![t.val, 0] := (by decide +kernel : ∀ t : Fin grid0.N, win0_1.index t = ![t.val, 0]) t
  refine to_row (grpAt t) ?_ ?_ <;> blk_simp [e] <;> rfl
theorem emb0_2 (t : Fin cfg0.N) (y) : (win0_2.blk t).view.emb y = ix2 (stat (grpAt t) (y 0)) (y 1) := by
  have e : win0_2.index t = ![t.val, 0] := (by decide +kernel : ∀ t : Fin grid0.N, win0_2.index t = ![t.val, 0]) t
  refine to_row (grpAt t) ?_ ?_ <;> blk_simp [e] <;> rfl
theorem emb0_3 (t : Fin cfg0.N) (y) : (win0_3.blk t).view.emb y = ix2 (stat (grpAt t) (y 0)) (y 1) := by
  have e : win0_3.index t = ![t.val, 0] := (by decide +kernel : ∀ t : Fin grid0.N, win0_3.index t = ![t.val, 0]) t
  refine to_row (grpAt t) ?_ ?_ <;> blk_simp [e] <;> rfl
theorem emb0_4 (t : Fin cfg0.N) (y) : (win0_4.blk t).view.emb y = ix2 (stat (grpAt t) (y 0)) (y 1) := by
  have e : win0_4.index t = ![t.val, 0] := (by decide +kernel : ∀ t : Fin grid0.N, win0_4.index t = ![t.val, 0]) t
  refine to_row (grpAt t) ?_ ?_ <;> blk_simp [e] <;> rfl
theorem emb0_5 (t : Fin cfg0.N) (y) : (win0_5.blk t).view.emb y = ix2 (y 0) (stat (grpAt t) (y 1)) := by
  have e : win0_5.index t = ![0, t.val] := (by decide +kernel : ∀ t : Fin grid0.N, win0_5.index t = ![0, t.val]) t
  refine to_stat (grpAt t) ?_ ?_ <;> blk_simp [e] <;> rfl
theorem emb0_6 (t : Fin cfg0.N) (y) : (win0_6.blk t).view.emb y = ix2 (y 0) (stat (grpAt t) (y 1)) := by
  have e : win0_6.index t = ![0, t.val] := (by decide +kernel : ∀ t : Fin grid0.N, win0_6.index t = ![0, t.val]) t
  refine to_stat (grpAt t) ?_ ?_ <;> blk_simp [e] <;> rfl
theorem emb0_7 (t : Fin cfg0.N) (y) : (win0_7.blk t).view.emb y = ix2 (y 0) (chan (grpAt t) (y 1)) := by
  have e : win0_7.index t = ![0, t.val] := (by decide +kernel : ∀ t : Fin grid0.N, win0_7.index t = ![0, t.val]) t
  refine to_chan (grpAt t) ?_ ?_ <;> blk_simp [e] <;> rfl
theorem emb0_8 (t : Fin cfg0.N) (y) : (win0_8.blk t).view.emb y = ix2 (y 0) (stat (grpAt t) (y 1)) := by
  have e : win0_8.index t = ![0, t.val] := (by decide +kernel : ∀ t : Fin grid0.N, win0_8.index t = ![0, t.val]) t
  refine to_stat (grpAt t) ?_ ?_ <;> blk_simp [e] <;> rfl
theorem emb0_9 (t : Fin cfg0.N) (y) : (win0_9.blk t).view.emb y = ix2 (y 0) (stat (grpAt t) (y 1)) := by
  have e : win0_9.index t = ![0, t.val] := (by decide +kernel : ∀ t : Fin grid0.N, win0_9.index t = ![0, t.val]) t
  refine to_stat (grpAt t) ?_ ?_ <;> blk_simp [e] <;> rfl
theorem emb0_10 (t : Fin cfg0.N) (y) : (win0_10.blk t).view.emb y = ix2 (y 0) (chan (grpAt t) (y 1)) := by
  have e : win0_10.index t = ![0, t.val] := (by decide +kernel : ∀ t : Fin grid0.N, win0_10.index t = ![0, t.val]) t
  refine to_chan (grpAt t) ?_ ?_ <;> blk_simp [e] <;> rfl

theorem ld0 (c : Dev nD) (b : Ref sig .tc) : V0 m ρ c b = m ((c : Thread nD τ).loc b) := rfl

theorem blk0_0 (c : Dev nD) (t : Fin cfg0.N) : iblk0 (V0 m ρ) c 0 t = ((args m c).grp (grpAt t)).u :=
  funext fun y => congrArg (args m c).x (emb0_0 t y)
theorem blk0_1 (c : Dev nD) (t : Fin cfg0.N) : iblk0 (V0 m ρ) c 1 t = ((args m c).grp (grpAt t)).br :=
  funext fun y => congrArg (args m c).br (emb0_1 t y)
theorem blk0_2 (c : Dev nD) (t : Fin cfg0.N) : iblk0 (V0 m ρ) c 2 t = ((args m c).grp (grpAt t)).bi :=
  funext fun y => congrArg (args m c).bi (emb0_2 t y)
theorem blk0_3 (c : Dev nD) (t : Fin cfg0.N) : iblk0 (V0 m ρ) c 3 t = ((args m c).grp (grpAt t)).cr :=
  funext fun y => congrArg (args m c).cr (emb0_3 t y)
theorem blk0_4 (c : Dev nD) (t : Fin cfg0.N) : iblk0 (V0 m ρ) c 4 t = ((args m c).grp (grpAt t)).ci :=
  funext fun y => congrArg (args m c).ci (emb0_4 t y)
theorem blk0_5 (c : Dev nD) (t : Fin cfg0.N) : iblk0 (V0 m ρ) c 5 t = ((args m c).grp (grpAt t)).ar :=
  funext fun y => congrArg (args m c).ar (emb0_5 t y)
theorem blk0_6 (c : Dev nD) (t : Fin cfg0.N) : iblk0 (V0 m ρ) c 6 t = ((args m c).grp (grpAt t)).ai :=
  funext fun y => congrArg (args m c).ai (emb0_6 t y)
theorem blk0_7 (c : Dev nD) (t : Fin cfg0.N) : iblk0 (V0 m ρ) c 7 t = ((args m c).grp (grpAt t)).d :=
  funext fun y => congrArg (args m c).d (emb0_7 t y)

variable {m}
variable {c : Dev nD} (R : ∀ g, Real ((args m c).grp g))

/-- What the forward kernel leaves at a grid point. -/
theorem out0 (t : Fin cfg0.N) : outsAt0 (V0 m ρ) c t = ((R (grpAt t)).xr, (R (grpAt t)).xi, (R (grpAt t)).outY) := by
  unfold outsAt0
  rw [blk0_0, blk0_1, blk0_2, blk0_3, blk0_4, blk0_5, blk0_6, blk0_7, (R (grpAt t)).fwd_xr, (R (grpAt t)).fwd_xi, (R (grpAt t)).fwd_y]

/-- The states and the scan's output, whole. -/
theorem arr0_8 : (dat0 (V0 m ρ) c).arrAt 8 cfg0.N = byState fun g => (R g).xr := by
  refine Dat.arrAt_eq_of_covers (dat0 (V0 m ρ) c) 8 _ (by decide +kernel) fun t hf y => ?_
  blk_simp
  rw [after0_8]
  exact ((congrFun (congrArg (fun o => o.1) (out0 ρ R t)) y).trans (congrArg _ (eq_ix2 y))).trans
    ((congrArg (byState fun g => (R g).xr) (emb0_8 t y)).trans (byState_at _ _ _ _)).symm
theorem arr0_9 : (dat0 (V0 m ρ) c).arrAt 9 cfg0.N = byState fun g => (R g).xi := by
  refine Dat.arrAt_eq_of_covers (dat0 (V0 m ρ) c) 9 _ (by decide +kernel) fun t hf y => ?_
  blk_simp
  rw [after0_9]
  exact ((congrFun (congrArg (fun o => o.2.1) (out0 ρ R t)) y).trans (congrArg _ (eq_ix2 y))).trans
    ((congrArg (byState fun g => (R g).xi) (emb0_9 t y)).trans (byState_at _ _ _ _)).symm
theorem arr0_10 : (dat0 (V0 m ρ) c).arrAt 10 cfg0.N = byChan fun g => (R g).outY := by
  refine Dat.arrAt_eq_of_covers (dat0 (V0 m ρ) c) 10 _ (by decide +kernel) fun t hf y => ?_
  blk_simp
  rw [after0_10]
  exact ((congrFun (congrArg (fun o => o.2.2) (out0 ρ R t)) y).trans (congrArg _ (eq_ix2 y))).trans
    ((congrArg (byChan fun g => (R g).outY) (emb0_10 t y)).trans (byChan_at _ _ _ _)).symm

/-! ## The backward kernel's blocks -/

/-- The group a grid point works on. -/
def grpAt1 (t : Fin cfg1.N) : Fin 4 := ⟨t.val, t.isLt.trans_eq N_1⟩

theorem emb1_0 (t : Fin cfg1.N) (y) : (win1_0.blk t).view.emb y = ix2 (y 0) (chan (grpAt1 t) (y 1)) := by
  have e : win1_0.index t = ![0, t.val] := (by decide +kernel : ∀ t : Fin grid1.N, win1_0.index t = ![0, t.val]) t
  refine to_chan (grpAt1 t) ?_ ?_ <;> blk_simp [e] <;> rfl
theorem emb1_1 (t : Fin cfg1.N) (y) : (win1_1.blk t).view.emb y = ix2 (y 0) (inCol (chan (grpAt1 t) (y 1))) := by
  have e : win1_1.index t = ![0, t.val] := (by decide +kernel : ∀ t : Fin grid1.N, win1_1.index t = ![0, t.val]) t
  refine to_inCol (grpAt1 t) ?_ ?_ <;> blk_simp [e] <;> rfl
theorem emb1_2 (t : Fin cfg1.N) (y) : (win1_2.blk t).view.emb y = ix2 (y 0) (stat (grpAt1 t) (y 1)) := by
  have e : win1_2.index t = ![0, t.val] := (by decide +kernel : ∀ t : Fin grid1.N, win1_2.index t = ![0, t.val]) t
  refine to_stat (grpAt1 t) ?_ ?_ <;> blk_simp [e] <;> rfl
theorem emb1_3 (t : Fin cfg1.N) (y) : (win1_3.blk t).view.emb y = ix2 (y 0) (stat (grpAt1 t) (y 1)) := by
  have e : win1_3.index t = ![0, t.val] := (by decide +kernel : ∀ t : Fin grid1.N, win1_3.index t = ![0, t.val]) t
  refine to_stat (grpAt1 t) ?_ ?_ <;> blk_simp [e] <;> rfl
theorem emb1_4 (t : Fin cfg1.N) (y) : (win1_4.blk t).view.emb y = ix2 (stat (grpAt1 t) (y 0)) (y 1) := by
  have e : win1_4.index t = ![t.val, 0] := (by decide +kernel : ∀ t : Fin grid1.N, win1_4.index t = ![t.val, 0]) t
  refine to_row (grpAt1 t) ?_ ?_ <;> blk_simp [e] <;> rfl
theorem emb1_5 (t : Fin cfg1.N) (y) : (win1_5.blk t).view.emb y = ix2 (stat (grpAt1 t) (y 0)) (y 1) := by
  have e : win1_5.index t = ![t.val, 0] := (by decide +kernel : ∀ t : Fin grid1.N, win1_5.index t = ![t.val, 0]) t
  refine to_row (grpAt1 t) ?_ ?_ <;> blk_simp [e] <;> rfl
theorem emb1_6 (t : Fin cfg1.N) (y) : (win1_6.blk t).view.emb y = ix2 (stat (grpAt1 t) (y 0)) (y 1) := by
  have e : win1_6.index t = ![t.val, 0] := (by decide +kernel : ∀ t : Fin grid1.N, win1_6.index t = ![t.val, 0]) t
  refine to_row (grpAt1 t) ?_ ?_ <;> blk_simp [e] <;> rfl
theorem emb1_7 (t : Fin cfg1.N) (y) : (win1_7.blk t).view.emb y = ix2 (stat (grpAt1 t) (y 0)) (y 1) := by
  have e : win1_7.index t = ![t.val, 0] := (by decide +kernel : ∀ t : Fin grid1.N, win1_7.index t = ![t.val, 0]) t
  refine to_row (grpAt1 t) ?_ ?_ <;> blk_simp [e] <;> rfl
theorem emb1_8 (t : Fin cfg1.N) (y) : (win1_8.blk t).view.emb y = ix2 (y 0) (stat (grpAt1 t) (y 1)) := by
  have e : win1_8.index t = ![0, t.val] := (by decide +kernel : ∀ t : Fin grid1.N, win1_8.index t = ![0, t.val]) t
  refine to_stat (grpAt1 t) ?_ ?_ <;> blk_simp [e] <;> rfl
theorem emb1_9 (t : Fin cfg1.N) (y) : (win1_9.blk t).view.emb y = ix2 (y 0) (stat (grpAt1 t) (y 1)) := by
  have e : win1_9.index t = ![0, t.val] := (by decide +kernel : ∀ t : Fin grid1.N, win1_9.index t = ![0, t.val]) t
  refine to_stat (grpAt1 t) ?_ ?_ <;> blk_simp [e] <;> rfl
theorem emb1_10 (t : Fin cfg1.N) (y) : (win1_10.blk t).view.emb y = ix2 (y 0) (chan (grpAt1 t) (y 1)) := by
  have e : win1_10.index t = ![0, t.val] := (by decide +kernel : ∀ t : Fin grid1.N, win1_10.index t = ![0, t.val]) t
  refine to_chan (grpAt1 t) ?_ ?_ <;> blk_simp [e] <;> rfl
theorem emb1_11 (t : Fin cfg1.N) (y) : (win1_11.blk t).view.emb y = ix2 (y 0) (chan (grpAt1 t) (y 1)) := by
  have e : win1_11.index t = ![0, t.val] := (by decide +kernel : ∀ t : Fin grid1.N, win1_11.index t = ![0, t.val]) t
  refine to_chan (grpAt1 t) ?_ ?_ <;> blk_simp [e] <;> rfl
theorem emb1_12 (t : Fin cfg1.N) (y) : (win1_12.blk t).view.emb y = ix2 (stat (grpAt1 t) (y 0)) (y 1) := by
  have e : win1_12.index t = ![t.val, 0] := (by decide +kernel : ∀ t : Fin grid1.N, win1_12.index t = ![t.val, 0]) t
  refine to_row (grpAt1 t) ?_ ?_ <;> blk_simp [e] <;> rfl
theorem emb1_13 (t : Fin cfg1.N) (y) : (win1_13.blk t).view.emb y = ix2 (stat (grpAt1 t) (y 0)) (y 1) := by
  have e : win1_13.index t = ![t.val, 0] := (by decide +kernel : ∀ t : Fin grid1.N, win1_13.index t = ![t.val, 0]) t
  refine to_row (grpAt1 t) ?_ ?_ <;> blk_simp [e] <;> rfl
theorem emb1_14 (t : Fin cfg1.N) (y) : (win1_14.blk t).view.emb y = ix2 (stat (grpAt1 t) (y 0)) (y 1) := by
  have e : win1_14.index t = ![t.val, 0] := (by decide +kernel : ∀ t : Fin grid1.N, win1_14.index t = ![t.val, 0]) t
  refine to_row (grpAt1 t) ?_ ?_ <;> blk_simp [e] <;> rfl
theorem emb1_15 (t : Fin cfg1.N) (y) : (win1_15.blk t).view.emb y = ix2 (stat (grpAt1 t) (y 0)) (y 1) := by
  have e : win1_15.index t = ![t.val, 0] := (by decide +kernel : ∀ t : Fin grid1.N, win1_15.index t = ![t.val, 0]) t
  refine to_row (grpAt1 t) ?_ ?_ <;> blk_simp [e] <;> rfl
theorem emb1_16 (t : Fin cfg1.N) (y) : (win1_16.blk t).view.emb y = ix2 (y 0) (stat (grpAt1 t) (y 1)) := by
  have e : win1_16.index t = ![0, t.val] := (by decide +kernel : ∀ t : Fin grid1.N, win1_16.index t = ![0, t.val]) t
  refine to_stat (grpAt1 t) ?_ ?_ <;> blk_simp [e] <;> rfl
theorem emb1_17 (t : Fin cfg1.N) (y) : (win1_17.blk t).view.emb y = ix2 (y 0) (stat (grpAt1 t) (y 1)) := by
  have e : win1_17.index t = ![0, t.val] := (by decide +kernel : ∀ t : Fin grid1.N, win1_17.index t = ![0, t.val]) t
  refine to_stat (grpAt1 t) ?_ ?_ <;> blk_simp [e] <;> rfl
theorem emb1_18 (t : Fin cfg1.N) (y) : (win1_18.blk t).view.emb y = ix2 (y 0) (chan (grpAt1 t) (y 1)) := by
  have e : win1_18.index t = ![0, t.val] := (by decide +kernel : ∀ t : Fin grid1.N, win1_18.index t = ![0, t.val]) t
  refine to_chan (grpAt1 t) ?_ ?_ <;> blk_simp [e] <;> rfl

omit R in
theorem blk1_0 (t : Fin cfg1.N) : iblk1 (V1 m ρ) c 0 t = ((args m c).grp (grpAt1 t)).dy :=
  funext fun y => (congrFun (W1_args m ρ c main_arg8 (by decide)) _).trans (congrArg (args m c).dy (emb1_0 t y))
omit R in
theorem blk1_1 (t : Fin cfg1.N) : iblk1 (V1 m ρ) c 1 t = ((args m c).grp (grpAt1 t)).u :=
  funext fun y => (congrFun (W1_args m ρ c main_arg0 (by decide)) _).trans (congrArg (args m c).x (emb1_1 t y))
theorem blk1_2 (t : Fin cfg1.N) : iblk1 (V1 m ρ) c 2 t = (R (grpAt1 t)).xr :=
  funext fun y => (congrFun ((W1_arr m ρ c 8).trans (arr0_8 ρ R)) _).trans
    (((congrArg (byState fun g => (R g).xr) (emb1_2 t y)).trans (byState_at _ _ _ _)).trans (congrArg _ (eq_ix2 y).symm))
theorem blk1_3 (t : Fin cfg1.N) : iblk1 (V1 m ρ) c 3 t = (R (grpAt1 t)).xi :=
  funext fun y => (congrFun ((W1_arr m ρ c 9).trans (arr0_9 ρ R)) _).trans
    (((congrArg (byState fun g => (R g).xi) (emb1_3 t y)).trans (byState_at _ _ _ _)).trans (congrArg _ (eq_ix2 y).symm))
omit R in
theorem blk1_4 (t : Fin cfg1.N) : iblk1 (V1 m ρ) c 4 t = ((args m c).grp (grpAt1 t)).br :=
  funext fun y => (congrFun (W1_args m ρ c main_arg1 (by decide)) _).trans (congrArg (args m c).br (emb1_4 t y))
omit R in
theorem blk1_5 (t : Fin cfg1.N) : iblk1 (V1 m ρ) c 5 t = ((args m c).grp (grpAt1 t)).bi :=
  funext fun y => (congrFun (W1_args m ρ c main_arg2 (by decide)) _).trans (congrArg (args m c).bi (emb1_5 t y))
omit R in
theorem blk1_6 (t : Fin cfg1.N) : iblk1 (V1 m ρ) c 6 t = ((args m c).grp (grpAt1 t)).cr :=
  funext fun y => (congrFun (W1_args m ρ c main_arg3 (by decide)) _).trans (congrArg (args m c).cr (emb1_6 t y))
omit R in
theorem blk1_7 (t : Fin cfg1.N) : iblk1 (V1 m ρ) c 7 t = ((args m c).grp (grpAt1 t)).ci :=
  funext fun y => (congrFun (W1_args m ρ c main_arg4 (by decide)) _).trans (congrArg (args m c).ci (emb1_7 t y))
omit R in
theorem blk1_8 (t : Fin cfg1.N) : iblk1 (V1 m ρ) c 8 t = ((args m c).grp (grpAt1 t)).ar :=
  funext fun y => (congrFun (W1_args m ρ c main_arg5 (by decide)) _).trans (congrArg (args m c).ar (emb1_8 t y))
omit R in
theorem blk1_9 (t : Fin cfg1.N) : iblk1 (V1 m ρ) c 9 t = ((args m c).grp (grpAt1 t)).ai :=
  funext fun y => (congrFun (W1_args m ρ c main_arg6 (by decide)) _).trans (congrArg (args m c).ai (emb1_9 t y))
omit R in
theorem blk1_10 (t : Fin cfg1.N) : iblk1 (V1 m ρ) c 10 t = ((args m c).grp (grpAt1 t)).d :=
  funext fun y => (congrFun (W1_args m ρ c main_arg7 (by decide)) _).trans (congrArg (args m c).d (emb1_10 t y))

/-- What the backward kernel leaves at a grid point. -/
theorem out1 (t : Fin cfg1.N) : outsAt1 (V1 m ρ) c t = ((R (grpAt1 t)).outDu, (R (grpAt1 t)).outBr, (R (grpAt1 t)).outBi, (R (grpAt1 t)).outCr, (R (grpAt1 t)).outCi, (R (grpAt1 t)).outAr, (R (grpAt1 t)).outAi, ((args m c).grp (grpAt1 t)).outD) := by
  unfold outsAt1
  rw [blk1_0 ρ, blk1_1 ρ, blk1_2 ρ R, blk1_3 ρ R, blk1_4 ρ, blk1_5 ρ, blk1_6 ρ, blk1_7 ρ, blk1_8 ρ, blk1_9 ρ, blk1_10 ρ,
    (R (grpAt1 t)).bwd_du, (R (grpAt1 t)).bwd_br, (R (grpAt1 t)).bwd_bi, (R (grpAt1 t)).bwd_cr, (R (grpAt1 t)).bwd_ci, (R (grpAt1 t)).bwd_ar, (R (grpAt1 t)).bwd_ai, (R (grpAt1 t)).bwd_d]

/-- The gradients, whole. -/
theorem arr1_11 : (dat1 (V1 m ρ) c).arrAt 11 cfg1.N = byChan fun g => (R g).outDu := by
  refine Dat.arrAt_eq_of_covers (dat1 (V1 m ρ) c) 11 _ (by decide +kernel) fun t hf y => ?_
  blk_simp
  rw [after1_11]
  exact ((congrFun (congrArg (fun o => o.1) (out1 ρ R t)) y).trans (congrArg _ (eq_ix2 y))).trans
    ((congrArg (byChan fun g => (R g).outDu) (emb1_11 t y)).trans (byChan_at _ _ _ _)).symm
theorem arr1_12 : (dat1 (V1 m ρ) c).arrAt 12 cfg1.N = stacked fun g => (R g).outBr := by
  refine Dat.arrAt_eq_of_covers (dat1 (V1 m ρ) c) 12 _ (by decide +kernel) fun t hf y => ?_
  blk_simp
  rw [after1_12]
  exact ((congrFun (congrArg (fun o => o.2.1) (out1 ρ R t)) y).trans (congrArg _ (eq_ix2 y))).trans
    ((congrArg (stacked fun g => (R g).outBr) (emb1_12 t y)).trans (stacked_at _ _ _ _)).symm
theorem arr1_13 : (dat1 (V1 m ρ) c).arrAt 13 cfg1.N = stacked fun g => (R g).outBi := by
  refine Dat.arrAt_eq_of_covers (dat1 (V1 m ρ) c) 13 _ (by decide +kernel) fun t hf y => ?_
  blk_simp
  rw [after1_13]
  exact ((congrFun (congrArg (fun o => o.2.2.1) (out1 ρ R t)) y).trans (congrArg _ (eq_ix2 y))).trans
    ((congrArg (stacked fun g => (R g).outBi) (emb1_13 t y)).trans (stacked_at _ _ _ _)).symm
theorem arr1_14 : (dat1 (V1 m ρ) c).arrAt 14 cfg1.N = stacked fun g => (R g).outCr := by
  refine Dat.arrAt_eq_of_covers (dat1 (V1 m ρ) c) 14 _ (by decide +kernel) fun t hf y => ?_
  blk_simp
  rw [after1_14]
  exact ((congrFun (congrArg (fun o => o.2.2.2.1) (out1 ρ R t)) y).trans (congrArg _ (eq_ix2 y))).trans
    ((congrArg (stacked fun g => (R g).outCr) (emb1_14 t y)).trans (stacked_at _ _ _ _)).symm
theorem arr1_15 : (dat1 (V1 m ρ) c).arrAt 15 cfg1.N = stacked fun g => (R g).outCi := by
  refine Dat.arrAt_eq_of_covers (dat1 (V1 m ρ) c) 15 _ (by decide +kernel) fun t hf y => ?_
  blk_simp
  rw [after1_15]
  exact ((congrFun (congrArg (fun o => o.2.2.2.2.1) (out1 ρ R t)) y).trans (congrArg _ (eq_ix2 y))).trans
    ((congrArg (stacked fun g => (R g).outCi) (emb1_15 t y)).trans (stacked_at _ _ _ _)).symm
theorem arr1_16 : (dat1 (V1 m ρ) c).arrAt 16 cfg1.N = rowState fun g => (R g).outAr := by
  refine Dat.arrAt_eq_of_covers (dat1 (V1 m ρ) c) 16 _ (by decide +kernel) fun t hf y => ?_
  blk_simp
  rw [after1_16]
  exact ((congrFun (congrArg (fun o => o.2.2.2.2.2.1) (out1 ρ R t)) y).trans (congrArg _ (eq_ix2 y))).trans
    ((congrArg (rowState fun g => (R g).outAr) (emb1_16 t y)).trans (rowState_at _ _ _ _)).symm
theorem arr1_17 : (dat1 (V1 m ρ) c).arrAt 17 cfg1.N = rowState fun g => (R g).outAi := by
  refine Dat.arrAt_eq_of_covers (dat1 (V1 m ρ) c) 17 _ (by decide +kernel) fun t hf y => ?_
  blk_simp
  rw [after1_17]
  exact ((congrFun (congrArg (fun o => o.2.2.2.2.2.2.1) (out1 ρ R t)) y).trans (congrArg _ (eq_ix2 y))).trans
    ((congrArg (rowState fun g => (R g).outAi) (emb1_17 t y)).trans (rowState_at _ _ _ _)).symm
include R in
theorem arr1_18 : (dat1 (V1 m ρ) c).arrAt 18 cfg1.N = rowChan fun g => ((args m c).grp g).outD := by
  refine Dat.arrAt_eq_of_covers (dat1 (V1 m ρ) c) 18 _ (by decide +kernel) fun t hf y => ?_
  blk_simp
  rw [after1_18]
  exact ((congrFun (congrArg (fun o => o.2.2.2.2.2.2.2) (out1 ρ R t)) y).trans (congrArg _ (eq_ix2 y))).trans
    ((congrArg (rowChan fun g => ((args m c).grp g).outD) (emb1_18 t y)).trans (rowChan_at _ _ _ _)).symm

/-! ## The buffers when the kernel returns -/

theorem end_1 : W2 m ρ c (Proc.devRef .tc main_v1_0) = byChan fun g => (R g).outDu :=
  (W2_arr m ρ c 11).trans (arr1_11 ρ R)
theorem end_2 : W2 m ρ c (Proc.devRef .tc main_v1_1) = stacked fun g => (R g).outBr :=
  (W2_arr m ρ c 12).trans (arr1_12 ρ R)
theorem end_3 : W2 m ρ c (Proc.devRef .tc main_v1_2) = stacked fun g => (R g).outBi :=
  (W2_arr m ρ c 13).trans (arr1_13 ρ R)
theorem end_4 : W2 m ρ c (Proc.devRef .tc main_v1_3) = stacked fun g => (R g).outCr :=
  (W2_arr m ρ c 14).trans (arr1_14 ρ R)
theorem end_5 : W2 m ρ c (Proc.devRef .tc main_v1_4) = stacked fun g => (R g).outCi :=
  (W2_arr m ρ c 15).trans (arr1_15 ρ R)
theorem end_6 : W2 m ρ c (Proc.devRef .tc main_v1_5) = rowState fun g => (R g).outAr :=
  (W2_arr m ρ c 16).trans (arr1_16 ρ R)
theorem end_7 : W2 m ρ c (Proc.devRef .tc main_v1_6) = rowState fun g => (R g).outAi :=
  (W2_arr m ρ c 17).trans (arr1_17 ρ R)
include R in
theorem end_8 : W2 m ρ c (Proc.devRef .tc main_v1_7) = rowChan fun g => ((args m c).grp g).outD :=
  (W2_arr m ρ c 18).trans (arr1_18 ρ R)
omit R in
theorem end_arg (b : Ref sig .tc) (hb : b ∈ argRefs) : W2 m ρ c (Proc.devRef .tc b) = m ((c : Thread nD τ).loc b) := W2_args m ρ c b hb
theorem end_0 : W2 m ρ c (Proc.devRef .tc main_v0_2) = byChan fun g => (R g).outY :=
  (W2_of m ρ c main_v0_2 (by decide +kernel)).trans ((W1_arr m ρ c 10).trans (arr0_10 ρ R))

end Cert.KernelIdeal.Val
end
-- ==== Proof.KerRun.lean ====
/-
  The kernel's run with every buffer read at its end: the launch of the frame, with the last thread state kept whole.
-/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are read off this conclusion through plain definitions
set_option backward.isDefEq.respectTransparency.types false in
/-- Every unscoped buffer of the TensorCores at the end of the run. -/
theorem returns : θ_run defs (onTc (τ := τ) (main (F := F))) ⟨m, fun _ => 0, ρ⟩ (fun r => ∀ c : Dev nD, ∀ b ∈ Pipeline.ucRefs τ sig,
      r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The same at the TensorCore's references. -/
theorem returns_at : θ_run defs (onTc (τ := τ) (main (F := F))) ⟨m, fun _ => 0, ρ⟩ (fun r => ∀ (c : Dev nD) (b : Ref sig .tc), b.isScoped = false →
      r.2.mem ((c : Thread nD τ).loc b) = W2 m ρ c (Proc.devRef .tc b)) :=
  (θ_run defs _ _).mono (fun _ h c b hb => h c _ (mem_uc b (Bool.eq_false_iff.mp hb))) (returns m ρ)

end Cert.KernelIdeal.Val

end
-- ==== Proof.RefTrip.lean ====
/-
  What one trip of each of the reference's loops does to the buffers it carries.

  `row x n` is the row of a stacked array at the index a loop computed, `put x u n` the stacked array with that row
  replaced.
-/
module

public import proofs.«01_k».proof.Proof.RefKeep

@[expose] public section

noncomputable section

namespace Cert.ReferenceIdeal

open Idealize.ShloMosaic Idealize.ShloMosaic.TcCoe Idealize.ShloMosaic.Tactic Idealize.ShloMosaic.StableHlo
open Cert.ReferenceIdeal.Gen

variable {F : FTy → Type} [FloatOps F]

/-- The three starts of a row: the computed index, and zero on the other two axes. -/
abbrev starts (n : IVec S_ 32) (k : Fin 3) : Int :=
  ((![n, constantI S_ 32 0#32, constantI S_ 32 0#32] : Fin 3 → IVec S_ 32) k (Shape.Idx.first h_S_)).toInt

/-- The row of a stacked array. -/
def row (x : FVec F S2048x4x512 .f32) (n : IVec S_ 32) : FVec F S4x512 .f32 :=
  shapeCast S4x512 (Host.dynamicSlice S1x4x512 x (starts n) sliceFits_S2048x4x512_S1x4x512) shapeCasts_S1x4x512_S4x512

/-- The stacked array with that row replaced. -/
def put (x : FVec F S2048x4x512 .f32) (u : FVec F S4x512 .f32) (n : IVec S_ 32) : FVec F S2048x4x512 .f32 :=
  Host.dynamicUpdateSlice x (broadcastInDim S1x4x512 ![1, 2] bcast_S4x512_S1x4x512_1_2 u) (starts n) updateFits_S2048x4x512_S1x4x512

theorem row_eq (x : FVec F S2048x4x512 .f32) (n : IVec S_ 32) (s : Fin 3 → Int) (h0 : s 0 = (n (Shape.Idx.first h_S_)).toInt)
    (h1 : s 1 = 0) (h2 : s 2 = 0) :
    shapeCast S4x512 (Host.dynamicSlice S1x4x512 x s sliceFits_S2048x4x512_S1x4x512) shapeCasts_S1x4x512_S4x512 = row x n := by
  have e : s = starts n := by
    funext k
    fin_cases k
    · exact h0
    · exact h1
    · exact h2
  rw [e, row]

theorem put_eq (x : FVec F S2048x4x512 .f32) (u : FVec F S4x512 .f32) (n : IVec S_ 32) (s : Fin 3 → Int)
    (h0 : s 0 = (n (Shape.Idx.first h_S_)).toInt) (h1 : s 1 = 0) (h2 : s 2 = 0) :
    Host.dynamicUpdateSlice x (broadcastInDim S1x4x512 ![1, 2] bcast_S4x512_S1x4x512_1_2 u) s updateFits_S2048x4x512_S1x4x512
      = put x u n := by
  have e : s = starts n := by
    funext k
    fin_cases k
    · exact h0
    · exact h1
    · exact h2
  rw [e, put]

/-! The first loop: the next state, and the two stacked arrays of states. -/
/-! The first loop: the next state, and the two stacked arrays of states. -/
/-! The first loop: the next state, and the two stacked arrays of states. -/
set_option maxRecDepth 100000 in
theorem scan_re (V : Valuation τ sig (Elt F)) :
    afterL scanI (after scanCond V) (Proc.devRef .tc main_v17_5)
      = addf (subf (mulf (V (Proc.devRef .tc main_v17_2)) (V (Proc.devRef .tc main_v17_5))) (mulf (V (Proc.devRef .tc main_v17_3)) (V (Proc.devRef .tc main_v17_6)))) (row (V (Proc.devRef .tc main_v17_0)) (V (Proc.devRef .tc main_v17_4))) := by
  simp only [afterL_cons, afterL_nil]
  after_reads_simp
  refine congrArg (addf _) (row_eq _ _ _ ?_ ?_ ?_)
  all_goals
    dsimp only [Matrix.cons_val_zero, Matrix.cons_val_one, Matrix.cons_val]
    after_reads_simp
    try rfl

set_option maxRecDepth 100000 in
theorem scan_im (V : Valuation τ sig (Elt F)) :
    afterL scanI (after scanCond V) (Proc.devRef .tc main_v17_6)
      = addf (addf (mulf (V (Proc.devRef .tc main_v17_2)) (V (Proc.devRef .tc main_v17_6))) (mulf (V (Proc.devRef .tc main_v17_3)) (V (Proc.devRef .tc main_v17_5)))) (row (V (Proc.devRef .tc main_v17_1)) (V (Proc.devRef .tc main_v17_4))) := by
  simp only [afterL_cons, afterL_nil]
  after_reads_simp
  refine congrArg (addf _) (row_eq _ _ _ ?_ ?_ ?_)
  all_goals
    dsimp only [Matrix.cons_val_zero, Matrix.cons_val_one, Matrix.cons_val]
    after_reads_simp
    try rfl

set_option maxRecDepth 100000 in
theorem scan_next_re (V : Valuation τ sig (Elt F)) :
    afterL scanI (after scanCond V) (Proc.devRef .tc main_v17_7)
      = put (V (Proc.devRef .tc main_v17_7))
        (addf (subf (mulf (V (Proc.devRef .tc main_v17_2)) (V (Proc.devRef .tc main_v17_5))) (mulf (V (Proc.devRef .tc main_v17_3)) (V (Proc.devRef .tc main_v17_6)))) (row (V (Proc.devRef .tc main_v17_0)) (V (Proc.devRef .tc main_v17_4))))
        (V (Proc.devRef .tc main_v17_4)) := by
  simp only [afterL_cons, afterL_nil]
  after_reads_simp
  refine (put_eq (F := F) _ _ _ _ ?_ ?_ ?_).trans
    (congrArg (fun u => put (F := F) _ u _) (congrArg (addf (F := F) _) (row_eq (F := F) _ _ _ ?_ ?_ ?_)))
  all_goals
    dsimp only [Matrix.cons_val_zero, Matrix.cons_val_one, Matrix.cons_val]
    after_reads_simp
    try rfl

set_option maxRecDepth 100000 in
theorem scan_next_im (V : Valuation τ sig (Elt F)) :
    afterL scanI (after scanCond V) (Proc.devRef .tc main_v17_8)
      = put (V (Proc.devRef .tc main_v17_8))
        (addf (addf (mulf (V (Proc.devRef .tc main_v17_2)) (V (Proc.devRef .tc main_v17_6))) (mulf (V (Proc.devRef .tc main_v17_3)) (V (Proc.devRef .tc main_v17_5)))) (row (V (Proc.devRef .tc main_v17_1)) (V (Proc.devRef .tc main_v17_4))))
        (V (Proc.devRef .tc main_v17_4)) := by
  simp only [afterL_cons, afterL_nil]
  after_reads_simp
  refine (put_eq (F := F) _ _ _ _ ?_ ?_ ?_).trans
    (congrArg (fun u => put (F := F) _ u _) (congrArg (addf (F := F) _) (row_eq (F := F) _ _ _ ?_ ?_ ?_)))
  all_goals
    dsimp only [Matrix.cons_val_zero, Matrix.cons_val_one, Matrix.cons_val]
    after_reads_simp
    try rfl

set_option maxRecDepth 100000 in
theorem scan_prev_re (V : Valuation τ sig (Elt F)) :
    afterL scanI (after scanCond V) (Proc.devRef .tc main_v17_9)
      = put (V (Proc.devRef .tc main_v17_9)) (V (Proc.devRef .tc main_v17_5)) (V (Proc.devRef .tc main_v17_4)) := by
  simp only [afterL_cons, afterL_nil]
  after_reads_simp
  refine put_eq _ _ _ _ ?_ ?_ ?_
  all_goals
    dsimp only [Matrix.cons_val_zero, Matrix.cons_val_one, Matrix.cons_val]
    after_reads_simp
    try rfl

set_option maxRecDepth 100000 in
theorem scan_prev_im (V : Valuation τ sig (Elt F)) :
    afterL scanI (after scanCond V) (Proc.devRef .tc main_v17_10)
      = put (V (Proc.devRef .tc main_v17_10)) (V (Proc.devRef .tc main_v17_6)) (V (Proc.devRef .tc main_v17_4)) := by
  simp only [afterL_cons, afterL_nil]
  after_reads_simp
  refine put_eq _ _ _ _ ?_ ?_ ?_
  all_goals
    dsimp only [Matrix.cons_val_zero, Matrix.cons_val_one, Matrix.cons_val]
    after_reads_simp
    try rfl

/-! The second loop: first the rows it reads, at the index counted down from the last row. -/

/-- The contents once the four rows are read. -/
abbrev rowsRead (V : Valuation τ sig (Elt F)) : Valuation τ sig (Elt F) :=
  after backOps4 (after backOps3 (after backOps2 (after backOps1 (after backOps0 (after backCond V)))))

/-- The index of trip `n`, counted down. -/
abbrev downIdx (n : IVec S_ 32) : IVec S_ 32 := subi (subi (constantI S_ 32 2048#32) n) (constantI S_ 32 1#32)

theorem read_idx (V : Valuation τ sig (Elt F)) :
    rowsRead V (Proc.devRef .tc main_while1b_v78) = downIdx (V (Proc.devRef .tc main_v56_6)) := by
  after_reads_simp

set_option maxRecDepth 100000 in
theorem read_0 (V : Valuation τ sig (Elt F)) :
    rowsRead V (Proc.devRef .tc main_while1b_v79)
      = row (V (Proc.devRef .tc main_v56_0)) (downIdx (V (Proc.devRef .tc main_v56_6))) := by
  after_reads_simp
  refine row_eq _ _ _ ?_ ?_ ?_
  all_goals
    dsimp only [Matrix.cons_val_zero, Matrix.cons_val_one, Matrix.cons_val]
    after_reads_simp
    try rfl

set_option maxRecDepth 100000 in
theorem read_1 (V : Valuation τ sig (Elt F)) :
    rowsRead V (Proc.devRef .tc main_while1b_v80)
      = row (V (Proc.devRef .tc main_v56_1)) (downIdx (V (Proc.devRef .tc main_v56_6))) := by
  after_reads_simp
  refine row_eq _ _ _ ?_ ?_ ?_
  all_goals
    dsimp only [Matrix.cons_val_zero, Matrix.cons_val_one, Matrix.cons_val]
    after_reads_simp
    try rfl

set_option maxRecDepth 100000 in
theorem read_2 (V : Valuation τ sig (Elt F)) :
    rowsRead V (Proc.devRef .tc main_while1b_v81)
      = row (V (Proc.devRef .tc main_v56_2)) (downIdx (V (Proc.devRef .tc main_v56_6))) := by
  after_reads_simp
  refine row_eq _ _ _ ?_ ?_ ?_
  all_goals
    dsimp only [Matrix.cons_val_zero, Matrix.cons_val_one, Matrix.cons_val]
    after_reads_simp
    try rfl

set_option maxRecDepth 100000 in
theorem read_3 (V : Valuation τ sig (Elt F)) :
    rowsRead V (Proc.devRef .tc main_while1b_v82)
      = row (V (Proc.devRef .tc main_v56_3)) (downIdx (V (Proc.devRef .tc main_v56_6))) := by
  after_reads_simp
  refine row_eq _ _ _ ?_ ?_ ?_
  all_goals
    dsimp only [Matrix.cons_val_zero, Matrix.cons_val_one, Matrix.cons_val]
    after_reads_simp
    try rfl

set_option maxRecDepth 100000 in
/-- What the reading of the rows leaves alone. -/
theorem rowsRead_keep (V : Valuation τ sig (Elt F)) (r : Ref sig .tc) (h : r ∉ backW) :
    rowsRead V (Proc.devRef .tc r) = V (Proc.devRef .tc r) := by
  unfold rowsRead
  simp only [← after_append]
  exact after_of_writes_sub _ V (forall_writes_sub_of_map (W := backW.take 22) rfl) fun hr => h (List.mem_of_mem_take hr)

set_option maxRecDepth 100000 in
/-- Nor does it write what the loop carries. -/
theorem rowsRead_carried (V : Valuation τ sig (Elt F)) (r : Ref sig .tc) (h : r ∉ backW.take 22) :
    rowsRead V (Proc.devRef .tc r) = V (Proc.devRef .tc r) := by
  unfold rowsRead
  simp only [← after_append]
  exact after_of_writes_sub _ V (forall_writes_sub_of_map (W := backW.take 22) rfl) h

/-! The rest of a trip, from the rows. -/
/-- The cotangent of this trip's state: what the later states passed down, and its own. -/
abbrev lamRe (V : Valuation τ sig (Elt F)) : FVec F S4x512 .f32 := addf (V (Proc.devRef .tc main_v56_9)) (V (Proc.devRef .tc main_while1b_v79))
abbrev lamIm (V : Valuation τ sig (Elt F)) : FVec F S4x512 .f32 := addf (V (Proc.devRef .tc main_v56_10)) (V (Proc.devRef .tc main_while1b_v80))

set_option maxRecDepth 100000 in
theorem back_carry_re (V : Valuation τ sig (Elt F)) :
    afterL [backOps5, backOps6, backOps7, backOps8] V (Proc.devRef .tc main_v56_9)
      = addf (mulf (V (Proc.devRef .tc main_v56_5)) (lamIm V)) (mulf (V (Proc.devRef .tc main_v56_4)) (lamRe V)) := by
  simp only [afterL_cons, afterL_nil]
  after_reads_simp
  rfl

set_option maxRecDepth 100000 in
theorem back_carry_im (V : Valuation τ sig (Elt F)) :
    afterL [backOps5, backOps6, backOps7, backOps8] V (Proc.devRef .tc main_v56_10)
      = addf (mulf (V (Proc.devRef .tc main_v56_4)) (lamIm V)) (mulf (V (Proc.devRef .tc main_v56_5)) (Host.negf (lamRe V))) := by
  simp only [afterL_cons, afterL_nil]
  after_reads_simp
  rfl

set_option maxRecDepth 100000 in
theorem back_acc_re (V : Valuation τ sig (Elt F)) :
    afterL [backOps5, backOps6, backOps7, backOps8] V (Proc.devRef .tc main_v56_7)
      = addf (addf (V (Proc.devRef .tc main_v56_7)) (mulf (lamIm V) (V (Proc.devRef .tc main_while1b_v82)))) (mulf (lamRe V) (V (Proc.devRef .tc main_while1b_v81))) := by
  simp only [afterL_cons, afterL_nil]
  after_reads_simp
  rfl

set_option maxRecDepth 100000 in
theorem back_acc_im (V : Valuation τ sig (Elt F)) :
    afterL [backOps5, backOps6, backOps7, backOps8] V (Proc.devRef .tc main_v56_8)
      = addf (addf (V (Proc.devRef .tc main_v56_8)) (mulf (lamIm V) (V (Proc.devRef .tc main_while1b_v81)))) (mulf (Host.negf (lamRe V)) (V (Proc.devRef .tc main_while1b_v82))) := by
  simp only [afterL_cons, afterL_nil]
  after_reads_simp
  rfl

set_option maxRecDepth 100000 in
theorem back_put_re (V : Valuation τ sig (Elt F)) :
    afterL [backOps5, backOps6, backOps7, backOps8] V (Proc.devRef .tc main_v56_11)
      = put (V (Proc.devRef .tc main_v56_11)) (lamRe V) (V (Proc.devRef .tc main_while1b_v78)) := by
  simp only [afterL_cons, afterL_nil]
  after_reads_simp
  refine put_eq (F := F) (V (Proc.devRef .tc main_v56_11)) (lamRe V) (V (Proc.devRef .tc main_while1b_v78)) _ ?_ ?_ ?_
  all_goals
    dsimp only [Matrix.cons_val_zero, Matrix.cons_val_one, Matrix.cons_val]
    after_reads_simp
    try rfl

set_option maxRecDepth 100000 in
theorem back_put_im (V : Valuation τ sig (Elt F)) :
    afterL [backOps5, backOps6, backOps7, backOps8] V (Proc.devRef .tc main_v56_12)
      = put (V (Proc.devRef .tc main_v56_12)) (lamIm V) (V (Proc.devRef .tc main_while1b_v78)) := by
  simp only [afterL_cons, afterL_nil]
  after_reads_simp
  refine put_eq (F := F) (V (Proc.devRef .tc main_v56_12)) (lamIm V) (V (Proc.devRef .tc main_while1b_v78)) _ ?_ ?_ ?_
  all_goals
    dsimp only [Matrix.cons_val_zero, Matrix.cons_val_one, Matrix.cons_val]
    after_reads_simp
    try rfl

end Cert.ReferenceIdeal

end
-- ==== Proof.RefLoops.lean ====
/-
  The reference's two loops over the reals.

  The first keeps the recurrence's state and stacks it, before and after each step; the second runs the recurrence's
  transpose from the last row to the first, stacks the cotangents of the states and adds up their products with the
  stacked states.
-/
module

public import proofs.«01_k».proof.Proof.RefTrip
public import proofs.«01_k».proof.Proof.Cx
public import Idealize.ShloMosaic.Lib.ValueIdx
public import Idealize.ShloMosaic.Lib.DynamicIndex
public import Idealize.ShloMosaic.Lib.Pipeline.Value
public import Idealize.ShloMosaic.Lib.WordCmp

@[expose] public section

noncomputable section

namespace Cert.ReferenceIdeal

open Idealize.ShloMosaic Idealize.ShloMosaic.TcCoe Idealize.ShloMosaic.StableHlo Idealize.ShloMosaic.ValueIdx
open Cert.ReferenceIdeal.Gen S5

/-- The starts of a row, where the computed index is `k`. -/
theorem starts_eq (n : IVec S_ 32) (k : ℕ) (hk : (n (Shape.Idx.first h_S_)).toInt = k) (a : Fin 3) :
    starts n a = ((![k, 0, 0] : Fin 3 → ℕ) a : Int) := by
  fin_cases a
  · exact hk
  · rfl
  · rfl

theorem fits (k : ℕ) (hk : k < 2048) : S2048x4x512.Slices (![k, 0, 0] : Fin 3 → ℕ) S1x4x512 := by
  refine ⟨rfl, fun a => ?_⟩
  fin_cases a
  · show k + 1 ≤ 2048; omega
  · show 0 + 4 ≤ 4; omega
  · show 0 + 512 ≤ 512; omega

theorem row_apply (x : S2048x4x512.Idx → EReal) (n : IVec S_ 32) (k : Fin 2048) (hk : (n (Shape.Idx.first h_S_)).toInt = k.val)
    (g : Fin 4) (q : Fin 512) : row (F := Ideal) x n (ix2 g q) = x (ix3 k g q) := by
  unfold row
  rw [Host.dynamicSlice_eq_extractStridedSlice S1x4x512 x (starts n) ![k.val, 0, 0] _ (fits k.val k.isLt) (starts_eq n k.val hk)]
  rw [shapeCast_apply _ _ (ix2 g q) (ix3 (0 : Fin 1) g q) (by
    rw [Shape.rowMajor_val_two, Shape.rowMajor_val_three]; show ((0 : ℕ) * 4 + g.val) * 512 + q.val = g.val * 512 + q.val; omega)]
  show x _ = x _
  congr 1
  funext a; apply Fin.ext
  fin_cases a
  · show k.val + 0 = k.val; omega
  · show 0 + g.val = g.val; omega
  · show 0 + q.val = q.val; omega

theorem put_apply (x : S2048x4x512.Idx → EReal) (u : S4x512.Idx → EReal) (n : IVec S_ 32) (k : ℕ) (h : k < 2048)
    (hk : (n (Shape.Idx.first h_S_)).toInt = k) (t : Fin 2048) (g : Fin 4) (q : Fin 512) :
    put (F := Ideal) x u n (ix3 t g q) = if t.val = k then u (ix2 g q) else x (ix3 t g q) := by
  unfold put
  rw [WordCmp.dynamicUpdateSlice_eq_update x _ (starts n) _ ![k, 0, 0] (fits k h) (starts_eq n k hk)]
  unfold updateSlice
  by_cases e : t.val = k
  · rw [if_pos e, dif_pos]
    · show u _ = u _
      congr 1
      funext a; apply Fin.ext
      fin_cases a
      · rfl
      · rfl
    · intro a
      fin_cases a
      · show k ≤ t.val ∧ t.val < k + 1; omega
      · show 0 ≤ g.val ∧ g.val < 0 + 4; omega
      · show 0 ≤ q.val ∧ q.val < 0 + 512; omega
  · rw [if_neg e, dif_neg]
    intro hin
    have h0 : k ≤ t.val ∧ t.val < k + 1 := hin 0
    omega

theorem front (x y z : EReal) : x - y + z = z + x - y := by
  rw [sub_eq_add_neg, sub_eq_add_neg, add_comm, add_assoc]

theorem front' (x y z : EReal) : x + y + z = z + x + y := by
  rw [add_comm, add_assoc]

/-- The counter of trip `k`, read as a number. -/
theorem iv_toInt (k : ℕ) (h : k < 2048) : (Scf.iv 0#32 1#32 k : BitVec 32).toInt = k := by
  have e : (Scf.iv 0#32 1#32 k : BitVec 32) = BitVec.ofNat 32 k := by
    unfold Scf.iv; rw [BitVec.mul_one, BitVec.zero_add]
  rw [e]; exact toInt_ofNat_of_lt (by omega)

theorem down_toInt (k : ℕ) (h : k < 2048) (j : S_.Idx) :
    (downIdx (fun _ => Scf.iv 0#32 1#32 k) j).toInt = ((2047 - k : ℕ) : Int) := by
  have e : downIdx (fun _ => Scf.iv 0#32 1#32 k) j = BitVec.ofNat 32 (2047 - k) := by
    show (2048#32 - Scf.iv 0#32 1#32 k) - 1#32 = _
    have e : (Scf.iv 0#32 1#32 k : BitVec 32) = BitVec.ofNat 32 k := by
      unfold Scf.iv; rw [BitVec.mul_one, BitVec.zero_add]
    rw [e]
    apply BitVec.eq_of_toNat_eq
    simp only [BitVec.toNat_sub, BitVec.toNat_ofNat]
    omega
  rw [e]; exact toInt_ofNat_of_lt (by omega)

theorem row_isC {x x' : S2048x4x512.Idx → EReal} {Z : S2048x4x512.Idx → ℂ} (h : IsC x x' Z) (n : IVec S_ 32) (k : Fin 2048)
    (hk : (n (Shape.Idx.first h_S_)).toInt = k.val) :
    IsC (ι := S4x512.Idx) (row (F := Ideal) x n) (row (F := Ideal) x' n) (fun y => Z (ix3 k (y 0) (y 1))) := by
  intro y
  obtain ⟨g, q, rfl⟩ : ∃ g q, y = ix2 g q := ⟨y 0, y 1, eq_ix2 y⟩
  rw [row_apply x n k hk, row_apply x' n k hk]
  exact h (ix3 k g q)

/-- One step of the recurrence. -/
theorem next_isC {ar ai sr si br bi : S4x512.Idx → EReal} {A S B : S4x512.Idx → ℂ} (hA : IsC ar ai A) (hs : IsC sr si S) (hb : IsC br bi B) :
    IsC (ι := S4x512.Idx) (addf (F := Ideal) (φ := .f32) (subf (F := Ideal) (φ := .f32) (mulf (F := Ideal) (φ := .f32) ar sr) (mulf (F := Ideal) (φ := .f32) ai si)) br)
      (addf (F := Ideal) (φ := .f32) (addf (F := Ideal) (φ := .f32) (mulf (F := Ideal) (φ := .f32) ar si) (mulf (F := Ideal) (φ := .f32) ai sr)) bi)
      (fun y => B y + A y * S y) :=
  hb.step hA hs (fun y => front (ar y * sr y) (ai y * si y) (br y)) (fun y => front' (ar y * si y) (ai y * sr y) (bi y))

theorem add_isC {xr xi yr yi : S4x512.Idx → EReal} {X Y : S4x512.Idx → ℂ} (hx : IsC xr xi X) (hy : IsC yr yi Y) :
    IsC (ι := S4x512.Idx) (addf (F := Ideal) (φ := .f32) xr yr) (addf (F := Ideal) (φ := .f32) xi yi) (fun y => Y y + X y) := by
  intro y
  show xr y + yr y = _ ∧ xi y + yi y = _
  rw [(hx y).1, (hx y).2, (hy y).1, (hy y).2, Complex.add_re, Complex.add_im, EReal.coe_add, EReal.coe_add]
  exact ⟨add_comm _ _, add_comm _ _⟩

section

variable (W : Dev nD → Valuation τ sig (Elt Ideal)) (c : Dev nD)

/-- A carried buffer of the first loop before trip `k`: a state, and a stack of states. -/
def sc (k : ℕ) (r : Ref sig .tc) : (Proc.devRef (τ := τ) .tc r).ty.Contents (Elt Ideal) := atTrip scanCond scanI W k c (Proc.devRef .tc r)

theorem scan_inv {a : Fin 4 → Fin 512 → ℂ} {b : Fin 4 → Fin 512 → ℕ → ℂ}
    (h4 : W c (Proc.devRef .tc main_v17_4) = fun _ => (0#32 : BitVec 32))
    (hA : IsC (ι := S4x512.Idx) (W c (Proc.devRef .tc main_v17_2)) (W c (Proc.devRef .tc main_v17_3)) (fun y => a (y 0) (y 1)))
    (hB : IsC (ι := S2048x4x512.Idx) (W c (Proc.devRef .tc main_v17_0)) (W c (Proc.devRef .tc main_v17_1)) (fun y => b (y 1) (y 2) (y 0).val))
    (h5 : IsC (ι := S4x512.Idx) (W c (Proc.devRef .tc main_v17_5)) (W c (Proc.devRef .tc main_v17_6)) (fun _ => 0)) :
    ∀ k, k ≤ 2048 →
      IsC (ι := S4x512.Idx) (sc W c k main_v17_5) (sc W c k main_v17_6) (fun y => st (a (y 0) (y 1)) (b (y 0) (y 1)) k) ∧
      ∀ (t : Fin 2048) (g : Fin 4) (q : Fin 512), t.val < k →
        ((sc W c k main_v17_7 : S2048x4x512.Idx → EReal) (ix3 t g q) = ((st (a g q) (b g q) (t.val + 1)).re : EReal)
          ∧ (sc W c k main_v17_8 : S2048x4x512.Idx → EReal) (ix3 t g q) = ((st (a g q) (b g q) (t.val + 1)).im : EReal))
        ∧ ((sc W c k main_v17_9 : S2048x4x512.Idx → EReal) (ix3 t g q) = ((st (a g q) (b g q) t.val).re : EReal)
          ∧ (sc W c k main_v17_10 : S2048x4x512.Idx → EReal) (ix3 t g q) = ((st (a g q) (b g q) t.val).im : EReal)) := by
  intro k
  induction k with
  | zero =>
    intro _
    exact ⟨h5, fun t g q h => absurd h (by omega)⟩
  | succ k ih =>
    intro hk
    obtain ⟨hs, hst⟩ := ih (by omega)
    have h4k : (sc W c k main_v17_4 : IVec S_ 32) = fun _ => Scf.iv 0#32 1#32 k := scan_ctr_at W c h4 k
    have hn : ((sc W c k main_v17_4 : IVec S_ 32) (Shape.Idx.first h_S_)).toInt = k := by rw [h4k]; exact iv_toInt k (by omega)
    have e0 : sc W c k main_v17_0 = W c (Proc.devRef .tc main_v17_0) := scan_trips_keep W c main_v17_0 (by decide) k
    have e1 : sc W c k main_v17_1 = W c (Proc.devRef .tc main_v17_1) := scan_trips_keep W c main_v17_1 (by decide) k
    have e2 : sc W c k main_v17_2 = W c (Proc.devRef .tc main_v17_2) := scan_trips_keep W c main_v17_2 (by decide) k
    have e3 : sc W c k main_v17_3 = W c (Proc.devRef .tc main_v17_3) := scan_trips_keep W c main_v17_3 (by decide) k
    let nr : S4x512.Idx → EReal := addf (F := Ideal) (φ := .f32) (subf (F := Ideal) (φ := .f32) (mulf (F := Ideal) (φ := .f32) (sc W c k main_v17_2) (sc W c k main_v17_5))
      (mulf (F := Ideal) (φ := .f32) (sc W c k main_v17_3) (sc W c k main_v17_6))) (row (F := Ideal) (sc W c k main_v17_0) (sc W c k main_v17_4))
    let ni : S4x512.Idx → EReal := addf (F := Ideal) (φ := .f32) (addf (F := Ideal) (φ := .f32) (mulf (F := Ideal) (φ := .f32) (sc W c k main_v17_2) (sc W c k main_v17_6))
      (mulf (F := Ideal) (φ := .f32) (sc W c k main_v17_3) (sc W c k main_v17_5))) (row (F := Ideal) (sc W c k main_v17_1) (sc W c k main_v17_4))
    have hnew : IsC nr ni (fun y => st (a (y 0) (y 1)) (b (y 0) (y 1)) (k + 1)) := by
      have hb := row_isC hB (sc W c k main_v17_4) ⟨k, by omega⟩ hn
      have h := next_isC hA hs hb
      rw [← e0, ← e1, ← e2, ← e3] at h
      exact h
    have r5 : sc W c (k + 1) main_v17_5 = nr := scan_re _
    have r6 : sc W c (k + 1) main_v17_6 = ni := scan_im _
    have r7 : sc W c (k + 1) main_v17_7 = put (F := Ideal) (sc W c k main_v17_7) nr (sc W c k main_v17_4) := scan_next_re _
    have r8 : sc W c (k + 1) main_v17_8 = put (F := Ideal) (sc W c k main_v17_8) ni (sc W c k main_v17_4) := scan_next_im _
    have r9 : sc W c (k + 1) main_v17_9 = put (F := Ideal) (sc W c k main_v17_9) (sc W c k main_v17_5) (sc W c k main_v17_4) := scan_prev_re _
    have r10 : sc W c (k + 1) main_v17_10 = put (F := Ideal) (sc W c k main_v17_10) (sc W c k main_v17_6) (sc W c k main_v17_4) := scan_prev_im _
    rw [r5, r6, r7, r8, r9, r10]
    refine ⟨hnew, fun t g q h => ?_⟩
    rw [put_apply _ _ _ k (by omega) hn, put_apply _ _ _ k (by omega) hn, put_apply _ _ _ k (by omega) hn, put_apply _ _ _ k (by omega) hn]
    by_cases e : t.val = k
    · simp only [if_pos e]
      rw [e]
      exact ⟨hnew (ix2 g q), hs (ix2 g q)⟩
    · simp only [if_neg e]
      exact hst t g q (by omega)

/-- A carried buffer of the second loop before trip `k`. -/
def bk (k : ℕ) (r : Ref sig .tc) : (Proc.devRef (τ := τ) .tc r).ty.Contents (Elt Ideal) := atTrip backCond backI W k c (Proc.devRef .tc r)

/-- The product of two pairs with the second conjugated. -/
theorem mul_conj_re {lr li xr xi : EReal} {l x : ℂ} (h1 : lr = (l.re : EReal)) (h2 : li = (l.im : EReal)) (h3 : xr = (x.re : EReal))
    (h4 : xi = (x.im : EReal)) {s : EReal} {z : ℂ} (hs : s = (z.re : EReal)) :
    s + li * xi + lr * xr = ((z + (starRingEnd ℂ) x * l).re : EReal) := by
  rw [h1, h2, h3, h4, hs, Complex.add_re, Complex.mul_re, Complex.conj_re, Complex.conj_im]
  simp only [← EReal.coe_mul, ← EReal.coe_add, EReal.coe_eq_coe_iff]
  ring

theorem mul_conj_im {lr li xr xi : EReal} {l x : ℂ} (h1 : lr = (l.re : EReal)) (h2 : li = (l.im : EReal)) (h3 : xr = (x.re : EReal))
    (h4 : xi = (x.im : EReal)) {s : EReal} {z : ℂ} (hs : s = (z.im : EReal)) :
    s + li * xr + -lr * xi = ((z + (starRingEnd ℂ) x * l).im : EReal) := by
  rw [h1, h2, h3, h4, hs, Complex.add_im, Complex.mul_im, Complex.conj_re, Complex.conj_im]
  simp only [← EReal.coe_neg, ← EReal.coe_mul, ← EReal.coe_add, EReal.coe_eq_coe_iff]
  ring

theorem conj_mul_re {lr li ar ai : EReal} {l a : ℂ} (h1 : lr = (l.re : EReal)) (h2 : li = (l.im : EReal)) (h3 : ar = (a.re : EReal))
    (h4 : ai = (a.im : EReal)) : ai * li + ar * lr = (((starRingEnd ℂ) a * l).re : EReal) := by
  rw [h1, h2, h3, h4, Complex.mul_re, Complex.conj_re, Complex.conj_im]
  simp only [← EReal.coe_mul, ← EReal.coe_add, EReal.coe_eq_coe_iff]
  ring

theorem conj_mul_im {lr li ar ai : EReal} {l a : ℂ} (h1 : lr = (l.re : EReal)) (h2 : li = (l.im : EReal)) (h3 : ar = (a.re : EReal))
    (h4 : ai = (a.im : EReal)) : ar * li + ai * -lr = (((starRingEnd ℂ) a * l).im : EReal) := by
  rw [h1, h2, h3, h4, Complex.mul_im, Complex.conj_re, Complex.conj_im]
  simp only [← EReal.coe_neg, ← EReal.coe_mul, ← EReal.coe_add, EReal.coe_eq_coe_iff]
  ring

/-- The sum of the products of the first `k` trips, counted down from the last row. -/
def downSum (x l : ℕ → ℂ) (k : ℕ) : ℂ := ∑ i ∈ Finset.range k, (starRingEnd ℂ) (x (2047 - i)) * l (i + 1)

theorem back_inv {a : Fin 4 → Fin 512 → ℂ} {b x : Fin 4 → Fin 512 → ℕ → ℂ}
    (h6 : W c (Proc.devRef .tc main_v56_6) = fun _ => (0#32 : BitVec 32))
    (hA : IsC (ι := S4x512.Idx) (W c (Proc.devRef .tc main_v56_4)) (W c (Proc.devRef .tc main_v56_5)) (fun y => a (y 0) (y 1)))
    (hB : IsC (ι := S2048x4x512.Idx) (W c (Proc.devRef .tc main_v56_0)) (W c (Proc.devRef .tc main_v56_1)) (fun y => b (y 1) (y 2) (2047 - (y 0).val)))
    (hX : IsC (ι := S2048x4x512.Idx) (W c (Proc.devRef .tc main_v56_2)) (W c (Proc.devRef .tc main_v56_3)) (fun y => x (y 1) (y 2) (y 0).val))
    (h7 : IsC (ι := S4x512.Idx) (W c (Proc.devRef .tc main_v56_7)) (W c (Proc.devRef .tc main_v56_8)) (fun _ => 0))
    (h9 : IsC (ι := S4x512.Idx) (W c (Proc.devRef .tc main_v56_9)) (W c (Proc.devRef .tc main_v56_10)) (fun _ => 0)) :
    ∀ k, k ≤ 2048 →
      IsC (ι := S4x512.Idx) (bk W c k main_v56_9) (bk W c k main_v56_10)
        (fun y => (starRingEnd ℂ) (a (y 0) (y 1)) * st ((starRingEnd ℂ) (a (y 0) (y 1))) (b (y 0) (y 1)) k) ∧
      IsC (ι := S4x512.Idx) (bk W c k main_v56_7) (bk W c k main_v56_8)
        (fun y => downSum (x (y 0) (y 1)) (st ((starRingEnd ℂ) (a (y 0) (y 1))) (b (y 0) (y 1))) k) ∧
      ∀ (t : Fin 2048) (g : Fin 4) (q : Fin 512), 2048 - k ≤ t.val →
        (bk W c k main_v56_11 : S2048x4x512.Idx → EReal) (ix3 t g q) = ((st ((starRingEnd ℂ) (a g q)) (b g q) (2048 - t.val)).re : EReal)
          ∧ (bk W c k main_v56_12 : S2048x4x512.Idx → EReal) (ix3 t g q) = ((st ((starRingEnd ℂ) (a g q)) (b g q) (2048 - t.val)).im : EReal) := by
  intro k
  induction k with
  | zero =>
    intro _
    refine ⟨h9.congr fun y => ?_, h7.congr fun y => ?_, fun t g q h => absurd h (by omega)⟩
    · exact (mul_zero _).symm
    · exact (Finset.sum_range_zero _).symm
  | succ k ih =>
    intro hk
    obtain ⟨hc, hs, hst⟩ := ih (by omega)
    let V := rowsRead (F := Ideal) (atTrip backCond backI W k c)
    have h6k : (bk W c k main_v56_6 : IVec S_ 32) = fun _ => Scf.iv 0#32 1#32 k := back_ctr_at W c h6 k
    have hn : (downIdx (bk W c k main_v56_6) (Shape.Idx.first h_S_)).toInt = ((2047 - k : ℕ) : Int) := by
      rw [h6k]; exact down_toInt k (by omega) _
    have e0 : bk W c k main_v56_0 = W c (Proc.devRef .tc main_v56_0) := back_trips_keep W c main_v56_0 (by decide) k
    have e1 : bk W c k main_v56_1 = W c (Proc.devRef .tc main_v56_1) := back_trips_keep W c main_v56_1 (by decide) k
    have e2 : bk W c k main_v56_2 = W c (Proc.devRef .tc main_v56_2) := back_trips_keep W c main_v56_2 (by decide) k
    have e3 : bk W c k main_v56_3 = W c (Proc.devRef .tc main_v56_3) := back_trips_keep W c main_v56_3 (by decide) k
    have e4 : V (Proc.devRef .tc main_v56_4) = W c (Proc.devRef .tc main_v56_4) :=
      (rowsRead_keep _ main_v56_4 (by decide)).trans (back_trips_keep W c main_v56_4 (by decide) k)
    have e5 : V (Proc.devRef .tc main_v56_5) = W c (Proc.devRef .tc main_v56_5) :=
      (rowsRead_keep _ main_v56_5 (by decide)).trans (back_trips_keep W c main_v56_5 (by decide) k)
    have v78 : V (Proc.devRef .tc main_while1b_v78) = downIdx (bk W c k main_v56_6) := read_idx _
    have e9 : V (Proc.devRef .tc main_v56_9) = bk W c k main_v56_9 := rowsRead_carried _ main_v56_9 (by decide)
    have e10 : V (Proc.devRef .tc main_v56_10) = bk W c k main_v56_10 := rowsRead_carried _ main_v56_10 (by decide)
    have e7 : V (Proc.devRef .tc main_v56_7) = bk W c k main_v56_7 := rowsRead_carried _ main_v56_7 (by decide)
    have e8 : V (Proc.devRef .tc main_v56_8) = bk W c k main_v56_8 := rowsRead_carried _ main_v56_8 (by decide)
    have e11 : V (Proc.devRef .tc main_v56_11) = bk W c k main_v56_11 := rowsRead_carried _ main_v56_11 (by decide)
    have e12 : V (Proc.devRef .tc main_v56_12) = bk W c k main_v56_12 := rowsRead_carried _ main_v56_12 (by decide)
    -- the two rows read, as complex numbers
    have hb : IsC (ι := S4x512.Idx) (V (Proc.devRef .tc main_while1b_v79)) (V (Proc.devRef .tc main_while1b_v80)) (fun y => b (y 0) (y 1) k) := by
      have p0 : V (Proc.devRef .tc main_while1b_v79) = row (F := Ideal) (bk W c k main_v56_0) (downIdx (bk W c k main_v56_6)) := read_0 _
      have p1 : V (Proc.devRef .tc main_while1b_v80) = row (F := Ideal) (bk W c k main_v56_1) (downIdx (bk W c k main_v56_6)) := read_1 _
      rw [p0, p1, e0, e1]
      refine (row_isC hB _ ⟨2047 - k, by omega⟩ hn).congr fun y => ?_
      show b (y 0) (y 1) (2047 - (2047 - k)) = _
      rw [show 2047 - (2047 - k) = k by omega]
    have hx : IsC (ι := S4x512.Idx) (V (Proc.devRef .tc main_while1b_v81)) (V (Proc.devRef .tc main_while1b_v82)) (fun y => x (y 0) (y 1) (2047 - k)) := by
      have p0 : V (Proc.devRef .tc main_while1b_v81) = row (F := Ideal) (bk W c k main_v56_2) (downIdx (bk W c k main_v56_6)) := read_2 _
      have p1 : V (Proc.devRef .tc main_while1b_v82) = row (F := Ideal) (bk W c k main_v56_3) (downIdx (bk W c k main_v56_6)) := read_3 _
      rw [p0, p1, e2, e3]
      exact row_isC hX _ ⟨2047 - k, by omega⟩ hn
    have hl : IsC (ι := S4x512.Idx) (lamRe V) (lamIm V) (fun y => st ((starRingEnd ℂ) (a (y 0) (y 1))) (b (y 0) (y 1)) (k + 1)) := by
      have hc' := hc
      rw [← e9, ← e10] at hc'
      exact add_isC hc' hb
    have r9 : bk W c (k + 1) main_v56_9 = _ := back_carry_re V
    have r10 : bk W c (k + 1) main_v56_10 = _ := back_carry_im V
    have r7 : bk W c (k + 1) main_v56_7 = _ := back_acc_re V
    have r8 : bk W c (k + 1) main_v56_8 = _ := back_acc_im V
    have r11 : bk W c (k + 1) main_v56_11 = _ := back_put_re V
    have r12 : bk W c (k + 1) main_v56_12 = _ := back_put_im V
    rw [r7, r8, r9, r10, r11, r12, v78, e11, e12]
    refine ⟨fun y => ?_, fun y => ?_, fun t g q h => ?_⟩
    · have h1 := hl y
      have h2 := hA y
      rw [← e4, ← e5] at h2
      exact ⟨conj_mul_re h1.1 h1.2 h2.1 h2.2, conj_mul_im h1.1 h1.2 h2.1 h2.2⟩
    · have h1 := hl y
      have h2 := hx y
      have h3 := hs y
      rw [← e7, ← e8] at h3
      have e : downSum (x (y 0) (y 1)) (st ((starRingEnd ℂ) (a (y 0) (y 1))) (b (y 0) (y 1))) (k + 1) = _ := Finset.sum_range_succ _ k
      exact ⟨(mul_conj_re h1.1 h1.2 h2.1 h2.2 h3.1).trans (re_congr e.symm), (mul_conj_im h1.1 h1.2 h2.1 h2.2 h3.2).trans (im_congr e.symm)⟩
    · rw [put_apply _ _ _ (2047 - k) (by omega) hn, put_apply _ _ _ (2047 - k) (by omega) hn]
      by_cases e : t.val = 2047 - k
      · simp only [if_pos e]
        have e' : 2048 - t.val = k + 1 := by omega
        rw [e']
        exact hl (ix2 g q)
      · simp only [if_neg e]
        exact hst t g q (by omega)

end

end Cert.ReferenceIdeal

end
-- ==== Proof.RefVal.lean ====
/-
  The reference's results in the words of the specification: each is the four groups' results side by side.
-/
module

public import proofs.«01_k».proof.Proof.RefAt
public import proofs.«01_k».proof.Proof.RefLoops

@[expose] public section

noncomputable section

namespace Cert.ReferenceIdeal

open Idealize.ShloMosaic hiding ix0 ix1 ix2 ix3 eq_ix2 eq_ix3
open Idealize.ShloMosaic.TcCoe Idealize.ShloMosaic.StableHlo Idealize.ShloMosaic.ValueIdx
open Cert.ReferenceIdeal.Gen S5

variable (m : (ℓ : Loc nD τ sig) → Buf (Elt Ideal) ℓ)

/-- The argument arrays. -/
def args (c : Dev nD) : Args where
  x := m ((c.tc : Thread nD τ).loc main_arg0)
  br := m ((c.tc : Thread nD τ).loc main_arg1)
  bi := m ((c.tc : Thread nD τ).loc main_arg2)
  cr := m ((c.tc : Thread nD τ).loc main_arg3)
  ci := m ((c.tc : Thread nD τ).loc main_arg4)
  ar := m ((c.tc : Thread nD τ).loc main_arg5)
  ai := m ((c.tc : Thread nD τ).loc main_arg6)
  d := m ((c.tc : Thread nD τ).loc main_arg7)
  dy := m ((c.tc : Thread nD τ).loc main_arg8)

section

variable (c : Dev nD)

/-! ## What the loops find and leave besides what they carry -/

theorem carried₁ (r : Ref sig .tc) (h : r ∉ scanW.take 2) : X₁ m c (Proc.devRef .tc r) = sc (E₁ m) c 2048 r :=
  after_of_writes_sub scanCond _ (forall_writes_sub_of_map (W := scanW.take 2) rfl) h
theorem carried₂ (r : Ref sig .tc) (h : r ∉ backW.take 2) : X₂ m c (Proc.devRef .tc r) = bk (E₂ m) c 2048 r :=
  after_of_writes_sub backCond _ (forall_writes_sub_of_map (W := backW.take 2) rfl) h

theorem arg₁ (r : Ref sig .tc) (h : r ∉ scanW ∧ r ∉ preW) : X₁ m c (Proc.devRef .tc r) = m ((c.tc : Thread nD τ).loc r) :=
  (X₁_keep m c r h.1).trans (pre_keep _ r h.2)

theorem x₁_v1 : X₁ m c (Proc.devRef .tc main_v1) = rowsIn (F := Ideal) (args m c).x := (X₁_keep m c _ (by decide +kernel)).trans (pre_v1 _)
theorem x₁_v2 : X₁ m c (Proc.devRef .tc main_v2) = weights (F := Ideal) (args m c).br := (X₁_keep m c _ (by decide +kernel)).trans (pre_v2 _)
theorem x₁_v3 : X₁ m c (Proc.devRef .tc main_v3) = weights (F := Ideal) (args m c).bi := (X₁_keep m c _ (by decide +kernel)).trans (pre_v3 _)
theorem x₁_v4 : X₁ m c (Proc.devRef .tc main_v4) = weights (F := Ideal) (args m c).cr := (X₁_keep m c _ (by decide +kernel)).trans (pre_v4 _)
theorem x₁_v5 : X₁ m c (Proc.devRef .tc main_v5) = weights (F := Ideal) (args m c).ci := (X₁_keep m c _ (by decide +kernel)).trans (pre_v5 _)
theorem x₁_v6 : X₁ m c (Proc.devRef .tc main_v6) = diag (F := Ideal) (args m c).ar := (X₁_keep m c _ (by decide +kernel)).trans (pre_v6 _)
theorem x₁_v7 : X₁ m c (Proc.devRef .tc main_v7) = diag (F := Ideal) (args m c).ai := (X₁_keep m c _ (by decide +kernel)).trans (pre_v7 _)
theorem x₁_d : X₁ m c (Proc.devRef .tc main_arg7) = (args m c).d := arg₁ m c _ (by decide +kernel)
theorem x₁_dy : X₁ m c (Proc.devRef .tc main_arg8) = (args m c).dy := arg₁ m c _ (by decide +kernel)

theorem x₂_v1 : X₂ m c (Proc.devRef .tc main_v1) = rowsIn (F := Ideal) (args m c).x :=
  (X₂_keep m c _ (by decide +kernel)).trans ((mid_keep _ _ (by decide +kernel)).trans (x₁_v1 m c))
theorem x₂_v2 : X₂ m c (Proc.devRef .tc main_v2) = weights (F := Ideal) (args m c).br :=
  (X₂_keep m c _ (by decide +kernel)).trans ((mid_keep _ _ (by decide +kernel)).trans (x₁_v2 m c))
theorem x₂_v3 : X₂ m c (Proc.devRef .tc main_v3) = weights (F := Ideal) (args m c).bi :=
  (X₂_keep m c _ (by decide +kernel)).trans ((mid_keep _ _ (by decide +kernel)).trans (x₁_v3 m c))

end

variable {m}
variable {c : Dev nD} (R : ∀ g, Real ((args m c).grp g))

/-! ## The first loop -/

/-- The recurrence's coefficients and inputs, by group and state. -/
def coef (g : Fin 4) (q : Fin 512) : ℂ := (R g).A (ix2 0 q)
def input (g : Fin 4) (q : Fin 512) : ℕ → ℂ := Fwd.inp (R g).U (R g).B q

theorem diag_coef : IsC (ι := S4x512.Idx) (diag (F := Ideal) (args m c).ar) (diag (F := Ideal) (args m c).ai) (fun y => coef R (y 0) (y 1)) := by
  intro y
  obtain ⟨g, q, rfl⟩ : ∃ g q, y = ix2 g q := ⟨y 0, y 1, eq_ix2 y⟩
  rw [diag_at g q _ 0, diag_at g q _ 0]
  exact (R g).hA (ix2 0 q)

theorem input_isC : IsC (ι := S2048x4x512.Idx) (toStates (F := Ideal) (rowsIn (F := Ideal) (args m c).x) (weights (F := Ideal) (args m c).br))
    (toStates (F := Ideal) (rowsIn (F := Ideal) (args m c).x) (weights (F := Ideal) (args m c).bi)) (fun y => input R (y 1) (y 2) (y 0).val) := by
  intro y
  obtain ⟨t, g, q, rfl⟩ : ∃ t g q, y = ix3 t g q := ⟨y 0, y 1, y 2, eq_ix3 y⟩
  rw [toStates_at, toStates_at]
  simp only [rowsIn_at, weights_at]
  exact Fwd.rowsTimes_inp (R g).hu (R g).hB (ix2 t q)

theorem zeros_isC : IsC (ι := S4x512.Idx) (zeros (F := Ideal)) (zeros (F := Ideal)) (fun _ => 0) := fun y => by
  rw [zeros_at]; exact ⟨rfl, rfl⟩

theorem scanned (t : Fin 2048) (g : Fin 4) (q : Fin 512) :
    ((X₁ m c (Proc.devRef .tc main_v17_7) : S2048x4x512.Idx → EReal) (ix3 t g q) = (R g).xr (ix2 t q)
      ∧ (X₁ m c (Proc.devRef .tc main_v17_8) : S2048x4x512.Idx → EReal) (ix3 t g q) = (R g).xi (ix2 t q))
    ∧ ((X₁ m c (Proc.devRef .tc main_v17_9) : S2048x4x512.Idx → EReal) (ix3 t g q) = (((R g).prev q t.val).re : EReal)
      ∧ (X₁ m c (Proc.devRef .tc main_v17_10) : S2048x4x512.Idx → EReal) (ix3 t g q) = (((R g).prev q t.val).im : EReal)) := by
  rw [carried₁ m c main_v17_7 (by decide +kernel), carried₁ m c main_v17_8 (by decide +kernel), carried₁ m c main_v17_9 (by decide +kernel), carried₁ m c main_v17_10 (by decide +kernel)]
  refine (scan_inv (E₁ m) c (a := coef R) (b := input R) (scan_start _) ?_ ?_ ?_ 2048 le_rfl).2 t g q t.isLt
  · rw [show E₁ m c (Proc.devRef .tc main_v17_2) = _ from pre_2 _, show E₁ m c (Proc.devRef .tc main_v17_3) = _ from pre_3 _]
    exact diag_coef R
  · rw [show E₁ m c (Proc.devRef .tc main_v17_0) = _ from pre_0 _, show E₁ m c (Proc.devRef .tc main_v17_1) = _ from pre_1 _]
    exact input_isC R
  · rw [show E₁ m c (Proc.devRef .tc main_v17_5) = _ from pre_5 _, show E₁ m c (Proc.devRef .tc main_v17_6) = _ from pre_6 _]
    exact zeros_isC

/-! ## The second loop -/

theorem negf_at (x : S2048x4x128.Idx → EReal) (y : S2048x4x128.Idx) : (Host.negf (F := Ideal) (φ := .f32) x : S2048x4x128.Idx → EReal) y = - x y := rfl

/-- The cotangents of the states that come from the output of their own row. -/
theorem inp_neg (U : (⟨2, ![2048, 128]⟩ : Shape).Idx → ℝ) (B : (⟨2, ![512, 128]⟩ : Shape).Idx → ℂ) (q : Fin 512) (t : ℕ) :
    Fwd.inp (fun j => - U j) B q t = - Fwd.inp U B q t := by
  unfold Fwd.inp
  split
  · rw [← Finset.sum_neg_distrib]
    refine Finset.sum_congr rfl fun c _ => ?_
    rw [Complex.ofReal_neg, neg_mul]
  · exact neg_zero.symm

theorem cot_isC : IsC (ι := S2048x4x512.Idx)
    (toStates' (F := Ideal) (byGroup (F := Ideal) (rows (F := Ideal) (args m c).dy)) (weights (F := Ideal) (args m c).cr))
    (toStates' (F := Ideal) (byGroup (F := Ideal) (Host.negf (F := Ideal) (φ := .f32) (rows (F := Ideal) (args m c).dy))) (weights (F := Ideal) (args m c).ci))
    (fun y => Bwd.cot (R (y 1)).Dy (R (y 1)).C (y 2) (2047 - (y 0).val)) := by
  intro y
  obtain ⟨t, g, q, rfl⟩ : ∃ t g q, y = ix3 t g q := ⟨y 0, y 1, y 2, eq_ix3 y⟩
  rw [toStates'_at, toStates'_at]
  simp only [byGroup_at, negf_at, rows_at, weights_at]
  have e : Bwd.cot (R g).Dy (R g).C q (2047 - t.val) = (starRingEnd ℂ) (Fwd.inp (R g).Dy (R g).C q t.val) := by
    unfold Bwd.cot
    rw [show 2047 - (2047 - t.val) = t.val by omega]
  have h1 := (Fwd.rowsTimes_inp (R g).hdy (R g).hC (ix2 t q)).1
  have h2 := (Fwd.rowsTimes_inp (x := fun j => - ((args m c).grp g).dy j) (U := fun j => - (R g).Dy j)
    (fun j => by show - _ = _; rw [(R g).hdy, EReal.coe_neg]) (R g).hC (ix2 t q)).2
  refine ⟨h1.trans (congrArg _ ?_), h2.trans (congrArg _ ?_)⟩
  · show _ = (Bwd.cot (R g).Dy (R g).C q (2047 - t.val)).re
    rw [e, Complex.conj_re]
  · show _ = (Bwd.cot (R g).Dy (R g).C q (2047 - t.val)).im
    rw [e, Complex.conj_im]; exact congrArg Complex.im (inp_neg (R g).Dy (R g).C q t.val)

theorem unscanned :
    (∀ (g : Fin 4) (q : Fin 512),
      (X₂ m c (Proc.devRef .tc main_v56_7) : S4x512.Idx → EReal) (ix2 g q) = (((R g).gradA q).re : EReal)
      ∧ (X₂ m c (Proc.devRef .tc main_v56_8) : S4x512.Idx → EReal) (ix2 g q) = (((R g).gradA q).im : EReal))
    ∧ ∀ (t : Fin 2048) (g : Fin 4) (q : Fin 512),
      (X₂ m c (Proc.devRef .tc main_v56_11) : S2048x4x512.Idx → EReal) (ix3 t g q) = (R g).lr (ix2 t q)
      ∧ (X₂ m c (Proc.devRef .tc main_v56_12) : S2048x4x512.Idx → EReal) (ix3 t g q) = (R g).li (ix2 t q) := by
  rw [carried₂ m c main_v56_7 (by decide +kernel), carried₂ m c main_v56_8 (by decide +kernel), carried₂ m c main_v56_11 (by decide +kernel), carried₂ m c main_v56_12 (by decide +kernel)]
  have h := (back_inv (E₂ m) c (a := coef R) (b := fun g q => Bwd.cot (R g).Dy (R g).C q) (x := fun g q => (R g).prev q) (back_start _) ?_ ?_ ?_ ?_ ?_ 2048 le_rfl).2
  · refine ⟨fun g q => ?_, fun t g q => h.2 t g q (by omega)⟩
    have e := h.1 (ix2 g q)
    exact ⟨e.1.trans (re_congr ((R g).gradA_down q)), e.2.trans (im_congr ((R g).gradA_down q))⟩
  · rw [show E₂ m c (Proc.devRef .tc main_v56_4) = _ from mid_4 _, show E₂ m c (Proc.devRef .tc main_v56_5) = _ from mid_5 _, x₁_v6, x₁_v7]
    exact diag_coef R
  · rw [show E₂ m c (Proc.devRef .tc main_v56_0) = _ from mid_0 _, show E₂ m c (Proc.devRef .tc main_v56_1) = _ from mid_1 _, x₁_dy, x₁_v4, x₁_v5]
    exact cot_isC R
  · rw [show E₂ m c (Proc.devRef .tc main_v56_2) = _ from mid_2 _, show E₂ m c (Proc.devRef .tc main_v56_3) = _ from mid_3 _]
    intro y
    obtain ⟨t, g, q, rfl⟩ : ∃ t g q, y = ix3 t g q := ⟨y 0, y 1, y 2, eq_ix3 y⟩
    exact (scanned R t g q).2
  · rw [show E₂ m c (Proc.devRef .tc main_v56_7) = _ from mid_7 _, show E₂ m c (Proc.devRef .tc main_v56_8) = _ from mid_8 _]
    exact zeros_isC
  · rw [show E₂ m c (Proc.devRef .tc main_v56_9) = _ from mid_9 _, show E₂ m c (Proc.devRef .tc main_v56_10) = _ from mid_10 _]
    exact zeros_isC

/-! ## The results -/

theorem res_y : (Fin' m c (Proc.devRef .tc main_v28) : S2048x512.Idx → EReal) = byChan fun g => (R g).outY := by
  rw [show Fin' m c (Proc.devRef .tc main_v28) = _ from (post_keep _ _ (by decide +kernel)).trans ((X₂_keep m c _ (by decide +kernel)).trans (mid_v28 _)),
    x₁_v4, x₁_v5, x₁_v1, x₁_d]
  refine ext_chan fun t g k => ?_
  rw [unrows_at, byChan_at]
  have e1 := toChans_at t g k (X₁ m c (Proc.devRef .tc main_v17_7)) (weights (F := Ideal) (args m c).cr)
  have e2 := toChans_at t g k (X₁ m c (Proc.devRef .tc main_v17_8)) (weights (F := Ideal) (args m c).ci)
  simp only [(scanned R t g _).1.1, (scanned R t g _).1.2, weights_at] at e1 e2
  have e3 := skip_at t g k (args m c).d 0
  have e4 := rowsIn_at t g k (args m c).x
  refine (congrArg₂ (fun a b : EReal => a + b) (congrArg₂ (fun a b : EReal => a - b) e1 e2) (congrArg₂ (fun a b : EReal => a * b) e3 e4)).trans ?_
  rfl

theorem res_du : (Fin' m c (Proc.devRef .tc main_v76) : S2048x512.Idx → EReal) = byChan fun g => (R g).outDu := by
  rw [show Fin' m c (Proc.devRef .tc main_v76) = _ from post_v76 _, narrow_eq, x₂_v2, x₂_v3,
    show X₂ m c (Proc.devRef .tc main_v33) = _ from (X₂_keep m c _ (by decide +kernel)).trans (mid_v33 _), x₁_d, x₁_dy]
  refine ext_chan fun t g k => ?_
  rw [unrows_at, byChan_at]
  have e1 := toChans'_at t g k (byGroup' (F := Ideal) (X₂ m c (Proc.devRef .tc main_v56_12))) (weights (F := Ideal) (args m c).bi)
  have e2 := toChans'_at t g k (byGroup' (F := Ideal) (X₂ m c (Proc.devRef .tc main_v56_11))) (weights (F := Ideal) (args m c).br)
  simp only [byGroup'_at, ((unscanned R).2 t g _).1, ((unscanned R).2 t g _).2, weights_at] at e1 e2
  have e3 := skip_at t g k (args m c).d 0
  have e4 := rows_at t g k (args m c).dy
  refine (congrArg₂ (fun a b : EReal => a + b) (congrArg₂ (fun a b : EReal => a + b) (congrArg₂ (fun a b : EReal => a * b) e3 e4) e1) e2).trans ?_
  show _ + _ + _ = _ + _ + _
  rw [add_comm, add_comm (_ * _), ← add_assoc]
  rfl

theorem res_br : (Fin' m c (Proc.devRef .tc main_v72) : S2048x128.Idx → EReal) = stacked fun g => (R g).outBr := by
  rw [show Fin' m c (Proc.devRef .tc main_v72) = _ from post_v72 _, x₂_v1]
  refine ext_stacked fun g q k => ?_
  rw [unweights_at, stacked_at, outer'_at]
  simp only [byGroup'_at, ((unscanned R).2 _ g _).1, rowsIn_at]
  rfl

theorem res_bi : (Fin' m c (Proc.devRef .tc main_v71) : S2048x128.Idx → EReal) = stacked fun g => (R g).outBi := by
  rw [show Fin' m c (Proc.devRef .tc main_v71) = _ from post_v71 _, x₂_v1]
  refine ext_stacked fun g q k => ?_
  rw [unweights_at, stacked_at, outer'_at]
  simp only [byGroup'_at, ((unscanned R).2 _ g _).2, rowsIn_at]
  rfl

theorem res_cr : (Fin' m c (Proc.devRef .tc main_v70) : S2048x128.Idx → EReal) = stacked fun g => (R g).outCr := by
  rw [show Fin' m c (Proc.devRef .tc main_v70) = _ from post_v70 _,
    show X₂ m c (Proc.devRef .tc main_v47) = _ from (X₂_keep m c _ (by decide +kernel)).trans (mid_v47 _), x₁_dy]
  refine ext_stacked fun g q k => ?_
  rw [unweights_at, stacked_at, outer_at]
  simp only [byGroup_at, rows_at, (scanned R _ g _).1.1]
  exact Finset.sum_congr rfl fun t _ => mul_comm _ _

theorem res_ci : (Fin' m c (Proc.devRef .tc main_v69) : S2048x128.Idx → EReal) = stacked fun g => (R g).outCi := by
  rw [show Fin' m c (Proc.devRef .tc main_v69) = _ from post_v69 _,
    show X₂ m c (Proc.devRef .tc main_v42) = _ from (X₂_keep m c _ (by decide +kernel)).trans (mid_v42 _), x₁_dy]
  refine ext_stacked fun g q k => ?_
  rw [unweights_at, stacked_at, outer_at]
  simp only [byGroup_at, negf_at, rows_at, (scanned R _ g _).1.2]
  refine (Finset.sum_congr rfl fun t _ => ?_).trans ((coe_sum_mul (fun t : Fin 2048 => - (R g).Dy (ix2 t k)) (fun t => ((R g).state q t.val).im)).trans (congrArg _ ?_))
  · show - ((args m c).grp g).dy (ix2 t k) * _ = _
    rw [(R g).hdy, EReal.coe_neg]
    rfl
  · rw [← Finset.sum_neg_distrib]
    exact Finset.sum_congr rfl fun t _ => by rw [neg_mul, mul_comm]

theorem res_ar : (Fin' m c (Proc.devRef .tc main_v68) : S1x2048.Idx → EReal) = rowState fun g => (R g).outAr := by
  rw [show Fin' m c (Proc.devRef .tc main_v68) = _ from post_v68 _]
  refine ext_stat fun z g q => ?_
  rw [undiag_at, rowState_at]
  exact ((unscanned R).1 g q).1

theorem res_ai : (Fin' m c (Proc.devRef .tc main_v67) : S1x2048.Idx → EReal) = rowState fun g => (R g).outAi := by
  rw [show Fin' m c (Proc.devRef .tc main_v67) = _ from post_v67 _]
  refine ext_stat fun z g q => ?_
  rw [undiag_at, rowState_at]
  exact ((unscanned R).1 g q).2

omit R in
theorem res_d : (Fin' m c (Proc.devRef .tc main_v38) : S1x512.Idx → EReal) = rowChan fun g => ((args m c).grp g).outD := by
  rw [show Fin' m c (Proc.devRef .tc main_v38) = _ from (post_keep _ _ (by decide +kernel)).trans ((X₂_keep m c _ (by decide +kernel)).trans (mid_v38 _)),
    x₁_v1, x₁_dy]
  refine ext_chan fun z g k => ?_
  rw [overRows_at, rowChan_at]
  refine Finset.sum_congr rfl fun t _ => ?_
  exact congrArg₂ (fun a b : EReal => a * b) (rows_at t g k (args m c).dy) (rowsIn_at t g k (args m c).x)

end Cert.ReferenceIdeal

end
-- ==== Proof.Equation.lean ====
/-
  The equation: from finite arguments the kernel and the reference leave the same nine arrays.
-/
module

public import proofs.«01_k».proof.Defs
public import proofs.«01_k».proof.Proof.KerVal
public import proofs.«01_k».proof.Proof.KerRun
public import proofs.«01_k».proof.Proof.RefVal
public import proofs.«01_k».proof.Proof.Finite

@[expose] public section

noncomputable section

namespace Cert

open Idealize.ShloMosaic Idealize.ShloMosaic.TcCoe Idealize.SL.Sem S5

/-- Equal arguments are one collection of arguments. -/
theorem args_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8)) :
    ReferenceIdeal.args m' c = KernelIdeal.Val.args m c := by
  simp only [ReferenceIdeal.args, KernelIdeal.Val.args, h0, h1, h2, h3, h4, h5, h6, h7, h8]

theorem agree [hp : Pre_finite.Facts] : algebraic_KernelIdeal_ReferenceIdeal_pre_finite
    (hKernelIdeal := KernelIdeal.Gen.facts) (hReferenceIdeal := ReferenceIdeal.Gen.facts) := by
  intro m ρ m' ρ' hpre hargs
  have hfin : ∀ c : Dev KernelIdeal.nD, Finite (KernelIdeal.Val.args m c) := fun c =>
    finite_of _ (by
      obtain ⟨e0, e1, e2, e3, e4, e5, e6, e7⟩ := hpre c
      exact Prod.ext e0 (Prod.ext e1 (Prod.ext e2 (Prod.ext e3 (Prod.ext e4 (Prod.ext e5 (Prod.ext e6 e7)))))))
  have heq : ∀ c : Dev KernelIdeal.nD, ReferenceIdeal.args m' c = KernelIdeal.Val.args m c := fun c => by
    obtain ⟨h0, h1, h2, h3, h4, h5, h6, h7, h8⟩ := hargs c
    exact args_eq m m' c h0 h1 h2 h3 h4 h5 h6 h7 h8
  have hfin' : ∀ c : Dev KernelIdeal.nD, Finite (ReferenceIdeal.args m' c) := fun c => (heq c).symm ▸ hfin c
  refine ⟨fun c => byChan fun g => ((hfin c).real g).outY, fun c => byChan fun g => ((hfin c).real g).outDu,
    fun c => stacked fun g => ((hfin c).real g).outBr, fun c => stacked fun g => ((hfin c).real g).outBi,
    fun c => stacked fun g => ((hfin c).real g).outCr, fun c => stacked fun g => ((hfin c).real g).outCi,
    fun c => rowState fun g => ((hfin c).real g).outAr, fun c => rowState fun g => ((hfin c).real g).outAi,
    fun c => rowChan fun g => ((KernelIdeal.Val.args m c).grp g).outD, ?_, ?_⟩
  · refine (θ_run _ _ _).mono (fun r h c => ?_) (KernelIdeal.Val.returns_at m ρ)
    have R := fun g => (hfin c).real g
    have ha := fun (b : Ref KernelIdeal.sig .tc) (hs : b.isScoped = false) (hb : b ∈ KernelIdeal.Gen.argRefs) => (h c b hs).trans (KernelIdeal.Val.end_arg ρ b hb)
    exact ⟨(h c _ rfl).trans (KernelIdeal.Val.end_0 ρ (hfin c).real), (h c _ rfl).trans (KernelIdeal.Val.end_1 ρ (hfin c).real),
      (h c _ rfl).trans (KernelIdeal.Val.end_2 ρ (hfin c).real), (h c _ rfl).trans (KernelIdeal.Val.end_3 ρ (hfin c).real),
      (h c _ rfl).trans (KernelIdeal.Val.end_4 ρ (hfin c).real), (h c _ rfl).trans (KernelIdeal.Val.end_5 ρ (hfin c).real),
      (h c _ rfl).trans (KernelIdeal.Val.end_6 ρ (hfin c).real), (h c _ rfl).trans (KernelIdeal.Val.end_7 ρ (hfin c).real),
      (h c _ rfl).trans (KernelIdeal.Val.end_8 ρ (hfin c).real),
      ha _ rfl (by decide +kernel), ha _ rfl (by decide +kernel), ha _ rfl (by decide +kernel), ha _ rfl (by decide +kernel), ha _ rfl (by decide +kernel),
      ha _ rfl (by decide +kernel), ha _ rfl (by decide +kernel), ha _ rfl (by decide +kernel), ha _ rfl (by decide +kernel)⟩
  · refine (θ_run _ _ _).mono (fun r h c => ?_) (ReferenceIdeal.run_fold m' ρ')
    refine ⟨(h c _ rfl).trans ((ReferenceIdeal.res_y (hfin' c).real).trans ?_), (h c _ rfl).trans ((ReferenceIdeal.res_du (hfin' c).real).trans ?_),
      (h c _ rfl).trans ((ReferenceIdeal.res_br (hfin' c).real).trans ?_), (h c _ rfl).trans ((ReferenceIdeal.res_bi (hfin' c).real).trans ?_),
      (h c _ rfl).trans ((ReferenceIdeal.res_cr (hfin' c).real).trans ?_), (h c _ rfl).trans ((ReferenceIdeal.res_ci (hfin' c).real).trans ?_),
      (h c _ rfl).trans ((ReferenceIdeal.res_ar (hfin' c).real).trans ?_), (h c _ rfl).trans ((ReferenceIdeal.res_ai (hfin' c).real).trans ?_),
      (h c _ rfl).trans (ReferenceIdeal.res_d.trans ?_), ReferenceIdeal.args_kept m' h c⟩
    all_goals
      have e := heq c
      generalize hfin c = hk, hfin' c = hr
      revert hk hr
      rw [e]
      intro _ _
      rfl

end Cert

end
-- ==== Proof.Products.lean ====
/-
  Matrix products over the extended reals, at any extents: `a b`, `a bᵀ` and `aᵀ b` as sums, what a kernel's and a
  host's product are, and a block of a product as the product of a block of rows and a block of columns.
-/
module

public import proofs.«01_k».proof.Proof.Dots
public import Idealize.ShloMosaic.Lib.Pipeline.ValueKit.Acc

@[expose] public section

noncomputable section

open Idealize.ShloMosaic Idealize.ShloMosaic.ValueIdx

namespace Mat

/-- An `m × n` array of extended reals. -/
abbrev Arr (m n : ℕ) : Type := (⟨2, ![m, n]⟩ : Shape).Idx → EReal

variable {M K N : ℕ}

/-- `a b`. -/
def nn (a : Arr M K) (b : Arr K N) : Arr M N := fun y => ∑ k : Fin K, a (ix2 (y 0) k) * b (ix2 k (y 1))
/-- `a bᵀ`. -/
def nt (a : Arr M K) (b : Arr N K) : Arr M N := fun y => ∑ k : Fin K, a (ix2 (y 0) k) * b (ix2 (y 1) k)
/-- `aᵀ b`. -/
def tn (a : Arr K M) (b : Arr K N) : Arr M N := fun y => ∑ k : Fin K, a (ix2 k (y 0)) * b (ix2 k (y 1))

/-- The contraction's sum over its index is the sum over the one contracted coordinate. -/
theorem contr_sum {sl sr so : Shape} (d : DotDims sl sr so) (hr : d.contr.rank = 1) (hs : d.contr.size ⟨0, by rw [hr]; exact Nat.one_pos⟩ = K)
    (y : so.Idx) (a : sl.Idx → EReal) (b : sr.Idx → EReal) (eA : Fin K → sl.Idx) (eB : Fin K → sr.Idx)
    (hA : ∀ (k : Fin K) (q : d.contr.Idx), (q ⟨0, by rw [hr]; exact Nat.one_pos⟩).val = k.val → d.lhsIdx y q = eA k)
    (hB : ∀ (k : Fin K) (q : d.contr.Idx), (q ⟨0, by rw [hr]; exact Nat.one_pos⟩).val = k.val → d.rhsIdx y q = eB k) :
    ∑ q, a (d.lhsIdx y q) * b (d.rhsIdx y q) = ∑ k : Fin K, a (eA k) * b (eB k) := by
  rw [← Equiv.sum_comp (contrEquiv1 d K hr hs).symm]
  refine Finset.sum_congr rfl fun k _ => ?_
  have hk := contrEquiv1_symm_val d K hr hs k
  rw [hA k _ hk, hB k _ hk]

section Dims

/-- The three products' dimension numbers. -/
def dimsNN (wf : DotDims.WF ⟨2, ![M, K]⟩ ⟨2, ![K, N]⟩ ⟨2, ![M, N]⟩ [1] [0] [0] [1] [] []) : DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf
def dimsNT (wf : DotDims.WF ⟨2, ![M, K]⟩ ⟨2, ![N, K]⟩ ⟨2, ![M, N]⟩ [1] [1] [0] [0] [] []) : DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf
def dimsTN (wf : DotDims.WF ⟨2, ![K, M]⟩ ⟨2, ![K, N]⟩ ⟨2, ![M, N]⟩ [0] [0] [1] [1] [] []) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable (wfNN : DotDims.WF ⟨2, ![M, K]⟩ ⟨2, ![K, N]⟩ ⟨2, ![M, N]⟩ [1] [0] [0] [1] [] [])
  (wfNT : DotDims.WF ⟨2, ![M, K]⟩ ⟨2, ![N, K]⟩ ⟨2, ![M, N]⟩ [1] [1] [0] [0] [] [])
  (wfTN : DotDims.WF ⟨2, ![K, M]⟩ ⟨2, ![K, N]⟩ ⟨2, ![M, N]⟩ [0] [0] [1] [1] [] [])

theorem sumNN (a : Arr M K) (b : Arr K N) (y) : ∑ q, a ((dimsNN wfNN).lhsIdx y q) * b ((dimsNN wfNN).rhsIdx y q) = nn a b y :=
  contr_sum (dimsNN wfNN) rfl rfl y a b (fun k => ix2 (y 0) k) (fun k => ix2 k (y 1))
    (fun k q hq => by funext i; apply Fin.ext; match i with | ⟨0, _⟩ => rfl | ⟨1, _⟩ => exact hq)
    (fun k q hq => by funext i; apply Fin.ext; match i with | ⟨0, _⟩ => exact hq | ⟨1, _⟩ => rfl)
theorem sumNT (a : Arr M K) (b : Arr N K) (y) : ∑ q, a ((dimsNT wfNT).lhsIdx y q) * b ((dimsNT wfNT).rhsIdx y q) = nt a b y :=
  contr_sum (dimsNT wfNT) rfl rfl y a b (fun k => ix2 (y 0) k) (fun k => ix2 (y 1) k)
    (fun k q hq => by funext i; apply Fin.ext; match i with | ⟨0, _⟩ => rfl | ⟨1, _⟩ => exact hq)
    (fun k q hq => by funext i; apply Fin.ext; match i with | ⟨0, _⟩ => rfl | ⟨1, _⟩ => exact hq)
theorem sumTN (a : Arr K M) (b : Arr K N) (y) : ∑ q, a ((dimsTN wfTN).lhsIdx y q) * b ((dimsTN wfTN).rhsIdx y q) = tn a b y :=
  contr_sum (dimsTN wfTN) rfl rfl y a b (fun k => ix2 k (y 0)) (fun k => ix2 k (y 1))
    (fun k q hq => by funext i; apply Fin.ext; match i with | ⟨0, _⟩ => exact hq | ⟨1, _⟩ => rfl)
    (fun k q hq => by funext i; apply Fin.ext; match i with | ⟨0, _⟩ => exact hq | ⟨1, _⟩ => rfl)

variable {φ₁ φ₂ : FTy}

/-- A kernel's product onto zeros. -/
theorem matmulNN (a : FVec Ideal ⟨2, ![M, K]⟩ φ₁) (b : FVec Ideal ⟨2, ![K, N]⟩ φ₂) :
    matmul (dimsNN wfNN) none a b (constant ⟨2, ![M, N]⟩ .f32 0x00000000#32) = nn a b :=
  funext fun y => (Ideal.matmul_apply _ _ _ _ _ _).trans (by rw [S5.zero_const, zero_add]; exact sumNN wfNN a b y)
theorem matmulNT (a : FVec Ideal ⟨2, ![M, K]⟩ φ₁) (b : FVec Ideal ⟨2, ![N, K]⟩ φ₂) :
    matmul (dimsNT wfNT) none a b (constant ⟨2, ![M, N]⟩ .f32 0x00000000#32) = nt a b :=
  funext fun y => (Ideal.matmul_apply _ _ _ _ _ _).trans (by rw [S5.zero_const, zero_add]; exact sumNT wfNT a b y)
theorem matmulTN (a : FVec Ideal ⟨2, ![K, M]⟩ φ₁) (b : FVec Ideal ⟨2, ![K, N]⟩ φ₂) :
    matmul (dimsTN wfTN) none a b (constant ⟨2, ![M, N]⟩ .f32 0x00000000#32) = tn a b :=
  funext fun y => (Ideal.matmul_apply _ _ _ _ _ _).trans (by rw [S5.zero_const, zero_add]; exact sumTN wfTN a b y)

/-- A host's product. -/
theorem hostNN (a : FVec Ideal ⟨2, ![M, K]⟩ φ₁) (b : FVec Ideal ⟨2, ![K, N]⟩ φ₂) : Host.dotGeneral (dimsNN wfNN) none a b = nn a b := by
  funext y
  exact (Ideal.dotGeneral_apply (dimsNN wfNN) none _ a b y).trans (sumNN wfNN a b y)
theorem hostNT (a : FVec Ideal ⟨2, ![M, K]⟩ φ₁) (b : FVec Ideal ⟨2, ![N, K]⟩ φ₂) : Host.dotGeneral (dimsNT wfNT) none a b = nt a b := by
  funext y
  exact (Ideal.dotGeneral_apply (dimsNT wfNT) none _ a b y).trans (sumNT wfNT a b y)
theorem hostTN (a : FVec Ideal ⟨2, ![K, M]⟩ φ₁) (b : FVec Ideal ⟨2, ![K, N]⟩ φ₂) : Host.dotGeneral (dimsTN wfTN) none a b = tn a b := by
  funext y
  exact (Ideal.dotGeneral_apply (dimsTN wfTN) none _ a b y).trans (sumTN wfTN a b y)

end Dims

/-- The transpose of `bᵀ a` is `aᵀ b`: a weight's gradient as differentiation writes it. -/
theorem transpose_tn (a : Arr K M) (b : Arr K N) (h : Shape.Transposes ⟨2, ![N, M]⟩ [1, 0] ⟨2, ![M, N]⟩) :
    transpose ⟨2, ![M, N]⟩ [1, 0] (tn b a) h = tn a b := by
  funext y
  refine (transpose_apply _ _ _ _ (ix2 (y 1) (y 0)) fun i => ?_).trans (Finset.sum_congr rfl fun k _ => mul_comm _ _)
  match i with
  | ⟨0, _⟩ => rfl
  | ⟨1, _⟩ => rfl

/-! ## Blocks -/

/-- The offset of a whole block. -/
theorem off_zero : (![0, 0] : Fin 2 → ℕ) = fun _ => 0 := by
  funext a
  match a with
  | ⟨0, _⟩ => rfl
  | ⟨1, _⟩ => rfl

/-- An index from its two coordinates. -/
theorem ix2_of {m n : ℕ} {p : (⟨2, ![m, n]⟩ : Shape).Idx} {a : Fin m} {b : Fin n} (h0 : (p 0).val = a.val) (h1 : (p 1).val = b.val) : p = ix2 a b :=
  (eq_ix2 p).trans (congrArg₂ ix2 (Fin.ext h0) (Fin.ext h1))

variable {P Q R : ℕ}

/-- A block of `a b` is the product of the block's rows of `a` and its columns of `b`. -/
theorem nn_block {a : Arr M K} {b : Arr K N} {x : Arr P K} {w : Arr K Q} (y : (⟨2, ![P, Q]⟩ : Shape).Idx) (i : Fin M) (j : Fin N)
    (hx : ∀ k, x (ix2 (y 0) k) = a (ix2 i k)) (hw : ∀ k, w (ix2 k (y 1)) = b (ix2 k j)) : nn x w y = nn a b (ix2 i j) :=
  Finset.sum_congr rfl fun k _ => congrArg₂ (· * ·) (hx k) (hw k)
theorem nt_block {a : Arr M K} {b : Arr N K} {x : Arr P K} {w : Arr Q K} (y : (⟨2, ![P, Q]⟩ : Shape).Idx) (i : Fin M) (j : Fin N)
    (hx : ∀ k, x (ix2 (y 0) k) = a (ix2 i k)) (hw : ∀ k, w (ix2 (y 1) k) = b (ix2 j k)) : nt x w y = nt a b (ix2 i j) :=
  Finset.sum_congr rfl fun k _ => congrArg₂ (· * ·) (hx k) (hw k)
theorem tn_block {a : Arr K M} {b : Arr K N} {x : Arr K P} {w : Arr K Q} (y : (⟨2, ![P, Q]⟩ : Shape).Idx) (i : Fin M) (j : Fin N)
    (hx : ∀ k, x (ix2 k (y 0)) = a (ix2 k i)) (hw : ∀ k, w (ix2 k (y 1)) = b (ix2 k j)) : tn x w y = tn a b (ix2 i j) :=
  Finset.sum_congr rfl fun k _ => congrArg₂ (· * ·) (hx k) (hw k)

/-- Position `k` of part `s` of an axis cut into parts of `n`. -/
def part {S n : ℕ} (hK : K = S * n) (s : Fin S) (k : Fin n) : Fin K := ⟨s.val * n + k.val, Fin.mul_add_lt_of_eq_mul hK s k⟩

/-- A block of `a bᵀ` is the sum of the products of the parts of its rows of `a` and of `b`. -/
theorem nt_parts {S n : ℕ} (hK : K = S * n) {a : Arr M K} {b : Arr N K} (x : Fin S → Arr P n) (w : Fin S → Arr Q n) (y : (⟨2, ![P, Q]⟩ : Shape).Idx)
    (i : Fin M) (j : Fin N) (hx : ∀ s k, x s (ix2 (y 0) k) = a (ix2 i (part hK s k))) (hw : ∀ s k, w s (ix2 (y 1) k) = b (ix2 j (part hK s k))) :
    ∑ s, nt (x s) (w s) y = nt a b (ix2 i j) :=
  (Finset.sum_congr rfl fun s _ => Finset.sum_congr rfl fun k _ => congrArg₂ (· * ·) (hx s k) (hw s k)).trans
    (Fin.sum_mul_add_fin S n (fun k : Fin K => a (ix2 i k) * b (ix2 j k)) hK)

end Mat

end
-- ==== Proof.FfnInRun.lean ====
/-
  The kernel's run with every buffer read at its end: the launch of the frame, with the last thread state kept whole.
-/
module

public import proofs.«01_k».proof.Proof.Gen.FfnInIdeal.Frame

@[expose] public section

set_option maxRecDepth 16384

noncomputable section

namespace Cert.FfnInIdeal.Val

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are read off this conclusion through plain definitions
set_option backward.isDefEq.respectTransparency.types false in
/-- Every unscoped buffer of the TensorCores at the end of the run. -/
theorem returns : θ_run defs (onTc (τ := τ) (main (F := F))) ⟨m, fun _ => 0, ρ⟩ (fun r => ∀ c : Dev nD, ∀ b ∈ Pipeline.ucRefs τ sig,
      r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The same at the TensorCore's references. -/
theorem returns_at : θ_run defs (onTc (τ := τ) (main (F := F))) ⟨m, fun _ => 0, ρ⟩ (fun r => ∀ (c : Dev nD) (b : Ref sig .tc), b.isScoped = false →
      r.2.mem ((c : Thread nD τ).loc b) = W2 m ρ c (Proc.devRef .tc b)) :=
  (θ_run defs _ _).mono (fun _ h c b hb => h c _ (mem_uc b (Bool.eq_false_iff.mp hb))) (returns m ρ)

end Cert.FfnInIdeal.Val

end
-- ==== Proof.FfnInVal.lean ====
/-
  The feed-forward block's first product, `hn w`, and its weight's gradient, `hnᵀ dhu`: what the kernel's arrays hold when
  it returns.
-/
module

public import proofs.«01_k».proof.Proof.Products
public import proofs.«01_k».proof.Proof.FfnInRun
public import Idealize.ShloMosaic.Lib.Pipeline.ValueKit.Geometry

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.FfnInIdeal.Val

open Cert.FfnInIdeal Cert.FfnInIdeal.Gen Mat

variable (m : (ℓ : Loc nD τ sig) → Buf (Elt Ideal) ℓ) (ρ : Dev nD → PrngReg) (c : Dev nD)

/-- The activations, the weight and the cotangent. -/
def hn : Arr 2048 1024 := m ((c : Thread nD τ).loc main_arg0)
def w : Arr 1024 5632 := m ((c : Thread nD τ).loc main_arg1)
def dhu : Arr 2048 5632 := m ((c : Thread nD τ).loc main_arg2)

/-! ## `hn w` -/

theorem body0 (x : Arr 1024 1024) (w : Arr 1024 1408) : out0_2 (F := Ideal) x w = nn x w := by
  unfold out0_2
  rw [View.canon_unit_zero off_zero]
  rw [View.ld_unit_zero off_zero, View.ld_unit_zero off_zero]
  exact matmulNN (φ₁ := .bf16) (φ₂ := .bf16) _ x w

theorem rows0 (t : Fin cfg0.N) (y : S1024x1408.Idx) (k : Fin 1024) :
    iblk0 (V0 m ρ) c 0 t (ix2 (y 0) k) = hn m c (ix2 ((win0_2.blk t).view.emb y 0) k) := by
  have e : win0_0.index t = ![win0_2.index t 0, 0] := (by decide +kernel : ∀ t : Fin grid0.N, win0_0.index t = ![win0_2.index t 0, 0]) t
  refine congrArg (hn m c) (ix2_of ?_ ?_) <;> blk_simp [e] <;> rfl
theorem cols0 (t : Fin cfg0.N) (y : S1024x1408.Idx) (k : Fin 1024) :
    iblk0 (V0 m ρ) c 1 t (ix2 k (y 1)) = w m c (ix2 k ((win0_2.blk t).view.emb y 1)) := by
  have e : win0_1.index t = ![0, win0_2.index t 1] := (by decide +kernel : ∀ t : Fin grid0.N, win0_1.index t = ![0, win0_2.index t 1]) t
  refine congrArg (w m c) (ix2_of ?_ ?_) <;> blk_simp [e] <;> rfl

theorem arr0 : (dat0 (V0 m ρ) c).arrAt 2 cfg0.N = nn (hn m c) (w m c) := by
  refine Dat.arrAt_eq_of_covers (dat0 (V0 m ρ) c) 2 _ (by decide +kernel) fun t hf y => ?_
  blk_simp
  rw [after0_2, body0]
  exact (nn_block y _ _ (rows0 m ρ c t y) (cols0 m ρ c t y)).trans (congrArg (nn (hn m c) (w m c)) (eq_ix2 _).symm)

/-! ## `hnᵀ dhu` -/

theorem body1 (x : Arr 2048 1024) (w : Arr 2048 1408) : out1_2 (F := Ideal) x w = tn x w := by
  unfold out1_2
  rw [View.canon_unit_zero off_zero]
  rw [View.ld_unit_zero off_zero, View.ld_unit_zero off_zero]
  exact matmulTN (φ₁ := .bf16) (φ₂ := .bf16) _ x w

theorem rows1 (t : Fin cfg1.N) (y : S1024x1408.Idx) (k : Fin 2048) :
    iblk1 (V1 m ρ) c 0 t (ix2 k (y 0)) = hn m c (ix2 k ((win1_2.blk t).view.emb y 0)) := by
  have e : win1_0.index t = ![0, win1_2.index t 0] := (by decide +kernel : ∀ t : Fin grid1.N, win1_0.index t = ![0, win1_2.index t 0]) t
  refine (congrFun (W1_args m ρ c main_arg0 (by decide)) _).trans (congrArg (hn m c) (ix2_of ?_ ?_)) <;> blk_simp [e] <;> rfl
theorem cols1 (t : Fin cfg1.N) (y : S1024x1408.Idx) (k : Fin 2048) :
    iblk1 (V1 m ρ) c 1 t (ix2 k (y 1)) = dhu m c (ix2 k ((win1_2.blk t).view.emb y 1)) := by
  have e : win1_1.index t = ![0, win1_2.index t 1] := (by decide +kernel : ∀ t : Fin grid1.N, win1_1.index t = ![0, win1_2.index t 1]) t
  refine (congrFun (W1_args m ρ c main_arg2 (by decide)) _).trans (congrArg (dhu m c) (ix2_of ?_ ?_)) <;> blk_simp [e] <;> rfl

theorem arr1 : (dat1 (V1 m ρ) c).arrAt 2 cfg1.N = tn (hn m c) (dhu m c) := by
  refine Dat.arrAt_eq_of_covers (dat1 (V1 m ρ) c) 2 _ (by decide +kernel) fun t hf y => ?_
  blk_simp
  rw [after1_2, body1]
  exact (tn_block y _ _ (rows1 m ρ c t y) (cols1 m ρ c t y)).trans (congrArg (tn (hn m c) (dhu m c)) (eq_ix2 _).symm)

/-! ## The run -/

theorem end_0 : W2 m ρ c (Proc.devRef .tc main_v0) = nn (hn m c) (w m c) :=
  (W2_of m ρ c main_v0 (by decide +kernel)).trans ((W1_arr m ρ c 2).trans (arr0 m ρ c))
theorem end_1 : W2 m ρ c (Proc.devRef .tc main_v1) = tn (hn m c) (dhu m c) := (W2_arr m ρ c 2).trans (arr1 m ρ c)

end Cert.FfnInIdeal.Val

end
-- ==== Proof.FfnInEq.lean ====
/-
  The first product and its weight's gradient are the reference's.
-/
module

public import proofs.«01_k».proof.Proof.FfnInVal
public import proofs.«01_k».proof.Proof.Gen.FfnInRefIdeal.Run
public import proofs.«01_k».proof.Defs
public import Idealize.ShloMosaic.Lib.Quiescent

@[expose] public section

set_option maxRecDepth 16384

noncomputable section

open Idealize.ShloMosaic Idealize.ShloMosaic.TcCoe Idealize.SL.Sem

namespace Cert.FfnInIdeal.Val

open Cert.FfnInIdeal Mat

/-- Both runs end with `hn w` and `hnᵀ dhu`. -/
theorem agree : algebraic_FfnInIdeal_FfnInRefIdeal (hFfnInIdeal := Cert.FfnInIdeal.Gen.facts) (hFfnInRefIdeal := Cert.FfnInRefIdeal.Gen.facts) := by
  intro m g m' g' _ hagree
  refine ⟨fun c => nn (hn m c) (w m c), fun c => tn (hn m c) (dhu m c), ?_, ?_⟩
  · refine (θ_run _ _ _).mono (fun r h c => ?_) (returns_at (F := Ideal) m g)
    have k : ∀ (b : Ref sig .tc), b.isScoped = false → b ∈ Gen.argRefs → r.2.mem ((c.tc : Thread nD τ).loc b) = m ((c.tc : Thread nD τ).loc b) :=
      fun b hs hb => (h c b hs).trans (Gen.W2_args m g c b hb)
    exact ⟨(h c main_v0 (by decide)).trans (end_0 m g c), (h c main_v1 (by decide)).trans (end_1 m g c),
      k _ (by decide) (by decide), k _ (by decide) (by decide), k _ (by decide) (by decide)⟩
  · refine (θ_run _ _ _).mono (fun r h c => ?_) (Cert.FfnInRefIdeal.Value.run (F := Ideal) m' g')
    obtain ⟨e0, e1, e2⟩ := hagree c
    obtain ⟨h0, h1, h2⟩ := h c
    refine ⟨h0.trans ?_, h1.trans ?_, h2⟩
    · rw [e0, e1]
      exact hostNN (φ₁ := .f32) (φ₂ := .f32) _ (hn m c) (w m c)
    · rw [e0, e2]
      exact (congrArg (fun x => transpose _ _ x _) (hostTN (φ₁ := .f32) (φ₂ := .f32) _ (dhu m c) (hn m c))).trans (transpose_tn (hn m c) (dhu m c) _)

/-- The reference leaves its arguments unchanged. -/
theorem frame_reference : quiescent_FfnInRefIdeal (hFfnInRefIdeal := Cert.FfnInRefIdeal.Gen.facts) := fun m g _ =>
  (θ_run _ _ _).mono (fun r h => ⟨fun c => (h c).2.2, sem_eq_zero_of_no_sems (by decide) r.2⟩) (Cert.FfnInRefIdeal.Value.run (F := Ideal) m g)

end Cert.FfnInIdeal.Val

end
-- ==== Proof.FfnInDxVal.lean ====
/-
  The gradient `dhu wᵀ` of the feed-forward block's first product, accumulated over the two halves of the hidden axis:
  what the kernel's array holds when it returns, and that it is the reference's.
-/
module

public import proofs.«01_k».proof.Proof.Products
public import proofs.«01_k».proof.Proof.Gen.FfnInDxIdeal.Value
public import proofs.«01_k».proof.Proof.Gen.FfnInDxRefIdeal.Run
public import proofs.«01_k».proof.Defs
public import Idealize.ShloMosaic.Lib.Quiescent
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.FfnInDxIdeal.Val

open Cert.FfnInDxIdeal Cert.FfnInDxIdeal.Gen Mat

variable (m : (ℓ : Loc nD τ sig) → Buf (Elt Ideal) ℓ) (ρ : Dev nD → PrngReg) (c : Dev nD)

/-- The cotangent and the weight. -/
def dhu : Arr 2048 5632 := m ((c : Thread nD τ).loc main_arg0)
def w : Arr 1024 5632 := m ((c : Thread nD τ).loc main_arg1)

/-- A half's product, stored or added. -/
theorem pay2 (x w : Arr 1024 2816) : k0_pay2 (F := Ideal) x w = nt x w := by
  unfold k0_pay2
  exact (shapeCast_self _ _).trans (matmulNT (φ₁ := .bf16) (φ₂ := .bf16) _ x w)
theorem pay3 (x w : Arr 1024 2816) (acc : Arr 1024 1024) (y) : k0_pay3 (F := Ideal) x w acc y = acc y + nt x w y := by
  unfold k0_pay3
  exact (congrFun (shapeCast_self _ _) y).trans (congrArg (acc y + ·) (congrFun (matmulNT (φ₁ := .bf16) (φ₂ := .bf16) _ x w) y))

/-- The point before. -/
abbrev prev (t : Fin cfg0.N) : Fin cfg0.N := ⟨t.val - 1, Nat.lt_of_le_of_lt (Nat.sub_le _ _) t.isLt⟩

/-- What the second half's point writes: both halves' products. -/
theorem out_at (t : Fin cfg0.N) (ht : t.val % 2 = 1) (y : S1024x1024.Idx) :
    (outsAt0 m c t.val t.isLt).1 y = nt (M := 1024) (K := 2816) (N := 1024) (iblk m c 0 (prev t)) (iblk m c 1 (prev t)) y
      + nt (M := 1024) (K := 2816) (N := 1024) (iblk m c 0 t) (iblk m c 1 t) y := by
  rw [outsAt0_B m c t (by omega) ht ht]
  frame_out
  refine (pay3 _ _ _ y).trans (congrArg (· + _) ?_)
  rw [outsAt0_A m c (prev t) (by show (t.val - 1) % 2 = 0; omega) (by show ¬(t.val - 1) % 2 = 1; omega) (by show ¬(t.val - 1) % 2 = 1; omega)]
  frame_out
  exact (congrFun (Memref.IsWhole.read_unread _ _) y).trans (congrFun (pay2 _ _) y)

theorem halves : 5632 = 2 * 2816 := rfl

/-- The half a point works on. -/
theorem rows (t t' : Fin cfg0.N) (s : Fin 2) (y : S1024x1024.Idx) (k : Fin 2816) (e : win0_0.index t' = ![win0_2.index t 0, s.val]) :
    iblk m c 0 t' (ix2 (y 0) k) = dhu m c (ix2 ((win0_2.blk t).view.emb y 0) (part halves s k)) := by
  refine congrArg (dhu m c) (ix2_of ?_ ?_) <;> blk_simp [e] <;> rfl
theorem cols (t t' : Fin cfg0.N) (s : Fin 2) (y : S1024x1024.Idx) (k : Fin 2816) (e : win0_1.index t' = ![win0_2.index t 1, s.val]) :
    iblk m c 1 t' (ix2 (y 1) k) = w m c (ix2 ((win0_2.blk t).view.emb y 1) (part halves s k)) := by
  refine congrArg (w m c) (ix2_of ?_ ?_) <;> blk_simp [e] <;> rfl

/-- The points of a block's two halves. -/
abbrev pt (t : Fin cfg0.N) : Fin 2 → Fin cfg0.N := ![prev t, t]

theorem steps : ∀ t : Fin cfg0.N, t.val % 2 = 1 → ∀ s : Fin 2,
    win0_0.index (pt t s) = ![win0_2.index t 0, s.val] ∧ win0_1.index (pt t s) = ![win0_2.index t 1, s.val] :=
  (by decide +kernel : ∀ t : Fin grid0.N, _)

theorem arr : (dats m 0 c).arrAt 2 cfg0.N = nt (dhu m c) (w m c) := by
  refine Dat.arrAt_eq_of_covers (dats m 0 c) 2 _ (by decide +kernel) fun t hf y => ?_
  blk_simp
  have ht : t.val % 2 = 1 := (flush0_2 t).mp hf
  rw [after0_2]
  exact (out_at m c t ht y).trans ((Fin.sum_univ_two (fun s => nt (M := 1024) (K := 2816) (N := 1024) (iblk m c 0 (pt t s)) (iblk m c 1 (pt t s)) y)).symm.trans
    ((nt_parts halves _ _ y _ _ (fun s k => rows m c t _ s y k (steps t ht s).1) (fun s k => cols m c t _ s y k (steps t ht s).2)).trans
      (congrArg (nt (dhu m c) (w m c)) (eq_ix2 _).symm)))

/-- Both runs end with `dhu wᵀ`. -/
theorem agree : algebraic_FfnInDxIdeal_FfnInDxRefIdeal (hFfnInDxIdeal := Cert.FfnInDxIdeal.Gen.facts) (hFfnInDxRefIdeal := Cert.FfnInDxRefIdeal.Gen.facts) := by
  intro m g m' g' _ hagree
  refine ⟨fun c => nt (dhu m c) (w m c), ?_, ?_⟩
  · refine (θ_run _ _ _).mono (fun r h c => ?_) (Cert.FfnInDxIdeal.Value.run_blocks (F := Ideal) m g)
    exact ⟨(h c).1.trans (arr m c), (h c).2⟩
  · refine (θ_run _ _ _).mono (fun r h c => ?_) (Cert.FfnInDxRefIdeal.Value.run (F := Ideal) m' g')
    obtain ⟨e0, e1⟩ := hagree c
    obtain ⟨h0, h1⟩ := h c
    refine ⟨h0.trans ?_, h1⟩
    rw [e0, e1]
    exact hostNT (φ₁ := .f32) (φ₂ := .f32) _ (dhu m c) (w m c)

/-- The reference leaves its arguments unchanged. -/
theorem frame_reference : quiescent_FfnInDxRefIdeal (hFfnInDxRefIdeal := Cert.FfnInDxRefIdeal.Gen.facts) := fun m g _ =>
  (θ_run _ _ _).mono (fun r h => ⟨fun c => (h c).2, sem_eq_zero_of_no_sems (by decide) r.2⟩) (Cert.FfnInDxRefIdeal.Value.run (F := Ideal) m g)

end Cert.FfnInDxIdeal.Val

end
-- ==== Proof.FfnOutRun.lean ====
/-
  The kernel's run with every buffer read at its end: the launch of the frame, with the last thread state kept whole.
-/
module

public import proofs.«01_k».proof.Proof.Gen.FfnOutIdeal.Frame

@[expose] public section

set_option maxRecDepth 16384

noncomputable section

namespace Cert.FfnOutIdeal.Val

open Cert.FfnOutIdeal Cert.FfnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are read off this conclusion through plain definitions
set_option backward.isDefEq.respectTransparency.types false in
/-- Every unscoped buffer of the TensorCores at the end of the run. -/
theorem returns : θ_run defs (onTc (τ := τ) (main (F := F))) ⟨m, fun _ => 0, ρ⟩ (fun r => ∀ c : Dev nD, ∀ b ∈ Pipeline.ucRefs τ sig,
      r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The same at the TensorCore's references. -/
theorem returns_at : θ_run defs (onTc (τ := τ) (main (F := F))) ⟨m, fun _ => 0, ρ⟩ (fun r => ∀ (c : Dev nD) (b : Ref sig .tc), b.isScoped = false →
      r.2.mem ((c : Thread nD τ).loc b) = W3 m ρ c (Proc.devRef .tc b)) :=
  (θ_run defs _ _).mono (fun _ h c b hb => h c _ (mem_uc b (Bool.eq_false_iff.mp hb))) (returns m ρ)

end Cert.FfnOutIdeal.Val

end
-- ==== Proof.FfnOutVal.lean ====
/-
  The feed-forward block's second product with the residual, `h + act w`, and its two gradients, `dh wᵀ` and `actᵀ dh`:
  what the kernel's arrays hold when it returns.
-/
module

public import proofs.«01_k».proof.Proof.Products
public import proofs.«01_k».proof.Proof.FfnOutRun
public import Idealize.ShloMosaic.Lib.Pipeline.ValueKit.Geometry

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.FfnOutIdeal.Val

open Cert.FfnOutIdeal Cert.FfnOutIdeal.Gen Mat

variable (m : (ℓ : Loc nD τ sig) → Buf (Elt Ideal) ℓ) (ρ : Dev nD → PrngReg) (c : Dev nD)

/-- The activations, the weight, the residual and the cotangent. -/
def act : Arr 2048 2816 := m ((c : Thread nD τ).loc main_arg0)
def w : Arr 2816 1024 := m ((c : Thread nD τ).loc main_arg1)
def h : Arr 2048 1024 := m ((c : Thread nD τ).loc main_arg2)
def dh : Arr 2048 1024 := m ((c : Thread nD τ).loc main_arg3)

/-! ## `h + act w` -/

theorem body0 (x : Arr 1024 2816) (w : Arr 2816 1024) (h : Arr 1024 1024) (y) : out0_3 (F := Ideal) x w h y = nn x w y + h y := by
  unfold out0_3
  rw [View.canon_unit_zero off_zero, View.ld_unit_zero off_zero, View.ld_unit_zero off_zero, View.ld_unit_zero off_zero]
  exact congrArg (· + h y) (congrFun (matmulNN (φ₁ := .bf16) (φ₂ := .bf16) _ x w) y)

theorem rows0 (t : Fin cfg0.N) (y : S1024x1024.Idx) (k : Fin 2816) :
    iblk0 (V0 m ρ) c 0 t (ix2 (y 0) k) = act m c (ix2 ((win0_3.blk t).view.emb y 0) k) := by
  have e : win0_0.index t = ![win0_3.index t 0, 0] := (by decide +kernel : ∀ t : Fin grid0.N, win0_0.index t = ![win0_3.index t 0, 0]) t
  refine congrArg (act m c) (ix2_of ?_ ?_) <;> blk_simp [e] <;> rfl
theorem cols0 (t : Fin cfg0.N) (y : S1024x1024.Idx) (k : Fin 2816) :
    iblk0 (V0 m ρ) c 1 t (ix2 k (y 1)) = w m c (ix2 k ((win0_3.blk t).view.emb y 1)) := by
  have e : win0_1.index t = ![0, win0_3.index t 1] := (by decide +kernel : ∀ t : Fin grid0.N, win0_1.index t = ![0, win0_3.index t 1]) t
  refine congrArg (w m c) (ix2_of ?_ ?_) <;> blk_simp [e] <;> rfl
theorem here0 (t : Fin cfg0.N) (y : S1024x1024.Idx) : iblk0 (V0 m ρ) c 2 t y = h m c ((win0_3.blk t).view.emb y) := by
  have e : win0_2.index t = win0_3.index t := (by decide +kernel : ∀ t : Fin grid0.N, win0_2.index t = win0_3.index t) t
  refine congrArg (h m c) ((ix2_of ?_ ?_).trans (eq_ix2 _).symm) <;> blk_simp [e] <;> rfl

theorem arr0 : (dat0 (V0 m ρ) c).arrAt 3 cfg0.N = fun y => h m c y + nn (act m c) (w m c) y := by
  refine Dat.arrAt_eq_of_covers (dat0 (V0 m ρ) c) 3 _ (by decide +kernel) fun t hf y => ?_
  blk_simp
  rw [after0_3]
  exact (body0 _ _ _ y).trans ((congrArg₂ (· + ·) ((nn_block y _ _ (rows0 m ρ c t y) (cols0 m ρ c t y)).trans
    (congrArg (nn (act m c) (w m c)) (eq_ix2 _).symm)) (here0 m ρ c t y)).trans (add_comm _ _))

/-! ## `dh wᵀ` -/

theorem body1 (x : Arr 1024 1024) (w : Arr 1408 1024) : out1_2 (F := Ideal) x w = nt x w := by
  unfold out1_2
  rw [View.canon_unit_zero off_zero, View.ld_unit_zero off_zero, View.ld_unit_zero off_zero]
  exact matmulNT (φ₁ := .bf16) (φ₂ := .bf16) _ x w

theorem rows1 (t : Fin cfg1.N) (y : S1024x1408.Idx) (k : Fin 1024) :
    iblk1 (V1 m ρ) c 0 t (ix2 (y 0) k) = dh m c (ix2 ((win1_2.blk t).view.emb y 0) k) := by
  have e : win1_0.index t = ![win1_2.index t 0, 0] := (by decide +kernel : ∀ t : Fin grid1.N, win1_0.index t = ![win1_2.index t 0, 0]) t
  refine (congrFun (W1_args m ρ c main_arg3 (by decide)) _).trans (congrArg (dh m c) (ix2_of ?_ ?_)) <;> blk_simp [e] <;> rfl
theorem cols1 (t : Fin cfg1.N) (y : S1024x1408.Idx) (k : Fin 1024) :
    iblk1 (V1 m ρ) c 1 t (ix2 (y 1) k) = w m c (ix2 ((win1_2.blk t).view.emb y 1) k) := by
  have e : win1_1.index t = ![win1_2.index t 1, 0] := (by decide +kernel : ∀ t : Fin grid1.N, win1_1.index t = ![win1_2.index t 1, 0]) t
  refine (congrFun (W1_args m ρ c main_arg1 (by decide)) _).trans (congrArg (w m c) (ix2_of ?_ ?_)) <;> blk_simp [e] <;> rfl

theorem arr1 : (dat1 (V1 m ρ) c).arrAt 2 cfg1.N = nt (dh m c) (w m c) := by
  refine Dat.arrAt_eq_of_covers (dat1 (V1 m ρ) c) 2 _ (by decide +kernel) fun t hf y => ?_
  blk_simp
  rw [after1_2, body1]
  exact (nt_block y _ _ (rows1 m ρ c t y) (cols1 m ρ c t y)).trans (congrArg (nt (dh m c) (w m c)) (eq_ix2 _).symm)

/-! ## `actᵀ dh` -/

theorem body2 (x : Arr 2048 1408) (w : Arr 2048 1024) : out2_2 (F := Ideal) x w = tn x w := by
  unfold out2_2
  rw [View.canon_unit_zero off_zero, View.ld_unit_zero off_zero, View.ld_unit_zero off_zero]
  exact matmulTN (φ₁ := .bf16) (φ₂ := .bf16) _ x w

theorem rows2 (t : Fin cfg2.N) (y : S1408x1024.Idx) (k : Fin 2048) :
    iblk2 (V2 m ρ) c 0 t (ix2 k (y 0)) = act m c (ix2 k ((win2_2.blk t).view.emb y 0)) := by
  have e : win2_0.index t = ![0, win2_2.index t 0] := (by decide +kernel : ∀ t : Fin grid2.N, win2_0.index t = ![0, win2_2.index t 0]) t
  refine (congrFun (W2_args m ρ c main_arg0 (by decide)) _).trans (congrArg (act m c) (ix2_of ?_ ?_)) <;> blk_simp [e] <;> rfl
theorem cols2 (t : Fin cfg2.N) (y : S1408x1024.Idx) (k : Fin 2048) :
    iblk2 (V2 m ρ) c 1 t (ix2 k (y 1)) = dh m c (ix2 k ((win2_2.blk t).view.emb y 1)) := by
  have e : win2_1.index t = ![0, win2_2.index t 1] := (by decide +kernel : ∀ t : Fin grid2.N, win2_1.index t = ![0, win2_2.index t 1]) t
  refine (congrFun (W2_args m ρ c main_arg3 (by decide)) _).trans (congrArg (dh m c) (ix2_of ?_ ?_)) <;> blk_simp [e] <;> rfl

theorem arr2 : (dat2 (V2 m ρ) c).arrAt 2 cfg2.N = tn (act m c) (dh m c) := by
  refine Dat.arrAt_eq_of_covers (dat2 (V2 m ρ) c) 2 _ (by decide +kernel) fun t hf y => ?_
  blk_simp
  rw [after2_2, body2]
  exact (tn_block y _ _ (rows2 m ρ c t y) (cols2 m ρ c t y)).trans (congrArg (tn (act m c) (dh m c)) (eq_ix2 _).symm)

/-! ## At the end of the run -/

theorem end_0 : W3 m ρ c (Proc.devRef .tc main_v0) = fun y => h m c y + nn (act m c) (w m c) y :=
  (W3_of m ρ c main_v0 (by decide +kernel)).trans ((W2_of m ρ c main_v0 (by decide +kernel)).trans ((W1_arr m ρ c 3).trans (arr0 m ρ c)))
theorem end_1 : W3 m ρ c (Proc.devRef .tc main_v1) = nt (dh m c) (w m c) :=
  (W3_of m ρ c main_v1 (by decide +kernel)).trans ((W2_arr m ρ c 2).trans (arr1 m ρ c))
theorem end_2 : W3 m ρ c (Proc.devRef .tc main_v2) = tn (act m c) (dh m c) := (W3_arr m ρ c 2).trans (arr2 m ρ c)

end Cert.FfnOutIdeal.Val

end
-- ==== Proof.FfnOutEq.lean ====
/-
  The second product with the residual and its two gradients are the reference's.
-/
module

public import proofs.«01_k».proof.Proof.FfnOutVal
public import proofs.«01_k».proof.Proof.Gen.FfnOutRefIdeal.Run
public import proofs.«01_k».proof.Defs
public import Idealize.ShloMosaic.Lib.Quiescent

@[expose] public section

set_option maxRecDepth 16384

noncomputable section

open Idealize.ShloMosaic Idealize.ShloMosaic.TcCoe Idealize.SL.Sem

namespace Cert.FfnOutIdeal.Val

open Cert.FfnOutIdeal Mat

/-- Both runs end with `h + act w`, `dh wᵀ` and `actᵀ dh`. -/
theorem agree : algebraic_FfnOutIdeal_FfnOutRefIdeal (hFfnOutIdeal := Cert.FfnOutIdeal.Gen.facts) (hFfnOutRefIdeal := Cert.FfnOutRefIdeal.Gen.facts) := by
  intro m g m' g' _ hagree
  refine ⟨fun c y => h m c y + nn (act m c) (w m c) y, fun c => nt (dh m c) (w m c), fun c => tn (act m c) (dh m c), ?_, ?_⟩
  · refine (θ_run _ _ _).mono (fun r h c => ?_) (returns_at (F := Ideal) m g)
    have k : ∀ (b : Ref sig .tc), b.isScoped = false → b ∈ Gen.argRefs → r.2.mem ((c.tc : Thread nD τ).loc b) = m ((c.tc : Thread nD τ).loc b) :=
      fun b hs hb => (h c b hs).trans (Gen.W3_args m g c b hb)
    exact ⟨(h c main_v0 (by decide)).trans (end_0 m g c), (h c main_v1 (by decide)).trans (end_1 m g c), (h c main_v2 (by decide)).trans (end_2 m g c),
      k _ (by decide) (by decide), k _ (by decide) (by decide), k _ (by decide) (by decide), k _ (by decide) (by decide)⟩
  · refine (θ_run _ _ _).mono (fun r h c => ?_) (Cert.FfnOutRefIdeal.Value.run (F := Ideal) m' g')
    obtain ⟨e0, e1, e2, e3⟩ := hagree c
    obtain ⟨h0, h1, h2, h3⟩ := h c
    refine ⟨h0.trans ?_, h1.trans ?_, h2.trans ?_, h3⟩
    · rw [e0, e1, e2]
      funext y
      exact congrArg (Val.h m c y + ·) (congrFun (hostNN (φ₁ := .f32) (φ₂ := .f32) _ (act m c) (w m c)) y)
    · rw [e1, e3]
      exact (hostNT (φ₁ := .f32) (φ₂ := .f32) _ (shapeCast _ (dh m c) _) (w m c)).trans (congrArg (fun x => nt x (w m c)) (shapeCast_self (dh m c) _))
    · rw [e0, e3]
      exact (congrArg (fun x => transpose _ _ x _) ((hostTN (φ₁ := .f32) (φ₂ := .f32) _ (shapeCast _ (dh m c) _) (act m c)).trans
        (congrArg (fun x => tn x (act m c)) (shapeCast_self (dh m c) _)))).trans (transpose_tn (act m c) (dh m c) _)

/-- The reference leaves its arguments unchanged. -/
theorem frame_reference : quiescent_FfnOutRefIdeal (hFfnOutRefIdeal := Cert.FfnOutRefIdeal.Gen.facts) := fun m g _ =>
  (θ_run _ _ _).mono (fun r h => ⟨fun c => (h c).2.2.2, sem_eq_zero_of_no_sems (by decide) r.2⟩) (Cert.FfnOutRefIdeal.Value.run (F := Ideal) m g)

end Cert.FfnOutIdeal.Val

end
-- ==== Proof.MixerRun.lean ====
/-
  The kernel's run with every buffer read at its end: the launch of the frame, with the last thread state kept whole.
-/
module

public import proofs.«01_k».proof.Proof.Gen.MixerIdeal.Frame

@[expose] public section

set_option maxRecDepth 16384

noncomputable section

namespace Cert.MixerIdeal.Val

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are read off this conclusion through plain definitions
set_option backward.isDefEq.respectTransparency.types false in
/-- Every unscoped buffer of the TensorCores at the end of the run. -/
theorem returns : θ_run defs (onTc (τ := τ) (main (F := F))) ⟨m, fun _ => 0, ρ⟩ (fun r => ∀ c : Dev nD, ∀ b ∈ Pipeline.ucRefs τ sig,
      r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The same at the TensorCore's references. -/
theorem returns_at : θ_run defs (onTc (τ := τ) (main (F := F))) ⟨m, fun _ => 0, ρ⟩ (fun r => ∀ (c : Dev nD) (b : Ref sig .tc), b.isScoped = false →
      r.2.mem ((c : Thread nD τ).loc b) = W6 m ρ c (Proc.devRef .tc b)) :=
  (θ_run defs _ _).mono (fun _ h c b hb => h c _ (mem_uc b (Bool.eq_false_iff.mp hb))) (returns m ρ)

end Cert.MixerIdeal.Val

end
-- ==== Proof.MixerVal.lean ====
/-
  The mixer's two products with their gradients: `hn w`, `dproj wᵀ`, `hnᵀ dproj`; `x + cat w`, `dh wᵀ`, `catᵀ dh`: what the
  kernel's arrays hold when it returns.
-/
module

public import proofs.«01_k».proof.Proof.Products
public import proofs.«01_k».proof.Proof.MixerRun
public import Idealize.ShloMosaic.Lib.Pipeline.ValueKit.Geometry

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.MixerIdeal.Val

open Cert.MixerIdeal Cert.MixerIdeal.Gen Mat

variable (m : (ℓ : Loc nD τ sig) → Buf (Elt Ideal) ℓ) (ρ : Dev nD → PrngReg) (c : Dev nD)

/-- The first product's rows, weight and cotangent; the second's rows, weight, residual and cotangent. -/
def hn : Arr 2048 1024 := m ((c : Thread nD τ).loc main_arg0)
def win : Arr 1024 2560 := m ((c : Thread nD τ).loc main_arg1)
def dproj : Arr 2048 2560 := m ((c : Thread nD τ).loc main_arg2)
def cat : Arr 2048 1024 := m ((c : Thread nD τ).loc main_arg3)
def wout : Arr 1024 1024 := m ((c : Thread nD τ).loc main_arg4)
def x : Arr 2048 1024 := m ((c : Thread nD τ).loc main_arg5)
def dh : Arr 2048 1024 := m ((c : Thread nD τ).loc main_arg6)

/-! ## `hn w` -/

theorem body0 (x : Arr 1024 1024) (w : Arr 1024 1280) : out0_2 (F := Ideal) x w = nn x w := by
  unfold out0_2
  rw [View.canon_unit_zero off_zero, View.ld_unit_zero off_zero, View.ld_unit_zero off_zero]
  exact matmulNN (φ₁ := .bf16) (φ₂ := .bf16) _ x w

theorem arr0 : (dat0 (V0 m ρ) c).arrAt 2 cfg0.N = nn (hn m c) (win m c) := by
  refine Dat.arrAt_eq_of_covers (dat0 (V0 m ρ) c) 2 _ (by decide +kernel) fun t hf y => ?_
  blk_simp
  rw [after0_2, body0]
  have ea := (by decide +kernel : ∀ t : Fin grid0.N, win0_0.index t = ![win0_2.index t 0, 0]) t
  have eb := (by decide +kernel : ∀ t : Fin grid0.N, win0_1.index t = ![0, win0_2.index t 1]) t
  have rows : ∀ k, iblk0 (V0 m ρ) c 0 t (ix2 (y 0) k) = hn m c (ix2 ((win0_2.blk t).view.emb y 0) k) := fun k => by
    refine congrArg (hn m c) (ix2_of ?_ ?_) <;> blk_simp [ea] <;> rfl
  have cols : ∀ k, iblk0 (V0 m ρ) c 1 t (ix2 k (y 1)) = win m c (ix2 k ((win0_2.blk t).view.emb y 1)) := fun k => by
    refine congrArg (win m c) (ix2_of ?_ ?_) <;> blk_simp [eb] <;> rfl
  exact (nn_block y _ _ rows cols).trans (congrArg (nn (hn m c) (win m c)) (eq_ix2 _).symm)

/-! ## `dproj wᵀ` -/

theorem body1 (x : Arr 1024 2560) (w : Arr 1024 2560) : out1_2 (F := Ideal) x w = nt x w := by
  unfold out1_2
  rw [View.canon_unit_zero off_zero, View.ld_unit_zero off_zero, View.ld_unit_zero off_zero]
  exact matmulNT (φ₁ := .bf16) (φ₂ := .bf16) _ x w

theorem arr1 : (dat1 (V1 m ρ) c).arrAt 2 cfg1.N = nt (dproj m c) (win m c) := by
  refine Dat.arrAt_eq_of_covers (dat1 (V1 m ρ) c) 2 _ (by decide +kernel) fun t hf y => ?_
  blk_simp
  rw [after1_2, body1]
  have ea := (by decide +kernel : ∀ t : Fin grid1.N, win1_0.index t = ![win1_2.index t 0, 0]) t
  have eb := (by decide +kernel : ∀ t : Fin grid1.N, win1_1.index t = ![win1_2.index t 1, 0]) t
  have rows : ∀ k, iblk1 (V1 m ρ) c 0 t (ix2 (y 0) k) = dproj m c (ix2 ((win1_2.blk t).view.emb y 0) k) := fun k => by
    refine (congrFun (W1_args m ρ c main_arg2 (by decide)) _).trans (congrArg (dproj m c) (ix2_of ?_ ?_)) <;> blk_simp [ea] <;> rfl
  have cols : ∀ k, iblk1 (V1 m ρ) c 1 t (ix2 (y 1) k) = win m c (ix2 ((win1_2.blk t).view.emb y 1) k) := fun k => by
    refine (congrFun (W1_args m ρ c main_arg1 (by decide)) _).trans (congrArg (win m c) (ix2_of ?_ ?_)) <;> blk_simp [eb] <;> rfl
  exact (nt_block y _ _ rows cols).trans (congrArg (nt (dproj m c) (win m c)) (eq_ix2 _).symm)

/-! ## `hnᵀ dproj` -/

theorem body2 (x : Arr 2048 1024) (w : Arr 2048 1280) : out2_2 (F := Ideal) x w = tn x w := by
  unfold out2_2
  rw [View.canon_unit_zero off_zero, View.ld_unit_zero off_zero, View.ld_unit_zero off_zero]
  exact matmulTN (φ₁ := .bf16) (φ₂ := .bf16) _ x w

theorem arr2 : (dat2 (V2 m ρ) c).arrAt 2 cfg2.N = tn (hn m c) (dproj m c) := by
  refine Dat.arrAt_eq_of_covers (dat2 (V2 m ρ) c) 2 _ (by decide +kernel) fun t hf y => ?_
  blk_simp
  rw [after2_2, body2]
  have ea := (by decide +kernel : ∀ t : Fin grid2.N, win2_0.index t = ![0, win2_2.index t 0]) t
  have eb := (by decide +kernel : ∀ t : Fin grid2.N, win2_1.index t = ![0, win2_2.index t 1]) t
  have rows : ∀ k, iblk2 (V2 m ρ) c 0 t (ix2 k (y 0)) = hn m c (ix2 k ((win2_2.blk t).view.emb y 0)) := fun k => by
    refine (congrFun (W2_args m ρ c main_arg0 (by decide)) _).trans (congrArg (hn m c) (ix2_of ?_ ?_)) <;> blk_simp [ea] <;> rfl
  have cols : ∀ k, iblk2 (V2 m ρ) c 1 t (ix2 k (y 1)) = dproj m c (ix2 k ((win2_2.blk t).view.emb y 1)) := fun k => by
    refine (congrFun (W2_args m ρ c main_arg2 (by decide)) _).trans (congrArg (dproj m c) (ix2_of ?_ ?_)) <;> blk_simp [eb] <;> rfl
  exact (tn_block y _ _ rows cols).trans (congrArg (tn (hn m c) (dproj m c)) (eq_ix2 _).symm)

/-! ## `x + cat w` -/

theorem body3 (x w h : Arr 1024 1024) (y) : out3_3 (F := Ideal) x w h y = nn x w y + h y := by
  unfold out3_3
  rw [View.canon_unit_zero off_zero, View.ld_unit_zero off_zero, View.ld_unit_zero off_zero, View.ld_unit_zero off_zero]
  exact congrArg (· + h y) (congrFun (matmulNN (φ₁ := .bf16) (φ₂ := .bf16) _ x w) y)

theorem here3 (t : Fin cfg3.N) (y : S1024x1024.Idx) : iblk3 (V3 m ρ) c 2 t y = x m c ((win3_3.blk t).view.emb y) := by
  have e := (by decide +kernel : ∀ t : Fin grid3.N, win3_2.index t = win3_3.index t) t
  refine (congrFun (W3_args m ρ c main_arg5 (by decide)) _).trans (congrArg (x m c) ((ix2_of ?_ ?_).trans (eq_ix2 _).symm)) <;> blk_simp [e] <;> rfl

theorem arr3 : (dat3 (V3 m ρ) c).arrAt 3 cfg3.N = fun y => x m c y + nn (cat m c) (wout m c) y := by
  refine Dat.arrAt_eq_of_covers (dat3 (V3 m ρ) c) 3 _ (by decide +kernel) fun t hf y => ?_
  blk_simp
  rw [after3_3]
  have ea := (by decide +kernel : ∀ t : Fin grid3.N, win3_0.index t = ![win3_3.index t 0, 0]) t
  have eb := (by decide +kernel : ∀ t : Fin grid3.N, win3_1.index t = ![0, win3_3.index t 1]) t
  have rows : ∀ k, iblk3 (V3 m ρ) c 0 t (ix2 (y 0) k) = cat m c (ix2 ((win3_3.blk t).view.emb y 0) k) := fun k => by
    refine (congrFun (W3_args m ρ c main_arg3 (by decide)) _).trans (congrArg (cat m c) (ix2_of ?_ ?_)) <;> blk_simp [ea] <;> rfl
  have cols : ∀ k, iblk3 (V3 m ρ) c 1 t (ix2 k (y 1)) = wout m c (ix2 k ((win3_3.blk t).view.emb y 1)) := fun k => by
    refine (congrFun (W3_args m ρ c main_arg4 (by decide)) _).trans (congrArg (wout m c) (ix2_of ?_ ?_)) <;> blk_simp [eb] <;> rfl
  exact (body3 _ _ _ y).trans ((congrArg₂ (· + ·) ((nn_block y _ _ rows cols).trans (congrArg (nn (cat m c) (wout m c)) (eq_ix2 _).symm)) (here3 m ρ c t y)).trans (add_comm _ _))

/-! ## `dh wᵀ` -/

theorem body4 (x w : Arr 1024 1024) : out4_2 (F := Ideal) x w = nt x w := by
  unfold out4_2
  rw [View.canon_unit_zero off_zero, View.ld_unit_zero off_zero, View.ld_unit_zero off_zero]
  exact matmulNT (φ₁ := .bf16) (φ₂ := .bf16) _ x w

theorem arr4 : (dat4 (V4 m ρ) c).arrAt 2 cfg4.N = nt (dh m c) (wout m c) := by
  refine Dat.arrAt_eq_of_covers (dat4 (V4 m ρ) c) 2 _ (by decide +kernel) fun t hf y => ?_
  blk_simp
  rw [after4_2, body4]
  have ea := (by decide +kernel : ∀ t : Fin grid4.N, win4_0.index t = ![win4_2.index t 0, 0]) t
  have eb := (by decide +kernel : ∀ t : Fin grid4.N, win4_1.index t = ![win4_2.index t 1, 0]) t
  have rows : ∀ k, iblk4 (V4 m ρ) c 0 t (ix2 (y 0) k) = dh m c (ix2 ((win4_2.blk t).view.emb y 0) k) := fun k => by
    refine (congrFun (W4_args m ρ c main_arg6 (by decide)) _).trans (congrArg (dh m c) (ix2_of ?_ ?_)) <;> blk_simp [ea] <;> rfl
  have cols : ∀ k, iblk4 (V4 m ρ) c 1 t (ix2 (y 1) k) = wout m c (ix2 ((win4_2.blk t).view.emb y 1) k) := fun k => by
    refine (congrFun (W4_args m ρ c main_arg4 (by decide)) _).trans (congrArg (wout m c) (ix2_of ?_ ?_)) <;> blk_simp [eb] <;> rfl
  exact (nt_block y _ _ rows cols).trans (congrArg (nt (dh m c) (wout m c)) (eq_ix2 _).symm)

/-! ## `catᵀ dh` -/

theorem body5 (x w : Arr 2048 1024) : out5_2 (F := Ideal) x w = tn x w := by
  unfold out5_2
  rw [View.canon_unit_zero off_zero, View.ld_unit_zero off_zero, View.ld_unit_zero off_zero]
  exact matmulTN (φ₁ := .bf16) (φ₂ := .bf16) _ x w

theorem arr5 : (dat5 (V5 m ρ) c).arrAt 2 cfg5.N = tn (cat m c) (dh m c) := by
  refine Dat.arrAt_eq_of_covers (dat5 (V5 m ρ) c) 2 _ (by decide +kernel) fun t hf y => ?_
  blk_simp
  rw [after5_2, body5]
  have ea := (by decide +kernel : ∀ t : Fin grid5.N, win5_0.index t = ![0, win5_2.index t 0]) t
  have eb := (by decide +kernel : ∀ t : Fin grid5.N, win5_1.index t = ![0, win5_2.index t 1]) t
  have rows : ∀ k, iblk5 (V5 m ρ) c 0 t (ix2 k (y 0)) = cat m c (ix2 k ((win5_2.blk t).view.emb y 0)) := fun k => by
    refine (congrFun (W5_args m ρ c main_arg3 (by decide)) _).trans (congrArg (cat m c) (ix2_of ?_ ?_)) <;> blk_simp [ea] <;> rfl
  have cols : ∀ k, iblk5 (V5 m ρ) c 1 t (ix2 k (y 1)) = dh m c (ix2 k ((win5_2.blk t).view.emb y 1)) := fun k => by
    refine (congrFun (W5_args m ρ c main_arg6 (by decide)) _).trans (congrArg (dh m c) (ix2_of ?_ ?_)) <;> blk_simp [eb] <;> rfl
  exact (tn_block y _ _ rows cols).trans (congrArg (tn (cat m c) (dh m c)) (eq_ix2 _).symm)

/-! ## At the end of the run -/

theorem end_0 : W6 m ρ c (Proc.devRef .tc main_v0) = nn (hn m c) (win m c) :=
  (W6_of m ρ c main_v0 (by decide +kernel)).trans ((W5_of m ρ c main_v0 (by decide +kernel)).trans ((W4_of m ρ c main_v0 (by decide +kernel)).trans
    ((W3_of m ρ c main_v0 (by decide +kernel)).trans ((W2_of m ρ c main_v0 (by decide +kernel)).trans ((W1_arr m ρ c 2).trans (arr0 m ρ c))))))
theorem end_1 : W6 m ρ c (Proc.devRef .tc main_v1) = nt (dproj m c) (win m c) :=
  (W6_of m ρ c main_v1 (by decide +kernel)).trans ((W5_of m ρ c main_v1 (by decide +kernel)).trans ((W4_of m ρ c main_v1 (by decide +kernel)).trans
    ((W3_of m ρ c main_v1 (by decide +kernel)).trans ((W2_arr m ρ c 2).trans (arr1 m ρ c)))))
theorem end_2 : W6 m ρ c (Proc.devRef .tc main_v2) = tn (hn m c) (dproj m c) :=
  (W6_of m ρ c main_v2 (by decide +kernel)).trans ((W5_of m ρ c main_v2 (by decide +kernel)).trans ((W4_of m ρ c main_v2 (by decide +kernel)).trans
    ((W3_arr m ρ c 2).trans (arr2 m ρ c))))
theorem end_3 : W6 m ρ c (Proc.devRef .tc main_v3) = fun y => x m c y + nn (cat m c) (wout m c) y :=
  (W6_of m ρ c main_v3 (by decide +kernel)).trans ((W5_of m ρ c main_v3 (by decide +kernel)).trans ((W4_arr m ρ c 3).trans (arr3 m ρ c)))
theorem end_4 : W6 m ρ c (Proc.devRef .tc main_v4) = nt (dh m c) (wout m c) :=
  (W6_of m ρ c main_v4 (by decide +kernel)).trans ((W5_arr m ρ c 2).trans (arr4 m ρ c))
theorem end_5 : W6 m ρ c (Proc.devRef .tc main_v5) = tn (cat m c) (dh m c) := (W6_arr m ρ c 2).trans (arr5 m ρ c)

end Cert.MixerIdeal.Val

end
-- ==== Proof.MixerEq.lean ====
/-
  The mixer's two products and their gradients are the reference's.
-/
module

public import proofs.«01_k».proof.Proof.MixerVal
public import proofs.«01_k».proof.Proof.Gen.MixerRefIdeal.Run
public import proofs.«01_k».proof.Defs
public import Idealize.ShloMosaic.Lib.Quiescent

@[expose] public section

set_option maxRecDepth 16384

noncomputable section

open Idealize.ShloMosaic Idealize.ShloMosaic.TcCoe Idealize.SL.Sem

namespace Cert.MixerIdeal.Val

open Cert.MixerIdeal Mat

/-- Both runs end with the same six arrays. -/
theorem agree : algebraic_MixerIdeal_MixerRefIdeal (hMixerIdeal := Cert.MixerIdeal.Gen.facts) (hMixerRefIdeal := Cert.MixerRefIdeal.Gen.facts) := by
  intro m g m' g' _ hagree
  refine ⟨fun c => nn (hn m c) (win m c), fun c => nt (dproj m c) (win m c), fun c => tn (hn m c) (dproj m c),
    fun c y => x m c y + nn (cat m c) (wout m c) y, fun c => nt (dh m c) (wout m c), fun c => tn (cat m c) (dh m c), ?_, ?_⟩
  · refine (θ_run _ _ _).mono (fun r h c => ?_) (returns_at (F := Ideal) m g)
    have k : ∀ (b : Ref sig .tc), b.isScoped = false → b ∈ Gen.argRefs → r.2.mem ((c.tc : Thread nD τ).loc b) = m ((c.tc : Thread nD τ).loc b) :=
      fun b hs hb => (h c b hs).trans (Gen.W6_args m g c b hb)
    exact ⟨(h c main_v0 (by decide)).trans (end_0 m g c), (h c main_v1 (by decide)).trans (end_1 m g c), (h c main_v2 (by decide)).trans (end_2 m g c),
      (h c main_v3 (by decide)).trans (end_3 m g c), (h c main_v4 (by decide)).trans (end_4 m g c), (h c main_v5 (by decide)).trans (end_5 m g c),
      k _ (by decide) (by decide), k _ (by decide) (by decide), k _ (by decide) (by decide), k _ (by decide) (by decide), k _ (by decide) (by decide),
      k _ (by decide) (by decide), k _ (by decide) (by decide)⟩
  · refine (θ_run _ _ _).mono (fun r h c => ?_) (Cert.MixerRefIdeal.Value.run (F := Ideal) m' g')
    obtain ⟨e0, e1, e2, e3, e4, e5, e6⟩ := hagree c
    obtain ⟨h0, h1, h2, h3, h4, h5, h6⟩ := h c
    refine ⟨h0.trans ?_, h1.trans ?_, h2.trans ?_, h3.trans ?_, h4.trans ?_, h5.trans ?_, h6⟩
    · rw [e0, e1]
      exact hostNN (φ₁ := .f32) (φ₂ := .f32) _ (hn m c) (win m c)
    · rw [e1, e2]
      exact hostNT (φ₁ := .f32) (φ₂ := .f32) _ (dproj m c) (win m c)
    · rw [e0, e2]
      exact (congrArg (fun x => transpose _ _ x _) (hostTN (φ₁ := .f32) (φ₂ := .f32) _ (dproj m c) (hn m c))).trans (transpose_tn (hn m c) (dproj m c) _)
    · rw [e3, e4, e5]
      funext y
      exact congrArg (x m c y + ·) (congrFun (hostNN (φ₁ := .f32) (φ₂ := .f32) _ (cat m c) (wout m c)) y)
    · rw [e4, e6]
      exact (hostNT (φ₁ := .f32) (φ₂ := .f32) _ (shapeCast _ (dh m c) _) (wout m c)).trans (congrArg (fun x => nt x (wout m c)) (shapeCast_self (dh m c) _))
    · rw [e3, e6]
      exact (congrArg (fun x => transpose _ _ x _) ((hostTN (φ₁ := .f32) (φ₂ := .f32) _ (shapeCast _ (dh m c) _) (cat m c)).trans
        (congrArg (fun x => tn x (cat m c)) (shapeCast_self (dh m c) _)))).trans (transpose_tn (cat m c) (dh m c) _)

/-- The reference leaves its arguments unchanged. -/
theorem frame_reference : quiescent_MixerRefIdeal (hMixerRefIdeal := Cert.MixerRefIdeal.Gen.facts) := fun m g _ =>
  (θ_run _ _ _).mono (fun r h => ⟨fun c => (h c).2.2.2.2.2.2, sem_eq_zero_of_no_sems (by decide) r.2⟩) (Cert.MixerRefIdeal.Value.run (F := Ideal) m g)

end Cert.MixerIdeal.Val

end
-- ==== Proof.Heads.lean ====
/-
  The attention's weight and cotangents by groups of heads: the columns of q, k and v that belong to a group, the three
  cotangents side by side, and what the host's reshapes, slices and transposes make of the arrays.
-/
module

public import proofs.«01_k».proof.Proof.Products
public import Idealize.ShloMosaic.Lib.ValueLayout

@[expose] public section

noncomputable section

open Idealize.ShloMosaic Idealize.ShloMosaic.ValueIdx

namespace Mat

/-- Column `j` of group `g` among all columns: those of q come first, then those of k, then those of v. -/
def col (g : Fin 3) (j : Fin 1536) : Fin 4608 := ⟨j.val / 512 * 1536 + g.val * 512 + j.val % 512, by omega⟩

/-- A group's columns. -/
def cols (g : Fin 3) (w : Arr 1024 4608) : Arr 1024 1536 := fun y => w (ix2 (y 0) (col g (y 1)))

/-- Column `q` of block `j` of a group is column `q` of block `3 j + g` of the whole. -/
theorem cols_at (g : Fin 3) (w : Arr 1024 4608) {i : Fin 1024} {p : Fin 1536} {x : (⟨2, ![1024, 4608]⟩ : Shape).Idx} {j q : ℕ} (hq : q < 512)
    (h : p.val = j * 512 + q) (h0 : (x 0).val = i.val) (h1 : (x 1).val = (3 * j + g.val) * 512 + q) : w x = cols g w (ix2 i p) := by
  refine congrArg w (ix2_of h0 (h1.trans ?_))
  show _ = p.val / 512 * 1536 + g.val * 512 + p.val % 512
  omega

/-- Three arrays as extended reals. -/
abbrev Arr3 : Type := (⟨3, ![3, 2048, 512]⟩ : Shape).Idx → EReal

/-- The three cotangents side by side. -/
def side (d : Arr3) : Arr 2048 1536 := fun y =>
  d (ix3 ⟨(y 1).val / 512, Nat.div_lt_of_lt_mul (y 1).isLt⟩ (y 0) ⟨(y 1).val % 512, Nat.mod_lt _ (by decide)⟩)

/-- Entry `q` of block `j` of the arrays side by side is entry `q` of array `j`. -/
theorem side_at (d : Arr3) {i : Fin 2048} {p : Fin 1536} {x : (⟨3, ![3, 2048, 512]⟩ : Shape).Idx} {j q : ℕ} (hq : q < 512) (h : p.val = j * 512 + q)
    (h0 : (x 0).val = j) (h1 : (x 1).val = i.val) (h2 : (x 2).val = q) : d x = side d (ix2 i p) := by
  refine congrArg d (funext fun a => Fin.ext ?_)
  match a with
  | ⟨0, _⟩ =>
    show (x 0).val = p.val / 512
    omega
  | ⟨1, _⟩ => exact h1
  | ⟨2, _⟩ =>
    show (x 2).val = p.val % 512
    omega

/-- An array with one leading place, without it. -/
def flat {m n : ℕ} (x : (⟨3, ![1, m, n]⟩ : Shape).Idx → EReal) : Arr m n := fun y => x (ix3 0 (y 0) (y 1))

theorem shapeCast_flat {m n : ℕ} (x : (⟨3, ![1, m, n]⟩ : Shape).Idx → EReal) (h : (⟨3, ![1, m, n]⟩ : Shape).ShapeCasts ⟨2, ![m, n]⟩) :
    shapeCast ⟨2, ![m, n]⟩ x h = flat x := by
  funext y
  rw [eq_ix2 y]
  exact shapeCast_1ab_ab_apply x h (y 0) (y 1)

theorem off_zero3 : (![0, 0, 0] : Fin 3 → ℕ) = fun _ => 0 := by
  funext a
  match a with
  | ⟨0, _⟩ => rfl
  | ⟨1, _⟩ => rfl
  | ⟨2, _⟩ => rfl

theorem host_side (d : Arr3) (ht : Shape.Transposes ⟨3, ![3, 2048, 512]⟩ [1, 0, 2] ⟨3, ![2048, 3, 512]⟩)
    (hc : (⟨3, ![2048, 3, 512]⟩ : Shape).ShapeCasts ⟨2, ![2048, 1536]⟩) :
    shapeCast ⟨2, ![2048, 1536]⟩ (transpose ⟨3, ![2048, 3, 512]⟩ [1, 0, 2] d ht) hc = side d := by
  funext y
  have h1 : (y 1).val < 1536 := (y 1).isLt
  refine (shapeCast_apply _ _ _ (ix3 (y 0) ⟨(y 1).val / 512, by omega⟩ ⟨(y 1).val % 512, by omega⟩) ?_).trans
    (transpose_apply _ _ _ _ _ fun i => ?_)
  · rw [Shape.rowMajor_val_three, Shape.rowMajor_val_two]
    show ((y 0).val * 3 + (y 1).val / 512) * 512 + (y 1).val % 512 = (y 0).val * 1536 + (y 1).val
    omega
  · match i with
    | ⟨0, _⟩ => rfl
    | ⟨1, _⟩ => rfl
    | ⟨2, _⟩ => rfl

theorem host_cols (g : Fin 3) (w : Arr 1024 4608) (h1 : (⟨2, ![1024, 4608]⟩ : Shape).ShapeCasts ⟨4, ![1024, 3, 3, 512]⟩)
    (h2 : (⟨4, ![1024, 3, 3, 512]⟩ : Shape).Slices ![0, 0, g.val, 0] ⟨4, ![1024, 3, 1, 512]⟩)
    (h3 : (⟨4, ![1024, 3, 1, 512]⟩ : Shape).ShapeCasts ⟨3, ![1024, 3, 512]⟩) (h4 : (⟨3, ![1024, 3, 512]⟩ : Shape).ShapeCasts ⟨2, ![1024, 1536]⟩) :
    shapeCast ⟨2, ![1024, 1536]⟩ (shapeCast ⟨3, ![1024, 3, 512]⟩ (extractStridedSlice ⟨4, ![1024, 3, 1, 512]⟩ ![0, 0, g.val, 0]
      (shapeCast ⟨4, ![1024, 3, 3, 512]⟩ w h1) h2) h3) h4 = cols g w := by
  funext y
  have hy : (y 1).val < 1536 := (y 1).isLt
  refine (shapeCast_apply _ _ _ (ix3 (y 0) ⟨(y 1).val / 512, by omega⟩ ⟨(y 1).val % 512, by omega⟩) ?_).trans
    ((shapeCast_apply _ _ _ (ix4 (y 0) ⟨(y 1).val / 512, by omega⟩ 0 ⟨(y 1).val % 512, by omega⟩) ?_).trans
    ((extractStridedSlice_apply _ _ _ _ (ix4 (y 0) ⟨(y 1).val / 512, by omega⟩ g ⟨(y 1).val % 512, by omega⟩) fun i => ?_).trans
    (shapeCast_apply _ _ _ _ ?_)))
  · rw [Shape.rowMajor_val_three, Shape.rowMajor_val_two]
    show ((y 0).val * 3 + (y 1).val / 512) * 512 + (y 1).val % 512 = (y 0).val * 1536 + (y 1).val
    omega
  · refine (Shape.rowMajor_val_four _).trans (Eq.trans ?_ (Shape.rowMajor_val_three _).symm)
    show (((y 0).val * 3 + (y 1).val / 512) * 1 + 0) * 512 + (y 1).val % 512 = ((y 0).val * 3 + (y 1).val / 512) * 512 + (y 1).val % 512
    omega
  · match i with
    | ⟨0, _⟩ => exact (Nat.zero_add _).symm
    | ⟨1, _⟩ => exact (Nat.zero_add _).symm
    | ⟨2, _⟩ => rfl
    | ⟨3, _⟩ => exact (Nat.zero_add _).symm
  · refine (Shape.rowMajor_val_two _).trans (Eq.trans ?_ (Shape.rowMajor_val_four _).symm)
    show (y 0).val * 4608 + ((y 1).val / 512 * 1536 + g.val * 512 + (y 1).val % 512)
      = (((y 0).val * 3 + (y 1).val / 512) * 3 + g.val) * 512 + (y 1).val % 512
    omega

end Mat

end
-- ==== Proof.AttentionRun.lean ====
/-
  The kernel's run with every buffer read at its end: the launch of the frame, with the last thread state kept whole.
-/
module

public import proofs.«01_k».proof.Proof.Gen.AttentionIdeal.Frame

@[expose] public section

set_option maxRecDepth 16384

noncomputable section

namespace Cert.AttentionIdeal.Val

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are read off this conclusion through plain definitions
set_option backward.isDefEq.respectTransparency.types false in
/-- Every unscoped buffer of the TensorCores at the end of the run. -/
theorem returns : θ_run defs (onTc (τ := τ) (main (F := F))) ⟨m, fun _ => 0, ρ⟩ (fun r => ∀ c : Dev nD, ∀ b ∈ Pipeline.ucRefs τ sig,
      r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

/-- The same at the TensorCore's references. -/
theorem returns_at : θ_run defs (onTc (τ := τ) (main (F := F))) ⟨m, fun _ => 0, ρ⟩ (fun r => ∀ (c : Dev nD) (b : Ref sig .tc), b.isScoped = false →
      r.2.mem ((c : Thread nD τ).loc b) = W9 m ρ c (Proc.devRef .tc b)) :=
  (θ_run defs _ _).mono (fun _ h c b hb => h c _ (mem_uc b (Bool.eq_false_iff.mp hb))) (returns m ρ)

end Cert.AttentionIdeal.Val

end
-- ==== Proof.AttentionVal.lean ====
/-
  The attention's products with their gradients: for each of the three groups of heads `hn w` on the group's columns and
  `hnᵀ d`, then `h + o w`, `dh wᵀ`, `oᵀ dh`: what the kernel's arrays hold when it returns.
-/
module

public import proofs.«01_k».proof.Proof.Heads
public import proofs.«01_k».proof.Proof.AttentionRun
public import Idealize.ShloMosaic.Lib.Pipeline.ValueKit.Geometry

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.AttentionIdeal.Val

open Cert.AttentionIdeal Cert.AttentionIdeal.Gen Mat

variable (m : (ℓ : Loc nD τ sig) → Buf (Elt Ideal) ℓ) (ρ : Dev nD → PrngReg) (c : Dev nD)

/-- The groups' rows, the weight, the groups' cotangents; the last product's rows, weight, residual and cotangent. -/
def hn0 : Arr 2048 1024 := m ((c : Thread nD τ).loc main_arg0)
def hn1 : Arr 2048 1024 := m ((c : Thread nD τ).loc main_arg1)
def hn2 : Arr 2048 1024 := m ((c : Thread nD τ).loc main_arg2)
def wqkv : Arr 1024 4608 := m ((c : Thread nD τ).loc main_arg3)
def d0 : Arr3 := m ((c : Thread nD τ).loc main_arg4)
def d1 : Arr3 := m ((c : Thread nD τ).loc main_arg5)
def d2 : Arr3 := m ((c : Thread nD τ).loc main_arg6)
def o : Arr 2048 512 := m ((c : Thread nD τ).loc main_arg7)
def wo : Arr 512 1024 := m ((c : Thread nD τ).loc main_arg8)
def h : Arr 2048 1024 := m ((c : Thread nD τ).loc main_arg9)
def dh : Arr 2048 1024 := m ((c : Thread nD τ).loc main_arg10)

/-! ## What a block's body computes -/

theorem pay_nn (x : Arr 1024 1024) (w : Arr 1024 512) : k0_pay1 (F := Ideal) x w = nn x w := matmulNN (φ₁ := .bf16) (φ₂ := .bf16) _ x w
theorem pay_tn (x : Arr 2048 1024) (d : (⟨3, ![1, 2048, 512]⟩ : Shape).Idx → EReal) : k1_pay1 (F := Ideal) x d = tn x (flat d) :=
  (matmulTN (φ₁ := .bf16) (φ₂ := .bf16) _ x (shapeCast S2048x512 d shapeCasts_S1x2048x512_S2048x512)).trans (congrArg (tn x) (shapeCast_flat d _))

/-! ## The first group -/

theorem body0 (x : Arr 1024 1024) (w : Arr 1024 512) : out0_2 (F := Ideal) x w = nn x w := by
  unfold out0_2
  rw [View.canon_unit_zero off_zero, View.ld_unit_zero off_zero, View.ld_unit_zero off_zero]
  exact pay_nn x w
theorem body1 (x : Arr 2048 1024) (d : (⟨3, ![1, 2048, 512]⟩ : Shape).Idx → EReal) : out1_2 (F := Ideal) x d = tn x (flat d) := by
  unfold out1_2
  rw [View.canon_unit_zero off_zero, View.ld_unit_zero off_zero, View.ld_unit_zero off_zero3]
  exact pay_tn x d

theorem arr0 : (dat0 (V0 m ρ) c).arrAt 2 cfg0.N = nn (hn0 m c) (cols 0 (wqkv m c)) := by
  refine Dat.arrAt_eq_of_covers (dat0 (V0 m ρ) c) 2 _ (by decide +kernel) fun t hf y => ?_
  blk_simp
  rw [after0_2, body0]
  have ea := (by decide +kernel : ∀ t : Fin grid0.N, win0_0.index t = ![win0_2.index t 0, 0]) t
  have eb := (by decide +kernel : ∀ t : Fin grid0.N, win0_1.index t = ![0, 3 * win0_2.index t 1 + 0]) t
  have rows : ∀ k, iblk0 (V0 m ρ) c 0 t (ix2 (y 0) k) = hn0 m c (ix2 ((win0_2.blk t).view.emb y 0) k) := fun k => by
    refine congrArg (hn0 m c) (ix2_of ?_ ?_) <;> blk_simp [ea] <;> rfl
  have colsAt : ∀ k, iblk0 (V0 m ρ) c 1 t (ix2 k (y 1)) = cols 0 (wqkv m c) (ix2 k ((win0_2.blk t).view.emb y 1)) := fun k => by
    refine cols_at 0 (wqkv m c) (j := win0_2.index t 1) (q := (y 1).val) (y 1).isLt ?_ ?_ ?_ <;> blk_simp [eb] <;> rfl
  exact (nn_block y _ _ rows colsAt).trans (congrArg (nn (hn0 m c) (cols 0 (wqkv m c))) (eq_ix2 _).symm)

theorem arr1 : (dat1 (V1 m ρ) c).arrAt 2 cfg1.N = tn (hn0 m c) (side (d0 m c)) := by
  refine Dat.arrAt_eq_of_covers (dat1 (V1 m ρ) c) 2 _ (by decide +kernel) fun t hf y => ?_
  blk_simp
  rw [after1_2, body1]
  have ea := (by decide +kernel : ∀ t : Fin grid1.N, win1_0.index t = ![0, win1_2.index t 0]) t
  have eb := (by decide +kernel : ∀ t : Fin grid1.N, win1_1.index t = ![win1_2.index t 1, 0, 0]) t
  have rows : ∀ k, iblk1 (V1 m ρ) c 0 t (ix2 k (y 0)) = hn0 m c (ix2 k ((win1_2.blk t).view.emb y 0)) := fun k => by
    refine (congrFun (W1_args m ρ c main_arg0 (by decide)) _).trans (congrArg (hn0 m c) (ix2_of ?_ ?_)) <;> blk_simp [ea] <;> rfl
  have colsAt : ∀ k, flat (iblk1 (V1 m ρ) c 1 t) (ix2 k (y 1)) = side (d0 m c) (ix2 k ((win1_2.blk t).view.emb y 1)) := fun k => by
    refine (congrFun (W1_args m ρ c main_arg4 (by decide)) _).trans
      (side_at (d0 m c) (j := win1_2.index t 1) (q := (y 1).val) (y 1).isLt ?_ ?_ ?_ ?_) <;> blk_simp [eb] <;> rfl
  exact (tn_block y _ _ rows colsAt).trans (congrArg (tn (hn0 m c) (side (d0 m c))) (eq_ix2 _).symm)

/-! ## The second group -/

theorem body2 (x : Arr 1024 1024) (w : Arr 1024 512) : out2_2 (F := Ideal) x w = nn x w := body0 x w
theorem body3 (x : Arr 2048 1024) (d : (⟨3, ![1, 2048, 512]⟩ : Shape).Idx → EReal) : out3_2 (F := Ideal) x d = tn x (flat d) := body1 x d

theorem arr2 : (dat2 (V2 m ρ) c).arrAt 2 cfg2.N = nn (hn1 m c) (cols 1 (wqkv m c)) := by
  refine Dat.arrAt_eq_of_covers (dat2 (V2 m ρ) c) 2 _ (by decide +kernel) fun t hf y => ?_
  blk_simp
  rw [after2_2, body2]
  have ea := (by decide +kernel : ∀ t : Fin grid2.N, win2_0.index t = ![win2_2.index t 0, 0]) t
  have eb := (by decide +kernel : ∀ t : Fin grid2.N, win2_1.index t = ![0, 3 * win2_2.index t 1 + 1]) t
  have rows : ∀ k, iblk2 (V2 m ρ) c 0 t (ix2 (y 0) k) = hn1 m c (ix2 ((win2_2.blk t).view.emb y 0) k) := fun k => by
    refine (congrFun (W2_args m ρ c main_arg1 (by decide)) _).trans (congrArg (hn1 m c) (ix2_of ?_ ?_)) <;> blk_simp [ea] <;> rfl
  have colsAt : ∀ k, iblk2 (V2 m ρ) c 1 t (ix2 k (y 1)) = cols 1 (wqkv m c) (ix2 k ((win2_2.blk t).view.emb y 1)) := fun k => by
    refine (congrFun (W2_args m ρ c main_arg3 (by decide)) _).trans
      (cols_at 1 (wqkv m c) (j := win2_2.index t 1) (q := (y 1).val) (y 1).isLt ?_ ?_ ?_) <;> blk_simp [eb] <;> rfl
  exact (nn_block y _ _ rows colsAt).trans (congrArg (nn (hn1 m c) (cols 1 (wqkv m c))) (eq_ix2 _).symm)

theorem arr3 : (dat3 (V3 m ρ) c).arrAt 2 cfg3.N = tn (hn1 m c) (side (d1 m c)) := by
  refine Dat.arrAt_eq_of_covers (dat3 (V3 m ρ) c) 2 _ (by decide +kernel) fun t hf y => ?_
  blk_simp
  rw [after3_2, body3]
  have ea := (by decide +kernel : ∀ t : Fin grid3.N, win3_0.index t = ![0, win3_2.index t 0]) t
  have eb := (by decide +kernel : ∀ t : Fin grid3.N, win3_1.index t = ![win3_2.index t 1, 0, 0]) t
  have rows : ∀ k, iblk3 (V3 m ρ) c 0 t (ix2 k (y 0)) = hn1 m c (ix2 k ((win3_2.blk t).view.emb y 0)) := fun k => by
    refine (congrFun (W3_args m ρ c main_arg1 (by decide)) _).trans (congrArg (hn1 m c) (ix2_of ?_ ?_)) <;> blk_simp [ea] <;> rfl
  have colsAt : ∀ k, flat (iblk3 (V3 m ρ) c 1 t) (ix2 k (y 1)) = side (d1 m c) (ix2 k ((win3_2.blk t).view.emb y 1)) := fun k => by
    refine (congrFun (W3_args m ρ c main_arg5 (by decide)) _).trans
      (side_at (d1 m c) (j := win3_2.index t 1) (q := (y 1).val) (y 1).isLt ?_ ?_ ?_ ?_) <;> blk_simp [eb] <;> rfl
  exact (tn_block y _ _ rows colsAt).trans (congrArg (tn (hn1 m c) (side (d1 m c))) (eq_ix2 _).symm)

/-! ## The third group -/

theorem body4 (x : Arr 1024 1024) (w : Arr 1024 512) : out4_2 (F := Ideal) x w = nn x w := body0 x w
theorem body5 (x : Arr 2048 1024) (d : (⟨3, ![1, 2048, 512]⟩ : Shape).Idx → EReal) : out5_2 (F := Ideal) x d = tn x (flat d) := body1 x d

theorem arr4 : (dat4 (V4 m ρ) c).arrAt 2 cfg4.N = nn (hn2 m c) (cols 2 (wqkv m c)) := by
  refine Dat.arrAt_eq_of_covers (dat4 (V4 m ρ) c) 2 _ (by decide +kernel) fun t hf y => ?_
  blk_simp
  rw [after4_2, body4]
  have ea := (by decide +kernel : ∀ t : Fin grid4.N, win4_0.index t = ![win4_2.index t 0, 0]) t
  have eb := (by decide +kernel : ∀ t : Fin grid4.N, win4_1.index t = ![0, 3 * win4_2.index t 1 + 2]) t
  have rows : ∀ k, iblk4 (V4 m ρ) c 0 t (ix2 (y 0) k) = hn2 m c (ix2 ((win4_2.blk t).view.emb y 0) k) := fun k => by
    refine (congrFun (W4_args m ρ c main_arg2 (by decide)) _).trans (congrArg (hn2 m c) (ix2_of ?_ ?_)) <;> blk_simp [ea] <;> rfl
  have colsAt : ∀ k, iblk4 (V4 m ρ) c 1 t (ix2 k (y 1)) = cols 2 (wqkv m c) (ix2 k ((win4_2.blk t).view.emb y 1)) := fun k => by
    refine (congrFun (W4_args m ρ c main_arg3 (by decide)) _).trans
      (cols_at 2 (wqkv m c) (j := win4_2.index t 1) (q := (y 1).val) (y 1).isLt ?_ ?_ ?_) <;> blk_simp [eb] <;> rfl
  exact (nn_block y _ _ rows colsAt).trans (congrArg (nn (hn2 m c) (cols 2 (wqkv m c))) (eq_ix2 _).symm)

theorem arr5 : (dat5 (V5 m ρ) c).arrAt 2 cfg5.N = tn (hn2 m c) (side (d2 m c)) := by
  refine Dat.arrAt_eq_of_covers (dat5 (V5 m ρ) c) 2 _ (by decide +kernel) fun t hf y => ?_
  blk_simp
  rw [after5_2, body5]
  have ea := (by decide +kernel : ∀ t : Fin grid5.N, win5_0.index t = ![0, win5_2.index t 0]) t
  have eb := (by decide +kernel : ∀ t : Fin grid5.N, win5_1.index t = ![win5_2.index t 1, 0, 0]) t
  have rows : ∀ k, iblk5 (V5 m ρ) c 0 t (ix2 k (y 0)) = hn2 m c (ix2 k ((win5_2.blk t).view.emb y 0)) := fun k => by
    refine (congrFun (W5_args m ρ c main_arg2 (by decide)) _).trans (congrArg (hn2 m c) (ix2_of ?_ ?_)) <;> blk_simp [ea] <;> rfl
  have colsAt : ∀ k, flat (iblk5 (V5 m ρ) c 1 t) (ix2 k (y 1)) = side (d2 m c) (ix2 k ((win5_2.blk t).view.emb y 1)) := fun k => by
    refine (congrFun (W5_args m ρ c main_arg6 (by decide)) _).trans
      (side_at (d2 m c) (j := win5_2.index t 1) (q := (y 1).val) (y 1).isLt ?_ ?_ ?_ ?_) <;> blk_simp [eb] <;> rfl
  exact (tn_block y _ _ rows colsAt).trans (congrArg (tn (hn2 m c) (side (d2 m c))) (eq_ix2 _).symm)

/-! ## `h + o w` -/

theorem body6 (x : Arr 1024 512) (w : Arr 512 1024) (h : Arr 1024 1024) (y) : out6_3 (F := Ideal) x w h y = nn x w y + h y := by
  unfold out6_3
  rw [View.canon_unit_zero off_zero, View.ld_unit_zero off_zero, View.ld_unit_zero off_zero, View.ld_unit_zero off_zero]
  exact congrArg (· + h y) (congrFun (matmulNN (φ₁ := .bf16) (φ₂ := .bf16) _ x w) y)

theorem here6 (t : Fin cfg6.N) (y : S1024x1024.Idx) : iblk6 (V6 m ρ) c 2 t y = h m c ((win6_3.blk t).view.emb y) := by
  have e := (by decide +kernel : ∀ t : Fin grid6.N, win6_2.index t = win6_3.index t) t
  refine (congrFun (W6_args m ρ c main_arg9 (by decide)) _).trans (congrArg (h m c) ((ix2_of ?_ ?_).trans (eq_ix2 _).symm)) <;> blk_simp [e] <;> rfl

theorem arr6 : (dat6 (V6 m ρ) c).arrAt 3 cfg6.N = fun y => h m c y + nn (o m c) (wo m c) y := by
  refine Dat.arrAt_eq_of_covers (dat6 (V6 m ρ) c) 3 _ (by decide +kernel) fun t hf y => ?_
  blk_simp
  rw [after6_3]
  have ea := (by decide +kernel : ∀ t : Fin grid6.N, win6_0.index t = ![win6_3.index t 0, 0]) t
  have eb := (by decide +kernel : ∀ t : Fin grid6.N, win6_1.index t = ![0, win6_3.index t 1]) t
  have rows : ∀ k, iblk6 (V6 m ρ) c 0 t (ix2 (y 0) k) = o m c (ix2 ((win6_3.blk t).view.emb y 0) k) := fun k => by
    refine (congrFun (W6_args m ρ c main_arg7 (by decide)) _).trans (congrArg (o m c) (ix2_of ?_ ?_)) <;> blk_simp [ea] <;> rfl
  have cols : ∀ k, iblk6 (V6 m ρ) c 1 t (ix2 k (y 1)) = wo m c (ix2 k ((win6_3.blk t).view.emb y 1)) := fun k => by
    refine (congrFun (W6_args m ρ c main_arg8 (by decide)) _).trans (congrArg (wo m c) (ix2_of ?_ ?_)) <;> blk_simp [eb] <;> rfl
  exact (body6 _ _ _ y).trans
    ((congrArg₂ (· + ·) ((nn_block y _ _ rows cols).trans (congrArg (nn (o m c) (wo m c)) (eq_ix2 _).symm)) (here6 m ρ c t y)).trans (add_comm _ _))

/-! ## `dh wᵀ` -/

theorem body7 (x : Arr 1024 1024) (w : Arr 512 1024) : out7_2 (F := Ideal) x w = nt x w := by
  unfold out7_2
  rw [View.canon_unit_zero off_zero, View.ld_unit_zero off_zero, View.ld_unit_zero off_zero]
  exact matmulNT (φ₁ := .bf16) (φ₂ := .bf16) _ x w

theorem arr7 : (dat7 (V7 m ρ) c).arrAt 2 cfg7.N = nt (dh m c) (wo m c) := by
  refine Dat.arrAt_eq_of_covers (dat7 (V7 m ρ) c) 2 _ (by decide +kernel) fun t hf y => ?_
  blk_simp
  rw [after7_2, body7]
  have ea := (by decide +kernel : ∀ t : Fin grid7.N, win7_0.index t = ![win7_2.index t 0, 0]) t
  have eb := (by decide +kernel : ∀ t : Fin grid7.N, win7_1.index t = ![win7_2.index t 1, 0]) t
  have rows : ∀ k, iblk7 (V7 m ρ) c 0 t (ix2 (y 0) k) = dh m c (ix2 ((win7_2.blk t).view.emb y 0) k) := fun k => by
    refine (congrFun (W7_args m ρ c main_arg10 (by decide)) _).trans (congrArg (dh m c) (ix2_of ?_ ?_)) <;> blk_simp [ea] <;> rfl
  have cols : ∀ k, iblk7 (V7 m ρ) c 1 t (ix2 (y 1) k) = wo m c (ix2 ((win7_2.blk t).view.emb y 1) k) := fun k => by
    refine (congrFun (W7_args m ρ c main_arg8 (by decide)) _).trans (congrArg (wo m c) (ix2_of ?_ ?_)) <;> blk_simp [eb] <;> rfl
  exact (nt_block y _ _ rows cols).trans (congrArg (nt (dh m c) (wo m c)) (eq_ix2 _).symm)

/-! ## `oᵀ dh` -/

theorem body8 (x : Arr 2048 512) (w : Arr 2048 1024) : out8_2 (F := Ideal) x w = tn x w := by
  unfold out8_2
  rw [View.canon_unit_zero off_zero, View.ld_unit_zero off_zero, View.ld_unit_zero off_zero]
  exact matmulTN (φ₁ := .bf16) (φ₂ := .bf16) _ x w

theorem arr8 : (dat8 (V8 m ρ) c).arrAt 2 cfg8.N = tn (o m c) (dh m c) := by
  refine Dat.arrAt_eq_of_covers (dat8 (V8 m ρ) c) 2 _ (by decide +kernel) fun t hf y => ?_
  blk_simp
  rw [after8_2, body8]
  have ea := (by decide +kernel : ∀ t : Fin grid8.N, win8_0.index t = ![0, win8_2.index t 0]) t
  have eb := (by decide +kernel : ∀ t : Fin grid8.N, win8_1.index t = ![0, win8_2.index t 1]) t
  have rows : ∀ k, iblk8 (V8 m ρ) c 0 t (ix2 k (y 0)) = o m c (ix2 k ((win8_2.blk t).view.emb y 0)) := fun k => by
    refine (congrFun (W8_args m ρ c main_arg7 (by decide)) _).trans (congrArg (o m c) (ix2_of ?_ ?_)) <;> blk_simp [ea] <;> rfl
  have cols : ∀ k, iblk8 (V8 m ρ) c 1 t (ix2 k (y 1)) = dh m c (ix2 k ((win8_2.blk t).view.emb y 1)) := fun k => by
    refine (congrFun (W8_args m ρ c main_arg10 (by decide)) _).trans (congrArg (dh m c) (ix2_of ?_ ?_)) <;> blk_simp [eb] <;> rfl
  exact (tn_block y _ _ rows cols).trans (congrArg (tn (o m c) (dh m c)) (eq_ix2 _).symm)

/-! ## At the end of the run -/

theorem end_0 : W9 m ρ c (Proc.devRef .tc main_v0) = nn (hn0 m c) (cols 0 (wqkv m c)) :=
  (W9_of m ρ c main_v0 (by decide +kernel)).trans
    ((W8_of m ρ c main_v0 (by decide +kernel)).trans ((W7_of m ρ c main_v0 (by decide +kernel)).trans ((W6_of m ρ c main_v0 (by decide +kernel)).trans
    ((W5_of m ρ c main_v0 (by decide +kernel)).trans ((W4_of m ρ c main_v0 (by decide +kernel)).trans ((W3_of m ρ c main_v0 (by decide +kernel)).trans
    ((W2_of m ρ c main_v0 (by decide +kernel)).trans ((W1_arr m ρ c 2).trans (arr0 m ρ c)))))))))
theorem end_1 : W9 m ρ c (Proc.devRef .tc main_v1) = tn (hn0 m c) (side (d0 m c)) :=
  (W9_of m ρ c main_v1 (by decide +kernel)).trans ((W8_of m ρ c main_v1 (by decide +kernel)).trans ((W7_of m ρ c main_v1 (by decide +kernel)).trans
    ((W6_of m ρ c main_v1 (by decide +kernel)).trans ((W5_of m ρ c main_v1 (by decide +kernel)).trans ((W4_of m ρ c main_v1 (by decide +kernel)).trans
    ((W3_of m ρ c main_v1 (by decide +kernel)).trans ((W2_arr m ρ c 2).trans (arr1 m ρ c))))))))
theorem end_2 : W9 m ρ c (Proc.devRef .tc main_v2) = nn (hn1 m c) (cols 1 (wqkv m c)) :=
  (W9_of m ρ c main_v2 (by decide +kernel)).trans ((W8_of m ρ c main_v2 (by decide +kernel)).trans
    ((W7_of m ρ c main_v2 (by decide +kernel)).trans ((W6_of m ρ c main_v2 (by decide +kernel)).trans ((W5_of m ρ c main_v2 (by decide +kernel)).trans
    ((W4_of m ρ c main_v2 (by decide +kernel)).trans ((W3_arr m ρ c 2).trans (arr2 m ρ c)))))))
theorem end_3 : W9 m ρ c (Proc.devRef .tc main_v3) = tn (hn1 m c) (side (d1 m c)) :=
  (W9_of m ρ c main_v3 (by decide +kernel)).trans
    ((W8_of m ρ c main_v3 (by decide +kernel)).trans ((W7_of m ρ c main_v3 (by decide +kernel)).trans ((W6_of m ρ c main_v3 (by decide +kernel)).trans
    ((W5_of m ρ c main_v3 (by decide +kernel)).trans ((W4_arr m ρ c 2).trans (arr3 m ρ c))))))
theorem end_4 : W9 m ρ c (Proc.devRef .tc main_v4) = nn (hn2 m c) (cols 2 (wqkv m c)) :=
  (W9_of m ρ c main_v4 (by decide +kernel)).trans ((W8_of m ρ c main_v4 (by decide +kernel)).trans ((W7_of m ρ c main_v4 (by decide +kernel)).trans
    ((W6_of m ρ c main_v4 (by decide +kernel)).trans ((W5_arr m ρ c 2).trans (arr4 m ρ c)))))
theorem end_5 : W9 m ρ c (Proc.devRef .tc main_v5) = tn (hn2 m c) (side (d2 m c)) :=
  (W9_of m ρ c main_v5 (by decide +kernel)).trans ((W8_of m ρ c main_v5 (by decide +kernel)).trans
    ((W7_of m ρ c main_v5 (by decide +kernel)).trans ((W6_arr m ρ c 2).trans (arr5 m ρ c))))
theorem end_6 : W9 m ρ c (Proc.devRef .tc main_v6) = fun y => h m c y + nn (o m c) (wo m c) y :=
  (W9_of m ρ c main_v6 (by decide +kernel)).trans
    ((W8_of m ρ c main_v6 (by decide +kernel)).trans ((W7_arr m ρ c 3).trans (arr6 m ρ c)))
theorem end_7 : W9 m ρ c (Proc.devRef .tc main_v7) = nt (dh m c) (wo m c) :=
  (W9_of m ρ c main_v7 (by decide +kernel)).trans ((W8_arr m ρ c 2).trans (arr7 m ρ c))
theorem end_8 : W9 m ρ c (Proc.devRef .tc main_v8) = tn (o m c) (dh m c) :=
  (W9_arr m ρ c 2).trans (arr8 m ρ c)

end Cert.AttentionIdeal.Val

end
-- ==== Proof.AttentionEq.lean ====
/-
  The attention's products and their gradients are the reference's.
-/
module

public import proofs.«01_k».proof.Proof.AttentionVal
public import proofs.«01_k».proof.Proof.Gen.AttentionRefIdeal.Run
public import proofs.«01_k».proof.Defs
public import Idealize.ShloMosaic.Lib.Quiescent

@[expose] public section

set_option maxRecDepth 16384

noncomputable section

open Idealize.ShloMosaic Idealize.ShloMosaic.TcCoe Idealize.SL.Sem

namespace Cert.AttentionIdeal.Val

open Cert.AttentionIdeal Mat

/-- Both runs end with the same nine arrays. -/
theorem agree : algebraic_AttentionIdeal_AttentionRefIdeal (hAttentionIdeal := Cert.AttentionIdeal.Gen.facts) (hAttentionRefIdeal := Cert.AttentionRefIdeal.Gen.facts) := by
  intro m g m' g' _ hagree
  refine ⟨fun c => nn (hn0 m c) (cols 0 (wqkv m c)), fun c => nn (hn1 m c) (cols 1 (wqkv m c)), fun c => nn (hn2 m c) (cols 2 (wqkv m c)),
    fun c => tn (hn0 m c) (side (d0 m c)), fun c => tn (hn1 m c) (side (d1 m c)), fun c => tn (hn2 m c) (side (d2 m c)),
    fun c y => h m c y + nn (o m c) (wo m c) y, fun c => nt (dh m c) (wo m c), fun c => tn (o m c) (dh m c), ?_, ?_⟩
  · refine (θ_run _ _ _).mono (fun r h c => ?_) (returns_at (F := Ideal) m g)
    have k : ∀ (b : Ref sig .tc), b.isScoped = false → b ∈ Gen.argRefs → r.2.mem ((c.tc : Thread nD τ).loc b) = m ((c.tc : Thread nD τ).loc b) :=
      fun b hs hb => (h c b hs).trans (Gen.W9_args m g c b hb)
    exact ⟨(h c main_v0 (by decide)).trans (end_0 m g c), (h c main_v2 (by decide)).trans (end_2 m g c), (h c main_v4 (by decide)).trans (end_4 m g c),
      (h c main_v1 (by decide)).trans (end_1 m g c), (h c main_v3 (by decide)).trans (end_3 m g c), (h c main_v5 (by decide)).trans (end_5 m g c),
      (h c main_v6 (by decide)).trans (end_6 m g c), (h c main_v7 (by decide)).trans (end_7 m g c), (h c main_v8 (by decide)).trans (end_8 m g c),
      k _ (by decide) (by decide), k _ (by decide) (by decide), k _ (by decide) (by decide), k _ (by decide) (by decide), k _ (by decide) (by decide),
      k _ (by decide) (by decide), k _ (by decide) (by decide), k _ (by decide) (by decide), k _ (by decide) (by decide), k _ (by decide) (by decide),
      k _ (by decide) (by decide)⟩
  · refine (θ_run _ _ _).mono (fun r h c => ?_) (Cert.AttentionRefIdeal.Value.run (F := Ideal) m' g')
    obtain ⟨e0, e1, e2, e3, e4, e5, e6, e7, e8, e9, e10⟩ := hagree c
    obtain ⟨h0, h1, h2, h3, h4, h5, h6, h7, h8, h9⟩ := h c
    -- a group's product: the host takes the group's columns by reshapes and a slice
    have hq : ∀ (g : Fin 3) (x : Arr 2048 1024) wf a1 a2 a3 a4, Host.dotGeneral (F := Ideal) (dimsNN wf) none (x : FVec Ideal ⟨2, ![2048, 1024]⟩ .f32)
        (shapeCast ⟨2, ![1024, 1536]⟩ (shapeCast ⟨3, ![1024, 3, 512]⟩ (extractStridedSlice ⟨4, ![1024, 3, 1, 512]⟩ ![0, 0, g.val, 0]
          (shapeCast ⟨4, ![1024, 3, 3, 512]⟩ (wqkv m c) a1) a2) a3) a4 : FVec Ideal ⟨2, ![1024, 1536]⟩ .f32) = nn x (cols g (wqkv m c)) :=
      fun g x wf a1 a2 a3 a4 => (hostNN (φ₁ := .f32) (φ₂ := .f32) wf x _).trans (congrArg (nn x) (host_cols g (wqkv m c) a1 a2 a3 a4))
    -- a group's gradient: the host lays the three cotangents side by side
    have hg : ∀ (x : Arr 2048 1024) (d : Arr3) wf a1 a2 a3, transpose ⟨2, ![1024, 1536]⟩ [1, 0] (Host.dotGeneral (F := Ideal) (dimsTN wf) none
        (shapeCast ⟨2, ![2048, 1536]⟩ (transpose ⟨3, ![2048, 3, 512]⟩ [1, 0, 2] d a1) a2 : FVec Ideal ⟨2, ![2048, 1536]⟩ .f32)
        (x : FVec Ideal ⟨2, ![2048, 1024]⟩ .f32)) a3 = tn x (side d) :=
      fun x d wf a1 a2 a3 => (congrArg (fun z => transpose _ _ z _) ((hostTN (φ₁ := .f32) (φ₂ := .f32) wf _ x).trans
        (congrArg (fun z => tn z x) (host_side d a1 a2)))).trans (transpose_tn x (side d) _)
    refine ⟨h0.trans ?_, h1.trans ?_, h2.trans ?_, h3.trans ?_, h4.trans ?_, h5.trans ?_, h6.trans ?_, h7.trans ?_, h8.trans ?_, h9⟩
    · rw [e0, e3]
      exact hq 0 (hn0 m c) _ _ _ _ _
    · rw [e1, e3]
      exact hq 1 (hn1 m c) _ _ _ _ _
    · rw [e2, e3]
      exact hq 2 (hn2 m c) _ _ _ _ _
    · rw [e0, e4]
      exact hg (hn0 m c) (d0 m c) _ _ _ _
    · rw [e1, e5]
      exact hg (hn1 m c) (d1 m c) _ _ _ _
    · rw [e2, e6]
      exact hg (hn2 m c) (d2 m c) _ _ _ _
    · rw [e7, e8, e9]
      funext y
      exact congrArg (Val.h m c y + ·) (congrFun (hostNN (φ₁ := .f32) (φ₂ := .f32) _ (o m c) (wo m c)) y)
    · rw [e8, e10]
      exact (hostNT (φ₁ := .f32) (φ₂ := .f32) _ (shapeCast _ (dh m c) _) (wo m c)).trans (congrArg (fun x => nt x (wo m c)) (shapeCast_self (dh m c) _))
    · rw [e7, e10]
      exact (congrArg (fun x => transpose _ _ x _) ((hostTN (φ₁ := .f32) (φ₂ := .f32) _ (shapeCast _ (dh m c) _) (o m c)).trans
        (congrArg (fun x => tn x (o m c)) (shapeCast_self (dh m c) _)))).trans (transpose_tn (o m c) (dh m c) _)

/-- The reference leaves its arguments unchanged. -/
theorem frame_reference : quiescent_AttentionRefIdeal (hAttentionRefIdeal := Cert.AttentionRefIdeal.Gen.facts) := fun m g _ =>
  (θ_run _ _ _).mono (fun r h => ⟨fun c => (h c).2.2.2.2.2.2.2.2.2, sem_eq_zero_of_no_sems (by decide) r.2⟩) (Cert.AttentionRefIdeal.Value.run (F := Ideal) m g)

end Cert.AttentionIdeal.Val

end
-- ==== Proof.QkvDx0Val.lean ====
/-
  The gradient `d wᵀ` of the attention's first product for the first group of heads, accumulated over q, k and v: what the
  kernel's array holds when it returns, and that it is the reference's.
-/
module

public import proofs.«01_k».proof.Proof.Heads
public import proofs.«01_k».proof.Proof.Gen.QkvDx0Ideal.Value
public import proofs.«01_k».proof.Proof.Gen.QkvDx0RefIdeal.Run
public import proofs.«01_k».proof.Defs
public import Idealize.ShloMosaic.Lib.Quiescent
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.QkvDx0Ideal.Val

open Cert.QkvDx0Ideal Cert.QkvDx0Ideal.Gen Mat

variable (m : (ℓ : Loc nD τ sig) → Buf (Elt Ideal) ℓ) (ρ : Dev nD → PrngReg) (c : Dev nD)

/-- The cotangents of q, k and v, and the weight. -/
def d : Arr3 := m ((c : Thread nD τ).loc main_arg0)
def w : Arr 1024 4608 := m ((c : Thread nD τ).loc main_arg1)

/-- A part's product, stored or added. -/
theorem pay1 (x : (⟨3, ![1, 1024, 512]⟩ : Shape).Idx → EReal) (w : Arr 1024 512) : k0_pay1 (F := Ideal) x w = nt (flat x) w :=
  (matmulNT (φ₁ := .bf16) (φ₂ := .bf16) _ (shapeCast S1024x512 x shapeCasts_S1x1024x512_S1024x512) w).trans (congrArg (nt · w) (shapeCast_flat x _))
theorem pay2 (x : (⟨3, ![1, 1024, 512]⟩ : Shape).Idx → EReal) (w : Arr 1024 512) : k0_pay2 (F := Ideal) x w = nt (flat x) w :=
  (shapeCast_self _ _).trans (pay1 x w)
theorem pay3 (x : (⟨3, ![1, 1024, 512]⟩ : Shape).Idx → EReal) (w : Arr 1024 512) (acc : Arr 1024 1024) (y) :
    k0_pay3 (F := Ideal) x w acc y = acc y + nt (flat x) w y := by
  unfold k0_pay3
  exact (congrFun (shapeCast_self _ _) y).trans (congrArg (acc y + ·) (congrFun (pay1 x w) y))

/-- The point before. -/
abbrev prev (t : Fin cfg0.N) : Fin cfg0.N := ⟨t.val - 1, Nat.lt_of_le_of_lt (Nat.sub_le _ _) t.isLt⟩

/-- The product of a point's two blocks. -/
abbrev prod (t : Fin cfg0.N) : Arr 1024 1024 := nt (M := 1024) (K := 512) (N := 1024) (flat (iblk m c 0 t)) (iblk m c 1 t)

/-- What the third part's point writes: the three parts' products. -/
theorem out_at (t : Fin cfg0.N) (ht : t.val % 3 = 2) (y : S1024x1024.Idx) :
    (outsAt0 m c t.val t.isLt).1 y = prod m c (prev (prev t)) y + prod m c (prev t) y + prod m c t y := by
  rw [outsAt0_C m c t (by omega) (by omega) ht]
  frame_out
  refine (pay3 _ _ _ y).trans (congrArg (· + _) ?_)
  rw [outsAt0_B m c (prev t) (by show ¬(t.val - 1) % 3 = 0; omega) (by show 1 ≤ (t.val - 1) % 3; omega) (by show ¬(t.val - 1) % 3 = 2; omega)]
  frame_out
  refine (congrFun (Memref.IsWhole.read_unread _ _) y).trans ((pay3 _ _ _ y).trans (congrArg (· + _) ?_))
  rw [outsAt0_A m c (prev (prev t)) (by show (t.val - 1 - 1) % 3 = 0; omega) (by show ¬1 ≤ (t.val - 1 - 1) % 3; omega)
    (by show ¬(t.val - 1 - 1) % 3 = 2; omega)]
  frame_out
  exact (congrFun (Memref.IsWhole.read_unread _ _) y).trans (congrFun (pay2 _ _) y)

theorem thirds : 1536 = 3 * 512 := rfl

/-- The part a point works on. -/
theorem rows (t t' : Fin cfg0.N) (s : Fin 3) (y : S1024x1024.Idx) (k : Fin 512) (e : win0_0.index t' = ![s.val, win0_2.index t 0, 0]) :
    flat (iblk m c 0 t') (ix2 (y 0) k) = side (d m c) (ix2 ((win0_2.blk t).view.emb y 0) (part thirds s k)) := by
  refine side_at (d m c) (j := s.val) (q := k.val) k.isLt rfl ?_ ?_ ?_ <;> blk_simp [e] <;> rfl
theorem columns (t t' : Fin cfg0.N) (s : Fin 3) (y : S1024x1024.Idx) (k : Fin 512) (e : win0_1.index t' = ![win0_2.index t 1, 3 * s.val + 0]) :
    iblk m c 1 t' (ix2 (y 1) k) = cols 0 (w m c) (ix2 ((win0_2.blk t).view.emb y 1) (part thirds s k)) := by
  refine cols_at 0 (w m c) (j := s.val) (q := k.val) k.isLt rfl ?_ ?_ <;> blk_simp [e] <;> rfl

/-- The points of a block's three parts. -/
abbrev pt (t : Fin cfg0.N) : Fin 3 → Fin cfg0.N := ![prev (prev t), prev t, t]

theorem steps : ∀ t : Fin cfg0.N, t.val % 3 = 2 → ∀ s : Fin 3,
    win0_0.index (pt t s) = ![s.val, win0_2.index t 0, 0] ∧ win0_1.index (pt t s) = ![win0_2.index t 1, 3 * s.val + 0] :=
  (by decide +kernel : ∀ t : Fin grid0.N, _)

theorem arr : (dats m 0 c).arrAt 2 cfg0.N = nt (side (d m c)) (cols 0 (w m c)) := by
  refine Dat.arrAt_eq_of_covers (dats m 0 c) 2 _ (by decide +kernel) fun t hf y => ?_
  blk_simp
  have ht : t.val % 3 = 2 := (flush0_2 t).mp hf
  rw [after0_2]
  exact (out_at m c t ht y).trans ((Fin.sum_univ_three (fun s => prod m c (pt t s) y)).symm.trans
    ((nt_parts thirds _ _ y _ _ (fun s k => rows m c t _ s y k (steps t ht s).1) (fun s k => columns m c t _ s y k (steps t ht s).2)).trans
      (congrArg (nt (side (d m c)) (cols 0 (w m c))) (eq_ix2 _).symm)))

/-- Both runs end with `d wᵀ`. -/
theorem agree : algebraic_QkvDx0Ideal_QkvDx0RefIdeal (hQkvDx0Ideal := Cert.QkvDx0Ideal.Gen.facts) (hQkvDx0RefIdeal := Cert.QkvDx0RefIdeal.Gen.facts) := by
  intro m g m' g' _ hagree
  refine ⟨fun c => nt (side (d m c)) (cols 0 (w m c)), ?_, ?_⟩
  · refine (θ_run _ _ _).mono (fun r h c => ?_) (Cert.QkvDx0Ideal.Value.run_blocks (F := Ideal) m g)
    exact ⟨(h c).1.trans (arr m c), (h c).2⟩
  · refine (θ_run _ _ _).mono (fun r h c => ?_) (Cert.QkvDx0RefIdeal.Value.run (F := Ideal) m' g')
    obtain ⟨e0, e1⟩ := hagree c
    obtain ⟨h0, h1⟩ := h c
    refine ⟨h0.trans ?_, h1⟩
    rw [e0, e1]
    exact (hostNT (φ₁ := .f32) (φ₂ := .f32) _ _ _).trans (congrArg₂ nt (host_side (d m c) _ _) (host_cols 0 (w m c) _ _ _ _))

/-- The reference leaves its arguments unchanged. -/
theorem frame_reference : quiescent_QkvDx0RefIdeal (hQkvDx0RefIdeal := Cert.QkvDx0RefIdeal.Gen.facts) := fun m g _ =>
  (θ_run _ _ _).mono (fun r h => ⟨fun c => (h c).2, sem_eq_zero_of_no_sems (by decide) r.2⟩) (Cert.QkvDx0RefIdeal.Value.run (F := Ideal) m g)

end Cert.QkvDx0Ideal.Val

end
-- ==== Proof.QkvDx1Val.lean ====
/-
  The gradient `d wᵀ` of the attention's first product for the second group of heads, accumulated over q, k and v: what the
  kernel's array holds when it returns, and that it is the reference's.
-/
module

public import proofs.«01_k».proof.Proof.Heads
public import proofs.«01_k».proof.Proof.Gen.QkvDx1Ideal.Value
public import proofs.«01_k».proof.Proof.Gen.QkvDx1RefIdeal.Run
public import proofs.«01_k».proof.Defs
public import Idealize.ShloMosaic.Lib.Quiescent
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.QkvDx1Ideal.Val

open Cert.QkvDx1Ideal Cert.QkvDx1Ideal.Gen Mat

variable (m : (ℓ : Loc nD τ sig) → Buf (Elt Ideal) ℓ) (ρ : Dev nD → PrngReg) (c : Dev nD)

/-- The cotangents of q, k and v, and the weight. -/
def d : Arr3 := m ((c : Thread nD τ).loc main_arg0)
def w : Arr 1024 4608 := m ((c : Thread nD τ).loc main_arg1)

/-- A part's product, stored or added. -/
theorem pay1 (x : (⟨3, ![1, 1024, 512]⟩ : Shape).Idx → EReal) (w : Arr 1024 512) : k0_pay1 (F := Ideal) x w = nt (flat x) w :=
  (matmulNT (φ₁ := .bf16) (φ₂ := .bf16) _ (shapeCast S1024x512 x shapeCasts_S1x1024x512_S1024x512) w).trans (congrArg (nt · w) (shapeCast_flat x _))
theorem pay2 (x : (⟨3, ![1, 1024, 512]⟩ : Shape).Idx → EReal) (w : Arr 1024 512) : k0_pay2 (F := Ideal) x w = nt (flat x) w :=
  (shapeCast_self _ _).trans (pay1 x w)
theorem pay3 (x : (⟨3, ![1, 1024, 512]⟩ : Shape).Idx → EReal) (w : Arr 1024 512) (acc : Arr 1024 1024) (y) :
    k0_pay3 (F := Ideal) x w acc y = acc y + nt (flat x) w y := by
  unfold k0_pay3
  exact (congrFun (shapeCast_self _ _) y).trans (congrArg (acc y + ·) (congrFun (pay1 x w) y))

/-- The point before. -/
abbrev prev (t : Fin cfg0.N) : Fin cfg0.N := ⟨t.val - 1, Nat.lt_of_le_of_lt (Nat.sub_le _ _) t.isLt⟩

/-- The product of a point's two blocks. -/
abbrev prod (t : Fin cfg0.N) : Arr 1024 1024 := nt (M := 1024) (K := 512) (N := 1024) (flat (iblk m c 0 t)) (iblk m c 1 t)

/-- What the third part's point writes: the three parts' products. -/
theorem out_at (t : Fin cfg0.N) (ht : t.val % 3 = 2) (y : S1024x1024.Idx) :
    (outsAt0 m c t.val t.isLt).1 y = prod m c (prev (prev t)) y + prod m c (prev t) y + prod m c t y := by
  rw [outsAt0_C m c t (by omega) (by omega) ht]
  frame_out
  refine (pay3 _ _ _ y).trans (congrArg (· + _) ?_)
  rw [outsAt0_B m c (prev t) (by show ¬(t.val - 1) % 3 = 0; omega) (by show 1 ≤ (t.val - 1) % 3; omega) (by show ¬(t.val - 1) % 3 = 2; omega)]
  frame_out
  refine (congrFun (Memref.IsWhole.read_unread _ _) y).trans ((pay3 _ _ _ y).trans (congrArg (· + _) ?_))
  rw [outsAt0_A m c (prev (prev t)) (by show (t.val - 1 - 1) % 3 = 0; omega) (by show ¬1 ≤ (t.val - 1 - 1) % 3; omega)
    (by show ¬(t.val - 1 - 1) % 3 = 2; omega)]
  frame_out
  exact (congrFun (Memref.IsWhole.read_unread _ _) y).trans (congrFun (pay2 _ _) y)

theorem thirds : 1536 = 3 * 512 := rfl

/-- The part a point works on. -/
theorem rows (t t' : Fin cfg0.N) (s : Fin 3) (y : S1024x1024.Idx) (k : Fin 512) (e : win0_0.index t' = ![s.val, win0_2.index t 0, 0]) :
    flat (iblk m c 0 t') (ix2 (y 0) k) = side (d m c) (ix2 ((win0_2.blk t).view.emb y 0) (part thirds s k)) := by
  refine side_at (d m c) (j := s.val) (q := k.val) k.isLt rfl ?_ ?_ ?_ <;> blk_simp [e] <;> rfl
theorem columns (t t' : Fin cfg0.N) (s : Fin 3) (y : S1024x1024.Idx) (k : Fin 512) (e : win0_1.index t' = ![win0_2.index t 1, 3 * s.val + 1]) :
    iblk m c 1 t' (ix2 (y 1) k) = cols 1 (w m c) (ix2 ((win0_2.blk t).view.emb y 1) (part thirds s k)) := by
  refine cols_at 1 (w m c) (j := s.val) (q := k.val) k.isLt rfl ?_ ?_ <;> blk_simp [e] <;> rfl

/-- The points of a block's three parts. -/
abbrev pt (t : Fin cfg0.N) : Fin 3 → Fin cfg0.N := ![prev (prev t), prev t, t]

theorem steps : ∀ t : Fin cfg0.N, t.val % 3 = 2 → ∀ s : Fin 3,
    win0_0.index (pt t s) = ![s.val, win0_2.index t 0, 0] ∧ win0_1.index (pt t s) = ![win0_2.index t 1, 3 * s.val + 1] :=
  (by decide +kernel : ∀ t : Fin grid0.N, _)

theorem arr : (dats m 0 c).arrAt 2 cfg0.N = nt (side (d m c)) (cols 1 (w m c)) := by
  refine Dat.arrAt_eq_of_covers (dats m 0 c) 2 _ (by decide +kernel) fun t hf y => ?_
  blk_simp
  have ht : t.val % 3 = 2 := (flush0_2 t).mp hf
  rw [after0_2]
  exact (out_at m c t ht y).trans ((Fin.sum_univ_three (fun s => prod m c (pt t s) y)).symm.trans
    ((nt_parts thirds _ _ y _ _ (fun s k => rows m c t _ s y k (steps t ht s).1) (fun s k => columns m c t _ s y k (steps t ht s).2)).trans
      (congrArg (nt (side (d m c)) (cols 1 (w m c))) (eq_ix2 _).symm)))

/-- Both runs end with `d wᵀ`. -/
theorem agree : algebraic_QkvDx1Ideal_QkvDx1RefIdeal (hQkvDx1Ideal := Cert.QkvDx1Ideal.Gen.facts) (hQkvDx1RefIdeal := Cert.QkvDx1RefIdeal.Gen.facts) := by
  intro m g m' g' _ hagree
  refine ⟨fun c => nt (side (d m c)) (cols 1 (w m c)), ?_, ?_⟩
  · refine (θ_run _ _ _).mono (fun r h c => ?_) (Cert.QkvDx1Ideal.Value.run_blocks (F := Ideal) m g)
    exact ⟨(h c).1.trans (arr m c), (h c).2⟩
  · refine (θ_run _ _ _).mono (fun r h c => ?_) (Cert.QkvDx1RefIdeal.Value.run (F := Ideal) m' g')
    obtain ⟨e0, e1⟩ := hagree c
    obtain ⟨h0, h1⟩ := h c
    refine ⟨h0.trans ?_, h1⟩
    rw [e0, e1]
    exact (hostNT (φ₁ := .f32) (φ₂ := .f32) _ _ _).trans (congrArg₂ nt (host_side (d m c) _ _) (host_cols 1 (w m c) _ _ _ _))

/-- The reference leaves its arguments unchanged. -/
theorem frame_reference : quiescent_QkvDx1RefIdeal (hQkvDx1RefIdeal := Cert.QkvDx1RefIdeal.Gen.facts) := fun m g _ =>
  (θ_run _ _ _).mono (fun r h => ⟨fun c => (h c).2, sem_eq_zero_of_no_sems (by decide) r.2⟩) (Cert.QkvDx1RefIdeal.Value.run (F := Ideal) m g)

end Cert.QkvDx1Ideal.Val

end
-- ==== Proof.QkvDx2Val.lean ====
/-
  The gradient `d wᵀ` of the attention's first product for the third group of heads, accumulated over q, k and v: what the
  kernel's array holds when it returns, and that it is the reference's.
-/
module

public import proofs.«01_k».proof.Proof.Heads
public import proofs.«01_k».proof.Proof.Gen.QkvDx2Ideal.Value
public import proofs.«01_k».proof.Proof.Gen.QkvDx2RefIdeal.Run
public import proofs.«01_k».proof.Defs
public import Idealize.ShloMosaic.Lib.Quiescent
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.QkvDx2Ideal.Val

open Cert.QkvDx2Ideal Cert.QkvDx2Ideal.Gen Mat

variable (m : (ℓ : Loc nD τ sig) → Buf (Elt Ideal) ℓ) (ρ : Dev nD → PrngReg) (c : Dev nD)

/-- The cotangents of q, k and v, and the weight. -/
def d : Arr3 := m ((c : Thread nD τ).loc main_arg0)
def w : Arr 1024 4608 := m ((c : Thread nD τ).loc main_arg1)

/-- A part's product, stored or added. -/
theorem pay1 (x : (⟨3, ![1, 1024, 512]⟩ : Shape).Idx → EReal) (w : Arr 1024 512) : k0_pay1 (F := Ideal) x w = nt (flat x) w :=
  (matmulNT (φ₁ := .bf16) (φ₂ := .bf16) _ (shapeCast S1024x512 x shapeCasts_S1x1024x512_S1024x512) w).trans (congrArg (nt · w) (shapeCast_flat x _))
theorem pay2 (x : (⟨3, ![1, 1024, 512]⟩ : Shape).Idx → EReal) (w : Arr 1024 512) : k0_pay2 (F := Ideal) x w = nt (flat x) w :=
  (shapeCast_self _ _).trans (pay1 x w)
theorem pay3 (x : (⟨3, ![1, 1024, 512]⟩ : Shape).Idx → EReal) (w : Arr 1024 512) (acc : Arr 1024 1024) (y) :
    k0_pay3 (F := Ideal) x w acc y = acc y + nt (flat x) w y := by
  unfold k0_pay3
  exact (congrFun (shapeCast_self _ _) y).trans (congrArg (acc y + ·) (congrFun (pay1 x w) y))

/-- The point before. -/
abbrev prev (t : Fin cfg0.N) : Fin cfg0.N := ⟨t.val - 1, Nat.lt_of_le_of_lt (Nat.sub_le _ _) t.isLt⟩

/-- The product of a point's two blocks. -/
abbrev prod (t : Fin cfg0.N) : Arr 1024 1024 := nt (M := 1024) (K := 512) (N := 1024) (flat (iblk m c 0 t)) (iblk m c 1 t)

/-- What the third part's point writes: the three parts' products. -/
theorem out_at (t : Fin cfg0.N) (ht : t.val % 3 = 2) (y : S1024x1024.Idx) :
    (outsAt0 m c t.val t.isLt).1 y = prod m c (prev (prev t)) y + prod m c (prev t) y + prod m c t y := by
  rw [outsAt0_C m c t (by omega) (by omega) ht]
  frame_out
  refine (pay3 _ _ _ y).trans (congrArg (· + _) ?_)
  rw [outsAt0_B m c (prev t) (by show ¬(t.val - 1) % 3 = 0; omega) (by show 1 ≤ (t.val - 1) % 3; omega) (by show ¬(t.val - 1) % 3 = 2; omega)]
  frame_out
  refine (congrFun (Memref.IsWhole.read_unread _ _) y).trans ((pay3 _ _ _ y).trans (congrArg (· + _) ?_))
  rw [outsAt0_A m c (prev (prev t)) (by show (t.val - 1 - 1) % 3 = 0; omega) (by show ¬1 ≤ (t.val - 1 - 1) % 3; omega)
    (by show ¬(t.val - 1 - 1) % 3 = 2; omega)]
  frame_out
  exact (congrFun (Memref.IsWhole.read_unread _ _) y).trans (congrFun (pay2 _ _) y)

theorem thirds : 1536 = 3 * 512 := rfl

/-- The part a point works on. -/
theorem rows (t t' : Fin cfg0.N) (s : Fin 3) (y : S1024x1024.Idx) (k : Fin 512) (e : win0_0.index t' = ![s.val, win0_2.index t 0, 0]) :
    flat (iblk m c 0 t') (ix2 (y 0) k) = side (d m c) (ix2 ((win0_2.blk t).view.emb y 0) (part thirds s k)) := by
  refine side_at (d m c) (j := s.val) (q := k.val) k.isLt rfl ?_ ?_ ?_ <;> blk_simp [e] <;> rfl
theorem columns (t t' : Fin cfg0.N) (s : Fin 3) (y : S1024x1024.Idx) (k : Fin 512) (e : win0_1.index t' = ![win0_2.index t 1, 3 * s.val + 2]) :
    iblk m c 1 t' (ix2 (y 1) k) = cols 2 (w m c) (ix2 ((win0_2.blk t).view.emb y 1) (part thirds s k)) := by
  refine cols_at 2 (w m c) (j := s.val) (q := k.val) k.isLt rfl ?_ ?_ <;> blk_simp [e] <;> rfl

/-- The points of a block's three parts. -/
abbrev pt (t : Fin cfg0.N) : Fin 3 → Fin cfg0.N := ![prev (prev t), prev t, t]

theorem steps : ∀ t : Fin cfg0.N, t.val % 3 = 2 → ∀ s : Fin 3,
    win0_0.index (pt t s) = ![s.val, win0_2.index t 0, 0] ∧ win0_1.index (pt t s) = ![win0_2.index t 1, 3 * s.val + 2] :=
  (by decide +kernel : ∀ t : Fin grid0.N, _)

theorem arr : (dats m 0 c).arrAt 2 cfg0.N = nt (side (d m c)) (cols 2 (w m c)) := by
  refine Dat.arrAt_eq_of_covers (dats m 0 c) 2 _ (by decide +kernel) fun t hf y => ?_
  blk_simp
  have ht : t.val % 3 = 2 := (flush0_2 t).mp hf
  rw [after0_2]
  exact (out_at m c t ht y).trans ((Fin.sum_univ_three (fun s => prod m c (pt t s) y)).symm.trans
    ((nt_parts thirds _ _ y _ _ (fun s k => rows m c t _ s y k (steps t ht s).1) (fun s k => columns m c t _ s y k (steps t ht s).2)).trans
      (congrArg (nt (side (d m c)) (cols 2 (w m c))) (eq_ix2 _).symm)))

/-- Both runs end with `d wᵀ`. -/
theorem agree : algebraic_QkvDx2Ideal_QkvDx2RefIdeal (hQkvDx2Ideal := Cert.QkvDx2Ideal.Gen.facts) (hQkvDx2RefIdeal := Cert.QkvDx2RefIdeal.Gen.facts) := by
  intro m g m' g' _ hagree
  refine ⟨fun c => nt (side (d m c)) (cols 2 (w m c)), ?_, ?_⟩
  · refine (θ_run _ _ _).mono (fun r h c => ?_) (Cert.QkvDx2Ideal.Value.run_blocks (F := Ideal) m g)
    exact ⟨(h c).1.trans (arr m c), (h c).2⟩
  · refine (θ_run _ _ _).mono (fun r h c => ?_) (Cert.QkvDx2RefIdeal.Value.run (F := Ideal) m' g')
    obtain ⟨e0, e1⟩ := hagree c
    obtain ⟨h0, h1⟩ := h c
    refine ⟨h0.trans ?_, h1⟩
    rw [e0, e1]
    exact (hostNT (φ₁ := .f32) (φ₂ := .f32) _ _ _).trans (congrArg₂ nt (host_side (d m c) _ _) (host_cols 2 (w m c) _ _ _ _))

/-- The reference leaves its arguments unchanged. -/
theorem frame_reference : quiescent_QkvDx2RefIdeal (hQkvDx2RefIdeal := Cert.QkvDx2RefIdeal.Gen.facts) := fun m g _ =>
  (θ_run _ _ _).mono (fun r h => ⟨fun c => (h c).2, sem_eq_zero_of_no_sems (by decide) r.2⟩) (Cert.QkvDx2RefIdeal.Value.run (F := Ideal) m g)

end Cert.QkvDx2Ideal.Val

end
-- ==== Proof.Norm.lean ====
/-
  The root-mean-square norm and its gradient, row by row, over the extended reals: in `x`, from a row, the gain and the row's
  cotangent, and one row's share of the gradient in the gain.
-/
module

public import proofs.«01_k».proof.Proof.Products

@[expose] public section

noncomputable section

open Idealize.ShloMosaic Idealize.ShloMosaic.ValueIdx

namespace Norm

open Mat

/-- A row of 1024 values. -/
abbrev Row : Type := Fin 1024 → EReal

/-- A row of an array. -/
abbrev row {M : ℕ} (a : Arr M 1024) (i : Fin M) : Row := fun k => a (ix2 i k)

/-- The row's length and the constant under the root, as their words. -/
abbrev len : EReal := Ideal.ofBits .f32 0x44800000#32
abbrev eps : EReal := Ideal.ofBits .f32 0x358637BD#32
/-- The power of the root. -/
abbrev half : EReal := Ideal.ofBits .f32 0xBF000000#32

/-- The mean square with the constant added. -/
def ms (x : Row) : EReal := Ideal.div (∑ k, x k * x k) len + eps

/-- The norm of a row. -/
def fwd (x g : Row) (j : Fin 1024) : EReal := x j * Ideal.rsqrt (ms x) * g j

/-- The derivative through the mean: what multiplies `x` once for each factor of the square. -/
def corr (x g dy : Row) : EReal :=
  ∑ _ : Fin 1, Ideal.div ((∑ k, x k * (dy k * g k)) * (half * Ideal.div (Ideal.rsqrt (ms x)) (ms x))) len

/-- The gradient in `x`. -/
def dx (x g dy : Row) (j : Fin 1024) : EReal :=
  dy j * g j * Ideal.rsqrt (ms x) + x j * corr x g dy + corr x g dy * x j

/-- A row's share of the gradient in the gain. -/
def dg (x dy : Row) (j : Fin 1024) : EReal := x j * Ideal.rsqrt (ms x) * dy j

/-- The norm of every row. -/
def normed (x : Arr 2048 1024) (g : Arr 1 1024) : Arr 2048 1024 := fun y => fwd (row x (y 0)) (row g 0) (y 1)

/-- The residual's cotangent with the gradient in `x` added, and the gradient in the gain. -/
def dh (x : Arr 2048 1024) (g : Arr 1 1024) (dy dres : Arr 2048 1024) : Arr 2048 1024 :=
  fun y => dres y + dx (row x (y 0)) (row g 0) (row dy (y 0)) (y 1)
def dgain (x dy : Arr 2048 1024) : Arr 1 1024 := fun y => ∑ i, dg (row x i) (row dy i) (y 1)

end Norm

end
-- ==== Proof.NormBwdVal.lean ====
/-
  The gradient of the root-mean-square norm beside a residual: what the kernel's arrays hold when it returns, and that
  they are the reference's.
-/
module

public import proofs.«01_k».proof.Proof.Norm
public import proofs.«01_k».proof.Proof.Gen.NormBwdIdeal.Value
public import proofs.«01_k».proof.Proof.Gen.NormBwdRefIdeal.Run
public import proofs.«01_k».proof.Defs
public import Idealize.ShloMosaic.Lib.Quiescent
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.NormBwdIdeal.Val

open Cert.NormBwdIdeal Cert.NormBwdIdeal.Gen Mat Norm

variable (m : (ℓ : Loc nD τ sig) → Buf (Elt Ideal) ℓ) (ρ : Dev nD → PrngReg) (c : Dev nD)

/-- The norm's input, its gain, its result's cotangent and the residual's. -/
def x : Arr 2048 1024 := m ((c : Thread nD τ).loc main_arg0)
def g : Arr 1 1024 := m ((c : Thread nD τ).loc main_arg1)
def dy : Arr 2048 1024 := m ((c : Thread nD τ).loc main_arg2)
def dres : Arr 2048 1024 := m ((c : Thread nD τ).loc main_arg3)

/-- What a block stores and adds. -/
theorem pay6 (dy x : Arr 512 1024) (g : Arr 1 1024) (dr : Arr 512 1024) (y) :
    k0_pay6 (F := Ideal) dy x g dr y = dr y + dx (row x (y 0)) (row g 0) (row dy (y 0)) (y 1) := by
  obtain ⟨i, j, rfl⟩ : ∃ i j, y = ValueIdx.ix2 i j := ⟨_, _, ValueIdx.eq_ix2 y⟩
  pointwise [k0_pay6, k0_pay4, k0_pay3]
  rfl
theorem pay5 (dy x : Arr 512 1024) (y) : k0_pay5 (F := Ideal) dy x y = ∑ i, dg (row x i) (row dy i) (y 1) := by
  pointwise [k0_pay5, k0_pay4, k0_pay3]
  rfl
theorem pay2 (a b : Arr 1 1024) (y) : k0_pay2 (F := Ideal) a b y = b y + a y := by
  unfold k0_pay2
  exact congrArg (· + a y) (congrFun (shapeCast_self b _) y)

/-- The input blocks of a point. -/
abbrev xb (t : Fin cfg0.N) : Arr 512 1024 := iblk m c 0 t
abbrev gb (t : Fin cfg0.N) : Arr 1 1024 := iblk m c 1 t
abbrev dyb (t : Fin cfg0.N) : Arr 512 1024 := iblk m c 2 t
abbrev drb (t : Fin cfg0.N) : Arr 512 1024 := iblk m c 3 t

theorem fst_at (t : Fin cfg0.N) (y : S512x1024.Idx) :
    (outsAt0 m c t.val t.isLt).1 y = drb m c t y + dx (row (xb m c t) (y 0)) (row (gb m c t) 0) (row (dyb m c t) (y 0)) (y 1) := by
  by_cases h : t.val % 4 = 0
  · rw [outsAt0_A m c t h]
    frame_out
    exact pay6 _ _ _ _ y
  · rw [outsAt0_B m c t h]
    frame_out
    exact pay6 _ _ _ _ y

/-- A point's share of the gradient in the gain. -/
abbrev share (t : Fin cfg0.N) (y : S1x1024.Idx) : EReal := ∑ i, dg (row (xb m c t) i) (row (dyb m c t) i) (y 1)

theorem pay1 (y) : k0_pay1 (F := Ideal) y = 0 := by
  pointwise [k0_pay1]
theorem snd_A (t : Fin cfg0.N) (h : t.val % 4 = 0) (y : S1x1024.Idx) : (outsAt0 m c t.val t.isLt).2 y = share m c t y := by
  rw [outsAt0_A m c t h]
  frame_out
  exact (pay2 _ _ y).trans ((congrArg₂ (· + ·) (pay1 y) (pay5 _ _ y)).trans (zero_add _))
theorem snd_B (t : Fin cfg0.N) (h : ¬t.val % 4 = 0) (y : S1x1024.Idx) :
    (outsAt0 m c t.val t.isLt).2 y = (outsAt0 m c (t.val - 1) (Nat.lt_of_le_of_lt (Nat.sub_le _ _) t.isLt)).2 y + share m c t y := by
  rw [outsAt0_B m c t h]
  frame_out
  exact (pay2 _ _ y).trans (congrArg (_ + ·) (pay5 _ _ y))

/-- The point before. -/
abbrev prev (t : Fin cfg0.N) : Fin cfg0.N := ⟨t.val - 1, Nat.lt_of_le_of_lt (Nat.sub_le _ _) t.isLt⟩

theorem quarters : 2048 = 4 * 512 := rfl

/-- The block a point works on, as rows of the arrays. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

theorem xb_at (t : Fin cfg0.N) (i : Fin 512) (k : Fin 1024) : xb m c t (ValueIdx.ix2 i k) = x m c (ValueIdx.ix2 (part quarters (Fin.cast rfl t) i) k) := by
  refine congrArg (x m c) (ix2_of ?_ ?_) <;> blk_simp [idx0 t] <;> rfl
theorem gb_at (t : Fin cfg0.N) (k : Fin 1024) : gb m c t (ValueIdx.ix2 0 k) = g m c (ValueIdx.ix2 0 k) := by
  refine congrArg (g m c) (ix2_of ?_ ?_) <;> blk_simp [idx1 t] <;> rfl
theorem dyb_at (t : Fin cfg0.N) (i : Fin 512) (k : Fin 1024) : dyb m c t (ValueIdx.ix2 i k) = dy m c (ValueIdx.ix2 (part quarters (Fin.cast rfl t) i) k) := by
  refine congrArg (dy m c) (ix2_of ?_ ?_) <;> blk_simp [idx2 t] <;> rfl
theorem drb_at (t : Fin cfg0.N) (i : Fin 512) (k : Fin 1024) : drb m c t (ValueIdx.ix2 i k) = dres m c (ValueIdx.ix2 (part quarters (Fin.cast rfl t) i) k) := by
  refine congrArg (dres m c) (ix2_of ?_ ?_) <;> blk_simp [idx3 t] <;> rfl

/-- The rows of a point's blocks are rows of the arrays. -/
theorem row_x (t : Fin cfg0.N) (i : Fin 512) : row (xb m c t) i = row (x m c) (part quarters (Fin.cast rfl t) i) := funext fun k => xb_at m c t i k
theorem row_g (t : Fin cfg0.N) : row (gb m c t) 0 = row (g m c) 0 := funext fun k => gb_at m c t k
theorem row_dy (t : Fin cfg0.N) (i : Fin 512) : row (dyb m c t) i = row (dy m c) (part quarters (Fin.cast rfl t) i) := funext fun k => dyb_at m c t i k

theorem share_at (t : Fin cfg0.N) (y : S1x1024.Idx) :
    share m c t y = ∑ i : Fin 512, dg (row (x m c) (part quarters (Fin.cast rfl t) i)) (row (dy m c) (part quarters (Fin.cast rfl t) i)) (y 1) :=
  Finset.sum_congr rfl fun i _ => congrArg₂ (dg · · (y 1)) (row_x m c t i) (row_dy m c t i)

theorem fst_block (t : Fin cfg0.N) (y : S512x1024.Idx) :
    (outsAt0 m c t.val t.isLt).1 y = dh (x m c) (g m c) (dy m c) (dres m c) (ValueIdx.ix2 (part quarters (Fin.cast rfl t) (y 0)) (y 1)) := by
  obtain ⟨i, j, rfl⟩ : ∃ i j, y = ValueIdx.ix2 i j := ⟨_, _, ValueIdx.eq_ix2 y⟩
  refine (fst_at m c t _).trans ?_
  show drb m c t (ValueIdx.ix2 i j) + dx (row (xb m c t) i) (row (gb m c t) 0) (row (dyb m c t) i) j = _
  rw [row_x, row_g, row_dy, drb_at]
  rfl

theorem arr4 : (dats m 0 c).arrAt 4 cfg0.N = dh (x m c) (g m c) (dy m c) (dres m c) := by
  refine Dat.arrAt_eq_of_covers (dats m 0 c) 4 _ (by decide +kernel) fun t hf y => ?_
  have e : (win0_4.blk t).view.emb y = ValueIdx.ix2 (part quarters (Fin.cast rfl t) (y 0)) (y 1) := by
    refine ix2_of ?_ ?_ <;> blk_simp [idx4 t] <;> rfl
  blk_simp
  rw [after0_4, e]
  exact fst_block m c t y

/-- After the last point the second result holds the four points' shares. -/
theorem snd_at (t : Fin cfg0.N) (h : t.val % 4 = 3) (y : S1x1024.Idx) : (outsAt0 m c t.val t.isLt).2 y = dgain (x m c) (dy m c) (ValueIdx.ix2 0 (y 1)) := by
  have l : t.val < 4 := t.isLt
  rw [snd_B m c t (by omega), snd_B m c (prev t) (by show ¬(t.val - 1) % 4 = 0; omega), snd_B m c (prev (prev t)) (by show ¬(t.val - 1 - 1) % 4 = 0; omega),
    snd_A m c (prev (prev (prev t))) (by show (t.val - 1 - 1 - 1) % 4 = 0; omega)]
  obtain rfl : t = ⟨3, by decide +kernel⟩ := Fin.ext (by show t.val = 3; omega)
  rw [share_at, share_at, share_at, share_at]
  exact (Fin.sum_univ_four (fun s : Fin 4 => ∑ i : Fin 512, dg (row (x m c) (part quarters s i)) (row (dy m c) (part quarters s i)) (y 1))).symm.trans
    (Fin.sum_mul_add_fin 4 512 (fun k : Fin 2048 => dg (row (x m c) k) (row (dy m c) k) (y 1)) quarters)

theorem arr5 : (dats m 0 c).arrAt 5 cfg0.N = dgain (x m c) (dy m c) := by
  refine Dat.arrAt_eq_of_covers (dats m 0 c) 5 _ (by decide +kernel) fun t hf y => ?_
  have ht : t.val % 4 = 3 := (flush0_5 t).mp hf
  have e : (win0_5.blk t).view.emb y = ValueIdx.ix2 0 (y 1) := by
    refine ix2_of ?_ ?_ <;> blk_simp [(by decide +kernel : ∀ t : Fin grid0.N, win0_5.index t = ![0, 0]) t] <;> rfl
  blk_simp
  rw [after0_5, e]
  exact snd_at m c t ht y

/-- Both runs end with the residual's cotangent plus the gradient in `x`, and the gradient in the gain. -/
theorem agree : algebraic_NormBwdIdeal_NormBwdRefIdeal (hNormBwdIdeal := Cert.NormBwdIdeal.Gen.facts) (hNormBwdRefIdeal := Cert.NormBwdRefIdeal.Gen.facts) := by
  intro m g₀ m' g' _ hagree
  refine ⟨fun c => dh (x m c) (g m c) (dy m c) (dres m c), fun c => dgain (x m c) (dy m c), ?_, ?_⟩
  · refine (θ_run _ _ _).mono (fun r h c => ?_) (Cert.NormBwdIdeal.Value.run_blocks (F := Ideal) m g₀)
    exact ⟨(h c).1.trans (arr4 m c), (h c).2.1.trans (arr5 m c), (h c).2.2⟩
  · refine (θ_run _ _ _).mono (fun r h c => ?_) (Cert.NormBwdRefIdeal.Value.run (F := Ideal) m' g')
    obtain ⟨e0, e1, e2, e3⟩ := hagree c
    obtain ⟨h0, h1, h2⟩ := h c
    refine ⟨h0.trans ?_, h1.trans ?_, h2⟩
    · rw [e0, e1, e2, e3]
      funext y
      obtain ⟨i, j, rfl⟩ : ∃ i j, y = ValueIdx.ix2 i j := ⟨_, _, ValueIdx.eq_ix2 y⟩
      pointwise
      rfl
    · rw [e0, e2]
      funext y
      obtain ⟨i, j, rfl⟩ : ∃ i j, y = ValueIdx.ix2 i j := ⟨_, _, ValueIdx.eq_ix2 y⟩
      pointwise
      rfl

/-- The reference leaves its arguments unchanged. -/
theorem frame_reference : quiescent_NormBwdRefIdeal (hNormBwdRefIdeal := Cert.NormBwdRefIdeal.Gen.facts) := fun m g _ =>
  (θ_run _ _ _).mono (fun r h => ⟨fun c => (h c).2.2, sem_eq_zero_of_no_sems (by decide) r.2⟩) (Cert.NormBwdRefIdeal.Value.run (F := Ideal) m g)

end Cert.NormBwdIdeal.Val

end
-- ==== Proof.Gate.lean ====
/-
  The gate and its gradient, `gelu y · σ(gelu y · w + b)`, row by row, over the extended reals: the gradient in `y`, and one row's share of
  the gradients in the weight and in the bias.
-/
module

public import proofs.«01_k».proof.Proof.Products

@[expose] public section

noncomputable section

open Idealize.ShloMosaic Idealize.ShloMosaic.ValueIdx

namespace Gate

open Mat

/-- A row of 512 values. -/
abbrev Row : Type := Fin 512 → EReal

/-- A row of an array of 512 columns, and the first 512 columns of a row of 1024. -/
abbrev row {M : ℕ} (a : Arr M 512) (i : Fin M) : Row := fun k => a (ix2 i k)
abbrev left {M : ℕ} (a : Arr M 1024) (i : Fin M) : Row := fun k => a (ix2 i (k.castLE (by decide)))

/-- The gelu's constants, as their words: √(2/π), the cubic term's factor, one half and three. -/
abbrev root : EReal := Ideal.ofBits .f32 0x3F4C422A#32
abbrev cubic : EReal := Ideal.ofBits .f32 0x3D372713#32
abbrev half : EReal := Ideal.ofBits .f32 0x3F000000#32
abbrev three : EReal := Ideal.ofBits .f32 0x40400000#32

/-- The gelu's hyperbolic tangent, its factor of the input, and the gelu. -/
def th (u : EReal) : EReal := Ideal.tanh (root * (u + cubic * (u * u * u)))
def cdf (u : EReal) : EReal := half * (1 + th u)
def gelu (u : EReal) : EReal := u * cdf u

/-- What multiplies the gelu: the logistic function of a product's row. -/
def sg (y : Row) (w : Arr 512 512) (b : Row) : Row := fun j => Ideal.logistic (∑ k, gelu (y k) * w (ix2 k j) + b j)

/-- The gate. -/
def gated (y : Row) (w : Arr 512 512) (b : Row) : Row := fun j => gelu (y j) * sg y w b j
def out (y : Arr 2048 512) (w : Arr 512 512) (b : Arr 1 512) : Arr 2048 512 := fun p => gated (row y (p 0)) w (row b 0) (p 1)

/-- The gradient before the logistic function. -/
def dpre (y : Row) (w : Arr 512 512) (b d : Row) : Row := fun j => gelu (y j) * d j * (sg y w b j * (1 - sg y w b j))

/-- The gradient in the gelu, and through it in `y`. -/
def dz (y : Row) (w : Arr 512 512) (b d : Row) : Row := fun j => d j * sg y w b j + ∑ k, dpre y w b d k * w (ix2 j k)
def inner (u z : EReal) : EReal := root * (half * (u * z) * ((1 + th u) * (1 - th u)))
def dgelu (u z : EReal) : EReal := z * cdf u + inner u z + cubic * inner u z * (three * (u * u))

/-- The three gradients. -/
def dy (y : Arr 2048 512) (w : Arr 512 512) (b : Arr 1 512) (d : Arr 2048 1024) : Arr 2048 512 :=
  fun p => dgelu (y p) (dz (row y (p 0)) w (row b 0) (left d (p 0)) (p 1))
def dw (y : Arr 2048 512) (w : Arr 512 512) (b : Arr 1 512) (d : Arr 2048 1024) : Arr 512 512 :=
  fun p => ∑ i, dpre (row y i) w (row b 0) (left d i) (p 1) * gelu (y (ix2 i (p 0)))
def db (y : Arr 2048 512) (w : Arr 512 512) (b : Arr 1 512) (d : Arr 2048 1024) : Arr 1 512 :=
  fun p => ∑ i, dpre (row y i) w (row b 0) (left d i) (p 1)

end Gate

end
-- ==== Proof.GateBwdVal.lean ====
/-
  The gradient of the S5 gate: what the kernel's arrays hold when it returns, and that
  they are the reference's.
-/
module

public import proofs.«01_k».proof.Proof.Gate
public import proofs.«01_k».proof.Proof.Gen.GateBwdIdeal.Value
public import proofs.«01_k».proof.Proof.Gen.GateBwdRefIdeal.Run
public import proofs.«01_k».proof.Defs
public import Idealize.ShloMosaic.Lib.Quiescent
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.GateBwdIdeal.Val

open Cert.GateBwdIdeal Cert.GateBwdIdeal.Gen Mat Gate

variable (m : (ℓ : Loc nD τ sig) → Buf (Elt Ideal) ℓ) (ρ : Dev nD → PrngReg) (c : Dev nD)

/-- The gate's input, its weight and bias, and the cotangent. -/
def y : Arr 2048 512 := m ((c : Thread nD τ).loc main_arg0)
def w : Arr 512 512 := m ((c : Thread nD τ).loc main_arg1)
def b : Arr 1 512 := m ((c : Thread nD τ).loc main_arg2)
def d : Arr 2048 1024 := m ((c : Thread nD τ).loc main_arg3)

/-- A block's gelu, logistic function and gradient before it. -/
theorem pay7 (y : Arr 512 512) (p) : k0_pay7 (F := Ideal) y p = th (y p) := by
  pointwise [k0_pay7]
  rw [mul_comm (y p) (y p * y p)]
  rfl
theorem pay10 (y : Arr 512 512) (p) : k0_pay10 (F := Ideal) y p = gelu (y p) := by
  pointwise [k0_pay10, k0_pay9]
  rw [pay7]
  rfl
theorem pay13 (y w : Arr 512 512) (b : Arr 1 512) (p) : k0_pay13 (F := Ideal) y w b p = sg (row y (p 0)) w (row b 0) (p 1) := by
  obtain ⟨i, j, rfl⟩ : ∃ i j, p = ValueIdx.ix2 i j := ⟨_, _, ValueIdx.eq_ix2 p⟩
  pointwise [k0_pay13, k0_pay12, k0_pay11]
  simp only [pay10]
  rfl
theorem pay15 (y w : Arr 512 512) (b : Arr 1 512) (d : Arr 512 512) (p) :
    k0_pay15 (F := Ideal) y w b d p = dpre (row y (p 0)) w (row b 0) (row d (p 0)) (p 1) := by
  obtain ⟨i, j, rfl⟩ : ∃ i j, p = ValueIdx.ix2 i j := ⟨_, _, ValueIdx.eq_ix2 p⟩
  pointwise [k0_pay15]
  rw [pay10, pay13]
  rfl
theorem pay1 (y w : Arr 512 512) (b : Arr 1 512) (d : Arr 512 512) (p) :
    k0_pay1 (F := Ideal) y (k0_pay6 y) (k0_pay8 y) (k0_pay9 y) (k0_pay12 w) (k0_pay14 y w b d) (k0_pay15 y w b d) p =
      dgelu (y p) (dz (row y (p 0)) w (row b 0) (row d (p 0)) (p 1)) := by
  obtain ⟨i, j, rfl⟩ : ∃ i j, p = ValueIdx.ix2 i j := ⟨_, _, ValueIdx.eq_ix2 p⟩
  pointwise [k0_pay1, k0_pay6, k0_pay8, k0_pay9, k0_pay12, k0_pay14]
  simp only [pay7, pay13, pay15]
  rfl
theorem pay4 (y w : Arr 512 512) (b : Arr 1 512) (d a : Arr 512 512) (p) :
    k0_pay4 (F := Ideal) (k0_pay11 y) (k0_pay15 y w b d) (constant S512x512 .f32 0x00000000#32) a p =
      a p + ∑ i, dpre (row y i) w (row b 0) (row d i) (p 1) * gelu (y (ValueIdx.ix2 i (p 0))) := by
  obtain ⟨i, j, rfl⟩ : ∃ i j, p = ValueIdx.ix2 i j := ⟨_, _, ValueIdx.eq_ix2 p⟩
  pointwise [k0_pay4, k0_pay11]
  simp only [pay10, pay15]
  rfl
theorem pay16 (y w : Arr 512 512) (b : Arr 1 512) (d : Arr 512 512) (a : Arr 1 512) (p) :
    k0_pay5 (F := Ideal) (k0_pay16 y w b d) a p = a p + ∑ i, dpre (row y i) w (row b 0) (row d i) (p 1) := by
  obtain ⟨i, j, rfl⟩ : ∃ i j, p = ValueIdx.ix2 i j := ⟨_, _, ValueIdx.eq_ix2 p⟩
  pointwise [k0_pay5, k0_pay16]
  simp only [pay15]
  rfl
theorem pay2 (p) : k0_pay2 (F := Ideal) p = 0 := by
  pointwise [k0_pay2]
theorem pay3 (p) : k0_pay3 (F := Ideal) p = 0 := by
  pointwise [k0_pay3]

/-- The input blocks of a point. -/
abbrev yb (t : Fin cfg0.N) : Arr 512 512 := iblk m c 0 t
abbrev wb (t : Fin cfg0.N) : Arr 512 512 := iblk m c 1 t
abbrev bb (t : Fin cfg0.N) : Arr 1 512 := iblk m c 2 t
abbrev cb (t : Fin cfg0.N) : Arr 512 512 := iblk m c 3 t

theorem fst_at (t : Fin cfg0.N) (p : S512x512.Idx) :
    (outsAt0 m c t.val t.isLt).1 p = dgelu (yb m c t p) (dz (row (yb m c t) (p 0)) (wb m c t) (row (bb m c t) 0) (row (cb m c t) (p 0)) (p 1)) := by
  by_cases h : t.val % 4 = 0
  · rw [outsAt0_A m c t h]
    frame_out
    exact pay1 _ _ _ _ p
  · rw [outsAt0_B m c t h]
    frame_out
    exact pay1 _ _ _ _ p

/-- A point's shares of the gradients in the weight and in the bias. -/
abbrev shareW (t : Fin cfg0.N) (p : S512x512.Idx) : EReal :=
  ∑ i, dpre (row (yb m c t) i) (wb m c t) (row (bb m c t) 0) (row (cb m c t) i) (p 1) * gelu (yb m c t (ValueIdx.ix2 i (p 0)))
abbrev shareB (t : Fin cfg0.N) (p : S1x512.Idx) : EReal :=
  ∑ i, dpre (row (yb m c t) i) (wb m c t) (row (bb m c t) 0) (row (cb m c t) i) (p 1)

theorem snd_A (t : Fin cfg0.N) (h : t.val % 4 = 0) (p : S512x512.Idx) : (outsAt0 m c t.val t.isLt).2.1 p = shareW m c t p := by
  rw [outsAt0_A m c t h]
  frame_out
  exact (pay4 _ _ _ _ _ p).trans ((congrArg (· + _) (pay2 p)).trans (zero_add _))
theorem snd_B (t : Fin cfg0.N) (h : ¬t.val % 4 = 0) (p : S512x512.Idx) :
    (outsAt0 m c t.val t.isLt).2.1 p = (outsAt0 m c (t.val - 1) (Nat.lt_of_le_of_lt (Nat.sub_le _ _) t.isLt)).2.1 p + shareW m c t p := by
  rw [outsAt0_B m c t h]
  frame_out
  exact pay4 _ _ _ _ _ p
theorem thd_A (t : Fin cfg0.N) (h : t.val % 4 = 0) (p : S1x512.Idx) : (outsAt0 m c t.val t.isLt).2.2 p = shareB m c t p := by
  rw [outsAt0_A m c t h]
  frame_out
  exact (pay16 _ _ _ _ _ p).trans ((congrArg (· + _) (pay3 p)).trans (zero_add _))
theorem thd_B (t : Fin cfg0.N) (h : ¬t.val % 4 = 0) (p : S1x512.Idx) :
    (outsAt0 m c t.val t.isLt).2.2 p = (outsAt0 m c (t.val - 1) (Nat.lt_of_le_of_lt (Nat.sub_le _ _) t.isLt)).2.2 p + shareB m c t p := by
  rw [outsAt0_B m c t h]
  frame_out
  exact pay16 _ _ _ _ _ p

/-- The point before. -/
abbrev prev (t : Fin cfg0.N) : Fin cfg0.N := ⟨t.val - 1, Nat.lt_of_le_of_lt (Nat.sub_le _ _) t.isLt⟩

theorem quarters : 2048 = 4 * 512 := rfl

/-- The rows of the arrays a point works on. -/
abbrev at_ (t : Fin cfg0.N) (i : Fin 512) : Fin 2048 := part quarters (Fin.cast rfl t) i

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem yb_at (t : Fin cfg0.N) (i k : Fin 512) : yb m c t (ValueIdx.ix2 i k) = y m c (ValueIdx.ix2 (at_ t i) k) := by
  refine congrArg (y m c) (ix2_of ?_ ?_) <;> blk_simp [idx0 t] <;> rfl
theorem wb_at (t : Fin cfg0.N) (i k : Fin 512) : wb m c t (ValueIdx.ix2 i k) = w m c (ValueIdx.ix2 i k) := by
  refine congrArg (w m c) (ix2_of ?_ ?_) <;> blk_simp [idx1 t] <;> rfl
theorem bb_at (t : Fin cfg0.N) (k : Fin 512) : bb m c t (ValueIdx.ix2 0 k) = b m c (ValueIdx.ix2 0 k) := by
  refine congrArg (b m c) (ix2_of ?_ ?_) <;> blk_simp [idx2 t] <;> rfl
theorem cb_at (t : Fin cfg0.N) (i k : Fin 512) : cb m c t (ValueIdx.ix2 i k) = d m c (ValueIdx.ix2 (at_ t i) (k.castLE (by decide))) := by
  refine congrArg (d m c) (ix2_of ?_ ?_) <;> blk_simp [idx3 t] <;> rfl

theorem row_y (t : Fin cfg0.N) (i : Fin 512) : row (yb m c t) i = row (y m c) (at_ t i) := funext fun k => yb_at m c t i k
theorem all_w (t : Fin cfg0.N) : wb m c t = w m c := funext fun p => by
  obtain ⟨i, j, rfl⟩ : ∃ i j, p = ValueIdx.ix2 i j := ⟨_, _, ValueIdx.eq_ix2 p⟩
  exact wb_at m c t i j
theorem row_b (t : Fin cfg0.N) : row (bb m c t) 0 = row (b m c) 0 := funext fun k => bb_at m c t k
theorem row_d (t : Fin cfg0.N) (i : Fin 512) : row (cb m c t) i = left (d m c) (at_ t i) := funext fun k => cb_at m c t i k

/-- A row's share, of the arrays. -/
abbrev dp (i : Fin 2048) : Row := dpre (row (y m c) i) (w m c) (row (b m c) 0) (left (d m c) i)

theorem shareW_at (t : Fin cfg0.N) (i j : Fin 512) :
    shareW m c t (ValueIdx.ix2 i j) = ∑ k : Fin 512, dp m c (at_ t k) j * gelu (y m c (ValueIdx.ix2 (at_ t k) i)) :=
  Finset.sum_congr rfl fun k _ => by
    rw [row_y, all_w, row_b, row_d]
    exact congrArg (_ * gelu ·) (yb_at m c t k i)
theorem shareB_at (t : Fin cfg0.N) (i : Fin 1) (j : Fin 512) :
    shareB m c t (ValueIdx.ix2 i j) = ∑ k : Fin 512, dp m c (at_ t k) j :=
  Finset.sum_congr rfl fun k _ => by
    rw [row_y, all_w, row_b, row_d]

theorem fst_block (t : Fin cfg0.N) (p : S512x512.Idx) :
    (outsAt0 m c t.val t.isLt).1 p = dy (y m c) (w m c) (b m c) (d m c) (ValueIdx.ix2 (at_ t (p 0)) (p 1)) := by
  obtain ⟨i, j, rfl⟩ : ∃ i j, p = ValueIdx.ix2 i j := ⟨_, _, ValueIdx.eq_ix2 p⟩
  refine (fst_at m c t _).trans ?_
  show dgelu (yb m c t (ValueIdx.ix2 i j)) (dz (row (yb m c t) i) (wb m c t) (row (bb m c t) 0) (row (cb m c t) i) j) = _
  rw [row_y, all_w, row_b, row_d, yb_at]
  rfl

theorem arr4 : (dats m 0 c).arrAt 4 cfg0.N = dy (y m c) (w m c) (b m c) (d m c) := by
  refine Dat.arrAt_eq_of_covers (dats m 0 c) 4 _ (by decide +kernel) fun t hf p => ?_
  have e : (win0_4.blk t).view.emb p = ValueIdx.ix2 (at_ t (p 0)) (p 1) := by
    refine ix2_of ?_ ?_ <;> blk_simp [idx4 t] <;> rfl
  blk_simp
  rw [after0_4, e]
  exact fst_block m c t p

/-- After the last point the two accumulated results hold the four points' shares. -/
theorem snd_at (t : Fin cfg0.N) (h : t.val % 4 = 3) (i j : Fin 512) :
    (outsAt0 m c t.val t.isLt).2.1 (ValueIdx.ix2 i j) = dw (y m c) (w m c) (b m c) (d m c) (ValueIdx.ix2 i j) := by
  have l : t.val < 4 := t.isLt
  rw [snd_B m c t (by omega), snd_B m c (prev t) (by show ¬(t.val - 1) % 4 = 0; omega), snd_B m c (prev (prev t)) (by show ¬(t.val - 1 - 1) % 4 = 0; omega),
    snd_A m c (prev (prev (prev t))) (by show (t.val - 1 - 1 - 1) % 4 = 0; omega)]
  obtain rfl : t = ⟨3, by decide +kernel⟩ := Fin.ext (by show t.val = 3; omega)
  rw [shareW_at, shareW_at, shareW_at, shareW_at]
  exact (Fin.sum_univ_four (fun s : Fin 4 => ∑ k : Fin 512, dp m c (part quarters s k) j * gelu (y m c (ValueIdx.ix2 (part quarters s k) i)))).symm.trans
    (Fin.sum_mul_add_fin 4 512 (fun k : Fin 2048 => dp m c k j * gelu (y m c (ValueIdx.ix2 k i))) quarters)
theorem thd_at (t : Fin cfg0.N) (h : t.val % 4 = 3) (i : Fin 1) (j : Fin 512) :
    (outsAt0 m c t.val t.isLt).2.2 (ValueIdx.ix2 i j) = Gate.db (y m c) (w m c) (b m c) (d m c) (ValueIdx.ix2 i j) := by
  have l : t.val < 4 := t.isLt
  rw [thd_B m c t (by omega), thd_B m c (prev t) (by show ¬(t.val - 1) % 4 = 0; omega), thd_B m c (prev (prev t)) (by show ¬(t.val - 1 - 1) % 4 = 0; omega),
    thd_A m c (prev (prev (prev t))) (by show (t.val - 1 - 1 - 1) % 4 = 0; omega)]
  obtain rfl : t = ⟨3, by decide +kernel⟩ := Fin.ext (by show t.val = 3; omega)
  rw [shareB_at, shareB_at, shareB_at, shareB_at]
  exact (Fin.sum_univ_four (fun s : Fin 4 => ∑ k : Fin 512, dp m c (part quarters s k) j)).symm.trans
    (Fin.sum_mul_add_fin 4 512 (fun k : Fin 2048 => dp m c k j) quarters)

theorem arr5 : (dats m 0 c).arrAt 5 cfg0.N = dw (y m c) (w m c) (b m c) (d m c) := by
  refine Dat.arrAt_eq_of_covers (dats m 0 c) 5 _ (by decide +kernel) fun t hf p => ?_
  have ht : t.val % 4 = 3 := (flush0_5 t).mp hf
  have e : (win0_5.blk t).view.emb p = ValueIdx.ix2 (p 0) (p 1) := by
    refine ix2_of ?_ ?_ <;> blk_simp [idx5 t] <;> rfl
  blk_simp
  rw [after0_5, e]
  exact (congrArg _ (ValueIdx.eq_ix2 p)).trans (snd_at m c t ht (p 0) (p 1))
theorem arr6 : (dats m 0 c).arrAt 6 cfg0.N = Gate.db (y m c) (w m c) (b m c) (d m c) := by
  refine Dat.arrAt_eq_of_covers (dats m 0 c) 6 _ (by decide +kernel) fun t hf p => ?_
  have ht : t.val % 4 = 3 := (flush0_6 t).mp hf
  have e : (win0_6.blk t).view.emb p = ValueIdx.ix2 (p 0) (p 1) := by
    refine ix2_of ?_ ?_ <;> blk_simp [idx6 t] <;> rfl
  blk_simp
  rw [after0_6, e]
  exact (congrArg _ (ValueIdx.eq_ix2 p)).trans (thd_at m c t ht (p 0) (p 1))

/-- Both runs end with the three gradients. -/
theorem agree : algebraic_GateBwdIdeal_GateBwdRefIdeal (hGateBwdIdeal := Cert.GateBwdIdeal.Gen.facts) (hGateBwdRefIdeal := Cert.GateBwdRefIdeal.Gen.facts) := by
  intro m g₀ m' g' _ hagree
  refine ⟨fun c => dy (y m c) (w m c) (b m c) (d m c), fun c => dw (y m c) (w m c) (b m c) (d m c), fun c => Gate.db (y m c) (w m c) (b m c) (d m c), ?_, ?_⟩
  · refine (θ_run _ _ _).mono (fun r h c => ?_) (Cert.GateBwdIdeal.Value.run_blocks (F := Ideal) m g₀)
    exact ⟨(h c).1.trans (arr4 m c), (h c).2.1.trans (arr5 m c), (h c).2.2.1.trans (arr6 m c), (h c).2.2.2⟩
  · refine (θ_run _ _ _).mono (fun r h c => ?_) (Cert.GateBwdRefIdeal.Value.run (F := Ideal) m' g')
    obtain ⟨e0, e1, e2, e3⟩ := hagree c
    obtain ⟨h0, h1, h2, h3⟩ := h c
    refine ⟨h0.trans ?_, h1.trans ?_, h2.trans ?_, h3⟩
    · unfold Cert.GateBwdRefIdeal.Value.res_main_v56
      rw [e0, e1, e2, e3]
      funext p
      obtain ⟨i, j, rfl⟩ : ∃ i j, p = ValueIdx.ix2 i j := ⟨_, _, ValueIdx.eq_ix2 p⟩
      pointwise
      rfl
    · rw [e0, e1, e2, e3]
      funext p
      obtain ⟨i, j, rfl⟩ : ∃ i j, p = ValueIdx.ix2 i j := ⟨_, _, ValueIdx.eq_ix2 p⟩
      pointwise
      rfl
    · rw [e0, e1, e2, e3]
      funext p
      obtain ⟨i, j, rfl⟩ : ∃ i j, p = ValueIdx.ix2 i j := ⟨_, _, ValueIdx.eq_ix2 p⟩
      pointwise
      rfl

/-- The reference leaves its arguments unchanged. -/
theorem frame_reference : quiescent_GateBwdRefIdeal (hGateBwdRefIdeal := Cert.GateBwdRefIdeal.Gen.facts) := fun m g _ =>
  (θ_run _ _ _).mono (fun r h => ⟨fun c => (h c).2.2.2, sem_eq_zero_of_no_sems (by decide) r.2⟩) (Cert.GateBwdRefIdeal.Value.run (F := Ideal) m g)

end Cert.GateBwdIdeal.Val

end
-- ==== Proof.NormFwdVal.lean ====
/-
  The root-mean-square norm: what the kernel's array holds when it returns, and that it is the reference's.
-/
module

public import proofs.«01_k».proof.Proof.Norm
public import proofs.«01_k».proof.Proof.Gen.NormFwdIdeal.Value
public import proofs.«01_k».proof.Proof.Gen.NormFwdRefIdeal.Run
public import proofs.«01_k».proof.Defs
public import Idealize.ShloMosaic.Lib.Quiescent
public import Idealize.ShloMosaic.Lib.Pipeline.ValueKit.Geometry
public import Idealize.ShloMosaic.Lib.Pointwise

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.NormFwdIdeal.Val

open Cert.NormFwdIdeal Cert.NormFwdIdeal.Gen Mat Norm

variable (m : (ℓ : Loc nD τ sig) → Buf (Elt Ideal) ℓ) (ρ : Dev nD → PrngReg) (c : Dev nD)

/-- The norm's input and its gain. -/
def x : Arr 2048 1024 := m ((c : Thread nD τ).loc main_arg0)
def g : Arr 1 1024 := m ((c : Thread nD τ).loc main_arg1)

/-- What a block stores. -/
theorem pay1 (x : Arr 512 1024) (g : Arr 1 1024) (y) : k0_pay1 (F := Ideal) x g y = fwd (row x (y 0)) (row g 0) (y 1) := by
  obtain ⟨i, j, rfl⟩ : ∃ i j, y = ValueIdx.ix2 i j := ⟨_, _, ValueIdx.eq_ix2 y⟩
  pointwise [k0_pay1]
  rfl
theorem body (x : Arr 512 1024) (g : Arr 1 1024) (y) : out0_2 (F := Ideal) x g y = fwd (row x (y 0)) (row g 0) (y 1) := by
  unfold out0_2
  frame_out
  exact pay1 x g y

theorem quarters : 2048 = 4 * 512 := rfl

/-- The rows of the arrays a point works on. -/
abbrev at_ (t : Fin cfg0.N) (i : Fin 512) : Fin 2048 := part quarters (Fin.cast rfl t) i

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem row_x (t : Fin cfg0.N) (i : Fin 512) : row (M := 512) (iblk m c 0 t) i = row (x m c) (at_ t i) := funext fun k => by
  refine congrArg (x m c) (ix2_of ?_ ?_) <;> blk_simp [idx0 t] <;> rfl
theorem row_g (t : Fin cfg0.N) : row (M := 1) (iblk m c 1 t) 0 = row (g m c) 0 := funext fun k => by
  refine congrArg (g m c) (ix2_of ?_ ?_) <;> blk_simp [idx1 t] <;> rfl

theorem arr : (dats m 0 c).arrAt 2 cfg0.N = normed (x m c) (g m c) := by
  refine Dat.arrAt_eq_of_covers (dats m 0 c) 2 _ (by decide +kernel) fun t hf y => ?_
  have e : (win0_2.blk t).view.emb y = ValueIdx.ix2 (at_ t (y 0)) (y 1) := by
    refine ix2_of ?_ ?_ <;> blk_simp [idx2 t] <;> rfl
  blk_simp
  rw [after0_2, e]
  refine (body _ _ y).trans ?_
  obtain ⟨i, j, rfl⟩ : ∃ i j, y = ValueIdx.ix2 i j := ⟨_, _, ValueIdx.eq_ix2 y⟩
  exact congrArg₂ (fwd · · j) (row_x m c t i) (row_g m c t)

/-- Both runs end with the norm. -/
theorem agree : algebraic_NormFwdIdeal_NormFwdRefIdeal (hNormFwdIdeal := Cert.NormFwdIdeal.Gen.facts) (hNormFwdRefIdeal := Cert.NormFwdRefIdeal.Gen.facts) := by
  intro m g₀ m' g' _ hagree
  refine ⟨fun c => normed (x m c) (g m c), ?_, ?_⟩
  · refine (θ_run _ _ _).mono (fun r h c => ?_) (Cert.NormFwdIdeal.Value.run_blocks (F := Ideal) m g₀)
    exact ⟨(h c).1.trans (arr m c), (h c).2⟩
  · refine (θ_run _ _ _).mono (fun r h c => ?_) (Cert.NormFwdRefIdeal.Value.run (F := Ideal) m' g')
    obtain ⟨e0, e1⟩ := hagree c
    obtain ⟨h0, h1⟩ := h c
    refine ⟨h0.trans ?_, h1⟩
    rw [e0, e1]
    funext y
    obtain ⟨i, j, rfl⟩ : ∃ i j, y = ValueIdx.ix2 i j := ⟨_, _, ValueIdx.eq_ix2 y⟩
    pointwise
    rfl

/-- The reference leaves its arguments unchanged. -/
theorem frame_reference : quiescent_NormFwdRefIdeal (hNormFwdRefIdeal := Cert.NormFwdRefIdeal.Gen.facts) := fun m g _ =>
  (θ_run _ _ _).mono (fun r h => ⟨fun c => (h c).2, sem_eq_zero_of_no_sems (by decide) r.2⟩) (Cert.NormFwdRefIdeal.Value.run (F := Ideal) m g)

end Cert.NormFwdIdeal.Val

end
-- ==== Proof.GateFwdVal.lean ====
/-
  The S5 gate: what the kernel's array holds when it returns, and that it is the reference's.
-/
module

public import proofs.«01_k».proof.Proof.Gate
public import proofs.«01_k».proof.Proof.Gen.GateFwdIdeal.Value
public import proofs.«01_k».proof.Proof.Gen.GateFwdRefIdeal.Run
public import proofs.«01_k».proof.Defs
public import Idealize.ShloMosaic.Lib.Quiescent
public import Idealize.ShloMosaic.Lib.Pipeline.ValueKit.Geometry
public import Idealize.ShloMosaic.Lib.Pointwise

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.GateFwdIdeal.Val

open Cert.GateFwdIdeal Cert.GateFwdIdeal.Gen Mat Gate

variable (m : (ℓ : Loc nD τ sig) → Buf (Elt Ideal) ℓ) (ρ : Dev nD → PrngReg) (c : Dev nD)

/-- The gate's input, its weight and its bias. -/
def y : Arr 2048 512 := m ((c : Thread nD τ).loc main_arg0)
def w : Arr 512 512 := m ((c : Thread nD τ).loc main_arg1)
def b : Arr 1 512 := m ((c : Thread nD τ).loc main_arg2)

/-- What a block stores. -/
theorem cube (u : EReal) : u * (u * u) = u * u * u := mul_comm _ _
theorem pay1 (y w : Arr 512 512) (b : Arr 1 512) (p) : k0_pay1 (F := Ideal) y w b p = gated (row y (p 0)) w (row b 0) (p 1) := by
  obtain ⟨i, j, rfl⟩ : ∃ i j, p = ValueIdx.ix2 i j := ⟨_, _, ValueIdx.eq_ix2 p⟩
  pointwise [k0_pay1]
  simp only [cube]
  rfl
theorem body (y w : Arr 512 512) (b : Arr 1 512) (p) : out0_3 (F := Ideal) y w b p = gated (row y (p 0)) w (row b 0) (p 1) := by
  unfold out0_3
  frame_out
  exact pay1 y w b p

theorem quarters : 2048 = 4 * 512 := rfl

/-- The rows of the arrays a point works on. -/
abbrev at_ (t : Fin cfg0.N) (i : Fin 512) : Fin 2048 := part quarters (Fin.cast rfl t) i

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem row_y (t : Fin cfg0.N) (i : Fin 512) : row (M := 512) (iblk m c 0 t) i = row (y m c) (at_ t i) := funext fun k => by
  refine congrArg (y m c) (ix2_of ?_ ?_) <;> blk_simp [idx0 t] <;> rfl
theorem blk_w (t : Fin cfg0.N) : (iblk m c 1 t : Arr 512 512) = w m c := funext fun p => by
  obtain ⟨i, k, rfl⟩ : ∃ i k, p = ValueIdx.ix2 i k := ⟨_, _, ValueIdx.eq_ix2 p⟩
  refine congrArg (w m c) (ix2_of ?_ ?_) <;> blk_simp [idx1 t] <;> rfl
theorem row_b (t : Fin cfg0.N) : row (M := 1) (iblk m c 2 t) 0 = row (b m c) 0 := funext fun k => by
  refine congrArg (b m c) (ix2_of ?_ ?_) <;> blk_simp [idx2 t] <;> rfl

theorem arr : (dats m 0 c).arrAt 3 cfg0.N = out (y m c) (w m c) (b m c) := by
  refine Dat.arrAt_eq_of_covers (dats m 0 c) 3 _ (by decide +kernel) fun t hf p => ?_
  have e : (win0_3.blk t).view.emb p = ValueIdx.ix2 (at_ t (p 0)) (p 1) := by
    refine ix2_of ?_ ?_ <;> blk_simp [idx3 t] <;> rfl
  blk_simp
  rw [after0_3, e]
  refine (body _ _ _ p).trans ?_
  obtain ⟨i, j, rfl⟩ : ∃ i j, p = ValueIdx.ix2 i j := ⟨_, _, ValueIdx.eq_ix2 p⟩
  exact congr (congr (congrArg gated (row_y m c t i)) (blk_w m c t)) (row_b m c t) |> fun h => congrFun h j

/-- Both runs end with the gate. -/
theorem agree : algebraic_GateFwdIdeal_GateFwdRefIdeal (hGateFwdIdeal := Cert.GateFwdIdeal.Gen.facts) (hGateFwdRefIdeal := Cert.GateFwdRefIdeal.Gen.facts) := by
  intro m g₀ m' g' _ hagree
  refine ⟨fun c => out (y m c) (w m c) (b m c), ?_, ?_⟩
  · refine (θ_run _ _ _).mono (fun r h c => ?_) (Cert.GateFwdIdeal.Value.run_blocks (F := Ideal) m g₀)
    exact ⟨(h c).1.trans (arr m c), (h c).2⟩
  · refine (θ_run _ _ _).mono (fun r h c => ?_) (Cert.GateFwdRefIdeal.Value.run (F := Ideal) m' g')
    obtain ⟨e0, e1, e2⟩ := hagree c
    obtain ⟨h0, h1⟩ := h c
    refine ⟨h0.trans ?_, h1⟩
    rw [e0, e1, e2]
    funext p
    obtain ⟨i, j, rfl⟩ : ∃ i j, p = ValueIdx.ix2 i j := ⟨_, _, ValueIdx.eq_ix2 p⟩
    pointwise
    rfl

/-- The reference leaves its arguments unchanged. -/
theorem frame_reference : quiescent_GateFwdRefIdeal (hGateFwdRefIdeal := Cert.GateFwdRefIdeal.Gen.facts) := fun m g _ =>
  (θ_run _ _ _).mono (fun r h => ⟨fun c => (h c).2, sem_eq_zero_of_no_sems (by decide) r.2⟩) (Cert.GateFwdRefIdeal.Value.run (F := Ideal) m g)

end Cert.GateFwdIdeal.Val

end
-- ==== Proof.LossRow.lean ====
/-
  The loss row by row, over the extended reals: half the mean square of the norm less the target, and the cotangent that
  its gradient hands to the norm.
-/
module

public import proofs.«01_k».proof.Proof.Norm

@[expose] public section

noncomputable section

open Idealize.ShloMosaic Idealize.ShloMosaic.ValueIdx

namespace LossRow

open Mat Norm

/-- One half and two, as their words. -/
abbrev oneHalf : EReal := Ideal.ofBits .f32 0x3F000000#32
abbrev two : EReal := Ideal.ofBits .f32 0x40000000#32

/-- A row's error, its mean square, and the norm's cotangent. -/
def err (x g t : Row) (j : Fin 1024) : EReal := fwd x g j - t j
def sq (x g t : Row) : EReal := Ideal.div (∑ j, err x g t j * err x g t j) len
def ct (x g t : Row) : Row := fun j => Ideal.div oneHalf len * (two * err x g t j)

theorem oneHalf_eq : oneHalf = ((1 / 2 : ℝ) : EReal) := by
  simp [oneHalf, Ideal.ofBits, Ideal.ieee, -EReal.coe_mul]
  norm_num

/-- One half times a sum is the sum of the halves: one half is positive and finite. -/
theorem half_add (a b : EReal) : oneHalf * (a + b) = oneHalf * a + oneHalf * b := by
  rw [oneHalf_eq]
  exact EReal.left_distrib_of_nonneg_of_ne_top (EReal.coe_nonneg.mpr (by norm_num)) (EReal.coe_ne_top _) a b

/-- The loss in every lane, and the two gradients. -/
def loss (x : Arr 2048 1024) (g : Arr 1 1024) (t : Arr 2048 1024) : EReal := oneHalf * ∑ i, sq (row x i) (row g 0) (row t i)
def lanes (x : Arr 2048 1024) (g : Arr 1 1024) (t : Arr 2048 1024) : Arr 1 128 := fun _ => loss x g t
def dstream (x : Arr 2048 1024) (g : Arr 1 1024) (t : Arr 2048 1024) : Arr 2048 1024 :=
  fun y => dx (row x (y 0)) (row g 0) (ct (row x (y 0)) (row g 0) (row t (y 0))) (y 1)
def dgain (x : Arr 2048 1024) (g : Arr 1 1024) (t : Arr 2048 1024) : Arr 1 1024 :=
  fun y => ∑ i, dg (row x i) (ct (row x i) (row g 0) (row t i)) (y 1)

end LossRow

end
-- ==== Proof.LossVal.lean ====
/-
  The loss and its gradients in the stream and in the last norm's gain: what the kernel's arrays hold when it returns, and
  that they are the reference's.
-/
module

public import proofs.«01_k».proof.Proof.LossRow
public import proofs.«01_k».proof.Proof.Gen.LossIdeal.Value
public import proofs.«01_k».proof.Proof.Gen.LossRefIdeal.Run
public import proofs.«01_k».proof.Defs
public import Idealize.ShloMosaic.Lib.Quiescent
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.LossIdeal.Val

open Cert.LossIdeal Cert.LossIdeal.Gen Mat Norm LossRow

variable (m : (ℓ : Loc nD τ sig) → Buf (Elt Ideal) ℓ) (ρ : Dev nD → PrngReg) (c : Dev nD)

/-- The stream, the norm's gain and the target. -/
def x : Arr 2048 1024 := m ((c : Thread nD τ).loc main_arg0)
def g : Arr 1 1024 := m ((c : Thread nD τ).loc main_arg1)
def tgt : Arr 2048 1024 := m ((c : Thread nD τ).loc main_arg2)

/-- What a block stores and adds. -/
theorem pay12 (x : Arr 512 1024) (g : Arr 1 1024) (t : Arr 512 1024) (y) :
    k0_pay12 (F := Ideal) x g t y = ct (row x (y 0)) (row g 0) (row t (y 0)) (y 1) := by
  obtain ⟨i, j, rfl⟩ : ∃ i j, y = ValueIdx.ix2 i j := ⟨_, _, ValueIdx.eq_ix2 y⟩
  pointwise [k0_pay12, k0_pay10, k0_pay9, k0_pay7, k0_pay6]
  rfl
theorem pay1 (x : Arr 512 1024) (g : Arr 1 1024) (t : Arr 512 1024) (y) :
    k0_pay1 (F := Ideal) x g (k0_pay7 x) (k0_pay8 x) (k0_pay12 x g t) y =
      dx (row x (y 0)) (row g 0) (ct (row x (y 0)) (row g 0) (row t (y 0))) (y 1) := by
  obtain ⟨i, j, rfl⟩ : ∃ i j, y = ValueIdx.ix2 i j := ⟨_, _, ValueIdx.eq_ix2 y⟩
  pointwise [k0_pay1, k0_pay7, k0_pay8, k0_pay6]
  simp only [pay12]
  rfl
theorem pay13 (x : Arr 512 1024) (g : Arr 1 1024) (t : Arr 512 1024) (y) :
    k0_pay13 (F := Ideal) x g t y = ∑ i, dg (row x i) (ct (row x i) (row g 0) (row t i)) (y 1) := by
  pointwise [k0_pay13, k0_pay9, k0_pay7, k0_pay6]
  simp only [pay12]
  rfl
theorem pay11 (x : Arr 512 1024) (g : Arr 1 1024) (t : Arr 512 1024) :
    k0_pay11 (F := Ideal) x g t = oneHalf * ∑ i, sq (row x i) (row g 0) (row t i) := by
  pointwise [k0_pay11, k0_pay10, k0_pay9, k0_pay7, k0_pay6]
  rfl
theorem pay4 (a b : Arr 1 1024) (y) : k0_pay4 (F := Ideal) a b y = b y + a y := by
  unfold k0_pay4
  exact congrArg (· + a y) (congrFun (shapeCast_self b _) y)
theorem pay5 (a : EReal) (b : Arr 1 128) (y) : k0_pay5 (F := Ideal) a b y = b y + a := by
  unfold k0_pay5
  exact congrArg (· + a) (congrFun (shapeCast_self b _) y)
theorem pay2 (y) : k0_pay2 (F := Ideal) y = 0 := by
  pointwise [k0_pay2]
theorem pay3 (y) : k0_pay3 (F := Ideal) y = 0 := by
  pointwise [k0_pay3]

/-- The input blocks of a point. -/
abbrev xb (t : Fin cfg0.N) : Arr 512 1024 := iblk m c 0 t
abbrev gb (t : Fin cfg0.N) : Arr 1 1024 := iblk m c 1 t
abbrev tb (t : Fin cfg0.N) : Arr 512 1024 := iblk m c 2 t

theorem mid_at (t : Fin cfg0.N) (y : S512x1024.Idx) :
    (outsAt0 m c t.val t.isLt).2.1 y =
      dx (row (xb m c t) (y 0)) (row (gb m c t) 0) (ct (row (xb m c t) (y 0)) (row (gb m c t) 0) (row (tb m c t) (y 0))) (y 1) := by
  by_cases h : t.val % 4 = 0
  · rw [outsAt0_A m c t h]
    frame_out
    exact pay1 _ _ _ y
  · rw [outsAt0_B m c t h]
    frame_out
    exact pay1 _ _ _ y

/-- A point's shares of the loss and of the gradient in the gain. -/
abbrev shareL (t : Fin cfg0.N) : EReal := oneHalf * ∑ i, sq (row (xb m c t) i) (row (gb m c t) 0) (row (tb m c t) i)
abbrev shareG (t : Fin cfg0.N) (y : S1x1024.Idx) : EReal :=
  ∑ i, dg (row (xb m c t) i) (ct (row (xb m c t) i) (row (gb m c t) 0) (row (tb m c t) i)) (y 1)

theorem fst_A (t : Fin cfg0.N) (h : t.val % 4 = 0) (y : S1x128.Idx) : (outsAt0 m c t.val t.isLt).1 y = shareL m c t := by
  rw [outsAt0_A m c t h]
  frame_out
  exact (pay5 _ _ y).trans ((congrArg₂ (· + ·) (pay3 y) (pay11 _ _ _)).trans (zero_add _))
theorem fst_B (t : Fin cfg0.N) (h : ¬t.val % 4 = 0) (y : S1x128.Idx) :
    (outsAt0 m c t.val t.isLt).1 y = (outsAt0 m c (t.val - 1) (Nat.lt_of_le_of_lt (Nat.sub_le _ _) t.isLt)).1 y + shareL m c t := by
  rw [outsAt0_B m c t h]
  frame_out
  exact (pay5 _ _ y).trans (congrArg (_ + ·) (pay11 _ _ _))
theorem snd_A (t : Fin cfg0.N) (h : t.val % 4 = 0) (y : S1x1024.Idx) : (outsAt0 m c t.val t.isLt).2.2 y = shareG m c t y := by
  rw [outsAt0_A m c t h]
  frame_out
  exact (pay4 _ _ y).trans ((congrArg₂ (· + ·) (pay2 y) (pay13 _ _ _ y)).trans (zero_add _))
theorem snd_B (t : Fin cfg0.N) (h : ¬t.val % 4 = 0) (y : S1x1024.Idx) :
    (outsAt0 m c t.val t.isLt).2.2 y = (outsAt0 m c (t.val - 1) (Nat.lt_of_le_of_lt (Nat.sub_le _ _) t.isLt)).2.2 y + shareG m c t y := by
  rw [outsAt0_B m c t h]
  frame_out
  exact (pay4 _ _ y).trans (congrArg (_ + ·) (pay13 _ _ _ y))

/-- The point before. -/
abbrev prev (t : Fin cfg0.N) : Fin cfg0.N := ⟨t.val - 1, Nat.lt_of_le_of_lt (Nat.sub_le _ _) t.isLt⟩

theorem quarters : 2048 = 4 * 512 := rfl

/-- The rows of the arrays a point works on. -/
abbrev at_ (t : Fin cfg0.N) (i : Fin 512) : Fin 2048 := part quarters (Fin.cast rfl t) i

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

/-- The rows of a point's blocks are rows of the arrays. -/
theorem row_x (t : Fin cfg0.N) (i : Fin 512) : row (xb m c t) i = row (x m c) (at_ t i) := funext fun k => by
  refine congrArg (x m c) (ix2_of ?_ ?_) <;> blk_simp [idx0 t] <;> rfl
theorem row_g (t : Fin cfg0.N) : row (gb m c t) 0 = row (g m c) 0 := funext fun k => by
  refine congrArg (g m c) (ix2_of ?_ ?_) <;> blk_simp [idx1 t] <;> rfl
theorem row_t (t : Fin cfg0.N) (i : Fin 512) : row (tb m c t) i = row (tgt m c) (at_ t i) := funext fun k => by
  refine congrArg (tgt m c) (ix2_of ?_ ?_) <;> blk_simp [idx2 t] <;> rfl

/-- A row's mean square and its share of the gain's gradient, as functions of the row's number. -/
abbrev sqAt (i : Fin 2048) : EReal := sq (row (x m c) i) (row (g m c) 0) (row (tgt m c) i)
abbrev dgAt (j : Fin 1024) (i : Fin 2048) : EReal := dg (row (x m c) i) (ct (row (x m c) i) (row (g m c) 0) (row (tgt m c) i)) j

theorem shareL_at (t : Fin cfg0.N) : shareL m c t = oneHalf * ∑ i : Fin 512, sqAt m c (at_ t i) := by
  refine congrArg (oneHalf * ·) (Finset.sum_congr rfl fun i _ => ?_)
  rw [row_x, row_g, row_t]
theorem shareG_at (t : Fin cfg0.N) (y : S1x1024.Idx) : shareG m c t y = ∑ i : Fin 512, dgAt m c (y 1) (at_ t i) := by
  refine Finset.sum_congr rfl fun i _ => ?_
  rw [row_x, row_g, row_t]

theorem mid_block (t : Fin cfg0.N) (y : S512x1024.Idx) :
    (outsAt0 m c t.val t.isLt).2.1 y = dstream (x m c) (g m c) (tgt m c) (ValueIdx.ix2 (at_ t (y 0)) (y 1)) := by
  obtain ⟨i, j, rfl⟩ : ∃ i j, y = ValueIdx.ix2 i j := ⟨_, _, ValueIdx.eq_ix2 y⟩
  refine (mid_at m c t _).trans ?_
  show dx (row (xb m c t) i) (row (gb m c t) 0) (ct (row (xb m c t) i) (row (gb m c t) 0) (row (tb m c t) i)) j = _
  rw [row_x, row_g, row_t]
  rfl

theorem arr4 : (dats m 0 c).arrAt 4 cfg0.N = dstream (x m c) (g m c) (tgt m c) := by
  refine Dat.arrAt_eq_of_covers (dats m 0 c) 4 _ (by decide +kernel) fun t hf y => ?_
  have e : (win0_4.blk t).view.emb y = ValueIdx.ix2 (at_ t (y 0)) (y 1) := by
    refine ix2_of ?_ ?_ <;> blk_simp [idx4 t] <;> rfl
  blk_simp
  rw [after0_4, e]
  exact mid_block m c t y

/-- A sum over the rows is the sum of the four points' sums. -/
theorem four (f : Fin 2048 → EReal) : ∑ i : Fin 512, f (part quarters 0 i) + ∑ i : Fin 512, f (part quarters 1 i) + ∑ i : Fin 512, f (part quarters 2 i)
    + ∑ i : Fin 512, f (part quarters 3 i) = ∑ i, f i :=
  (Fin.sum_univ_four (fun s : Fin 4 => ∑ i : Fin 512, f (part quarters s i))).symm.trans (Fin.sum_mul_add_fin 4 512 f quarters)

/-- After the last point the first and the third result hold the four points' shares. -/
theorem fst_at (t : Fin cfg0.N) (h : t.val % 4 = 3) (y : S1x128.Idx) : (outsAt0 m c t.val t.isLt).1 y = loss (x m c) (g m c) (tgt m c) := by
  have l : t.val < 4 := t.isLt
  rw [fst_B m c t (by omega), fst_B m c (prev t) (by show ¬(t.val - 1) % 4 = 0; omega), fst_B m c (prev (prev t)) (by show ¬(t.val - 1 - 1) % 4 = 0; omega),
    fst_A m c (prev (prev (prev t))) (by show (t.val - 1 - 1 - 1) % 4 = 0; omega)]
  obtain rfl : t = ⟨3, by decide +kernel⟩ := Fin.ext (by show t.val = 3; omega)
  rw [shareL_at, shareL_at, shareL_at, shareL_at, ← half_add, ← half_add, ← half_add]
  exact congrArg (oneHalf * ·) (four (sqAt m c))
theorem snd_at (t : Fin cfg0.N) (h : t.val % 4 = 3) (y : S1x1024.Idx) : (outsAt0 m c t.val t.isLt).2.2 y = dgain (x m c) (g m c) (tgt m c) (ValueIdx.ix2 0 (y 1)) := by
  have l : t.val < 4 := t.isLt
  rw [snd_B m c t (by omega), snd_B m c (prev t) (by show ¬(t.val - 1) % 4 = 0; omega), snd_B m c (prev (prev t)) (by show ¬(t.val - 1 - 1) % 4 = 0; omega),
    snd_A m c (prev (prev (prev t))) (by show (t.val - 1 - 1 - 1) % 4 = 0; omega)]
  obtain rfl : t = ⟨3, by decide +kernel⟩ := Fin.ext (by show t.val = 3; omega)
  rw [shareG_at, shareG_at, shareG_at, shareG_at]
  exact four (dgAt m c (y 1))

theorem arr3 : (dats m 0 c).arrAt 3 cfg0.N = lanes (x m c) (g m c) (tgt m c) := by
  refine Dat.arrAt_eq_of_covers (dats m 0 c) 3 _ (by decide +kernel) fun t hf y => ?_
  have ht : t.val % 4 = 3 := (flush0_3 t).mp hf
  blk_simp
  rw [after0_3]
  exact fst_at m c t ht y
theorem arr5 : (dats m 0 c).arrAt 5 cfg0.N = dgain (x m c) (g m c) (tgt m c) := by
  refine Dat.arrAt_eq_of_covers (dats m 0 c) 5 _ (by decide +kernel) fun t hf y => ?_
  have ht : t.val % 4 = 3 := (flush0_5 t).mp hf
  have e : (win0_5.blk t).view.emb y = ValueIdx.ix2 0 (y 1) := by
    refine ix2_of ?_ ?_ <;> blk_simp [idx5 t] <;> rfl
  blk_simp
  rw [after0_5, e]
  exact snd_at m c t ht y

/-- Both runs end with the loss and its two gradients. -/
theorem agree : algebraic_LossIdeal_LossRefIdeal (hLossIdeal := Cert.LossIdeal.Gen.facts) (hLossRefIdeal := Cert.LossRefIdeal.Gen.facts) := by
  intro m g₀ m' g' _ hagree
  refine ⟨fun c => lanes (x m c) (g m c) (tgt m c), fun c => dstream (x m c) (g m c) (tgt m c), fun c => dgain (x m c) (g m c) (tgt m c), ?_, ?_⟩
  · refine (θ_run _ _ _).mono (fun r h c => ?_) (Cert.LossIdeal.Value.run_blocks (F := Ideal) m g₀)
    exact ⟨(h c).1.trans (arr3 m c), (h c).2.1.trans (arr4 m c), (h c).2.2.1.trans (arr5 m c), (h c).2.2.2⟩
  · refine (θ_run _ _ _).mono (fun r h c => ?_) (Cert.LossRefIdeal.Value.run (F := Ideal) m' g')
    obtain ⟨e0, e1, e2⟩ := hagree c
    obtain ⟨h0, h1, h2, h3⟩ := h c
    refine ⟨h0.trans ?_, h1.trans ?_, h2.trans ?_, h3⟩
    · rw [e0, e1, e2]
      funext y
      obtain ⟨i, j, rfl⟩ : ∃ i j, y = ValueIdx.ix2 i j := ⟨_, _, ValueIdx.eq_ix2 y⟩
      pointwise
      rfl
    · unfold Cert.LossRefIdeal.Value.res_main_v48
      rw [e0, e1, e2]
      funext y
      obtain ⟨i, j, rfl⟩ : ∃ i j, y = ValueIdx.ix2 i j := ⟨_, _, ValueIdx.eq_ix2 y⟩
      pointwise
      rfl
    · rw [e0, e1, e2]
      funext y
      obtain ⟨i, j, rfl⟩ : ∃ i j, y = ValueIdx.ix2 i j := ⟨_, _, ValueIdx.eq_ix2 y⟩
      pointwise
      rfl

/-- The reference leaves its arguments unchanged. -/
theorem frame_reference : quiescent_LossRefIdeal (hLossRefIdeal := Cert.LossRefIdeal.Gen.facts) := fun m g _ =>
  (θ_run _ _ _).mono (fun r h => ⟨fun c => (h c).2.2.2, sem_eq_zero_of_no_sems (by decide) r.2⟩) (Cert.LossRefIdeal.Value.run (F := Ideal) m g)

end Cert.LossIdeal.Val

end
-- ==== Proof.Conv.lean ====
/-
  The causal convolution of width 3 down a column and the activation `silu a · b`, over the extended reals.
-/
module

public import proofs.«01_k».proof.Proof.Products

@[expose] public section

noncomputable section

open Idealize.ShloMosaic Idealize.ShloMosaic.ValueIdx

namespace Conv

open Mat

/-- A column of 2048 values, and the column of an array. -/
abbrev Col : Type := Fin 2048 → EReal
abbrev col {n : ℕ} (a : Arr 2048 n) (j : Fin n) : Col := fun i => a (ix2 i j)
/-- The three weights of a column. -/
abbrev taps {n : ℕ} (w : Arr 3 n) (j : Fin n) : Fin 3 → EReal := fun k => w (ix2 k j)

/-- A column `s` rows earlier: zero before its first row. -/
def back (s : ℕ) (h : Col) (i : Fin 2048) : EReal := if i.val < s then 0 else h ⟨i.val - s, Nat.lt_of_le_of_lt (Nat.sub_le _ _) i.isLt⟩

/-- The convolution. -/
def conv (h : Col) (w : Fin 3 → EReal) (b : EReal) (i : Fin 2048) : EReal := w 0 * back 2 h i + w 1 * back 1 h i + w 2 * h i + b

/-- The activation of two columns. -/
def act (a b : EReal) : EReal := a * Ideal.logistic a * b

/-- A column of the left half and of the right half of 5632 columns. -/
abbrev lo (j : Fin 2816) : Fin 5632 := ⟨j.val, by omega⟩
abbrev hi (j : Fin 2816) : Fin 5632 := ⟨2816 + j.val, by omega⟩

/-- The convolution of every column, and the activation of the halves. -/
def all (h : Arr 2048 5632) (w : Arr 3 5632) (b : Fin 5632 → EReal) (i : Fin 2048) (j : Fin 5632) : EReal := conv (col h j) (taps w j) (b j) i
def out (h : Arr 2048 5632) (w : Arr 3 5632) (b : Fin 5632 → EReal) : Arr 2048 2816 :=
  fun y => act (all h w b (y 0) (lo (y 1))) (all h w b (y 0) (hi (y 1)))

end Conv

end
-- ==== Proof.ConvFwdVal.lean ====
/-
  The convolution and the activation after the feed-forward block's first product:
  what the kernel's array holds when it returns, and that it is the reference's.
-/
module

public import proofs.«01_k».proof.Proof.Conv
public import proofs.«01_k».proof.Proof.Gen.ConvFwdIdeal.Value
public import proofs.«01_k».proof.Proof.Gen.ConvFwdRefIdeal.Run
public import proofs.«01_k».proof.Defs
public import Idealize.ShloMosaic.Lib.Quiescent
public import Idealize.ShloMosaic.Lib.Pipeline.ValueKit.Geometry
public import Idealize.ShloMosaic.Lib.Pointwise

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.ConvFwdIdeal.Val

open Cert.ConvFwdIdeal Cert.ConvFwdIdeal.Gen Mat Conv

variable (m : (ℓ : Loc nD τ sig) → Buf (Elt Ideal) ℓ) (ρ : Dev nD → PrngReg) (c : Dev nD)

/-- The two layers' biases, and the first layer's as one row. -/
abbrev Bias : Type := (⟨3, ![2, 1, 5632]⟩ : Shape).Idx → EReal
abbrev biasOf (b : Bias) : Fin 5632 → EReal := fun j => b (ValueIdx.ix3 0 0 j)

/-- The product, the weights and the biases. -/
def h : Arr 2048 5632 := m ((c : Thread nD τ).loc main_arg0)
def w : Arr 3 5632 := m ((c : Thread nD τ).loc main_arg1)
def b : Fin 5632 → EReal := biasOf (m ((c : Thread nD τ).loc main_arg2))

theorem ix3_of {l m n : ℕ} {p : (⟨3, ![l, m, n]⟩ : Shape).Idx} {a : Fin l} {b : Fin m} {c : Fin n} (h0 : (p 0).val = a.val) (h1 : (p 1).val = b.val)
    (h2 : (p 2).val = c.val) : p = ValueIdx.ix3 a b c :=
  funext fun d => Fin.ext (match d with | ⟨0, _⟩ => h0 | ⟨1, _⟩ => h1 | ⟨2, _⟩ => h2)

/-- A block's biases. -/
abbrev Row1 : Type := (⟨3, ![1, 1, 128]⟩ : Shape).Idx → EReal

/-- In the first eight rows a row turned down by `s` counts from row `s` on. -/
theorem sel1 (i : ℕ) (l : i < 8) (a : EReal) : Scalar.select (IntOp.cmpi .sge (BitVec.ofNat 32 i) 1#32) a 0 = if i < 1 then 0 else a := by
  interval_cases i <;> rfl
theorem sel2 (i : ℕ) (l : i < 8) (a : EReal) : Scalar.select (IntOp.cmpi .sge (BitVec.ofNat 32 i) 2#32) a 0 = if i < 2 then 0 else a := by
  interval_cases i <;> rfl

/-- A column read at equal rows. -/
theorem at_row (x : Arr 2048 128) (j : Fin 128) {r r' : Fin 2048} (e : r.val = r'.val) : x (ValueIdx.ix2 r j) = x (ValueIdx.ix2 r' j) :=
  congrArg (fun r => x (ValueIdx.ix2 r j)) (Fin.ext e)

/-- The first eight rows turned down by `s` and zero before row `s`, and the others read `s` rows up, are the column `s`
    rows earlier. -/
theorem shifted (x : Arr 2048 128) (s : ℕ) (hs : s < 8) (i : Fin 2048) (j : Fin 128) (u : i.val < 8 → EReal) (v : ¬i.val < 8 → EReal)
    (hu : ∀ l, u l = if i.val < s then 0 else x (ValueIdx.ix2 ⟨(i.val + 8 - s) % 8, by omega⟩ j))
    (hv : ∀ l, v l = x (ValueIdx.ix2 ⟨i.val - s, by omega⟩ j)) : (if l : i.val < 8 then u l else v l) = back s (col x j) i := by
  unfold back
  by_cases l : i.val < 8
  · rw [dif_pos l, hu]
    by_cases k : i.val < s
    · rw [if_pos k, if_pos k]
    · rw [if_neg k, if_neg k]
      exact at_row x j (by show (i.val + 8 - s) % 8 = i.val - s; omega)
  · rw [dif_neg l, hv, if_neg (by omega)]

/-- What a block convolves, from its loads: the whole block, its first eight rows, and its rows from 7 and from 6 on. -/
theorem pay1 (w : Arr 3 128) (b : Row1) (x : Arr 2048 128) (u : Arr 8 128) (x1 x2 : Arr 2040 128)
    (hu : ∀ i j, u (ValueIdx.ix2 i j) = x (ValueIdx.ix2 ⟨i.val, by omega⟩ j)) (h1 : ∀ i j, x1 (ValueIdx.ix2 i j) = x (ValueIdx.ix2 ⟨7 + i.val, by omega⟩ j))
    (h2 : ∀ i j, x2 (ValueIdx.ix2 i j) = x (ValueIdx.ix2 ⟨6 + i.val, by omega⟩ j)) (i : Fin 2048) (j : Fin 128) :
    k0_pay1 (F := Ideal) w b u x1 u x2 x (ValueIdx.ix2 i j) = conv (col x j) (taps w j) (b (ValueIdx.ix3 0 0 j)) i := by
  pointwise [k0_pay1]
  unfold conv
  rw [← shifted x 1 (by omega) i j _ _ (fun l => (sel1 i.val l _).trans (if_congr Iff.rfl rfl (hu ⟨(i.val + 8 - 1) % 8, by omega⟩ j))) (fun l => (h1 ⟨i.val - 8, by omega⟩ j).trans (at_row x j (by show 7 + (i.val - 8) = i.val - 1; omega))),
    ← shifted x 2 (by omega) i j _ _ (fun l => (sel2 i.val l _).trans (if_congr Iff.rfl rfl (hu ⟨(i.val + 8 - 2) % 8, by omega⟩ j))) (fun l => (h2 ⟨i.val - 8, by omega⟩ j).trans (at_row x j (by show 6 + (i.val - 8) = i.val - 2; omega)))]
  refine congrArg (· + _) ?_
  rw [add_comm, add_comm (_ * _ : EReal) (_ * _), ← add_assoc]
  rfl

theorem pay2 (a : Arr 2048 128) (w : Arr 3 128) (b : Row1) (x : Arr 2048 128) (u : Arr 8 128) (x1 x2 : Arr 2040 128) (y) :
    k0_pay2 (F := Ideal) a w b u x1 u x2 x y = act (a y) (k0_pay1 (F := Ideal) w b u x1 u x2 x y) := by
  pointwise [k0_pay2, k0_pay1]
  rfl

/-- The loads of a block. -/
theorem ld8 (x : Arr 2048 128) (i : Fin 8) (j : Fin 128) : View.ld (Val := Elt Ideal) (e' := .f32) x r0_2 (ValueIdx.ix2 i j) = x (ValueIdx.ix2 ⟨i.val, by omega⟩ j) :=
  congrArg x (ix2_of (by show 0 + 1 * i.val = i.val; omega) (by show 0 + 1 * j.val = j.val; omega))
theorem ld7 (x : Arr 2048 128) (i : Fin 2040) (j : Fin 128) : View.ld (Val := Elt Ideal) (e' := .f32) x r0_3 (ValueIdx.ix2 i j) = x (ValueIdx.ix2 ⟨7 + i.val, by omega⟩ j) :=
  congrArg x (ix2_of (by show 7 + 1 * i.val = 7 + i.val; omega) (by show 0 + 1 * j.val = j.val; omega))
theorem ld6 (x : Arr 2048 128) (i : Fin 2040) (j : Fin 128) : View.ld (Val := Elt Ideal) (e' := .f32) x r0_4 (ValueIdx.ix2 i j) = x (ValueIdx.ix2 ⟨6 + i.val, by omega⟩ j) :=
  congrArg x (ix2_of (by show 6 + 1 * i.val = 6 + i.val; omega) (by show 0 + 1 * j.val = j.val; omega))

theorem body (xa xb : Arr 2048 128) (wa wb : Arr 3 128) (ba bb : Row1) (i : Fin 2048) (j : Fin 128) :
    out0_6 (F := Ideal) xa xb wa wb ba bb (ValueIdx.ix2 i j) =
      act (conv (col xa j) (taps wa j) (ba (ValueIdx.ix3 0 0 j)) i) (conv (col xb j) (taps wb j) (bb (ValueIdx.ix3 0 0 j)) i) := by
  unfold out0_6
  frame_out
  exact (pay2 _ wb bb xb _ _ _ _).trans (congrArg₂ act (pay1 wa ba xa _ _ _ (ld8 xa) (ld7 xa) (ld6 xa) i j) (pay1 wb bb xb _ _ _ (ld8 xb) (ld7 xb) (ld6 xb) i j))

/-- The columns of the arrays a point works on. -/
abbrev at_ (t : Fin cfg0.N) (j : Fin 128) : Fin 2816 := ⟨t.val * 128 + j.val, by have : t.val < 22 := t.isLt; omega⟩

theorem idx0 : ∀ t : Fin cfg0.N, win0_0.index t = ![0, t.val] := (by decide +kernel : ∀ t : Fin grid0.N, _)
theorem idx1 : ∀ t : Fin cfg0.N, win0_1.index t = ![0, t.val + 22] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val + 22] := (by decide +kernel : ∀ t : Fin grid0.N, _)
theorem idx4 : ∀ t : Fin cfg0.N, win0_4.index t = ![0, 0, t.val] := (by decide +kernel : ∀ t : Fin grid0.N, _)
theorem idx5 : ∀ t : Fin cfg0.N, win0_5.index t = ![0, 0, t.val + 22] := (by decide +kernel : ∀ t : Fin grid0.N, _)
theorem idx6 : ∀ t : Fin cfg0.N, win0_6.index t = ![0, t.val] := (by decide +kernel : ∀ t : Fin grid0.N, _)

theorem right (t j : ℕ) : (t + 22) * 128 + j = 2816 + (t * 128 + j) := by omega

theorem col_a (t : Fin cfg0.N) (j : Fin 128) : col (n := 128) (iblk m c 0 t) j = col (h m c) (lo (at_ t j)) := funext fun i => by
  refine congrArg (h m c) (ix2_of ?_ ?_) <;> blk_simp [idx0 t] <;> rfl
theorem col_b (t : Fin cfg0.N) (j : Fin 128) : col (n := 128) (iblk m c 1 t) j = col (h m c) (hi (at_ t j)) := funext fun i => by
  refine congrArg (h m c) (ix2_of ?_ ?_) <;> blk_simp [idx1 t]
  exact right t.val j.val
theorem taps_a (t : Fin cfg0.N) (j : Fin 128) : taps (n := 128) (iblk m c 2 t) j = taps (w m c) (lo (at_ t j)) := funext fun i => by
  refine congrArg (w m c) (ix2_of ?_ ?_) <;> blk_simp [idx2 t] <;> rfl
theorem taps_b (t : Fin cfg0.N) (j : Fin 128) : taps (n := 128) (iblk m c 3 t) j = taps (w m c) (hi (at_ t j)) := funext fun i => by
  refine congrArg (w m c) (ix2_of ?_ ?_) <;> blk_simp [idx3 t]
  exact right t.val j.val
theorem bias_a (t : Fin cfg0.N) (j : Fin 128) : (iblk m c 4 t : Row1) (ValueIdx.ix3 0 0 j) = b m c (lo (at_ t j)) := by
  refine congrArg (m ((c : Thread nD τ).loc main_arg2)) (ix3_of ?_ ?_ ?_) <;> blk_simp [idx4 t] <;> rfl
theorem bias_b (t : Fin cfg0.N) (j : Fin 128) : (iblk m c 5 t : Row1) (ValueIdx.ix3 0 0 j) = b m c (hi (at_ t j)) := by
  refine congrArg (m ((c : Thread nD τ).loc main_arg2)) (ix3_of ?_ ?_ ?_) <;> blk_simp [idx5 t]
  · rfl
  · rfl
  · exact right t.val j.val

theorem arr : (dats m 0 c).arrAt 6 cfg0.N = out (h m c) (w m c) (b m c) := by
  refine Dat.arrAt_eq_of_covers (dats m 0 c) 6 _ (by decide +kernel) fun t hf y => ?_
  have e : (win0_6.blk t).view.emb y = ValueIdx.ix2 (y 0) (at_ t (y 1)) := by
    refine ix2_of ?_ ?_ <;> blk_simp [idx6 t] <;> rfl
  blk_simp
  rw [after0_6, e]
  obtain ⟨i, j, rfl⟩ : ∃ i j, y = ValueIdx.ix2 i j := ⟨_, _, ValueIdx.eq_ix2 y⟩
  refine (body _ _ _ _ _ _ i j).trans ?_
  rw [col_a, col_b, taps_a, taps_b, bias_a, bias_b]
  rfl

/-- Both runs end with the activation of the convolution's halves. -/
theorem agree : algebraic_ConvFwdIdeal_ConvFwdRefIdeal (hConvFwdIdeal := Cert.ConvFwdIdeal.Gen.facts) (hConvFwdRefIdeal := Cert.ConvFwdRefIdeal.Gen.facts) := by
  intro m g₀ m' g' _ hagree
  refine ⟨fun c => out (h m c) (w m c) (b m c), ?_, ?_⟩
  · refine (θ_run _ _ _).mono (fun r h c => ?_) (Cert.ConvFwdIdeal.Value.run_blocks (F := Ideal) m g₀)
    exact ⟨(h c).1.trans (arr m c), (h c).2⟩
  · refine (θ_run _ _ _).mono (fun r h c => ?_) (Cert.ConvFwdRefIdeal.Value.run (F := Ideal) m' g')
    obtain ⟨e0, e1, e2⟩ := hagree c
    obtain ⟨h0, h1⟩ := h c
    refine ⟨h0.trans ?_, h1⟩
    unfold Cert.ConvFwdRefIdeal.Value.res_main_v27
    rw [e0, e1, e2]
    funext y
    obtain ⟨i, j, rfl⟩ : ∃ i j, y = ValueIdx.ix2 i j := ⟨_, _, ValueIdx.eq_ix2 y⟩
    pointwise
    rfl

/-- The reference leaves its arguments unchanged. -/
theorem frame_reference : quiescent_ConvFwdRefIdeal (hConvFwdRefIdeal := Cert.ConvFwdRefIdeal.Gen.facts) := fun m g _ =>
  (θ_run _ _ _).mono (fun r h => ⟨fun c => (h c).2, sem_eq_zero_of_no_sems (by decide) r.2⟩) (Cert.ConvFwdRefIdeal.Value.run (F := Ideal) m g)

end Cert.ConvFwdIdeal.Val

end
-- ==== Proof.ConvFwd1Val.lean ====
/-
  The convolution and the activation after the feed-forward block's first product, in the second layer:
  what the kernel's array holds when it returns, and that it is the reference's.
-/
module

public import proofs.«01_k».proof.Proof.ConvFwdVal
public import proofs.«01_k».proof.Proof.Gen.ConvFwd1Ideal.Value
public import proofs.«01_k».proof.Proof.Gen.ConvFwd1RefIdeal.Run
public import proofs.«01_k».proof.Defs
public import Idealize.ShloMosaic.Lib.Quiescent
public import Idealize.ShloMosaic.Lib.Pipeline.ValueKit.Geometry
public import Idealize.ShloMosaic.Lib.Pointwise

@[expose] public section

set_option maxRecDepth 16384

noncomputable section

open Idealize.ShloMosaic Idealize.ShloMosaic.Pipeline Idealize.ShloMosaic.TcCoe Idealize.ShloMosaic.Tactic Idealize.SL.Sem Idealize.ShloMosaic.ValueIdx

namespace Cert.ConvFwd1Ideal.Val

open Cert.ConvFwd1Ideal Cert.ConvFwd1Ideal.Gen Mat Conv
open Cert.ConvFwdIdeal.Val (Bias Row1 ix3_of right)

variable (m : (ℓ : Loc nD τ sig) → Buf (Elt Ideal) ℓ) (ρ : Dev nD → PrngReg) (c : Dev nD)

/-- The second layer's biases as one row. -/
abbrev biasOf (b : Bias) : Fin 5632 → EReal := fun j => b (ValueIdx.ix3 1 0 j)

/-- The product, the weights and the biases. -/
def h : Arr 2048 5632 := m ((c : Thread nD τ).loc main_arg0)
def w : Arr 3 5632 := m ((c : Thread nD τ).loc main_arg1)
def b : Fin 5632 → EReal := biasOf (m ((c : Thread nD τ).loc main_arg2))

/-- A point's body is the first layer's. -/
theorem body (xa xb : Arr 2048 128) (wa wb : Arr 3 128) (ba bb : Row1) (i : Fin 2048) (j : Fin 128) :
    out0_6 (F := Ideal) xa xb wa wb ba bb (ValueIdx.ix2 i j) =
      act (conv (col xa j) (taps wa j) (ba (ValueIdx.ix3 0 0 j)) i) (conv (col xb j) (taps wb j) (bb (ValueIdx.ix3 0 0 j)) i) :=
  Cert.ConvFwdIdeal.Val.body xa xb wa wb ba bb i j

/-- The columns of the arrays a point works on. -/
abbrev at_ (t : Fin cfg0.N) (j : Fin 128) : Fin 2816 := ⟨t.val * 128 + j.val, by have : t.val < 22 := t.isLt; omega⟩

theorem idx0 : ∀ t : Fin cfg0.N, win0_0.index t = ![0, t.val] := (by decide +kernel : ∀ t : Fin grid0.N, _)
theorem idx1 : ∀ t : Fin cfg0.N, win0_1.index t = ![0, t.val + 22] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val + 22] := (by decide +kernel : ∀ t : Fin grid0.N, _)
theorem idx4 : ∀ t : Fin cfg0.N, win0_4.index t = ![1, 0, t.val] := (by decide +kernel : ∀ t : Fin grid0.N, _)
theorem idx5 : ∀ t : Fin cfg0.N, win0_5.index t = ![1, 0, t.val + 22] := (by decide +kernel : ∀ t : Fin grid0.N, _)
theorem idx6 : ∀ t : Fin cfg0.N, win0_6.index t = ![0, t.val] := (by decide +kernel : ∀ t : Fin grid0.N, _)

theorem col_a (t : Fin cfg0.N) (j : Fin 128) : col (n := 128) (iblk m c 0 t) j = col (h m c) (lo (at_ t j)) := funext fun i => by
  refine congrArg (h m c) (ix2_of ?_ ?_) <;> blk_simp [idx0 t] <;> rfl
theorem col_b (t : Fin cfg0.N) (j : Fin 128) : col (n := 128) (iblk m c 1 t) j = col (h m c) (hi (at_ t j)) := funext fun i => by
  refine congrArg (h m c) (ix2_of ?_ ?_) <;> blk_simp [idx1 t]
  exact right t.val j.val
theorem taps_a (t : Fin cfg0.N) (j : Fin 128) : taps (n := 128) (iblk m c 2 t) j = taps (w m c) (lo (at_ t j)) := funext fun i => by
  refine congrArg (w m c) (ix2_of ?_ ?_) <;> blk_simp [idx2 t] <;> rfl
theorem taps_b (t : Fin cfg0.N) (j : Fin 128) : taps (n := 128) (iblk m c 3 t) j = taps (w m c) (hi (at_ t j)) := funext fun i => by
  refine congrArg (w m c) (ix2_of ?_ ?_) <;> blk_simp [idx3 t]
  exact right t.val j.val
theorem bias_a (t : Fin cfg0.N) (j : Fin 128) : (iblk m c 4 t : Row1) (ValueIdx.ix3 0 0 j) = b m c (lo (at_ t j)) := by
  refine congrArg (m ((c : Thread nD τ).loc main_arg2)) (ix3_of ?_ ?_ ?_) <;> blk_simp [idx4 t] <;> rfl
theorem bias_b (t : Fin cfg0.N) (j : Fin 128) : (iblk m c 5 t : Row1) (ValueIdx.ix3 0 0 j) = b m c (hi (at_ t j)) := by
  refine congrArg (m ((c : Thread nD τ).loc main_arg2)) (ix3_of ?_ ?_ ?_) <;> blk_simp [idx5 t]
  · rfl
  · rfl
  · exact right t.val j.val

theorem arr : (dats m 0 c).arrAt 6 cfg0.N = out (h m c) (w m c) (b m c) := by
  refine Dat.arrAt_eq_of_covers (dats m 0 c) 6 _ (by decide +kernel) fun t hf y => ?_
  have e : (win0_6.blk t).view.emb y = ValueIdx.ix2 (y 0) (at_ t (y 1)) := by
    refine ix2_of ?_ ?_ <;> blk_simp [idx6 t] <;> rfl
  blk_simp
  rw [after0_6, e]
  obtain ⟨i, j, rfl⟩ : ∃ i j, y = ValueIdx.ix2 i j := ⟨_, _, ValueIdx.eq_ix2 y⟩
  refine (body _ _ _ _ _ _ i j).trans ?_
  rw [col_a, col_b, taps_a, taps_b, bias_a, bias_b]
  rfl

/-- Both runs end with the activation of the convolution's halves. -/
theorem agree : algebraic_ConvFwd1Ideal_ConvFwd1RefIdeal (hConvFwd1Ideal := Cert.ConvFwd1Ideal.Gen.facts) (hConvFwd1RefIdeal := Cert.ConvFwd1RefIdeal.Gen.facts) := by
  intro m g₀ m' g' _ hagree
  refine ⟨fun c => out (h m c) (w m c) (b m c), ?_, ?_⟩
  · refine (θ_run _ _ _).mono (fun r h c => ?_) (Cert.ConvFwd1Ideal.Value.run_blocks (F := Ideal) m g₀)
    exact ⟨(h c).1.trans (arr m c), (h c).2⟩
  · refine (θ_run _ _ _).mono (fun r h c => ?_) (Cert.ConvFwd1RefIdeal.Value.run (F := Ideal) m' g')
    obtain ⟨e0, e1, e2⟩ := hagree c
    obtain ⟨h0, h1⟩ := h c
    refine ⟨h0.trans ?_, h1⟩
    unfold Cert.ConvFwd1RefIdeal.Value.res_main_v27
    rw [e0, e1, e2]
    funext y
    obtain ⟨i, j, rfl⟩ : ∃ i j, y = ValueIdx.ix2 i j := ⟨_, _, ValueIdx.eq_ix2 y⟩
    pointwise
    rfl

/-- The reference leaves its arguments unchanged. -/
theorem frame_reference : quiescent_ConvFwd1RefIdeal (hConvFwd1RefIdeal := Cert.ConvFwd1RefIdeal.Gen.facts) := fun m g _ =>
  (θ_run _ _ _).mono (fun r h => ⟨fun c => (h c).2, sem_eq_zero_of_no_sems (by decide) r.2⟩) (Cert.ConvFwd1RefIdeal.Value.run (F := Ideal) m g)

end Cert.ConvFwd1Ideal.Val

end
-- ==== Proof.Hold.lean ====
/-
  The zero-order hold of a diagonal recurrence, over the extended reals: 32 groups of 64 states, a step for each group; the
  discrete diagonal, the gain of the input weights, and the tiles that hold a state's 16 weights in one of the eight column
  blocks of a row of 128. First the words that a program compares to choose a group or a block.
-/
module

public import proofs.«01_k».proof.Proof.Products

@[expose] public section

set_option maxRecDepth 65536

noncomputable section

open Idealize.ShloMosaic Idealize.ShloMosaic.ValueIdx

namespace Hold

open Mat

/-! ## Words -/

/-- The quotient rounded down and the remainder of its sign, as a program writes them out of the truncating ones. -/
def floorDiv (x y : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt y 0#32)) (Scalar.extui (Scalar.cmpi .slt y 0#32))))
      (IntOp.cmpi .ne (IntOp.remsi .vector x y) 0#32))
    (IntOp.subi (IntOp.divsi .vector x y) 1#32) (IntOp.divsi .vector x y)
def floorRem (x y : BitVec 32) : BitVec 32 :=
  Scalar.select
    (IntOp.andi
      (IntOp.xori (IntOp.cmpi .slt (IntOp.remsi .vector x (Scalar.select (Scalar.cmpi .eq y 0#32) 1#32 y)) 0#32)
        (Scalar.cmpi .slt (Scalar.select (Scalar.cmpi .eq y 0#32) 1#32 y) 0#32))
      (IntOp.cmpi .ne (IntOp.remsi .vector x (Scalar.select (Scalar.cmpi .eq y 0#32) 1#32 y)) 0#32))
    (IntOp.addi (IntOp.remsi .vector x (Scalar.select (Scalar.cmpi .eq y 0#32) 1#32 y)) (Scalar.select (Scalar.cmpi .eq y 0#32) 1#32 y))
    (IntOp.remsi .vector x (Scalar.select (Scalar.cmpi .eq y 0#32) 1#32 y))

theorem group : ∀ n : Fin 2048, floorDiv (BitVec.ofNat 32 n) 64#32 = BitVec.ofNat 32 (n / 64) := by decide +kernel
theorem slot : ∀ n : Fin 2048, floorRem (floorDiv (BitVec.ofNat 32 n) 64#32) 8#32 = BitVec.ofNat 32 (n / 64 % 8) := by decide +kernel
theorem block : ∀ l : Fin 128, floorDiv (BitVec.ofNat 32 l) 16#32 = BitVec.ofNat 32 (l / 16) := by decide +kernel
theorem lane : ∀ l : Fin 128, floorRem (BitVec.ofNat 32 l) 16#32 = BitVec.ofNat 32 (l % 16) := by decide +kernel

theorem slot_host : ∀ n : Fin 2048, IntOp.remsi .host (IntOp.divsi .host (BitVec.ofNat 32 n) 64#32) 8#32 = BitVec.ofNat 32 (n / 64 % 8) := by decide +kernel
theorem block_host : ∀ l : Fin 128, IntOp.divsi .host (BitVec.ofNat 32 l) 16#32 = BitVec.ofNat 32 (l / 16) := by decide +kernel

/-- Two small words compared, and the comparison as a number. -/
theorem eq_word {a b : ℕ} (ha : a < 2048) (hb : b < 2048) :
    IntOp.cmpi .eq (BitVec.ofNat 32 a) (BitVec.ofNat 32 b) = if a = b then 1#1 else 0#1 := by
  have h : (BitVec.ofNat 32 a = BitVec.ofNat 32 b) ↔ a = b := by
    rw [← BitVec.toNat_inj]
    simp only [BitVec.toNat_ofNat]
    rw [Nat.mod_eq_of_lt (by omega), Nat.mod_eq_of_lt (by omega)]
  show BitVec.ofBool (BitVec.ofNat 32 a == BitVec.ofNat 32 b) = _
  by_cases e : a = b
  · simp [e]
  · rw [if_neg e, beq_eq_false_iff_ne.mpr (fun k => e (h.mp k))]
    rfl
theorem num_word (p : Prop) [Decidable p] :
    (FloatOps.sitofp .f32 (BitVec.setWidth 32 (if p then 1#1 else 0#1)) : Ideal .f32) = if p then (1 : EReal) else 0 := by
  by_cases h : p <;> simp [h, FloatOps.sitofp]
theorem sel_word (p : Prop) [Decidable p] (x y : EReal) : Scalar.select (if p then 1#1 else 0#1) x y = if p then x else y := by
  by_cases h : p <;> simp [h, Scalar.select]

/-- The choice of a state's column block. -/
theorem host_mine (n : Fin 2048) (l : Fin 128) (x y : EReal) :
    Scalar.select (IntOp.cmpi .eq (IntOp.divsi .host (BitVec.ofNat 32 l) 16#32) (IntOp.remsi .host (IntOp.divsi .host (BitVec.ofNat 32 n) 64#32) 8#32)) x y
      = if n.1 / 64 % 8 = l.1 / 16 then x else y := by
  rw [slot_host, block_host, eq_word (by omega) (by omega), sel_word]
  exact if_congr eq_comm rfl rfl

/-! ## Sums that pick one term -/

/-- One, or zero, as a row's lane is or is not in the state's column block; and as it is or is not the given place of its block. -/
def mine (n : Fin 2048) (l : Fin 128) : EReal := if n.1 / 64 % 8 = l.1 / 16 then 1 else 0
def place (c : Fin 16) (l : Fin 128) : EReal := if l.1 % 16 = c.1 then 1 else 0

theorem sum_place (v : Fin 16 → EReal) (l : Fin 128) : ∑ c, v c * place c l = v ⟨l % 16, by omega⟩ := by
  rw [Finset.sum_eq_single ⟨l.1 % 16, by omega⟩]
  · simp [place]
  · intro c _ h
    rw [place, if_neg (fun e => h (Fin.ext e.symm)), mul_zero]
  · simp

/-- The lane of the row that holds a state's weight `c`. -/
abbrev home (n : Fin 2048) (c : Fin 16) : Fin 128 := ⟨16 * (n / 64 % 8) + c, by omega⟩

theorem sum_mine (v : Fin 128 → EReal) (n : Fin 2048) (c : Fin 16) : ∑ l, v l * mine n l * place c l = v (home n c) := by
  rw [Finset.sum_eq_single (home n c)]
  · rw [mine, place, if_pos (by show _ = (16 * (n.1 / 64 % 8) + c.1) / 16; omega), if_pos (by show (16 * (n.1 / 64 % 8) + c.1) % 16 = _; omega), mul_one, mul_one]
  · intro l _ h
    by_cases e : n.1 / 64 % 8 = l.1 / 16
    · rw [place, if_neg (fun k => h (Fin.ext (by show l.1 = 16 * (n.1 / 64 % 8) + c.1; omega))), mul_zero]
    · rw [mine, if_neg e, mul_zero, zero_mul]
  · simp

theorem sum_group (v : Fin 32 → EReal) (n : Fin 2048) : ∑ g : Fin 32, (if n.1 / 64 = g.1 then v g else 0) = v ⟨n / 64, by omega⟩ := by
  rw [Finset.sum_eq_single ⟨n.1 / 64, by omega⟩]
  · simp
  · intro g _ h
    rw [if_neg (fun e => h (Fin.ext e.symm))]
  · simp

theorem sum_first (v : EReal) : ∑ r : Fin 128, (if r.1 = 0 then v else 0) = v := by
  rw [Finset.sum_eq_single 0]
  · simp
  · intro r _ h
    rw [if_neg (fun e : r.1 = 0 => h (Fin.ext e))]
  · simp

/-- The first of 128 equal rows, chosen by comparing their numbers with zero. -/
theorem sum_first_word (v : EReal) : ∑ r : Fin 128, Scalar.select (IntOp.cmpi .eq (BitVec.ofNat 32 r) 0#32) v 0 = v :=
  (Finset.sum_congr rfl fun r _ => (congrArg (Scalar.select · v 0) (eq_word (by omega) (by omega : 0 < 2048))).trans (sel_word _ _ _)).trans (sum_first v)

/-! ## The hold -/

/-- The step of a state: its group's. -/
def step (t : Arr 1 32) (n : Fin 2048) : EReal := Ideal.exp (t (ix2 0 ⟨n / 64, by omega⟩))

section
variable (a b dt : EReal)
/-- The discrete diagonal: the exponential of the step times `a + i b`, its two parts. -/
def re : EReal := Ideal.exp (a * dt) * Ideal.cos (b * dt)
def im : EReal := Ideal.exp (a * dt) * Ideal.sin (b * dt)
/-- The square of the modulus of `a + i b`. -/
def den : EReal := a * a + b * b
/-- The gain `(e − 1) / (a + i b)` of the input weights, its two parts. -/
def gainRe : EReal := Ideal.div ((re a b dt - 1) * a + im a b dt * b) (den a b)
def gainIm : EReal := Ideal.div (im a b dt * a - (re a b dt - 1) * b) (den a b)
end

/-- A state's weights in its column block of a row of 128 lanes, zero outside. -/
def tiled (v : Fin 2048 → Fin 16 → EReal) : Arr 2048 128 :=
  fun y => if (y 0).1 / 64 % 8 = (y 1).1 / 16 then v (y 0) ⟨(y 1).1 % 16, by omega⟩ else 0

theorem tile_eq (v : Fin 2048 → Fin 16 → EReal) (n : Fin 2048) (l : Fin 128) :
    (∑ c, v n c * place c l) * mine n l = tiled v (ix2 n l) := by
  rw [sum_place]
  show v n _ * (if _ then _ else _) = if _ then _ else _
  split <;> simp <;> rfl

section
variable (a b : Arr 2048 1) (t : Arr 1 32) (u w : Arr 2048 16)
/-- The parts of the input weights of the discrete recurrence. -/
def weightRe (n : Fin 2048) (c : Fin 16) : EReal :=
  gainRe (a (ix2 n 0)) (b (ix2 n 0)) (step t n) * u (ix2 n c) - gainIm (a (ix2 n 0)) (b (ix2 n 0)) (step t n) * w (ix2 n c)
def weightIm (n : Fin 2048) (c : Fin 16) : EReal :=
  gainRe (a (ix2 n 0)) (b (ix2 n 0)) (step t n) * w (ix2 n c) + gainIm (a (ix2 n 0)) (b (ix2 n 0)) (step t n) * u (ix2 n c)
/-- The parts of the discrete diagonal, as a row. -/
def diagRe : Arr 1 2048 := fun y => re (a (ix2 (y 1) 0)) (b (ix2 (y 1) 0)) (step t (y 1))
def diagIm : Arr 1 2048 := fun y => im (a (ix2 (y 1) 0)) (b (ix2 (y 1) 0)) (step t (y 1))
end

end Hold

end
-- ==== Proof.ParamsFwdVal.lean ====
/-
  The zero-order hold: what the kernel's six arrays hold when it returns, and that they are the reference's.
-/
module

public import proofs.«01_k».proof.Proof.Hold
public import proofs.«01_k».proof.Proof.Gen.ParamsFwdIdeal.Value
public import proofs.«01_k».proof.Proof.Gen.ParamsFwdRefIdeal.Run
public import proofs.«01_k».proof.Defs
public import Idealize.ShloMosaic.Lib.Quiescent
public import Idealize.ShloMosaic.Lib.Pointwise

@[expose] public section

set_option maxRecDepth 16384
set_option maxHeartbeats 1000000

noncomputable section

open Idealize.ShloMosaic Idealize.ShloMosaic.Pipeline Idealize.ShloMosaic.TcCoe Idealize.ShloMosaic.Tactic Idealize.SL.Sem Idealize.ShloMosaic.ValueIdx

namespace Cert.ParamsFwdIdeal.Val

open Cert.ParamsFwdIdeal Cert.ParamsFwdIdeal.Gen Cert.ParamsFwdIdeal.Value Mat Hold

/-! ## The blocks' payloads -/

section
variable (a0 a1 : Arr 2048 1) (a2 : Arr 1 32) (a3 a4 a5 a6 : Arr 2048 16)

/-- The place of a lane in its block, and the block of a state, as numbers. -/
theorem places (c : Fin 16) (l : Fin 128) : k0_pay26 (F := Ideal) a0 a1 a2 a3 a4 a5 a6 (ValueIdx.ix2 c l) = place c l := by
  pointwise [k0_pay26, k0_pay14, k0_pay13]
  exact (congrArg (fun z => FloatOps.sitofp .f32 (BitVec.setWidth 32 (IntOp.cmpi .eq z (BitVec.ofNat 32 c)))) (lane l)).trans
    ((congrArg (fun z => FloatOps.sitofp .f32 (BitVec.setWidth 32 z)) (eq_word (by omega) (by omega))).trans (num_word _))
theorem mines (n : Fin 2048) (l : Fin 128) :
    k0_pay17 (F := Ideal) (k0_pay27 (F := Ideal) a0 a1 a2 a3 a4 a5 a6) (k0_pay25 (F := Ideal) a0 a1 a2 a3 a4 a5 a6) 16#32 (k0_pay28 (F := Ideal) a0 a1 a2 a3 a4 a5 a6) (ValueIdx.ix2 n l) = mine n l := by
  pointwise [k0_pay17, k0_pay27, k0_pay25, k0_pay28, k0_pay15, k0_pay16]
  exact (congrArg₂ (fun z w => FloatOps.sitofp .f32 (BitVec.setWidth 32 (IntOp.cmpi .eq z w))) (slot n) (block l)).trans
    ((congrArg (fun z => FloatOps.sitofp .f32 (BitVec.setWidth 32 z)) (eq_word (by omega) (by omega))).trans (num_word _))

theorem places_eq : k0_pay26 (F := Ideal) a0 a1 a2 a3 a4 a5 a6 = fun y => place (y 0) (y 1) := funext fun y => by
  obtain ⟨i, j, rfl⟩ : ∃ i j, y = ValueIdx.ix2 i j := ⟨_, _, ValueIdx.eq_ix2 y⟩
  exact places a0 a1 a2 a3 a4 a5 a6 i j

/-- A state's step: its group's, chosen by a sum with one term. -/
theorem steps (n : Fin 2048) : k0_pay3 (F := Ideal) (k0_pay24 a0 a1 a2 a3 a4 a5 a6) (ValueIdx.ix2 n 0) = step a2 n := by
  pointwise [k0_pay3, k0_pay24, k0_pay2]
  refine congrArg Ideal.exp ((Finset.sum_congr rfl fun g _ => ?_).trans (sum_group (fun g => a2 (ValueIdx.ix2 0 g)) n))
  exact (congrArg (fun z => Scalar.select (IntOp.cmpi .eq z (BitVec.ofNat 32 g)) (a2 (ValueIdx.ix2 0 g)) 0) (group n)).trans
    ((congrArg (fun z => Scalar.select z (a2 (ValueIdx.ix2 0 g)) 0) (eq_word (by omega) (by omega))).trans (sel_word _ _ _))

theorem steps_eq : k0_pay3 (F := Ideal) (k0_pay24 a0 a1 a2 a3 a4 a5 a6) = fun y => step a2 (y 0) := funext fun y => by
  obtain ⟨i, j, rfl⟩ : ∃ i j, y = ValueIdx.ix2 i j := ⟨_, _, ValueIdx.eq_ix2 y⟩
  obtain rfl : j = 0 := Subsingleton.elim _ _
  exact steps a0 a1 a2 a3 a4 a5 a6 i

/-- The weights before they are tiled. -/
theorem weights_re (n : Fin 2048) (c : Fin 16) : k0_pay11 (F := Ideal) a0 a1 a3 a4 (k0_pay24 a0 a1 a2 a3 a4 a5 a6) (ValueIdx.ix2 n c) = weightRe a0 a1 a2 a3 a4 n c := by
  pointwise [k0_pay11, k0_pay9, k0_pay10, k0_pay8, k0_pay5, k0_pay6, k0_pay4, k0_pay7]
  rw [steps_eq]
  rfl
theorem weights_im (n : Fin 2048) (c : Fin 16) : k0_pay12 (F := Ideal) a0 a1 a3 a4 (k0_pay24 a0 a1 a2 a3 a4 a5 a6) (ValueIdx.ix2 n c) = weightIm a0 a1 a2 a3 a4 n c := by
  pointwise [k0_pay12, k0_pay9, k0_pay10, k0_pay8, k0_pay5, k0_pay6, k0_pay4, k0_pay7]
  rw [steps_eq]
  rfl

theorem res7 : G7 (F := Ideal) a0 a1 a2 a3 a4 a5 a6 = tiled (weightRe a0 a1 a2 a3 a4) := by
  funext y
  obtain ⟨n, l, rfl⟩ : ∃ i j, y = ValueIdx.ix2 i j := ⟨_, _, ValueIdx.eq_ix2 y⟩
  pointwise [G7, k0_pay18]
  rw [mines, places_eq]
  exact (congrArg (· * mine n l) (Finset.sum_congr rfl fun c _ => congrArg (· * place c l) (weights_re a0 a1 a2 a3 a4 a5 a6 n c))).trans (tile_eq _ n l)
theorem res8 : G8 (F := Ideal) a0 a1 a2 a3 a4 a5 a6 = tiled (weightIm a0 a1 a2 a3 a4) := by
  funext y
  obtain ⟨n, l, rfl⟩ : ∃ i j, y = ValueIdx.ix2 i j := ⟨_, _, ValueIdx.eq_ix2 y⟩
  pointwise [G8, k0_pay19]
  rw [mines, places_eq]
  exact (congrArg (· * mine n l) (Finset.sum_congr rfl fun c _ => congrArg (· * place c l) (weights_im a0 a1 a2 a3 a4 a5 a6 n c))).trans (tile_eq _ n l)
theorem res9 : G9 (F := Ideal) a0 a1 a2 a3 a4 a5 a6 = tiled fun n c => a5 (ValueIdx.ix2 n c) := by
  funext y
  obtain ⟨n, l, rfl⟩ : ∃ i j, y = ValueIdx.ix2 i j := ⟨_, _, ValueIdx.eq_ix2 y⟩
  pointwise [G9, k0_pay20]
  rw [mines, places_eq]
  exact tile_eq (fun n c => a5 (ValueIdx.ix2 n c)) n l
theorem res10 : G10 (F := Ideal) a0 a1 a2 a3 a4 a5 a6 = tiled fun n c => a6 (ValueIdx.ix2 n c) := by
  funext y
  obtain ⟨n, l, rfl⟩ : ∃ i j, y = ValueIdx.ix2 i j := ⟨_, _, ValueIdx.eq_ix2 y⟩
  pointwise [G10, k0_pay21]
  rw [mines, places_eq]
  exact tile_eq (fun n c => a6 (ValueIdx.ix2 n c)) n l
theorem res11 : G11 (F := Ideal) a0 a1 a2 a3 a4 a5 a6 = diagRe a0 a1 a2 := by
  funext y
  obtain ⟨i, n, rfl⟩ : ∃ i j, y = ValueIdx.ix2 i j := ⟨_, _, ValueIdx.eq_ix2 y⟩
  pointwise [G11, k0_pay22, k0_pay5, k0_pay4]
  rw [steps_eq]
  exact sum_first_word _
theorem res12 : G12 (F := Ideal) a0 a1 a2 a3 a4 a5 a6 = diagIm a0 a1 a2 := by
  funext y
  obtain ⟨i, n, rfl⟩ : ∃ i j, y = ValueIdx.ix2 i j := ⟨_, _, ValueIdx.eq_ix2 y⟩
  pointwise [G12, k0_pay1, k0_pay23, k0_pay6, k0_pay4]
  rw [steps_eq]
  exact sum_first_word _
end

end Cert.ParamsFwdIdeal.Val

namespace Cert.ParamsFwdRefIdeal.Val

open Cert.ParamsFwdRefIdeal Cert.ParamsFwdRefIdeal.Gen Mat Hold

/-- The tiles as the reference forms them from any weights. -/
theorem copies (v : FVec Ideal S2048x16 .f32) :
    select (cmpi .eq (Host.divsi (iotaInDim S2048x128 32 1) (broadcastInDim S2048x128 ![] bcast_S_S2048x128 (constantI S_ 32 16#32)))
        (Host.remsi (Host.divsi (iotaInDim S2048x128 32 0) (broadcastInDim S2048x128 ![] bcast_S_S2048x128 (constantI S_ 32 64#32))) (broadcastInDim S2048x128 ![] bcast_S_S2048x128 (constantI S_ 32 8#32))))
      (shapeCast _ (broadcastInDim S1x2048x8x16 ![0, 1, 2, 3] bcast_S1x2048x1x16_S1x2048x8x16_0_1_2_3 (shapeCast _ v shapeCasts_S2048x16_S1x2048x1x16)) shapeCasts_S1x2048x8x16_S2048x128)
      (broadcastInDim S2048x128 ![] bcast_S_S2048x128 (id (constant (F := Ideal) S_ .f32 0x00000000#32)))
    = tiled fun n c => v (ValueIdx.ix2 n c) := by
  funext y
  obtain ⟨n, l, rfl⟩ : ∃ i j, y = ValueIdx.ix2 i j := ⟨_, _, ValueIdx.eq_ix2 y⟩
  rw [show id (constant (F := Ideal) S_ .f32 0x00000000#32) = constant S_ .f32 0x00000000#32 from rfl]
  pointwise
  exact host_mine n l _ _

end Cert.ParamsFwdRefIdeal.Val

namespace Cert.ParamsFwdIdeal.Val

open Cert.ParamsFwdIdeal Cert.ParamsFwdIdeal.Gen Mat Hold

variable (m : (ℓ : Loc nD τ sig) → Buf (Elt Ideal) ℓ) (c : Dev nD)

/-- The arguments: the two parts of the rates, the logarithms of the steps, the input and the output weights. -/
def rateRe : Arr 2048 1 := m ((c : Thread nD τ).loc main_arg0)
def rateIm : Arr 2048 1 := m ((c : Thread nD τ).loc main_arg1)
def logStep : Arr 1 32 := m ((c : Thread nD τ).loc main_arg2)
def inRe : Arr 2048 16 := m ((c : Thread nD τ).loc main_arg3)
def inIm : Arr 2048 16 := m ((c : Thread nD τ).loc main_arg4)
def outRe : Arr 2048 16 := m ((c : Thread nD τ).loc main_arg5)
def outIm : Arr 2048 16 := m ((c : Thread nD τ).loc main_arg6)

/-- Both runs end with the tiles of the four weights and the two parts of the diagonal. -/
theorem agree : algebraic_ParamsFwdIdeal_ParamsFwdRefIdeal (hParamsFwdIdeal := Cert.ParamsFwdIdeal.Gen.facts) (hParamsFwdRefIdeal := Cert.ParamsFwdRefIdeal.Gen.facts) := by
  intro m g₀ m' g' _ hagree
  refine ⟨fun c => tiled (weightRe (rateRe m c) (rateIm m c) (logStep m c) (inRe m c) (inIm m c)),
    fun c => tiled (weightIm (rateRe m c) (rateIm m c) (logStep m c) (inRe m c) (inIm m c)),
    fun c => tiled fun n k => outRe m c (ValueIdx.ix2 n k), fun c => tiled fun n k => outIm m c (ValueIdx.ix2 n k),
    fun c => diagRe (rateRe m c) (rateIm m c) (logStep m c), fun c => diagIm (rateRe m c) (rateIm m c) (logStep m c), ?_, ?_⟩
  · refine (θ_run _ _ _).mono (fun r h c => ?_) (Cert.ParamsFwdIdeal.Value.run (F := Ideal) m g₀)
    obtain ⟨h0, h1, h2, h3, h4, h5, hk⟩ := h c
    exact ⟨h0.trans (res7 _ _ _ _ _ _ _), h1.trans (res8 _ _ _ _ _ _ _), h2.trans (res9 _ _ _ _ _ _ _), h3.trans (res10 _ _ _ _ _ _ _),
      h4.trans (res11 _ _ _ _ _ _ _), h5.trans (res12 _ _ _ _ _ _ _), hk⟩
  · refine (θ_run _ _ _).mono (fun r h c => ?_) (Cert.ParamsFwdRefIdeal.Value.run (F := Ideal) m' g')
    obtain ⟨e0, e1, e2, e3, e4, e5, e6⟩ := hagree c
    obtain ⟨h0, h1, h2, h3, h4, h5, hk⟩ := h c
    refine ⟨h0.trans ?_, h1.trans ?_, h2.trans ?_, h3.trans ?_, h4.trans ?_, h5.trans ?_, hk⟩
    · rw [e0, e1, e2, e3, e4]
      refine (Cert.ParamsFwdRefIdeal.Val.copies _).trans (congrArg tiled (funext fun n => funext fun k => ?_))
      pointwise
      rfl
    · rw [e0, e1, e2, e3, e4]
      refine (Cert.ParamsFwdRefIdeal.Val.copies _).trans (congrArg tiled (funext fun n => funext fun k => ?_))
      pointwise
      rfl
    · rw [e5]
      exact Cert.ParamsFwdRefIdeal.Val.copies _
    · rw [e6]
      exact Cert.ParamsFwdRefIdeal.Val.copies _
    · rw [e0, e1, e2]
      funext y
      obtain ⟨i, n, rfl⟩ : ∃ i j, y = ValueIdx.ix2 i j := ⟨_, _, ValueIdx.eq_ix2 y⟩
      pointwise
      rfl
    · rw [e0, e1, e2]
      funext y
      obtain ⟨i, n, rfl⟩ : ∃ i j, y = ValueIdx.ix2 i j := ⟨_, _, ValueIdx.eq_ix2 y⟩
      pointwise
      rfl

/-- The reference leaves its arguments unchanged. -/
theorem frame_reference : quiescent_ParamsFwdRefIdeal (hParamsFwdRefIdeal := Cert.ParamsFwdRefIdeal.Gen.facts) := fun m g _ =>
  (θ_run _ _ _).mono (fun r h => ⟨fun c => (h c).2.2.2.2.2.2, sem_eq_zero_of_no_sems (by decide) r.2⟩) (Cert.ParamsFwdRefIdeal.Value.run (F := Ideal) m g)

end Cert.ParamsFwdIdeal.Val

end
-- ==== Proof.HoldGrad.lean ====
/-
  The gradient of the zero-order hold, over the extended reals, state by state: from the cotangents of the four tiled weights
  and of the two parts of the diagonal, those of the rates, of the logarithms of the steps and of the four weights.
-/
module

public import proofs.«01_k».proof.Proof.Hold

@[expose] public section

noncomputable section

open Idealize.ShloMosaic Idealize.ShloMosaic.ValueIdx

namespace Hold

open Mat

section
variable (x y dt p q a b : EReal)

/-- The gain's numerators. -/
def topRe : EReal := (re x y dt - 1) * x + im x y dt * y
def topIm : EReal := im x y dt * x - (re x y dt - 1) * y
/-- One over the square of the denominator. -/
def inv2 : EReal := Ideal.div 1 (den x y * den x y)
/-- From the gain's cotangents `q + i p` and the diagonal's `a + i b`: the cotangent of the denominator, and of the diagonal's
    parts. -/
def dDen : EReal := -(p * inv2 x y * topIm x y dt) + -(q * inv2 x y * topRe x y dt)
def dIm : EReal := b + Ideal.div p (den x y) * x + Ideal.div q (den x y) * y
def dRe : EReal := a + -Ideal.div p (den x y) * y + Ideal.div q (den x y) * x
/-- The cotangent of the angle through the sine and through the cosine, and of the exponent. -/
def dSin : EReal := Ideal.exp (x * dt) * dIm x y p q b * Ideal.cos (y * dt)
def dCos : EReal := -(Ideal.exp (x * dt) * dRe x y p q a) * Ideal.sin (y * dt)
def dExp : EReal := (dIm x y p q b * Ideal.sin (y * dt) + dRe x y p q a * Ideal.cos (y * dt)) * Ideal.exp (x * dt)
/-- The gradients in the two parts of the rate and a state's share of the gradient in the logarithm of the step. -/
def dx : EReal :=
  im x y dt * Ideal.div p (den x y) + (re x y dt - 1) * Ideal.div q (den x y) + x * dDen x y dt p q + dDen x y dt p q * x
    + dExp x y dt p q a b * dt
def dy : EReal :=
  (re x y dt - 1) * -Ideal.div p (den x y) + im x y dt * Ideal.div q (den x y) + y * dDen x y dt p q + dDen x y dt p q * y
    + dSin x y dt p q b * dt + dCos x y dt p q a * dt
def dLog : EReal := (y * dSin x y dt p q b + y * dCos x y dt p q a + x * dExp x y dt p q a b) * dt
end

/-- A group's states. -/
abbrev member (g : Fin 32) (k : Fin 64) : Fin 2048 := ⟨g * 64 + k, by omega⟩

/-- The cotangent of a state's weight: the tile's entry that holds it. -/
def untiled (g : Arr 2048 128) (n : Fin 2048) (c : Fin 16) : EReal := g (ix2 n (home n c))

section
variable (u w : Arr 2048 16) (gRe gIm : Arr 2048 128) (n : Fin 2048)
/-- The cotangents of the gain's parts: sums over a state's 16 weights. -/
def dGainIm : EReal := ∑ c, untiled gIm n c * u (ix2 n c) + ∑ c, -untiled gRe n c * w (ix2 n c)
def dGainRe : EReal := ∑ c, untiled gIm n c * w (ix2 n c) + ∑ c, untiled gRe n c * u (ix2 n c)
end

section
variable (a b : Arr 2048 1) (t : Arr 1 32) (u w : Arr 2048 16) (gRe gIm : Arr 2048 128) (dRe dIm : Arr 1 2048)
/-- The gradients of all states: in the parts of the rates, in the logarithms of the steps, summed over a group's 64 states,
    and in the weights. -/
def gradRe : Arr 2048 1 := fun y =>
  dx (a (ix2 (y 0) 0)) (b (ix2 (y 0) 0)) (step t (y 0)) (dGainIm u w gRe gIm (y 0)) (dGainRe u w gRe gIm (y 0)) (dRe (ix2 0 (y 0))) (dIm (ix2 0 (y 0)))
def gradIm : Arr 2048 1 := fun y =>
  dy (a (ix2 (y 0) 0)) (b (ix2 (y 0) 0)) (step t (y 0)) (dGainIm u w gRe gIm (y 0)) (dGainRe u w gRe gIm (y 0)) (dRe (ix2 0 (y 0))) (dIm (ix2 0 (y 0)))
def shareLog (n : Fin 2048) : EReal :=
  dLog (a (ix2 n 0)) (b (ix2 n 0)) (step t n) (dGainIm u w gRe gIm n) (dGainRe u w gRe gIm n) (dRe (ix2 0 n)) (dIm (ix2 0 n))
def gradLog : Arr 1 32 := fun y => ∑ k : Fin 64, shareLog a b t u w gRe gIm dRe dIm (member (y 1) k)
def gradInRe : Arr 2048 16 := fun y =>
  gainIm (a (ix2 (y 0) 0)) (b (ix2 (y 0) 0)) (step t (y 0)) * untiled gIm (y 0) (y 1) + gainRe (a (ix2 (y 0) 0)) (b (ix2 (y 0) 0)) (step t (y 0)) * untiled gRe (y 0) (y 1)
def gradInIm : Arr 2048 16 := fun y =>
  gainRe (a (ix2 (y 0) 0)) (b (ix2 (y 0) 0)) (step t (y 0)) * untiled gIm (y 0) (y 1) + gainIm (a (ix2 (y 0) 0)) (b (ix2 (y 0) 0)) (step t (y 0)) * -untiled gRe (y 0) (y 1)
end

theorem rows : 2048 = 32 * 64 := rfl

/-- A sum over all states of those in one group. -/
theorem sum_states (f : Fin 2048 → EReal) (g : Fin 32) :
    ∑ n : Fin 2048, (if n.1 / 64 = g.1 then f n else 0) = ∑ k : Fin 64, f (member g k) := by
  rw [← Fin.sum_mul_add_fin 32 64 _ rows, Finset.sum_eq_single g]
  · refine Finset.sum_congr rfl fun k _ => if_pos (by show (g.1 * 64 + k.1) / 64 = g.1; omega)
  · intro s _ h
    exact Finset.sum_eq_zero fun k _ => if_neg fun e : (s.1 * 64 + k.1) / 64 = g.1 => h (Fin.ext (by omega))
  · simp

/-- The eight blocks of a row, the others' entries zero: the entry of the state's own block. -/
theorem sum_blocks (v : Fin 128 → EReal) (n : Fin 2048) (c : Fin 16) :
    ∑ k : Fin 8, (if n.1 / 64 % 8 = (k.1 * 16 + c.1) / 16 then v ⟨k.1 * 16 + c, by omega⟩ else 0) = v (home n c) := by
  rw [Finset.sum_eq_single ⟨n.1 / 64 % 8, by omega⟩]
  · rw [if_pos (by show _ = (n.1 / 64 % 8 * 16 + c.1) / 16; omega)]
    exact congrArg v (Fin.ext (by show n.1 / 64 % 8 * 16 + c.1 = 16 * (n.1 / 64 % 8) + c.1; omega))
  · intro k _ h
    exact if_neg fun e => h (Fin.ext (by show k.1 = n.1 / 64 % 8; omega))
  · simp

end Hold

end
-- ==== Proof.ParamsBwdVal.lean ====
/-
  The gradient of the zero-order hold: what the kernel's seven arrays hold when it returns, and that they are the reference's.
-/
module

public import proofs.«01_k».proof.Proof.HoldGrad
public import proofs.«01_k».proof.Proof.Gen.ParamsBwdIdeal.Value
public import proofs.«01_k».proof.Proof.Gen.ParamsBwdRefIdeal.Run
public import proofs.«01_k».proof.Defs
public import Idealize.ShloMosaic.Lib.Quiescent
public import Idealize.ShloMosaic.Lib.Pointwise
public import Idealize.ShloMosaic.Lib.IdealHost

@[expose] public section

set_option maxRecDepth 16384
set_option maxHeartbeats 1000000

noncomputable section

open Idealize.ShloMosaic Idealize.ShloMosaic.Pipeline Idealize.ShloMosaic.TcCoe Idealize.ShloMosaic.Tactic Idealize.SL.Sem Idealize.ShloMosaic.ValueIdx

namespace Cert.ParamsBwdIdeal.Val

open Cert.ParamsBwdIdeal Cert.ParamsBwdIdeal.Gen Cert.ParamsBwdIdeal.Value Mat Hold

/-! ## The blocks' payloads -/

/-- The states of a group, as a mask. -/
theorem groups : k0_pay2 = fun y => if (y 0).1 / 64 = (y 1).1 then 1#1 else 0#1 := funext fun y => by
  obtain ⟨n, g, rfl⟩ : ∃ i j, y = ValueIdx.ix2 i j := ⟨_, _, ValueIdx.eq_ix2 y⟩
  pointwise [k0_pay2]
  exact (congrArg (IntOp.cmpi .eq · (BitVec.ofNat 32 g)) (group n)).trans (eq_word (by omega) (by omega))

section
variable (a0 a1 : Arr 2048 1) (a2 : Arr 1 32) (a3 a4 a5 a6 : Arr 2048 16) (a7 a8 a9 a10 : Arr 2048 128) (a11 a12 : Arr 1 2048)

/-- Reading a whole array. -/
theorem all1 (a : Vec Ideal S1x32 .f32) : View.ld a r0_1 = a := View.ld_unit_zero hz0 _ a
theorem all3 (a : Vec Ideal S2048x128 .f32) : View.ld a r0_3 = a := View.ld_unit_zero hz0 _ a
theorem all4 (a : Vec Ideal S1x2048 .f32) : View.ld a r0_4 = a := View.ld_unit_zero hz0 _ a

/-- The place of a lane in its block, and the block of a state, as numbers. -/
theorem places : k0_pay65 (F := Ideal) a0 a1 a2 a3 a4 a5 a6 a7 a8 a9 a10 a11 a12 = fun y => place (y 0) (y 1) := funext fun y => by
  obtain ⟨c, l, rfl⟩ : ∃ i j, y = ValueIdx.ix2 i j := ⟨_, _, ValueIdx.eq_ix2 y⟩
  pointwise [k0_pay65, k0_pay20]
  exact (congrArg (fun z => FloatOps.sitofp .f32 (BitVec.setWidth 32 (IntOp.cmpi .eq z (BitVec.ofNat 32 c)))) (lane l)).trans
    ((congrArg (fun z => FloatOps.sitofp .f32 (BitVec.setWidth 32 z)) (eq_word (by omega) (by omega))).trans (num_word _))
theorem mines : k0_pay66 (F := Ideal) a0 a1 a2 a3 a4 a5 a6 a7 a8 a9 a10 a11 a12 = fun y => mine (y 0) (y 1) := funext fun y => by
  obtain ⟨n, l, rfl⟩ : ∃ i j, y = ValueIdx.ix2 i j := ⟨_, _, ValueIdx.eq_ix2 y⟩
  pointwise [k0_pay66, k0_pay25, k0_pay22, k0_pay21, k0_pay23, k0_pay24]
  exact (congrArg₂ (fun z w => FloatOps.sitofp .f32 (BitVec.setWidth 32 (IntOp.cmpi .eq z w))) (slot n) (block l)).trans
    ((congrArg (fun z => FloatOps.sitofp .f32 (BitVec.setWidth 32 z)) (eq_word (by omega) (by omega))).trans (num_word _))

/-- A state's step: its group's, chosen by a sum with one term. -/
theorem steps : k0_pay3 (F := Ideal) a2 = fun y => step a2 (y 0) := funext fun y => by
  obtain ⟨n, j, rfl⟩ : ∃ i j, y = ValueIdx.ix2 i j := ⟨_, _, ValueIdx.eq_ix2 y⟩
  pointwise [k0_pay3]
  rw [groups]
  exact congrArg Ideal.exp ((Finset.sum_congr rfl fun g _ => sel_word _ _ _).trans (sum_group (fun g => a2 (ValueIdx.ix2 0 g)) n))

/-- The cotangents of the diagonal, as columns. -/
theorem col12 : k0_pay28 (F := Ideal) (k0_pay27 a12) = fun y => a12 (ValueIdx.ix2 0 (y 0)) := funext fun y => by
  obtain ⟨n, j, rfl⟩ : ∃ i j, y = ValueIdx.ix2 i j := ⟨_, _, ValueIdx.eq_ix2 y⟩
  pointwise [k0_pay28, k0_pay27]
  exact (sum_first_word _).trans (Fin.sum_univ_one _)
theorem col11 : k0_pay29 (F := Ideal) k0_pay26 a11 = fun y => a11 (ValueIdx.ix2 0 (y 0)) := funext fun y => by
  obtain ⟨n, j, rfl⟩ : ∃ i j, y = ValueIdx.ix2 i j := ⟨_, _, ValueIdx.eq_ix2 y⟩
  pointwise [k0_pay29, k0_pay26]
  exact (sum_first_word _).trans (Fin.sum_univ_one _)

/-- The weights' cotangents, out of the tiles. -/
theorem out33 (g : Arr 2048 128) : k0_pay33 (F := Ideal) (fun y => place (y 0) (y 1)) (fun y => mine (y 0) (y 1)) g = fun y => untiled g (y 0) (y 1) := funext fun y => by
  obtain ⟨n, c, rfl⟩ : ∃ i j, y = ValueIdx.ix2 i j := ⟨_, _, ValueIdx.eq_ix2 y⟩
  pointwise [k0_pay33]
  exact sum_mine (fun l => g (ValueIdx.ix2 n l)) n c

theorem res19 : G19 (F := Ideal) a0 a1 a2 a3 a4 a5 a6 a7 a8 a9 a10 a11 a12 = fun y => untiled a10 (y 0) (y 1) := by
  show k0_pay30 _ _ _ = _
  rw [places, mines]
  exact out33 a10
theorem res18 : G18 (F := Ideal) a0 a1 a2 a3 a4 a5 a6 a7 a8 a9 a10 a11 a12 = fun y => untiled a9 (y 0) (y 1) := by
  show k0_pay31 _ _ _ = _
  rw [places, mines]
  exact out33 a9
theorem out32 (g : Arr 2048 128) : k0_pay32 (F := Ideal) (fun y => place (y 0) (y 1)) (fun y => mine (y 0) (y 1)) g = fun y => untiled g (y 0) (y 1) := out33 g

theorem sums69 : k0_pay69 (F := Ideal) a0 a1 a2 a3 a4 a5 a6 a7 a8 a9 a10 a11 a12 = fun y => dGainIm a3 a4 a7 a8 (y 0) := funext fun y => by
  obtain ⟨n, j, rfl⟩ : ∃ i j, y = ValueIdx.ix2 i j := ⟨_, _, ValueIdx.eq_ix2 y⟩
  unfold k0_pay69 k0_pay36 k0_pay34
  rw [places, mines, all3, all3, out33, out32]
  pointwise
  simp only [zero_sub]
  rfl
theorem sums70 : k0_pay70 (F := Ideal) a0 a1 a2 a3 a4 a5 a6 a7 a8 a9 a10 a11 a12 = fun y => dGainRe a3 a4 a7 a8 (y 0) := funext fun y => by
  obtain ⟨n, j, rfl⟩ : ∃ i j, y = ValueIdx.ix2 i j := ⟨_, _, ValueIdx.eq_ix2 y⟩
  unfold k0_pay70 k0_pay38
  rw [places, mines, all3, all3, out33, out32]
  pointwise
  rfl

/-- The two sums of the denominator's cotangent, and the sum of a state's share over its group. -/
theorem share71 : k0_pay71 (F := Ideal) a0 a1 a2 a3 a4 a5 a6 a7 a8 a9 a10 a11 a12
    = fun y => dGainIm a3 a4 a7 a8 (y 0) * inv2 (a0 (ValueIdx.ix2 (y 0) 0)) (a1 (ValueIdx.ix2 (y 0) 0))
        * topIm (a0 (ValueIdx.ix2 (y 0) 0)) (a1 (ValueIdx.ix2 (y 0) 0)) (step a2 (y 0)) := funext fun y => by
  obtain ⟨n, j, rfl⟩ : ∃ i j, y = ValueIdx.ix2 i j := ⟨_, _, ValueIdx.eq_ix2 y⟩
  obtain rfl : j = 0 := Subsingleton.elim _ _
  refine (show _ = k0_pay69 (F := Ideal) a0 a1 a2 a3 a4 a5 a6 a7 a8 a9 a10 a11 a12 (ValueIdx.ix2 n 0) * _ * _ from rfl).trans ?_
  rw [sums69]
  pointwise [k0_pay19, k0_pay12, k0_pay17, k0_pay11, k0_pay13, k0_pay9, k0_pay8, k0_pay6, k0_pay5, k0_pay52, k0_pay53, k0_pay4]
  rw [steps, all1]
  rfl

theorem res13 : G13 (F := Ideal) a0 a1 a2 a3 a4 a5 a6 a7 a8 a9 a10 a11 a12 = gradRe a0 a1 a2 a3 a4 a7 a8 a11 a12 := by
  funext y
  obtain ⟨n, j, rfl⟩ : ∃ i j, y = ValueIdx.ix2 i j := ⟨_, _, ValueIdx.eq_ix2 y⟩
  obtain rfl : j = 0 := Subsingleton.elim _ _
  unfold G13
  rw [sums69, sums70, share71]
  pointwise [k0_pay50, k0_pay49, k0_pay45, k0_pay44, k0_pay43, k0_pay42, k0_pay41, k0_pay40, k0_pay67, k0_pay68, k0_pay52, k0_pay53, k0_pay54, k0_pay56, k0_pay58, k0_pay59, k0_pay60, k0_pay61, k0_pay63, k0_pay16, k0_pay14, k0_pay13, k0_pay12, k0_pay11, k0_pay9, k0_pay8, k0_pay6, k0_pay5, k0_pay4]
  rw [steps, all1, all4, all4, col12, col11]
  simp only [zero_sub]
  rfl
theorem res14 : G14 (F := Ideal) a0 a1 a2 a3 a4 a5 a6 a7 a8 a9 a10 a11 a12 = gradIm a0 a1 a2 a3 a4 a7 a8 a11 a12 := by
  funext y
  obtain ⟨n, j, rfl⟩ : ∃ i j, y = ValueIdx.ix2 i j := ⟨_, _, ValueIdx.eq_ix2 y⟩
  obtain rfl : j = 0 := Subsingleton.elim _ _
  unfold G14
  rw [sums69, sums70, share71]
  pointwise [k0_pay48, k0_pay47, k0_pay46, k0_pay45, k0_pay44, k0_pay43, k0_pay42, k0_pay41, k0_pay40, k0_pay67, k0_pay68, k0_pay52, k0_pay53, k0_pay55, k0_pay57, k0_pay58, k0_pay59, k0_pay60, k0_pay61, k0_pay63, k0_pay16, k0_pay14, k0_pay13, k0_pay12, k0_pay11, k0_pay10, k0_pay9, k0_pay8, k0_pay7, k0_pay6, k0_pay5, k0_pay4]
  rw [steps, all1, all4, all4, col12, col11]
  simp only [zero_sub]
  rfl

theorem res15 : G15 (F := Ideal) a0 a1 a2 a3 a4 a5 a6 a7 a8 a9 a10 a11 a12 = gradLog a0 a1 a2 a3 a4 a7 a8 a11 a12 := by
  funext y
  obtain ⟨i, g, rfl⟩ : ∃ i j, y = ValueIdx.ix2 i j := ⟨_, _, ValueIdx.eq_ix2 y⟩
  unfold G15
  rw [sums69, sums70, groups]
  pointwise [k0_pay1]
  refine (Finset.sum_congr rfl fun n _ => (sel_word _ _ _).trans (if_congr Iff.rfl ?_ rfl)).trans (sum_states (shareLog a0 a1 a2 a3 a4 a7 a8 a11 a12) g)
  pointwise [k0_pay51, k0_pay49, k0_pay47, k0_pay46, k0_pay45, k0_pay44, k0_pay43, k0_pay41, k0_pay40, k0_pay67, k0_pay68, k0_pay52, k0_pay53, k0_pay54, k0_pay55, k0_pay56, k0_pay57, k0_pay59, k0_pay12, k0_pay10, k0_pay9, k0_pay8, k0_pay7, k0_pay6, k0_pay5, k0_pay4]
  rw [steps, all1, all4, all4, col12, col11]
  simp only [zero_sub]
  exact Fin.sum_univ_one _

theorem res16 : G16 (F := Ideal) a0 a1 a2 a3 a4 a5 a6 a7 a8 a9 a10 a11 a12 = gradInRe a0 a1 a2 a7 a8 := by
  funext y
  obtain ⟨n, c, rfl⟩ : ∃ i j, y = ValueIdx.ix2 i j := ⟨_, _, ValueIdx.eq_ix2 y⟩
  unfold G16
  rw [places, mines]
  pointwise [k0_pay37]
  rw [out33, out32]
  pointwise [k0_pay62, k0_pay64, k0_pay18, k0_pay17, k0_pay15, k0_pay14, k0_pay13, k0_pay12, k0_pay11, k0_pay10, k0_pay9, k0_pay8, k0_pay7, k0_pay6, k0_pay5, k0_pay4, k0_pay52, k0_pay53]
  rw [steps, all1]
  rfl
theorem res17 : G17 (F := Ideal) a0 a1 a2 a3 a4 a5 a6 a7 a8 a9 a10 a11 a12 = gradInIm a0 a1 a2 a7 a8 := by
  funext y
  obtain ⟨n, c, rfl⟩ : ∃ i j, y = ValueIdx.ix2 i j := ⟨_, _, ValueIdx.eq_ix2 y⟩
  unfold G17
  rw [places, mines]
  pointwise [k0_pay35, k0_pay34]
  rw [out33, out32]
  pointwise [k0_pay62, k0_pay64, k0_pay18, k0_pay17, k0_pay15, k0_pay14, k0_pay13, k0_pay12, k0_pay11, k0_pay10, k0_pay9, k0_pay8, k0_pay7, k0_pay6, k0_pay5, k0_pay4, k0_pay52, k0_pay53]
  rw [steps, all1]
  simp only [zero_sub]
  rfl
end
end Cert.ParamsBwdIdeal.Val

namespace Cert.ParamsBwdRefIdeal.Val

open Cert.ParamsBwdRefIdeal Cert.ParamsBwdRefIdeal.Gen Cert.ParamsBwdRefIdeal.Value Mat Hold

/-- A sum over the blocks of a row. -/
theorem over_blocks (x : S1x2048x8x16.Idx → EReal) (init : EReal) (n : Fin 2048) (c : Fin 16) :
    Ideal.hostReduceAdd reducesTo_S1x2048x8x16_S2048x16_d0_2 x init (ValueIdx.ix2 n c) = init + ∑ k : Fin 8, x (ValueIdx.ix4 0 n k c) := by
  unfold Ideal.hostReduceAdd
  refine congrArg (init + ·) (Finset.sum_nbij' (fun i => i 2) (fun k => ValueIdx.ix4 0 n k c) (fun _ _ => Finset.mem_univ _) (fun k _ => ?_) (fun i hi => ?_) (fun _ _ => rfl) (fun i hi => ?_))
  · refine Finset.mem_filter.2 ⟨Finset.mem_univ _, funext fun b => Fin.ext ?_⟩
    rw [Shape.ReducesTo.drop_apply_val]
    match b with
    | 0 => rfl
    | 1 => rfl
  all_goals
    have e := (Finset.mem_filter.1 hi).2
    have e0 : (i 1 : ℕ) = n := (Shape.ReducesTo.drop_apply_val reducesTo_S1x2048x8x16_S2048x16_d0_2 i 0).symm.trans (congrArg (fun z => (z 0).1) e)
    have e1 : (i 3 : ℕ) = c := (Shape.ReducesTo.drop_apply_val reducesTo_S1x2048x8x16_S2048x16_d0_2 i 1).symm.trans (congrArg (fun z => (z 1).1) e)
    have q : ValueIdx.ix4 0 n (i 2) c = i := (congrArg₂ (fun u v => ValueIdx.ix4 0 u (i 2) v) (Fin.ext e0.symm) (Fin.ext e1.symm)).trans
      ((congrArg (fun u => ValueIdx.ix4 u (i 1) (i 2) (i 3)) (Subsingleton.elim (0 : Fin 1) (i 0))).trans (ValueIdx.eq_ix4 i).symm)
  · exact q
  · exact (congrArg x q).symm

/-- The blocks of a tile that belong to their states, the others zero, summed over a row's blocks. -/
theorem folds (g : FVec Ideal S2048x128 .f32) :
    Host.reduceAdd (shapeCast _ (select (cmpi .eq (Host.divsi (iotaInDim S2048x128 32 1) (broadcastInDim S2048x128 ![] bcast_S_S2048x128 (constantI S_ 32 16#32)))
        (Host.remsi (Host.divsi (iotaInDim S2048x128 32 0) (broadcastInDim S2048x128 ![] bcast_S_S2048x128 (constantI S_ 32 64#32))) (broadcastInDim S2048x128 ![] bcast_S_S2048x128 (constantI S_ 32 8#32))))
        g (broadcastInDim S2048x128 ![] bcast_S_S2048x128 (constant (F := Ideal) S_ .f32 0x00000000#32))) shapeCasts_S2048x128_S1x2048x8x16)
      (constant (F := Ideal) S_ .f32 0x00000000#32) reducesTo_S1x2048x8x16_S2048x16_d0_2 h_S_
    = fun y => untiled g (y 0) (y 1) := by
  funext y
  obtain ⟨n, c, rfl⟩ : ∃ i j, y = ValueIdx.ix2 i j := ⟨_, _, ValueIdx.eq_ix2 y⟩
  refine (hostReduceAdd_apply _ _ _ _ _).trans ((over_blocks _ _ n c).trans ?_)
  pointwise
  exact (Finset.sum_congr rfl fun k _ => host_mine n ⟨k.1 * 16 + c.1, by omega⟩ _ _).trans (sum_blocks (fun l => g (ValueIdx.ix2 n l)) n c)

section
variable (V : Valuation τ sig (Elt Ideal))

section
variable (n : Fin 2048)
/-- A state's two parts of the rate, its step, the cotangents of its gain and of its entry of the diagonal. -/
abbrev atRe : EReal := (V (Proc.devRef .tc main_arg0)) (ValueIdx.ix2 n 0)
abbrev atIm : EReal := (V (Proc.devRef .tc main_arg1)) (ValueIdx.ix2 n 0)
abbrev atStep : EReal := step (V (Proc.devRef .tc main_arg2)) n
abbrev cotIm : EReal := dGainIm (V (Proc.devRef .tc main_arg3)) (V (Proc.devRef .tc main_arg4)) (V (Proc.devRef .tc main_arg7)) (V (Proc.devRef .tc main_arg8)) n
abbrev cotRe : EReal := dGainRe (V (Proc.devRef .tc main_arg3)) (V (Proc.devRef .tc main_arg4)) (V (Proc.devRef .tc main_arg7)) (V (Proc.devRef .tc main_arg8)) n
abbrev atRow : EReal := (V (Proc.devRef .tc main_arg11)) (ValueIdx.ix2 0 n)
abbrev atRowIm : EReal := (V (Proc.devRef .tc main_arg12)) (ValueIdx.ix2 0 n)
end

theorem stepR : res_main_v3 V = fun y => step (V (Proc.devRef .tc main_arg2)) (y 0) := funext fun y => by
  obtain ⟨n, j, rfl⟩ : ∃ i j, y = ValueIdx.ix2 i j := ⟨_, _, ValueIdx.eq_ix2 y⟩
  obtain rfl : j = 0 := Subsingleton.elim _ _
  pointwise [res_main_v3]
  rfl
/-- The weights' cotangents, out of the tiles. -/
theorem out107 : res_main_v107 V = fun y => untiled (V (Proc.devRef .tc main_arg8)) (y 0) (y 1) := folds _
theorem out110 : res_main_v110 V = fun y => untiled (V (Proc.devRef .tc main_arg7)) (y 0) (y 1) := folds _

/-- The cotangents of the gain's parts. -/
theorem sumIm : res_main_v128 V = fun y => (cotIm V (y 0)) := funext fun y => by
  obtain ⟨n, j, rfl⟩ : ∃ i j, y = ValueIdx.ix2 i j := ⟨_, _, ValueIdx.eq_ix2 y⟩
  obtain rfl : j = 0 := Subsingleton.elim _ _
  unfold res_main_v128 res_main_v121
  rw [out107, out110]
  pointwise
  rfl
theorem sumRe : res_main_v135 V = fun y => (cotRe V (y 0)) := funext fun y => by
  obtain ⟨n, j, rfl⟩ : ∃ i j, y = ValueIdx.ix2 i j := ⟨_, _, ValueIdx.eq_ix2 y⟩
  obtain rfl : j = 0 := Subsingleton.elim _ _
  unfold res_main_v135
  rw [out107, out110]
  pointwise
  rfl
/-- The gain and what its cotangents give. -/
theorem gainReR : res_main_v22 V = fun y => gainRe (atRe V (y 0)) (atIm V (y 0)) (atStep V (y 0)) := funext fun y => by
  obtain ⟨n, j, rfl⟩ : ∃ i j, y = ValueIdx.ix2 i j := ⟨_, _, ValueIdx.eq_ix2 y⟩
  obtain rfl : j = 0 := Subsingleton.elim _ _
  unfold res_main_v22 res_main_v21 res_main_v18 res_main_v16 res_main_v13 res_main_v11 res_main_v10 res_main_v9 res_main_v7 res_main_v6 res_main_v5
  rw [stepR]
  pointwise
  rfl
theorem gainImR : res_main_v29 V = fun y => gainIm (atRe V (y 0)) (atIm V (y 0)) (atStep V (y 0)) := funext fun y => by
  obtain ⟨n, j, rfl⟩ : ∃ i j, y = ValueIdx.ix2 i j := ⟨_, _, ValueIdx.eq_ix2 y⟩
  obtain rfl : j = 0 := Subsingleton.elim _ _
  unfold res_main_v29 res_main_v28 res_main_v18 res_main_v16 res_main_v13 res_main_v11 res_main_v10 res_main_v9 res_main_v7 res_main_v6 res_main_v5
  rw [stepR]
  pointwise
  rfl
theorem denR : res_main_v150 V = fun y => dDen (atRe V (y 0)) (atIm V (y 0)) (atStep V (y 0)) (cotIm V (y 0)) (cotRe V (y 0)) := funext fun y => by
  obtain ⟨n, j, rfl⟩ : ∃ i j, y = ValueIdx.ix2 i j := ⟨_, _, ValueIdx.eq_ix2 y⟩
  obtain rfl : j = 0 := Subsingleton.elim _ _
  unfold res_main_v150 res_main_v28 res_main_v21 res_main_v18 res_main_v16 res_main_v13 res_main_v11 res_main_v10 res_main_v9 res_main_v7 res_main_v6 res_main_v5
  rw [sumIm, sumRe, stepR]
  pointwise
  rfl
theorem imR : res_main_v155 V = fun y => dIm (atRe V (y 0)) (atIm V (y 0)) (cotIm V (y 0)) (cotRe V (y 0)) (atRowIm V (y 0)) := funext fun y => by
  obtain ⟨n, j, rfl⟩ : ∃ i j, y = ValueIdx.ix2 i j := ⟨_, _, ValueIdx.eq_ix2 y⟩
  obtain rfl : j = 0 := Subsingleton.elim _ _
  unfold res_main_v155 res_main_v151 res_main_v139 res_main_v16
  rw [sumIm, sumRe]
  pointwise
  rfl
theorem reR : res_main_v159 V = fun y => dRe (atRe V (y 0)) (atIm V (y 0)) (cotIm V (y 0)) (cotRe V (y 0)) (atRow V (y 0)) := funext fun y => by
  obtain ⟨n, j, rfl⟩ : ∃ i j, y = ValueIdx.ix2 i j := ⟨_, _, ValueIdx.eq_ix2 y⟩
  obtain rfl : j = 0 := Subsingleton.elim _ _
  unfold res_main_v159 res_main_v151 res_main_v140 res_main_v139 res_main_v16
  rw [sumIm, sumRe]
  pointwise
  rfl
theorem sinR : res_main_v170 V = fun y => dSin (atRe V (y 0)) (atIm V (y 0)) (atStep V (y 0)) (cotIm V (y 0)) (cotRe V (y 0)) (atRowIm V (y 0)) := funext fun y => by
  obtain ⟨n, j, rfl⟩ : ∃ i j, y = ValueIdx.ix2 i j := ⟨_, _, ValueIdx.eq_ix2 y⟩
  obtain rfl : j = 0 := Subsingleton.elim _ _
  unfold res_main_v170 res_main_v10 res_main_v5
  rw [imR, stepR]
  pointwise
  rfl
theorem cosR : res_main_v178 V = fun y => dCos (atRe V (y 0)) (atIm V (y 0)) (atStep V (y 0)) (cotIm V (y 0)) (cotRe V (y 0)) (atRow V (y 0)) := funext fun y => by
  obtain ⟨n, j, rfl⟩ : ∃ i j, y = ValueIdx.ix2 i j := ⟨_, _, ValueIdx.eq_ix2 y⟩
  obtain rfl : j = 0 := Subsingleton.elim _ _
  unfold res_main_v178 res_main_v6 res_main_v5
  rw [reR, stepR]
  pointwise
  rfl
theorem expR : res_main_v183 V = fun y => dExp (atRe V (y 0)) (atIm V (y 0)) (atStep V (y 0)) (cotIm V (y 0)) (cotRe V (y 0)) (atRow V (y 0)) (atRowIm V (y 0)) := funext fun y => by
  obtain ⟨n, j, rfl⟩ : ∃ i j, y = ValueIdx.ix2 i j := ⟨_, _, ValueIdx.eq_ix2 y⟩
  obtain rfl : j = 0 := Subsingleton.elim _ _
  unfold res_main_v183 res_main_v11 res_main_v10 res_main_v7 res_main_v6 res_main_v5
  rw [imR, reR, stepR]
  pointwise
  rfl
end
end Cert.ParamsBwdRefIdeal.Val
namespace Cert.ParamsBwdIdeal.Val

open Cert.ParamsBwdIdeal Cert.ParamsBwdIdeal.Gen Mat Hold
open Cert.ParamsBwdRefIdeal.Val (sumIm sumRe denR sinR cosR expR stepR gainReR gainImR imR out107 out110 folds atRe atIm atStep cotIm cotRe atRow atRowIm)

variable (m : (ℓ : Loc nD τ sig) → Buf (Elt Ideal) ℓ) (c : Dev nD)

/-- The arguments: the two parts of the rates, the logarithms of the steps, the input and the output weights, and the
    cotangents of the four tiles and of the two rows of the diagonal. -/
def rateRe : Arr 2048 1 := m ((c : Thread nD τ).loc main_arg0)
def rateIm : Arr 2048 1 := m ((c : Thread nD τ).loc main_arg1)
def logStep : Arr 1 32 := m ((c : Thread nD τ).loc main_arg2)
def inRe : Arr 2048 16 := m ((c : Thread nD τ).loc main_arg3)
def inIm : Arr 2048 16 := m ((c : Thread nD τ).loc main_arg4)
def outRe : Arr 2048 16 := m ((c : Thread nD τ).loc main_arg5)
def outIm : Arr 2048 16 := m ((c : Thread nD τ).loc main_arg6)
def tileRe : Arr 2048 128 := m ((c : Thread nD τ).loc main_arg7)
def tileIm : Arr 2048 128 := m ((c : Thread nD τ).loc main_arg8)
def tileOutRe : Arr 2048 128 := m ((c : Thread nD τ).loc main_arg9)
def tileOutIm : Arr 2048 128 := m ((c : Thread nD τ).loc main_arg10)
def rowRe : Arr 1 2048 := m ((c : Thread nD τ).loc main_arg11)
def rowIm : Arr 1 2048 := m ((c : Thread nD τ).loc main_arg12)

/-- Both runs end with the gradients in the seven arguments. -/
theorem agree : algebraic_ParamsBwdIdeal_ParamsBwdRefIdeal (hParamsBwdIdeal := Cert.ParamsBwdIdeal.Gen.facts) (hParamsBwdRefIdeal := Cert.ParamsBwdRefIdeal.Gen.facts) := by
  intro m g₀ m' g' _ hagree
  refine ⟨fun c => gradRe (rateRe m c) (rateIm m c) (logStep m c) (inRe m c) (inIm m c) (tileRe m c) (tileIm m c) (rowRe m c) (rowIm m c), fun c => gradIm (rateRe m c) (rateIm m c) (logStep m c) (inRe m c) (inIm m c) (tileRe m c) (tileIm m c) (rowRe m c) (rowIm m c), fun c => gradLog (rateRe m c) (rateIm m c) (logStep m c) (inRe m c) (inIm m c) (tileRe m c) (tileIm m c) (rowRe m c) (rowIm m c), fun c => gradInRe (rateRe m c) (rateIm m c) (logStep m c) (tileRe m c) (tileIm m c), fun c => gradInIm (rateRe m c) (rateIm m c) (logStep m c) (tileRe m c) (tileIm m c),
    fun c y => untiled (tileOutRe m c) (y 0) (y 1), fun c y => untiled (tileOutIm m c) (y 0) (y 1), ?_, ?_⟩
  · refine (θ_run _ _ _).mono (fun r h c => ?_) (Cert.ParamsBwdIdeal.Value.run (F := Ideal) m g₀)
    obtain ⟨h0, h1, h2, h3, h4, h5, h6, hk⟩ := h c
    exact ⟨h0.trans (res13 _ _ _ _ _ _ _ _ _ _ _ _ _), h1.trans (res14 _ _ _ _ _ _ _ _ _ _ _ _ _), h2.trans (res15 _ _ _ _ _ _ _ _ _ _ _ _ _), h3.trans (res16 _ _ _ _ _ _ _ _ _ _ _ _ _), h4.trans (res17 _ _ _ _ _ _ _ _ _ _ _ _ _), h5.trans (res18 _ _ _ _ _ _ _ _ _ _ _ _ _), h6.trans (res19 _ _ _ _ _ _ _ _ _ _ _ _ _), hk⟩
  · refine (θ_run _ _ _).mono (fun r h c => ?_) (Cert.ParamsBwdRefIdeal.Value.run (F := Ideal) m' g')
    obtain ⟨e0, e1, e2, e3, e4, _, _, e7, e8, e9, e10, e11, e12⟩ := hagree c
    obtain ⟨h0, h1, h2, h3, h4, h5, h6, hk⟩ := h c
    have f0 : StableHlo.launchContents m' c (Proc.devRef .tc Cert.ParamsBwdRefIdeal.main_arg0) = rateRe m c := e0
    have f1 : StableHlo.launchContents m' c (Proc.devRef .tc Cert.ParamsBwdRefIdeal.main_arg1) = rateIm m c := e1
    have f2 : StableHlo.launchContents m' c (Proc.devRef .tc Cert.ParamsBwdRefIdeal.main_arg2) = logStep m c := e2
    have f3 : StableHlo.launchContents m' c (Proc.devRef .tc Cert.ParamsBwdRefIdeal.main_arg3) = inRe m c := e3
    have f4 : StableHlo.launchContents m' c (Proc.devRef .tc Cert.ParamsBwdRefIdeal.main_arg4) = inIm m c := e4
    have f7 : StableHlo.launchContents m' c (Proc.devRef .tc Cert.ParamsBwdRefIdeal.main_arg7) = tileRe m c := e7
    have f8 : StableHlo.launchContents m' c (Proc.devRef .tc Cert.ParamsBwdRefIdeal.main_arg8) = tileIm m c := e8
    have f9 : StableHlo.launchContents m' c (Proc.devRef .tc Cert.ParamsBwdRefIdeal.main_arg9) = tileOutRe m c := e9
    have f10 : StableHlo.launchContents m' c (Proc.devRef .tc Cert.ParamsBwdRefIdeal.main_arg10) = tileOutIm m c := e10
    have f11 : StableHlo.launchContents m' c (Proc.devRef .tc Cert.ParamsBwdRefIdeal.main_arg11) = rowRe m c := e11
    have f12 : StableHlo.launchContents m' c (Proc.devRef .tc Cert.ParamsBwdRefIdeal.main_arg12) = rowIm m c := e12
    refine ⟨h0.trans ?_, h1.trans ?_, h2.trans ?_, h3.trans ?_, h4.trans ?_, h5.trans ?_, h6.trans ?_, hk⟩
    · unfold Cert.ParamsBwdRefIdeal.Value.res_main_v139 Cert.ParamsBwdRefIdeal.Value.res_main_v151 Cert.ParamsBwdRefIdeal.Value.res_main_v18 Cert.ParamsBwdRefIdeal.Value.res_main_v16 Cert.ParamsBwdRefIdeal.Value.res_main_v13 Cert.ParamsBwdRefIdeal.Value.res_main_v11 Cert.ParamsBwdRefIdeal.Value.res_main_v10 Cert.ParamsBwdRefIdeal.Value.res_main_v9 Cert.ParamsBwdRefIdeal.Value.res_main_v7 Cert.ParamsBwdRefIdeal.Value.res_main_v6 Cert.ParamsBwdRefIdeal.Value.res_main_v5
      rw [sumIm, sumRe, denR, expR, stepR]
      simp only [atRe, atIm, atStep, cotIm, cotRe, atRow, atRowIm, f0, f1, f2, f3, f4, f7, f8, f11, f12]
      funext y
      obtain ⟨n, j, rfl⟩ : ∃ i j, y = ValueIdx.ix2 i j := ⟨_, _, ValueIdx.eq_ix2 y⟩
      obtain rfl : j = 0 := Subsingleton.elim _ _
      pointwise
      rfl
    · unfold Cert.ParamsBwdRefIdeal.Value.res_main_v140 Cert.ParamsBwdRefIdeal.Value.res_main_v139 Cert.ParamsBwdRefIdeal.Value.res_main_v151 Cert.ParamsBwdRefIdeal.Value.res_main_v18 Cert.ParamsBwdRefIdeal.Value.res_main_v16 Cert.ParamsBwdRefIdeal.Value.res_main_v13 Cert.ParamsBwdRefIdeal.Value.res_main_v11 Cert.ParamsBwdRefIdeal.Value.res_main_v10 Cert.ParamsBwdRefIdeal.Value.res_main_v9 Cert.ParamsBwdRefIdeal.Value.res_main_v7 Cert.ParamsBwdRefIdeal.Value.res_main_v6 Cert.ParamsBwdRefIdeal.Value.res_main_v5
      rw [sumIm, sumRe, denR, sinR, cosR, stepR]
      simp only [atRe, atIm, atStep, cotIm, cotRe, atRow, atRowIm, f0, f1, f2, f3, f4, f7, f8, f11, f12]
      funext y
      obtain ⟨n, j, rfl⟩ : ∃ i j, y = ValueIdx.ix2 i j := ⟨_, _, ValueIdx.eq_ix2 y⟩
      obtain rfl : j = 0 := Subsingleton.elim _ _
      pointwise
      rfl
    · rw [expR, sinR, cosR, stepR]
      simp only [atRe, atIm, atStep, cotIm, cotRe, atRow, atRowIm, f0, f1, f2, f3, f4, f7, f8, f11, f12]
      funext y
      obtain ⟨i, g, rfl⟩ : ∃ i j, y = ValueIdx.ix2 i j := ⟨_, _, ValueIdx.eq_ix2 y⟩
      pointwise
      rfl
    · rw [gainReR, gainImR, out107, out110]
      simp only [atRe, atIm, atStep, cotIm, cotRe, atRow, atRowIm, f0, f1, f2, f7, f8]
      funext y
      obtain ⟨n, k, rfl⟩ : ∃ i j, y = ValueIdx.ix2 i j := ⟨_, _, ValueIdx.eq_ix2 y⟩
      pointwise
      rfl
    · unfold Cert.ParamsBwdRefIdeal.Value.res_main_v121
      rw [gainReR, gainImR, out107, out110]
      simp only [atRe, atIm, atStep, cotIm, cotRe, atRow, atRowIm, f0, f1, f2, f7, f8]
      funext y
      obtain ⟨n, k, rfl⟩ : ∃ i j, y = ValueIdx.ix2 i j := ⟨_, _, ValueIdx.eq_ix2 y⟩
      pointwise
      rfl
    · rw [f9]
      exact folds _
    · rw [f10]
      exact folds _

/-- The reference leaves its arguments unchanged. -/
theorem frame_reference : quiescent_ParamsBwdRefIdeal (hParamsBwdRefIdeal := Cert.ParamsBwdRefIdeal.Gen.facts) := fun m g _ =>
  (θ_run _ _ _).mono (fun r h => ⟨fun c => (h c).2.2.2.2.2.2.2, sem_eq_zero_of_no_sems (by decide) r.2⟩) (Cert.ParamsBwdRefIdeal.Value.run (F := Ideal) m g)

end Cert.ParamsBwdIdeal.Val

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefKeep
public import proofs.«01_k».proof.Proof.Finite
public import proofs.«01_k».proof.Proof.Equation
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.Gen.FfnInRefIdeal
public import proofs.«01_k».proof.Proof.Gen.FfnInRefIdeal.Run
public import proofs.«01_k».proof.Proof.Gen.FfnInDx
public import proofs.«01_k».proof.Proof.Gen.FfnInDx.Frame
public import proofs.«01_k».proof.Proof.Gen.FfnInDxIdeal
public import proofs.«01_k».proof.Proof.Gen.FfnInDxIdeal.Frame
public import proofs.«01_k».proof.Proof.Gen.FfnInDxIdeal.Value
public import proofs.«01_k».proof.Proof.Gen.FfnInDxRefIdeal
public import proofs.«01_k».proof.Proof.Gen.FfnInDxRefIdeal.Run
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Frame
public import proofs.«01_k».proof.Proof.Gen.FfnOutRefIdeal
public import proofs.«01_k».proof.Proof.Gen.FfnOutRefIdeal.Run
public import proofs.«01_k».proof.Proof.Gen.Mixer.Frame
public import proofs.«01_k».proof.Proof.Gen.MixerIdeal.Frame
public import proofs.«01_k».proof.Proof.Gen.MixerRefIdeal.Run
public import proofs.«01_k».proof.Proof.Gen.Attention.Frame
public import proofs.«01_k».proof.Proof.Gen.AttentionIdeal.Frame
public import proofs.«01_k».proof.Proof.Gen.AttentionRefIdeal.Run
public import proofs.«01_k».proof.Proof.Gen.QkvDx0.Frame
public import proofs.«01_k».proof.Proof.Gen.QkvDx0Ideal.Frame
public import proofs.«01_k».proof.Proof.Gen.QkvDx0RefIdeal.Run
public import proofs.«01_k».proof.Proof.Gen.QkvDx0Ideal.Value
public import proofs.«01_k».proof.Proof.Gen.QkvDx1.Frame
public import proofs.«01_k».proof.Proof.Gen.QkvDx1Ideal.Frame
public import proofs.«01_k».proof.Proof.Gen.QkvDx1RefIdeal.Run
public import proofs.«01_k».proof.Proof.Gen.QkvDx1Ideal.Value
public import proofs.«01_k».proof.Proof.Gen.QkvDx2.Frame
public import proofs.«01_k».proof.Proof.Gen.QkvDx2Ideal.Frame
public import proofs.«01_k».proof.Proof.Gen.QkvDx2RefIdeal.Run
public import proofs.«01_k».proof.Proof.Gen.QkvDx2Ideal.Value
public import proofs.«01_k».proof.Proof.FfnInEq
public import proofs.«01_k».proof.Proof.FfnInDxVal
public import proofs.«01_k».proof.Proof.FfnOutEq
public import proofs.«01_k».proof.Proof.MixerEq
public import proofs.«01_k».proof.Proof.AttentionEq
public import proofs.«01_k».proof.Proof.QkvDx0Val
public import proofs.«01_k».proof.Proof.QkvDx1Val
public import proofs.«01_k».proof.Proof.QkvDx2Val
public import proofs.«01_k».proof.Proof.Gen.NormBwd.Frame
public import proofs.«01_k».proof.Proof.Gen.ParamsFwd.Frame
public import proofs.«01_k».proof.Proof.Gen.ParamsFwdIdeal.Frame
public import proofs.«01_k».proof.Proof.Gen.ParamsFwdIdeal.Value
public import proofs.«01_k».proof.Proof.Gen.ParamsFwdRefIdeal.Run
public import proofs.«01_k».proof.Proof.Gen.ParamsBwd.Frame
public import proofs.«01_k».proof.Proof.Gen.ParamsBwdIdeal.Frame
public import proofs.«01_k».proof.Proof.Gen.ParamsBwdIdeal.Value
public import proofs.«01_k».proof.Proof.Gen.ParamsBwdRefIdeal.Run
public import proofs.«01_k».proof.Proof.Gen.NormBwdIdeal.Frame
public import proofs.«01_k».proof.Proof.Gen.NormBwdIdeal.Value
public import proofs.«01_k».proof.Proof.Gen.NormBwdRefIdeal.Run
public import proofs.«01_k».proof.Proof.Gen.GateBwd.Frame
public import proofs.«01_k».proof.Proof.Gen.GateBwdIdeal.Frame
public import proofs.«01_k».proof.Proof.Gen.GateBwdIdeal.Value
public import proofs.«01_k».proof.Proof.Gen.GateBwdRefIdeal.Run
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.GateFwd.Frame
public import proofs.«01_k».proof.Proof.Gen.GateFwdIdeal.Frame
public import proofs.«01_k».proof.Proof.Gen.GateFwdIdeal.Value
public import proofs.«01_k».proof.Proof.Gen.GateFwdRefIdeal.Run
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.ConvFwd.Frame
public import proofs.«01_k».proof.Proof.Gen.ConvFwdIdeal.Frame
public import proofs.«01_k».proof.Proof.Gen.ConvFwdIdeal.Value
public import proofs.«01_k».proof.Proof.Gen.ConvFwdRefIdeal.Run
public import proofs.«01_k».proof.Proof.Gen.ConvFwd1.Frame
public import proofs.«01_k».proof.Proof.Gen.ConvFwd1Ideal.Frame
public import proofs.«01_k».proof.Proof.Gen.ConvFwd1Ideal.Value
public import proofs.«01_k».proof.Proof.Gen.ConvFwd1RefIdeal.Run
public import proofs.«01_k».proof.Proof.NormBwdVal
public import proofs.«01_k».proof.Proof.GateBwdVal
public import proofs.«01_k».proof.Proof.NormFwdVal
public import proofs.«01_k».proof.Proof.GateFwdVal
public import proofs.«01_k».proof.Proof.LossVal
public import proofs.«01_k».proof.Proof.ConvFwdVal
public import proofs.«01_k».proof.Proof.ConvFwd1Val
public import proofs.«01_k».proof.Proof.ParamsFwdVal
public import proofs.«01_k».proof.Proof.ParamsBwdVal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.FfnIn.Gen.facts, Cert.FfnInIdeal.Gen.facts, Cert.FfnInRefIdeal.Gen.facts,
    Cert.FfnInDx.Gen.facts, Cert.FfnInDxIdeal.Gen.facts, Cert.FfnInDxRefIdeal.Gen.facts,
    Cert.FfnOut.Gen.facts, Cert.FfnOutIdeal.Gen.facts, Cert.FfnOutRefIdeal.Gen.facts,
    Cert.Mixer.Gen.facts, Cert.MixerIdeal.Gen.facts, Cert.MixerRefIdeal.Gen.facts,
    Cert.Attention.Gen.facts, Cert.AttentionIdeal.Gen.facts, Cert.AttentionRefIdeal.Gen.facts,
    Cert.QkvDx0.Gen.facts, Cert.QkvDx0Ideal.Gen.facts, Cert.QkvDx0RefIdeal.Gen.facts,
    Cert.QkvDx1.Gen.facts, Cert.QkvDx1Ideal.Gen.facts, Cert.QkvDx1RefIdeal.Gen.facts,
    Cert.QkvDx2.Gen.facts, Cert.QkvDx2Ideal.Gen.facts, Cert.QkvDx2RefIdeal.Gen.facts,
    Cert.NormBwd.Gen.facts, Cert.NormBwdIdeal.Gen.facts, Cert.NormBwdRefIdeal.Gen.facts,
    Cert.GateBwd.Gen.facts, Cert.GateBwdIdeal.Gen.facts, Cert.GateBwdRefIdeal.Gen.facts,
    Cert.NormFwd.Gen.facts, Cert.NormFwdIdeal.Gen.facts, Cert.NormFwdRefIdeal.Gen.facts,
    Cert.GateFwd.Gen.facts, Cert.GateFwdIdeal.Gen.facts, Cert.GateFwdRefIdeal.Gen.facts,
    Cert.Loss.Gen.facts, Cert.LossIdeal.Gen.facts, Cert.LossRefIdeal.Gen.facts,
    Cert.ConvFwd.Gen.facts, Cert.ConvFwdIdeal.Gen.facts, Cert.ConvFwdRefIdeal.Gen.facts,
    Cert.ConvFwd1.Gen.facts, Cert.ConvFwd1Ideal.Gen.facts, Cert.ConvFwd1RefIdeal.Gen.facts,
    Cert.ParamsFwd.Gen.facts, Cert.ParamsFwdIdeal.Gen.facts, Cert.ParamsFwdRefIdeal.Gen.facts,
    Cert.ParamsBwd.Gen.facts, Cert.ParamsBwdIdeal.Gen.facts, Cert.ParamsBwdRefIdeal.Gen.facts,
    S5.facts_finite,
    fun m ρ _ => Cert.Kernel.Gen.frame m ρ, fun m ρ _ => Cert.KernelIdeal.Gen.frame m ρ, fun m ρ _ => Cert.KernelIdeal.Gen.frame m ρ,
    Cert.ReferenceIdeal.frame_reference, fun m ρ _ => Cert.ReferenceIdeal.frame_reference m ρ trivial,
    fun m ρ _ => Cert.FfnIn.Gen.frame m ρ, fun m ρ _ => Cert.FfnInIdeal.Gen.frame m ρ, Cert.FfnInIdeal.Val.frame_reference,
    fun m ρ _ => Cert.FfnInDx.Gen.frame m ρ, fun m ρ _ => Cert.FfnInDxIdeal.Gen.frame m ρ, Cert.FfnInDxIdeal.Val.frame_reference,
    fun m ρ _ => Cert.FfnOut.Gen.frame m ρ, fun m ρ _ => Cert.FfnOutIdeal.Gen.frame m ρ, Cert.FfnOutIdeal.Val.frame_reference,
    fun m ρ _ => Cert.Mixer.Gen.frame m ρ, fun m ρ _ => Cert.MixerIdeal.Gen.frame m ρ, Cert.MixerIdeal.Val.frame_reference,
    fun m ρ _ => Cert.Attention.Gen.frame m ρ, fun m ρ _ => Cert.AttentionIdeal.Gen.frame m ρ, Cert.AttentionIdeal.Val.frame_reference,
    fun m ρ _ => Cert.QkvDx0.Gen.frame m ρ, fun m ρ _ => Cert.QkvDx0Ideal.Gen.frame m ρ, Cert.QkvDx0Ideal.Val.frame_reference,
    fun m ρ _ => Cert.QkvDx1.Gen.frame m ρ, fun m ρ _ => Cert.QkvDx1Ideal.Gen.frame m ρ, Cert.QkvDx1Ideal.Val.frame_reference,
    fun m ρ _ => Cert.QkvDx2.Gen.frame m ρ, fun m ρ _ => Cert.QkvDx2Ideal.Gen.frame m ρ, Cert.QkvDx2Ideal.Val.frame_reference,
    fun m ρ _ => Cert.NormBwd.Gen.frame m ρ, fun m ρ _ => Cert.NormBwdIdeal.Gen.frame m ρ, Cert.NormBwdIdeal.Val.frame_reference,
    fun m ρ _ => Cert.GateBwd.Gen.frame m ρ, fun m ρ _ => Cert.GateBwdIdeal.Gen.frame m ρ, Cert.GateBwdIdeal.Val.frame_reference,
    fun m ρ _ => Cert.NormFwd.Gen.frame m ρ, fun m ρ _ => Cert.NormFwdIdeal.Gen.frame m ρ, Cert.NormFwdIdeal.Val.frame_reference,
    fun m ρ _ => Cert.GateFwd.Gen.frame m ρ, fun m ρ _ => Cert.GateFwdIdeal.Gen.frame m ρ, Cert.GateFwdIdeal.Val.frame_reference,
    fun m ρ _ => Cert.Loss.Gen.frame m ρ, fun m ρ _ => Cert.LossIdeal.Gen.frame m ρ, Cert.LossIdeal.Val.frame_reference,
    fun m ρ _ => Cert.ConvFwd.Gen.frame m ρ, fun m ρ _ => Cert.ConvFwdIdeal.Gen.frame m ρ, Cert.ConvFwdIdeal.Val.frame_reference,
    fun m ρ _ => Cert.ConvFwd1.Gen.frame m ρ, fun m ρ _ => Cert.ConvFwd1Ideal.Gen.frame m ρ, Cert.ConvFwd1Ideal.Val.frame_reference,
    fun m ρ _ => Cert.ParamsFwd.Gen.frame m ρ, fun m ρ _ => Cert.ParamsFwdIdeal.Gen.frame m ρ, Cert.ParamsFwdIdeal.Val.frame_reference,
    fun m ρ _ => Cert.ParamsBwd.Gen.frame m ρ, fun m ρ _ => Cert.ParamsBwdIdeal.Gen.frame m ρ, Cert.ParamsBwdIdeal.Val.frame_reference,
    trivial, Cert.agree (hp := S5.facts_finite),
    trivial, Cert.FfnInIdeal.Val.agree,
    trivial, Cert.FfnInDxIdeal.Val.agree,
    trivial, Cert.FfnOutIdeal.Val.agree,
    trivial, Cert.MixerIdeal.Val.agree,
    trivial, Cert.AttentionIdeal.Val.agree,
    trivial, Cert.QkvDx0Ideal.Val.agree,
    trivial, Cert.QkvDx1Ideal.Val.agree,
    trivial, Cert.QkvDx2Ideal.Val.agree,
    trivial, Cert.NormBwdIdeal.Val.agree,
    trivial, Cert.GateBwdIdeal.Val.agree,
    trivial, Cert.NormFwdIdeal.Val.agree,
    trivial, Cert.GateFwdIdeal.Val.agree,
    trivial, Cert.LossIdeal.Val.agree,
    trivial, Cert.ConvFwdIdeal.Val.agree,
    trivial, Cert.ConvFwd1Ideal.Val.agree,
    trivial, Cert.ParamsFwdIdeal.Val.agree,
    trivial, Cert.ParamsBwdIdeal.Val.agree⟩

end Cert.Proof

end
